-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_mla [hPre_finite_mla : Cert.Pre_finite_mla.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_mla.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_mla [hPre_finite_mla : Cert.Pre_finite_mla.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_mla.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite_o [hPre_finite_o : Cert.Pre_finite_o.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite_o.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite_o [hPre_finite_o : Cert.Pre_finite_o.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite_o.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2))) = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite_nib [hPre_finite_nib : Cert.Pre_finite_nib.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite_nib.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3))) = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite_nib [hPre_finite_nib : Cert.Pre_finite_nib.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite_nib.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3))) = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_finite_mnb [hPre_finite_mnb : Cert.Pre_finite_mnb.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_finite_mnb.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg6)) (m ((c.tc : Thread Cert.Kernel11Ideal.nD Cert.Kernel11Ideal.τ).loc Cert.Kernel11Ideal.main_arg7))) = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_finite_mnb [hPre_finite_mnb : Cert.Pre_finite_mnb.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_finite_mnb.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5)) (m ((c.tc : Thread Cert.Reference11Ideal.nD Cert.Reference11Ideal.τ).loc Cert.Reference11Ideal.main_arg6)) (m ((c.tc : Thread Cert.Reference11Ideal.nD Cert.Reference11Ideal.τ).loc Cert.Reference11Ideal.main_arg7))) = (fun _ => 1#1)

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_finite_loss [hPre_finite_loss : Cert.Pre_finite_loss.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_finite_loss.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3))) = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_finite_loss [hPre_finite_loss : Cert.Pre_finite_loss.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_finite_loss.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3))) = (fun _ => 1#1)

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Kernel13Ideal_finite_rmb [hPre_finite_rmb : Cert.Pre_finite_rmb.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_finite_rmb.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)) (m ((c.tc : Thread Cert.Kernel13Ideal.nD Cert.Kernel13Ideal.τ).loc Cert.Kernel13Ideal.main_arg5))) = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_finite_rmb [hPre_finite_rmb : Cert.Pre_finite_rmb.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_finite_rmb.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4)) (m ((c.tc : Thread Cert.Reference13Ideal.nD Cert.Reference13Ideal.τ).loc Cert.Reference13Ideal.main_arg5))) = (fun _ => 1#1)

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Kernel14Ideal_finite_qkv [hPre_finite_qkv : Cert.Pre_finite_qkv.Facts] (m : (ℓ : Loc Cert.Kernel14Ideal.nD Cert.Kernel14Ideal.τ Cert.Kernel14Ideal.sig) → Buf (Elt Ideal) ℓ) : Prop :=
  ∀ c : Dev Cert.Kernel14Ideal.nD,
    (Cert.Pre_finite_qkv.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2))) = (fun _ => 1#1)

def Pre_Reference14Ideal (m : (ℓ : Loc Cert.Reference14Ideal.nD Cert.Reference14Ideal.τ Cert.Reference14Ideal.sig) → Buf (Elt Ideal) ℓ) : Prop :=
  True

def Pre_Reference14Ideal_finite_qkv [hPre_finite_qkv : Cert.Pre_finite_qkv.Facts] (m : (ℓ : Loc Cert.Reference14Ideal.nD Cert.Reference14Ideal.τ Cert.Reference14Ideal.sig) → Buf (Elt Ideal) ℓ) : Prop :=
  ∀ c : Dev Cert.Reference14Ideal.nD,
    (Cert.Pre_finite_qkv.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2))) = (fun _ => 1#1)

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Kernel22Ideal_finite_f [hPre_finite_f : Cert.Pre_finite_f.Facts] (m : (ℓ : Loc Cert.Kernel22Ideal.nD Cert.Kernel22Ideal.τ Cert.Kernel22Ideal.sig) → Buf (Elt Ideal) ℓ) : Prop :=
  ∀ c : Dev Cert.Kernel22Ideal.nD,
    (Cert.Pre_finite_f.fn (F := Ideal) (m ((c.tc : Thread Cert.Kernel22Ideal.nD Cert.Kernel22Ideal.τ).loc Cert.Kernel22Ideal.main_arg0)) (m ((c.tc : Thread Cert.Kernel22Ideal.nD Cert.Kernel22Ideal.τ).loc Cert.Kernel22Ideal.main_arg1)) (m ((c.tc : Thread Cert.Kernel22Ideal.nD Cert.Kernel22Ideal.τ).loc Cert.Kernel22Ideal.main_arg2)) (m ((c.tc : Thread Cert.Kernel22Ideal.nD Cert.Kernel22Ideal.τ).loc Cert.Kernel22Ideal.main_arg3)) (m ((c.tc : Thread Cert.Kernel22Ideal.nD Cert.Kernel22Ideal.τ).loc Cert.Kernel22Ideal.main_arg4)) (m ((c.tc : Thread Cert.Kernel22Ideal.nD Cert.Kernel22Ideal.τ).loc Cert.Kernel22Ideal.main_arg5))) = (fun _ => 1#1)

def Pre_Reference22Ideal (m : (ℓ : Loc Cert.Reference22Ideal.nD Cert.Reference22Ideal.τ Cert.Reference22Ideal.sig) → Buf (Elt Ideal) ℓ) : Prop :=
  True

def Pre_Reference22Ideal_finite_f [hPre_finite_f : Cert.Pre_finite_f.Facts] (m : (ℓ : Loc Cert.Reference22Ideal.nD Cert.Reference22Ideal.τ Cert.Reference22Ideal.sig) → Buf (Elt Ideal) ℓ) : Prop :=
  ∀ c : Dev Cert.Reference22Ideal.nD,
    (Cert.Pre_finite_f.fn (F := Ideal) (m ((c.tc : Thread Cert.Reference22Ideal.nD Cert.Reference22Ideal.τ).loc Cert.Reference22Ideal.main_arg0)) (m ((c.tc : Thread Cert.Reference22Ideal.nD Cert.Reference22Ideal.τ).loc Cert.Reference22Ideal.main_arg1)) (m ((c.tc : Thread Cert.Reference22Ideal.nD Cert.Reference22Ideal.τ).loc Cert.Reference22Ideal.main_arg2)) (m ((c.tc : Thread Cert.Reference22Ideal.nD Cert.Reference22Ideal.τ).loc Cert.Reference22Ideal.main_arg3)) (m ((c.tc : Thread Cert.Reference22Ideal.nD Cert.Reference22Ideal.τ).loc Cert.Reference22Ideal.main_arg4)) (m ((c.tc : Thread Cert.Reference22Ideal.nD Cert.Reference22Ideal.τ).loc Cert.Reference22Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Kernel3Ideal_pre_finite_mla [hKernel3Ideal : Cert.Kernel3Ideal.Facts] [hPre_finite_mla : Cert.Pre_finite_mla.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_mla m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_finite_mla [hReference3Ideal : Cert.Reference3Ideal.Facts] [hPre_finite_mla : Cert.Pre_finite_mla.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_mla m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Kernel9Ideal_pre_finite_o [hKernel9Ideal : Cert.Kernel9Ideal.Facts] [hPre_finite_o : Cert.Pre_finite_o.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite_o m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Reference9Ideal_pre_finite_o [hReference9Ideal : Cert.Reference9Ideal.Facts] [hPre_finite_o : Cert.Pre_finite_o.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite_o m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Kernel10Ideal_pre_finite_nib [hKernel10Ideal : Cert.Kernel10Ideal.Facts] [hPre_finite_nib : Cert.Pre_finite_nib.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite_nib m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Reference10Ideal_pre_finite_nib [hReference10Ideal : Cert.Reference10Ideal.Facts] [hPre_finite_nib : Cert.Pre_finite_nib.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite_nib m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7))
      ∧ r.2.sem = fun _ => 0)

def quiescent_Kernel11Ideal_pre_finite_mnb [hKernel11Ideal : Cert.Kernel11Ideal.Facts] [hPre_finite_mnb : Cert.Pre_finite_mnb.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_finite_mnb m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7))
      ∧ r.2.sem = fun _ => 0)

def quiescent_Reference11Ideal_pre_finite_mnb [hReference11Ideal : Cert.Reference11Ideal.Facts] [hPre_finite_mnb : Cert.Pre_finite_mnb.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_finite_mnb m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Kernel12Ideal_pre_finite_loss [hKernel12Ideal : Cert.Kernel12Ideal.Facts] [hPre_finite_loss : Cert.Pre_finite_loss.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_finite_loss m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Reference12Ideal_pre_finite_loss [hReference12Ideal : Cert.Reference12Ideal.Facts] [hPre_finite_loss : Cert.Pre_finite_loss.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_finite_loss m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ r.2.sem = fun _ => 0)

def quiescent_Kernel13Ideal_pre_finite_rmb [hKernel13Ideal : Cert.Kernel13Ideal.Facts] [hPre_finite_rmb : Cert.Pre_finite_rmb.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal_finite_rmb m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5))
      ∧ r.2.sem = fun _ => 0)

def quiescent_Reference13Ideal_pre_finite_rmb [hReference13Ideal : Cert.Reference13Ideal.Facts] [hPre_finite_rmb : Cert.Pre_finite_rmb.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_finite_rmb m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Kernel14Ideal_pre_finite_qkv [hKernel14Ideal : Cert.Kernel14Ideal.Facts] [hPre_finite_qkv : Cert.Pre_finite_qkv.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal_finite_qkv m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Reference14Ideal_pre_finite_qkv [hReference14Ideal : Cert.Reference14Ideal.Facts] [hPre_finite_qkv : Cert.Pre_finite_qkv.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal_finite_qkv m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4)
      ∧ r.2.mem ((c.tc : Thread Cert.Kernel20.nD Cert.Kernel20.τ).loc Cert.Kernel20.main_arg5) = m ((c.tc : Thread Cert.Kernel20.nD Cert.Kernel20.τ).loc Cert.Kernel20.main_arg5)
      ∧ r.2.mem ((c.tc : Thread Cert.Kernel20.nD Cert.Kernel20.τ).loc Cert.Kernel20.main_arg6) = m ((c.tc : Thread Cert.Kernel20.nD Cert.Kernel20.τ).loc Cert.Kernel20.main_arg6)
      ∧ r.2.mem ((c.tc : Thread Cert.Kernel20.nD Cert.Kernel20.τ).loc Cert.Kernel20.main_arg7) = m ((c.tc : Thread Cert.Kernel20.nD Cert.Kernel20.τ).loc Cert.Kernel20.main_arg7))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
      ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5)
      ∧ r.2.mem ((c.tc : Thread Cert.Kernel20Ideal.nD Cert.Kernel20Ideal.τ).loc Cert.Kernel20Ideal.main_arg6) = m ((c.tc : Thread Cert.Kernel20Ideal.nD Cert.Kernel20Ideal.τ).loc Cert.Kernel20Ideal.main_arg6)
      ∧ r.2.mem ((c.tc : Thread Cert.Kernel20Ideal.nD Cert.Kernel20Ideal.τ).loc Cert.Kernel20Ideal.main_arg7) = m ((c.tc : Thread Cert.Kernel20Ideal.nD Cert.Kernel20Ideal.τ).loc Cert.Kernel20Ideal.main_arg7))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4)
      ∧ r.2.mem ((c.tc : Thread Cert.Reference20Ideal.nD Cert.Reference20Ideal.τ).loc Cert.Reference20Ideal.main_arg5) = m ((c.tc : Thread Cert.Reference20Ideal.nD Cert.Reference20Ideal.τ).loc Cert.Reference20Ideal.main_arg5)
      ∧ r.2.mem ((c.tc : Thread Cert.Reference20Ideal.nD Cert.Reference20Ideal.τ).loc Cert.Reference20Ideal.main_arg6) = m ((c.tc : Thread Cert.Reference20Ideal.nD Cert.Reference20Ideal.τ).loc Cert.Reference20Ideal.main_arg6)
      ∧ r.2.mem ((c.tc : Thread Cert.Reference20Ideal.nD Cert.Reference20Ideal.τ).loc Cert.Reference20Ideal.main_arg7) = m ((c.tc : Thread Cert.Reference20Ideal.nD Cert.Reference20Ideal.τ).loc Cert.Reference20Ideal.main_arg7))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4)
      ∧ r.2.mem ((c.tc : Thread Cert.Kernel21.nD Cert.Kernel21.τ).loc Cert.Kernel21.main_arg5) = m ((c.tc : Thread Cert.Kernel21.nD Cert.Kernel21.τ).loc Cert.Kernel21.main_arg5)
      ∧ r.2.mem ((c.tc : Thread Cert.Kernel21.nD Cert.Kernel21.τ).loc Cert.Kernel21.main_arg6) = m ((c.tc : Thread Cert.Kernel21.nD Cert.Kernel21.τ).loc Cert.Kernel21.main_arg6))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
      ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5)
      ∧ r.2.mem ((c.tc : Thread Cert.Kernel21Ideal.nD Cert.Kernel21Ideal.τ).loc Cert.Kernel21Ideal.main_arg6) = m ((c.tc : Thread Cert.Kernel21Ideal.nD Cert.Kernel21Ideal.τ).loc Cert.Kernel21Ideal.main_arg6))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4)
      ∧ r.2.mem ((c.tc : Thread Cert.Reference21Ideal.nD Cert.Reference21Ideal.τ).loc Cert.Reference21Ideal.main_arg5) = m ((c.tc : Thread Cert.Reference21Ideal.nD Cert.Reference21Ideal.τ).loc Cert.Reference21Ideal.main_arg5)
      ∧ r.2.mem ((c.tc : Thread Cert.Reference21Ideal.nD Cert.Reference21Ideal.τ).loc Cert.Reference21Ideal.main_arg6) = m ((c.tc : Thread Cert.Reference21Ideal.nD Cert.Reference21Ideal.τ).loc Cert.Reference21Ideal.main_arg6))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4)
      ∧ r.2.mem ((c.tc : Thread Cert.Kernel22.nD Cert.Kernel22.τ).loc Cert.Kernel22.main_arg5) = m ((c.tc : Thread Cert.Kernel22.nD Cert.Kernel22.τ).loc Cert.Kernel22.main_arg5))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
      ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5))
      ∧ r.2.sem = fun _ => 0)

def quiescent_Kernel22Ideal_pre_finite_f [hKernel22Ideal : Cert.Kernel22Ideal.Facts] [hPre_finite_f : Cert.Pre_finite_f.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal_finite_f m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
      ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4)
      ∧ r.2.mem ((c.tc : Thread Cert.Reference22Ideal.nD Cert.Reference22Ideal.τ).loc Cert.Reference22Ideal.main_arg5) = m ((c.tc : Thread Cert.Reference22Ideal.nD Cert.Reference22Ideal.τ).loc Cert.Reference22Ideal.main_arg5))
      ∧ r.2.sem = fun _ => 0)

def quiescent_Reference22Ideal_pre_finite_f [hReference22Ideal : Cert.Reference22Ideal.Facts] [hPre_finite_f : Cert.Pre_finite_f.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal_finite_f m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4)
      ∧ r.2.mem ((c.tc : Thread Cert.Reference22Ideal.nD Cert.Reference22Ideal.τ).loc Cert.Reference22Ideal.main_arg5) = m ((c.tc : Thread Cert.Reference22Ideal.nD Cert.Reference22Ideal.τ).loc Cert.Reference22Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  IdealRules.named_const.Statement Cert.Kernel2Ideal.κ "mask" .f32 0xF149F2CA#32 ⊥
  ∧ IdealRules.named_const.Statement Cert.Kernel2Ideal.κ "c" .f32 0x3E38AA3B#32 (((1 / 8) * (Real.log 2)⁻¹ : ℝ) : EReal)

def algebraic_Kernel2Ideal_Reference2Ideal_on_gradient_lanes_pre_finite [hKernel2Ideal : Cert.Kernel2Ideal.Facts] [hReference2Ideal : Cert.Reference2Ideal.Facts] [hPre_finite : Cert.Pre_finite.Facts] [hOn_gradient_lanes : Cert.On_gradient_lanes.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v144_0)) (v1 : (c : Dev Cert.Kernel2Ideal.nD) → Buf (Elt Ideal) ((c.tc : Thread Cert.Kernel2Ideal.nD Cert.Kernel2Ideal.τ).loc Cert.Kernel2Ideal.main_v144_1)) (v2 : (c : Dev Cert.Kernel2Ideal.nD) → Buf (Elt Ideal) ((c.tc : Thread Cert.Kernel2Ideal.nD Cert.Kernel2Ideal.τ).loc Cert.Kernel2Ideal.main_v144_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          (∀ i : (⟨2, ![8192, 1024]⟩ : Shape).Idx, (Cert.On_gradient_lanes.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 i = 1#1 → r.2.mem ((c.tc : Thread Cert.Kernel2Ideal.nD Cert.Kernel2Ideal.τ).loc Cert.Kernel2Ideal.main_v144_0) i = v0 c i)
          ∧ (∀ i : (⟨2, ![8192, 1024]⟩ : Shape).Idx, (Cert.On_gradient_lanes.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.1 i = 1#1 → r.2.mem ((c.tc : Thread Cert.Kernel2Ideal.nD Cert.Kernel2Ideal.τ).loc Cert.Kernel2Ideal.main_v144_1) i = v1 c i)
          ∧ (∀ i : (⟨2, ![8192, 1024]⟩ : Shape).Idx, (Cert.On_gradient_lanes.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2 i = 1#1 → r.2.mem ((c.tc : Thread Cert.Kernel2Ideal.nD Cert.Kernel2Ideal.τ).loc Cert.Kernel2Ideal.main_v144_2) i = v2 c i)
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          (∀ i : (⟨2, ![8192, 1024]⟩ : Shape).Idx, (Cert.On_gradient_lanes.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 i = 1#1 → r.2.mem ((c.tc : Thread Cert.Reference2Ideal.nD Cert.Reference2Ideal.τ).loc Cert.Reference2Ideal.main_v98) i = v0 c i)
          ∧ (∀ i : (⟨2, ![8192, 1024]⟩ : Shape).Idx, (Cert.On_gradient_lanes.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.1 i = 1#1 → r.2.mem ((c.tc : Thread Cert.Reference2Ideal.nD Cert.Reference2Ideal.τ).loc Cert.Reference2Ideal.main_v102) i = v1 c i)
          ∧ (∀ i : (⟨2, ![8192, 1024]⟩ : Shape).Idx, (Cert.On_gradient_lanes.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2 i = 1#1 → r.2.mem ((c.tc : Thread Cert.Reference2Ideal.nD Cert.Reference2Ideal.τ).loc Cert.Reference2Ideal.main_v107) i = v2 c i)
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  IdealRules.named_const.Statement Cert.Kernel3Ideal.κ "mask" .f32 0xF149F2CA#32 ⊥
  ∧ IdealRules.named_const.Statement Cert.Kernel3Ideal.κ "c" .f32 0x3E16C740#32 (((3424635 / 33554432) * (Real.log 2)⁻¹ : ℝ) : EReal)

def algebraic_Kernel3Ideal_Reference3Ideal_on_feature_lanes_pre_finite_mla [hKernel3Ideal : Cert.Kernel3Ideal.Facts] [hReference3Ideal : Cert.Reference3Ideal.Facts] [hPre_finite_mla : Cert.Pre_finite_mla.Facts] [hOn_feature_lanes : Cert.On_feature_lanes.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_mla m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v82_0)) (v1 : (c : Dev Cert.Kernel3Ideal.nD) → Buf (Elt Ideal) ((c.tc : Thread Cert.Kernel3Ideal.nD Cert.Kernel3Ideal.τ).loc Cert.Kernel3Ideal.main_v82_1)) (v2 : (c : Dev Cert.Kernel3Ideal.nD) → Buf (Elt Ideal) ((c.tc : Thread Cert.Kernel3Ideal.nD Cert.Kernel3Ideal.τ).loc Cert.Kernel3Ideal.main_v82_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          (∀ i : (⟨2, ![8192, 1024]⟩ : Shape).Idx, (Cert.On_feature_lanes.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).1 i = 1#1 → r.2.mem ((c.tc : Thread Cert.Kernel3Ideal.nD Cert.Kernel3Ideal.τ).loc Cert.Kernel3Ideal.main_v82_0) i = v0 c i)
          ∧ (∀ i : (⟨2, ![8192, 1024]⟩ : Shape).Idx, (Cert.On_feature_lanes.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.1 i = 1#1 → r.2.mem ((c.tc : Thread Cert.Kernel3Ideal.nD Cert.Kernel3Ideal.τ).loc Cert.Kernel3Ideal.main_v82_1) i = v1 c i)
          ∧ (∀ i : (⟨2, ![8192, 1024]⟩ : Shape).Idx, (Cert.On_feature_lanes.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.2 i = 1#1 → r.2.mem ((c.tc : Thread Cert.Kernel3Ideal.nD Cert.Kernel3Ideal.τ).loc Cert.Kernel3Ideal.main_v82_2) i = v2 c i)
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          (∀ i : (⟨2, ![8192, 1024]⟩ : Shape).Idx, (Cert.On_feature_lanes.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).1 i = 1#1 → r.2.mem ((c.tc : Thread Cert.Reference3Ideal.nD Cert.Reference3Ideal.τ).loc Cert.Reference3Ideal.main_v61) i = v0 c i)
          ∧ (∀ i : (⟨2, ![8192, 1024]⟩ : Shape).Idx, (Cert.On_feature_lanes.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.1 i = 1#1 → r.2.mem ((c.tc : Thread Cert.Reference3Ideal.nD Cert.Reference3Ideal.τ).loc Cert.Reference3Ideal.main_v65) i = v1 c i)
          ∧ (∀ i : (⟨2, ![8192, 1024]⟩ : Shape).Idx, (Cert.On_feature_lanes.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.2 i = 1#1 → r.2.mem ((c.tc : Thread Cert.Reference3Ideal.nD Cert.Reference3Ideal.τ).loc Cert.Reference3Ideal.main_v68) i = v2 c i)
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v12) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v6_0)) (v1 : (c : Dev Cert.Kernel5Ideal.nD) → Buf (Elt Ideal) ((c.tc : Thread Cert.Kernel5Ideal.nD Cert.Kernel5Ideal.τ).loc Cert.Kernel5Ideal.main_v6_1)) (v2 : (c : Dev Cert.Kernel5Ideal.nD) → Buf (Elt Ideal) ((c.tc : Thread Cert.Kernel5Ideal.nD Cert.Kernel5Ideal.τ).loc Cert.Kernel5Ideal.main_v6_2)) (v3 : (c : Dev Cert.Kernel5Ideal.nD) → Buf (Elt Ideal) ((c.tc : Thread Cert.Kernel5Ideal.nD Cert.Kernel5Ideal.τ).loc Cert.Kernel5Ideal.main_v6_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6_0) = v0 c
          ∧ r.2.mem ((c.tc : Thread Cert.Kernel5Ideal.nD Cert.Kernel5Ideal.τ).loc Cert.Kernel5Ideal.main_v6_1) = v1 c
          ∧ r.2.mem ((c.tc : Thread Cert.Kernel5Ideal.nD Cert.Kernel5Ideal.τ).loc Cert.Kernel5Ideal.main_v6_2) = v2 c
          ∧ r.2.mem ((c.tc : Thread Cert.Kernel5Ideal.nD Cert.Kernel5Ideal.τ).loc Cert.Kernel5Ideal.main_v6_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v29) = v0 c
          ∧ r.2.mem ((c.tc : Thread Cert.Reference5Ideal.nD Cert.Reference5Ideal.τ).loc Cert.Reference5Ideal.main_v30) = v1 c
          ∧ r.2.mem ((c.tc : Thread Cert.Reference5Ideal.nD Cert.Reference5Ideal.τ).loc Cert.Reference5Ideal.main_v31) = v2 c
          ∧ r.2.mem ((c.tc : Thread Cert.Reference5Ideal.nD Cert.Reference5Ideal.τ).loc Cert.Reference5Ideal.main_v32) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v26)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v26) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v64) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v1_0)) (v1 : (c : Dev Cert.Kernel7Ideal.nD) → Buf (Elt Ideal) ((c.tc : Thread Cert.Kernel7Ideal.nD Cert.Kernel7Ideal.τ).loc Cert.Kernel7Ideal.main_v1_1)) (v2 : (c : Dev Cert.Kernel7Ideal.nD) → Buf (Elt Ideal) ((c.tc : Thread Cert.Kernel7Ideal.nD Cert.Kernel7Ideal.τ).loc Cert.Kernel7Ideal.main_v1_2)) (v3 : (c : Dev Cert.Kernel7Ideal.nD) → Buf (Elt Ideal) ((c.tc : Thread Cert.Kernel7Ideal.nD Cert.Kernel7Ideal.τ).loc Cert.Kernel7Ideal.main_v1_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1_0) = v0 c
          ∧ r.2.mem ((c.tc : Thread Cert.Kernel7Ideal.nD Cert.Kernel7Ideal.τ).loc Cert.Kernel7Ideal.main_v1_1) = v1 c
          ∧ r.2.mem ((c.tc : Thread Cert.Kernel7Ideal.nD Cert.Kernel7Ideal.τ).loc Cert.Kernel7Ideal.main_v1_2) = v2 c
          ∧ r.2.mem ((c.tc : Thread Cert.Kernel7Ideal.nD Cert.Kernel7Ideal.τ).loc Cert.Kernel7Ideal.main_v1_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v39) = v0 c
          ∧ r.2.mem ((c.tc : Thread Cert.Reference7Ideal.nD Cert.Reference7Ideal.τ).loc Cert.Reference7Ideal.main_v40) = v1 c
          ∧ r.2.mem ((c.tc : Thread Cert.Reference7Ideal.nD Cert.Reference7Ideal.τ).loc Cert.Reference7Ideal.main_v41) = v2 c
          ∧ r.2.mem ((c.tc : Thread Cert.Reference7Ideal.nD Cert.Reference7Ideal.τ).loc Cert.Reference7Ideal.main_v42) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def preserves_Kernel8_Kernel8Ideal : Prop :=
  True

def algebraic_Kernel8Ideal_Reference8Ideal_on_shared_lanes [hKernel8Ideal : Cert.Kernel8Ideal.Facts] [hReference8Ideal : Cert.Reference8Ideal.Facts] [hOn_shared_lanes : Cert.On_shared_lanes.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v30_0)) (v1 : (c : Dev Cert.Kernel8Ideal.nD) → Buf (Elt Ideal) ((c.tc : Thread Cert.Kernel8Ideal.nD Cert.Kernel8Ideal.τ).loc Cert.Kernel8Ideal.main_v30_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          (∀ i : (⟨2, ![8192, 2048]⟩ : Shape).Idx, (Cert.On_shared_lanes.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5))).1 i = 1#1 → r.2.mem ((c.tc : Thread Cert.Kernel8Ideal.nD Cert.Kernel8Ideal.τ).loc Cert.Kernel8Ideal.main_v30_0) i = v0 c i)
          ∧ (∀ i : (⟨2, ![8192, 128]⟩ : Shape).Idx, (Cert.On_shared_lanes.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5))).2 i = 1#1 → r.2.mem ((c.tc : Thread Cert.Kernel8Ideal.nD Cert.Kernel8Ideal.τ).loc Cert.Kernel8Ideal.main_v30_1) i = v1 c i)
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          (∀ i : (⟨2, ![8192, 2048]⟩ : Shape).Idx, (Cert.On_shared_lanes.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5))).1 i = 1#1 → r.2.mem ((c.tc : Thread Cert.Reference8Ideal.nD Cert.Reference8Ideal.τ).loc Cert.Reference8Ideal.main_v62) i = v0 c i)
          ∧ (∀ i : (⟨2, ![8192, 128]⟩ : Shape).Idx, (Cert.On_shared_lanes.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5))).2 i = 1#1 → r.2.mem ((c.tc : Thread Cert.Reference8Ideal.nD Cert.Reference8Ideal.τ).loc Cert.Reference8Ideal.main_v64) i = v1 c i)
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal_pre_finite_o [hKernel9Ideal : Cert.Kernel9Ideal.Facts] [hReference9Ideal : Cert.Reference9Ideal.Facts] [hPre_finite_o : Cert.Pre_finite_o.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite_o m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v11)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v11) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v12) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal_pre_finite_nib [hKernel10Ideal : Cert.Kernel10Ideal.Facts] [hReference10Ideal : Cert.Reference10Ideal.Facts] [hPre_finite_nib : Cert.Pre_finite_nib.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite_nib m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v34) = v0 c
          ∧ r.2.mem ((c.tc : Thread Cert.Reference10Ideal.nD Cert.Reference10Ideal.τ).loc Cert.Reference10Ideal.main_v17) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal_pre_finite_mnb [hKernel11Ideal : Cert.Kernel11Ideal.Facts] [hReference11Ideal : Cert.Reference11Ideal.Facts] [hPre_finite_mnb : Cert.Pre_finite_mnb.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_finite_mnb m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)) →
    ∃ (v0 : (c : Dev Cert.Kernel11Ideal.nD) → Buf (Elt Ideal) ((c.tc : Thread Cert.Kernel11Ideal.nD Cert.Kernel11Ideal.τ).loc Cert.Kernel11Ideal.main_v3_0)) (v1 : (c : Dev Cert.Kernel11Ideal.nD) → Buf (Elt Ideal) ((c.tc : Thread Cert.Kernel11Ideal.nD Cert.Kernel11Ideal.τ).loc Cert.Kernel11Ideal.main_v3_1)) (v2 : (c : Dev Cert.Kernel11Ideal.nD) → Buf (Elt Ideal) ((c.tc : Thread Cert.Kernel11Ideal.nD Cert.Kernel11Ideal.τ).loc Cert.Kernel11Ideal.main_v3_2)) (v3 : (c : Dev Cert.Kernel11Ideal.nD) → Buf (Elt Ideal) ((c.tc : Thread Cert.Kernel11Ideal.nD Cert.Kernel11Ideal.τ).loc Cert.Kernel11Ideal.main_v3_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3_0) = v0 c
          ∧ r.2.mem ((c.tc : Thread Cert.Kernel11Ideal.nD Cert.Kernel11Ideal.τ).loc Cert.Kernel11Ideal.main_v3_1) = v1 c
          ∧ r.2.mem ((c.tc : Thread Cert.Kernel11Ideal.nD Cert.Kernel11Ideal.τ).loc Cert.Kernel11Ideal.main_v3_2) = v2 c
          ∧ r.2.mem ((c.tc : Thread Cert.Kernel11Ideal.nD Cert.Kernel11Ideal.τ).loc Cert.Kernel11Ideal.main_v3_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v68) = v0 c
          ∧ r.2.mem ((c.tc : Thread Cert.Reference11Ideal.nD Cert.Reference11Ideal.τ).loc Cert.Reference11Ideal.main_v69) = v1 c
          ∧ r.2.mem ((c.tc : Thread Cert.Reference11Ideal.nD Cert.Reference11Ideal.τ).loc Cert.Reference11Ideal.main_v17) = v2 c
          ∧ r.2.mem ((c.tc : Thread Cert.Reference11Ideal.nD Cert.Reference11Ideal.τ).loc Cert.Reference11Ideal.main_v51) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7))

def preserves_Kernel12_Kernel12Ideal : Prop :=
  True

def algebraic_Kernel12Ideal_Reference12Ideal_pre_finite_loss [hKernel12Ideal : Cert.Kernel12Ideal.Facts] [hReference12Ideal : Cert.Reference12Ideal.Facts] [hPre_finite_loss : Cert.Pre_finite_loss.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_finite_loss m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v3)) (v1 : (c : Dev Cert.Kernel12Ideal.nD) → Buf (Elt Ideal) ((c.tc : Thread Cert.Kernel12Ideal.nD Cert.Kernel12Ideal.τ).loc Cert.Kernel12Ideal.main_v0_0)) (v2 : (c : Dev Cert.Kernel12Ideal.nD) → Buf (Elt Ideal) ((c.tc : Thread Cert.Kernel12Ideal.nD Cert.Kernel12Ideal.τ).loc Cert.Kernel12Ideal.main_v0_1)) (v3 : (c : Dev Cert.Kernel12Ideal.nD) → Buf (Elt Ideal) ((c.tc : Thread Cert.Kernel12Ideal.nD Cert.Kernel12Ideal.τ).loc Cert.Kernel12Ideal.main_v0_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v3) = v0 c
          ∧ r.2.mem ((c.tc : Thread Cert.Kernel12Ideal.nD Cert.Kernel12Ideal.τ).loc Cert.Kernel12Ideal.main_v0_0) = v1 c
          ∧ r.2.mem ((c.tc : Thread Cert.Kernel12Ideal.nD Cert.Kernel12Ideal.τ).loc Cert.Kernel12Ideal.main_v0_1) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v24) = v0 c
          ∧ r.2.mem ((c.tc : Thread Cert.Reference12Ideal.nD Cert.Reference12Ideal.τ).loc Cert.Reference12Ideal.main_v30) = v1 c
          ∧ r.2.mem ((c.tc : Thread Cert.Reference12Ideal.nD Cert.Reference12Ideal.τ).loc Cert.Reference12Ideal.main_v50) = v2 c
          ∧ r.2.mem ((c.tc : Thread Cert.Reference12Ideal.nD Cert.Reference12Ideal.τ).loc Cert.Reference12Ideal.main_v33) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal_pre_finite_rmb [hKernel13Ideal : Cert.Kernel13Ideal.Facts] [hReference13Ideal : Cert.Reference13Ideal.Facts] [hPre_finite_rmb : Cert.Pre_finite_rmb.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal_finite_rmb m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)) →
    ∃ (v0 : (c : Dev Cert.Kernel13Ideal.nD) → Buf (Elt Ideal) ((c.tc : Thread Cert.Kernel13Ideal.nD Cert.Kernel13Ideal.τ).loc Cert.Kernel13Ideal.main_v13_0)) (v1 : (c : Dev Cert.Kernel13Ideal.nD) → Buf (Elt Ideal) ((c.tc : Thread Cert.Kernel13Ideal.nD Cert.Kernel13Ideal.τ).loc Cert.Kernel13Ideal.main_v13_1)) (v2 : (c : Dev Cert.Kernel13Ideal.nD) → Buf (Elt Ideal) ((c.tc : Thread Cert.Kernel13Ideal.nD Cert.Kernel13Ideal.τ).loc Cert.Kernel13Ideal.main_v13_2)) (v3 : (c : Dev Cert.Kernel13Ideal.nD) → Buf (Elt Ideal) ((c.tc : Thread Cert.Kernel13Ideal.nD Cert.Kernel13Ideal.τ).loc Cert.Kernel13Ideal.main_v13_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v13_0) = v0 c
          ∧ r.2.mem ((c.tc : Thread Cert.Kernel13Ideal.nD Cert.Kernel13Ideal.τ).loc Cert.Kernel13Ideal.main_v13_1) = v1 c
          ∧ r.2.mem ((c.tc : Thread Cert.Kernel13Ideal.nD Cert.Kernel13Ideal.τ).loc Cert.Kernel13Ideal.main_v13_2) = v2 c
          ∧ r.2.mem ((c.tc : Thread Cert.Kernel13Ideal.nD Cert.Kernel13Ideal.τ).loc Cert.Kernel13Ideal.main_v13_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v50) = v0 c
          ∧ r.2.mem ((c.tc : Thread Cert.Reference13Ideal.nD Cert.Reference13Ideal.τ).loc Cert.Reference13Ideal.main_v71) = v1 c
          ∧ r.2.mem ((c.tc : Thread Cert.Reference13Ideal.nD Cert.Reference13Ideal.τ).loc Cert.Reference13Ideal.main_v54) = v2 c
          ∧ r.2.mem ((c.tc : Thread Cert.Reference13Ideal.nD Cert.Reference13Ideal.τ).loc Cert.Reference13Ideal.main_v33) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5))

def preserves_Kernel14_Kernel14Ideal : Prop :=
  IdealRules.named_const.Statement Cert.Kernel14Ideal.κ "mask" .f32 0xF149F2CA#32 ⊥
  ∧ IdealRules.named_const.Statement Cert.Kernel14Ideal.κ "c" .f32 0x3E16C740#32 (((3424635 / 33554432) * (Real.log 2)⁻¹ : ℝ) : EReal)

def algebraic_Kernel14Ideal_Reference14Ideal_on_output_lanes_pre_finite_qkv [hKernel14Ideal : Cert.Kernel14Ideal.Facts] [hReference14Ideal : Cert.Reference14Ideal.Facts] [hPre_finite_qkv : Cert.Pre_finite_qkv.Facts] [hOn_output_lanes : Cert.On_output_lanes.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal_finite_qkv m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v26_0)) (v1 : (c : Dev Cert.Kernel14Ideal.nD) → Buf (Elt Ideal) ((c.tc : Thread Cert.Kernel14Ideal.nD Cert.Kernel14Ideal.τ).loc Cert.Kernel14Ideal.main_v26_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          (∀ i : (⟨2, ![8192, 1024]⟩ : Shape).Idx, (Cert.On_output_lanes.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2))).1 i = 1#1 → r.2.mem ((c.tc : Thread Cert.Kernel14Ideal.nD Cert.Kernel14Ideal.τ).loc Cert.Kernel14Ideal.main_v26_0) i = v0 c i)
          ∧ (∀ i : (⟨2, ![8192, 1024]⟩ : Shape).Idx, (Cert.On_output_lanes.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2))).2 i = 1#1 → r.2.mem ((c.tc : Thread Cert.Kernel14Ideal.nD Cert.Kernel14Ideal.τ).loc Cert.Kernel14Ideal.main_v26_1) i = v1 c i)
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          (∀ i : (⟨2, ![8192, 1024]⟩ : Shape).Idx, (Cert.On_output_lanes.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2))).1 i = 1#1 → r.2.mem ((c.tc : Thread Cert.Reference14Ideal.nD Cert.Reference14Ideal.τ).loc Cert.Reference14Ideal.main_v27) i = v0 c i)
          ∧ (∀ i : (⟨2, ![8192, 1024]⟩ : Shape).Idx, (Cert.On_output_lanes.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2))).2 i = 1#1 → r.2.mem ((c.tc : Thread Cert.Reference14Ideal.nD Cert.Reference14Ideal.τ).loc Cert.Reference14Ideal.main_v34) i = v1 c i)
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v12) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)) →
    ∃ (v0 : (c : Dev Cert.Kernel16Ideal.nD) → Buf (Elt Ideal) ((c.tc : Thread Cert.Kernel16Ideal.nD Cert.Kernel16Ideal.τ).loc Cert.Kernel16Ideal.main_v3_0)) (v1 : (c : Dev Cert.Kernel16Ideal.nD) → Buf (Elt Ideal) ((c.tc : Thread Cert.Kernel16Ideal.nD Cert.Kernel16Ideal.τ).loc Cert.Kernel16Ideal.main_v3_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v3_0) = v0 c
          ∧ r.2.mem ((c.tc : Thread Cert.Kernel16Ideal.nD Cert.Kernel16Ideal.τ).loc Cert.Kernel16Ideal.main_v3_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v12) = v0 c
          ∧ r.2.mem ((c.tc : Thread Cert.Reference16Ideal.nD Cert.Reference16Ideal.τ).loc Cert.Reference16Ideal.main_v25) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v2_0)) (v1 : (c : Dev Cert.Kernel17Ideal.nD) → Buf (Elt Ideal) ((c.tc : Thread Cert.Kernel17Ideal.nD Cert.Kernel17Ideal.τ).loc Cert.Kernel17Ideal.main_v2_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v2_0) = v0 c
          ∧ r.2.mem ((c.tc : Thread Cert.Kernel17Ideal.nD Cert.Kernel17Ideal.τ).loc Cert.Kernel17Ideal.main_v2_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v1) = v0 c
          ∧ r.2.mem ((c.tc : Thread Cert.Reference17Ideal.nD Cert.Reference17Ideal.τ).loc Cert.Reference17Ideal.main_v4) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)) →
    ∃ (v0 : (c : Dev Cert.Kernel18Ideal.nD) → Buf (Elt Ideal) ((c.tc : Thread Cert.Kernel18Ideal.nD Cert.Kernel18Ideal.τ).loc Cert.Kernel18Ideal.main_v2_0)) (v1 : (c : Dev Cert.Kernel18Ideal.nD) → Buf (Elt Ideal) ((c.tc : Thread Cert.Kernel18Ideal.nD Cert.Kernel18Ideal.τ).loc Cert.Kernel18Ideal.main_v2_1)) (v2 : (c : Dev Cert.Kernel18Ideal.nD) → Buf (Elt Ideal) ((c.tc : Thread Cert.Kernel18Ideal.nD Cert.Kernel18Ideal.τ).loc Cert.Kernel18Ideal.main_v2_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v2_0) = v0 c
          ∧ r.2.mem ((c.tc : Thread Cert.Kernel18Ideal.nD Cert.Kernel18Ideal.τ).loc Cert.Kernel18Ideal.main_v2_1) = v1 c
          ∧ r.2.mem ((c.tc : Thread Cert.Kernel18Ideal.nD Cert.Kernel18Ideal.τ).loc Cert.Kernel18Ideal.main_v2_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v0) = v0 c
          ∧ r.2.mem ((c.tc : Thread Cert.Reference18Ideal.nD Cert.Reference18Ideal.τ).loc Cert.Reference18Ideal.main_v13) = v1 c
          ∧ r.2.mem ((c.tc : Thread Cert.Reference18Ideal.nD Cert.Reference18Ideal.τ).loc Cert.Reference18Ideal.main_v26) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v26)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v26) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v35) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)
      ∧ m' ((c.tc : Thread Cert.Reference20Ideal.nD Cert.Reference20Ideal.τ).loc Cert.Reference20Ideal.main_arg5) = m ((c.tc : Thread Cert.Kernel20Ideal.nD Cert.Kernel20Ideal.τ).loc Cert.Kernel20Ideal.main_arg5)
      ∧ m' ((c.tc : Thread Cert.Reference20Ideal.nD Cert.Reference20Ideal.τ).loc Cert.Reference20Ideal.main_arg6) = m ((c.tc : Thread Cert.Kernel20Ideal.nD Cert.Kernel20Ideal.τ).loc Cert.Kernel20Ideal.main_arg6)
      ∧ m' ((c.tc : Thread Cert.Reference20Ideal.nD Cert.Reference20Ideal.τ).loc Cert.Reference20Ideal.main_arg7) = m ((c.tc : Thread Cert.Kernel20Ideal.nD Cert.Kernel20Ideal.τ).loc Cert.Kernel20Ideal.main_arg7)) →
    ∃ (v0 : (c : Dev Cert.Kernel20Ideal.nD) → Buf (Elt Ideal) ((c.tc : Thread Cert.Kernel20Ideal.nD Cert.Kernel20Ideal.τ).loc Cert.Kernel20Ideal.main_v13_0)) (v1 : (c : Dev Cert.Kernel20Ideal.nD) → Buf (Elt Ideal) ((c.tc : Thread Cert.Kernel20Ideal.nD Cert.Kernel20Ideal.τ).loc Cert.Kernel20Ideal.main_v13_1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v13_0) = v0 c
          ∧ r.2.mem ((c.tc : Thread Cert.Kernel20Ideal.nD Cert.Kernel20Ideal.τ).loc Cert.Kernel20Ideal.main_v13_1) = v1 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
          ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5)
          ∧ r.2.mem ((c.tc : Thread Cert.Kernel20Ideal.nD Cert.Kernel20Ideal.τ).loc Cert.Kernel20Ideal.main_arg6) = m ((c.tc : Thread Cert.Kernel20Ideal.nD Cert.Kernel20Ideal.τ).loc Cert.Kernel20Ideal.main_arg6)
          ∧ r.2.mem ((c.tc : Thread Cert.Kernel20Ideal.nD Cert.Kernel20Ideal.τ).loc Cert.Kernel20Ideal.main_arg7) = m ((c.tc : Thread Cert.Kernel20Ideal.nD Cert.Kernel20Ideal.τ).loc Cert.Kernel20Ideal.main_arg7))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v1) = v0 c
          ∧ r.2.mem ((c.tc : Thread Cert.Reference20Ideal.nD Cert.Reference20Ideal.τ).loc Cert.Reference20Ideal.main_v17) = v1 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4)
          ∧ r.2.mem ((c.tc : Thread Cert.Reference20Ideal.nD Cert.Reference20Ideal.τ).loc Cert.Reference20Ideal.main_arg5) = m' ((c.tc : Thread Cert.Reference20Ideal.nD Cert.Reference20Ideal.τ).loc Cert.Reference20Ideal.main_arg5)
          ∧ r.2.mem ((c.tc : Thread Cert.Reference20Ideal.nD Cert.Reference20Ideal.τ).loc Cert.Reference20Ideal.main_arg6) = m' ((c.tc : Thread Cert.Reference20Ideal.nD Cert.Reference20Ideal.τ).loc Cert.Reference20Ideal.main_arg6)
          ∧ r.2.mem ((c.tc : Thread Cert.Reference20Ideal.nD Cert.Reference20Ideal.τ).loc Cert.Reference20Ideal.main_arg7) = m' ((c.tc : Thread Cert.Reference20Ideal.nD Cert.Reference20Ideal.τ).loc Cert.Reference20Ideal.main_arg7))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)
      ∧ m' ((c.tc : Thread Cert.Reference21Ideal.nD Cert.Reference21Ideal.τ).loc Cert.Reference21Ideal.main_arg5) = m ((c.tc : Thread Cert.Kernel21Ideal.nD Cert.Kernel21Ideal.τ).loc Cert.Kernel21Ideal.main_arg5)
      ∧ m' ((c.tc : Thread Cert.Reference21Ideal.nD Cert.Reference21Ideal.τ).loc Cert.Reference21Ideal.main_arg6) = m ((c.tc : Thread Cert.Kernel21Ideal.nD Cert.Kernel21Ideal.τ).loc Cert.Kernel21Ideal.main_arg6)) →
    ∃ (v0 : (c : Dev Cert.Kernel21Ideal.nD) → Buf (Elt Ideal) ((c.tc : Thread Cert.Kernel21Ideal.nD Cert.Kernel21Ideal.τ).loc Cert.Kernel21Ideal.main_v34_0)) (v1 : (c : Dev Cert.Kernel21Ideal.nD) → Buf (Elt Ideal) ((c.tc : Thread Cert.Kernel21Ideal.nD Cert.Kernel21Ideal.τ).loc Cert.Kernel21Ideal.main_v34_1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v34_0) = v0 c
          ∧ r.2.mem ((c.tc : Thread Cert.Kernel21Ideal.nD Cert.Kernel21Ideal.τ).loc Cert.Kernel21Ideal.main_v34_1) = v1 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
          ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5)
          ∧ r.2.mem ((c.tc : Thread Cert.Kernel21Ideal.nD Cert.Kernel21Ideal.τ).loc Cert.Kernel21Ideal.main_arg6) = m ((c.tc : Thread Cert.Kernel21Ideal.nD Cert.Kernel21Ideal.τ).loc Cert.Kernel21Ideal.main_arg6))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v37) = v0 c
          ∧ r.2.mem ((c.tc : Thread Cert.Reference21Ideal.nD Cert.Reference21Ideal.τ).loc Cert.Reference21Ideal.main_v40) = v1 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4)
          ∧ r.2.mem ((c.tc : Thread Cert.Reference21Ideal.nD Cert.Reference21Ideal.τ).loc Cert.Reference21Ideal.main_arg5) = m' ((c.tc : Thread Cert.Reference21Ideal.nD Cert.Reference21Ideal.τ).loc Cert.Reference21Ideal.main_arg5)
          ∧ r.2.mem ((c.tc : Thread Cert.Reference21Ideal.nD Cert.Reference21Ideal.τ).loc Cert.Reference21Ideal.main_arg6) = m' ((c.tc : Thread Cert.Reference21Ideal.nD Cert.Reference21Ideal.τ).loc Cert.Reference21Ideal.main_arg6))

def preserves_Kernel22_Kernel22Ideal : Prop :=
  True

def algebraic_Kernel22Ideal_Reference22Ideal_pre_finite_f [hKernel22Ideal : Cert.Kernel22Ideal.Facts] [hReference22Ideal : Cert.Reference22Ideal.Facts] [hPre_finite_f : Cert.Pre_finite_f.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal_finite_f m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)
      ∧ m' ((c.tc : Thread Cert.Reference22Ideal.nD Cert.Reference22Ideal.τ).loc Cert.Reference22Ideal.main_arg5) = m ((c.tc : Thread Cert.Kernel22Ideal.nD Cert.Kernel22Ideal.τ).loc Cert.Kernel22Ideal.main_arg5)) →
    ∃ (v0 : (c : Dev Cert.Kernel22Ideal.nD) → Buf (Elt Ideal) ((c.tc : Thread Cert.Kernel22Ideal.nD Cert.Kernel22Ideal.τ).loc Cert.Kernel22Ideal.main_v3_0)) (v1 : (c : Dev Cert.Kernel22Ideal.nD) → Buf (Elt Ideal) ((c.tc : Thread Cert.Kernel22Ideal.nD Cert.Kernel22Ideal.τ).loc Cert.Kernel22Ideal.main_v3_1)) (v2 : (c : Dev Cert.Kernel22Ideal.nD) → Buf (Elt Ideal) ((c.tc : Thread Cert.Kernel22Ideal.nD Cert.Kernel22Ideal.τ).loc Cert.Kernel22Ideal.main_v3_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v3_0) = v0 c
          ∧ r.2.mem ((c.tc : Thread Cert.Kernel22Ideal.nD Cert.Kernel22Ideal.τ).loc Cert.Kernel22Ideal.main_v3_1) = v1 c
          ∧ r.2.mem ((c.tc : Thread Cert.Kernel22Ideal.nD Cert.Kernel22Ideal.τ).loc Cert.Kernel22Ideal.main_v3_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
          ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v9) = v0 c
          ∧ r.2.mem ((c.tc : Thread Cert.Reference22Ideal.nD Cert.Reference22Ideal.τ).loc Cert.Reference22Ideal.main_v16) = v1 c
          ∧ r.2.mem ((c.tc : Thread Cert.Reference22Ideal.nD Cert.Reference22Ideal.τ).loc Cert.Reference22Ideal.main_v22) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4)
          ∧ r.2.mem ((c.tc : Thread Cert.Reference22Ideal.nD Cert.Reference22Ideal.τ).loc Cert.Reference22Ideal.main_arg5) = m' ((c.tc : Thread Cert.Reference22Ideal.nD Cert.Reference22Ideal.τ).loc Cert.Reference22Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hPre_finite : Cert.Pre_finite.Facts) (hPre_finite_mla : Cert.Pre_finite_mla.Facts) (hPre_finite_o : Cert.Pre_finite_o.Facts) (hPre_finite_nib : Cert.Pre_finite_nib.Facts) (hPre_finite_mnb : Cert.Pre_finite_mnb.Facts) (hPre_finite_loss : Cert.Pre_finite_loss.Facts) (hPre_finite_rmb : Cert.Pre_finite_rmb.Facts) (hPre_finite_qkv : Cert.Pre_finite_qkv.Facts) (hPre_finite_f : Cert.Pre_finite_f.Facts) (hOn_gradient_lanes : Cert.On_gradient_lanes.Facts) (hOn_feature_lanes : Cert.On_feature_lanes.Facts) (hOn_shared_lanes : Cert.On_shared_lanes.Facts) (hOn_output_lanes : Cert.On_output_lanes.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ quiescent_Kernel3 (hKernel3 := hKernel3)
    ∧ quiescent_Kernel3Ideal (hKernel3Ideal := hKernel3Ideal)
    ∧ quiescent_Kernel3Ideal_pre_finite_mla (hKernel3Ideal := hKernel3Ideal) (hPre_finite_mla := hPre_finite_mla)
    ∧ quiescent_Reference3Ideal (hReference3Ideal := hReference3Ideal)
    ∧ quiescent_Reference3Ideal_pre_finite_mla (hReference3Ideal := hReference3Ideal) (hPre_finite_mla := hPre_finite_mla)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel9Ideal_pre_finite_o (hKernel9Ideal := hKernel9Ideal) (hPre_finite_o := hPre_finite_o)
    ∧ quiescent_Reference9Ideal (hReference9Ideal := hReference9Ideal)
    ∧ quiescent_Reference9Ideal_pre_finite_o (hReference9Ideal := hReference9Ideal) (hPre_finite_o := hPre_finite_o)
    ∧ quiescent_Kernel10 (hKernel10 := hKernel10)
    ∧ quiescent_Kernel10Ideal (hKernel10Ideal := hKernel10Ideal)
    ∧ quiescent_Kernel10Ideal_pre_finite_nib (hKernel10Ideal := hKernel10Ideal) (hPre_finite_nib := hPre_finite_nib)
    ∧ quiescent_Reference10Ideal (hReference10Ideal := hReference10Ideal)
    ∧ quiescent_Reference10Ideal_pre_finite_nib (hReference10Ideal := hReference10Ideal) (hPre_finite_nib := hPre_finite_nib)
    ∧ quiescent_Kernel11 (hKernel11 := hKernel11)
    ∧ quiescent_Kernel11Ideal (hKernel11Ideal := hKernel11Ideal)
    ∧ quiescent_Kernel11Ideal_pre_finite_mnb (hKernel11Ideal := hKernel11Ideal) (hPre_finite_mnb := hPre_finite_mnb)
    ∧ quiescent_Reference11Ideal (hReference11Ideal := hReference11Ideal)
    ∧ quiescent_Reference11Ideal_pre_finite_mnb (hReference11Ideal := hReference11Ideal) (hPre_finite_mnb := hPre_finite_mnb)
    ∧ quiescent_Kernel12 (hKernel12 := hKernel12)
    ∧ quiescent_Kernel12Ideal (hKernel12Ideal := hKernel12Ideal)
    ∧ quiescent_Kernel12Ideal_pre_finite_loss (hKernel12Ideal := hKernel12Ideal) (hPre_finite_loss := hPre_finite_loss)
    ∧ quiescent_Reference12Ideal (hReference12Ideal := hReference12Ideal)
    ∧ quiescent_Reference12Ideal_pre_finite_loss (hReference12Ideal := hReference12Ideal) (hPre_finite_loss := hPre_finite_loss)
    ∧ quiescent_Kernel13 (hKernel13 := hKernel13)
    ∧ quiescent_Kernel13Ideal (hKernel13Ideal := hKernel13Ideal)
    ∧ quiescent_Kernel13Ideal_pre_finite_rmb (hKernel13Ideal := hKernel13Ideal) (hPre_finite_rmb := hPre_finite_rmb)
    ∧ quiescent_Reference13Ideal (hReference13Ideal := hReference13Ideal)
    ∧ quiescent_Reference13Ideal_pre_finite_rmb (hReference13Ideal := hReference13Ideal) (hPre_finite_rmb := hPre_finite_rmb)
    ∧ quiescent_Kernel14 (hKernel14 := hKernel14)
    ∧ quiescent_Kernel14Ideal (hKernel14Ideal := hKernel14Ideal)
    ∧ quiescent_Kernel14Ideal_pre_finite_qkv (hKernel14Ideal := hKernel14Ideal) (hPre_finite_qkv := hPre_finite_qkv)
    ∧ quiescent_Reference14Ideal (hReference14Ideal := hReference14Ideal)
    ∧ quiescent_Reference14Ideal_pre_finite_qkv (hReference14Ideal := hReference14Ideal) (hPre_finite_qkv := hPre_finite_qkv)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Kernel22Ideal_pre_finite_f (hKernel22Ideal := hKernel22Ideal) (hPre_finite_f := hPre_finite_f)
    ∧ quiescent_Reference22Ideal (hReference22Ideal := hReference22Ideal)
    ∧ quiescent_Reference22Ideal_pre_finite_f (hReference22Ideal := hReference22Ideal) (hPre_finite_f := hPre_finite_f)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_on_gradient_lanes_pre_finite (hKernel2Ideal := hKernel2Ideal) (hReference2Ideal := hReference2Ideal) (hPre_finite := hPre_finite) (hOn_gradient_lanes := hOn_gradient_lanes)
    ∧ preserves_Kernel3_Kernel3Ideal
    ∧ algebraic_Kernel3Ideal_Reference3Ideal_on_feature_lanes_pre_finite_mla (hKernel3Ideal := hKernel3Ideal) (hReference3Ideal := hReference3Ideal) (hPre_finite_mla := hPre_finite_mla) (hOn_feature_lanes := hOn_feature_lanes)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_on_shared_lanes (hKernel8Ideal := hKernel8Ideal) (hReference8Ideal := hReference8Ideal) (hOn_shared_lanes := hOn_shared_lanes)
    ∧ preserves_Kernel9_Kernel9Ideal
    ∧ algebraic_Kernel9Ideal_Reference9Ideal_pre_finite_o (hKernel9Ideal := hKernel9Ideal) (hReference9Ideal := hReference9Ideal) (hPre_finite_o := hPre_finite_o)
    ∧ preserves_Kernel10_Kernel10Ideal
    ∧ algebraic_Kernel10Ideal_Reference10Ideal_pre_finite_nib (hKernel10Ideal := hKernel10Ideal) (hReference10Ideal := hReference10Ideal) (hPre_finite_nib := hPre_finite_nib)
    ∧ preserves_Kernel11_Kernel11Ideal
    ∧ algebraic_Kernel11Ideal_Reference11Ideal_pre_finite_mnb (hKernel11Ideal := hKernel11Ideal) (hReference11Ideal := hReference11Ideal) (hPre_finite_mnb := hPre_finite_mnb)
    ∧ preserves_Kernel12_Kernel12Ideal
    ∧ algebraic_Kernel12Ideal_Reference12Ideal_pre_finite_loss (hKernel12Ideal := hKernel12Ideal) (hReference12Ideal := hReference12Ideal) (hPre_finite_loss := hPre_finite_loss)
    ∧ preserves_Kernel13_Kernel13Ideal
    ∧ algebraic_Kernel13Ideal_Reference13Ideal_pre_finite_rmb (hKernel13Ideal := hKernel13Ideal) (hReference13Ideal := hReference13Ideal) (hPre_finite_rmb := hPre_finite_rmb)
    ∧ preserves_Kernel14_Kernel14Ideal
    ∧ algebraic_Kernel14Ideal_Reference14Ideal_on_output_lanes_pre_finite_qkv (hKernel14Ideal := hKernel14Ideal) (hReference14Ideal := hReference14Ideal) (hPre_finite_qkv := hPre_finite_qkv) (hOn_output_lanes := hOn_output_lanes)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal_pre_finite_f (hKernel22Ideal := hKernel22Ideal) (hReference22Ideal := hReference22Ideal) (hPre_finite_f := hPre_finite_f)
-- ==== On_feature_lanes.lean ====
abbrev S8x8192x96 : Shape := ⟨3, ![8, 8192, 96]⟩
abbrev S8x8192x64 : Shape := ⟨3, ![8, 8192, 64]⟩
abbrev S128 : Shape := ⟨1, ![128]⟩
abbrev S8192x8x128 : Shape := ⟨3, ![8192, 8, 128]⟩
abbrev S8192x1024 : Shape := ⟨2, ![8192, 1024]⟩
abbrev S_ : Shape := ⟨0, ![]⟩

class Facts : Prop where
  bcast_S128_S8192x8x128_2 : S128.BroadcastsInDim S8192x8x128 (![2] : Fin 1 → Fin S8192x8x128.rank)
  shapeCasts_S8192x8x128_S8192x1024 : S8192x8x128.ShapeCasts S8192x1024
  bcast_S_S8192x1024 : S_.BroadcastsInDim S8192x1024 (![] : Fin 0 → Fin S8192x1024.rank)

variable [Facts]

def fn {F : FTy → Type} [FloatOps F] (main_arg0 : FVec F S8x8192x96 .f32) (main_arg1 : FVec F S8x8192x96 .f32) (main_arg2 : FVec F S8x8192x64 .f32) (main_arg3 : FVec F S8x8192x64 .f32) : IVec S8192x1024 1 × IVec S8192x1024 1 × IVec S8192x1024 1 :=
  let main_v0 : IVec S128 32 := iotaInDim S128 32 0
  let main_v1 : IVec S8192x8x128 32 := broadcastInDim S8192x8x128 ![2] bcast_S128_S8192x8x128_2 main_v0
  let main_v2 : IVec S8192x1024 32 := shapeCast S8192x1024 main_v1 shapeCasts_S8192x8x128_S8192x1024
  let main_c : IVec S_ 32 := constantI S_ 32 96#32
  let main_v3 : IVec S8192x1024 32 := broadcastInDim S8192x1024 ![] bcast_S_S8192x1024 main_c
  let main_v4 : IVec S8192x1024 1 := cmpi .slt main_v2 main_v3
  let main_c_0 : IVec S_ 32 := constantI S_ 32 64#32
  let main_v5 : IVec S8192x1024 32 := broadcastInDim S8192x1024 ![] bcast_S_S8192x1024 main_c_0
  let main_v6 : IVec S8192x1024 1 := cmpi .slt main_v2 main_v5
  let main_c_1 : IVec S_ 32 := constantI S_ 32 96#32
  let main_v7 : IVec S8192x1024 32 := broadcastInDim S8192x1024 ![] bcast_S_S8192x1024 main_c_1
  let main_v8 : IVec S8192x1024 1 := cmpi .slt main_v2 main_v7
  (main_v4, main_v6, main_v8)
-- ==== On_gradient_lanes.lean ====
abbrev S8192x512 : Shape := ⟨2, ![8192, 512]⟩
abbrev S8192x8 : Shape := ⟨2, ![8192, 8]⟩
abbrev S128 : Shape := ⟨1, ![128]⟩
abbrev S8192x8x128 : Shape := ⟨3, ![8192, 8, 128]⟩
abbrev S8192x1024 : Shape := ⟨2, ![8192, 1024]⟩
abbrev S_ : Shape := ⟨0, ![]⟩

class Facts : Prop where
  bcast_S128_S8192x8x128_2 : S128.BroadcastsInDim S8192x8x128 (![2] : Fin 1 → Fin S8192x8x128.rank)
  shapeCasts_S8192x8x128_S8192x1024 : S8192x8x128.ShapeCasts S8192x1024
  bcast_S_S8192x1024 : S_.BroadcastsInDim S8192x1024 (![] : Fin 0 → Fin S8192x1024.rank)

variable [Facts]

def fn {F : FTy → Type} [FloatOps F] (main_arg0 : FVec F S8192x512 .f32) (main_arg1 : FVec F S8192x512 .f32) (main_arg2 : FVec F S8192x512 .f32) (main_arg3 : FVec F S8192x8 .f32) (main_arg4 : FVec F S8192x512 .f32) : IVec S8192x1024 1 × IVec S8192x1024 1 × IVec S8192x1024 1 :=
  let main_v0 : IVec S128 32 := iotaInDim S128 32 0
  let main_v1 : IVec S8192x8x128 32 := broadcastInDim S8192x8x128 ![2] bcast_S128_S8192x8x128_2 main_v0
  let main_v2 : IVec S8192x1024 32 := shapeCast S8192x1024 main_v1 shapeCasts_S8192x8x128_S8192x1024
  let main_c : IVec S_ 32 := constantI S_ 32 64#32
  let main_v3 : IVec S8192x1024 32 := broadcastInDim S8192x1024 ![] bcast_S_S8192x1024 main_c
  let main_v4 : IVec S8192x1024 1 := cmpi .slt main_v2 main_v3
  let main_c_0 : IVec S_ 32 := constantI S_ 32 70#32
  let main_v5 : IVec S8192x1024 32 := broadcastInDim S8192x1024 ![] bcast_S_S8192x1024 main_c_0
  let main_v6 : IVec S8192x1024 1 := cmpi .eq main_v2 main_v5
  let main_v7 : IVec S8192x1024 1 := ori main_v4 main_v6
  let main_c_1 : IVec S_ 32 := constantI S_ 32 64#32
  let main_v8 : IVec S8192x1024 32 := broadcastInDim S8192x1024 ![] bcast_S_S8192x1024 main_c_1
  let main_v9 : IVec S8192x1024 1 := cmpi .slt main_v2 main_v8
  let main_c_2 : IVec S_ 32 := constantI S_ 32 64#32
  let main_v10 : IVec S8192x1024 32 := broadcastInDim S8192x1024 ![] bcast_S_S8192x1024 main_c_2
  let main_v11 : IVec S8192x1024 1 := cmpi .sle main_v2 main_v10
  (main_v7, main_v9, main_v11)
-- ==== On_output_lanes.lean ====
abbrev S8x8192x96 : Shape := ⟨3, ![8, 8192, 96]⟩
abbrev S8x8192x64 : Shape := ⟨3, ![8, 8192, 64]⟩
abbrev S128 : Shape := ⟨1, ![128]⟩
abbrev S8192x8x128 : Shape := ⟨3, ![8192, 8, 128]⟩
abbrev S8192x1024 : Shape := ⟨2, ![8192, 1024]⟩
abbrev S_ : Shape := ⟨0, ![]⟩

class Facts : Prop where
  bcast_S128_S8192x8x128_2 : S128.BroadcastsInDim S8192x8x128 (![2] : Fin 1 → Fin S8192x8x128.rank)
  shapeCasts_S8192x8x128_S8192x1024 : S8192x8x128.ShapeCasts S8192x1024
  bcast_S_S8192x1024 : S_.BroadcastsInDim S8192x1024 (![] : Fin 0 → Fin S8192x1024.rank)

variable [Facts]

def fn {F : FTy → Type} [FloatOps F] (main_arg0 : FVec F S8x8192x96 .f32) (main_arg1 : FVec F S8x8192x96 .f32) (main_arg2 : FVec F S8x8192x64 .f32) : IVec S8192x1024 1 × IVec S8192x1024 1 :=
  let main_v0 : IVec S128 32 := iotaInDim S128 32 0
  let main_v1 : IVec S8192x8x128 32 := broadcastInDim S8192x8x128 ![2] bcast_S128_S8192x8x128_2 main_v0
  let main_v2 : IVec S8192x1024 32 := shapeCast S8192x1024 main_v1 shapeCasts_S8192x8x128_S8192x1024
  let main_c : IVec S_ 32 := constantI S_ 32 64#32
  let main_v3 : IVec S8192x1024 32 := broadcastInDim S8192x1024 ![] bcast_S_S8192x1024 main_c
  let main_v4 : IVec S8192x1024 1 := cmpi .slt main_v2 main_v3
  let main_c_0 : IVec S_ 32 := constantI S_ 32 128#32
  let main_v5 : IVec S8192x1024 32 := broadcastInDim S8192x1024 ![] bcast_S_S8192x1024 main_c_0
  let main_v6 : IVec S8192x1024 1 := cmpi .slt main_v2 main_v5
  (main_v4, main_v6)
-- ==== On_shared_lanes.lean ====
abbrev S8192x512 : Shape := ⟨2, ![8192, 512]⟩
abbrev S8192x32 : Shape := ⟨2, ![8192, 32]⟩
abbrev S8192 : Shape := ⟨1, ![8192]⟩
abbrev S8192x768 : Shape := ⟨2, ![8192, 768]⟩
abbrev S128 : Shape := ⟨1, ![128]⟩
abbrev S8192x16x128 : Shape := ⟨3, ![8192, 16, 128]⟩
abbrev S8192x2048 : Shape := ⟨2, ![8192, 2048]⟩
abbrev S_ : Shape := ⟨0, ![]⟩
abbrev S8192x128 : Shape := ⟨2, ![8192, 128]⟩

class Facts : Prop where
  bcast_S128_S8192x16x128_2 : S128.BroadcastsInDim S8192x16x128 (![2] : Fin 1 → Fin S8192x16x128.rank)
  shapeCasts_S8192x16x128_S8192x2048 : S8192x16x128.ShapeCasts S8192x2048
  bcast_S_S8192x2048 : S_.BroadcastsInDim S8192x2048 (![] : Fin 0 → Fin S8192x2048.rank)
  bcast_S128_S8192x128_1 : S128.BroadcastsInDim S8192x128 (![1] : Fin 1 → Fin S8192x128.rank)
  bcast_S_S8192x128 : S_.BroadcastsInDim S8192x128 (![] : Fin 0 → Fin S8192x128.rank)

variable [Facts]

def fn {F : FTy → Type} [FloatOps F] (main_arg0 : FVec F S8192x512 .f32) (main_arg1 : FVec F S8192x512 .f32) (main_arg2 : FVec F S8192x32 .f32) (main_arg3 : IVec S8192 32) (main_arg4 : FVec F S8192x768 .f32) (main_arg5 : FVec F S8192x512 .f32) : IVec S8192x2048 1 × IVec S8192x128 1 :=
  let main_v0 : IVec S128 32 := iotaInDim S128 32 0
  let main_v1 : IVec S8192x16x128 32 := broadcastInDim S8192x16x128 ![2] bcast_S128_S8192x16x128_2 main_v0
  let main_v2 : IVec S8192x2048 32 := shapeCast S8192x2048 main_v1 shapeCasts_S8192x16x128_S8192x2048
  let main_c : IVec S_ 32 := constantI S_ 32 64#32
  let main_v3 : IVec S8192x2048 32 := broadcastInDim S8192x2048 ![] bcast_S_S8192x2048 main_c
  let main_v4 : IVec S8192x2048 1 := cmpi .slt main_v2 main_v3
  let main_v5 : IVec S8192x128 32 := broadcastInDim S8192x128 ![1] bcast_S128_S8192x128_1 main_v0
  let main_c_0 : IVec S_ 32 := constantI S_ 32 64#32
  let main_v6 : IVec S8192x128 32 := broadcastInDim S8192x128 ![] bcast_S_S8192x128 main_c_0
  let main_v7 : IVec S8192x128 1 := cmpi .sge main_v5 main_v6
  (main_v4, main_v7)
-- ==== Pre_finite.lean ====
abbrev S8192x512 : Shape := ⟨2, ![8192, 512]⟩
abbrev S8192x8 : Shape := ⟨2, ![8192, 8]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x8 : S_.BroadcastsInDim S8192x8 (![] : Fin 0 → Fin S8192x8.rank)
  reducesTo_S8192x8_S_d0_1 : S8192x8.ReducesTo [0, 1] S_

variable [Facts]

def fn_part1 {F : FTy → Type} [FloatOps F] (main_arg4 : FVec F S8192x512 .f32) (main_v13 : IVec S_ 1) (main_v16 : IVec S8192x8 1) : IVec S_ 1 :=
  let main_c_5 : IVec S_ 1 := constantI S_ 1 1#1
  let main_v17 : IVec S_ 1 := (fun x v => Host.reduce IntOp.andi x v reducesTo_S8192x8_S_d0_1 h_S_) main_v16 main_c_5
  let main_v18 : IVec S_ 1 := andi main_v13 main_v17
  let main_v19 : FVec F S8192x512 .f32 := Host.absf main_arg4
  let main_cst_6 : FVec F S_ .f32 := constant S_ .f32 0x7F800000#32
  let main_v20 : FVec F S8192x512 .f32 := broadcastInDim S8192x512 ![] bcast_S_S8192x512 main_cst_6
  let main_v21 : IVec S8192x512 1 := cmpf .olt main_v19 main_v20
  let main_c_7 : IVec S_ 1 := constantI S_ 1 1#1
  let main_v22 : IVec S_ 1 := (fun x v => Host.reduce IntOp.andi x v reducesTo_S8192x512_S_d0_1 h_S_) main_v21 main_c_7
  let main_v23 : IVec S_ 1 := andi main_v18 main_v22
  main_v23

def fn {F : FTy → Type} [FloatOps F] (main_arg0 : FVec F S8192x512 .f32) (main_arg1 : FVec F S8192x512 .f32) (main_arg2 : FVec F S8192x512 .f32) (main_arg3 : FVec F S8192x8 .f32) (main_arg4 : FVec F S8192x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S8192x512 .f32 := Host.absf main_arg2
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_c_3 : IVec S_ 1 := constantI S_ 1 1#1
  let main_v12 : IVec S_ 1 := (fun x v => Host.reduce IntOp.andi x v reducesTo_S8192x512_S_d0_1 h_S_) main_v11 main_c_3
  let main_v13 : IVec S_ 1 := andi main_v8 main_v12
  let main_v14 : FVec F S8192x8 .f32 := Host.absf main_arg3
  let main_cst_4 : FVec F S_ .f32 := constant S_ .f32 0x7F800000#32
  let main_v15 : FVec F S8192x8 .f32 := broadcastInDim S8192x8 ![] bcast_S_S8192x8 main_cst_4
  let main_v16 : IVec S8192x8 1 := cmpf .olt main_v14 main_v15
  fn_part1 (F := F) main_arg4 main_v13 main_v16
-- ==== Pre_finite_f.lean ====
abbrev S8192x1024 : Shape := ⟨2, ![8192, 1024]⟩
abbrev S8192x512 : Shape := ⟨2, ![8192, 512]⟩
abbrev S8192x8 : Shape := ⟨2, ![8192, 8]⟩
abbrev S_ : Shape := ⟨0, ![]⟩

class Facts : Prop where
  bcast_S_S8192x8 : S_.BroadcastsInDim S8192x8 (![] : Fin 0 → Fin S8192x8.rank)
  reducesTo_S8192x8_S_d0_1 : S8192x8.ReducesTo [0, 1] S_
  h_S_ : 0 < S_.numel

variable [Facts]

def fn {F : FTy → Type} [FloatOps F] (main_arg0 : FVec F S8192x1024 .f32) (main_arg1 : FVec F S8192x1024 .f32) (main_arg2 : FVec F S8192x512 .f32) (main_arg3 : FVec F S8192x512 .f32) (main_arg4 : FVec F S8192x512 .f32) (main_arg5 : FVec F S8192x8 .f32) : IVec S_ 1 :=
  let main_v0 : FVec F S8192x8 .f32 := Host.absf main_arg5
  let main_cst : FVec F S_ .f32 := constant S_ .f32 0x7F800000#32
  let main_v1 : FVec F S8192x8 .f32 := broadcastInDim S8192x8 ![] bcast_S_S8192x8 main_cst
  let main_v2 : IVec S8192x8 1 := cmpf .olt main_v0 main_v1
  let main_c : IVec S_ 1 := constantI S_ 1 1#1
  let main_v3 : IVec S_ 1 := (fun x v => Host.reduce IntOp.andi x v reducesTo_S8192x8_S_d0_1 h_S_) main_v2 main_c
  main_v3
-- ==== Pre_finite_loss.lean ====
abbrev S8192x1024 : Shape := ⟨2, ![8192, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  main_v18

def fn {F : FTy → Type} [FloatOps F] (main_arg0 : FVec F S8192x1024 .f32) (main_arg1 : FVec F S8192x1024 .f32) (main_arg2 : FVec F S1x1024 .f32) (main_arg3 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S8192x1024 .f32 := Host.absf main_arg3
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_v13 main_v16
-- ==== Pre_finite_mla.lean ====
abbrev S8x8192x96 : Shape := ⟨3, ![8, 8192, 96]⟩
abbrev S8x8192x64 : Shape := ⟨3, ![8, 8192, 64]⟩
abbrev S_ : Shape := ⟨0, ![]⟩

class Facts : Prop where
  bcast_S_S8x8192x96 : S_.BroadcastsInDim S8x8192x96 (![] : Fin 0 → Fin S8x8192x96.rank)
  reducesTo_S8x8192x96_S_d0_1_2 : S8x8192x96.ReducesTo [0, 1, 2] S_
  h_S_ : 0 < S_.numel
  bcast_S_S8x8192x64 : S_.BroadcastsInDim S8x8192x64 (![] : Fin 0 → Fin S8x8192x64.rank)
  reducesTo_S8x8192x64_S_d0_1_2 : S8x8192x64.ReducesTo [0, 1, 2] S_

variable [Facts]

def fn_part1 {F : FTy → Type} [FloatOps F] (main_v13 : IVec S_ 1) (main_v16 : IVec S8x8192x64 1) : IVec S_ 1 :=
  let main_c_5 : IVec S_ 1 := constantI S_ 1 1#1
  let main_v17 : IVec S_ 1 := (fun x v => Host.reduce IntOp.andi x v reducesTo_S8x8192x64_S_d0_1_2 h_S_) main_v16 main_c_5
  let main_v18 : IVec S_ 1 := andi main_v13 main_v17
  main_v18

def fn {F : FTy → Type} [FloatOps F] (main_arg0 : FVec F S8x8192x96 .f32) (main_arg1 : FVec F S8x8192x96 .f32) (main_arg2 : FVec F S8x8192x64 .f32) (main_arg3 : FVec F S8x8192x64 .f32) : IVec S_ 1 :=
  let main_v0 : FVec F S8x8192x96 .f32 := Host.absf main_arg0
  let main_cst : FVec F S_ .f32 := constant S_ .f32 0x7F800000#32
  let main_v1 : FVec F S8x8192x96 .f32 := broadcastInDim S8x8192x96 ![] bcast_S_S8x8192x96 main_cst
  let main_v2 : IVec S8x8192x96 1 := cmpf .olt main_v0 main_v1
  let main_c : IVec S_ 1 := constantI S_ 1 1#1
  let main_v3 : IVec S_ 1 := (fun x v => Host.reduce IntOp.andi x v reducesTo_S8x8192x96_S_d0_1_2 h_S_) main_v2 main_c
  let main_v4 : FVec F S8x8192x96 .f32 := Host.absf main_arg1
  let main_cst_0 : FVec F S_ .f32 := constant S_ .f32 0x7F800000#32
  let main_v5 : FVec F S8x8192x96 .f32 := broadcastInDim S8x8192x96 ![] bcast_S_S8x8192x96 main_cst_0
  let main_v6 : IVec S8x8192x96 1 := cmpf .olt main_v4 main_v5
  let main_c_1 : IVec S_ 1 := constantI S_ 1 1#1
  let main_v7 : IVec S_ 1 := (fun x v => Host.reduce IntOp.andi x v reducesTo_S8x8192x96_S_d0_1_2 h_S_) main_v6 main_c_1
  let main_v8 : IVec S_ 1 := andi main_v3 main_v7
  let main_v9 : FVec F S8x8192x64 .f32 := Host.absf main_arg2
  let main_cst_2 : FVec F S_ .f32 := constant S_ .f32 0x7F800000#32
  let main_v10 : FVec F S8x8192x64 .f32 := broadcastInDim S8x8192x64 ![] bcast_S_S8x8192x64 main_cst_2
  let main_v11 : IVec S8x8192x64 1 := cmpf .olt main_v9 main_v10
  let main_c_3 : IVec S_ 1 := constantI S_ 1 1#1
  let main_v12 : IVec S_ 1 := (fun x v => Host.reduce IntOp.andi x v reducesTo_S8x8192x64_S_d0_1_2 h_S_) main_v11 main_c_3
  let main_v13 : IVec S_ 1 := andi main_v8 main_v12
  let main_v14 : FVec F S8x8192x64 .f32 := Host.absf main_arg3
  let main_cst_4 : FVec F S_ .f32 := constant S_ .f32 0x7F800000#32
  let main_v15 : FVec F S8x8192x64 .f32 := broadcastInDim S8x8192x64 ![] bcast_S_S8x8192x64 main_cst_4
  let main_v16 : IVec S8x8192x64 1 := cmpf .olt main_v14 main_v15
  fn_part1 (F := F) main_v13 main_v16
-- ==== Pre_finite_mnb.lean ====
abbrev S8192x256 : Shape := ⟨2, ![8192, 256]⟩
abbrev S8192x128 : Shape := ⟨2, ![8192, 128]⟩
abbrev S8192x32 : Shape := ⟨2, ![8192, 32]⟩
abbrev S8192x8 : Shape := ⟨2, ![8192, 8]⟩
abbrev S1x256 : Shape := ⟨2, ![1, 256]⟩
abbrev S1x128 : Shape := ⟨2, ![1, 128]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x128 : S_.BroadcastsInDim S8192x128 (![] : Fin 0 → Fin S8192x128.rank)
  reducesTo_S8192x128_S_d0_1 : S8192x128.ReducesTo [0, 1] S_
  bcast_S_S1x256 : S_.BroadcastsInDim S1x256 (![] : Fin 0 → Fin S1x256.rank)
  reducesTo_S1x256_S_d0_1 : S1x256.ReducesTo [0, 1] S_
  bcast_S_S1x128 : S_.BroadcastsInDim S1x128 (![] : Fin 0 → Fin S1x128.rank)
  reducesTo_S1x128_S_d0_1 : S1x128.ReducesTo [0, 1] S_

variable [Facts]

def fn_part1 {F : FTy → Type} [FloatOps F] (main_arg6 : FVec F S8192x256 .f32) (main_arg7 : FVec F S8192x128 .f32) (main_v13 : IVec S_ 1) (main_v16 : IVec S1x128 1) : IVec S_ 1 :=
  let main_c_5 : IVec S_ 1 := constantI S_ 1 1#1
  let main_v17 : IVec S_ 1 := (fun x v => Host.reduce IntOp.andi x v reducesTo_S1x128_S_d0_1 h_S_) main_v16 main_c_5
  let main_v18 : IVec S_ 1 := andi main_v13 main_v17
  let main_v19 : FVec F S8192x256 .f32 := Host.absf main_arg6
  let main_cst_6 : FVec F S_ .f32 := constant S_ .f32 0x7F800000#32
  let main_v20 : FVec F S8192x256 .f32 := broadcastInDim S8192x256 ![] bcast_S_S8192x256 main_cst_6
  let main_v21 : IVec S8192x256 1 := cmpf .olt main_v19 main_v20
  let main_c_7 : IVec S_ 1 := constantI S_ 1 1#1
  let main_v22 : IVec S_ 1 := (fun x v => Host.reduce IntOp.andi x v reducesTo_S8192x256_S_d0_1 h_S_) main_v21 main_c_7
  let main_v23 : IVec S_ 1 := andi main_v18 main_v22
  let main_v24 : FVec F S8192x128 .f32 := Host.absf main_arg7
  let main_cst_8 : FVec F S_ .f32 := constant S_ .f32 0x7F800000#32
  let main_v25 : FVec F S8192x128 .f32 := broadcastInDim S8192x128 ![] bcast_S_S8192x128 main_cst_8
  let main_v26 : IVec S8192x128 1 := cmpf .olt main_v24 main_v25
  let main_c_9 : IVec S_ 1 := constantI S_ 1 1#1
  let main_v27 : IVec S_ 1 := (fun x v => Host.reduce IntOp.andi x v reducesTo_S8192x128_S_d0_1 h_S_) main_v26 main_c_9
  let main_v28 : IVec S_ 1 := andi main_v23 main_v27
  main_v28

def fn {F : FTy → Type} [FloatOps F] (main_arg0 : FVec F S8192x256 .f32) (main_arg1 : FVec F S8192x128 .f32) (main_arg2 : FVec F S8192x32 .f32) (main_arg3 : FVec F S8192x8 .f32) (main_arg4 : FVec F S1x256 .f32) (main_arg5 : FVec F S1x128 .f32) (main_arg6 : FVec F S8192x256 .f32) (main_arg7 : FVec F S8192x128 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_v9 : FVec F S1x256 .f32 := Host.absf main_arg4
  let main_cst_2 : FVec F S_ .f32 := constant S_ .f32 0x7F800000#32
  let main_v10 : FVec F S1x256 .f32 := broadcastInDim S1x256 ![] bcast_S_S1x256 main_cst_2
  let main_v11 : IVec S1x256 1 := cmpf .olt main_v9 main_v10
  let main_c_3 : IVec S_ 1 := constantI S_ 1 1#1
  let main_v12 : IVec S_ 1 := (fun x v => Host.reduce IntOp.andi x v reducesTo_S1x256_S_d0_1 h_S_) main_v11 main_c_3
  let main_v13 : IVec S_ 1 := andi main_v8 main_v12
  let main_v14 : FVec F S1x128 .f32 := Host.absf main_arg5
  let main_cst_4 : FVec F S_ .f32 := constant S_ .f32 0x7F800000#32
  let main_v15 : FVec F S1x128 .f32 := broadcastInDim S1x128 ![] bcast_S_S1x128 main_cst_4
  let main_v16 : IVec S1x128 1 := cmpf .olt main_v14 main_v15
  fn_part1 (F := F) main_arg6 main_arg7 main_v13 main_v16
-- ==== Pre_finite_nib.lean ====
abbrev S8192x1024 : Shape := ⟨2, ![8192, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_

variable [Facts]

def fn {F : FTy → Type} [FloatOps F] (main_arg0 : FVec F S8192x1024 .f32) (main_arg1 : FVec F S1x1024 .f32) (main_arg2 : FVec F S8192x1024 .f32) (main_arg3 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S8192x1024 .f32 := Host.absf main_arg3
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  main_v13
-- ==== Pre_finite_o.lean ====
abbrev S8192x512 : Shape := ⟨2, ![8192, 512]⟩
abbrev S512x1024 : Shape := ⟨2, ![512, 1024]⟩
abbrev S8192x1024 : Shape := ⟨2, ![8192, 1024]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S8192x1024 : S_.BroadcastsInDim S8192x1024 (![] : Fin 0 → Fin S8192x1024.rank)
  reducesTo_S8192x1024_S_d0_1 : S8192x1024.ReducesTo [0, 1] S_

variable [Facts]

def fn {F : FTy → Type} [FloatOps F] (main_arg0 : FVec F S8192x512 .f32) (main_arg1 : FVec F S512x1024 .f32) (main_arg2 : FVec F S8192x1024 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S512x1024 .f32 := Host.absf main_arg1
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  main_v13
-- ==== Pre_finite_qkv.lean ====
abbrev S8x8192x96 : Shape := ⟨3, ![8, 8192, 96]⟩
abbrev S8x8192x64 : Shape := ⟨3, ![8, 8192, 64]⟩
abbrev S_ : Shape := ⟨0, ![]⟩

class Facts : Prop where
  bcast_S_S8x8192x96 : S_.BroadcastsInDim S8x8192x96 (![] : Fin 0 → Fin S8x8192x96.rank)
  reducesTo_S8x8192x96_S_d0_1_2 : S8x8192x96.ReducesTo [0, 1, 2] S_
  h_S_ : 0 < S_.numel
  bcast_S_S8x8192x64 : S_.BroadcastsInDim S8x8192x64 (![] : Fin 0 → Fin S8x8192x64.rank)
  reducesTo_S8x8192x64_S_d0_1_2 : S8x8192x64.ReducesTo [0, 1, 2] S_

variable [Facts]

def fn {F : FTy → Type} [FloatOps F] (main_arg0 : FVec F S8x8192x96 .f32) (main_arg1 : FVec F S8x8192x96 .f32) (main_arg2 : FVec F S8x8192x64 .f32) : IVec S_ 1 :=
  let main_v0 : FVec F S8x8192x96 .f32 := Host.absf main_arg0
  let main_cst : FVec F S_ .f32 := constant S_ .f32 0x7F800000#32
  let main_v1 : FVec F S8x8192x96 .f32 := broadcastInDim S8x8192x96 ![] bcast_S_S8x8192x96 main_cst
  let main_v2 : IVec S8x8192x96 1 := cmpf .olt main_v0 main_v1
  let main_c : IVec S_ 1 := constantI S_ 1 1#1
  let main_v3 : IVec S_ 1 := (fun x v => Host.reduce IntOp.andi x v reducesTo_S8x8192x96_S_d0_1_2 h_S_) main_v2 main_c
  let main_v4 : FVec F S8x8192x96 .f32 := Host.absf main_arg1
  let main_cst_0 : FVec F S_ .f32 := constant S_ .f32 0x7F800000#32
  let main_v5 : FVec F S8x8192x96 .f32 := broadcastInDim S8x8192x96 ![] bcast_S_S8x8192x96 main_cst_0
  let main_v6 : IVec S8x8192x96 1 := cmpf .olt main_v4 main_v5
  let main_c_1 : IVec S_ 1 := constantI S_ 1 1#1
  let main_v7 : IVec S_ 1 := (fun x v => Host.reduce IntOp.andi x v reducesTo_S8x8192x96_S_d0_1_2 h_S_) main_v6 main_c_1
  let main_v8 : IVec S_ 1 := andi main_v3 main_v7
  let main_v9 : FVec F S8x8192x64 .f32 := Host.absf main_arg2
  let main_cst_2 : FVec F S_ .f32 := constant S_ .f32 0x7F800000#32
  let main_v10 : FVec F S8x8192x64 .f32 := broadcastInDim S8x8192x64 ![] bcast_S_S8x8192x64 main_cst_2
  let main_v11 : IVec S8x8192x64 1 := cmpf .olt main_v9 main_v10
  let main_c_3 : IVec S_ 1 := constantI S_ 1 1#1
  let main_v12 : IVec S_ 1 := (fun x v => Host.reduce IntOp.andi x v reducesTo_S8x8192x64_S_d0_1_2 h_S_) main_v11 main_c_3
  let main_v13 : IVec S_ 1 := andi main_v8 main_v12
  main_v13
-- ==== Pre_finite_rmb.lean ====
abbrev S8192x1024 : Shape := ⟨2, ![8192, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S8192x1024 .f32) (main_arg5 : FVec F S8192x1024 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S8192x1024 .f32 := Host.absf main_arg4
  let main_cst_6 : FVec F S_ .f32 := constant S_ .f32 0x7F800000#32
  let main_v20 : FVec F S8192x1024 .f32 := broadcastInDim S8192x1024 ![] bcast_S_S8192x1024 main_cst_6
  let main_v21 : IVec S8192x1024 1 := cmpf .olt main_v19 main_v20
  let main_c_7 : IVec S_ 1 := constantI S_ 1 1#1
  let main_v22 : IVec S_ 1 := (fun x v => Host.reduce IntOp.andi x v reducesTo_S8192x1024_S_d0_1 h_S_) main_v21 main_c_7
  let main_v23 : IVec S_ 1 := andi main_v18 main_v22
  let main_v24 : FVec F S8192x1024 .f32 := Host.absf main_arg5
  let main_cst_8 : FVec F S_ .f32 := constant S_ .f32 0x7F800000#32
  let main_v25 : FVec F S8192x1024 .f32 := broadcastInDim S8192x1024 ![] bcast_S_S8192x1024 main_cst_8
  let main_v26 : IVec S8192x1024 1 := cmpf .olt main_v24 main_v25
  let main_c_9 : IVec S_ 1 := constantI S_ 1 1#1
  let main_v27 : IVec S_ 1 := (fun x v => Host.reduce IntOp.andi x v reducesTo_S8192x1024_S_d0_1 h_S_) main_v26 main_c_9
  let main_v28 : IVec S_ 1 := andi main_v23 main_v27
  main_v28

def fn {F : FTy → Type} [FloatOps F] (main_arg0 : FVec F S8192x1024 .f32) (main_arg1 : FVec F S8192x1024 .f32) (main_arg2 : FVec F S1x1024 .f32) (main_arg3 : FVec F S1x1024 .f32) (main_arg4 : FVec F S8192x1024 .f32) (main_arg5 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_arg5 main_v13 main_v16
-- ==== Kernel.lean ====
abbrev S8192x256 : Shape := ⟨2, ![8192, 256]⟩
abbrev S8192x128 : Shape := ⟨2, ![8192, 128]⟩
abbrev S8192x32 : Shape := ⟨2, ![8192, 32]⟩
abbrev S8192x8 : Shape := ⟨2, ![8192, 8]⟩
abbrev S_ : Shape := ⟨0, ![]⟩
abbrev S8192x640 : Shape := ⟨2, ![8192, 640]⟩
abbrev S512x128 : Shape := ⟨2, ![512, 128]⟩
abbrev S1x128 : Shape := ⟨2, ![1, 128]⟩
abbrev S512x512 : Shape := ⟨2, ![512, 512]⟩
abbrev S128 : Shape := ⟨1, ![128]⟩

abbrev nBuf : Space → Nat
  | .hbm => 16
  | .vmem => 7
  | .smem => 0
  | _ => 0

abbrev bufTy : (tb : Table) → Fin (tcTables nBuf tb) → BufTy
  | .hbm, ⟨0, _⟩ => ⟨S8192x256, .f32⟩
  | .hbm, ⟨1, _⟩ => ⟨S8192x128, .f32⟩
  | .hbm, ⟨2, _⟩ => ⟨S8192x32, .f32⟩
  | .hbm, ⟨3, _⟩ => ⟨S8192x8, .f32⟩
  | .hbm, ⟨4, _⟩ => ⟨S8192x8, .f32⟩
  | .hbm, ⟨5, _⟩ => ⟨S_, .i32⟩
  | .hbm, ⟨6, _⟩ => ⟨S_, .f32⟩
  | .hbm, ⟨7, _⟩ => ⟨S8192x128, .f32⟩
  | .hbm, ⟨8, _⟩ => ⟨S_, .i32⟩
  | .hbm, ⟨9, _⟩ => ⟨S_, .f32⟩
  | .hbm, ⟨10, _⟩ => ⟨S8192x128, .f32⟩
  | .hbm, ⟨11, _⟩ => ⟨S8192x640, .f32⟩
  | .hbm, ⟨12, _⟩ => ⟨S_, .i32⟩
  | .hbm, ⟨13, _⟩ => ⟨S_, .f32⟩
  | .hbm, ⟨14, _⟩ => ⟨S8192x128, .f32⟩
  | .hbm, ⟨15, _⟩ => ⟨S8192x128, .bf16⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .bf16⟩
  | .local _ .vmem, ⟨5, _⟩ => ⟨S512x128, .bf16⟩
  | .local _ .vmem, ⟨6, _⟩ => ⟨S1x128, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_c_0 : Ref sig .tc := ⟨.hbm, 8, rfl⟩
abbrev main_call1_v0 : Ref sig .tc := ⟨.hbm, 9, rfl⟩
abbrev main_v1 : Ref sig .tc := ⟨.hbm, 10, rfl⟩
abbrev main_v2 : Ref sig .tc := ⟨.hbm, 11, rfl⟩
abbrev main_c_1 : Ref sig .tc := ⟨.hbm, 12, rfl⟩
abbrev main_call2_v0 : Ref sig .tc := ⟨.hbm, 13, rfl⟩
abbrev main_v3 : Ref sig .tc := ⟨.hbm, 14, rfl⟩
abbrev main_v4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c4_i32 : BitVec 32 := 4#32
  let c0_i32 : BitVec 32 := 0#32
  ![v0.toNat, c4_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S8192x256 : Shape := ⟨2, ![8192, 256]⟩
abbrev S8192x128 : Shape := ⟨2, ![8192, 128]⟩
abbrev S8192x32 : Shape := ⟨2, ![8192, 32]⟩
abbrev S8192x8 : Shape := ⟨2, ![8192, 8]⟩
abbrev S_ : Shape := ⟨0, ![]⟩

abbrev nBuf : Space → Nat
  | .hbm => 66
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x128, .f32⟩
  | .hbm, ⟨2, _⟩ => ⟨S8192x32, .f32⟩
  | .hbm, ⟨3, _⟩ => ⟨S8192x8, .f32⟩
  | .hbm, ⟨4, _⟩ => ⟨S8192x8, .f32⟩
  | .hbm, ⟨5, _⟩ => ⟨S8192x8, .f32⟩
  | .hbm, ⟨6, _⟩ => ⟨S_, .f32⟩
  | .hbm, ⟨7, _⟩ => ⟨S8192x8, .f32⟩
  | .hbm, ⟨8, _⟩ => ⟨S8192x8, .f32⟩
  | .hbm, ⟨9, _⟩ => ⟨S8192x8, .f32⟩
  | .hbm, ⟨10, _⟩ => ⟨S8192x8, .f32⟩
  | .hbm, ⟨11, _⟩ => ⟨S8192x8, .i1⟩
  | .hbm, ⟨12, _⟩ => ⟨S8192x8, .f32⟩
  | .hbm, ⟨13, _⟩ => ⟨S8192x8, .f32⟩
  | .hbm, ⟨14, _⟩ => ⟨S8192x8, .f32⟩
  | .hbm, ⟨15, _⟩ => ⟨S8192x8, .f32⟩
  | .hbm, ⟨16, _⟩ => ⟨S8192x8, .f32⟩
  | .hbm, ⟨17, _⟩ => ⟨S8192x8, .f32⟩
  | .hbm, ⟨18, _⟩ => ⟨S8192x8, .f32⟩
  | .hbm, ⟨19, _⟩ => ⟨S8192x8, .f32⟩
  | .hbm, ⟨20, _⟩ => ⟨S_, .f32⟩
  | .hbm, ⟨21, _⟩ => ⟨S8192x8, .f32⟩
  | .hbm, ⟨22, _⟩ => ⟨S8192x8, .i1⟩
  | .hbm, ⟨23, _⟩ => ⟨S_, .f32⟩
  | .hbm, ⟨24, _⟩ => ⟨S8192x8, .f32⟩
  | .hbm, ⟨25, _⟩ => ⟨S8192x8, .f32⟩
  | .hbm, ⟨26, _⟩ => ⟨S_, .f32⟩
  | .hbm, ⟨27, _⟩ => ⟨S8192x8, .f32⟩
  | .hbm, ⟨28, _⟩ => ⟨S8192x8, .i1⟩
  | .hbm, ⟨29, _⟩ => ⟨S_, .f32⟩
  | .hbm, ⟨30, _⟩ => ⟨S8192x8, .f32⟩
  | .hbm, ⟨31, _⟩ => ⟨S8192x8, .f32⟩
  | .hbm, ⟨32, _⟩ => ⟨S8192x8, .f32⟩
  | .hbm, ⟨33, _⟩ => ⟨S8192x8, .f32⟩
  | .hbm, ⟨34, _⟩ => ⟨S_, .f32⟩
  | .hbm, ⟨35, _⟩ => ⟨S_, .f32⟩
  | .hbm, ⟨36, _⟩ => ⟨S_, .i1⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S8192x8, .f32⟩
  | .hbm, ⟨42, _⟩ => ⟨S8192x8, .i1⟩
  | .hbm, ⟨43, _⟩ => ⟨S_, .f32⟩
  | .hbm, ⟨44, _⟩ => ⟨S8192x8, .f32⟩
  | .hbm, ⟨45, _⟩ => ⟨S8192x8, .f32⟩
  | .hbm, ⟨46, _⟩ => ⟨S8192x8, .f32⟩
  | .hbm, ⟨47, _⟩ => ⟨S8192x8, .f32⟩
  | .hbm, ⟨48, _⟩ => ⟨S8192x8, .f32⟩
  | .hbm, ⟨49, _⟩ => ⟨S_, .f32⟩
  | .hbm, ⟨50, _⟩ => ⟨S8192x8, .f32⟩
  | .hbm, ⟨51, _⟩ => ⟨S8192x8, .f32⟩
  | .hbm, ⟨52, _⟩ => ⟨S8192x8, .f32⟩
  | .hbm, ⟨53, _⟩ => ⟨S_, .f32⟩
  | .hbm, ⟨54, _⟩ => ⟨S_, .f32⟩
  | .hbm, ⟨55, _⟩ => ⟨S8192x8, .f32⟩
  | .hbm, ⟨56, _⟩ => ⟨S_, .f32⟩
  | .hbm, ⟨57, _⟩ => ⟨S_, .f32⟩
  | .hbm, ⟨58, _⟩ => ⟨S8192x8, .f32⟩
  | .hbm, ⟨59, _⟩ => ⟨S8192x8, .f32⟩
  | .hbm, ⟨60, _⟩ => ⟨S8192x8, .f32⟩
  | .hbm, ⟨61, _⟩ => ⟨S8192x8, .f32⟩
  | .hbm, ⟨62, _⟩ => ⟨S8192x8, .bf16⟩
  | .hbm, ⟨63, _⟩ => ⟨S_, .i32⟩
  | .hbm, ⟨64, _⟩ => ⟨S_, .bf16⟩
  | .hbm, ⟨65, _⟩ => ⟨S8192x128, .bf16⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_call0_cst : Ref sig .tc := ⟨.hbm, 6, rfl⟩
abbrev main_call0_call0_v0 : Ref sig .tc := ⟨.hbm, 7, rfl⟩
abbrev main_call0_call0_v1 : Ref sig .tc := ⟨.hbm, 8, rfl⟩
abbrev main_call0_call0_v2 : Ref sig .tc := ⟨.hbm, 9, rfl⟩
abbrev main_call0_call0_v3 : Ref sig .tc := ⟨.hbm, 10, rfl⟩
abbrev main_call0_call0_v4 : Ref sig .tc := ⟨.hbm, 11, rfl⟩
abbrev main_call0_call0_v5 : Ref sig .tc := ⟨.hbm, 12, rfl⟩
abbrev main_call0_call0_v6 : Ref sig .tc := ⟨.hbm, 13, rfl⟩
abbrev main_call0_call0_v7 : Ref sig .tc := ⟨.hbm, 14, rfl⟩
abbrev main_call0_call0_v8 : Ref sig .tc := ⟨.hbm, 15, rfl⟩
abbrev main_call0_call0_v9 : Ref sig .tc := ⟨.hbm, 16, rfl⟩
abbrev main_call0_call0_v10 : Ref sig .tc := ⟨.hbm, 17, rfl⟩
abbrev main_call0_call0_v11 : Ref sig .tc := ⟨.hbm, 18, rfl⟩
abbrev main_call0_v1_0 : Ref sig .tc := ⟨.hbm, 19, rfl⟩
abbrev main_call0_call0_cst_0 : Ref sig .tc := ⟨.hbm, 20, rfl⟩
abbrev main_call0_call0_v13 : Ref sig .tc := ⟨.hbm, 21, rfl⟩
abbrev main_call0_call0_v14 : Ref sig .tc := ⟨.hbm, 22, rfl⟩
abbrev main_call0_call0_cst_1 : Ref sig .tc := ⟨.hbm, 23, rfl⟩
abbrev main_call0_call0_v15 : Ref sig .tc := ⟨.hbm, 24, rfl⟩
abbrev main_call0_call0_v16 : Ref sig .tc := ⟨.hbm, 25, rfl⟩
abbrev main_call0_call0_cst_2 : Ref sig .tc := ⟨.hbm, 26, rfl⟩
abbrev main_call0_call0_v17 : Ref sig .tc := ⟨.hbm, 27, rfl⟩
abbrev main_call0_call0_v18 : Ref sig .tc := ⟨.hbm, 28, rfl⟩
abbrev main_call0_call0_cst_3 : Ref sig .tc := ⟨.hbm, 29, rfl⟩
abbrev main_call0_call0_v19 : Ref sig .tc := ⟨.hbm, 30, rfl⟩
abbrev main_call0_call0_v20 : Ref sig .tc := ⟨.hbm, 31, rfl⟩
abbrev main_call0_call0_v21 : Ref sig .tc := ⟨.hbm, 32, rfl⟩
abbrev main_v0_1 : Ref sig .tc := ⟨.hbm, 33, rfl⟩
abbrev main_call0_call0_cst_4 : Ref sig .tc := ⟨.hbm, 34, rfl⟩
abbrev main_call0_call0_cst_5 : Ref sig .tc := ⟨.hbm, 35, rfl⟩
abbrev main_call0_call0_v23 : Ref sig .tc := ⟨.hbm, 36, rfl⟩
abbrev main_call0_call0_cst_6 : Ref sig .tc := ⟨.hbm, 37, rfl⟩
abbrev main_call0_call0_cst_7 : Ref sig .tc := ⟨.hbm, 38, rfl⟩
abbrev main_call0_call0_v24 : Ref sig .tc := ⟨.hbm, 39, rfl⟩
abbrev main_call0_call0_cst_8 : Ref sig .tc := ⟨.hbm, 40, rfl⟩
abbrev main_call0_call0_v25 : Ref sig .tc := ⟨.hbm, 41, rfl⟩
abbrev main_call0_call0_v26 : Ref sig .tc := ⟨.hbm, 42, rfl⟩
abbrev main_call0_call0_cst_9 : Ref sig .tc := ⟨.hbm, 43, rfl⟩
abbrev main_call0_call0_v27 : Ref sig .tc := ⟨.hbm, 44, rfl⟩
abbrev main_call0_call0_v28 : Ref sig .tc := ⟨.hbm, 45, rfl⟩
abbrev main_call0_call0_v29 : Ref sig .tc := ⟨.hbm, 46, rfl⟩
abbrev main_call0_call0_v30 : Ref sig .tc := ⟨.hbm, 47, rfl⟩
abbrev main_call0_call0_v31 : Ref sig .tc := ⟨.hbm, 48, rfl⟩
abbrev main_call0_call0_cst_10 : Ref sig .tc := ⟨.hbm, 49, rfl⟩
abbrev main_call0_call0_v32 : Ref sig .tc := ⟨.hbm, 50, rfl⟩
abbrev main_v0_2 : Ref sig .tc := ⟨.hbm, 51, rfl⟩
abbrev main_v0_0 : Ref sig .tc := ⟨.hbm, 52, rfl⟩
abbrev main_call1_call0_cst : Ref sig .tc := ⟨.hbm, 53, rfl⟩
abbrev main_call1_call0_v0 : Ref sig .tc := ⟨.hbm, 54, rfl⟩
abbrev main_v1 : Ref sig .tc := ⟨.hbm, 55, rfl⟩
abbrev main_call2_call0_cst : Ref sig .tc := ⟨.hbm, 56, rfl⟩
abbrev main_call2_call0_v0 : Ref sig .tc := ⟨.hbm, 57, rfl⟩
abbrev main_v2 : Ref sig .tc := ⟨.hbm, 58, rfl⟩
abbrev main_call3_v0 : Ref sig .tc := ⟨.hbm, 59, rfl⟩
abbrev main_call3_v1 : Ref sig .tc := ⟨.hbm, 60, rfl⟩
abbrev main_v3 : Ref sig .tc := ⟨.hbm, 61, rfl⟩
abbrev main_v4 : Ref sig .tc := ⟨.hbm, 62, rfl⟩
abbrev main_c : Ref sig .tc := ⟨.hbm, 63, rfl⟩
abbrev main_call4_v0 : Ref sig .tc := ⟨.hbm, 64, rfl⟩
abbrev main_v5 : Ref sig .tc := ⟨.hbm, 65, rfl⟩

abbrev nD : Nat := 1
abbrev τ : Topo := Topo.v7x

variable {F : FTy → Type} [FloatOps F]
-- ==== Kernel2.lean ====
abbrev S8192x512 : Shape := ⟨2, ![8192, 512]⟩
abbrev S8192x8 : Shape := ⟨2, ![8192, 8]⟩
abbrev S8192x8x64 : Shape := ⟨3, ![8192, 8, 64]⟩
abbrev S8x8192x64 : Shape := ⟨3, ![8, 8192, 64]⟩
abbrev S8x8192 : Shape := ⟨2, ![8, 8192]⟩
abbrev S8x8192x8192 : Shape := ⟨3, ![8, 8192, 8192]⟩
abbrev S_ : Shape := ⟨0, ![]⟩
abbrev S8x8192x1 : Shape := ⟨3, ![8, 8192, 1]⟩
abbrev S8x1x8192 : Shape := ⟨3, ![8, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x8192x73 : Shape := ⟨3, ![8, 8192, 73]⟩
abbrev S8x8192x128 : Shape := ⟨3, ![8, 8192, 128]⟩
abbrev S8192x8x128 : Shape := ⟨3, ![8192, 8, 128]⟩
abbrev S8192x1024 : Shape := ⟨2, ![8192, 1024]⟩
abbrev S8x8192x67 : Shape := ⟨3, ![8, 8192, 67]⟩
abbrev S8192x128 : Shape := ⟨2, ![8192, 128]⟩
abbrev S1024x128 : Shape := ⟨2, ![1024, 128]⟩
abbrev S512x128 : Shape := ⟨2, ![512, 128]⟩
abbrev S1024x512 : Shape := ⟨2, ![1024, 512]⟩
abbrev S512x512 : Shape := ⟨2, ![512, 512]⟩
abbrev S1024x1024 : Shape := ⟨2, ![1024, 1024]⟩

abbrev nBuf : Space → Nat
  | .hbm => 182
  | .vmem => 14
  | .smem => 0
  | _ => 0

abbrev hbmTy0_0 (i : Nat) : BufTy := match i % 128 with
  | 0 => ⟨S8192x512, .f32⟩
  | 1 => ⟨S8192x512, .f32⟩
  | 2 => ⟨S8192x512, .f32⟩
  | 3 => ⟨S8192x8, .f32⟩
  | 4 => ⟨S8192x512, .f32⟩
  | 5 => ⟨S8192x8x64, .f32⟩
  | 6 => ⟨S8x8192x64, .f32⟩
  | 7 => ⟨S8192x8x64, .f32⟩
  | 8 => ⟨S8x8192x64, .f32⟩
  | 9 => ⟨S8192x8x64, .f32⟩
  | 10 => ⟨S8x8192x64, .f32⟩
  | 11 => ⟨S8x8192, .f32⟩
  | 12 => ⟨S8x8192x8192, .f32⟩
  | 13 => ⟨S_, .f32⟩
  | 14 => ⟨S8x8192x8192, .f32⟩
  | 15 => ⟨S8x8192x8192, .f32⟩
  | 16 => ⟨S8x8192x1, .f32⟩
  | 17 => ⟨S8x8192x8192, .f32⟩
  | 18 => ⟨S8x8192x8192, .f32⟩
  | 19 => ⟨S8x1x8192, .f32⟩
  | 20 => ⟨S8x8192x8192, .f32⟩
  | 21 => ⟨S8x8192x8192, .f32⟩
  | 22 => ⟨S8192, .i32⟩
  | 23 => ⟨S1x8192, .i32⟩
  | 24 => ⟨S8192x1, .i32⟩
  | 25 => ⟨S8192x8192, .i32⟩
  | 26 => ⟨S8192x8192, .i32⟩
  | 27 => ⟨S8192x8192, .i1⟩
  | 28 => ⟨S_, .f32⟩
  | 29 => ⟨S_, .f32⟩
  | 30 => ⟨S8x8192x8192, .i1⟩
  | 31 => ⟨S8x8192x8192, .f32⟩
  | 32 => ⟨S8x8192x8192, .f32⟩
  | 33 => ⟨S_, .f32⟩
  | 34 => ⟨S8x8192, .f32⟩
  | 35 => ⟨S8x8192x1, .f32⟩
  | 36 => ⟨S8x8192x8192, .f32⟩
  | 37 => ⟨S8x8192x8192, .f32⟩
  | 38 => ⟨S8x8192x8192, .f32⟩
  | 39 => ⟨S_, .f32⟩
  | 40 => ⟨S8x8192, .f32⟩
  | 41 => ⟨S8x8192x1, .f32⟩
  | 42 => ⟨S8x8192x8192, .f32⟩
  | 43 => ⟨S8x8192x8192, .f32⟩
  | 44 => ⟨S8x8192x64, .f32⟩
  | 45 => ⟨S8x8192, .f32⟩
  | 46 => ⟨S8x8192, .f32⟩
  | 47 => ⟨S_, .f32⟩
  | 48 => ⟨S8x8192, .f32⟩
  | 49 => ⟨S8x8192, .f32⟩
  | 50 => ⟨S8192x8x64, .f32⟩
  | 51 => ⟨S8x8192x64, .f32⟩
  | 52 => ⟨S8x8192x64, .f32⟩
  | 53 => ⟨S_, .f32⟩
  | 54 => ⟨S8x8192, .f32⟩
  | 55 => ⟨S_, .f32⟩
  | 56 => ⟨S8192x8, .f32⟩
  | 57 => ⟨S8192x8, .f32⟩
  | 58 => ⟨S8x8192, .f32⟩
  | 59 => ⟨S8x8192, .bf16⟩
  | 60 => ⟨S8x8192, .f32⟩
  | 61 => ⟨S8x8192, .f32⟩
  | 62 => ⟨S8x8192, .bf16⟩
  | 63 => ⟨S8x8192, .f32⟩
  | 64 => ⟨S8x8192, .f32⟩
  | 65 => ⟨S8x8192, .bf16⟩
  | 66 => ⟨S8x8192, .f32⟩
  | 67 => ⟨S8x8192, .f32⟩
  | 68 => ⟨S8x8192, .bf16⟩
  | 69 => ⟨S8x8192, .f32⟩
  | 70 => ⟨S8x8192, .f32⟩
  | 71 => ⟨S8x8192, .bf16⟩
  | 72 => ⟨S8x8192, .f32⟩
  | 73 => ⟨S8x8192, .f32⟩
  | 74 => ⟨S8x8192, .bf16⟩
  | 75 => ⟨S8x8192, .f32⟩
  | 76 => ⟨S8192x8x64, .f32⟩
  | 77 => ⟨S8x8192x64, .f32⟩
  | 78 => ⟨S8x8192x1, .f32⟩
  | 79 => ⟨S8x8192x1, .f32⟩
  | 80 => ⟨S8x8192x1, .f32⟩
  | 81 => ⟨S8x8192x1, .f32⟩
  | 82 => ⟨S8x8192x1, .f32⟩
  | 83 => ⟨S8x8192x1, .f32⟩
  | 84 => ⟨S_, .f32⟩
  | 85 => ⟨S8x8192, .f32⟩
  | 86 => ⟨S8x8192x1, .f32⟩
  | 87 => ⟨S_, .f32⟩
  | 88 => ⟨S8x8192, .f32⟩
  | 89 => ⟨S8x8192x1, .f32⟩
  | 90 => ⟨S_, .f32⟩
  | 91 => ⟨S8x8192, .f32⟩
  | 92 => ⟨S8x8192x1, .f32⟩
  | 93 => ⟨S8x8192x73, .f32⟩
  | 94 => ⟨S_, .i32⟩
  | 95 => ⟨S_, .f32⟩
  | 96 => ⟨S8x8192x128, .f32⟩
  | 97 => ⟨S8192x8x128, .f32⟩
  | 98 => ⟨S8192x1024, .f32⟩
  | 99 => ⟨S8192x1024, .bf16⟩
  | 100 => ⟨S8x8192, .f32⟩
  | 101 => ⟨S8x8192, .f32⟩
  | 102 => ⟨S8x8192, .bf16⟩
  | 103 => ⟨S8x8192, .f32⟩
  | 104 => ⟨S8x8192, .f32⟩
  | 105 => ⟨S8x8192, .bf16⟩
  | 106 => ⟨S8x8192, .f32⟩
  | 107 => ⟨S8x8192, .f32⟩
  | 108 => ⟨S8x8192, .bf16⟩
  | 109 => ⟨S8x8192, .f32⟩
  | 110 => ⟨S8192x8x64, .f32⟩
  | 111 => ⟨S8x8192x64, .f32⟩
  | 112 => ⟨S_, .f32⟩
  | 113 => ⟨S8x8192, .f32⟩
  | 114 => ⟨S8x8192x1, .f32⟩
  | 115 => ⟨S_, .f32⟩
  | 116 => ⟨S8x8192, .f32⟩
  | 117 => ⟨S8x8192x1, .f32⟩
  | 118 => ⟨S_, .f32⟩
  | 119 => ⟨S8x8192, .f32⟩
  | 120 => ⟨S8x8192x1, .f32⟩
  | 121 => ⟨S_, .f32⟩
  | 122 => ⟨S8x8192, .f32⟩
  | 123 => ⟨S8x8192x1, .f32⟩
  | 124 => ⟨S_, .f32⟩
  | 125 => ⟨S8x8192, .f32⟩
  | 126 => ⟨S8x8192x1, .f32⟩
  | 127 => ⟨S_, .f32⟩
  | _ => ⟨S8192x512, .f32⟩

abbrev hbmTy0_1 (i : Nat) : BufTy := match i % 128 with
  | 0 => ⟨S8x8192, .f32⟩
  | 1 => ⟨S8x8192x1, .f32⟩
  | 2 => ⟨S8x8192x1, .f32⟩
  | 3 => ⟨S8x8192x1, .f32⟩
  | 4 => ⟨S8x8192x1, .f32⟩
  | 5 => ⟨S8x8192x73, .f32⟩
  | 6 => ⟨S_, .i32⟩
  | 7 => ⟨S_, .f32⟩
  | 8 => ⟨S8x8192x128, .f32⟩
  | 9 => ⟨S8192x8x128, .f32⟩
  | 10 => ⟨S8192x1024, .f32⟩
  | 11 => ⟨S8192x1024, .bf16⟩
  | 12 => ⟨S8192x8x64, .f32⟩
  | 13 => ⟨S8x8192x64, .f32⟩
  | 14 => ⟨S_, .f32⟩
  | 15 => ⟨S8x8192, .f32⟩
  | 16 => ⟨S8x8192x1, .f32⟩
  | 17 => ⟨S_, .f32⟩
  | 18 => ⟨S8x8192, .f32⟩
  | 19 => ⟨S8x8192x1, .f32⟩
  | 20 => ⟨S_, .f32⟩
  | 21 => ⟨S8x8192, .f32⟩
  | 22 => ⟨S8x8192x1, .f32⟩
  | 23 => ⟨S8x8192x67, .f32⟩
  | 24 => ⟨S_, .i32⟩
  | 25 => ⟨S_, .f32⟩
  | 26 => ⟨S8x8192x128, .f32⟩
  | 27 => ⟨S8192x8x128, .f32⟩
  | 28 => ⟨S8192x1024, .f32⟩
  | 29 => ⟨S8192x1024, .bf16⟩
  | 30 => ⟨S8x8192, .f32⟩
  | 31 => ⟨S8x8192, .bf16⟩
  | 32 => ⟨S8x8192, .f32⟩
  | 33 => ⟨S8x8192, .f32⟩
  | 34 => ⟨S8x8192, .bf16⟩
  | 35 => ⟨S8x8192, .f32⟩
  | 36 => ⟨S8x8192, .f32⟩
  | 37 => ⟨S8x8192, .bf16⟩
  | 38 => ⟨S8x8192, .f32⟩
  | 39 => ⟨S8192x8x64, .f32⟩
  | 40 => ⟨S8x8192x64, .f32⟩
  | 41 => ⟨S8x8192x1, .f32⟩
  | 42 => ⟨S8x8192x1, .f32⟩
  | 43 => ⟨S8x8192x1, .f32⟩
  | 44 => ⟨S8x8192x67, .f32⟩
  | 45 => ⟨S_, .i32⟩
  | 46 => ⟨S_, .f32⟩
  | 47 => ⟨S8x8192x128, .f32⟩
  | 48 => ⟨S8192x8x128, .f32⟩
  | 49 => ⟨S8192x1024, .f32⟩
  | 50 => ⟨S8192x1024, .bf16⟩
  | 51 => ⟨S8192x1024, .f32⟩
  | 52 => ⟨S8192x1024, .bf16⟩
  | 53 => ⟨S8192x1024, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | .local _ .vmem, ⟨0, _⟩ => ⟨S8192x128, .bf16⟩
  | .local _ .vmem, ⟨1, _⟩ => ⟨S8192x128, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .bf16⟩
  | .local _ .vmem, ⟨5, _⟩ => ⟨S1024x128, .bf16⟩
  | .local _ .vmem, ⟨6, _⟩ => ⟨S8192x128, .bf16⟩
  | .local _ .vmem, ⟨7, _⟩ => ⟨S8192x128, .bf16⟩
  | .local _ .vmem, ⟨8, _⟩ => ⟨S1024x128, .f32⟩
  | .local _ .vmem, ⟨9, _⟩ => ⟨S1024x128, .f32⟩
  | .local _ .vmem, ⟨10, _⟩ => ⟨S1024x128, .bf16⟩
  | .local _ .vmem, ⟨11, _⟩ => ⟨S1024x128, .bf16⟩
  | .local _ .vmem, ⟨12, _⟩ => ⟨S8192x128, .f32⟩
  | .local _ .vmem, ⟨13, _⟩ => ⟨S8192x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_0 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_2 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_3 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_4 : Ref sig .tc := ⟨.hbm, 53, rfl⟩
abbrev main_v40 : Ref sig .tc := ⟨.hbm, 54, rfl⟩
abbrev main_cst_5 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_cst_6 : Ref sig .tc := ⟨.hbm, 84, rfl⟩
abbrev main_v69 : Ref sig .tc := ⟨.hbm, 85, rfl⟩
abbrev main_v70 : Ref sig .tc := ⟨.hbm, 86, rfl⟩
abbrev main_cst_7 : Ref sig .tc := ⟨.hbm, 87, rfl⟩
abbrev main_v71 : Ref sig .tc := ⟨.hbm, 88, rfl⟩
abbrev main_v72 : Ref sig .tc := ⟨.hbm, 89, rfl⟩
abbrev main_cst_8 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_c : Ref sig .tc := ⟨.hbm, 94, rfl⟩
abbrev main_call1_v0 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_cst_9 : Ref sig .tc := ⟨.hbm, 112, rfl⟩
abbrev main_v92 : Ref sig .tc := ⟨.hbm, 113, rfl⟩
abbrev main_v93 : Ref sig .tc := ⟨.hbm, 114, rfl⟩
abbrev main_cst_10 : Ref sig .tc := ⟨.hbm, 115, rfl⟩
abbrev main_v94 : Ref sig .tc := ⟨.hbm, 116, rfl⟩
abbrev main_v95 : Ref sig .tc := ⟨.hbm, 117, rfl⟩
abbrev main_cst_11 : Ref sig .tc := ⟨.hbm, 118, rfl⟩
abbrev main_v96 : Ref sig .tc := ⟨.hbm, 119, rfl⟩
abbrev main_v97 : Ref sig .tc := ⟨.hbm, 120, rfl⟩
abbrev main_cst_12 : Ref sig .tc := ⟨.hbm, 121, rfl⟩
abbrev main_v98 : Ref sig .tc := ⟨.hbm, 122, rfl⟩
abbrev main_v99 : Ref sig .tc := ⟨.hbm, 123, rfl⟩
abbrev main_cst_13 : Ref sig .tc := ⟨.hbm, 124, rfl⟩
abbrev main_v100 : Ref sig .tc := ⟨.hbm, 125, rfl⟩
abbrev main_v101 : Ref sig .tc := ⟨.hbm, 126, rfl⟩
abbrev main_cst_14 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_c_15 : Ref sig .tc := ⟨.hbm, 134, rfl⟩
abbrev main_call2_v0 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_cst_16 : Ref sig .tc := ⟨.hbm, 142, rfl⟩
abbrev main_v114 : Ref sig .tc := ⟨.hbm, 143, rfl⟩
abbrev main_v115 : Ref sig .tc := ⟨.hbm, 144, rfl⟩
abbrev main_cst_17 : Ref sig .tc := ⟨.hbm, 145, rfl⟩
abbrev main_v116 : Ref sig .tc := ⟨.hbm, 146, rfl⟩
abbrev main_v117 : Ref sig .tc := ⟨.hbm, 147, rfl⟩
abbrev main_cst_18 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_c_19 : Ref sig .tc := ⟨.hbm, 152, rfl⟩
abbrev main_call3_v0 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_c_20 : Ref sig .tc := ⟨.hbm, 173, rfl⟩
abbrev main_call4_v0 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144_0 : Ref sig .tc := ⟨.hbm, 179, rfl⟩
abbrev main_v144_1 : Ref sig .tc := ⟨.hbm, 180, rfl⟩
abbrev main_v144_2 : Ref sig .tc := ⟨.hbm, 181, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c1024_i32 : BitVec 32 := 1024#32
  let v9 : BitVec 32 := Scalar.muli arg1 c1024_i32
  let c512_i32 : BitVec 32 := 512#32
  let v10 : BitVec 32 := Scalar.addi v9 c512_i32
  v10
def k0_off1 (i : grid0.Coords) : Fin 2 → Nat :=
  let arg1 : BitVec 32 := BitVec.ofNat 32 (i 1).val
  let c1024_i32 : BitVec 32 := 1024#32
  let v9 : BitVec 32 := Scalar.muli arg1 c1024_i32
  let c512_i32 : BitVec 32 := 512#32
  let v10 : BitVec 32 := Scalar.addi v9 c512_i32
  let v11 : BitVec 32 := v10
  let v12 : Index := Scalar.indexCast v11
  let c0_5 : Index := 0#32
  ![v12.toNat, 0]
def k0_mult2 (i : grid0.Coords) : BitVec 32 :=
  let arg1 : BitVec 32 := BitVec.ofNat 32 (i 1).val
  let c1024_i32_17 : BitVec 32 := 1024#32
  let v44 : BitVec 32 := Scalar.muli arg1 c1024_i32_17
  v44
def k0_off2 (i : grid0.Coords) : Fin 2 → Nat :=
  let arg1 : BitVec 32 := BitVec.ofNat 32 (i 1).val
  let c1024_i32_17 : BitVec 32 := 1024#32
  let v44 : BitVec 32 := Scalar.muli arg1 c1024_i32_17
  let v45 : BitVec 32 := v44
  let v46 : Index := Scalar.indexCast v45
  let c0_18 : Index := 0#32
  ![v46.toNat, 0]
def k0_cond2 (i : grid0.Coords) : BitVec 1 :=
  let c7_i32 : BitVec 32 := 7#32
  let arg1 : BitVec 32 := BitVec.ofNat 32 (i 1).val
  let v86 : BitVec 32 := Scalar.subi c7_i32 arg1
  let c1_i32 : BitVec 32 := 1#32
  let v87 : BitVec 32 := Scalar.andi v86 c1_i32
  let c1_i32_30 : BitVec 32 := 1#32
  let v88 : BitVec 1 := Scalar.cmpi .eq v87 c1_i32_30
  let v89 : BitVec 32 := Scalar.extui v88
  let c0_i32_31 : BitVec 32 := 0#32
  let v90 : BitVec 1 := Scalar.cmpi .ne v89 c0_i32_31
  v90

def k0_mult3 (i : grid0.Coords) : BitVec 32 :=
  let arg1 : BitVec 32 := BitVec.ofNat 32 (i 1).val
  let c1_i32_47 : BitVec 32 := 1#32
  let v116 : BitVec 32 := Scalar.addi arg1 c1_i32_47
  let c1024_i32_48 : BitVec 32 := 1024#32
  let v117 : BitVec 32 := Scalar.muli v116 c1024_i32_48
  v117
def k0_off3 (i : grid0.Coords) : Fin 2 → Nat :=
  let arg1 : BitVec 32 := BitVec.ofNat 32 (i 1).val
  let c1_i32_47 : BitVec 32 := 1#32
  let v116 : BitVec 32 := Scalar.addi arg1 c1_i32_47
  let c1024_i32_48 : BitVec 32 := 1024#32
  let v117 : BitVec 32 := Scalar.muli v116 c1024_i32_48
  let v118 : BitVec 32 := v117
  let v119 : Index := Scalar.indexCast v118
  let c0_49 : Index := 0#32
  ![v119.toNat, 0]
@[reducible] def k0_t1_loop (i : grid0.Coords) : Scf.Loop 32 :=
  let c0_i32_35 : BitVec 32 := 0#32
  let c7_i32 : BitVec 32 := 7#32
  let arg1 : BitVec 32 := BitVec.ofNat 32 (i 1).val
  let v86 : BitVec 32 := Scalar.subi c7_i32 arg1
  let c1_i32_34 : BitVec 32 := 1#32
  let v95 : BitVec 32 := Scalar.shrsi v86 c1_i32_34
  let v96 : BitVec 32 := Scalar.subi v95 c0_i32_35
  let c1_i32_36 : BitVec 32 := 1#32
  let v98 : BitVec 32 := Scalar.divsi v96 c1_i32_36
  let v99 : BitVec 32 := Scalar.muli v98 c1_i32_36
  let v100 : BitVec 32 := Scalar.addi c0_i32_35 v99
  let c1_i32_37 : BitVec 32 := 1#32
  ⟨c0_i32_35, v100, c1_i32_37⟩
def k0_mult4 (i : grid0.Coords) (k0_t1 : Fin (k0_t1_loop i).trips) : BitVec 32 :=
  let arg1 : BitVec 32 := BitVec.ofNat 32 (i 1).val
  let c1_i32_32 : BitVec 32 := 1#32
  let v92 : BitVec 32 := Scalar.addi arg1 c1_i32_32
  let c7_i32 : BitVec 32 := 7#32
  let v86 : BitVec 32 := Scalar.subi c7_i32 arg1
  let c1_i32_33 : BitVec 32 := 1#32
  let v93 : BitVec 32 := Scalar.andi v86 c1_i32_33
  let v94 : BitVec 32 := Scalar.addi v92 v93
  let c2_i32 : BitVec 32 := 2#32
  let c0_i32_35 : BitVec 32 := 0#32
  let c1_i32_37 : BitVec 32 := 1#32
  let arg9 : BitVec 32 := Scf.iv c0_i32_35 c1_i32_37 k0_t1
  let v116 : BitVec 32 := Scalar.muli c2_i32 arg9
  let v117 : BitVec 32 := Scalar.addi v94 v116
  let c1024_i32_48 : BitVec 32 := 1024#32
  let v119 : BitVec 32 := Scalar.muli v117 c1024_i32_48
  v119
def k0_off4 (i : grid0.Coords) (k0_t1 : Fin (k0_t1_loop i).trips) : Fin 2 → Nat :=
  let arg1 : BitVec 32 := BitVec.ofNat 32 (i 1).val
  let c1_i32_32 : BitVec 32 := 1#32
  let v92 : BitVec 32 := Scalar.addi arg1 c1_i32_32
  let c7_i32 : BitVec 32 := 7#32
  let v86 : BitVec 32 := Scalar.subi c7_i32 arg1
  let c1_i32_33 : BitVec 32 := 1#32
  let v93 : BitVec 32 := Scalar.andi v86 c1_i32_33
  let v94 : BitVec 32 := Scalar.addi v92 v93
  let c2_i32 : BitVec 32 := 2#32
  let c0_i32_35 : BitVec 32 := 0#32
  let c1_i32_37 : BitVec 32 := 1#32
  let arg9 : BitVec 32 := Scf.iv c0_i32_35 c1_i32_37 k0_t1
  let v116 : BitVec 32 := Scalar.muli c2_i32 arg9
  let v117 : BitVec 32 := Scalar.addi v94 v116
  let c1024_i32_48 : BitVec 32 := 1024#32
  let v119 : BitVec 32 := Scalar.muli v117 c1024_i32_48
  let v120 : BitVec 32 := v119
  let v121 : Index := Scalar.indexCast v120
  let c0_49 : Index := 0#32
  ![v121.toNat, 0]
def k0_mult5 (i : grid0.Coords) (k0_t1 : Fin (k0_t1_loop i).trips) : BitVec 32 :=
  let arg1 : BitVec 32 := BitVec.ofNat 32 (i 1).val
  let c1_i32_32 : BitVec 32 := 1#32
  let v92 : BitVec 32 := Scalar.addi arg1 c1_i32_32
  let c7_i32 : BitVec 32 := 7#32
  let v86 : BitVec 32 := Scalar.subi c7_i32 arg1
  let c1_i32_33 : BitVec 32 := 1#32
  let v93 : BitVec 32 := Scalar.andi v86 c1_i32_33
  let v94 : BitVec 32 := Scalar.addi v92 v93
  let c2_i32 : BitVec 32 := 2#32
  let c0_i32_35 : BitVec 32 := 0#32
  let c1_i32_37 : BitVec 32 := 1#32
  let arg9 : BitVec 32 := Scf.iv c0_i32_35 c1_i32_37 k0_t1
  let v116 : BitVec 32 := Scalar.muli c2_i32 arg9
  let v117 : BitVec 32 := Scalar.addi v94 v116
  let c1_i32_47 : BitVec 32 := 1#32
  let v118 : BitVec 32 := Scalar.addi v117 c1_i32_47
  let c1024_i32_59 : BitVec 32 := 1024#32
  let v146 : BitVec 32 := Scalar.muli v118 c1024_i32_59
  v146
def k0_off5 (i : grid0.Coords) (k0_t1 : Fin (k0_t1_loop i).trips) : Fin 2 → Nat :=
  let arg1 : BitVec 32 := BitVec.ofNat 32 (i 1).val
  let c1_i32_32 : BitVec 32 := 1#32
  let v92 : BitVec 32 := Scalar.addi arg1 c1_i32_32
  let c7_i32 : BitVec 32 := 7#32
  let v86 : BitVec 32 := Scalar.subi c7_i32 arg1
  let c1_i32_33 : BitVec 32 := 1#32
  let v93 : BitVec 32 := Scalar.andi v86 c1_i32_33
  let v94 : BitVec 32 := Scalar.addi v92 v93
  let c2_i32 : BitVec 32 := 2#32
  let c0_i32_35 : BitVec 32 := 0#32
  let c1_i32_37 : BitVec 32 := 1#32
  let arg9 : BitVec 32 := Scf.iv c0_i32_35 c1_i32_37 k0_t1
  let v116 : BitVec 32 := Scalar.muli c2_i32 arg9
  let v117 : BitVec 32 := Scalar.addi v94 v116
  let c1_i32_47 : BitVec 32 := 1#32
  let v118 : BitVec 32 := Scalar.addi v117 c1_i32_47
  let c1024_i32_59 : BitVec 32 := 1024#32
  let v146 : BitVec 32 := Scalar.muli v118 c1024_i32_59
  let v147 : BitVec 32 := v146
  let v148 : Index := Scalar.indexCast v147
  let c0_60 : Index := 0#32
  ![v148.toNat, 0]
@[reducible] def k0_t2_loop (i : grid0.Coords) : Scf.Loop 32 :=
  let c0_i32_35 : BitVec 32 := 0#32
  let c7_i32 : BitVec 32 := 7#32
  let arg1 : BitVec 32 := BitVec.ofNat 32 (i 1).val
  let v86 : BitVec 32 := Scalar.subi c7_i32 arg1
  let c1_i32_34 : BitVec 32 := 1#32
  let v95 : BitVec 32 := Scalar.shrsi v86 c1_i32_34
  let v96 : BitVec 32 := Scalar.subi v95 c0_i32_35
  let c1_i32_36 : BitVec 32 := 1#32
  let v98 : BitVec 32 := Scalar.divsi v96 c1_i32_36
  let v99 : BitVec 32 := Scalar.muli v98 c1_i32_36
  let v100 : BitVec 32 := Scalar.addi c0_i32_35 v99
  let v97 : BitVec 32 := Scalar.addi c0_i32_35 v96
  let c1_i32_38 : BitVec 32 := 1#32
  ⟨v100, v97, c1_i32_38⟩
def k0_mult6 (i : grid0.Coords) (k0_t2 : Fin (k0_t2_loop i).trips) : BitVec 32 :=
  let arg1 : BitVec 32 := BitVec.ofNat 32 (i 1).val
  let c1_i32_32 : BitVec 32 := 1#32
  let v92 : BitVec 32 := Scalar.addi arg1 c1_i32_32
  let c7_i32 : BitVec 32 := 7#32
  let v86 : BitVec 32 := Scalar.subi c7_i32 arg1
  let c1_i32_33 : BitVec 32 := 1#32
  let v93 : BitVec 32 := Scalar.andi v86 c1_i32_33
  let v94 : BitVec 32 := Scalar.addi v92 v93
  let c2_i32 : BitVec 32 := 2#32
  let c0_i32_35 : BitVec 32 := 0#32
  let c1_i32_34 : BitVec 32 := 1#32
  let v95 : BitVec 32 := Scalar.shrsi v86 c1_i32_34
  let v96 : BitVec 32 := Scalar.subi v95 c0_i32_35
  let c1_i32_36 : BitVec 32 := 1#32
  let v98 : BitVec 32 := Scalar.divsi v96 c1_i32_36
  let v99 : BitVec 32 := Scalar.muli v98 c1_i32_36
  let v100 : BitVec 32 := Scalar.addi c0_i32_35 v99
  let c1_i32_38 : BitVec 32 := 1#32
  let arg9 : BitVec 32 := Scf.iv v100 c1_i32_38 k0_t2
  let v116 : BitVec 32 := Scalar.muli c2_i32 arg9
  let v117 : BitVec 32 := Scalar.addi v94 v116
  let c1024_i32_48 : BitVec 32 := 1024#32
  let v119 : BitVec 32 := Scalar.muli v117 c1024_i32_48
  v119
def k0_off6 (i : grid0.Coords) (k0_t2 : Fin (k0_t2_loop i).trips) : Fin 2 → Nat :=
  let arg1 : BitVec 32 := BitVec.ofNat 32 (i 1).val
  let c1_i32_32 : BitVec 32 := 1#32
  let v92 : BitVec 32 := Scalar.addi arg1 c1_i32_32
  let c7_i32 : BitVec 32 := 7#32
  let v86 : BitVec 32 := Scalar.subi c7_i32 arg1
  let c1_i32_33 : BitVec 32 := 1#32
  let v93 : BitVec 32 := Scalar.andi v86 c1_i32_33
  let v94 : BitVec 32 := Scalar.addi v92 v93
  let c2_i32 : BitVec 32 := 2#32
  let c0_i32_35 : BitVec 32 := 0#32
  let c1_i32_34 : BitVec 32 := 1#32
  let v95 : BitVec 32 := Scalar.shrsi v86 c1_i32_34
  let v96 : BitVec 32 := Scalar.subi v95 c0_i32_35
  let c1_i32_36 : BitVec 32 := 1#32
  let v98 : BitVec 32 := Scalar.divsi v96 c1_i32_36
  let v99 : BitVec 32 := Scalar.muli v98 c1_i32_36
  let v100 : BitVec 32 := Scalar.addi c0_i32_35 v99
  let c1_i32_38 : BitVec 32 := 1#32
  let arg9 : BitVec 32 := Scf.iv v100 c1_i32_38 k0_t2
  let v116 : BitVec 32 := Scalar.muli c2_i32 arg9
  let v117 : BitVec 32 := Scalar.addi v94 v116
  let c1024_i32_48 : BitVec 32 := 1024#32
  let v119 : BitVec 32 := Scalar.muli v117 c1024_i32_48
  let v120 : BitVec 32 := v119
  let v121 : Index := Scalar.indexCast v120
  let c0_49 : Index := 0#32
  ![v121.toNat, 0]
def k0_mult7 (i : grid0.Coords) (k0_t2 : Fin (k0_t2_loop i).trips) : BitVec 32 :=
  let arg1 : BitVec 32 := BitVec.ofNat 32 (i 1).val
  let c1_i32_32 : BitVec 32 := 1#32
  let v92 : BitVec 32 := Scalar.addi arg1 c1_i32_32
  let c7_i32 : BitVec 32 := 7#32
  let v86 : BitVec 32 := Scalar.subi c7_i32 arg1
  let c1_i32_33 : BitVec 32 := 1#32
  let v93 : BitVec 32 := Scalar.andi v86 c1_i32_33
  let v94 : BitVec 32 := Scalar.addi v92 v93
  let c2_i32 : BitVec 32 := 2#32
  let c0_i32_35 : BitVec 32 := 0#32
  let c1_i32_34 : BitVec 32 := 1#32
  let v95 : BitVec 32 := Scalar.shrsi v86 c1_i32_34
  let v96 : BitVec 32 := Scalar.subi v95 c0_i32_35
  let c1_i32_36 : BitVec 32 := 1#32
  let v98 : BitVec 32 := Scalar.divsi v96 c1_i32_36
  let v99 : BitVec 32 := Scalar.muli v98 c1_i32_36
  let v100 : BitVec 32 := Scalar.addi c0_i32_35 v99
  let c1_i32_38 : BitVec 32 := 1#32
  let arg9 : BitVec 32 := Scf.iv v100 c1_i32_38 k0_t2
  let v116 : BitVec 32 := Scalar.muli c2_i32 arg9
  let v117 : BitVec 32 := Scalar.addi v94 v116
  let c1_i32_47 : BitVec 32 := 1#32
  let v118 : BitVec 32 := Scalar.addi v117 c1_i32_47
  let c1024_i32_59 : BitVec 32 := 1024#32
  let v146 : BitVec 32 := Scalar.muli v118 c1024_i32_59
  v146
def k0_off7 (i : grid0.Coords) (k0_t2 : Fin (k0_t2_loop i).trips) : Fin 2 → Nat :=
  let arg1 : BitVec 32 := BitVec.ofNat 32 (i 1).val
  let c1_i32_32 : BitVec 32 := 1#32
  let v92 : BitVec 32 := Scalar.addi arg1 c1_i32_32
  let c7_i32 : BitVec 32 := 7#32
  let v86 : BitVec 32 := Scalar.subi c7_i32 arg1
  let c1_i32_33 : BitVec 32 := 1#32
  let v93 : BitVec 32 := Scalar.andi v86 c1_i32_33
  let v94 : BitVec 32 := Scalar.addi v92 v93
  let c2_i32 : BitVec 32 := 2#32
  let c0_i32_35 : BitVec 32 := 0#32
  let c1_i32_34 : BitVec 32 := 1#32
  let v95 : BitVec 32 := Scalar.shrsi v86 c1_i32_34
  let v96 : BitVec 32 := Scalar.subi v95 c0_i32_35
  let c1_i32_36 : BitVec 32 := 1#32
  let v98 : BitVec 32 := Scalar.divsi v96 c1_i32_36
  let v99 : BitVec 32 := Scalar.muli v98 c1_i32_36
  let v100 : BitVec 32 := Scalar.addi c0_i32_35 v99
  let c1_i32_38 : BitVec 32 := 1#32
  let arg9 : BitVec 32 := Scf.iv v100 c1_i32_38 k0_t2
  let v116 : BitVec 32 := Scalar.muli c2_i32 arg9
  let v117 : BitVec 32 := Scalar.addi v94 v116
  let c1_i32_47 : BitVec 32 := 1#32
  let v118 : BitVec 32 := Scalar.addi v117 c1_i32_47
  let c1024_i32_59 : BitVec 32 := 1024#32
  let v146 : BitVec 32 := Scalar.muli v118 c1024_i32_59
  let v147 : BitVec 32 := v146
  let v148 : Index := Scalar.indexCast v147
  let c0_60 : Index := 0#32
  ![v148.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8192x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Kernel2Ideal.lean ====
variable {F : FTy → Type} [FloatOps F] [Named F]
def κ : String → Option EReal := fun
  | "c" => some (((1 / 8) * (Real.log 2)⁻¹ : ℝ) : EReal)
  | "mask" => some ⊥
  | _ => none
-- ==== Reference2Ideal.lean ====
abbrev S8192x512 : Shape := ⟨2, ![8192, 512]⟩
abbrev S8192x8 : Shape := ⟨2, ![8192, 8]⟩
abbrev S8192x8x64 : Shape := ⟨3, ![8192, 8, 64]⟩
abbrev S8x8192x64 : Shape := ⟨3, ![8, 8192, 64]⟩
abbrev S8x8192 : Shape := ⟨2, ![8, 8192]⟩
abbrev S8x8192x8192 : Shape := ⟨3, ![8, 8192, 8192]⟩
abbrev S_ : Shape := ⟨0, ![]⟩
abbrev S8x8192x1 : Shape := ⟨3, ![8, 8192, 1]⟩
abbrev S8x1x8192 : Shape := ⟨3, ![8, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x64x8192 : Shape := ⟨3, ![8, 64, 8192]⟩
abbrev S8192x8x6 : Shape := ⟨3, ![8192, 8, 6]⟩
abbrev S8192x8x1 : Shape := ⟨3, ![8192, 8, 1]⟩
abbrev S8192x8x71 : Shape := ⟨3, ![8192, 8, 71]⟩
abbrev S8192x8x128 : Shape := ⟨3, ![8192, 8, 128]⟩
abbrev S8192x1024 : Shape := ⟨2, ![8192, 1024]⟩
abbrev S8192x8x65 : Shape := ⟨3, ![8192, 8, 65]⟩

abbrev nBuf : Space → Nat
  | .hbm => 146
  | .vmem => 0
  | .smem => 0
  | _ => 0

abbrev hbmTy0_0 (i : Nat) : BufTy := match i % 128 with
  | 0 => ⟨S8192x512, .f32⟩
  | 1 => ⟨S8192x512, .f32⟩
  | 2 => ⟨S8192x512, .f32⟩
  | 3 => ⟨S8192x8, .f32⟩
  | 4 => ⟨S8192x512, .f32⟩
  | 5 => ⟨S8192x8x64, .f32⟩
  | 6 => ⟨S8x8192x64, .f32⟩
  | 7 => ⟨S8192x8x64, .f32⟩
  | 8 => ⟨S8x8192x64, .f32⟩
  | 9 => ⟨S8192x8x64, .f32⟩
  | 10 => ⟨S8x8192x64, .f32⟩
  | 11 => ⟨S8x8192, .f32⟩
  | 12 => ⟨S8x8192, .f32⟩
  | 13 => ⟨S8x8192x8192, .f32⟩
  | 14 => ⟨S_, .f32⟩
  | 15 => ⟨S8x8192x8192, .f32⟩
  | 16 => ⟨S8x8192x8192, .f32⟩
  | 17 => ⟨S8x8192x1, .f32⟩
  | 18 => ⟨S8x8192x8192, .f32⟩
  | 19 => ⟨S8x8192x8192, .f32⟩
  | 20 => ⟨S8x1x8192, .f32⟩
  | 21 => ⟨S8x8192x8192, .f32⟩
  | 22 => ⟨S8x8192x8192, .f32⟩
  | 23 => ⟨S8192, .i32⟩
  | 24 => ⟨S1x8192, .i32⟩
  | 25 => ⟨S8192x1, .i32⟩
  | 26 => ⟨S8192x8192, .i32⟩
  | 27 => ⟨S8192x8192, .i32⟩
  | 28 => ⟨S8192x8192, .i1⟩
  | 29 => ⟨S_, .f32⟩
  | 30 => ⟨S_, .f32⟩
  | 31 => ⟨S8x8192x8192, .i1⟩
  | 32 => ⟨S8x8192x8192, .f32⟩
  | 33 => ⟨S8x8192x8192, .f32⟩
  | 34 => ⟨S_, .f32⟩
  | 35 => ⟨S8x8192x8192, .f32⟩
  | 36 => ⟨S_, .f32⟩
  | 37 => ⟨S8x8192, .f32⟩
  | 38 => ⟨S8x8192x1, .f32⟩
  | 39 => ⟨S8x8192x8192, .f32⟩
  | 40 => ⟨S8x8192x8192, .i1⟩
  | 41 => ⟨S8x8192x8192, .f32⟩
  | 42 => ⟨S_, .f32⟩
  | 43 => ⟨S8x8192, .f32⟩
  | 44 => ⟨S_, .f32⟩
  | 45 => ⟨S8x8192, .f32⟩
  | 46 => ⟨S8x8192, .f32⟩
  | 47 => ⟨S_, .f32⟩
  | 48 => ⟨S8x8192, .f32⟩
  | 49 => ⟨S8x8192, .i1⟩
  | 50 => ⟨S_, .f32⟩
  | 51 => ⟨S8x8192, .f32⟩
  | 52 => ⟨S8x8192, .i1⟩
  | 53 => ⟨S_, .f32⟩
  | 54 => ⟨S8x8192, .f32⟩
  | 55 => ⟨S_, .f32⟩
  | 56 => ⟨S8x8192, .f32⟩
  | 57 => ⟨S_, .f32⟩
  | 58 => ⟨S8x8192, .f32⟩
  | 59 => ⟨S8x8192, .f32⟩
  | 60 => ⟨S8x8192, .f32⟩
  | 61 => ⟨S8x8192x1, .f32⟩
  | 62 => ⟨S8x8192x8192, .f32⟩
  | 63 => ⟨S8x8192x8192, .f32⟩
  | 64 => ⟨S8x8192x8192, .f32⟩
  | 65 => ⟨S_, .f32⟩
  | 66 => ⟨S8x8192, .f32⟩
  | 67 => ⟨S8x8192x1, .f32⟩
  | 68 => ⟨S8x8192x8192, .f32⟩
  | 69 => ⟨S8x8192x8192, .f32⟩
  | 70 => ⟨S8x8192x1, .f32⟩
  | 71 => ⟨S_, .f32⟩
  | 72 => ⟨S8x8192x1, .f32⟩
  | 73 => ⟨S8x8192x1, .f32⟩
  | 74 => ⟨S8x8192x64, .f32⟩
  | 75 => ⟨S8192x8x64, .f32⟩
  | 76 => ⟨S8192x512, .f32⟩
  | 77 => ⟨S8192x8x64, .f32⟩
  | 78 => ⟨S8x8192x64, .f32⟩
  | 79 => ⟨S8x64x8192, .f32⟩
  | 80 => ⟨S8x8192x64, .f32⟩
  | 81 => ⟨S8x8192x8192, .f32⟩
  | 82 => ⟨S8x8192x8192, .f32⟩
  | 83 => ⟨S8x8192x8192, .f32⟩
  | 84 => ⟨S8x8192x8192, .f32⟩
  | 85 => ⟨S_, .f32⟩
  | 86 => ⟨S8x8192, .f32⟩
  | 87 => ⟨S8x8192x1, .f32⟩
  | 88 => ⟨S8x8192x1, .f32⟩
  | 89 => ⟨S8x8192x8192, .f32⟩
  | 90 => ⟨S8x8192x8192, .f32⟩
  | 91 => ⟨S_, .f32⟩
  | 92 => ⟨S8x8192, .f32⟩
  | 93 => ⟨S8x8192x8192, .f32⟩
  | 94 => ⟨S8x8192x8192, .f32⟩
  | 95 => ⟨S8x8192x8192, .f32⟩
  | 96 => ⟨S_, .f32⟩
  | 97 => ⟨S8x8192x8192, .f32⟩
  | 98 => ⟨S8x8192x8192, .f32⟩
  | 99 => ⟨S8x8192x8192, .f32⟩
  | 100 => ⟨S_, .f32⟩
  | 101 => ⟨S8x8192, .f32⟩
  | 102 => ⟨S8x1x8192, .f32⟩
  | 103 => ⟨S_, .f32⟩
  | 104 => ⟨S8x8192, .f32⟩
  | 105 => ⟨S_, .f32⟩
  | 106 => ⟨S8x8192, .f32⟩
  | 107 => ⟨S8x8192x1, .f32⟩
  | 108 => ⟨S_, .f32⟩
  | 109 => ⟨S8x8192, .f32⟩
  | 110 => ⟨S_, .f32⟩
  | 111 => ⟨S8x8192x8192, .f32⟩
  | 112 => ⟨S8x8192x8192, .f32⟩
  | 113 => ⟨S8x8192x64, .f32⟩
  | 114 => ⟨S8x8192x64, .f32⟩
  | 115 => ⟨S8192x8, .f32⟩
  | 116 => ⟨S8192x8, .f32⟩
  | 117 => ⟨S8192x8x64, .f32⟩
  | 118 => ⟨S8192x512, .f32⟩
  | 119 => ⟨S8192x8x64, .f32⟩
  | 120 => ⟨S8192x512, .f32⟩
  | 121 => ⟨S8192x8x64, .f32⟩
  | 122 => ⟨S8192x512, .f32⟩
  | 123 => ⟨S_, .f32⟩
  | 124 => ⟨S8192x8x6, .f32⟩
  | 125 => ⟨S8192x8x1, .f32⟩
  | 126 => ⟨S8192x8x1, .f32⟩
  | 127 => ⟨S8192x8x64, .f32⟩
  | _ => ⟨S8192x512, .f32⟩

abbrev hbmTy0_1 (i : Nat) : BufTy := match i % 128 with
  | 0 => ⟨S8192x8x71, .f32⟩
  | 1 => ⟨S_, .i32⟩
  | 2 => ⟨S_, .f32⟩
  | 3 => ⟨S8192x8x128, .f32⟩
  | 4 => ⟨S8192x1024, .f32⟩
  | 5 => ⟨S8192x8x64, .f32⟩
  | 6 => ⟨S_, .i32⟩
  | 7 => ⟨S_, .f32⟩
  | 8 => ⟨S8192x8x128, .f32⟩
  | 9 => ⟨S8192x1024, .f32⟩
  | 10 => ⟨S8192x1024, .bf16⟩
  | 11 => ⟨S8192x8x1, .f32⟩
  | 12 => ⟨S8192x8x64, .f32⟩
  | 13 => ⟨S8192x8x65, .f32⟩
  | 14 => ⟨S_, .i32⟩
  | 15 => ⟨S_, .f32⟩
  | 16 => ⟨S8192x8x128, .f32⟩
  | 17 => ⟨S8192x1024, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_0 : Ref sig .tc := ⟨.hbm, 29, rfl⟩
abbrev main_call0_v0 : Ref sig .tc := ⟨.hbm, 30, rfl⟩
abbrev main_v23_1 : Ref sig .tc := ⟨.hbm, 31, rfl⟩
abbrev main_call0_v2 : Ref sig .tc := ⟨.hbm, 32, rfl⟩
abbrev main_v23_0 : Ref sig .tc := ⟨.hbm, 33, rfl⟩
abbrev main_call0_cst : Ref sig .tc := ⟨.hbm, 34, rfl⟩
abbrev main_v23_2 : Ref sig .tc := ⟨.hbm, 35, rfl⟩
abbrev main_cst_1 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_2 : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_cst_6 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_cst_8 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_9 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_10 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_11 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_12 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_call1_cst : Ref sig .tc := ⟨.hbm, 96, rfl⟩
abbrev main_call1_v0 : Ref sig .tc := ⟨.hbm, 97, rfl⟩
abbrev main_v72 : Ref sig .tc := ⟨.hbm, 98, rfl⟩
abbrev main_v73 : Ref sig .tc := ⟨.hbm, 99, rfl⟩
abbrev main_cst_13 : Ref sig .tc := ⟨.hbm, 100, rfl⟩
abbrev main_v74 : Ref sig .tc := ⟨.hbm, 101, rfl⟩
abbrev main_v75 : Ref sig .tc := ⟨.hbm, 102, rfl⟩
abbrev main_cst_14 : Ref sig .tc := ⟨.hbm, 103, rfl⟩
abbrev main_v76 : Ref sig .tc := ⟨.hbm, 104, rfl⟩
abbrev main_cst_15 : Ref sig .tc := ⟨.hbm, 105, rfl⟩
abbrev main_v77 : Ref sig .tc := ⟨.hbm, 106, rfl⟩
abbrev main_v78 : Ref sig .tc := ⟨.hbm, 107, rfl⟩
abbrev main_cst_16 : Ref sig .tc := ⟨.hbm, 108, rfl⟩
abbrev main_v79 : Ref sig .tc := ⟨.hbm, 109, rfl⟩
abbrev main_cst_17 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_cst_18 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_c : Ref sig .tc := ⟨.hbm, 129, rfl⟩
abbrev main_call2_v0 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_c_19 : Ref sig .tc := ⟨.hbm, 134, rfl⟩
abbrev main_call3_v0 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_c_20 : Ref sig .tc := ⟨.hbm, 142, rfl⟩
abbrev main_call4_v0 : Ref sig .tc := ⟨.hbm, 143, rfl⟩
abbrev main_v106 : Ref sig .tc := ⟨.hbm, 144, rfl⟩
abbrev main_v107 : Ref sig .tc := ⟨.hbm, 145, rfl⟩

abbrev nD : Nat := 1
abbrev τ : Topo := Topo.v7x

variable {F : FTy → Type} [FloatOps F]
-- ==== Kernel3.lean ====
abbrev S8x8192x96 : Shape := ⟨3, ![8, 8192, 96]⟩
abbrev S8x8192x64 : Shape := ⟨3, ![8, 8192, 64]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x8192 : Shape := ⟨2, ![8, 8192]⟩
abbrev S8x8192x1 : Shape := ⟨3, ![8, 8192, 1]⟩
abbrev S8x8192x99 : Shape := ⟨3, ![8, 8192, 99]⟩
abbrev S8x8192x128 : Shape := ⟨3, ![8, 8192, 128]⟩
abbrev S8192x8x128 : Shape := ⟨3, ![8192, 8, 128]⟩
abbrev S8192x1024 : Shape := ⟨2, ![8192, 1024]⟩
abbrev S8x8192x67 : Shape := ⟨3, ![8, 8192, 67]⟩
abbrev S8192x128 : Shape := ⟨2, ![8192, 128]⟩
abbrev S1024x128 : Shape := ⟨2, ![1024, 128]⟩
abbrev S512x128 : Shape := ⟨2, ![512, 128]⟩
abbrev S1024x512 : Shape := ⟨2, ![1024, 512]⟩
abbrev S512x512 : Shape := ⟨2, ![512, 512]⟩
abbrev S1024x1024 : Shape := ⟨2, ![1024, 1024]⟩

abbrev nBuf : Space → Nat
  | .hbm => 112
  | .vmem => 14
  | .smem => 0
  | _ => 0

abbrev bufTy : (tb : Table) → Fin (tcTables nBuf tb) → BufTy
  | .hbm, ⟨0, _⟩ => ⟨S8x8192x96, .f32⟩
  | .hbm, ⟨1, _⟩ => ⟨S8x8192x96, .f32⟩
  | .hbm, ⟨2, _⟩ => ⟨S8x8192x64, .f32⟩
  | .hbm, ⟨3, _⟩ => ⟨S8x8192x64, .f32⟩
  | .hbm, ⟨4, _⟩ => ⟨S8x8192x8192, .f32⟩
  | .hbm, ⟨5, _⟩ => ⟨S_, .f32⟩
  | .hbm, ⟨6, _⟩ => ⟨S8x8192x8192, .f32⟩
  | .hbm, ⟨7, _⟩ => ⟨S8x8192x8192, .f32⟩
  | .hbm, ⟨8, _⟩ => ⟨S8192, .i32⟩
  | .hbm, ⟨9, _⟩ => ⟨S1x8192, .i32⟩
  | .hbm, ⟨10, _⟩ => ⟨S8192x1, .i32⟩
  | .hbm, ⟨11, _⟩ => ⟨S8192x8192, .i32⟩
  | .hbm, ⟨12, _⟩ => ⟨S8192x8192, .i32⟩
  | .hbm, ⟨13, _⟩ => ⟨S8192x8192, .i1⟩
  | .hbm, ⟨14, _⟩ => ⟨S_, .f32⟩
  | .hbm, ⟨15, _⟩ => ⟨S_, .f32⟩
  | .hbm, ⟨16, _⟩ => ⟨S8x8192x8192, .i1⟩
  | .hbm, ⟨17, _⟩ => ⟨S8x8192x8192, .f32⟩
  | .hbm, ⟨18, _⟩ => ⟨S8x8192x8192, .f32⟩
  | .hbm, ⟨19, _⟩ => ⟨S_, .f32⟩
  | .hbm, ⟨20, _⟩ => ⟨S8x8192, .f32⟩
  | .hbm, ⟨21, _⟩ => ⟨S8x8192x1, .f32⟩
  | .hbm, ⟨22, _⟩ => ⟨S8x8192x8192, .f32⟩
  | .hbm, ⟨23, _⟩ => ⟨S8x8192x8192, .f32⟩
  | .hbm, ⟨24, _⟩ => ⟨S8x8192x8192, .f32⟩
  | .hbm, ⟨25, _⟩ => ⟨S_, .f32⟩
  | .hbm, ⟨26, _⟩ => ⟨S8x8192, .f32⟩
  | .hbm, ⟨27, _⟩ => ⟨S8x8192x1, .f32⟩
  | .hbm, ⟨28, _⟩ => ⟨S8x8192x8192, .f32⟩
  | .hbm, ⟨29, _⟩ => ⟨S8x8192x8192, .f32⟩
  | .hbm, ⟨30, _⟩ => ⟨S8x8192x64, .f32⟩
  | .hbm, ⟨31, _⟩ => ⟨S8x8192, .f32⟩
  | .hbm, ⟨32, _⟩ => ⟨S8x8192, .f32⟩
  | .hbm, ⟨33, _⟩ => ⟨S_, .f32⟩
  | .hbm, ⟨34, _⟩ => ⟨S8x8192, .f32⟩
  | .hbm, ⟨35, _⟩ => ⟨S8x8192, .f32⟩
  | .hbm, ⟨36, _⟩ => ⟨S8x8192x64, .f32⟩
  | .hbm, ⟨37, _⟩ => ⟨S_, .f32⟩
  | .hbm, ⟨38, _⟩ => ⟨S8x8192, .f32⟩
  | .hbm, ⟨39, _⟩ => ⟨S8x8192, .f32⟩
  | .hbm, ⟨40, _⟩ => ⟨S8x8192, .bf16⟩
  | .hbm, ⟨41, _⟩ => ⟨S8x8192, .f32⟩
  | .hbm, ⟨42, _⟩ => ⟨S8x8192, .f32⟩
  | .hbm, ⟨43, _⟩ => ⟨S8x8192, .bf16⟩
  | .hbm, ⟨44, _⟩ => ⟨S8x8192, .f32⟩
  | .hbm, ⟨45, _⟩ => ⟨S8x8192, .f32⟩
  | .hbm, ⟨46, _⟩ => ⟨S8x8192, .bf16⟩
  | .hbm, ⟨47, _⟩ => ⟨S8x8192, .f32⟩
  | .hbm, ⟨48, _⟩ => ⟨S8x8192x1, .f32⟩
  | .hbm, ⟨49, _⟩ => ⟨S8x8192x1, .f32⟩
  | .hbm, ⟨50, _⟩ => ⟨S8x8192x1, .f32⟩
  | .hbm, ⟨51, _⟩ => ⟨S8x8192x99, .f32⟩
  | .hbm, ⟨52, _⟩ => ⟨S_, .i32⟩
  | .hbm, ⟨53, _⟩ => ⟨S_, .f32⟩
  | .hbm, ⟨54, _⟩ => ⟨S8x8192x128, .f32⟩
  | .hbm, ⟨55, _⟩ => ⟨S8192x8x128, .f32⟩
  | .hbm, ⟨56, _⟩ => ⟨S8192x1024, .f32⟩
  | .hbm, ⟨57, _⟩ => ⟨S8192x1024, .bf16⟩
  | .hbm, ⟨58, _⟩ => ⟨S_, .f32⟩
  | .hbm, ⟨59, _⟩ => ⟨S8x8192, .f32⟩
  | .hbm, ⟨60, _⟩ => ⟨S8x8192x1, .f32⟩
  | .hbm, ⟨61, _⟩ => ⟨S_, .f32⟩
  | .hbm, ⟨62, _⟩ => ⟨S8x8192, .f32⟩
  | .hbm, ⟨63, _⟩ => ⟨S8x8192x1, .f32⟩
  | .hbm, ⟨64, _⟩ => ⟨S_, .f32⟩
  | .hbm, ⟨65, _⟩ => ⟨S8x8192, .f32⟩
  | .hbm, ⟨66, _⟩ => ⟨S8x8192x1, .f32⟩
  | .hbm, ⟨67, _⟩ => ⟨S8x8192x99, .f32⟩
  | .hbm, ⟨68, _⟩ => ⟨S_, .i32⟩
  | .hbm, ⟨69, _⟩ => ⟨S_, .f32⟩
  | .hbm, ⟨70, _⟩ => ⟨S8x8192x128, .f32⟩
  | .hbm, ⟨71, _⟩ => ⟨S8192x8x128, .f32⟩
  | .hbm, ⟨72, _⟩ => ⟨S8192x1024, .f32⟩
  | .hbm, ⟨73, _⟩ => ⟨S8192x1024, .bf16⟩
  | .hbm, ⟨74, _⟩ => ⟨S_, .f32⟩
  | .hbm, ⟨75, _⟩ => ⟨S8x8192, .f32⟩
  | .hbm, ⟨76, _⟩ => ⟨S8x8192x1, .f32⟩
  | .hbm, ⟨77, _⟩ => ⟨S_, .f32⟩
  | .hbm, ⟨78, _⟩ => ⟨S8x8192, .f32⟩
  | .hbm, ⟨79, _⟩ => ⟨S8x8192x1, .f32⟩
  | .hbm, ⟨80, _⟩ => ⟨S_, .f32⟩
  | .hbm, ⟨81, _⟩ => ⟨S8x8192, .f32⟩
  | .hbm, ⟨82, _⟩ => ⟨S8x8192x1, .f32⟩
  | .hbm, ⟨83, _⟩ => ⟨S8x8192x67, .f32⟩
  | .hbm, ⟨84, _⟩ => ⟨S_, .i32⟩
  | .hbm, ⟨85, _⟩ => ⟨S_, .f32⟩
  | .hbm, ⟨86, _⟩ => ⟨S8x8192x128, .f32⟩
  | .hbm, ⟨87, _⟩ => ⟨S8192x8x128, .f32⟩
  | .hbm, ⟨88, _⟩ => ⟨S8192x1024, .f32⟩
  | .hbm, ⟨89, _⟩ => ⟨S8192x1024, .bf16⟩
  | .hbm, ⟨90, _⟩ => ⟨S8x8192, .f32⟩
  | .hbm, ⟨91, _⟩ => ⟨S8x8192, .bf16⟩
  | .hbm, ⟨92, _⟩ => ⟨S8x8192, .f32⟩
  | .hbm, ⟨93, _⟩ => ⟨S8x8192, .f32⟩
  | .hbm, ⟨94, _⟩ => ⟨S8x8192, .bf16⟩
  | .hbm, ⟨95, _⟩ => ⟨S8x8192, .f32⟩
  | .hbm, ⟨96, _⟩ => ⟨S8x8192, .f32⟩
  | .hbm, ⟨97, _⟩ => ⟨S8x8192, .bf16⟩
  | .hbm, ⟨98, _⟩ => ⟨S8x8192, .f32⟩
  | .hbm, ⟨99, _⟩ => ⟨S8x8192x1, .f32⟩
  | .hbm, ⟨100, _⟩ => ⟨S8x8192x1, .f32⟩
  | .hbm, ⟨101, _⟩ => ⟨S8x8192x1, .f32⟩
  | .hbm, ⟨102, _⟩ => ⟨S8x8192x67, .f32⟩
  | .hbm, ⟨103, _⟩ => ⟨S_, .i32⟩
  | .hbm, ⟨104, _⟩ => ⟨S_, .f32⟩
  | .hbm, ⟨105, _⟩ => ⟨S8x8192x128, .f32⟩
  | .hbm, ⟨106, _⟩ => ⟨S8192x8x128, .f32⟩
  | .hbm, ⟨107, _⟩ => ⟨S8192x1024, .f32⟩
  | .hbm, ⟨108, _⟩ => ⟨S8192x1024, .bf16⟩
  | .hbm, ⟨109, _⟩ => ⟨S8192x1024, .f32⟩
  | .hbm, ⟨110, _⟩ => ⟨S8192x1024, .bf16⟩
  | .hbm, ⟨111, _⟩ => ⟨S8192x1024, .f32⟩
  | .local _ .vmem, ⟨0, _⟩ => ⟨S8192x128, .bf16⟩
  | .local _ .vmem, ⟨1, _⟩ => ⟨S8192x128, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .bf16⟩
  | .local _ .vmem, ⟨5, _⟩ => ⟨S1024x128, .bf16⟩
  | .local _ .vmem, ⟨6, _⟩ => ⟨S8192x128, .bf16⟩
  | .local _ .vmem, ⟨7, _⟩ => ⟨S8192x128, .bf16⟩
  | .local _ .vmem, ⟨8, _⟩ => ⟨S1024x128, .f32⟩
  | .local _ .vmem, ⟨9, _⟩ => ⟨S1024x128, .f32⟩
  | .local _ .vmem, ⟨10, _⟩ => ⟨S1024x128, .bf16⟩
  | .local _ .vmem, ⟨11, _⟩ => ⟨S1024x128, .bf16⟩
  | .local _ .vmem, ⟨12, _⟩ => ⟨S8192x128, .f32⟩
  | .local _ .vmem, ⟨13, _⟩ => ⟨S8192x128, .f32⟩
  | _, _ => ⟨S8x8192x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_c : Ref sig .tc := ⟨.hbm, 52, rfl⟩
abbrev main_call1_v0 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_5 : Ref sig .tc := ⟨.hbm, 58, rfl⟩
abbrev main_v43 : Ref sig .tc := ⟨.hbm, 59, rfl⟩
abbrev main_v44 : Ref sig .tc := ⟨.hbm, 60, rfl⟩
abbrev main_cst_6 : Ref sig .tc := ⟨.hbm, 61, rfl⟩
abbrev main_v45 : Ref sig .tc := ⟨.hbm, 62, rfl⟩
abbrev main_v46 : Ref sig .tc := ⟨.hbm, 63, rfl⟩
abbrev main_cst_7 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_c_8 : Ref sig .tc := ⟨.hbm, 68, rfl⟩
abbrev main_call2_v0 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_9 : Ref sig .tc := ⟨.hbm, 74, rfl⟩
abbrev main_v54 : Ref sig .tc := ⟨.hbm, 75, rfl⟩
abbrev main_v55 : Ref sig .tc := ⟨.hbm, 76, rfl⟩
abbrev main_cst_10 : Ref sig .tc := ⟨.hbm, 77, rfl⟩
abbrev main_v56 : Ref sig .tc := ⟨.hbm, 78, rfl⟩
abbrev main_v57 : Ref sig .tc := ⟨.hbm, 79, rfl⟩
abbrev main_cst_11 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_c_12 : Ref sig .tc := ⟨.hbm, 84, rfl⟩
abbrev main_call3_v0 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_c_13 : Ref sig .tc := ⟨.hbm, 103, rfl⟩
abbrev main_call4_v0 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82_0 : Ref sig .tc := ⟨.hbm, 109, rfl⟩
abbrev main_v82_1 : Ref sig .tc := ⟨.hbm, 110, rfl⟩
abbrev main_v82_2 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c1024_i32 : BitVec 32 := 1024#32
  let v9 : BitVec 32 := Scalar.muli arg1 c1024_i32
  let c512_i32 : BitVec 32 := 512#32
  let v10 : BitVec 32 := Scalar.addi v9 c512_i32
  v10
def k0_off1 (i : grid0.Coords) : Fin 2 → Nat :=
  let arg1 : BitVec 32 := BitVec.ofNat 32 (i 1).val
  let c1024_i32 : BitVec 32 := 1024#32
  let v9 : BitVec 32 := Scalar.muli arg1 c1024_i32
  let c512_i32 : BitVec 32 := 512#32
  let v10 : BitVec 32 := Scalar.addi v9 c512_i32
  let v11 : BitVec 32 := v10
  let v12 : Index := Scalar.indexCast v11
  let c0_5 : Index := 0#32
  ![v12.toNat, 0]
def k0_mult2 (i : grid0.Coords) : BitVec 32 :=
  let arg1 : BitVec 32 := BitVec.ofNat 32 (i 1).val
  let c1024_i32_17 : BitVec 32 := 1024#32
  let v44 : BitVec 32 := Scalar.muli arg1 c1024_i32_17
  v44
def k0_off2 (i : grid0.Coords) : Fin 2 → Nat :=
  let arg1 : BitVec 32 := BitVec.ofNat 32 (i 1).val
  let c1024_i32_17 : BitVec 32 := 1024#32
  let v44 : BitVec 32 := Scalar.muli arg1 c1024_i32_17
  let v45 : BitVec 32 := v44
  let v46 : Index := Scalar.indexCast v45
  let c0_18 : Index := 0#32
  ![v46.toNat, 0]
def k0_cond2 (i : grid0.Coords) : BitVec 1 :=
  let c7_i32 : BitVec 32 := 7#32
  let arg1 : BitVec 32 := BitVec.ofNat 32 (i 1).val
  let v86 : BitVec 32 := Scalar.subi c7_i32 arg1
  let c1_i32 : BitVec 32 := 1#32
  let v87 : BitVec 32 := Scalar.andi v86 c1_i32
  let c1_i32_30 : BitVec 32 := 1#32
  let v88 : BitVec 1 := Scalar.cmpi .eq v87 c1_i32_30
  let v89 : BitVec 32 := Scalar.extui v88
  let c0_i32_31 : BitVec 32 := 0#32
  let v90 : BitVec 1 := Scalar.cmpi .ne v89 c0_i32_31
  v90

def k0_mult3 (i : grid0.Coords) : BitVec 32 :=
  let arg1 : BitVec 32 := BitVec.ofNat 32 (i 1).val
  let c1_i32_47 : BitVec 32 := 1#32
  let v116 : BitVec 32 := Scalar.addi arg1 c1_i32_47
  let c1024_i32_48 : BitVec 32 := 1024#32
  let v117 : BitVec 32 := Scalar.muli v116 c1024_i32_48
  v117
def k0_off3 (i : grid0.Coords) : Fin 2 → Nat :=
  let arg1 : BitVec 32 := BitVec.ofNat 32 (i 1).val
  let c1_i32_47 : BitVec 32 := 1#32
  let v116 : BitVec 32 := Scalar.addi arg1 c1_i32_47
  let c1024_i32_48 : BitVec 32 := 1024#32
  let v117 : BitVec 32 := Scalar.muli v116 c1024_i32_48
  let v118 : BitVec 32 := v117
  let v119 : Index := Scalar.indexCast v118
  let c0_49 : Index := 0#32
  ![v119.toNat, 0]
@[reducible] def k0_t1_loop (i : grid0.Coords) : Scf.Loop 32 :=
  let c0_i32_35 : BitVec 32 := 0#32
  let c7_i32 : BitVec 32 := 7#32
  let arg1 : BitVec 32 := BitVec.ofNat 32 (i 1).val
  let v86 : BitVec 32 := Scalar.subi c7_i32 arg1
  let c1_i32_34 : BitVec 32 := 1#32
  let v95 : BitVec 32 := Scalar.shrsi v86 c1_i32_34
  let v96 : BitVec 32 := Scalar.subi v95 c0_i32_35
  let c1_i32_36 : BitVec 32 := 1#32
  let v98 : BitVec 32 := Scalar.divsi v96 c1_i32_36
  let v99 : BitVec 32 := Scalar.muli v98 c1_i32_36
  let v100 : BitVec 32 := Scalar.addi c0_i32_35 v99
  let c1_i32_37 : BitVec 32 := 1#32
  ⟨c0_i32_35, v100, c1_i32_37⟩
def k0_mult4 (i : grid0.Coords) (k0_t1 : Fin (k0_t1_loop i).trips) : BitVec 32 :=
  let arg1 : BitVec 32 := BitVec.ofNat 32 (i 1).val
  let c1_i32_32 : BitVec 32 := 1#32
  let v92 : BitVec 32 := Scalar.addi arg1 c1_i32_32
  let c7_i32 : BitVec 32 := 7#32
  let v86 : BitVec 32 := Scalar.subi c7_i32 arg1
  let c1_i32_33 : BitVec 32 := 1#32
  let v93 : BitVec 32 := Scalar.andi v86 c1_i32_33
  let v94 : BitVec 32 := Scalar.addi v92 v93
  let c2_i32 : BitVec 32 := 2#32
  let c0_i32_35 : BitVec 32 := 0#32
  let c1_i32_37 : BitVec 32 := 1#32
  let arg9 : BitVec 32 := Scf.iv c0_i32_35 c1_i32_37 k0_t1
  let v116 : BitVec 32 := Scalar.muli c2_i32 arg9
  let v117 : BitVec 32 := Scalar.addi v94 v116
  let c1024_i32_48 : BitVec 32 := 1024#32
  let v119 : BitVec 32 := Scalar.muli v117 c1024_i32_48
  v119
def k0_off4 (i : grid0.Coords) (k0_t1 : Fin (k0_t1_loop i).trips) : Fin 2 → Nat :=
  let arg1 : BitVec 32 := BitVec.ofNat 32 (i 1).val
  let c1_i32_32 : BitVec 32 := 1#32
  let v92 : BitVec 32 := Scalar.addi arg1 c1_i32_32
  let c7_i32 : BitVec 32 := 7#32
  let v86 : BitVec 32 := Scalar.subi c7_i32 arg1
  let c1_i32_33 : BitVec 32 := 1#32
  let v93 : BitVec 32 := Scalar.andi v86 c1_i32_33
  let v94 : BitVec 32 := Scalar.addi v92 v93
  let c2_i32 : BitVec 32 := 2#32
  let c0_i32_35 : BitVec 32 := 0#32
  let c1_i32_37 : BitVec 32 := 1#32
  let arg9 : BitVec 32 := Scf.iv c0_i32_35 c1_i32_37 k0_t1
  let v116 : BitVec 32 := Scalar.muli c2_i32 arg9
  let v117 : BitVec 32 := Scalar.addi v94 v116
  let c1024_i32_48 : BitVec 32 := 1024#32
  let v119 : BitVec 32 := Scalar.muli v117 c1024_i32_48
  let v120 : BitVec 32 := v119
  let v121 : Index := Scalar.indexCast v120
  let c0_49 : Index := 0#32
  ![v121.toNat, 0]
def k0_mult5 (i : grid0.Coords) (k0_t1 : Fin (k0_t1_loop i).trips) : BitVec 32 :=
  let arg1 : BitVec 32 := BitVec.ofNat 32 (i 1).val
  let c1_i32_32 : BitVec 32 := 1#32
  let v92 : BitVec 32 := Scalar.addi arg1 c1_i32_32
  let c7_i32 : BitVec 32 := 7#32
  let v86 : BitVec 32 := Scalar.subi c7_i32 arg1
  let c1_i32_33 : BitVec 32 := 1#32
  let v93 : BitVec 32 := Scalar.andi v86 c1_i32_33
  let v94 : BitVec 32 := Scalar.addi v92 v93
  let c2_i32 : BitVec 32 := 2#32
  let c0_i32_35 : BitVec 32 := 0#32
  let c1_i32_37 : BitVec 32 := 1#32
  let arg9 : BitVec 32 := Scf.iv c0_i32_35 c1_i32_37 k0_t1
  let v116 : BitVec 32 := Scalar.muli c2_i32 arg9
  let v117 : BitVec 32 := Scalar.addi v94 v116
  let c1_i32_47 : BitVec 32 := 1#32
  let v118 : BitVec 32 := Scalar.addi v117 c1_i32_47
  let c1024_i32_59 : BitVec 32 := 1024#32
  let v146 : BitVec 32 := Scalar.muli v118 c1024_i32_59
  v146
def k0_off5 (i : grid0.Coords) (k0_t1 : Fin (k0_t1_loop i).trips) : Fin 2 → Nat :=
  let arg1 : BitVec 32 := BitVec.ofNat 32 (i 1).val
  let c1_i32_32 : BitVec 32 := 1#32
  let v92 : BitVec 32 := Scalar.addi arg1 c1_i32_32
  let c7_i32 : BitVec 32 := 7#32
  let v86 : BitVec 32 := Scalar.subi c7_i32 arg1
  let c1_i32_33 : BitVec 32 := 1#32
  let v93 : BitVec 32 := Scalar.andi v86 c1_i32_33
  let v94 : BitVec 32 := Scalar.addi v92 v93
  let c2_i32 : BitVec 32 := 2#32
  let c0_i32_35 : BitVec 32 := 0#32
  let c1_i32_37 : BitVec 32 := 1#32
  let arg9 : BitVec 32 := Scf.iv c0_i32_35 c1_i32_37 k0_t1
  let v116 : BitVec 32 := Scalar.muli c2_i32 arg9
  let v117 : BitVec 32 := Scalar.addi v94 v116
  let c1_i32_47 : BitVec 32 := 1#32
  let v118 : BitVec 32 := Scalar.addi v117 c1_i32_47
  let c1024_i32_59 : BitVec 32 := 1024#32
  let v146 : BitVec 32 := Scalar.muli v118 c1024_i32_59
  let v147 : BitVec 32 := v146
  let v148 : Index := Scalar.indexCast v147
  let c0_60 : Index := 0#32
  ![v148.toNat, 0]
@[reducible] def k0_t2_loop (i : grid0.Coords) : Scf.Loop 32 :=
  let c0_i32_35 : BitVec 32 := 0#32
  let c7_i32 : BitVec 32 := 7#32
  let arg1 : BitVec 32 := BitVec.ofNat 32 (i 1).val
  let v86 : BitVec 32 := Scalar.subi c7_i32 arg1
  let c1_i32_34 : BitVec 32 := 1#32
  let v95 : BitVec 32 := Scalar.shrsi v86 c1_i32_34
  let v96 : BitVec 32 := Scalar.subi v95 c0_i32_35
  let c1_i32_36 : BitVec 32 := 1#32
  let v98 : BitVec 32 := Scalar.divsi v96 c1_i32_36
  let v99 : BitVec 32 := Scalar.muli v98 c1_i32_36
  let v100 : BitVec 32 := Scalar.addi c0_i32_35 v99
  let v97 : BitVec 32 := Scalar.addi c0_i32_35 v96
  let c1_i32_38 : BitVec 32 := 1#32
  ⟨v100, v97, c1_i32_38⟩
def k0_mult6 (i : grid0.Coords) (k0_t2 : Fin (k0_t2_loop i).trips) : BitVec 32 :=
  let arg1 : BitVec 32 := BitVec.ofNat 32 (i 1).val
  let c1_i32_32 : BitVec 32 := 1#32
  let v92 : BitVec 32 := Scalar.addi arg1 c1_i32_32
  let c7_i32 : BitVec 32 := 7#32
  let v86 : BitVec 32 := Scalar.subi c7_i32 arg1
  let c1_i32_33 : BitVec 32 := 1#32
  let v93 : BitVec 32 := Scalar.andi v86 c1_i32_33
  let v94 : BitVec 32 := Scalar.addi v92 v93
  let c2_i32 : BitVec 32 := 2#32
  let c0_i32_35 : BitVec 32 := 0#32
  let c1_i32_34 : BitVec 32 := 1#32
  let v95 : BitVec 32 := Scalar.shrsi v86 c1_i32_34
  let v96 : BitVec 32 := Scalar.subi v95 c0_i32_35
  let c1_i32_36 : BitVec 32 := 1#32
  let v98 : BitVec 32 := Scalar.divsi v96 c1_i32_36
  let v99 : BitVec 32 := Scalar.muli v98 c1_i32_36
  let v100 : BitVec 32 := Scalar.addi c0_i32_35 v99
  let c1_i32_38 : BitVec 32 := 1#32
  let arg9 : BitVec 32 := Scf.iv v100 c1_i32_38 k0_t2
  let v116 : BitVec 32 := Scalar.muli c2_i32 arg9
  let v117 : BitVec 32 := Scalar.addi v94 v116
  let c1024_i32_48 : BitVec 32 := 1024#32
  let v119 : BitVec 32 := Scalar.muli v117 c1024_i32_48
  v119
def k0_off6 (i : grid0.Coords) (k0_t2 : Fin (k0_t2_loop i).trips) : Fin 2 → Nat :=
  let arg1 : BitVec 32 := BitVec.ofNat 32 (i 1).val
  let c1_i32_32 : BitVec 32 := 1#32
  let v92 : BitVec 32 := Scalar.addi arg1 c1_i32_32
  let c7_i32 : BitVec 32 := 7#32
  let v86 : BitVec 32 := Scalar.subi c7_i32 arg1
  let c1_i32_33 : BitVec 32 := 1#32
  let v93 : BitVec 32 := Scalar.andi v86 c1_i32_33
  let v94 : BitVec 32 := Scalar.addi v92 v93
  let c2_i32 : BitVec 32 := 2#32
  let c0_i32_35 : BitVec 32 := 0#32
  let c1_i32_34 : BitVec 32 := 1#32
  let v95 : BitVec 32 := Scalar.shrsi v86 c1_i32_34
  let v96 : BitVec 32 := Scalar.subi v95 c0_i32_35
  let c1_i32_36 : BitVec 32 := 1#32
  let v98 : BitVec 32 := Scalar.divsi v96 c1_i32_36
  let v99 : BitVec 32 := Scalar.muli v98 c1_i32_36
  let v100 : BitVec 32 := Scalar.addi c0_i32_35 v99
  let c1_i32_38 : BitVec 32 := 1#32
  let arg9 : BitVec 32 := Scf.iv v100 c1_i32_38 k0_t2
  let v116 : BitVec 32 := Scalar.muli c2_i32 arg9
  let v117 : BitVec 32 := Scalar.addi v94 v116
  let c1024_i32_48 : BitVec 32 := 1024#32
  let v119 : BitVec 32 := Scalar.muli v117 c1024_i32_48
  let v120 : BitVec 32 := v119
  let v121 : Index := Scalar.indexCast v120
  let c0_49 : Index := 0#32
  ![v121.toNat, 0]
def k0_mult7 (i : grid0.Coords) (k0_t2 : Fin (k0_t2_loop i).trips) : BitVec 32 :=
  let arg1 : BitVec 32 := BitVec.ofNat 32 (i 1).val
  let c1_i32_32 : BitVec 32 := 1#32
  let v92 : BitVec 32 := Scalar.addi arg1 c1_i32_32
  let c7_i32 : BitVec 32 := 7#32
  let v86 : BitVec 32 := Scalar.subi c7_i32 arg1
  let c1_i32_33 : BitVec 32 := 1#32
  let v93 : BitVec 32 := Scalar.andi v86 c1_i32_33
  let v94 : BitVec 32 := Scalar.addi v92 v93
  let c2_i32 : BitVec 32 := 2#32
  let c0_i32_35 : BitVec 32 := 0#32
  let c1_i32_34 : BitVec 32 := 1#32
  let v95 : BitVec 32 := Scalar.shrsi v86 c1_i32_34
  let v96 : BitVec 32 := Scalar.subi v95 c0_i32_35
  let c1_i32_36 : BitVec 32 := 1#32
  let v98 : BitVec 32 := Scalar.divsi v96 c1_i32_36
  let v99 : BitVec 32 := Scalar.muli v98 c1_i32_36
  let v100 : BitVec 32 := Scalar.addi c0_i32_35 v99
  let c1_i32_38 : BitVec 32 := 1#32
  let arg9 : BitVec 32 := Scf.iv v100 c1_i32_38 k0_t2
  let v116 : BitVec 32 := Scalar.muli c2_i32 arg9
  let v117 : BitVec 32 := Scalar.addi v94 v116
  let c1_i32_47 : BitVec 32 := 1#32
  let v118 : BitVec 32 := Scalar.addi v117 c1_i32_47
  let c1024_i32_59 : BitVec 32 := 1024#32
  let v146 : BitVec 32 := Scalar.muli v118 c1024_i32_59
  v146
def k0_off7 (i : grid0.Coords) (k0_t2 : Fin (k0_t2_loop i).trips) : Fin 2 → Nat :=
  let arg1 : BitVec 32 := BitVec.ofNat 32 (i 1).val
  let c1_i32_32 : BitVec 32 := 1#32
  let v92 : BitVec 32 := Scalar.addi arg1 c1_i32_32
  let c7_i32 : BitVec 32 := 7#32
  let v86 : BitVec 32 := Scalar.subi c7_i32 arg1
  let c1_i32_33 : BitVec 32 := 1#32
  let v93 : BitVec 32 := Scalar.andi v86 c1_i32_33
  let v94 : BitVec 32 := Scalar.addi v92 v93
  let c2_i32 : BitVec 32 := 2#32
  let c0_i32_35 : BitVec 32 := 0#32
  let c1_i32_34 : BitVec 32 := 1#32
  let v95 : BitVec 32 := Scalar.shrsi v86 c1_i32_34
  let v96 : BitVec 32 := Scalar.subi v95 c0_i32_35
  let c1_i32_36 : BitVec 32 := 1#32
  let v98 : BitVec 32 := Scalar.divsi v96 c1_i32_36
  let v99 : BitVec 32 := Scalar.muli v98 c1_i32_36
  let v100 : BitVec 32 := Scalar.addi c0_i32_35 v99
  let c1_i32_38 : BitVec 32 := 1#32
  let arg9 : BitVec 32 := Scf.iv v100 c1_i32_38 k0_t2
  let v116 : BitVec 32 := Scalar.muli c2_i32 arg9
  let v117 : BitVec 32 := Scalar.addi v94 v116
  let c1_i32_47 : BitVec 32 := 1#32
  let v118 : BitVec 32 := Scalar.addi v117 c1_i32_47
  let c1024_i32_59 : BitVec 32 := 1024#32
  let v146 : BitVec 32 := Scalar.muli v118 c1024_i32_59
  let v147 : BitVec 32 := v146
  let v148 : Index := Scalar.indexCast v147
  let c0_60 : Index := 0#32
  ![v148.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8192x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Kernel3Ideal.lean ====
variable {F : FTy → Type} [FloatOps F] [Named F]
def κ : String → Option EReal := fun
  | "c" => some (((3424635 / 33554432) * (Real.log 2)⁻¹ : ℝ) : EReal)
  | "mask" => some ⊥
  | _ => none
-- ==== Reference3Ideal.lean ====
abbrev S8x8192x96 : Shape := ⟨3, ![8, 8192, 96]⟩
abbrev S8x8192x64 : Shape := ⟨3, ![8, 8192, 64]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x8192 : Shape := ⟨2, ![8, 8192]⟩
abbrev S8x8192x1 : Shape := ⟨3, ![8, 8192, 1]⟩
abbrev S8x64x8192 : Shape := ⟨3, ![8, 64, 8192]⟩
abbrev S8x8192x128 : Shape := ⟨3, ![8, 8192, 128]⟩
abbrev S8192x8x128 : Shape := ⟨3, ![8192, 8, 128]⟩
abbrev S8192x1024 : Shape := ⟨2, ![8192, 1024]⟩

abbrev nBuf : Space → Nat
  | .hbm => 101
  | .vmem => 0
  | .smem => 0
  | _ => 0

abbrev bufTy : (tb : Table) → Fin (tcTables nBuf tb) → BufTy
  | .hbm, ⟨0, _⟩ => ⟨S8x8192x96, .f32⟩
  | .hbm, ⟨1, _⟩ => ⟨S8x8192x96, .f32⟩
  | .hbm, ⟨2, _⟩ => ⟨S8x8192x64, .f32⟩
  | .hbm, ⟨3, _⟩ => ⟨S8x8192x64, .f32⟩
  | .hbm, ⟨4, _⟩ => ⟨S8x8192x8192, .f32⟩
  | .hbm, ⟨5, _⟩ => ⟨S_, .f32⟩
  | .hbm, ⟨6, _⟩ => ⟨S8x8192x8192, .f32⟩
  | .hbm, ⟨7, _⟩ => ⟨S8x8192x8192, .f32⟩
  | .hbm, ⟨8, _⟩ => ⟨S8192, .i32⟩
  | .hbm, ⟨9, _⟩ => ⟨S1x8192, .i32⟩
  | .hbm, ⟨10, _⟩ => ⟨S8192x1, .i32⟩
  | .hbm, ⟨11, _⟩ => ⟨S8192x8192, .i32⟩
  | .hbm, ⟨12, _⟩ => ⟨S8192x8192, .i32⟩
  | .hbm, ⟨13, _⟩ => ⟨S8192x8192, .i1⟩
  | .hbm, ⟨14, _⟩ => ⟨S_, .f32⟩
  | .hbm, ⟨15, _⟩ => ⟨S_, .f32⟩
  | .hbm, ⟨16, _⟩ => ⟨S8x8192x8192, .i1⟩
  | .hbm, ⟨17, _⟩ => ⟨S8x8192x8192, .f32⟩
  | .hbm, ⟨18, _⟩ => ⟨S8x8192x8192, .f32⟩
  | .hbm, ⟨19, _⟩ => ⟨S_, .f32⟩
  | .hbm, ⟨20, _⟩ => ⟨S8x8192x8192, .f32⟩
  | .hbm, ⟨21, _⟩ => ⟨S_, .f32⟩
  | .hbm, ⟨22, _⟩ => ⟨S8x8192, .f32⟩
  | .hbm, ⟨23, _⟩ => ⟨S8x8192x1, .f32⟩
  | .hbm, ⟨24, _⟩ => ⟨S8x8192x8192, .f32⟩
  | .hbm, ⟨25, _⟩ => ⟨S8x8192x8192, .i1⟩
  | .hbm, ⟨26, _⟩ => ⟨S8x8192x8192, .f32⟩
  | .hbm, ⟨27, _⟩ => ⟨S_, .f32⟩
  | .hbm, ⟨28, _⟩ => ⟨S8x8192, .f32⟩
  | .hbm, ⟨29, _⟩ => ⟨S_, .f32⟩
  | .hbm, ⟨30, _⟩ => ⟨S8x8192, .f32⟩
  | .hbm, ⟨31, _⟩ => ⟨S8x8192, .f32⟩
  | .hbm, ⟨32, _⟩ => ⟨S_, .f32⟩
  | .hbm, ⟨33, _⟩ => ⟨S8x8192, .f32⟩
  | .hbm, ⟨34, _⟩ => ⟨S8x8192, .i1⟩
  | .hbm, ⟨35, _⟩ => ⟨S_, .f32⟩
  | .hbm, ⟨36, _⟩ => ⟨S8x8192, .f32⟩
  | .hbm, ⟨37, _⟩ => ⟨S8x8192, .i1⟩
  | .hbm, ⟨38, _⟩ => ⟨S_, .f32⟩
  | .hbm, ⟨39, _⟩ => ⟨S8x8192, .f32⟩
  | .hbm, ⟨40, _⟩ => ⟨S_, .f32⟩
  | .hbm, ⟨41, _⟩ => ⟨S8x8192, .f32⟩
  | .hbm, ⟨42, _⟩ => ⟨S_, .f32⟩
  | .hbm, ⟨43, _⟩ => ⟨S8x8192, .f32⟩
  | .hbm, ⟨44, _⟩ => ⟨S8x8192, .f32⟩
  | .hbm, ⟨45, _⟩ => ⟨S8x8192, .f32⟩
  | .hbm, ⟨46, _⟩ => ⟨S8x8192x1, .f32⟩
  | .hbm, ⟨47, _⟩ => ⟨S8x8192x8192, .f32⟩
  | .hbm, ⟨48, _⟩ => ⟨S8x8192x8192, .f32⟩
  | .hbm, ⟨49, _⟩ => ⟨S8x8192x8192, .f32⟩
  | .hbm, ⟨50, _⟩ => ⟨S_, .f32⟩
  | .hbm, ⟨51, _⟩ => ⟨S8x8192, .f32⟩
  | .hbm, ⟨52, _⟩ => ⟨S8x8192x1, .f32⟩
  | .hbm, ⟨53, _⟩ => ⟨S8x8192x8192, .f32⟩
  | .hbm, ⟨54, _⟩ => ⟨S8x8192x8192, .f32⟩
  | .hbm, ⟨55, _⟩ => ⟨S8x8192x1, .f32⟩
  | .hbm, ⟨56, _⟩ => ⟨S_, .f32⟩
  | .hbm, ⟨57, _⟩ => ⟨S8x8192x1, .f32⟩
  | .hbm, ⟨58, _⟩ => ⟨S8x8192x1, .f32⟩
  | .hbm, ⟨59, _⟩ => ⟨S8x8192x64, .f32⟩
  | .hbm, ⟨60, _⟩ => ⟨S8x64x8192, .f32⟩
  | .hbm, ⟨61, _⟩ => ⟨S8x8192x64, .f32⟩
  | .hbm, ⟨62, _⟩ => ⟨S8x8192x8192, .f32⟩
  | .hbm, ⟨63, _⟩ => ⟨S8x8192x8192, .f32⟩
  | .hbm, ⟨64, _⟩ => ⟨S8x8192x8192, .f32⟩
  | .hbm, ⟨65, _⟩ => ⟨S8x8192x8192, .f32⟩
  | .hbm, ⟨66, _⟩ => ⟨S_, .f32⟩
  | .hbm, ⟨67, _⟩ => ⟨S8x8192, .f32⟩
  | .hbm, ⟨68, _⟩ => ⟨S8x8192x1, .f32⟩
  | .hbm, ⟨69, _⟩ => ⟨S8x8192x1, .f32⟩
  | .hbm, ⟨70, _⟩ => ⟨S8x8192x8192, .f32⟩
  | .hbm, ⟨71, _⟩ => ⟨S8x8192x8192, .f32⟩
  | .hbm, ⟨72, _⟩ => ⟨S_, .f32⟩
  | .hbm, ⟨73, _⟩ => ⟨S8x8192, .f32⟩
  | .hbm, ⟨74, _⟩ => ⟨S8x8192x8192, .f32⟩
  | .hbm, ⟨75, _⟩ => ⟨S8x8192x8192, .f32⟩
  | .hbm, ⟨76, _⟩ => ⟨S8x8192x8192, .f32⟩
  | .hbm, ⟨77, _⟩ => ⟨S_, .f32⟩
  | .hbm, ⟨78, _⟩ => ⟨S8x8192x8192, .f32⟩
  | .hbm, ⟨79, _⟩ => ⟨S8x8192x8192, .f32⟩
  | .hbm, ⟨80, _⟩ => ⟨S_, .f32⟩
  | .hbm, ⟨81, _⟩ => ⟨S8x8192x8192, .f32⟩
  | .hbm, ⟨82, _⟩ => ⟨S8x8192x8192, .f32⟩
  | .hbm, ⟨83, _⟩ => ⟨S8x8192x96, .f32⟩
  | .hbm, ⟨84, _⟩ => ⟨S8x8192x96, .f32⟩
  | .hbm, ⟨85, _⟩ => ⟨S_, .i32⟩
  | .hbm, ⟨86, _⟩ => ⟨S_, .f32⟩
  | .hbm, ⟨87, _⟩ => ⟨S8x8192x128, .f32⟩
  | .hbm, ⟨88, _⟩ => ⟨S8192x8x128, .f32⟩
  | .hbm, ⟨89, _⟩ => ⟨S8192x1024, .f32⟩
  | .hbm, ⟨90, _⟩ => ⟨S_, .i32⟩
  | .hbm, ⟨91, _⟩ => ⟨S_, .f32⟩
  | .hbm, ⟨92, _⟩ => ⟨S8x8192x128, .f32⟩
  | .hbm, ⟨93, _⟩ => ⟨S8192x8x128, .f32⟩
  | .hbm, ⟨94, _⟩ => ⟨S8192x1024, .f32⟩
  | .hbm, ⟨95, _⟩ => ⟨S8192x1024, .bf16⟩
  | .hbm, ⟨96, _⟩ => ⟨S_, .i32⟩
  | .hbm, ⟨97, _⟩ => ⟨S_, .f32⟩
  | .hbm, ⟨98, _⟩ => ⟨S8x8192x128, .f32⟩
  | .hbm, ⟨99, _⟩ => ⟨S8192x8x128, .f32⟩
  | .hbm, ⟨100, _⟩ => ⟨S8192x1024, .f32⟩
  | _, _ => ⟨S8x8192x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_call0_v0 : Ref sig .tc := ⟨.hbm, 15, rfl⟩
abbrev main_v9_1 : Ref sig .tc := ⟨.hbm, 16, rfl⟩
abbrev main_call0_v2 : Ref sig .tc := ⟨.hbm, 17, rfl⟩
abbrev main_v9_0 : Ref sig .tc := ⟨.hbm, 18, rfl⟩
abbrev main_call0_cst : Ref sig .tc := ⟨.hbm, 19, rfl⟩
abbrev main_v9_2 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_cst_8 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_9 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_10 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_11 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_12 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_call1_cst : Ref sig .tc := ⟨.hbm, 77, rfl⟩
abbrev main_call1_v0 : Ref sig .tc := ⟨.hbm, 78, rfl⟩
abbrev main_v54 : Ref sig .tc := ⟨.hbm, 79, rfl⟩
abbrev main_cst_13 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_c : Ref sig .tc := ⟨.hbm, 85, rfl⟩
abbrev main_call2_v0 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_call3_v0 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_c_15 : Ref sig .tc := ⟨.hbm, 96, rfl⟩
abbrev main_call4_v0 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩

abbrev nD : Nat := 1
abbrev τ : Topo := Topo.v7x

variable {F : FTy → Type} [FloatOps F]
-- ==== Kernel4.lean ====
abbrev S8192x4096 : Shape := ⟨2, ![8192, 4096]⟩
abbrev S4096x1024 : Shape := ⟨2, ![4096, 1024]⟩
abbrev S8192x1024 : Shape := ⟨2, ![8192, 1024]⟩
abbrev S2048x1024 : Shape := ⟨2, ![2048, 1024]⟩
abbrev S512x1024 : Shape := ⟨2, ![512, 1024]⟩
abbrev S2048x512 : Shape := ⟨2, ![2048, 512]⟩

abbrev nBuf : Space → Nat
  | .hbm => 7
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S8192x1024, .bf16⟩
  | .hbm, ⟨4, _⟩ => ⟨S4096x1024, .bf16⟩
  | .hbm, ⟨5, _⟩ => ⟨S8192x4096, .bf16⟩
  | .hbm, ⟨6, _⟩ => ⟨S8192x4096, .bf16⟩
  | .local _ .vmem, ⟨0, _⟩ => ⟨S2048x1024, .bf16⟩
  | .local _ .vmem, ⟨1, _⟩ => ⟨S2048x1024, .bf16⟩
  | .local _ .vmem, ⟨2, _⟩ => ⟨S512x1024, .bf16⟩
  | .local _ .vmem, ⟨3, _⟩ => ⟨S512x1024, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S8192x4096 : Shape := ⟨2, ![8192, 4096]⟩
abbrev S4096x1024 : Shape := ⟨2, ![4096, 1024]⟩
abbrev S8192x1024 : Shape := ⟨2, ![8192, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .i1⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S8192x1024, .f32⟩
  | .hbm, ⟨16, _⟩ => ⟨S8192x4096, .f32⟩
  | .hbm, ⟨17, _⟩ => ⟨S8192x4096, .f32⟩
  | .hbm, ⟨18, _⟩ => ⟨S_, .f32⟩
  | .hbm, ⟨19, _⟩ => ⟨S8192x4096, .f32⟩
  | .hbm, ⟨20, _⟩ => ⟨S8192x4096, .f32⟩
  | .hbm, ⟨21, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== Kernel5.lean ====
abbrev S8192x1024 : Shape := ⟨2, ![8192, 1024]⟩
abbrev S8192x512 : Shape := ⟨2, ![8192, 512]⟩
abbrev S1024x1024 : Shape := ⟨2, ![1024, 1024]⟩
abbrev S8192x3584 : Shape := ⟨2, ![8192, 3584]⟩
abbrev S2048x1024 : Shape := ⟨2, ![2048, 1024]⟩
abbrev S256x1024 : Shape := ⟨2, ![256, 1024]⟩
abbrev S2048x256 : Shape := ⟨2, ![2048, 256]⟩

abbrev nBuf : Space → Nat
  | .hbm => 19
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S8192x1024, .f32⟩
  | .hbm, ⟨9, _⟩ => ⟨S8192x3584, .f32⟩
  | .hbm, ⟨10, _⟩ => ⟨S8192x3584, .bf16⟩
  | .hbm, ⟨11, _⟩ => ⟨S8192x1024, .bf16⟩
  | .hbm, ⟨12, _⟩ => ⟨S1024x1024, .bf16⟩
  | .hbm, ⟨13, _⟩ => ⟨S8192x1024, .bf16⟩
  | .hbm, ⟨14, _⟩ => ⟨S8192x1024, .bf16⟩
  | .hbm, ⟨15, _⟩ => ⟨S8192x1024, .bf16⟩
  | .hbm, ⟨16, _⟩ => ⟨S8192x1024, .bf16⟩
  | .hbm, ⟨17, _⟩ => ⟨S8192x1024, .bf16⟩
  | .hbm, ⟨18, _⟩ => ⟨S8192x1024, .bf16⟩
  | .local _ .vmem, ⟨0, _⟩ => ⟨S2048x1024, .bf16⟩
  | .local _ .vmem, ⟨1, _⟩ => ⟨S2048x1024, .bf16⟩
  | .local _ .vmem, ⟨2, _⟩ => ⟨S256x1024, .bf16⟩
  | .local _ .vmem, ⟨3, _⟩ => ⟨S256x1024, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S2048x256, .bf16⟩
  | .local _ .vmem, ⟨14, _⟩ => ⟨S2048x256, .bf16⟩
  | .local _ .vmem, ⟨15, _⟩ => ⟨S2048x256, .bf16⟩
  | .local _ .vmem, ⟨16, _⟩ => ⟨S2048x256, .bf16⟩
  | .local _ .vmem, ⟨17, _⟩ => ⟨S2048x256, .bf16⟩
  | .local _ .vmem, ⟨18, _⟩ => ⟨S2048x256, .bf16⟩
  | .local _ .vmem, ⟨19, _⟩ => ⟨S2048x256, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev main_v6_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2048x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference5Ideal.lean ====
abbrev S8192x1024 : Shape := ⟨2, ![8192, 1024]⟩
abbrev S8192x512 : Shape := ⟨2, ![8192, 512]⟩
abbrev S1024x1024 : Shape := ⟨2, ![1024, 1024]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .bf16⟩
  | .hbm, ⟨45, _⟩ => ⟨S8192x1024, .bf16⟩
  | .hbm, ⟨46, _⟩ => ⟨S8192x1024, .bf16⟩
  | .hbm, ⟨47, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_cst_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩

abbrev nD : Nat := 1
abbrev τ : Topo := Topo.v7x

variable {F : FTy → Type} [FloatOps F]
-- ==== Kernel6.lean ====
abbrev S8192x768 : Shape := ⟨2, ![8192, 768]⟩
abbrev S8192 : Shape := ⟨1, ![8192]⟩
abbrev S16 : Shape := ⟨1, ![16]⟩
abbrev S_ : Shape := ⟨0, ![]⟩
abbrev S8192x1 : Shape := ⟨2, ![8192, 1]⟩
abbrev S1x16 : Shape := ⟨2, ![1, 16]⟩
abbrev S8192x16 : Shape := ⟨2, ![8192, 16]⟩
abbrev S8192x32 : Shape := ⟨2, ![8192, 32]⟩
abbrev S8192x64 : Shape := ⟨2, ![8192, 64]⟩
abbrev S8192x128 : Shape := ⟨2, ![8192, 128]⟩
abbrev S8192x80 : Shape := ⟨2, ![8192, 80]⟩
abbrev S8192x8x96 : Shape := ⟨3, ![8192, 8, 96]⟩
abbrev S8192x8x128 : Shape := ⟨3, ![8192, 8, 128]⟩
abbrev S8192x1024 : Shape := ⟨2, ![8192, 1024]⟩
abbrev S1024x1024 : Shape := ⟨2, ![1024, 1024]⟩
abbrev S1024x128 : Shape := ⟨2, ![1024, 128]⟩

abbrev nBuf : Space → Nat
  | .hbm => 39
  | .vmem => 10
  | .smem => 0
  | _ => 0

abbrev bufTy : (tb : Table) → Fin (tcTables nBuf tb) → BufTy
  | .hbm, ⟨0, _⟩ => ⟨S8192x768, .f32⟩
  | .hbm, ⟨1, _⟩ => ⟨S8192, .i32⟩
  | .hbm, ⟨2, _⟩ => ⟨S8192x768, .f32⟩
  | .hbm, ⟨3, _⟩ => ⟨S16, .f32⟩
  | .hbm, ⟨4, _⟩ => ⟨S16, .f32⟩
  | .hbm, ⟨5, _⟩ => ⟨S_, .f32⟩
  | .hbm, ⟨6, _⟩ => ⟨S16, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S8192, .f32⟩
  | .hbm, ⟨12, _⟩ => ⟨S8192x1, .f32⟩
  | .hbm, ⟨13, _⟩ => ⟨S1x16, .f32⟩
  | .hbm, ⟨14, _⟩ => ⟨S8192x16, .f32⟩
  | .hbm, ⟨15, _⟩ => ⟨S8192x16, .f32⟩
  | .hbm, ⟨16, _⟩ => ⟨S8192x16, .f32⟩
  | .hbm, ⟨17, _⟩ => ⟨S8192x16, .f32⟩
  | .hbm, ⟨18, _⟩ => ⟨S8192x16, .f32⟩
  | .hbm, ⟨19, _⟩ => ⟨S_, .f32⟩
  | .hbm, ⟨20, _⟩ => ⟨S8192x32, .f32⟩
  | .hbm, ⟨21, _⟩ => ⟨S_, .f32⟩
  | .hbm, ⟨22, _⟩ => ⟨S8192x64, .f32⟩
  | .hbm, ⟨23, _⟩ => ⟨S8192x128, .f32⟩
  | .hbm, ⟨24, _⟩ => ⟨S_, .f32⟩
  | .hbm, ⟨25, _⟩ => ⟨S8192x64, .f32⟩
  | .hbm, ⟨26, _⟩ => ⟨S8192x16, .f32⟩
  | .hbm, ⟨27, _⟩ => ⟨S_, .f32⟩
  | .hbm, ⟨28, _⟩ => ⟨S8192x16, .f32⟩
  | .hbm, ⟨29, _⟩ => ⟨S8192x128, .f32⟩
  | .hbm, ⟨30, _⟩ => ⟨S_, .f32⟩
  | .hbm, ⟨31, _⟩ => ⟨S8192x80, .f32⟩
  | .hbm, ⟨32, _⟩ => ⟨S8192x128, .f32⟩
  | .hbm, ⟨33, _⟩ => ⟨S8192x8x96, .f32⟩
  | .hbm, ⟨34, _⟩ => ⟨S_, .i32⟩
  | .hbm, ⟨35, _⟩ => ⟨S_, .f32⟩
  | .hbm, ⟨36, _⟩ => ⟨S8192x8x128, .f32⟩
  | .hbm, ⟨37, _⟩ => ⟨S8192x1024, .f32⟩
  | .hbm, ⟨38, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x1024, .bf16⟩
  | .local _ .vmem, ⟨9, _⟩ => ⟨S1024x1024, .bf16⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c : Ref sig .tc := ⟨.hbm, 34, rfl⟩
abbrev main_call0_v0 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference6Ideal.lean ====
abbrev S8192x768 : Shape := ⟨2, ![8192, 768]⟩
abbrev S8192 : Shape := ⟨1, ![8192]⟩
abbrev S8192x8x96 : Shape := ⟨3, ![8192, 8, 96]⟩
abbrev S8x8192x96 : Shape := ⟨3, ![8, 8192, 96]⟩
abbrev S8x8192x64 : Shape := ⟨3, ![8, 8192, 64]⟩
abbrev S8x8192x32 : Shape := ⟨3, ![8, 8192, 32]⟩
abbrev S16 : Shape := ⟨1, ![16]⟩
abbrev S_ : Shape := ⟨0, ![]⟩
abbrev S1x8192x1 : Shape := ⟨3, ![1, 8192, 1]⟩
abbrev S1x1x16 : Shape := ⟨3, ![1, 1, 16]⟩
abbrev S1x8192x16 : Shape := ⟨3, ![1, 8192, 16]⟩
abbrev S8x8192x16 : Shape := ⟨3, ![8, 8192, 16]⟩
abbrev S8x8192x128 : Shape := ⟨3, ![8, 8192, 128]⟩
abbrev S8192x8x128 : Shape := ⟨3, ![8192, 8, 128]⟩
abbrev S8192x1024 : Shape := ⟨2, ![8192, 1024]⟩

abbrev nBuf : Space → Nat
  | .hbm => 76
  | .vmem => 0
  | .smem => 0
  | _ => 0

abbrev bufTy : (tb : Table) → Fin (tcTables nBuf tb) → BufTy
  | .hbm, ⟨0, _⟩ => ⟨S8192x768, .f32⟩
  | .hbm, ⟨1, _⟩ => ⟨S8192, .i32⟩
  | .hbm, ⟨2, _⟩ => ⟨S8192x768, .f32⟩
  | .hbm, ⟨3, _⟩ => ⟨S8192x8x96, .f32⟩
  | .hbm, ⟨4, _⟩ => ⟨S8x8192x96, .f32⟩
  | .hbm, ⟨5, _⟩ => ⟨S8x8192x64, .f32⟩
  | .hbm, ⟨6, _⟩ => ⟨S8x8192x32, .f32⟩
  | .hbm, ⟨7, _⟩ => ⟨S16, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S8192, .f32⟩
  | .hbm, ⟨16, _⟩ => ⟨S1x8192x1, .f32⟩
  | .hbm, ⟨17, _⟩ => ⟨S1x1x16, .f32⟩
  | .hbm, ⟨18, _⟩ => ⟨S1x8192x16, .f32⟩
  | .hbm, ⟨19, _⟩ => ⟨S1x8192x16, .f32⟩
  | .hbm, ⟨20, _⟩ => ⟨S1x8192x16, .f32⟩
  | .hbm, ⟨21, _⟩ => ⟨S1x8192x16, .f32⟩
  | .hbm, ⟨22, _⟩ => ⟨S1x8192x16, .f32⟩
  | .hbm, ⟨23, _⟩ => ⟨S8x8192x16, .f32⟩
  | .hbm, ⟨24, _⟩ => ⟨S8x8192x16, .f32⟩
  | .hbm, ⟨25, _⟩ => ⟨S8x8192x16, .f32⟩
  | .hbm, ⟨26, _⟩ => ⟨S8x8192x16, .f32⟩
  | .hbm, ⟨27, _⟩ => ⟨S8x8192x16, .f32⟩
  | .hbm, ⟨28, _⟩ => ⟨S8x8192x16, .f32⟩
  | .hbm, ⟨29, _⟩ => ⟨S8x8192x16, .f32⟩
  | .hbm, ⟨30, _⟩ => ⟨S8x8192x16, .f32⟩
  | .hbm, ⟨31, _⟩ => ⟨S8x8192x16, .f32⟩
  | .hbm, ⟨32, _⟩ => ⟨S8x8192x16, .f32⟩
  | .hbm, ⟨33, _⟩ => ⟨S8x8192x16, .f32⟩
  | .hbm, ⟨34, _⟩ => ⟨S8x8192x16, .f32⟩
  | .hbm, ⟨35, _⟩ => ⟨S8x8192x32, .f32⟩
  | .hbm, ⟨36, _⟩ => ⟨S8x8192x96, .f32⟩
  | .hbm, ⟨37, _⟩ => ⟨S8192x8x96, .f32⟩
  | .hbm, ⟨38, _⟩ => ⟨S8192x768, .f32⟩
  | .hbm, ⟨39, _⟩ => ⟨S8192x8x96, .f32⟩
  | .hbm, ⟨40, _⟩ => ⟨S8x8192x96, .f32⟩
  | .hbm, ⟨41, _⟩ => ⟨S8x8192x64, .f32⟩
  | .hbm, ⟨42, _⟩ => ⟨S8x8192x32, .f32⟩
  | .hbm, ⟨43, _⟩ => ⟨S8x8192x16, .f32⟩
  | .hbm, ⟨44, _⟩ => ⟨S8x8192x16, .f32⟩
  | .hbm, ⟨45, _⟩ => ⟨S8x8192x16, .f32⟩
  | .hbm, ⟨46, _⟩ => ⟨S8x8192x16, .f32⟩
  | .hbm, ⟨47, _⟩ => ⟨S8x8192x16, .f32⟩
  | .hbm, ⟨48, _⟩ => ⟨S8x8192x16, .f32⟩
  | .hbm, ⟨49, _⟩ => ⟨S8x8192x16, .f32⟩
  | .hbm, ⟨50, _⟩ => ⟨S8x8192x16, .f32⟩
  | .hbm, ⟨51, _⟩ => ⟨S8x8192x16, .f32⟩
  | .hbm, ⟨52, _⟩ => ⟨S8x8192x16, .f32⟩
  | .hbm, ⟨53, _⟩ => ⟨S8x8192x16, .f32⟩
  | .hbm, ⟨54, _⟩ => ⟨S8x8192x16, .f32⟩
  | .hbm, ⟨55, _⟩ => ⟨S8x8192x16, .f32⟩
  | .hbm, ⟨56, _⟩ => ⟨S_, .f32⟩
  | .hbm, ⟨57, _⟩ => ⟨S8x8192x32, .f32⟩
  | .hbm, ⟨58, _⟩ => ⟨S_, .f32⟩
  | .hbm, ⟨59, _⟩ => ⟨S8x8192x32, .f32⟩
  | .hbm, ⟨60, _⟩ => ⟨S8x8192x32, .f32⟩
  | .hbm, ⟨61, _⟩ => ⟨S_, .f32⟩
  | .hbm, ⟨62, _⟩ => ⟨S8x8192x96, .f32⟩
  | .hbm, ⟨63, _⟩ => ⟨S_, .f32⟩
  | .hbm, ⟨64, _⟩ => ⟨S8x8192x96, .f32⟩
  | .hbm, ⟨65, _⟩ => ⟨S8x8192x96, .f32⟩
  | .hbm, ⟨66, _⟩ => ⟨S8192x8x96, .f32⟩
  | .hbm, ⟨67, _⟩ => ⟨S8192x768, .f32⟩
  | .hbm, ⟨68, _⟩ => ⟨S8192x8x96, .f32⟩
  | .hbm, ⟨69, _⟩ => ⟨S8x8192x96, .f32⟩
  | .hbm, ⟨70, _⟩ => ⟨S_, .i32⟩
  | .hbm, ⟨71, _⟩ => ⟨S_, .f32⟩
  | .hbm, ⟨72, _⟩ => ⟨S8x8192x128, .f32⟩
  | .hbm, ⟨73, _⟩ => ⟨S8192x8x128, .f32⟩
  | .hbm, ⟨74, _⟩ => ⟨S8192x1024, .f32⟩
  | .hbm, ⟨75, _⟩ => ⟨S8192x1024, .bf16⟩
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_cst_1 : Ref sig .tc := ⟨.hbm, 56, rfl⟩
abbrev main_v51 : Ref sig .tc := ⟨.hbm, 57, rfl⟩
abbrev main_cst_2 : Ref sig .tc := ⟨.hbm, 58, rfl⟩
abbrev main_v52 : Ref sig .tc := ⟨.hbm, 59, rfl⟩
abbrev main_v53 : Ref sig .tc := ⟨.hbm, 60, rfl⟩
abbrev main_cst_3 : Ref sig .tc := ⟨.hbm, 61, rfl⟩
abbrev main_v54 : Ref sig .tc := ⟨.hbm, 62, rfl⟩
abbrev main_cst_4 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_c : Ref sig .tc := ⟨.hbm, 70, rfl⟩
abbrev main_call0_v0 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩

abbrev nD : Nat := 1
abbrev τ : Topo := Topo.v7x

variable {F : FTy → Type} [FloatOps F]
-- ==== Kernel7.lean ====
abbrev S8192x512 : Shape := ⟨2, ![8192, 512]⟩
abbrev S8192x8 : Shape := ⟨2, ![8192, 8]⟩
abbrev S8192x1024 : Shape := ⟨2, ![8192, 1024]⟩
abbrev S8192x128 : Shape := ⟨2, ![8192, 128]⟩
abbrev S512x1024 : Shape := ⟨2, ![512, 1024]⟩
abbrev S512x512 : Shape := ⟨2, ![512, 512]⟩
abbrev S512x128 : Shape := ⟨2, ![512, 128]⟩
abbrev S512 : Shape := ⟨1, ![512]⟩
abbrev S512x1 : Shape := ⟨2, ![512, 1]⟩

abbrev nBuf : Space → Nat
  | .hbm => 12
  | .vmem => 14
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x8, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .bf16⟩
  | .hbm, ⟨8, _⟩ => ⟨S8192x512, .bf16⟩
  | .hbm, ⟨9, _⟩ => ⟨S8192x512, .bf16⟩
  | .hbm, ⟨10, _⟩ => ⟨S8192x512, .bf16⟩
  | .hbm, ⟨11, _⟩ => ⟨S8192x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x128, .f32⟩
  | .local _ .vmem, ⟨13, _⟩ => ⟨S512x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference7Ideal.lean ====
abbrev S8192x512 : Shape := ⟨2, ![8192, 512]⟩
abbrev S8192x8 : Shape := ⟨2, ![8192, 8]⟩
abbrev S8192x1024 : Shape := ⟨2, ![8192, 1024]⟩
abbrev S8192x8x64 : Shape := ⟨3, ![8192, 8, 64]⟩
abbrev S8192x8x1 : Shape := ⟨3, ![8192, 8, 1]⟩
abbrev S_ : Shape := ⟨0, ![]⟩
abbrev S8192x8x63 : Shape := ⟨3, ![8192, 8, 63]⟩
abbrev S8192x8x128 : Shape := ⟨3, ![8192, 8, 128]⟩
abbrev S8192x8x6 : Shape := ⟨3, ![8192, 8, 6]⟩
abbrev S8192x8x57 : Shape := ⟨3, ![8192, 8, 57]⟩
abbrev S8192x128 : Shape := ⟨2, ![8192, 128]⟩

abbrev nBuf : Space → Nat
  | .hbm => 62
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x8, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x8x64, .f32⟩
  | .hbm, ⟨8, _⟩ => ⟨S8192x8x1, .f32⟩
  | .hbm, ⟨9, _⟩ => ⟨S_, .f32⟩
  | .hbm, ⟨10, _⟩ => ⟨S8192x8x63, .f32⟩
  | .hbm, ⟨11, _⟩ => ⟨S8192x8x128, .f32⟩
  | .hbm, ⟨12, _⟩ => ⟨S_, .f32⟩
  | .hbm, ⟨13, _⟩ => ⟨S8192x8x63, .f32⟩
  | .hbm, ⟨14, _⟩ => ⟨S8192x1024, .f32⟩
  | .hbm, ⟨15, _⟩ => ⟨S8192x8x64, .f32⟩
  | .hbm, ⟨16, _⟩ => ⟨S_, .f32⟩
  | .hbm, ⟨17, _⟩ => ⟨S8192x8x6, .f32⟩
  | .hbm, ⟨18, _⟩ => ⟨S8192x8x1, .f32⟩
  | .hbm, ⟨19, _⟩ => ⟨S8192x8x1, .f32⟩
  | .hbm, ⟨20, _⟩ => ⟨S_, .f32⟩
  | .hbm, ⟨21, _⟩ => ⟨S8192x8x57, .f32⟩
  | .hbm, ⟨22, _⟩ => ⟨S8192x8x128, .f32⟩
  | .hbm, ⟨23, _⟩ => ⟨S_, .f32⟩
  | .hbm, ⟨24, _⟩ => ⟨S8192x8x6, .f32⟩
  | .hbm, ⟨25, _⟩ => ⟨S_, .f32⟩
  | .hbm, ⟨26, _⟩ => ⟨S8192x8x57, .f32⟩
  | .hbm, ⟨27, _⟩ => ⟨S8192x1024, .f32⟩
  | .hbm, ⟨28, _⟩ => ⟨S8192x8x64, .f32⟩
  | .hbm, ⟨29, _⟩ => ⟨S_, .f32⟩
  | .hbm, ⟨30, _⟩ => ⟨S8192x8x64, .f32⟩
  | .hbm, ⟨31, _⟩ => ⟨S8192x8x128, .f32⟩
  | .hbm, ⟨32, _⟩ => ⟨S_, .f32⟩
  | .hbm, ⟨33, _⟩ => ⟨S8192x8x64, .f32⟩
  | .hbm, ⟨34, _⟩ => ⟨S8192x1024, .f32⟩
  | .hbm, ⟨35, _⟩ => ⟨S8192x8x128, .f32⟩
  | .hbm, ⟨36, _⟩ => ⟨S8192x8x64, .f32⟩
  | .hbm, ⟨37, _⟩ => ⟨S8192x8x64, .f32⟩
  | .hbm, ⟨38, _⟩ => ⟨S8192x512, .f32⟩
  | .hbm, ⟨39, _⟩ => ⟨S8192x8x128, .f32⟩
  | .hbm, ⟨40, _⟩ => ⟨S8192x8x64, .f32⟩
  | .hbm, ⟨41, _⟩ => ⟨S8192x8x6, .f32⟩
  | .hbm, ⟨42, _⟩ => ⟨S8192x8x1, .f32⟩
  | .hbm, ⟨43, _⟩ => ⟨S8192x8x57, .f32⟩
  | .hbm, ⟨44, _⟩ => ⟨S8192x8x1, .f32⟩
  | .hbm, ⟨45, _⟩ => ⟨S_, .f32⟩
  | .hbm, ⟨46, _⟩ => ⟨S8192x8, .f32⟩
  | .hbm, ⟨47, _⟩ => ⟨S8192x512, .f32⟩
  | .hbm, ⟨48, _⟩ => ⟨S8192x8x128, .f32⟩
  | .hbm, ⟨49, _⟩ => ⟨S8192x8x64, .f32⟩
  | .hbm, ⟨50, _⟩ => ⟨S8192x8x1, .f32⟩
  | .hbm, ⟨51, _⟩ => ⟨S8192x8x63, .f32⟩
  | .hbm, ⟨52, _⟩ => ⟨S_, .f32⟩
  | .hbm, ⟨53, _⟩ => ⟨S8192x8, .f32⟩
  | .hbm, ⟨54, _⟩ => ⟨S8192x8, .f32⟩
  | .hbm, ⟨55, _⟩ => ⟨S8192x512, .f32⟩
  | .hbm, ⟨56, _⟩ => ⟨S8192x512, .bf16⟩
  | .hbm, ⟨57, _⟩ => ⟨S8192x512, .bf16⟩
  | .hbm, ⟨58, _⟩ => ⟨S8192x512, .bf16⟩
  | .hbm, ⟨59, _⟩ => ⟨S_, .i32⟩
  | .hbm, ⟨60, _⟩ => ⟨S_, .f32⟩
  | .hbm, ⟨61, _⟩ => ⟨S8192x128, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_cst_4 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_5 : Ref sig .tc := ⟨.hbm, 29, rfl⟩
abbrev main_v16 : Ref sig .tc := ⟨.hbm, 30, rfl⟩
abbrev main_v17 : Ref sig .tc := ⟨.hbm, 31, rfl⟩
abbrev main_cst_6 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_7 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_c : Ref sig .tc := ⟨.hbm, 59, rfl⟩
abbrev main_call0_v0 : Ref sig .tc := ⟨.hbm, 60, rfl⟩
abbrev main_v42 : Ref sig .tc := ⟨.hbm, 61, rfl⟩

abbrev nD : Nat := 1
abbrev τ : Topo := Topo.v7x

variable {F : FTy → Type} [FloatOps F]
-- ==== Kernel8.lean ====
abbrev S8192x512 : Shape := ⟨2, ![8192, 512]⟩
abbrev S8192x32 : Shape := ⟨2, ![8192, 32]⟩
abbrev S8192 : Shape := ⟨1, ![8192]⟩
abbrev S8192x768 : Shape := ⟨2, ![8192, 768]⟩
abbrev S16 : Shape := ⟨1, ![16]⟩
abbrev S_ : Shape := ⟨0, ![]⟩
abbrev S8192x1 : Shape := ⟨2, ![8192, 1]⟩
abbrev S1x16 : Shape := ⟨2, ![1, 16]⟩
abbrev S8192x16 : Shape := ⟨2, ![8192, 16]⟩
abbrev S8192x64 : Shape := ⟨2, ![8192, 64]⟩
abbrev S8192x128 : Shape := ⟨2, ![8192, 128]⟩
abbrev S8192x80 : Shape := ⟨2, ![8192, 80]⟩
abbrev S8192x8x96 : Shape := ⟨3, ![8192, 8, 96]⟩
abbrev S8192x8x128 : Shape := ⟨3, ![8192, 8, 128]⟩
abbrev S8192x1024 : Shape := ⟨2, ![8192, 1024]⟩
abbrev S8192x8x64 : Shape := ⟨3, ![8192, 8, 64]⟩
abbrev S8192x2048 : Shape := ⟨2, ![8192, 2048]⟩
abbrev S1024x1024 : Shape := ⟨2, ![1024, 1024]⟩
abbrev S1024x128 : Shape := ⟨2, ![1024, 128]⟩
abbrev S1024x2048 : Shape := ⟨2, ![1024, 2048]⟩

abbrev nBuf : Space → Nat
  | .hbm => 49
  | .vmem => 14
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x32, .f32⟩
  | .hbm, ⟨3, _⟩ => ⟨S8192, .i32⟩
  | .hbm, ⟨4, _⟩ => ⟨S8192x768, .f32⟩
  | .hbm, ⟨5, _⟩ => ⟨S8192x512, .f32⟩
  | .hbm, ⟨6, _⟩ => ⟨S16, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S8192, .f32⟩
  | .hbm, ⟨15, _⟩ => ⟨S8192x1, .f32⟩
  | .hbm, ⟨16, _⟩ => ⟨S1x16, .f32⟩
  | .hbm, ⟨17, _⟩ => ⟨S8192x16, .f32⟩
  | .hbm, ⟨18, _⟩ => ⟨S8192x16, .f32⟩
  | .hbm, ⟨19, _⟩ => ⟨S8192x16, .f32⟩
  | .hbm, ⟨20, _⟩ => ⟨S8192x16, .f32⟩
  | .hbm, ⟨21, _⟩ => ⟨S8192x16, .f32⟩
  | .hbm, ⟨22, _⟩ => ⟨S_, .f32⟩
  | .hbm, ⟨23, _⟩ => ⟨S8192x32, .f32⟩
  | .hbm, ⟨24, _⟩ => ⟨S_, .f32⟩
  | .hbm, ⟨25, _⟩ => ⟨S8192x64, .f32⟩
  | .hbm, ⟨26, _⟩ => ⟨S8192x128, .f32⟩
  | .hbm, ⟨27, _⟩ => ⟨S_, .f32⟩
  | .hbm, ⟨28, _⟩ => ⟨S8192x64, .f32⟩
  | .hbm, ⟨29, _⟩ => ⟨S8192x16, .f32⟩
  | .hbm, ⟨30, _⟩ => ⟨S_, .f32⟩
  | .hbm, ⟨31, _⟩ => ⟨S8192x16, .f32⟩
  | .hbm, ⟨32, _⟩ => ⟨S8192x128, .f32⟩
  | .hbm, ⟨33, _⟩ => ⟨S_, .f32⟩
  | .hbm, ⟨34, _⟩ => ⟨S8192x80, .f32⟩
  | .hbm, ⟨35, _⟩ => ⟨S8192x128, .f32⟩
  | .hbm, ⟨36, _⟩ => ⟨S8192x8x96, .f32⟩
  | .hbm, ⟨37, _⟩ => ⟨S_, .i32⟩
  | .hbm, ⟨38, _⟩ => ⟨S_, .f32⟩
  | .hbm, ⟨39, _⟩ => ⟨S8192x8x128, .f32⟩
  | .hbm, ⟨40, _⟩ => ⟨S8192x1024, .f32⟩
  | .hbm, ⟨41, _⟩ => ⟨S8192x8x64, .f32⟩
  | .hbm, ⟨42, _⟩ => ⟨S_, .i32⟩
  | .hbm, ⟨43, _⟩ => ⟨S_, .f32⟩
  | .hbm, ⟨44, _⟩ => ⟨S8192x8x128, .f32⟩
  | .hbm, ⟨45, _⟩ => ⟨S8192x1024, .f32⟩
  | .hbm, ⟨46, _⟩ => ⟨S8192x1024, .bf16⟩
  | .hbm, ⟨47, _⟩ => ⟨S8192x2048, .bf16⟩
  | .hbm, ⟨48, _⟩ => ⟨S8192x128, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x2048, .bf16⟩
  | .local _ .vmem, ⟨11, _⟩ => ⟨S1024x2048, .bf16⟩
  | .local _ .vmem, ⟨12, _⟩ => ⟨S1024x128, .bf16⟩
  | .local _ .vmem, ⟨13, _⟩ => ⟨S1024x128, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c : Ref sig .tc := ⟨.hbm, 37, rfl⟩
abbrev main_call0_v0 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_6 : Ref sig .tc := ⟨.hbm, 42, rfl⟩
abbrev main_call1_v0 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30_0 : Ref sig .tc := ⟨.hbm, 47, rfl⟩
abbrev main_v30_1 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference8Ideal.lean ====
abbrev S8192x512 : Shape := ⟨2, ![8192, 512]⟩
abbrev S8192x32 : Shape := ⟨2, ![8192, 32]⟩
abbrev S8192 : Shape := ⟨1, ![8192]⟩
abbrev S8192x768 : Shape := ⟨2, ![8192, 768]⟩
abbrev S1x8192x32 : Shape := ⟨3, ![1, 8192, 32]⟩
abbrev S16 : Shape := ⟨1, ![16]⟩
abbrev S_ : Shape := ⟨0, ![]⟩
abbrev S1x8192x1 : Shape := ⟨3, ![1, 8192, 1]⟩
abbrev S1x1x16 : Shape := ⟨3, ![1, 1, 16]⟩
abbrev S1x8192x16 : Shape := ⟨3, ![1, 8192, 16]⟩
abbrev S8192x8x64 : Shape := ⟨3, ![8192, 8, 64]⟩
abbrev S8x8192x64 : Shape := ⟨3, ![8, 8192, 64]⟩
abbrev S8x8192x32 : Shape := ⟨3, ![8, 8192, 32]⟩
abbrev S8x8192x96 : Shape := ⟨3, ![8, 8192, 96]⟩
abbrev S8192x8x96 : Shape := ⟨3, ![8192, 8, 96]⟩
abbrev S8x8192x128 : Shape := ⟨3, ![8, 8192, 128]⟩
abbrev S8192x8x128 : Shape := ⟨3, ![8192, 8, 128]⟩
abbrev S8192x1024 : Shape := ⟨2, ![8192, 1024]⟩
abbrev S8192x2048 : Shape := ⟨2, ![8192, 2048]⟩
abbrev S8192x128 : Shape := ⟨2, ![8192, 128]⟩

abbrev nBuf : Space → Nat
  | .hbm => 83
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x32, .f32⟩
  | .hbm, ⟨3, _⟩ => ⟨S8192, .i32⟩
  | .hbm, ⟨4, _⟩ => ⟨S8192x768, .f32⟩
  | .hbm, ⟨5, _⟩ => ⟨S8192x512, .f32⟩
  | .hbm, ⟨6, _⟩ => ⟨S1x8192x32, .f32⟩
  | .hbm, ⟨7, _⟩ => ⟨S16, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S8192, .f32⟩
  | .hbm, ⟨16, _⟩ => ⟨S1x8192x1, .f32⟩
  | .hbm, ⟨17, _⟩ => ⟨S1x1x16, .f32⟩
  | .hbm, ⟨18, _⟩ => ⟨S1x8192x16, .f32⟩
  | .hbm, ⟨19, _⟩ => ⟨S1x8192x16, .f32⟩
  | .hbm, ⟨20, _⟩ => ⟨S1x8192x16, .f32⟩
  | .hbm, ⟨21, _⟩ => ⟨S1x8192x16, .f32⟩
  | .hbm, ⟨22, _⟩ => ⟨S1x8192x16, .f32⟩
  | .hbm, ⟨23, _⟩ => ⟨S1x8192x16, .f32⟩
  | .hbm, ⟨24, _⟩ => ⟨S1x8192x16, .f32⟩
  | .hbm, ⟨25, _⟩ => ⟨S1x8192x16, .f32⟩
  | .hbm, ⟨26, _⟩ => ⟨S1x8192x16, .f32⟩
  | .hbm, ⟨27, _⟩ => ⟨S1x8192x16, .f32⟩
  | .hbm, ⟨28, _⟩ => ⟨S1x8192x16, .f32⟩
  | .hbm, ⟨29, _⟩ => ⟨S1x8192x16, .f32⟩
  | .hbm, ⟨30, _⟩ => ⟨S1x8192x16, .f32⟩
  | .hbm, ⟨31, _⟩ => ⟨S1x8192x32, .f32⟩
  | .hbm, ⟨32, _⟩ => ⟨S8192x8x64, .f32⟩
  | .hbm, ⟨33, _⟩ => ⟨S8x8192x64, .f32⟩
  | .hbm, ⟨34, _⟩ => ⟨S8x8192x32, .f32⟩
  | .hbm, ⟨35, _⟩ => ⟨S8x8192x96, .f32⟩
  | .hbm, ⟨36, _⟩ => ⟨S8192x8x96, .f32⟩
  | .hbm, ⟨37, _⟩ => ⟨S8192x768, .f32⟩
  | .hbm, ⟨38, _⟩ => ⟨S8192x8x96, .f32⟩
  | .hbm, ⟨39, _⟩ => ⟨S8x8192x96, .f32⟩
  | .hbm, ⟨40, _⟩ => ⟨S8x8192x64, .f32⟩
  | .hbm, ⟨41, _⟩ => ⟨S8x8192x32, .f32⟩
  | .hbm, ⟨42, _⟩ => ⟨S_, .f32⟩
  | .hbm, ⟨43, _⟩ => ⟨S8192x32, .f32⟩
  | .hbm, ⟨44, _⟩ => ⟨S1x8192x32, .f32⟩
  | .hbm, ⟨45, _⟩ => ⟨S8192x8x64, .f32⟩
  | .hbm, ⟨46, _⟩ => ⟨S8192x512, .f32⟩
  | .hbm, ⟨47, _⟩ => ⟨S1x8192x16, .f32⟩
  | .hbm, ⟨48, _⟩ => ⟨S1x8192x16, .f32⟩
  | .hbm, ⟨49, _⟩ => ⟨S1x8192x16, .f32⟩
  | .hbm, ⟨50, _⟩ => ⟨S1x8192x16, .f32⟩
  | .hbm, ⟨51, _⟩ => ⟨S1x8192x16, .f32⟩
  | .hbm, ⟨52, _⟩ => ⟨S1x8192x16, .f32⟩
  | .hbm, ⟨53, _⟩ => ⟨S1x8192x16, .f32⟩
  | .hbm, ⟨54, _⟩ => ⟨S1x8192x16, .f32⟩
  | .hbm, ⟨55, _⟩ => ⟨S1x8192x16, .f32⟩
  | .hbm, ⟨56, _⟩ => ⟨S_, .f32⟩
  | .hbm, ⟨57, _⟩ => ⟨S1x8192x32, .f32⟩
  | .hbm, ⟨58, _⟩ => ⟨S_, .f32⟩
  | .hbm, ⟨59, _⟩ => ⟨S1x8192x32, .f32⟩
  | .hbm, ⟨60, _⟩ => ⟨S1x8192x32, .f32⟩
  | .hbm, ⟨61, _⟩ => ⟨S_, .f32⟩
  | .hbm, ⟨62, _⟩ => ⟨S8192x32, .f32⟩
  | .hbm, ⟨63, _⟩ => ⟨S8192x8x64, .f32⟩
  | .hbm, ⟨64, _⟩ => ⟨S8x8192x64, .f32⟩
  | .hbm, ⟨65, _⟩ => ⟨S_, .i32⟩
  | .hbm, ⟨66, _⟩ => ⟨S_, .f32⟩
  | .hbm, ⟨67, _⟩ => ⟨S8x8192x128, .f32⟩
  | .hbm, ⟨68, _⟩ => ⟨S8192x8x128, .f32⟩
  | .hbm, ⟨69, _⟩ => ⟨S8192x1024, .f32⟩
  | .hbm, ⟨70, _⟩ => ⟨S8192x8x64, .f32⟩
  | .hbm, ⟨71, _⟩ => ⟨S8x8192x64, .f32⟩
  | .hbm, ⟨72, _⟩ => ⟨S_, .i32⟩
  | .hbm, ⟨73, _⟩ => ⟨S_, .f32⟩
  | .hbm, ⟨74, _⟩ => ⟨S8x8192x128, .f32⟩
  | .hbm, ⟨75, _⟩ => ⟨S8192x8x128, .f32⟩
  | .hbm, ⟨76, _⟩ => ⟨S8192x1024, .f32⟩
  | .hbm, ⟨77, _⟩ => ⟨S8192x2048, .f32⟩
  | .hbm, ⟨78, _⟩ => ⟨S8192x2048, .bf16⟩
  | .hbm, ⟨79, _⟩ => ⟨S_, .i32⟩
  | .hbm, ⟨80, _⟩ => ⟨S_, .f32⟩
  | .hbm, ⟨81, _⟩ => ⟨S8192x128, .f32⟩
  | .hbm, ⟨82, _⟩ => ⟨S8192x128, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_1 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_cst_2 : Ref sig .tc := ⟨.hbm, 56, rfl⟩
abbrev main_v47 : Ref sig .tc := ⟨.hbm, 57, rfl⟩
abbrev main_cst_3 : Ref sig .tc := ⟨.hbm, 58, rfl⟩
abbrev main_v48 : Ref sig .tc := ⟨.hbm, 59, rfl⟩
abbrev main_v49 : Ref sig .tc := ⟨.hbm, 60, rfl⟩
abbrev main_cst_4 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_c : Ref sig .tc := ⟨.hbm, 65, rfl⟩
abbrev main_call0_v0 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_c_5 : Ref sig .tc := ⟨.hbm, 72, rfl⟩
abbrev main_call1_v0 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_c_6 : Ref sig .tc := ⟨.hbm, 79, rfl⟩
abbrev main_call2_v0 : Ref sig .tc := ⟨.hbm, 80, rfl⟩
abbrev main_v63 : Ref sig .tc := ⟨.hbm, 81, rfl⟩
abbrev main_v64 : Ref sig .tc := ⟨.hbm, 82, rfl⟩

abbrev nD : Nat := 1
abbrev τ : Topo := Topo.v7x

variable {F : FTy → Type} [FloatOps F]
-- ==== Kernel9.lean ====
abbrev S8192x512 : Shape := ⟨2, ![8192, 512]⟩
abbrev S512x1024 : Shape := ⟨2, ![512, 1024]⟩
abbrev S8192x1024 : Shape := ⟨2, ![8192, 1024]⟩
abbrev S1024x512 : Shape := ⟨2, ![1024, 512]⟩
abbrev S1024x8x64 : Shape := ⟨3, ![1024, 8, 64]⟩
abbrev S_ : Shape := ⟨0, ![]⟩
abbrev S1024x8x128 : Shape := ⟨3, ![1024, 8, 128]⟩
abbrev S1024x1024 : Shape := ⟨2, ![1024, 1024]⟩
abbrev S8192x8x64 : Shape := ⟨3, ![8192, 8, 64]⟩
abbrev S8192x8x128 : Shape := ⟨3, ![8192, 8, 128]⟩
abbrev S2048x1024 : Shape := ⟨2, ![2048, 1024]⟩
abbrev S2048x512 : Shape := ⟨2, ![2048, 512]⟩
abbrev S2048x128 : Shape := ⟨2, ![2048, 128]⟩
abbrev S2048 : Shape := ⟨1, ![2048]⟩
abbrev S2048x1 : Shape := ⟨2, ![2048, 1]⟩

abbrev nBuf : Space → Nat
  | .hbm => 19
  | .vmem => 8
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x1024, .f32⟩
  | .hbm, ⟨3, _⟩ => ⟨S8192x1024, .bf16⟩
  | .hbm, ⟨4, _⟩ => ⟨S1024x512, .f32⟩
  | .hbm, ⟨5, _⟩ => ⟨S1024x8x64, .f32⟩
  | .hbm, ⟨6, _⟩ => ⟨S_, .i32⟩
  | .hbm, ⟨7, _⟩ => ⟨S_, .f32⟩
  | .hbm, ⟨8, _⟩ => ⟨S1024x8x128, .f32⟩
  | .hbm, ⟨9, _⟩ => ⟨S1024x1024, .f32⟩
  | .hbm, ⟨10, _⟩ => ⟨S1024x1024, .f32⟩
  | .hbm, ⟨11, _⟩ => ⟨S1024x1024, .bf16⟩
  | .hbm, ⟨12, _⟩ => ⟨S8192x8x64, .f32⟩
  | .hbm, ⟨13, _⟩ => ⟨S_, .i32⟩
  | .hbm, ⟨14, _⟩ => ⟨S_, .f32⟩
  | .hbm, ⟨15, _⟩ => ⟨S8192x8x128, .f32⟩
  | .hbm, ⟨16, _⟩ => ⟨S8192x1024, .f32⟩
  | .hbm, ⟨17, _⟩ => ⟨S8192x1024, .bf16⟩
  | .hbm, ⟨18, _⟩ => ⟨S8192x1024, .bf16⟩
  | .local _ .vmem, ⟨0, _⟩ => ⟨S2048x1024, .bf16⟩
  | .local _ .vmem, ⟨1, _⟩ => ⟨S2048x1024, .bf16⟩
  | .local _ .vmem, ⟨2, _⟩ => ⟨S512x1024, .bf16⟩
  | .local _ .vmem, ⟨3, _⟩ => ⟨S512x1024, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_call1_v0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference9Ideal.lean ====
abbrev S8192x512 : Shape := ⟨2, ![8192, 512]⟩
abbrev S512x1024 : Shape := ⟨2, ![512, 1024]⟩
abbrev S8192x1024 : Shape := ⟨2, ![8192, 1024]⟩
abbrev S8192x8x64 : Shape := ⟨3, ![8192, 8, 64]⟩
abbrev S_ : Shape := ⟨0, ![]⟩
abbrev S8192x8 : Shape := ⟨2, ![8192, 8]⟩
abbrev S8192x8x1 : Shape := ⟨3, ![8192, 8, 1]⟩
abbrev S8192x8x65 : Shape := ⟨3, ![8192, 8, 65]⟩
abbrev S8192x8x128 : Shape := ⟨3, ![8192, 8, 128]⟩

abbrev nBuf : Space → Nat
  | .hbm => 19
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x1024, .f32⟩
  | .hbm, ⟨3, _⟩ => ⟨S8192x1024, .f32⟩
  | .hbm, ⟨4, _⟩ => ⟨S8192x512, .f32⟩
  | .hbm, ⟨5, _⟩ => ⟨S8192x8x64, .f32⟩
  | .hbm, ⟨6, _⟩ => ⟨S8192x8x64, .f32⟩
  | .hbm, ⟨7, _⟩ => ⟨S8192x8x64, .f32⟩
  | .hbm, ⟨8, _⟩ => ⟨S_, .f32⟩
  | .hbm, ⟨9, _⟩ => ⟨S8192x8, .f32⟩
  | .hbm, ⟨10, _⟩ => ⟨S8192x8x1, .f32⟩
  | .hbm, ⟨11, _⟩ => ⟨S8192x8x64, .f32⟩
  | .hbm, ⟨12, _⟩ => ⟨S8192x8x1, .f32⟩
  | .hbm, ⟨13, _⟩ => ⟨S8192x8x65, .f32⟩
  | .hbm, ⟨14, _⟩ => ⟨S_, .i32⟩
  | .hbm, ⟨15, _⟩ => ⟨S_, .f32⟩
  | .hbm, ⟨16, _⟩ => ⟨S8192x8x128, .f32⟩
  | .hbm, ⟨17, _⟩ => ⟨S8192x1024, .f32⟩
  | .hbm, ⟨18, _⟩ => ⟨S8192x1024, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c : Ref sig .tc := ⟨.hbm, 14, rfl⟩
abbrev main_call0_v0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== Kernel10.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference10Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S_, .f32⟩
  | .hbm, ⟨41, _⟩ => ⟨S8192, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Kernel11.lean ====
abbrev S8192x256 : Shape := ⟨2, ![8192, 256]⟩
abbrev S8192x128 : Shape := ⟨2, ![8192, 128]⟩
abbrev S8192x32 : Shape := ⟨2, ![8192, 32]⟩
abbrev S8192x8 : Shape := ⟨2, ![8192, 8]⟩
abbrev S1x256 : Shape := ⟨2, ![1, 256]⟩
abbrev S1x128 : Shape := ⟨2, ![1, 128]⟩
abbrev S_ : Shape := ⟨0, ![]⟩
abbrev S8192x640 : Shape := ⟨2, ![8192, 640]⟩
abbrev S1024x256 : Shape := ⟨2, ![1024, 256]⟩
abbrev S1024x128 : Shape := ⟨2, ![1024, 128]⟩
abbrev S1024 : Shape := ⟨1, ![1024]⟩
abbrev S1024x1 : Shape := ⟨2, ![1024, 1]⟩
abbrev S256 : Shape := ⟨1, ![256]⟩
abbrev S128 : Shape := ⟨1, ![128]⟩

abbrev nBuf : Space → Nat
  | .hbm => 19
  | .vmem => 16
  | .smem => 0
  | _ => 0

abbrev bufTy : (tb : Table) → Fin (tcTables nBuf tb) → BufTy
  | .hbm, ⟨0, _⟩ => ⟨S8192x256, .f32⟩
  | .hbm, ⟨1, _⟩ => ⟨S8192x128, .f32⟩
  | .hbm, ⟨2, _⟩ => ⟨S8192x32, .f32⟩
  | .hbm, ⟨3, _⟩ => ⟨S8192x8, .f32⟩
  | .hbm, ⟨4, _⟩ => ⟨S1x256, .f32⟩
  | .hbm, ⟨5, _⟩ => ⟨S1x128, .f32⟩
  | .hbm, ⟨6, _⟩ => ⟨S8192x256, .f32⟩
  | .hbm, ⟨7, _⟩ => ⟨S8192x128, .f32⟩
  | .hbm, ⟨8, _⟩ => ⟨S_, .i32⟩
  | .hbm, ⟨9, _⟩ => ⟨S_, .f32⟩
  | .hbm, ⟨10, _⟩ => ⟨S8192x128, .f32⟩
  | .hbm, ⟨11, _⟩ => ⟨S_, .i32⟩
  | .hbm, ⟨12, _⟩ => ⟨S_, .f32⟩
  | .hbm, ⟨13, _⟩ => ⟨S8192x128, .f32⟩
  | .hbm, ⟨14, _⟩ => ⟨S8192x640, .f32⟩
  | .hbm, ⟨15, _⟩ => ⟨S8192x256, .bf16⟩
  | .hbm, ⟨16, _⟩ => ⟨S8192x128, .bf16⟩
  | .hbm, ⟨17, _⟩ => ⟨S1x256, .f32⟩
  | .hbm, ⟨18, _⟩ => ⟨S1x128, .f32⟩
  | .local _ .vmem, ⟨0, _⟩ => ⟨S1024x256, .f32⟩
  | .local _ .vmem, ⟨1, _⟩ => ⟨S1024x256, .f32⟩
  | .local _ .vmem, ⟨2, _⟩ => ⟨S1024x128, .f32⟩
  | .local _ .vmem, ⟨3, _⟩ => ⟨S1024x128, .f32⟩
  | .local _ .vmem, ⟨4, _⟩ => ⟨S1024x256, .f32⟩
  | .local _ .vmem, ⟨5, _⟩ => ⟨S1024x256, .f32⟩
  | .local _ .vmem, ⟨6, _⟩ => ⟨S1024x128, .f32⟩
  | .local _ .vmem, ⟨7, _⟩ => ⟨S1024x128, .f32⟩
  | .local _ .vmem, ⟨8, _⟩ => ⟨S1x256, .f32⟩
  | .local _ .vmem, ⟨9, _⟩ => ⟨S1x128, .f32⟩
  | .local _ .vmem, ⟨10, _⟩ => ⟨S1024x256, .bf16⟩
  | .local _ .vmem, ⟨11, _⟩ => ⟨S1024x256, .bf16⟩
  | .local _ .vmem, ⟨12, _⟩ => ⟨S1024x128, .bf16⟩
  | .local _ .vmem, ⟨13, _⟩ => ⟨S1024x128, .bf16⟩
  | .local _ .vmem, ⟨14, _⟩ => ⟨S1x256, .f32⟩
  | .local _ .vmem, ⟨15, _⟩ => ⟨S1x128, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_c_0 : Ref sig .tc := ⟨.hbm, 11, rfl⟩
abbrev main_call1_v0 : Ref sig .tc := ⟨.hbm, 12, rfl⟩
abbrev main_v1 : Ref sig .tc := ⟨.hbm, 13, rfl⟩
abbrev main_v2 : Ref sig .tc := ⟨.hbm, 14, rfl⟩
abbrev main_v3_0 : Ref sig .tc := ⟨.hbm, 15, rfl⟩
abbrev main_v3_1 : Ref sig .tc := ⟨.hbm, 16, rfl⟩
abbrev main_v3_2 : Ref sig .tc := ⟨.hbm, 17, rfl⟩
abbrev main_v3_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference11Ideal.lean ====
abbrev S8192x256 : Shape := ⟨2, ![8192, 256]⟩
abbrev S8192x128 : Shape := ⟨2, ![8192, 128]⟩
abbrev S8192x32 : Shape := ⟨2, ![8192, 32]⟩
abbrev S8192x8 : Shape := ⟨2, ![8192, 8]⟩
abbrev S1x256 : Shape := ⟨2, ![1, 256]⟩
abbrev S1x128 : Shape := ⟨2, ![1, 128]⟩
abbrev S_ : Shape := ⟨0, ![]⟩
abbrev S8192 : Shape := ⟨1, ![8192]⟩
abbrev S8192x1 : Shape := ⟨2, ![8192, 1]⟩
abbrev S256 : Shape := ⟨1, ![256]⟩
abbrev S128 : Shape := ⟨1, ![128]⟩

abbrev nBuf : Space → Nat
  | .hbm => 94
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x128, .f32⟩
  | .hbm, ⟨2, _⟩ => ⟨S8192x32, .f32⟩
  | .hbm, ⟨3, _⟩ => ⟨S8192x8, .f32⟩
  | .hbm, ⟨4, _⟩ => ⟨S1x256, .f32⟩
  | .hbm, ⟨5, _⟩ => ⟨S1x128, .f32⟩
  | .hbm, ⟨6, _⟩ => ⟨S8192x256, .f32⟩
  | .hbm, ⟨7, _⟩ => ⟨S8192x128, .f32⟩
  | .hbm, ⟨8, _⟩ => ⟨S8192x256, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x256, .f32⟩
  | .hbm, ⟨24, _⟩ => ⟨S8192x256, .f32⟩
  | .hbm, ⟨25, _⟩ => ⟨S8192x256, .f32⟩
  | .hbm, ⟨26, _⟩ => ⟨S8192x256, .f32⟩
  | .hbm, ⟨27, _⟩ => ⟨S8192x256, .f32⟩
  | .hbm, ⟨28, _⟩ => ⟨S_, .f32⟩
  | .hbm, ⟨29, _⟩ => ⟨S256, .f32⟩
  | .hbm, ⟨30, _⟩ => ⟨S1x256, .f32⟩
  | .hbm, ⟨31, _⟩ => ⟨S8192x256, .f32⟩
  | .hbm, ⟨32, _⟩ => ⟨S8192x256, .f32⟩
  | .hbm, ⟨33, _⟩ => ⟨S8192x256, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S8192x256, .f32⟩
  | .hbm, ⟨38, _⟩ => ⟨S8192x256, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192, .f32⟩
  | .hbm, ⟨45, _⟩ => ⟨S8192x256, .f32⟩
  | .hbm, ⟨46, _⟩ => ⟨S8192x256, .f32⟩
  | .hbm, ⟨47, _⟩ => ⟨S8192x256, .f32⟩
  | .hbm, ⟨48, _⟩ => ⟨S8192x256, .f32⟩
  | .hbm, ⟨49, _⟩ => ⟨S8192x256, .f32⟩
  | .hbm, ⟨50, _⟩ => ⟨S8192x128, .f32⟩
  | .hbm, ⟨51, _⟩ => ⟨S_, .f32⟩
  | .hbm, ⟨52, _⟩ => ⟨S8192, .f32⟩
  | .hbm, ⟨53, _⟩ => ⟨S8192x1, .f32⟩
  | .hbm, ⟨54, _⟩ => ⟨S_, .f32⟩
  | .hbm, ⟨55, _⟩ => ⟨S8192x1, .f32⟩
  | .hbm, ⟨56, _⟩ => ⟨S8192x1, .f32⟩
  | .hbm, ⟨57, _⟩ => ⟨S_, .f32⟩
  | .hbm, ⟨58, _⟩ => ⟨S8192x1, .f32⟩
  | .hbm, ⟨59, _⟩ => ⟨S8192x1, .f32⟩
  | .hbm, ⟨60, _⟩ => ⟨S8192x1, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S8192x128, .f32⟩
  | .hbm, ⟨66, _⟩ => ⟨S8192x128, .f32⟩
  | .hbm, ⟨67, _⟩ => ⟨S8192x128, .f32⟩
  | .hbm, ⟨68, _⟩ => ⟨S8192x128, .f32⟩
  | .hbm, ⟨69, _⟩ => ⟨S8192x128, .f32⟩
  | .hbm, ⟨70, _⟩ => ⟨S_, .f32⟩
  | .hbm, ⟨71, _⟩ => ⟨S128, .f32⟩
  | .hbm, ⟨72, _⟩ => ⟨S1x128, .f32⟩
  | .hbm, ⟨73, _⟩ => ⟨S8192x128, .f32⟩
  | .hbm, ⟨74, _⟩ => ⟨S8192x128, .f32⟩
  | .hbm, ⟨75, _⟩ => ⟨S8192x128, .f32⟩
  | .hbm, ⟨76, _⟩ => ⟨S_, .f32⟩
  | .hbm, ⟨77, _⟩ => ⟨S8192, .f32⟩
  | .hbm, ⟨78, _⟩ => ⟨S8192x1, .f32⟩
  | .hbm, ⟨79, _⟩ => ⟨S8192x128, .f32⟩
  | .hbm, ⟨80, _⟩ => ⟨S8192x128, .f32⟩
  | .hbm, ⟨81, _⟩ => ⟨S8192x1, .f32⟩
  | .hbm, ⟨82, _⟩ => ⟨S_, .f32⟩
  | .hbm, ⟨83, _⟩ => ⟨S8192x1, .f32⟩
  | .hbm, ⟨84, _⟩ => ⟨S8192x1, .f32⟩
  | .hbm, ⟨85, _⟩ => ⟨S_, .f32⟩
  | .hbm, ⟨86, _⟩ => ⟨S8192, .f32⟩
  | .hbm, ⟨87, _⟩ => ⟨S8192x128, .f32⟩
  | .hbm, ⟨88, _⟩ => ⟨S8192x128, .f32⟩
  | .hbm, ⟨89, _⟩ => ⟨S8192x128, .f32⟩
  | .hbm, ⟨90, _⟩ => ⟨S8192x128, .f32⟩
  | .hbm, ⟨91, _⟩ => ⟨S8192x128, .f32⟩
  | .hbm, ⟨92, _⟩ => ⟨S8192x256, .bf16⟩
  | .hbm, ⟨93, _⟩ => ⟨S8192x128, .bf16⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_5 : Ref sig .tc := ⟨.hbm, 40, rfl⟩
abbrev main_v26 : Ref sig .tc := ⟨.hbm, 41, rfl⟩
abbrev main_v27 : Ref sig .tc := ⟨.hbm, 42, rfl⟩
abbrev main_cst_6 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩
abbrev main_v36 : Ref sig .tc := ⟨.hbm, 53, rfl⟩
abbrev main_cst_8 : Ref sig .tc := ⟨.hbm, 54, rfl⟩
abbrev main_v37 : Ref sig .tc := ⟨.hbm, 55, rfl⟩
abbrev main_v38 : Ref sig .tc := ⟨.hbm, 56, rfl⟩
abbrev main_cst_9 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_10 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_11 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_12 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_13 : Ref sig .tc := ⟨.hbm, 82, rfl⟩
abbrev main_v60 : Ref sig .tc := ⟨.hbm, 83, rfl⟩
abbrev main_v61 : Ref sig .tc := ⟨.hbm, 84, rfl⟩
abbrev main_cst_14 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩

abbrev nD : Nat := 1
abbrev τ : Topo := Topo.v7x

variable {F : FTy → Type} [FloatOps F]
-- ==== Kernel12.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩
abbrev S_ : Shape := ⟨0, ![]⟩

abbrev nBuf : Space → Nat
  | .hbm => 14
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .f32⟩
  | .hbm, ⟨4, _⟩ => ⟨S8192x1024, .f32⟩
  | .hbm, ⟨5, _⟩ => ⟨S8192x1024, .bf16⟩
  | .hbm, ⟨6, _⟩ => ⟨S1x1024, .f32⟩
  | .hbm, ⟨7, _⟩ => ⟨S1x1024, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | .local _ .vmem, ⟨12, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_cst : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_cst_1 : Ref sig .tc := ⟨.hbm, 12, rfl⟩
abbrev main_v3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference12Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 71
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S8192, .f32⟩
  | .hbm, ⟨42, _⟩ => ⟨S_, .f32⟩
  | .hbm, ⟨43, _⟩ => ⟨S8192, .f32⟩
  | .hbm, ⟨44, _⟩ => ⟨S8192, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S8192, .f32⟩
  | .hbm, ⟨56, _⟩ => ⟨S8192x1, .f32⟩
  | .hbm, ⟨57, _⟩ => ⟨S8192x1024, .f32⟩
  | .hbm, ⟨58, _⟩ => ⟨S8192x1024, .f32⟩
  | .hbm, ⟨59, _⟩ => ⟨S8192x1, .f32⟩
  | .hbm, ⟨60, _⟩ => ⟨S_, .f32⟩
  | .hbm, ⟨61, _⟩ => ⟨S8192x1, .f32⟩
  | .hbm, ⟨62, _⟩ => ⟨S8192x1, .f32⟩
  | .hbm, ⟨63, _⟩ => ⟨S_, .f32⟩
  | .hbm, ⟨64, _⟩ => ⟨S8192, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_cst_8 : Ref sig .tc := ⟨.hbm, 38, rfl⟩
abbrev main_cst_9 : Ref sig .tc := ⟨.hbm, 39, rfl⟩
abbrev main_v25 : Ref sig .tc := ⟨.hbm, 40, rfl⟩
abbrev main_v26 : Ref sig .tc := ⟨.hbm, 41, rfl⟩
abbrev main_cst_10 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_11 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_12 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_13 : Ref sig .tc := ⟨.hbm, 60, rfl⟩
abbrev main_v42 : Ref sig .tc := ⟨.hbm, 61, rfl⟩
abbrev main_v43 : Ref sig .tc := ⟨.hbm, 62, rfl⟩
abbrev main_cst_14 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩

abbrev nD : Nat := 1
abbrev τ : Topo := Topo.v7x

variable {F : FTy → Type} [FloatOps F]
-- ==== Kernel13.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 26
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .bf16⟩
  | .hbm, ⟨24, _⟩ => ⟨S1x1024, .f32⟩
  | .hbm, ⟨25, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | .local _ .vmem, ⟨15, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev main_v13_2 : Ref sig .tc := ⟨.hbm, 24, rfl⟩
abbrev main_v13_3 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference13Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 94
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S8192, .f32⟩
  | .hbm, ⟨54, _⟩ => ⟨S8192x1, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1, .f32⟩
  | .hbm, ⟨59, _⟩ => ⟨S_, .f32⟩
  | .hbm, ⟨60, _⟩ => ⟨S8192x1, .f32⟩
  | .hbm, ⟨61, _⟩ => ⟨S8192x1, .f32⟩
  | .hbm, ⟨62, _⟩ => ⟨S_, .f32⟩
  | .hbm, ⟨63, _⟩ => ⟨S8192, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S_, .f32⟩
  | .hbm, ⟨72, _⟩ => ⟨S1024, .f32⟩
  | .hbm, ⟨73, _⟩ => ⟨S1x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S_, .f32⟩
  | .hbm, ⟨78, _⟩ => ⟨S8192, .f32⟩
  | .hbm, ⟨79, _⟩ => ⟨S8192x1, .f32⟩
  | .hbm, ⟨80, _⟩ => ⟨S8192x1024, .f32⟩
  | .hbm, ⟨81, _⟩ => ⟨S8192x1024, .f32⟩
  | .hbm, ⟨82, _⟩ => ⟨S8192x1, .f32⟩
  | .hbm, ⟨83, _⟩ => ⟨S_, .f32⟩
  | .hbm, ⟨84, _⟩ => ⟨S8192x1, .f32⟩
  | .hbm, ⟨85, _⟩ => ⟨S8192x1, .f32⟩
  | .hbm, ⟨86, _⟩ => ⟨S_, .f32⟩
  | .hbm, ⟨87, _⟩ => ⟨S8192, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S8192x1024, .f32⟩
  | .hbm, ⟨92, _⟩ => ⟨S8192x1024, .f32⟩
  | .hbm, ⟨93, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_v44 : Ref sig .tc := ⟨.hbm, 61, rfl⟩
abbrev main_cst_10 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_11 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_12 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_13 : Ref sig .tc := ⟨.hbm, 83, rfl⟩
abbrev main_v63 : Ref sig .tc := ⟨.hbm, 84, rfl⟩
abbrev main_v64 : Ref sig .tc := ⟨.hbm, 85, rfl⟩
abbrev main_cst_14 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩

abbrev nD : Nat := 1
abbrev τ : Topo := Topo.v7x

variable {F : FTy → Type} [FloatOps F]
-- ==== Kernel14.lean ====
abbrev S8x8192x96 : Shape := ⟨3, ![8, 8192, 96]⟩
abbrev S8x8192x64 : Shape := ⟨3, ![8, 8192, 64]⟩
abbrev S_ : Shape := ⟨0, ![]⟩
abbrev S8x8192x128 : Shape := ⟨3, ![8, 8192, 128]⟩
abbrev S8192x8x128 : Shape := ⟨3, ![8192, 8, 128]⟩
abbrev S8192x1024 : Shape := ⟨2, ![8192, 1024]⟩
abbrev S8x8192 : Shape := ⟨2, ![8, 8192]⟩
abbrev S8x8192x1 : Shape := ⟨3, ![8, 8192, 1]⟩
abbrev S8x8192x99 : Shape := ⟨3, ![8, 8192, 99]⟩
abbrev S8x8192x67 : Shape := ⟨3, ![8, 8192, 67]⟩
abbrev S1024x128 : Shape := ⟨2, ![1024, 128]⟩
abbrev S8192x128 : Shape := ⟨2, ![8192, 128]⟩
abbrev S1024x1 : Shape := ⟨2, ![1024, 1]⟩
abbrev S1024x1024 : Shape := ⟨2, ![1024, 1024]⟩
abbrev S1024 : Shape := ⟨1, ![1024]⟩

abbrev nBuf : Space → Nat
  | .hbm => 43
  | .vmem => 10
  | .smem => 0
  | _ => 0

abbrev bufTy : (tb : Table) → Fin (tcTables nBuf tb) → BufTy
  | .hbm, ⟨0, _⟩ => ⟨S8x8192x96, .f32⟩
  | .hbm, ⟨1, _⟩ => ⟨S8x8192x96, .f32⟩
  | .hbm, ⟨2, _⟩ => ⟨S8x8192x64, .f32⟩
  | .hbm, ⟨3, _⟩ => ⟨S_, .i32⟩
  | .hbm, ⟨4, _⟩ => ⟨S_, .f32⟩
  | .hbm, ⟨5, _⟩ => ⟨S8x8192x128, .f32⟩
  | .hbm, ⟨6, _⟩ => ⟨S8192x8x128, .f32⟩
  | .hbm, ⟨7, _⟩ => ⟨S8192x1024, .f32⟩
  | .hbm, ⟨8, _⟩ => ⟨S8192x1024, .bf16⟩
  | .hbm, ⟨9, _⟩ => ⟨S_, .f32⟩
  | .hbm, ⟨10, _⟩ => ⟨S8x8192, .f32⟩
  | .hbm, ⟨11, _⟩ => ⟨S8x8192x1, .f32⟩
  | .hbm, ⟨12, _⟩ => ⟨S_, .f32⟩
  | .hbm, ⟨13, _⟩ => ⟨S8x8192, .f32⟩
  | .hbm, ⟨14, _⟩ => ⟨S8x8192x1, .f32⟩
  | .hbm, ⟨15, _⟩ => ⟨S_, .f32⟩
  | .hbm, ⟨16, _⟩ => ⟨S8x8192, .f32⟩
  | .hbm, ⟨17, _⟩ => ⟨S8x8192x1, .f32⟩
  | .hbm, ⟨18, _⟩ => ⟨S8x8192x99, .f32⟩
  | .hbm, ⟨19, _⟩ => ⟨S_, .i32⟩
  | .hbm, ⟨20, _⟩ => ⟨S_, .f32⟩
  | .hbm, ⟨21, _⟩ => ⟨S8x8192x128, .f32⟩
  | .hbm, ⟨22, _⟩ => ⟨S8192x8x128, .f32⟩
  | .hbm, ⟨23, _⟩ => ⟨S8192x1024, .f32⟩
  | .hbm, ⟨24, _⟩ => ⟨S8192x1024, .bf16⟩
  | .hbm, ⟨25, _⟩ => ⟨S_, .f32⟩
  | .hbm, ⟨26, _⟩ => ⟨S8x8192, .f32⟩
  | .hbm, ⟨27, _⟩ => ⟨S8x8192x1, .f32⟩
  | .hbm, ⟨28, _⟩ => ⟨S_, .f32⟩
  | .hbm, ⟨29, _⟩ => ⟨S8x8192, .f32⟩
  | .hbm, ⟨30, _⟩ => ⟨S8x8192x1, .f32⟩
  | .hbm, ⟨31, _⟩ => ⟨S_, .f32⟩
  | .hbm, ⟨32, _⟩ => ⟨S8x8192, .f32⟩
  | .hbm, ⟨33, _⟩ => ⟨S8x8192x1, .f32⟩
  | .hbm, ⟨34, _⟩ => ⟨S8x8192x67, .f32⟩
  | .hbm, ⟨35, _⟩ => ⟨S_, .i32⟩
  | .hbm, ⟨36, _⟩ => ⟨S_, .f32⟩
  | .hbm, ⟨37, _⟩ => ⟨S8x8192x128, .f32⟩
  | .hbm, ⟨38, _⟩ => ⟨S8192x8x128, .f32⟩
  | .hbm, ⟨39, _⟩ => ⟨S8192x1024, .f32⟩
  | .hbm, ⟨40, _⟩ => ⟨S8192x1024, .bf16⟩
  | .hbm, ⟨41, _⟩ => ⟨S8192x1024, .bf16⟩
  | .hbm, ⟨42, _⟩ => ⟨S8192x1024, .bf16⟩
  | .local _ .vmem, ⟨0, _⟩ => ⟨S1024x128, .bf16⟩
  | .local _ .vmem, ⟨1, _⟩ => ⟨S1024x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S1024x128, .bf16⟩
  | .local _ .vmem, ⟨7, _⟩ => ⟨S1024x128, .bf16⟩
  | .local _ .vmem, ⟨8, _⟩ => ⟨S1024x128, .bf16⟩
  | .local _ .vmem, ⟨9, _⟩ => ⟨S1024x128, .bf16⟩
  | _, _ => ⟨S8x8192x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_2 : Ref sig .tc := ⟨.hbm, 19, rfl⟩
abbrev main_call1_v0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_6 : Ref sig .tc := ⟨.hbm, 35, rfl⟩
abbrev main_call2_v0 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26_0 : Ref sig .tc := ⟨.hbm, 41, rfl⟩
abbrev main_v26_1 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

@[reducible] def k0_t1_loop (i : grid0.Coords) : Scf.Loop 32 :=
  let c0_i32 : BitVec 32 := 0#32
  let arg1 : BitVec 32 := BitVec.ofNat 32 (i 1).val
  let c1_i32 : BitVec 32 := 1#32
  let v4 : BitVec 32 := Scalar.shrsi arg1 c1_i32
  let v5 : BitVec 32 := Scalar.subi v4 c0_i32
  let c1_i32_2 : BitVec 32 := 1#32
  let v7 : BitVec 32 := Scalar.divsi v5 c1_i32_2
  let v8 : BitVec 32 := Scalar.muli v7 c1_i32_2
  let v9 : BitVec 32 := Scalar.addi c0_i32 v8
  let c1_i32_3 : BitVec 32 := 1#32
  ⟨c0_i32, v9, c1_i32_3⟩
def k0_mult1 (i : grid0.Coords) (k0_t1 : Fin (k0_t1_loop i).trips) : BitVec 32 :=
  let c2_i32_25 : BitVec 32 := 2#32
  let c0_i32 : BitVec 32 := 0#32
  let c1_i32_3 : BitVec 32 := 1#32
  let arg7 : BitVec 32 := Scf.iv c0_i32 c1_i32_3 k0_t1
  let v96 : BitVec 32 := Scalar.muli c2_i32_25 arg7
  let c0_i32_26 : BitVec 32 := 0#32
  let v97 : BitVec 32 := Scalar.addi v96 c0_i32_26
  let c1024_i32_27 : BitVec 32 := 1024#32
  let v98 : BitVec 32 := Scalar.muli v97 c1024_i32_27
  v98
def k0_off1 (i : grid0.Coords) (k0_t1 : Fin (k0_t1_loop i).trips) (c0_i32_26 : BitVec 32) : Fin 2 → Nat :=
  let c2_i32_25 : BitVec 32 := 2#32
  let c0_i32 : BitVec 32 := 0#32
  let c1_i32_3 : BitVec 32 := 1#32
  let arg7 : BitVec 32 := Scf.iv c0_i32 c1_i32_3 k0_t1
  let v96 : BitVec 32 := Scalar.muli c2_i32_25 arg7
  let v97 : BitVec 32 := Scalar.addi v96 c0_i32_26
  let c1024_i32_27 : BitVec 32 := 1024#32
  let v98 : BitVec 32 := Scalar.muli v97 c1024_i32_27
  let v99 : BitVec 32 := v98
  let v100 : Index := Scalar.indexCast v99
  let c0_28 : Index := 0#32
  ![v100.toNat, 0]
def k0_mult2 (i : grid0.Coords) (k0_t1 : Fin (k0_t1_loop i).trips) : BitVec 32 :=
  let c2_i32_25 : BitVec 32 := 2#32
  let c0_i32 : BitVec 32 := 0#32
  let c1_i32_3 : BitVec 32 := 1#32
  let arg7 : BitVec 32 := Scf.iv c0_i32 c1_i32_3 k0_t1
  let v96 : BitVec 32 := Scalar.muli c2_i32_25 arg7
  let c0_i32_26 : BitVec 32 := 0#32
  let v97 : BitVec 32 := Scalar.addi v96 c0_i32_26
  let c1024_i32_30 : BitVec 32 := 1024#32
  let v104 : BitVec 32 := Scalar.muli v97 c1024_i32_30
  v104
def k0_mult3 (i : grid0.Coords) (k0_t1 : Fin (k0_t1_loop i).trips) : BitVec 32 :=
  let c2_i32_36 : BitVec 32 := 2#32
  let c0_i32 : BitVec 32 := 0#32
  let c1_i32_3 : BitVec 32 := 1#32
  let arg7 : BitVec 32 := Scf.iv c0_i32 c1_i32_3 k0_t1
  let v126 : BitVec 32 := Scalar.muli c2_i32_36 arg7
  let c1_i32_37 : BitVec 32 := 1#32
  let v127 : BitVec 32 := Scalar.addi v126 c1_i32_37
  let c1024_i32_38 : BitVec 32 := 1024#32
  let v128 : BitVec 32 := Scalar.muli v127 c1024_i32_38
  v128
def k0_mult4 (i : grid0.Coords) (k0_t1 : Fin (k0_t1_loop i).trips) : BitVec 32 :=
  let c2_i32_36 : BitVec 32 := 2#32
  let c0_i32 : BitVec 32 := 0#32
  let c1_i32_3 : BitVec 32 := 1#32
  let arg7 : BitVec 32 := Scf.iv c0_i32 c1_i32_3 k0_t1
  let v126 : BitVec 32 := Scalar.muli c2_i32_36 arg7
  let c1_i32_37 : BitVec 32 := 1#32
  let v127 : BitVec 32 := Scalar.addi v126 c1_i32_37
  let c1024_i32_41 : BitVec 32 := 1024#32
  let v134 : BitVec 32 := Scalar.muli v127 c1024_i32_41
  v134
@[reducible] def k0_t2_loop (i : grid0.Coords) : Scf.Loop 32 :=
  let c0_i32 : BitVec 32 := 0#32
  let arg1 : BitVec 32 := BitVec.ofNat 32 (i 1).val
  let c1_i32 : BitVec 32 := 1#32
  let v4 : BitVec 32 := Scalar.shrsi arg1 c1_i32
  let v5 : BitVec 32 := Scalar.subi v4 c0_i32
  let c1_i32_2 : BitVec 32 := 1#32
  let v7 : BitVec 32 := Scalar.divsi v5 c1_i32_2
  let v8 : BitVec 32 := Scalar.muli v7 c1_i32_2
  let v9 : BitVec 32 := Scalar.addi c0_i32 v8
  let v6 : BitVec 32 := Scalar.addi c0_i32 v5
  let c1_i32_4 : BitVec 32 := 1#32
  ⟨v9, v6, c1_i32_4⟩
def k0_mult5 (i : grid0.Coords) (k0_t2 : Fin (k0_t2_loop i).trips) : BitVec 32 :=
  let c2_i32_25 : BitVec 32 := 2#32
  let c0_i32 : BitVec 32 := 0#32
  let arg1 : BitVec 32 := BitVec.ofNat 32 (i 1).val
  let c1_i32 : BitVec 32 := 1#32
  let v4 : BitVec 32 := Scalar.shrsi arg1 c1_i32
  let v5 : BitVec 32 := Scalar.subi v4 c0_i32
  let c1_i32_2 : BitVec 32 := 1#32
  let v7 : BitVec 32 := Scalar.divsi v5 c1_i32_2
  let v8 : BitVec 32 := Scalar.muli v7 c1_i32_2
  let v9 : BitVec 32 := Scalar.addi c0_i32 v8
  let c1_i32_4 : BitVec 32 := 1#32
  let arg7 : BitVec 32 := Scf.iv v9 c1_i32_4 k0_t2
  let v96 : BitVec 32 := Scalar.muli c2_i32_25 arg7
  let c0_i32_26 : BitVec 32 := 0#32
  let v97 : BitVec 32 := Scalar.addi v96 c0_i32_26
  let c1024_i32_27 : BitVec 32 := 1024#32
  let v98 : BitVec 32 := Scalar.muli v97 c1024_i32_27
  v98
def k0_off2 (i : grid0.Coords) (k0_t2 : Fin (k0_t2_loop i).trips) (c0_i32_26 : BitVec 32) : Fin 2 → Nat :=
  let c2_i32_25 : BitVec 32 := 2#32
  let c0_i32 : BitVec 32 := 0#32
  let arg1 : BitVec 32 := BitVec.ofNat 32 (i 1).val
  let c1_i32 : BitVec 32 := 1#32
  let v4 : BitVec 32 := Scalar.shrsi arg1 c1_i32
  let v5 : BitVec 32 := Scalar.subi v4 c0_i32
  let c1_i32_2 : BitVec 32 := 1#32
  let v7 : BitVec 32 := Scalar.divsi v5 c1_i32_2
  let v8 : BitVec 32 := Scalar.muli v7 c1_i32_2
  let v9 : BitVec 32 := Scalar.addi c0_i32 v8
  let c1_i32_4 : BitVec 32 := 1#32
  let arg7 : BitVec 32 := Scf.iv v9 c1_i32_4 k0_t2
  let v96 : BitVec 32 := Scalar.muli c2_i32_25 arg7
  let v97 : BitVec 32 := Scalar.addi v96 c0_i32_26
  let c1024_i32_27 : BitVec 32 := 1024#32
  let v98 : BitVec 32 := Scalar.muli v97 c1024_i32_27
  let v99 : BitVec 32 := v98
  let v100 : Index := Scalar.indexCast v99
  let c0_28 : Index := 0#32
  ![v100.toNat, 0]
def k0_mult6 (i : grid0.Coords) (k0_t2 : Fin (k0_t2_loop i).trips) : BitVec 32 :=
  let c2_i32_25 : BitVec 32 := 2#32
  let c0_i32 : BitVec 32 := 0#32
  let arg1 : BitVec 32 := BitVec.ofNat 32 (i 1).val
  let c1_i32 : BitVec 32 := 1#32
  let v4 : BitVec 32 := Scalar.shrsi arg1 c1_i32
  let v5 : BitVec 32 := Scalar.subi v4 c0_i32
  let c1_i32_2 : BitVec 32 := 1#32
  let v7 : BitVec 32 := Scalar.divsi v5 c1_i32_2
  let v8 : BitVec 32 := Scalar.muli v7 c1_i32_2
  let v9 : BitVec 32 := Scalar.addi c0_i32 v8
  let c1_i32_4 : BitVec 32 := 1#32
  let arg7 : BitVec 32 := Scf.iv v9 c1_i32_4 k0_t2
  let v96 : BitVec 32 := Scalar.muli c2_i32_25 arg7
  let c0_i32_26 : BitVec 32 := 0#32
  let v97 : BitVec 32 := Scalar.addi v96 c0_i32_26
  let c1024_i32_30 : BitVec 32 := 1024#32
  let v104 : BitVec 32 := Scalar.muli v97 c1024_i32_30
  v104
def k0_mult7 (i : grid0.Coords) (k0_t2 : Fin (k0_t2_loop i).trips) : BitVec 32 :=
  let c2_i32_36 : BitVec 32 := 2#32
  let c0_i32 : BitVec 32 := 0#32
  let arg1 : BitVec 32 := BitVec.ofNat 32 (i 1).val
  let c1_i32 : BitVec 32 := 1#32
  let v4 : BitVec 32 := Scalar.shrsi arg1 c1_i32
  let v5 : BitVec 32 := Scalar.subi v4 c0_i32
  let c1_i32_2 : BitVec 32 := 1#32
  let v7 : BitVec 32 := Scalar.divsi v5 c1_i32_2
  let v8 : BitVec 32 := Scalar.muli v7 c1_i32_2
  let v9 : BitVec 32 := Scalar.addi c0_i32 v8
  let c1_i32_4 : BitVec 32 := 1#32
  let arg7 : BitVec 32 := Scf.iv v9 c1_i32_4 k0_t2
  let v126 : BitVec 32 := Scalar.muli c2_i32_36 arg7
  let c1_i32_37 : BitVec 32 := 1#32
  let v127 : BitVec 32 := Scalar.addi v126 c1_i32_37
  let c1024_i32_38 : BitVec 32 := 1024#32
  let v128 : BitVec 32 := Scalar.muli v127 c1024_i32_38
  v128
def k0_mult8 (i : grid0.Coords) (k0_t2 : Fin (k0_t2_loop i).trips) : BitVec 32 :=
  let c2_i32_36 : BitVec 32 := 2#32
  let c0_i32 : BitVec 32 := 0#32
  let arg1 : BitVec 32 := BitVec.ofNat 32 (i 1).val
  let c1_i32 : BitVec 32 := 1#32
  let v4 : BitVec 32 := Scalar.shrsi arg1 c1_i32
  let v5 : BitVec 32 := Scalar.subi v4 c0_i32
  let c1_i32_2 : BitVec 32 := 1#32
  let v7 : BitVec 32 := Scalar.divsi v5 c1_i32_2
  let v8 : BitVec 32 := Scalar.muli v7 c1_i32_2
  let v9 : BitVec 32 := Scalar.addi c0_i32 v8
  let c1_i32_4 : BitVec 32 := 1#32
  let arg7 : BitVec 32 := Scf.iv v9 c1_i32_4 k0_t2
  let v126 : BitVec 32 := Scalar.muli c2_i32_36 arg7
  let c1_i32_37 : BitVec 32 := 1#32
  let v127 : BitVec 32 := Scalar.addi v126 c1_i32_37
  let c1024_i32_41 : BitVec 32 := 1024#32
  let v134 : BitVec 32 := Scalar.muli v127 c1024_i32_41
  v134
@[reducible] def k0_t3_loop (i : grid0.Coords) : Scf.Loop 32 :=
  let arg1 : BitVec 32 := BitVec.ofNat 32 (i 1).val
  let c1_i32 : BitVec 32 := 1#32
  let v4 : BitVec 32 := Scalar.shrsi arg1 c1_i32
  let c2_i32 : BitVec 32 := 2#32
  let v12 : BitVec 32 := Scalar.muli v4 c2_i32
  let v13 : BitVec 32 := Scalar.subi arg1 v12
  let c1_i32_5 : BitVec 32 := 1#32
  let v15 : BitVec 32 := Scalar.divsi v13 c1_i32_5
  let v16 : BitVec 32 := Scalar.muli v15 c1_i32_5
  let v17 : BitVec 32 := Scalar.addi v12 v16
  let c1_i32_6 : BitVec 32 := 1#32
  ⟨v12, v17, c1_i32_6⟩
def k0_mult9 (i : grid0.Coords) (k0_t3 : Fin (k0_t3_loop i).trips) : BitVec 32 :=
  let arg1 : BitVec 32 := BitVec.ofNat 32 (i 1).val
  let c1_i32 : BitVec 32 := 1#32
  let v4 : BitVec 32 := Scalar.shrsi arg1 c1_i32
  let c2_i32 : BitVec 32 := 2#32
  let v12 : BitVec 32 := Scalar.muli v4 c2_i32
  let c1_i32_6 : BitVec 32 := 1#32
  let arg7 : BitVec 32 := Scf.iv v12 c1_i32_6 k0_t3
  let c1024_i32_25 : BitVec 32 := 1024#32
  let v96 : BitVec 32 := Scalar.muli arg7 c1024_i32_25
  v96
def k0_off3 (i : grid0.Coords) (k0_t3 : Fin (k0_t3_loop i).trips) : Fin 2 → Nat :=
  let arg1 : BitVec 32 := BitVec.ofNat 32 (i 1).val
  let c1_i32 : BitVec 32 := 1#32
  let v4 : BitVec 32 := Scalar.shrsi arg1 c1_i32
  let c2_i32 : BitVec 32 := 2#32
  let v12 : BitVec 32 := Scalar.muli v4 c2_i32
  let c1_i32_6 : BitVec 32 := 1#32
  let arg7 : BitVec 32 := Scf.iv v12 c1_i32_6 k0_t3
  let c1024_i32_25 : BitVec 32 := 1024#32
  let v96 : BitVec 32 := Scalar.muli arg7 c1024_i32_25
  let v97 : BitVec 32 := v96
  let v98 : Index := Scalar.indexCast v97
  let c0_26 : Index := 0#32
  ![v98.toNat, 0]
def k0_mult10 (i : grid0.Coords) (k0_t3 : Fin (k0_t3_loop i).trips) : BitVec 32 :=
  let arg1 : BitVec 32 := BitVec.ofNat 32 (i 1).val
  let c1_i32 : BitVec 32 := 1#32
  let v4 : BitVec 32 := Scalar.shrsi arg1 c1_i32
  let c2_i32 : BitVec 32 := 2#32
  let v12 : BitVec 32 := Scalar.muli v4 c2_i32
  let c1_i32_6 : BitVec 32 := 1#32
  let arg7 : BitVec 32 := Scf.iv v12 c1_i32_6 k0_t3
  let c1024_i32_28 : BitVec 32 := 1024#32
  let v102 : BitVec 32 := Scalar.muli arg7 c1024_i32_28
  v102
@[reducible] def k0_t4_loop (i : grid0.Coords) : Scf.Loop 32 :=
  let arg1 : BitVec 32 := BitVec.ofNat 32 (i 1).val
  let c1_i32 : BitVec 32 := 1#32
  let v4 : BitVec 32 := Scalar.shrsi arg1 c1_i32
  let c2_i32 : BitVec 32 := 2#32
  let v12 : BitVec 32 := Scalar.muli v4 c2_i32
  let v13 : BitVec 32 := Scalar.subi arg1 v12
  let c1_i32_5 : BitVec 32 := 1#32
  let v15 : BitVec 32 := Scalar.divsi v13 c1_i32_5
  let v16 : BitVec 32 := Scalar.muli v15 c1_i32_5
  let v17 : BitVec 32 := Scalar.addi v12 v16
  let v14 : BitVec 32 := Scalar.addi v12 v13
  let c1_i32_7 : BitVec 32 := 1#32
  ⟨v17, v14, c1_i32_7⟩
def k0_mult11 (i : grid0.Coords) (k0_t4 : Fin (k0_t4_loop i).trips) : BitVec 32 :=
  let arg1 : BitVec 32 := BitVec.ofNat 32 (i 1).val
  let c1_i32 : BitVec 32 := 1#32
  let v4 : BitVec 32 := Scalar.shrsi arg1 c1_i32
  let c2_i32 : BitVec 32 := 2#32
  let v12 : BitVec 32 := Scalar.muli v4 c2_i32
  let v13 : BitVec 32 := Scalar.subi arg1 v12
  let c1_i32_5 : BitVec 32 := 1#32
  let v15 : BitVec 32 := Scalar.divsi v13 c1_i32_5
  let v16 : BitVec 32 := Scalar.muli v15 c1_i32_5
  let v17 : BitVec 32 := Scalar.addi v12 v16
  let c1_i32_7 : BitVec 32 := 1#32
  let arg7 : BitVec 32 := Scf.iv v17 c1_i32_7 k0_t4
  let c1024_i32_25 : BitVec 32 := 1024#32
  let v96 : BitVec 32 := Scalar.muli arg7 c1024_i32_25
  v96
def k0_off4 (i : grid0.Coords) (k0_t4 : Fin (k0_t4_loop i).trips) : Fin 2 → Nat :=
  let arg1 : BitVec 32 := BitVec.ofNat 32 (i 1).val
  let c1_i32 : BitVec 32 := 1#32
  let v4 : BitVec 32 := Scalar.shrsi arg1 c1_i32
  let c2_i32 : BitVec 32 := 2#32
  let v12 : BitVec 32 := Scalar.muli v4 c2_i32
  let v13 : BitVec 32 := Scalar.subi arg1 v12
  let c1_i32_5 : BitVec 32 := 1#32
  let v15 : BitVec 32 := Scalar.divsi v13 c1_i32_5
  let v16 : BitVec 32 := Scalar.muli v15 c1_i32_5
  let v17 : BitVec 32 := Scalar.addi v12 v16
  let c1_i32_7 : BitVec 32 := 1#32
  let arg7 : BitVec 32 := Scf.iv v17 c1_i32_7 k0_t4
  let c1024_i32_25 : BitVec 32 := 1024#32
  let v96 : BitVec 32 := Scalar.muli arg7 c1024_i32_25
  let v97 : BitVec 32 := v96
  let v98 : Index := Scalar.indexCast v97
  let c0_26 : Index := 0#32
  ![v98.toNat, 0]
def k0_mult12 (i : grid0.Coords) (k0_t4 : Fin (k0_t4_loop i).trips) : BitVec 32 :=
  let arg1 : BitVec 32 := BitVec.ofNat 32 (i 1).val
  let c1_i32 : BitVec 32 := 1#32
  let v4 : BitVec 32 := Scalar.shrsi arg1 c1_i32
  let c2_i32 : BitVec 32 := 2#32
  let v12 : BitVec 32 := Scalar.muli v4 c2_i32
  let v13 : BitVec 32 := Scalar.subi arg1 v12
  let c1_i32_5 : BitVec 32 := 1#32
  let v15 : BitVec 32 := Scalar.divsi v13 c1_i32_5
  let v16 : BitVec 32 := Scalar.muli v15 c1_i32_5
  let v17 : BitVec 32 := Scalar.addi v12 v16
  let c1_i32_7 : BitVec 32 := 1#32
  let arg7 : BitVec 32 := Scf.iv v17 c1_i32_7 k0_t4
  let c1024_i32_28 : BitVec 32 := 1024#32
  let v102 : BitVec 32 := Scalar.muli arg7 c1024_i32_28
  v102
def k0_mult13 (i : grid0.Coords) : BitVec 32 :=
  let arg1 : BitVec 32 := BitVec.ofNat 32 (i 1).val
  let c1024_i32 : BitVec 32 := 1024#32
  let v20 : BitVec 32 := Scalar.muli arg1 c1024_i32
  v20
def k0_off5 (i : grid0.Coords) : Fin 2 → Nat :=
  let arg1 : BitVec 32 := BitVec.ofNat 32 (i 1).val
  let c1024_i32 : BitVec 32 := 1024#32
  let v20 : BitVec 32 := Scalar.muli arg1 c1024_i32
  let v21 : BitVec 32 := v20
  let v22 : Index := Scalar.indexCast v21
  let c0_8 : Index := 0#32
  ![v22.toNat, 0]
def k0_mult14 (i : grid0.Coords) : BitVec 32 :=
  let arg1 : BitVec 32 := BitVec.ofNat 32 (i 1).val
  let c1024_i32_11 : BitVec 32 := 1024#32
  let v31 : BitVec 32 := Scalar.muli arg1 c1024_i32_11
  v31
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel14Ideal.lean ====
variable {F : FTy → Type} [FloatOps F] [Named F]
def κ : String → Option EReal := fun
  | "c" => some (((3424635 / 33554432) * (Real.log 2)⁻¹ : ℝ) : EReal)
  | "mask" => some ⊥
  | _ => none
-- ==== Reference14Ideal.lean ====
abbrev S8x8192x96 : Shape := ⟨3, ![8, 8192, 96]⟩
abbrev S8x8192x64 : Shape := ⟨3, ![8, 8192, 64]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x8192 : Shape := ⟨2, ![8, 8192]⟩
abbrev S8x8192x1 : Shape := ⟨3, ![8, 8192, 1]⟩
abbrev S8x8192x128 : Shape := ⟨3, ![8, 8192, 128]⟩
abbrev S8192x8x128 : Shape := ⟨3, ![8192, 8, 128]⟩
abbrev S8192x1024 : Shape := ⟨2, ![8192, 1024]⟩
abbrev S8x8192x97 : Shape := ⟨3, ![8, 8192, 97]⟩

abbrev nBuf : Space → Nat
  | .hbm => 50
  | .vmem => 0
  | .smem => 0
  | _ => 0

abbrev bufTy : (tb : Table) → Fin (tcTables nBuf tb) → BufTy
  | .hbm, ⟨0, _⟩ => ⟨S8x8192x96, .f32⟩
  | .hbm, ⟨1, _⟩ => ⟨S8x8192x96, .f32⟩
  | .hbm, ⟨2, _⟩ => ⟨S8x8192x64, .f32⟩
  | .hbm, ⟨3, _⟩ => ⟨S8x8192x8192, .f32⟩
  | .hbm, ⟨4, _⟩ => ⟨S_, .f32⟩
  | .hbm, ⟨5, _⟩ => ⟨S8x8192x8192, .f32⟩
  | .hbm, ⟨6, _⟩ => ⟨S8x8192x8192, .f32⟩
  | .hbm, ⟨7, _⟩ => ⟨S8192, .i32⟩
  | .hbm, ⟨8, _⟩ => ⟨S1x8192, .i32⟩
  | .hbm, ⟨9, _⟩ => ⟨S8192x1, .i32⟩
  | .hbm, ⟨10, _⟩ => ⟨S8192x8192, .i32⟩
  | .hbm, ⟨11, _⟩ => ⟨S8192x8192, .i32⟩
  | .hbm, ⟨12, _⟩ => ⟨S8192x8192, .i1⟩
  | .hbm, ⟨13, _⟩ => ⟨S_, .f32⟩
  | .hbm, ⟨14, _⟩ => ⟨S_, .f32⟩
  | .hbm, ⟨15, _⟩ => ⟨S8x8192x8192, .i1⟩
  | .hbm, ⟨16, _⟩ => ⟨S8x8192x8192, .f32⟩
  | .hbm, ⟨17, _⟩ => ⟨S8x8192x8192, .f32⟩
  | .hbm, ⟨18, _⟩ => ⟨S_, .f32⟩
  | .hbm, ⟨19, _⟩ => ⟨S8x8192, .f32⟩
  | .hbm, ⟨20, _⟩ => ⟨S8x8192x1, .f32⟩
  | .hbm, ⟨21, _⟩ => ⟨S8x8192x8192, .f32⟩
  | .hbm, ⟨22, _⟩ => ⟨S8x8192x8192, .f32⟩
  | .hbm, ⟨23, _⟩ => ⟨S8x8192x8192, .f32⟩
  | .hbm, ⟨24, _⟩ => ⟨S_, .f32⟩
  | .hbm, ⟨25, _⟩ => ⟨S8x8192, .f32⟩
  | .hbm, ⟨26, _⟩ => ⟨S8x8192x1, .f32⟩
  | .hbm, ⟨27, _⟩ => ⟨S8x8192x8192, .f32⟩
  | .hbm, ⟨28, _⟩ => ⟨S8x8192x8192, .f32⟩
  | .hbm, ⟨29, _⟩ => ⟨S8x8192x64, .f32⟩
  | .hbm, ⟨30, _⟩ => ⟨S8x8192, .f32⟩
  | .hbm, ⟨31, _⟩ => ⟨S8x8192, .f32⟩
  | .hbm, ⟨32, _⟩ => ⟨S_, .f32⟩
  | .hbm, ⟨33, _⟩ => ⟨S8x8192, .f32⟩
  | .hbm, ⟨34, _⟩ => ⟨S8x8192, .f32⟩
  | .hbm, ⟨35, _⟩ => ⟨S_, .i32⟩
  | .hbm, ⟨36, _⟩ => ⟨S_, .f32⟩
  | .hbm, ⟨37, _⟩ => ⟨S8x8192x128, .f32⟩
  | .hbm, ⟨38, _⟩ => ⟨S8192x8x128, .f32⟩
  | .hbm, ⟨39, _⟩ => ⟨S8192x1024, .f32⟩
  | .hbm, ⟨40, _⟩ => ⟨S8192x1024, .bf16⟩
  | .hbm, ⟨41, _⟩ => ⟨S8x8192x1, .f32⟩
  | .hbm, ⟨42, _⟩ => ⟨S8x8192x1, .f32⟩
  | .hbm, ⟨43, _⟩ => ⟨S8x8192x97, .f32⟩
  | .hbm, ⟨44, _⟩ => ⟨S_, .i32⟩
  | .hbm, ⟨45, _⟩ => ⟨S_, .f32⟩
  | .hbm, ⟨46, _⟩ => ⟨S8x8192x128, .f32⟩
  | .hbm, ⟨47, _⟩ => ⟨S8192x8x128, .f32⟩
  | .hbm, ⟨48, _⟩ => ⟨S8192x1024, .f32⟩
  | .hbm, ⟨49, _⟩ => ⟨S8192x1024, .bf16⟩
  | _, _ => ⟨S8x8192x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_c : Ref sig .tc := ⟨.hbm, 35, rfl⟩
abbrev main_call1_v0 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_4 : Ref sig .tc := ⟨.hbm, 44, rfl⟩
abbrev main_call2_v0 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩

abbrev nD : Nat := 1
abbrev τ : Topo := Topo.v7x

variable {F : FTy → Type} [FloatOps F]
-- ==== Kernel15.lean ====
abbrev S8192x1024 : Shape := ⟨2, ![8192, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference15Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel16.lean ====
abbrev S8192x256 : Shape := ⟨2, ![8192, 256]⟩
abbrev S8192x128 : Shape := ⟨2, ![8192, 128]⟩
abbrev S8192x32 : Shape := ⟨2, ![8192, 32]⟩
abbrev S8192x8 : Shape := ⟨2, ![8192, 8]⟩
abbrev S1x256 : Shape := ⟨2, ![1, 256]⟩
abbrev S1x128 : Shape := ⟨2, ![1, 128]⟩
abbrev S_ : Shape := ⟨0, ![]⟩
abbrev S8192x640 : Shape := ⟨2, ![8192, 640]⟩
abbrev S1024x256 : Shape := ⟨2, ![1024, 256]⟩
abbrev S1024x128 : Shape := ⟨2, ![1024, 128]⟩
abbrev S1024 : Shape := ⟨1, ![1024]⟩
abbrev S1024x1 : Shape := ⟨2, ![1024, 1]⟩

abbrev nBuf : Space → Nat
  | .hbm => 15
  | .vmem => 10
  | .smem => 0
  | _ => 0

abbrev bufTy : (tb : Table) → Fin (tcTables nBuf tb) → BufTy
  | .hbm, ⟨0, _⟩ => ⟨S8192x256, .f32⟩
  | .hbm, ⟨1, _⟩ => ⟨S8192x128, .f32⟩
  | .hbm, ⟨2, _⟩ => ⟨S8192x32, .f32⟩
  | .hbm, ⟨3, _⟩ => ⟨S8192x8, .f32⟩
  | .hbm, ⟨4, _⟩ => ⟨S1x256, .f32⟩
  | .hbm, ⟨5, _⟩ => ⟨S1x128, .f32⟩
  | .hbm, ⟨6, _⟩ => ⟨S_, .i32⟩
  | .hbm, ⟨7, _⟩ => ⟨S_, .f32⟩
  | .hbm, ⟨8, _⟩ => ⟨S8192x128, .f32⟩
  | .hbm, ⟨9, _⟩ => ⟨S_, .i32⟩
  | .hbm, ⟨10, _⟩ => ⟨S_, .f32⟩
  | .hbm, ⟨11, _⟩ => ⟨S8192x128, .f32⟩
  | .hbm, ⟨12, _⟩ => ⟨S8192x640, .f32⟩
  | .hbm, ⟨13, _⟩ => ⟨S8192x256, .bf16⟩
  | .hbm, ⟨14, _⟩ => ⟨S8192x128, .bf16⟩
  | .local _ .vmem, ⟨0, _⟩ => ⟨S1024x256, .f32⟩
  | .local _ .vmem, ⟨1, _⟩ => ⟨S1024x256, .f32⟩
  | .local _ .vmem, ⟨2, _⟩ => ⟨S1024x128, .f32⟩
  | .local _ .vmem, ⟨3, _⟩ => ⟨S1024x128, .f32⟩
  | .local _ .vmem, ⟨4, _⟩ => ⟨S1x256, .f32⟩
  | .local _ .vmem, ⟨5, _⟩ => ⟨S1x128, .f32⟩
  | .local _ .vmem, ⟨6, _⟩ => ⟨S1024x256, .bf16⟩
  | .local _ .vmem, ⟨7, _⟩ => ⟨S1024x256, .bf16⟩
  | .local _ .vmem, ⟨8, _⟩ => ⟨S1024x128, .bf16⟩
  | .local _ .vmem, ⟨9, _⟩ => ⟨S1024x128, .bf16⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_c_0 : Ref sig .tc := ⟨.hbm, 9, rfl⟩
abbrev main_call1_v0 : Ref sig .tc := ⟨.hbm, 10, rfl⟩
abbrev main_v1 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference16Ideal.lean ====
abbrev S8192x256 : Shape := ⟨2, ![8192, 256]⟩
abbrev S8192x128 : Shape := ⟨2, ![8192, 128]⟩
abbrev S8192x32 : Shape := ⟨2, ![8192, 32]⟩
abbrev S8192x8 : Shape := ⟨2, ![8192, 8]⟩
abbrev S1x256 : Shape := ⟨2, ![1, 256]⟩
abbrev S1x128 : Shape := ⟨2, ![1, 128]⟩
abbrev S_ : Shape := ⟨0, ![]⟩
abbrev S8192 : Shape := ⟨1, ![8192]⟩
abbrev S8192x1 : Shape := ⟨2, ![8192, 1]⟩

abbrev nBuf : Space → Nat
  | .hbm => 38
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x128, .f32⟩
  | .hbm, ⟨2, _⟩ => ⟨S8192x32, .f32⟩
  | .hbm, ⟨3, _⟩ => ⟨S8192x8, .f32⟩
  | .hbm, ⟨4, _⟩ => ⟨S1x256, .f32⟩
  | .hbm, ⟨5, _⟩ => ⟨S1x128, .f32⟩
  | .hbm, ⟨6, _⟩ => ⟨S8192x256, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x256, .f32⟩
  | .hbm, ⟨18, _⟩ => ⟨S8192x256, .f32⟩
  | .hbm, ⟨19, _⟩ => ⟨S8192x256, .f32⟩
  | .hbm, ⟨20, _⟩ => ⟨S8192x256, .f32⟩
  | .hbm, ⟨21, _⟩ => ⟨S8192x256, .bf16⟩
  | .hbm, ⟨22, _⟩ => ⟨S8192x128, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S8192x128, .f32⟩
  | .hbm, ⟨34, _⟩ => ⟨S8192x128, .f32⟩
  | .hbm, ⟨35, _⟩ => ⟨S8192x128, .f32⟩
  | .hbm, ⟨36, _⟩ => ⟨S8192x128, .f32⟩
  | .hbm, ⟨37, _⟩ => ⟨S8192x128, .bf16⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩

abbrev nD : Nat := 1
abbrev τ : Topo := Topo.v7x

variable {F : FTy → Type} [FloatOps F]
-- ==== Kernel17.lean ====
abbrev S8192x1024 : Shape := ⟨2, ![8192, 1024]⟩
abbrev S1024x4096 : Shape := ⟨2, ![1024, 4096]⟩
abbrev S8192x4096 : Shape := ⟨2, ![8192, 4096]⟩
abbrev S2048x1024 : Shape := ⟨2, ![2048, 1024]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x1024, .bf16⟩
  | .hbm, ⟨3, _⟩ => ⟨S1024x4096, .bf16⟩
  | .hbm, ⟨4, _⟩ => ⟨S8192x4096, .bf16⟩
  | .hbm, ⟨5, _⟩ => ⟨S8192x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference17Ideal.lean ====
abbrev S8192x1024 : Shape := ⟨2, ![8192, 1024]⟩
abbrev S1024x4096 : Shape := ⟨2, ![1024, 4096]⟩
abbrev S8192x4096 : Shape := ⟨2, ![8192, 4096]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x4096, .f32⟩
  | .hbm, ⟨3, _⟩ => ⟨S8192x4096, .bf16⟩
  | .hbm, ⟨4, _⟩ => ⟨S_, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_cst : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel18.lean ====
abbrev S8192x1024 : Shape := ⟨2, ![8192, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 10
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1x1024, .f32⟩
  | .hbm, ⟨4, _⟩ => ⟨S1x1024, .f32⟩
  | .hbm, ⟨5, _⟩ => ⟨S8192x1024, .bf16⟩
  | .hbm, ⟨6, _⟩ => ⟨S1024x1024, .bf16⟩
  | .hbm, ⟨7, _⟩ => ⟨S8192x1024, .f32⟩
  | .hbm, ⟨8, _⟩ => ⟨S8192x1024, .f32⟩
  | .hbm, ⟨9, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference18Ideal.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 38
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== Kernel19.lean ====
abbrev S8192x768 : Shape := ⟨2, ![8192, 768]⟩
abbrev S8192 : Shape := ⟨1, ![8192]⟩
abbrev S16 : Shape := ⟨1, ![16]⟩
abbrev S_ : Shape := ⟨0, ![]⟩
abbrev S8192x1 : Shape := ⟨2, ![8192, 1]⟩
abbrev S1x16 : Shape := ⟨2, ![1, 16]⟩
abbrev S8192x16 : Shape := ⟨2, ![8192, 16]⟩
abbrev S8192x32 : Shape := ⟨2, ![8192, 32]⟩
abbrev S8192x64 : Shape := ⟨2, ![8192, 64]⟩
abbrev S8192x128 : Shape := ⟨2, ![8192, 128]⟩
abbrev S8192x80 : Shape := ⟨2, ![8192, 80]⟩
abbrev S8192x8x96 : Shape := ⟨3, ![8192, 8, 96]⟩
abbrev S8192x8x128 : Shape := ⟨3, ![8192, 8, 128]⟩
abbrev S8192x1024 : Shape := ⟨2, ![8192, 1024]⟩
abbrev S1024x1024 : Shape := ⟨2, ![1024, 1024]⟩
abbrev S1024x128 : Shape := ⟨2, ![1024, 128]⟩

abbrev nBuf : Space → Nat
  | .hbm => 38
  | .vmem => 10
  | .smem => 0
  | _ => 0

abbrev bufTy : (tb : Table) → Fin (tcTables nBuf tb) → BufTy
  | .hbm, ⟨0, _⟩ => ⟨S8192x768, .f32⟩
  | .hbm, ⟨1, _⟩ => ⟨S8192, .i32⟩
  | .hbm, ⟨2, _⟩ => ⟨S16, .f32⟩
  | .hbm, ⟨3, _⟩ => ⟨S16, .f32⟩
  | .hbm, ⟨4, _⟩ => ⟨S_, .f32⟩
  | .hbm, ⟨5, _⟩ => ⟨S16, .f32⟩
  | .hbm, ⟨6, _⟩ => ⟨S16, .f32⟩
  | .hbm, ⟨7, _⟩ => ⟨S_, .f32⟩
  | .hbm, ⟨8, _⟩ => ⟨S16, .f32⟩
  | .hbm, ⟨9, _⟩ => ⟨S16, .f32⟩
  | .hbm, ⟨10, _⟩ => ⟨S8192, .f32⟩
  | .hbm, ⟨11, _⟩ => ⟨S8192x1, .f32⟩
  | .hbm, ⟨12, _⟩ => ⟨S1x16, .f32⟩
  | .hbm, ⟨13, _⟩ => ⟨S8192x16, .f32⟩
  | .hbm, ⟨14, _⟩ => ⟨S8192x16, .f32⟩
  | .hbm, ⟨15, _⟩ => ⟨S8192x16, .f32⟩
  | .hbm, ⟨16, _⟩ => ⟨S8192x16, .f32⟩
  | .hbm, ⟨17, _⟩ => ⟨S8192x16, .f32⟩
  | .hbm, ⟨18, _⟩ => ⟨S_, .f32⟩
  | .hbm, ⟨19, _⟩ => ⟨S8192x32, .f32⟩
  | .hbm, ⟨20, _⟩ => ⟨S_, .f32⟩
  | .hbm, ⟨21, _⟩ => ⟨S8192x64, .f32⟩
  | .hbm, ⟨22, _⟩ => ⟨S8192x128, .f32⟩
  | .hbm, ⟨23, _⟩ => ⟨S_, .f32⟩
  | .hbm, ⟨24, _⟩ => ⟨S8192x64, .f32⟩
  | .hbm, ⟨25, _⟩ => ⟨S8192x16, .f32⟩
  | .hbm, ⟨26, _⟩ => ⟨S_, .f32⟩
  | .hbm, ⟨27, _⟩ => ⟨S8192x16, .f32⟩
  | .hbm, ⟨28, _⟩ => ⟨S8192x128, .f32⟩
  | .hbm, ⟨29, _⟩ => ⟨S_, .f32⟩
  | .hbm, ⟨30, _⟩ => ⟨S8192x80, .f32⟩
  | .hbm, ⟨31, _⟩ => ⟨S8192x128, .f32⟩
  | .hbm, ⟨32, _⟩ => ⟨S8192x8x96, .f32⟩
  | .hbm, ⟨33, _⟩ => ⟨S_, .i32⟩
  | .hbm, ⟨34, _⟩ => ⟨S_, .f32⟩
  | .hbm, ⟨35, _⟩ => ⟨S8192x8x128, .f32⟩
  | .hbm, ⟨36, _⟩ => ⟨S8192x1024, .f32⟩
  | .hbm, ⟨37, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x1024, .bf16⟩
  | .local _ .vmem, ⟨9, _⟩ => ⟨S1024x1024, .bf16⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c : Ref sig .tc := ⟨.hbm, 33, rfl⟩
abbrev main_call0_v0 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference19Ideal.lean ====
abbrev S8192x768 : Shape := ⟨2, ![8192, 768]⟩
abbrev S8192 : Shape := ⟨1, ![8192]⟩
abbrev S8192x8x96 : Shape := ⟨3, ![8192, 8, 96]⟩
abbrev S8x8192x96 : Shape := ⟨3, ![8, 8192, 96]⟩
abbrev S8x8192x64 : Shape := ⟨3, ![8, 8192, 64]⟩
abbrev S8x8192x32 : Shape := ⟨3, ![8, 8192, 32]⟩
abbrev S16 : Shape := ⟨1, ![16]⟩
abbrev S_ : Shape := ⟨0, ![]⟩
abbrev S1x8192x1 : Shape := ⟨3, ![1, 8192, 1]⟩
abbrev S1x1x16 : Shape := ⟨3, ![1, 1, 16]⟩
abbrev S1x8192x16 : Shape := ⟨3, ![1, 8192, 16]⟩
abbrev S8x8192x16 : Shape := ⟨3, ![8, 8192, 16]⟩
abbrev S8x8192x128 : Shape := ⟨3, ![8, 8192, 128]⟩
abbrev S8192x8x128 : Shape := ⟨3, ![8192, 8, 128]⟩
abbrev S8192x1024 : Shape := ⟨2, ![8192, 1024]⟩

abbrev nBuf : Space → Nat
  | .hbm => 42
  | .vmem => 0
  | .smem => 0
  | _ => 0

abbrev bufTy : (tb : Table) → Fin (tcTables nBuf tb) → BufTy
  | .hbm, ⟨0, _⟩ => ⟨S8192x768, .f32⟩
  | .hbm, ⟨1, _⟩ => ⟨S8192, .i32⟩
  | .hbm, ⟨2, _⟩ => ⟨S8192x8x96, .f32⟩
  | .hbm, ⟨3, _⟩ => ⟨S8x8192x96, .f32⟩
  | .hbm, ⟨4, _⟩ => ⟨S8x8192x64, .f32⟩
  | .hbm, ⟨5, _⟩ => ⟨S8x8192x32, .f32⟩
  | .hbm, ⟨6, _⟩ => ⟨S16, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S8192, .f32⟩
  | .hbm, ⟨15, _⟩ => ⟨S1x8192x1, .f32⟩
  | .hbm, ⟨16, _⟩ => ⟨S1x1x16, .f32⟩
  | .hbm, ⟨17, _⟩ => ⟨S1x8192x16, .f32⟩
  | .hbm, ⟨18, _⟩ => ⟨S1x8192x16, .f32⟩
  | .hbm, ⟨19, _⟩ => ⟨S1x8192x16, .f32⟩
  | .hbm, ⟨20, _⟩ => ⟨S1x8192x16, .f32⟩
  | .hbm, ⟨21, _⟩ => ⟨S1x8192x16, .f32⟩
  | .hbm, ⟨22, _⟩ => ⟨S8x8192x16, .f32⟩
  | .hbm, ⟨23, _⟩ => ⟨S8x8192x16, .f32⟩
  | .hbm, ⟨24, _⟩ => ⟨S8x8192x16, .f32⟩
  | .hbm, ⟨25, _⟩ => ⟨S8x8192x16, .f32⟩
  | .hbm, ⟨26, _⟩ => ⟨S8x8192x16, .f32⟩
  | .hbm, ⟨27, _⟩ => ⟨S8x8192x16, .f32⟩
  | .hbm, ⟨28, _⟩ => ⟨S8x8192x16, .f32⟩
  | .hbm, ⟨29, _⟩ => ⟨S8x8192x16, .f32⟩
  | .hbm, ⟨30, _⟩ => ⟨S8x8192x16, .f32⟩
  | .hbm, ⟨31, _⟩ => ⟨S8x8192x16, .f32⟩
  | .hbm, ⟨32, _⟩ => ⟨S8x8192x16, .f32⟩
  | .hbm, ⟨33, _⟩ => ⟨S8x8192x16, .f32⟩
  | .hbm, ⟨34, _⟩ => ⟨S8x8192x32, .f32⟩
  | .hbm, ⟨35, _⟩ => ⟨S8x8192x96, .f32⟩
  | .hbm, ⟨36, _⟩ => ⟨S_, .i32⟩
  | .hbm, ⟨37, _⟩ => ⟨S_, .f32⟩
  | .hbm, ⟨38, _⟩ => ⟨S8x8192x128, .f32⟩
  | .hbm, ⟨39, _⟩ => ⟨S8192x8x128, .f32⟩
  | .hbm, ⟨40, _⟩ => ⟨S8192x1024, .f32⟩
  | .hbm, ⟨41, _⟩ => ⟨S8192x1024, .bf16⟩
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_c : Ref sig .tc := ⟨.hbm, 36, rfl⟩
abbrev main_call0_v0 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩

abbrev nD : Nat := 1
abbrev τ : Topo := Topo.v7x

variable {F : FTy → Type} [FloatOps F]
-- ==== Kernel20.lean ====
abbrev S8192x1024 : Shape := ⟨2, ![8192, 1024]⟩
abbrev S8192x512 : Shape := ⟨2, ![8192, 512]⟩
abbrev S512x1024 : Shape := ⟨2, ![512, 1024]⟩
abbrev S8192x3584 : Shape := ⟨2, ![8192, 3584]⟩
abbrev S8192x8x64 : Shape := ⟨3, ![8192, 8, 64]⟩
abbrev S_ : Shape := ⟨0, ![]⟩
abbrev S8192x8x128 : Shape := ⟨3, ![8192, 8, 128]⟩
abbrev S1024x512 : Shape := ⟨2, ![1024, 512]⟩
abbrev S1024x8x64 : Shape := ⟨3, ![1024, 8, 64]⟩
abbrev S1024x8x128 : Shape := ⟨3, ![1024, 8, 128]⟩
abbrev S1024x1024 : Shape := ⟨2, ![1024, 1024]⟩
abbrev S2048x1024 : Shape := ⟨2, ![2048, 1024]⟩
abbrev S1024x256 : Shape := ⟨2, ![1024, 256]⟩
abbrev S2048x256 : Shape := ⟨2, ![2048, 256]⟩

abbrev nBuf : Space → Nat
  | .hbm => 27
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S8192x1024, .f32⟩
  | .hbm, ⟨6, _⟩ => ⟨S8192x512, .f32⟩
  | .hbm, ⟨7, _⟩ => ⟨S512x1024, .f32⟩
  | .hbm, ⟨8, _⟩ => ⟨S8192x3584, .f32⟩
  | .hbm, ⟨9, _⟩ => ⟨S8192x3584, .bf16⟩
  | .hbm, ⟨10, _⟩ => ⟨S8192x8x64, .f32⟩
  | .hbm, ⟨11, _⟩ => ⟨S_, .i32⟩
  | .hbm, ⟨12, _⟩ => ⟨S_, .f32⟩
  | .hbm, ⟨13, _⟩ => ⟨S8192x8x128, .f32⟩
  | .hbm, ⟨14, _⟩ => ⟨S8192x1024, .f32⟩
  | .hbm, ⟨15, _⟩ => ⟨S8192x1024, .bf16⟩
  | .hbm, ⟨16, _⟩ => ⟨S1024x512, .f32⟩
  | .hbm, ⟨17, _⟩ => ⟨S1024x8x64, .f32⟩
  | .hbm, ⟨18, _⟩ => ⟨S_, .i32⟩
  | .hbm, ⟨19, _⟩ => ⟨S_, .f32⟩
  | .hbm, ⟨20, _⟩ => ⟨S1024x8x128, .f32⟩
  | .hbm, ⟨21, _⟩ => ⟨S1024x1024, .f32⟩
  | .hbm, ⟨22, _⟩ => ⟨S1024x1024, .f32⟩
  | .hbm, ⟨23, _⟩ => ⟨S1024x1024, .bf16⟩
  | .hbm, ⟨24, _⟩ => ⟨S8192x1024, .bf16⟩
  | .hbm, ⟨25, _⟩ => ⟨S8192x1024, .bf16⟩
  | .hbm, ⟨26, _⟩ => ⟨S8192x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x256, .bf16⟩
  | .local _ .vmem, ⟨3, _⟩ => ⟨S1024x256, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S2048x256, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_call0_v0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_0 : Ref sig .tc := ⟨.hbm, 18, rfl⟩
abbrev main_call1_v0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13_0 : Ref sig .tc := ⟨.hbm, 25, rfl⟩
abbrev main_v13_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference20Ideal.lean ====
abbrev S8192x1024 : Shape := ⟨2, ![8192, 1024]⟩
abbrev S8192x512 : Shape := ⟨2, ![8192, 512]⟩
abbrev S512x1024 : Shape := ⟨2, ![512, 1024]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S8192x1024, .f32⟩
  | .hbm, ⟨6, _⟩ => ⟨S8192x512, .f32⟩
  | .hbm, ⟨7, _⟩ => ⟨S512x1024, .f32⟩
  | .hbm, ⟨8, _⟩ => ⟨S8192x1024, .f32⟩
  | .hbm, ⟨9, _⟩ => ⟨S8192x1024, .bf16⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩

abbrev nD : Nat := 1
abbrev τ : Topo := Topo.v7x

variable {F : FTy → Type} [FloatOps F]
-- ==== Kernel21.lean ====
abbrev S8192x512 : Shape := ⟨2, ![8192, 512]⟩
abbrev S8192x256 : Shape := ⟨2, ![8192, 256]⟩
abbrev S8192x128 : Shape := ⟨2, ![8192, 128]⟩
abbrev S8192x32 : Shape := ⟨2, ![8192, 32]⟩
abbrev S8192x8 : Shape := ⟨2, ![8192, 8]⟩
abbrev S8192 : Shape := ⟨1, ![8192]⟩
abbrev S16 : Shape := ⟨1, ![16]⟩
abbrev S_ : Shape := ⟨0, ![]⟩
abbrev S8192x1 : Shape := ⟨2, ![8192, 1]⟩
abbrev S1x16 : Shape := ⟨2, ![1, 16]⟩
abbrev S8192x16 : Shape := ⟨2, ![8192, 16]⟩
abbrev S8192x64 : Shape := ⟨2, ![8192, 64]⟩
abbrev S8192x80 : Shape := ⟨2, ![8192, 80]⟩
abbrev S8192x640 : Shape := ⟨2, ![8192, 640]⟩
abbrev S8192x8x64 : Shape := ⟨3, ![8192, 8, 64]⟩
abbrev S8192x8x128 : Shape := ⟨3, ![8192, 8, 128]⟩
abbrev S8192x1024 : Shape := ⟨2, ![8192, 1024]⟩
abbrev S8192x2048 : Shape := ⟨2, ![8192, 2048]⟩
abbrev S1024x1024 : Shape := ⟨2, ![1024, 1024]⟩
abbrev S1024x128 : Shape := ⟨2, ![1024, 128]⟩

abbrev nBuf : Space → Nat
  | .hbm => 58
  | .vmem => 16
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x256, .f32⟩
  | .hbm, ⟨3, _⟩ => ⟨S8192x128, .f32⟩
  | .hbm, ⟨4, _⟩ => ⟨S8192x32, .f32⟩
  | .hbm, ⟨5, _⟩ => ⟨S8192x8, .f32⟩
  | .hbm, ⟨6, _⟩ => ⟨S8192, .i32⟩
  | .hbm, ⟨7, _⟩ => ⟨S16, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S8192, .f32⟩
  | .hbm, ⟨16, _⟩ => ⟨S8192x1, .f32⟩
  | .hbm, ⟨17, _⟩ => ⟨S1x16, .f32⟩
  | .hbm, ⟨18, _⟩ => ⟨S8192x16, .f32⟩
  | .hbm, ⟨19, _⟩ => ⟨S8192x16, .f32⟩
  | .hbm, ⟨20, _⟩ => ⟨S8192x16, .f32⟩
  | .hbm, ⟨21, _⟩ => ⟨S8192x16, .f32⟩
  | .hbm, ⟨22, _⟩ => ⟨S8192x16, .f32⟩
  | .hbm, ⟨23, _⟩ => ⟨S_, .f32⟩
  | .hbm, ⟨24, _⟩ => ⟨S8192x32, .f32⟩
  | .hbm, ⟨25, _⟩ => ⟨S_, .f32⟩
  | .hbm, ⟨26, _⟩ => ⟨S8192x64, .f32⟩
  | .hbm, ⟨27, _⟩ => ⟨S8192x128, .f32⟩
  | .hbm, ⟨28, _⟩ => ⟨S_, .f32⟩
  | .hbm, ⟨29, _⟩ => ⟨S8192x64, .f32⟩
  | .hbm, ⟨30, _⟩ => ⟨S8192x16, .f32⟩
  | .hbm, ⟨31, _⟩ => ⟨S_, .f32⟩
  | .hbm, ⟨32, _⟩ => ⟨S8192x16, .f32⟩
  | .hbm, ⟨33, _⟩ => ⟨S8192x128, .f32⟩
  | .hbm, ⟨34, _⟩ => ⟨S_, .f32⟩
  | .hbm, ⟨35, _⟩ => ⟨S8192x80, .f32⟩
  | .hbm, ⟨36, _⟩ => ⟨S8192x128, .f32⟩
  | .hbm, ⟨37, _⟩ => ⟨S_, .i32⟩
  | .hbm, ⟨38, _⟩ => ⟨S_, .f32⟩
  | .hbm, ⟨39, _⟩ => ⟨S8192x128, .f32⟩
  | .hbm, ⟨40, _⟩ => ⟨S_, .i32⟩
  | .hbm, ⟨41, _⟩ => ⟨S_, .f32⟩
  | .hbm, ⟨42, _⟩ => ⟨S8192x128, .f32⟩
  | .hbm, ⟨43, _⟩ => ⟨S8192x640, .f32⟩
  | .hbm, ⟨44, _⟩ => ⟨S8192x8x64, .f32⟩
  | .hbm, ⟨45, _⟩ => ⟨S_, .i32⟩
  | .hbm, ⟨46, _⟩ => ⟨S_, .f32⟩
  | .hbm, ⟨47, _⟩ => ⟨S8192x8x128, .f32⟩
  | .hbm, ⟨48, _⟩ => ⟨S8192x1024, .f32⟩
  | .hbm, ⟨49, _⟩ => ⟨S8192x8x64, .f32⟩
  | .hbm, ⟨50, _⟩ => ⟨S_, .i32⟩
  | .hbm, ⟨51, _⟩ => ⟨S_, .f32⟩
  | .hbm, ⟨52, _⟩ => ⟨S8192x8x128, .f32⟩
  | .hbm, ⟨53, _⟩ => ⟨S8192x1024, .f32⟩
  | .hbm, ⟨54, _⟩ => ⟨S8192x2048, .f32⟩
  | .hbm, ⟨55, _⟩ => ⟨S8192x2048, .bf16⟩
  | .hbm, ⟨56, _⟩ => ⟨S8192x1024, .bf16⟩
  | .hbm, ⟨57, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_c : Ref sig .tc := ⟨.hbm, 37, rfl⟩
abbrev main_call0_v0 : Ref sig .tc := ⟨.hbm, 38, rfl⟩
abbrev main_v23 : Ref sig .tc := ⟨.hbm, 39, rfl⟩
abbrev main_c_6 : Ref sig .tc := ⟨.hbm, 40, rfl⟩
abbrev main_call1_v0 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_7 : Ref sig .tc := ⟨.hbm, 45, rfl⟩
abbrev main_call2_v0 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c_8 : Ref sig .tc := ⟨.hbm, 50, rfl⟩
abbrev main_call3_v0 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34_0 : Ref sig .tc := ⟨.hbm, 56, rfl⟩
abbrev main_v34_1 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference21Ideal.lean ====
abbrev S8192x512 : Shape := ⟨2, ![8192, 512]⟩
abbrev S8192x256 : Shape := ⟨2, ![8192, 256]⟩
abbrev S8192x128 : Shape := ⟨2, ![8192, 128]⟩
abbrev S8192x32 : Shape := ⟨2, ![8192, 32]⟩
abbrev S8192x8 : Shape := ⟨2, ![8192, 8]⟩
abbrev S8192 : Shape := ⟨1, ![8192]⟩
abbrev S1x8192x32 : Shape := ⟨3, ![1, 8192, 32]⟩
abbrev S16 : Shape := ⟨1, ![16]⟩
abbrev S_ : Shape := ⟨0, ![]⟩
abbrev S1x8192x1 : Shape := ⟨3, ![1, 8192, 1]⟩
abbrev S1x1x16 : Shape := ⟨3, ![1, 1, 16]⟩
abbrev S1x8192x16 : Shape := ⟨3, ![1, 8192, 16]⟩
abbrev S8192x8x64 : Shape := ⟨3, ![8192, 8, 64]⟩
abbrev S8x8192x64 : Shape := ⟨3, ![8, 8192, 64]⟩
abbrev S8x8192x32 : Shape := ⟨3, ![8, 8192, 32]⟩
abbrev S8x8192x3 : Shape := ⟨3, ![8, 8192, 3]⟩
abbrev S8x8192x29 : Shape := ⟨3, ![8, 8192, 29]⟩
abbrev S8x8192x128 : Shape := ⟨3, ![8, 8192, 128]⟩
abbrev S8x8192x61 : Shape := ⟨3, ![8, 8192, 61]⟩
abbrev S8192x8x128 : Shape := ⟨3, ![8192, 8, 128]⟩
abbrev S8192x1024 : Shape := ⟨2, ![8192, 1024]⟩

abbrev nBuf : Space → Nat
  | .hbm => 54
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x256, .f32⟩
  | .hbm, ⟨3, _⟩ => ⟨S8192x128, .f32⟩
  | .hbm, ⟨4, _⟩ => ⟨S8192x32, .f32⟩
  | .hbm, ⟨5, _⟩ => ⟨S8192x8, .f32⟩
  | .hbm, ⟨6, _⟩ => ⟨S8192, .i32⟩
  | .hbm, ⟨7, _⟩ => ⟨S1x8192x32, .f32⟩
  | .hbm, ⟨8, _⟩ => ⟨S16, .f32⟩
  | .hbm, ⟨9, _⟩ => ⟨S16, .f32⟩
  | .hbm, ⟨10, _⟩ => ⟨S_, .f32⟩
  | .hbm, ⟨11, _⟩ => ⟨S16, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S8192, .f32⟩
  | .hbm, ⟨17, _⟩ => ⟨S1x8192x1, .f32⟩
  | .hbm, ⟨18, _⟩ => ⟨S1x1x16, .f32⟩
  | .hbm, ⟨19, _⟩ => ⟨S1x8192x16, .f32⟩
  | .hbm, ⟨20, _⟩ => ⟨S1x8192x16, .f32⟩
  | .hbm, ⟨21, _⟩ => ⟨S1x8192x16, .f32⟩
  | .hbm, ⟨22, _⟩ => ⟨S1x8192x16, .f32⟩
  | .hbm, ⟨23, _⟩ => ⟨S1x8192x16, .f32⟩
  | .hbm, ⟨24, _⟩ => ⟨S1x8192x16, .f32⟩
  | .hbm, ⟨25, _⟩ => ⟨S1x8192x16, .f32⟩
  | .hbm, ⟨26, _⟩ => ⟨S1x8192x16, .f32⟩
  | .hbm, ⟨27, _⟩ => ⟨S1x8192x16, .f32⟩
  | .hbm, ⟨28, _⟩ => ⟨S1x8192x16, .f32⟩
  | .hbm, ⟨29, _⟩ => ⟨S1x8192x16, .f32⟩
  | .hbm, ⟨30, _⟩ => ⟨S1x8192x16, .f32⟩
  | .hbm, ⟨31, _⟩ => ⟨S1x8192x16, .f32⟩
  | .hbm, ⟨32, _⟩ => ⟨S1x8192x32, .f32⟩
  | .hbm, ⟨33, _⟩ => ⟨S8192x8x64, .f32⟩
  | .hbm, ⟨34, _⟩ => ⟨S8x8192x64, .f32⟩
  | .hbm, ⟨35, _⟩ => ⟨S8x8192x32, .f32⟩
  | .hbm, ⟨36, _⟩ => ⟨S_, .f32⟩
  | .hbm, ⟨37, _⟩ => ⟨S8x8192x3, .f32⟩
  | .hbm, ⟨38, _⟩ => ⟨S_, .f32⟩
  | .hbm, ⟨39, _⟩ => ⟨S8x8192x29, .f32⟩
  | .hbm, ⟨40, _⟩ => ⟨S8x8192x128, .f32⟩
  | .hbm, ⟨41, _⟩ => ⟨S8192x8x64, .f32⟩
  | .hbm, ⟨42, _⟩ => ⟨S8x8192x64, .f32⟩
  | .hbm, ⟨43, _⟩ => ⟨S_, .f32⟩
  | .hbm, ⟨44, _⟩ => ⟨S8x8192x3, .f32⟩
  | .hbm, ⟨45, _⟩ => ⟨S_, .f32⟩
  | .hbm, ⟨46, _⟩ => ⟨S8x8192x61, .f32⟩
  | .hbm, ⟨47, _⟩ => ⟨S8x8192x128, .f32⟩
  | .hbm, ⟨48, _⟩ => ⟨S8192x8x128, .f32⟩
  | .hbm, ⟨49, _⟩ => ⟨S8192x1024, .f32⟩
  | .hbm, ⟨50, _⟩ => ⟨S8192x1024, .bf16⟩
  | .hbm, ⟨51, _⟩ => ⟨S8192x8x128, .f32⟩
  | .hbm, ⟨52, _⟩ => ⟨S8192x1024, .f32⟩
  | .hbm, ⟨53, _⟩ => ⟨S8192x1024, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_1 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== Kernel22.lean ====
abbrev S8192x1024 : Shape := ⟨2, ![8192, 1024]⟩
abbrev S8192x512 : Shape := ⟨2, ![8192, 512]⟩
abbrev S8192x8 : Shape := ⟨2, ![8192, 8]⟩
abbrev S8192x3584 : Shape := ⟨2, ![8192, 3584]⟩
abbrev S_ : Shape := ⟨0, ![]⟩
abbrev S8192x128 : Shape := ⟨2, ![8192, 128]⟩
abbrev S1024x512 : Shape := ⟨2, ![1024, 512]⟩
abbrev S1024x128 : Shape := ⟨2, ![1024, 128]⟩
abbrev S1024x1024 : Shape := ⟨2, ![1024, 1024]⟩
abbrev S512x1024 : Shape := ⟨2, ![512, 1024]⟩
abbrev S1024 : Shape := ⟨1, ![1024]⟩
abbrev S1024x1 : Shape := ⟨2, ![1024, 1]⟩

abbrev nBuf : Space → Nat
  | .hbm => 14
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S8192x8, .f32⟩
  | .hbm, ⟨6, _⟩ => ⟨S8192x3584, .f32⟩
  | .hbm, ⟨7, _⟩ => ⟨S8192x3584, .bf16⟩
  | .hbm, ⟨8, _⟩ => ⟨S_, .i32⟩
  | .hbm, ⟨9, _⟩ => ⟨S_, .f32⟩
  | .hbm, ⟨10, _⟩ => ⟨S8192x128, .f32⟩
  | .hbm, ⟨11, _⟩ => ⟨S8192x1024, .bf16⟩
  | .hbm, ⟨12, _⟩ => ⟨S8192x1024, .bf16⟩
  | .hbm, ⟨13, _⟩ => ⟨S8192x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x128, .f32⟩
  | .local _ .vmem, ⟨7, _⟩ => ⟨S1024x128, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference22Ideal.lean ====
abbrev S8192x1024 : Shape := ⟨2, ![8192, 1024]⟩
abbrev S8192x512 : Shape := ⟨2, ![8192, 512]⟩
abbrev S8192x8 : Shape := ⟨2, ![8192, 8]⟩
abbrev S8192x8x1 : Shape := ⟨3, ![8192, 8, 1]⟩
abbrev S_ : Shape := ⟨0, ![]⟩
abbrev S8192x8x64 : Shape := ⟨3, ![8192, 8, 64]⟩
abbrev S8192x8x5 : Shape := ⟨3, ![8192, 8, 5]⟩
abbrev S8192x8x3 : Shape := ⟨3, ![8192, 8, 3]⟩
abbrev S8192x8x55 : Shape := ⟨3, ![8192, 8, 55]⟩
abbrev S8192x8x128 : Shape := ⟨3, ![8192, 8, 128]⟩
abbrev S8192x8x6 : Shape := ⟨3, ![8192, 8, 6]⟩
abbrev S8192x8x57 : Shape := ⟨3, ![8192, 8, 57]⟩
abbrev S8192x8x61 : Shape := ⟨3, ![8192, 8, 61]⟩

abbrev nBuf : Space → Nat
  | .hbm => 37
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S8192x8, .f32⟩
  | .hbm, ⟨6, _⟩ => ⟨S8192x8x1, .f32⟩
  | .hbm, ⟨7, _⟩ => ⟨S_, .f32⟩
  | .hbm, ⟨8, _⟩ => ⟨S8192x8x1, .f32⟩
  | .hbm, ⟨9, _⟩ => ⟨S8192x8x1, .f32⟩
  | .hbm, ⟨10, _⟩ => ⟨S8192x8x64, .f32⟩
  | .hbm, ⟨11, _⟩ => ⟨S_, .f32⟩
  | .hbm, ⟨12, _⟩ => ⟨S8192x8x5, .f32⟩
  | .hbm, ⟨13, _⟩ => ⟨S_, .f32⟩
  | .hbm, ⟨14, _⟩ => ⟨S8192x8x3, .f32⟩
  | .hbm, ⟨15, _⟩ => ⟨S_, .f32⟩
  | .hbm, ⟨16, _⟩ => ⟨S8192x8x55, .f32⟩
  | .hbm, ⟨17, _⟩ => ⟨S8192x8x128, .f32⟩
  | .hbm, ⟨18, _⟩ => ⟨S8192x1024, .f32⟩
  | .hbm, ⟨19, _⟩ => ⟨S8192x1024, .bf16⟩
  | .hbm, ⟨20, _⟩ => ⟨S8192x8x64, .f32⟩
  | .hbm, ⟨21, _⟩ => ⟨S_, .f32⟩
  | .hbm, ⟨22, _⟩ => ⟨S8192x8x6, .f32⟩
  | .hbm, ⟨23, _⟩ => ⟨S8192x8x1, .f32⟩
  | .hbm, ⟨24, _⟩ => ⟨S_, .f32⟩
  | .hbm, ⟨25, _⟩ => ⟨S8192x8x57, .f32⟩
  | .hbm, ⟨26, _⟩ => ⟨S8192x8x128, .f32⟩
  | .hbm, ⟨27, _⟩ => ⟨S8192x1024, .f32⟩
  | .hbm, ⟨28, _⟩ => ⟨S8192x1024, .bf16⟩
  | .hbm, ⟨29, _⟩ => ⟨S8192x8x64, .f32⟩
  | .hbm, ⟨30, _⟩ => ⟨S_, .f32⟩
  | .hbm, ⟨31, _⟩ => ⟨S8192x8x3, .f32⟩
  | .hbm, ⟨32, _⟩ => ⟨S_, .f32⟩
  | .hbm, ⟨33, _⟩ => ⟨S8192x8x61, .f32⟩
  | .hbm, ⟨34, _⟩ => ⟨S8192x8x128, .f32⟩
  | .hbm, ⟨35, _⟩ => ⟨S8192x1024, .f32⟩
  | .hbm, ⟨36, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_cst_4 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_cst_6 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩

abbrev nD : Nat := 1
abbrev τ : Topo := Topo.v7x

variable {F : FTy → Type} [FloatOps F]
-- ==== Proof.Cumsum.lean ====
/- The running sum from the end that the host's window sum computes, over the extended reals. -/
module

public import Idealize.ShloMosaic.Lib.Routing.OpsOne
public import Idealize.ShloMosaic.Lib.Pointwise
public import Idealize.ShloMosaic.PureOps.Ideal

@[expose] public section

set_option maxRecDepth 16384

noncomputable section

namespace Cert.Cumsum

open Idealize.ShloMosaic Idealize.ShloMosaic.Routing

/-- A left fold that adds `g n` at each `n` is the sum of the `g n`. -/
theorem foldl_add {n : ℕ} (g : Fin n → EReal) (a : EReal) :
    (List.finRange n).foldl (fun r k => r + g k) a = a + ∑ k, g k := by
  rw [Fin.sum_univ_def]
  generalize List.finRange n = l
  induction l generalizing a with
  | nil => simp
  | cons b l ih => rw [List.foldl_cons, ih, List.map_cons, List.sum_cons, add_assoc]

/-- The entries from `j` on, as a sum over the places after `j`. -/
theorem sum_from {N : ℕ} (f : Fin N → EReal) (j : Fin N) :
    (∑ n : Fin N, if h : j.val + n.val < N then f ⟨j.val + n.val, h⟩ else 0) = ∑ i : Fin N, if j ≤ i then f i else 0 := by
  let F : ℕ → EReal := fun i => if h : i < N then f ⟨i, h⟩ else 0
  have hl : (∑ n : Fin N, if h : j.val + n.val < N then f ⟨j.val + n.val, h⟩ else 0) = ∑ n ∈ Finset.range N, F (j.val + n) :=
    (Finset.sum_range fun n => F (j.val + n)).symm
  have hr : (∑ i : Fin N, if j ≤ i then f i else 0) = ∑ i ∈ Finset.range N, if j.val ≤ i then F i else 0 := by
    rw [Finset.sum_range]
    refine Finset.sum_congr rfl fun i _ => ?_
    show (if j.val ≤ i.val then f i else 0) = if j.val ≤ i.val then F i.val else 0
    rw [show F i.val = f i from dif_pos i.isLt]
  have e : ∑ n ∈ Finset.range N, F (j.val + n) = ∑ i ∈ Finset.Ico j.val (j.val + N), F i := by
    rw [Finset.sum_Ico_eq_sum_range, Nat.add_sub_cancel_left]
  rw [hl, hr, e, ← Finset.sum_filter]
  refine (Finset.sum_subset (fun i hi => ?_) fun i hi hn => ?_).symm
  · rw [Finset.mem_filter, Finset.mem_range] at hi
    rw [Finset.mem_Ico]
    omega
  · refine dif_neg fun h => hn ?_
    rw [Finset.mem_Ico] at hi
    rw [Finset.mem_filter, Finset.mem_range]
    exact ⟨h, hi.1⟩

/-- The host's window sum of a matrix's rows from each row on. -/
theorem rev_rows {N Nm1 C : ℕ} (x : (shape2 N C).Idx → EReal) (init : EReal) (hinit : init = 0)
    (h : (shape2 N C).ReduceWindows (![N, 1] : Fin 2 → Nat) ![1, 1] ![0, 0] ![Nm1, 0] (shape2 N C)) (j : Fin N) (c : Fin C) :
    Ideal.hostReduceWindowAdd ![N, 1] ![1, 1] ![0, 0] ![Nm1, 0] h x init (ix2 j c)
      = ∑ i : Fin N, if j ≤ i then x (ix2 i c) else 0 := by
  subst hinit
  have hc := c.isLt
  rw [← sum_from (fun i => x (ix2 i c)) j]
  unfold Ideal.hostReduceWindowAdd Host.reduceWindow
  refine (foldl_add _ _).trans ?_
  rw [zero_add]
  refine Fintype.sum_equiv (finCongr (numel_col N)) _ _ fun n => ?_
  have hw0 : ((shape2 N 1).rowMajor.symm n 0).val = n.val := by rw [symm_col]; rfl
  have hw1 : ((shape2 N 1).rowMajor.symm n 1).val = 0 := by rw [symm_col]; rfl
  by_cases hin : j.val + n.val < N
  · rw [dif_pos (show j.val + ((finCongr (numel_col N)) n).val < N from hin)]
    refine (dif_pos fun a => ?_).trans (congrArg x (funext fun a => Fin.ext ?_))
    · match a with
      | ⟨0, _⟩ =>
        show 0 ≤ j.val * 1 + ((shape2 N 1).rowMajor.symm n 0).val ∧ j.val * 1 + ((shape2 N 1).rowMajor.symm n 0).val - 0 < N
        rw [hw0]; omega
      | ⟨1, _⟩ =>
        show 0 ≤ c.val * 1 + ((shape2 N 1).rowMajor.symm n 1).val ∧ c.val * 1 + ((shape2 N 1).rowMajor.symm n 1).val - 0 < C
        rw [hw1]; omega
    · match a with
      | ⟨0, _⟩ =>
        show j.val * 1 + ((shape2 N 1).rowMajor.symm n 0).val - 0 = j.val + n.val
        rw [hw0]; omega
      | ⟨1, _⟩ =>
        show c.val * 1 + ((shape2 N 1).rowMajor.symm n 1).val - 0 = c.val
        rw [hw1]; omega
  · rw [dif_neg (show ¬ j.val + ((finCongr (numel_col N)) n).val < N from hin)]
    refine dif_neg fun hall => hin ?_
    have h0 := hall 0
    change 0 ≤ j.val * 1 + ((shape2 N 1).rowMajor.symm n 0).val ∧ j.val * 1 + ((shape2 N 1).rowMajor.symm n 0).val - 0 < N at h0
    rw [hw0] at h0
    omega

end Cert.Cumsum

end
-- ==== Proof.FcbValue.lean ====
/- The forget gate's backward running sum: its result array as one function of the arguments. -/
module

public import proofs.«01_k».proof.Proof.Cumsum
public import proofs.«01_k».proof.Proof.Gen.KernelIdeal.Value
public import proofs.«01_k».proof.Proof.Gen.ReferenceIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Fcb
open Cert.KernelIdeal Cert.KernelIdeal.Gen

variable (m : (ℓ : Loc nD τ sig) → Buf (Elt Ideal) ℓ)

theorem idx : ∀ t : Fin cfg0.N, win0_0.index t = ![15 - t.val, 0] ∧ win0_1.index t = ![15 - t.val, 4] ∧ win0_2.index t = ![15 - t.val, 0] :=
  (by decide +kernel : ∀ t : Fin grid0.N, _)

theorem pay1_at (j : S1x128.Idx) : k0_pay1 (F := Ideal) j = 0 := by pointwise [k0_pay1]

theorem pay3_at (x : FVec Ideal S512x128 .f32) (a : FVec Ideal S1x128 .f32) (j : S1x128.Idx) :
    k0_pay3 (F := Ideal) x a j = a j + ∑ k : Fin 512, x (ix2 k (j 1)) := by
  pointwise [k0_pay3, k0_pay2]

theorem pay4_at (x y : FVec Ideal S512x128 .f32) (a : FVec Ideal S1x128 .f32) (r : Fin 512) (l : Fin 128) :
    k0_pay4 (F := Ideal) x a y (ix2 r l)
      = ((∑ k : Fin 512, if r ≤ k then x (ix2 k l) else 0) + a (ix2 0 l)) * Ideal.div 1 (1 + Ideal.exp (y (ix2 r l))) := by
  pointwise [k0_pay4, k0_pay2]
  refine congrArg (fun s => (s + _) * _) (Finset.sum_congr rfl fun k _ => ?_)
  have hk := k.isLt
  have hr := r.isLt
  show _ = if r.val ≤ k.val then _ else _
  word_cmp

/-- What the scratch row holds after a point: the sums of the blocks so far. -/
theorem carry (c : Dev nD) (t : Fin cfg0.N) (j : S1x128.Idx) :
    (outsAt0 m c t.val t.isLt).2 j
      = ∑ p ∈ Finset.Iic t, ∑ k : Fin 512, (show FVec Ideal S512x128 .f32 from iblk m c 0 p) (ix2 k (j 1)) := by
  rw [Pipeline.eq_sum_fin_of_reset_step_apply_single (fun n h => (outsAt0 m c n h).2) 16 (fun _ => 0)
    (fun p j => ∑ k : Fin 512, (show FVec Ideal S512x128 .f32 from iblk m c 0 p) (ix2 k (j 1)))
    (fun t h j => by rw [outsAt0_A m c t h]; frame_out; rw [pay3_at, pay1_at])
    (fun t h j => by rw [outsAt0_B m c t h]; frame_out; rw [pay3_at]; exact congrArg (· + _) (congrFun (Memref.IsWhole.read_unread _ _) j))
    (le_of_eq N_0) t j, zero_add]

/-- What the body leaves in the result's block: its own part of the block, the rows of the blocks before it, times the gate. -/
theorem after_at (c : Dev nD) (t : Fin cfg0.N) (r : Fin 512) (l : Fin 128) :
    (outsAt0 m c t.val t.isLt).1 (ix2 r l)
      = ((∑ k : Fin 512, if r ≤ k then (show FVec Ideal S512x128 .f32 from iblk m c 0 t) (ix2 k l) else 0)
          + ∑ p ∈ Finset.Iio t, ∑ k : Fin 512, (show FVec Ideal S512x128 .f32 from iblk m c 0 p) (ix2 k l))
        * Ideal.div 1 (1 + Ideal.exp ((show FVec Ideal S512x128 .f32 from iblk m c 1 t) (ix2 r l))) := by
  have ht : t.val < 16 := lt_of_lt_of_eq t.isLt N_0
  by_cases h : t.val % 16 = 0
  · rw [outsAt0_A m c t h]; frame_out; rw [pay4_at, pay1_at]
    rw [show (Finset.Iio t) = ∅ from Finset.eq_empty_of_forall_notMem fun p hp => by
      have := Fin.lt_def.1 (Finset.mem_Iio.1 hp); omega]
    rfl
  · rw [outsAt0_B m c t h]; frame_out; rw [pay4_at]
    refine congrArg (fun s => (_ + s) * _) ?_
    refine (congrFun (Memref.IsWhole.read_unread _ _) _).trans ?_
    refine (carry m c ⟨t.val - 1, by omega⟩ (ix2 0 l)).trans (Finset.sum_congr (Finset.ext fun p => ?_) fun p _ => rfl)
    rw [Finset.mem_Iic, Finset.mem_Iio, Fin.le_def, Fin.lt_def]
    show p.val ≤ t.val - 1 ↔ _
    omega

/-- The four arguments the region's inputs are made of. -/
abbrev arg0 (c : Dev nD) : FVec Ideal S8192x256 .f32 := m ((c : Thread nD τ).loc main_arg0)
abbrev arg1 (c : Dev nD) : FVec Ideal S8192x128 .f32 := m ((c : Thread nD τ).loc main_arg1)
abbrev arg3 (c : Dev nD) : FVec Ideal S8192x8 .f32 := m ((c : Thread nD τ).loc main_arg3)
abbrev arg4 (c : Dev nD) : FVec Ideal S8192x8 .f32 := m ((c : Thread nD τ).loc main_arg4)

/-- The padded incoming gradient as the region finds it. -/
theorem V_ct (c : Dev nD) : (V m c main_v3 : FVec Ideal S8192x128 .f32)
    = pad S8192x128 ![0, 0] ![0, 120] ![0, 0] (arg4 m c) (sitofp .f32 (constantI S_ 32 0#32)) pads_S8192x8_S8192x128_000_01200 h_S_ := by
  unfold V
  simp only [hostOps0, hostOps0_1, hostOps0_2, hostOps0_3, hostOps0_4, hostOps0_5, List.flatten_cons, List.flatten_nil, List.cons_append, List.nil_append, List.append_nil,
    StableHlo.TRef.binary, StableHlo.TRef.unary, StableHlo.TRef.toBuf, StableHlo.TRef.ofBuf, cast_eq]
  after_results_simp

/-- The columns of `z` that hold the logits, as the region finds them. -/
theorem V_fl (c : Dev nD) (R : Fin 8192) (l : Fin 8) : (V m c main_v2 : FVec Ideal S8192x640 .f32) (ix2 R ⟨512 + l.val, by omega⟩)
    = (arg3 m c) (ix2 R l) := by
  have e : (V m c main_v2 : FVec Ideal S8192x640 .f32) = concatenate S8192x640 1 [⟨S8192x256, (arg0 m c)⟩, ⟨S8192x128, (arg1 m c)⟩, ⟨S8192x128, (V m c main_v0 : FVec Ideal S8192x128 .f32)⟩,
      ⟨S8192x128, pad S8192x128 ![0, 0] ![0, 120] ![0, 0] (arg3 m c) (sitofp .f32 (constantI S_ 32 0#32)) pads_S8192x8_S8192x128_000_01200 h_S_⟩] concatenates_S8192x256_S8192x128_S8192x128_S8192x128_S8192x640_d1 := by
    unfold V
    simp only [hostOps0, hostOps0_1, hostOps0_2, hostOps0_3, hostOps0_4, hostOps0_5, List.flatten_cons, List.flatten_nil, List.cons_append, List.nil_append, List.append_nil,
      StableHlo.TRef.binary, StableHlo.TRef.unary, StableHlo.TRef.toBuf, StableHlo.TRef.ofBuf, cast_eq]
    after_results_simp
    try rfl
  rw [e]
  pointwise
  rw [dif_neg (by omega), dif_neg (by omega), dif_neg (by omega), dif_pos (by omega)]
  exact congrArg (fun q => arg3 m c (ix2 R q)) (Fin.ext (by show 512 + l.val - 256 - 128 - 128 = l.val; omega))

/-- The incoming gradient's block at a point: its columns, and zeros beyond them. -/
theorem ct_at (c : Dev nD) (p : Fin cfg0.N) (k : Fin 512) (l : Fin 128) (R : Fin 8192) (hR : R.val = 512 * (15 - p.val) + k.val) :
    (show FVec Ideal S512x128 .f32 from iblk m c 0 p) (ix2 k l)
      = if h : l.val < 8 then arg4 m c (ix2 R ⟨l.val, h⟩) else 0 := by
  have ht : p.val < 16 := lt_of_lt_of_eq p.isLt N_0
  show (V m c main_v3 : FVec Ideal S8192x128 .f32) (((cfg0.win 0).blk p).view.emb (ix2 k l)) = _
  rw [V_ct]
  have e : ((cfg0.win 0).blk p).view.emb (ix2 k l) = (ix2 R l : S8192x128.Idx) := by blk_ext [idx p]
  rw [e]
  pointwise
  refine dite_congr rfl (fun _ => rfl) fun _ => ?_
  show (((0#32 : BitVec 32).toInt : ℝ) : EReal) = 0
  norm_num

/-- The logits' block at a point. -/
theorem fl_at (c : Dev nD) (p : Fin cfg0.N) (k : Fin 512) (l : Fin 128) (R : Fin 8192) (hR : R.val = 512 * (15 - p.val) + k.val) (h : l.val < 8) :
    (show FVec Ideal S512x128 .f32 from iblk m c 1 p) (ix2 k l)
      = arg3 m c (ix2 R ⟨l.val, h⟩) := by
  have ht : p.val < 16 := lt_of_lt_of_eq p.isLt N_0
  show (V m c main_v2 : FVec Ideal S8192x640 .f32) (((cfg0.win 1).blk p).view.emb (ix2 k l)) = _
  have e : ((cfg0.win 1).blk p).view.emb (ix2 k l) = (ix2 R ⟨512 + l.val, by omega⟩ : S8192x640.Idx) := by blk_ext [idx p]
  rw [e]
  exact V_fl m c R ⟨l.val, h⟩

/-- The whole result: each column's sum from the row on, times the gate's slope. -/
def G (fl ct : FVec Ideal S8192x8 .f32) : FVec Ideal S8192x128 .bf16 := fun j =>
  if h : (j 1).val < 8 then
    (∑ i : Fin 8192, if (show Fin 8192 from j 0) ≤ i then ct (ix2 i ⟨(j 1).val, h⟩) else 0)
      * Ideal.div 1 (1 + Ideal.exp (fl (ix2 (j 0) ⟨(j 1).val, h⟩)))
  else 0

/-- A column's sum from a row on, block by block from the last one. -/
theorem sum_blocks (X : Fin 8192 → EReal) (t : Fin 16) (r : Fin 512) (R : Fin 8192) (hR : R.val = 512 * (15 - t.val) + r.val) :
    (∑ k : Fin 512, if r ≤ k then X ⟨512 * (15 - t.val) + k.val, by omega⟩ else 0)
        + ∑ p ∈ Finset.Iio t, ∑ k : Fin 512, X ⟨512 * (15 - p.val) + k.val, by omega⟩
      = ∑ i : Fin 8192, if R ≤ i then X i else 0 := by
  have ht := t.isLt
  have hr := r.isLt
  have hb (p : Fin 16) : (∑ k : Fin 512, if R.val ≤ 512 * (15 - p.val) + k.val then X ⟨512 * (15 - p.val) + k.val, by omega⟩ else 0)
      = (if p < t then ∑ k : Fin 512, X ⟨512 * (15 - p.val) + k.val, by omega⟩ else 0)
        + if p = t then (∑ k : Fin 512, if r ≤ k then X ⟨512 * (15 - t.val) + k.val, by omega⟩ else 0) else 0 := by
    have hp := p.isLt
    rcases lt_trichotomy p t with h | h | h
    · have h' := Fin.lt_def.1 h
      rw [if_pos h, if_neg h.ne, add_zero]
      refine Finset.sum_congr rfl fun k _ => if_pos ?_
      have := k.isLt; omega
    · subst h
      rw [if_neg (lt_irrefl _), if_pos rfl, zero_add]
      refine Finset.sum_congr rfl fun k _ => if_congr ?_ rfl rfl
      rw [Fin.le_def]; omega
    · have h' := Fin.lt_def.1 h
      rw [if_neg h.asymm, if_neg h.ne', add_zero]
      refine Finset.sum_eq_zero fun k _ => if_neg ?_
      have := k.isLt; omega
  refine Eq.symm ((Fin.sum_univ_tiles 16 512 rfl (fun i : Fin 8192 => if R ≤ i then X i else 0)).trans ?_)
  rw [← Equiv.sum_comp Fin.revPerm]
  have e (p : Fin 16) : (∑ k : Fin 512, if R ≤ (⟨(Fin.revPerm p).val * 512 + k.val, by have := (Fin.revPerm p).isLt; omega⟩ : Fin 8192)
        then X ⟨(Fin.revPerm p).val * 512 + k.val, by have := (Fin.revPerm p).isLt; omega⟩ else 0)
      = ∑ k : Fin 512, if R.val ≤ 512 * (15 - p.val) + k.val then X ⟨512 * (15 - p.val) + k.val, by omega⟩ else 0 := by
    have hv : (Fin.revPerm p).val = 15 - p.val := by rw [Fin.revPerm_apply, Fin.val_rev]; omega
    refine Finset.sum_congr rfl fun k _ => ?_
    have hi : (⟨(Fin.revPerm p).val * 512 + k.val, by have := (Fin.revPerm p).isLt; omega⟩ : Fin 8192) = ⟨512 * (15 - p.val) + k.val, by omega⟩ :=
      Fin.ext (by show (Fin.revPerm p).val * 512 + k.val = _; rw [hv]; ring)
    rw [hi]
    rfl
  refine (Finset.sum_congr rfl fun p _ => (e p).trans (hb p)).trans ?_
  rw [Finset.sum_add_distrib, Finset.sum_ite_eq' Finset.univ t, if_pos (Finset.mem_univ _), add_comm]
  refine congrArg (_ + ·) ((Finset.sum_filter (· < t) _).symm.trans (Finset.sum_congr (Finset.ext fun p => ?_) fun _ _ => rfl))
  rw [Finset.mem_filter, Finset.mem_Iio]
  exact and_iff_right (Finset.mem_univ _)

theorem final (c : Dev nD) : (dats m 0 c).arrAt 2 (cfgs 0).N
    = G (m ((c : Thread nD τ).loc main_arg3)) (m ((c : Thread nD τ).loc main_arg4)) := by
  refine (dats m 0 c).arrAt_eq_of_covers 2 _ (by decide +kernel) fun t _ y => ?_
  have ht : t.val < 16 := lt_of_lt_of_eq t.isLt N_0
  blk_simp
  rw [after0_2]
  idx_vars y
  rw [after_at]
  obtain_idx i : S8192x128 := [512 * (15 - t.val) + (y0 : ℕ), (y1 : ℕ)] with hi
  refine Eq.trans (b := G (m ((c : Thread nD τ).loc main_arg3)) (m ((c : Thread nD τ).loc main_arg4)) i) ?_ (congrArg _ ?_)
  · have hy : (ix2 (i 0) (i 1) : S8192x128.Idx) = i := (eq_ix2 i).symm
    have hl : y1 = (i 1 : Fin 128) := Fin.ext hi1.symm
    subst hl
    unfold G
    by_cases h : (i 1 : ℕ) < 8
    · rw [dif_pos h, fl_at m c t y0 (i 1) (i 0) hi0 h]
      refine congrArg (· * _) ?_
      refine Eq.trans ?_ (sum_blocks (fun R => (arg4 m c) (ix2 R ⟨(i 1).val, h⟩)) ⟨t.val, ht⟩ y0 (i 0) hi0)
      refine congrArg₂ (· + ·) (Finset.sum_congr rfl fun k _ => if_congr Iff.rfl ?_ rfl) (Finset.sum_congr rfl fun p _ => Finset.sum_congr rfl fun k _ => ?_)
      · rw [ct_at m c t k (i 1) ⟨512 * (15 - t.val) + k.val, by omega⟩ rfl, dif_pos h]
      · rw [ct_at m c p k (i 1) ⟨512 * (15 - p.val) + k.val, by have := lt_of_lt_of_eq p.isLt N_0; omega⟩ rfl, dif_pos h]
    · rw [dif_neg h]
      have hz (p : Fin cfg0.N) (k : Fin 512) : (show FVec Ideal S512x128 .f32 from iblk m c 0 p) (ix2 k (i 1)) = 0 := by
        have hp : p.val < 16 := lt_of_lt_of_eq p.isLt N_0
        rw [ct_at m c p k (i 1) ⟨512 * (15 - p.val) + k.val, by omega⟩ rfl, dif_neg h]
      simp only [hz, ite_self, Finset.sum_const_zero, add_zero, zero_mul]
  · blk_ext [idx t]

end Cert.KernelIdeal.Fcb

end
-- ==== Proof.FcbRef.lean ====
/- The reference of the running sum's backward pass, read at an index: the same whole result as the kernel's. -/
module

public import proofs.«01_k».proof.Proof.FcbValue
public import proofs.«01_k».proof.Proof.Cumsum
public import proofs.«01_k».proof.Proof.Gen.ReferenceIdeal.Run

@[expose] public section

set_option maxRecDepth 16384

noncomputable section

namespace Cert.ReferenceIdeal.Fcb

open Cert.ReferenceIdeal Cert.ReferenceIdeal.Gen Idealize.ShloMosaic Idealize.ShloMosaic.TcCoe Idealize.SL.Sem Idealize.ShloMosaic.Routing

/-- The slope of `-log (1 + exp (-x))` as the reference spells it is `1 / (1 + exp x)`, at infinite `x` too. -/
theorem slope (S x : EReal) :
    -(-S * Ideal.exp ((if -x = ⊤ then 0 else -x)
        - if max (-x) 0 + Ideal.log1p (Ideal.exp (-max (-x) (- -x))) = ⊤ then 0
          else max (-x) 0 + Ideal.log1p (Ideal.exp (-max (-x) (- -x)))))
      = S * Ideal.div 1 (1 + Ideal.exp x) := by
  rw [neg_mul, neg_neg]
  refine congrArg (S * ·) ?_
  induction x using EReal.rec with
  | bot =>
    have h : max (-⊥ : EReal) 0 + Ideal.log1p (Ideal.exp (-max (-⊥ : EReal) (- -⊥))) = ⊤ := by
      simp [Ideal.log1p]
      rw [← EReal.coe_one, Ideal.log_coe]; norm_num
    rw [if_pos h, if_pos EReal.neg_bot, sub_zero, Ideal.exp_bot, add_zero, ← EReal.coe_one, Ideal.div_coe one_ne_zero, ← EReal.coe_zero, Ideal.exp_coe]
    norm_num
  | top =>
    have h : max (-⊤ : EReal) 0 + Ideal.log1p (Ideal.exp (-max (-⊤ : EReal) (- -⊤))) = 0 := by
      simp [Ideal.log1p]
      rw [← EReal.coe_one, Ideal.log_coe]; norm_num
    rw [h, if_neg (by simp), if_neg (by simp), EReal.neg_top, sub_zero, Ideal.exp_bot, Ideal.exp_top, show (1 : EReal) + ⊤ = ⊤ from EReal.add_top_of_ne_bot (by decide)]
    unfold Ideal.div
    rw [if_neg (by decide), EReal.inv_top, mul_zero]
  | coe r =>
    have e : max (-(r : EReal)) (- -(r : EReal)) = ((|r| : ℝ) : EReal) := by
      rw [neg_neg, ← EReal.coe_neg, ← EReal.coe_strictMono.monotone.map_max, abs_eq_max_neg, max_comm]
    have hl : max (-(r : EReal)) 0 + Ideal.log1p (Ideal.exp (-max (-(r : EReal)) (- -(r : EReal)))) = ((Real.log (1 + Real.exp (-r)) : ℝ) : EReal) := by
      rw [e, ← EReal.coe_neg, ← EReal.coe_neg, Ideal.exp_coe, Ideal.log1p, ← EReal.coe_one, ← EReal.coe_add, Ideal.log_coe,
        if_neg (by have := Real.exp_pos (-|r|); linarith), ← EReal.coe_zero, ← EReal.coe_strictMono.monotone.map_max, ← EReal.coe_add]
      refine congrArg _ ?_
      rcases le_total 0 r with h | h
      · rw [abs_of_nonneg h, max_eq_right (by linarith), zero_add]
      · rw [abs_of_nonpos h, max_eq_left (by linarith), neg_neg]
        rw [← Real.log_exp (-r), ← Real.log_mul (Real.exp_pos _).ne' (by have := Real.exp_pos r; positivity), Real.log_exp, mul_add, mul_one, ← Real.exp_add]
        norm_num [add_comm]
    rw [hl, if_neg (EReal.coe_ne_top _), if_neg (by rw [← EReal.coe_neg]; exact EReal.coe_ne_top _), ← EReal.coe_neg, ← EReal.coe_sub, Ideal.exp_coe,
      Ideal.exp_coe, ← EReal.coe_one, ← EReal.coe_add, Ideal.div_coe (by have := Real.exp_pos r; positivity), ← EReal.coe_mul]
    refine congrArg _ ?_
    have h1 := Real.exp_pos r
    have h2 := Real.exp_pos (-r)
    rw [Real.exp_sub, Real.exp_log (by positivity), Real.exp_neg]
    rw [add_comm (1 : ℝ) (Real.exp r)]
    field_simp

/-- The pattern of plus infinity reads `⊤`. -/
theorem inf_bits : Ideal.ofBits FTy.f32 0x7F800000#32 = ⊤ := by
  simp [Ideal.ofBits, Ideal.ieee]

/-- The reference's result is the sum from the row on times the slope. -/
theorem ref_eq (fl ct : FVec Ideal S8192x8 .f32) :
    pad S8192x128 ![0, 0] ![0, 120] ![0, 0] (truncf .bf16 (Host.negf (mulf (Host.negf (Host.reduceWindowAdd ![8192, 1] ![1, 1] ![0, 0] ![8191, 0] ct (broadcastInDim S_ ![] bcast_S_S_ (constant S_ .f32 0x00000000#32)) reduceWindows_S8192x8_S8192x8_w8192s1p0_8191_w1s1p0_0 h_S_)) (Host.exp (subf (select (cmpf .oeq (Host.negf fl) (broadcastInDim S8192x8 ![] bcast_S_S8192x8 (constant S_ .f32 0x7F800000#32))) (broadcastInDim S8192x8 ![] bcast_S_S8192x8 (constant S_ .f32 0x00000000#32)) (Host.negf fl)) (select (cmpf .oeq (select (cmpf .une (subf (Host.negf fl) (broadcastInDim S8192x8 ![] bcast_S_S8192x8 (constant S_ .f32 0x00000000#32))) (subf (Host.negf fl) (broadcastInDim S8192x8 ![] bcast_S_S8192x8 (constant S_ .f32 0x00000000#32)))) (addf (Host.negf fl) (broadcastInDim S8192x8 ![] bcast_S_S8192x8 (constant S_ .f32 0x00000000#32))) (addf (maximumf (Host.negf fl) (broadcastInDim S8192x8 ![] bcast_S_S8192x8 (constant S_ .f32 0x00000000#32))) (Host.log1p (Host.exp (Host.negf (Host.absf (subf (Host.negf fl) (broadcastInDim S8192x8 ![] bcast_S_S8192x8 (constant S_ .f32 0x00000000#32))))))))) (broadcastInDim S8192x8 ![] bcast_S_S8192x8 (constant S_ .f32 0x7F800000#32))) (broadcastInDim S8192x8 ![] bcast_S_S8192x8 (constant S_ .f32 0x00000000#32)) (select (cmpf .une (subf (Host.negf fl) (broadcastInDim S8192x8 ![] bcast_S_S8192x8 (constant S_ .f32 0x00000000#32))) (subf (Host.negf fl) (broadcastInDim S8192x8 ![] bcast_S_S8192x8 (constant S_ .f32 0x00000000#32)))) (addf (Host.negf fl) (broadcastInDim S8192x8 ![] bcast_S_S8192x8 (constant S_ .f32 0x00000000#32))) (addf (maximumf (Host.negf fl) (broadcastInDim S8192x8 ![] bcast_S_S8192x8 (constant S_ .f32 0x00000000#32))) (Host.log1p (Host.exp (Host.negf (Host.absf (subf (Host.negf fl) (broadcastInDim S8192x8 ![] bcast_S_S8192x8 (constant S_ .f32 0x00000000#32)))))))))))))) bitsLt_bf16_f32) (sitofp .bf16 (constantI S_ 32 0#32)) pads_S8192x8_S8192x128_000_01200 h_S_
      = Cert.KernelIdeal.Fcb.G fl ct := by
  unfold Cert.KernelIdeal.Fcb.G
  funext j
  idx_vars j
  pointwise
  refine dite_congr rfl (fun h => ?_) fun _ => ?_
  · have hw : Host.reduceWindowAdd ![8192, 1] ![1, 1] ![0, 0] ![8191, 0] ct (broadcastInDim S_ ![] bcast_S_S_ (constant S_ FTy.f32 0#32))
        reduceWindows_S8192x8_S8192x8_w8192s1p0_8191_w1s1p0_0 h_S_ (ix2 j0 ⟨j1.val, h⟩) = ∑ x : Fin 8192, if j0 ≤ x then ct (ix2 x ⟨j1.val, h⟩) else 0 :=
      (congrFun (Ideal.hostReduceWindowAdd_def ..) _).trans (Cumsum.rev_rows (N := 8192) (Nm1 := 8191) (C := 8) ct _ (Ideal.ofBits_def _ |>.trans (by simp [Ideal.ofBits, Ideal.ieee])) _ j0 ⟨j1.val, h⟩)
    rw [hw, ← slope]
    simp only [inf_bits, ne_eq, not_true_eq_false, if_false]
    rfl
  · show (((0#32 : BitVec 32).toInt : ℝ) : EReal) = 0
    norm_num

end Cert.ReferenceIdeal.Fcb

end
-- ==== Proof.OwnRules.lean ====
/- Loads and stores of a whole memref held at a value: the load continues at the rectangle's part of the value, the store
   leaves the value with the rectangle's part replaced. -/
module

public import Idealize.ShloMosaic.Lib.Exec
public import Idealize.ShloMosaic.Lib.Tactic
public import Idealize.ShloMosaic.Lib.Memref
public import Idealize.ShloMosaic.Lib.Pipeline.FrameBody
public import Idealize.ShloMosaic.Lib.Pipeline.Value

@[expose] public section

noncomputable section

namespace Cert.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name] {U : Type} [URA U] {Lvl : Type} {Λ : Labels}
variable [Preorder Lvl] {defs : Defs nD τ sig Val Λ} (𝒱 : Variants) (c : Thread nD τ) (bd : Option 𝒱.V) (E : Set Name)
variable {s : Shape} {e : EltTy} {α : Type} {Q : α → sProp (MT nD τ sig Ix Val Name U Lvl)}

/-- A load through a rectangle of a memref held at `X` continues at `X` there. -/
theorem load {cs : CoreSpace} (m : Memref sig c.2.kind cs s e) (r : Rect s) (hl : m.view.LoadsAt r) (q : PosShare TreeShare)
    (X : s.Idx → Val e) (k : (r.shape.Idx → Val e) → Prog (TpuEff nD τ sig Val Λ c.2) α) :
    owns c m q X ⊢ iprop((owns c m q X -∗ wp frame (wpE defs 𝒱 c bd) E (k (View.ld X r)) Q)
        -∗ wp frame (wpE defs 𝒱 c bd) E (.op (.load m r hl) k) Q) := by
  unfold owns
  iintro ⟨%f, %hf, H⟩ HK
  subst hf
  iapply (wp_load 𝒱 c bd E (Q := Q) (m := m) (r := r) (hl := hl) (k := k) (q := q) (f := f) (S := m.view.set) (View.setOn_subset_set _ _)) $$ H
  iintro H
  iapply HK
  iexists f
  isplitr
  · ipureintro; rfl
  · iexact H

/-- A store of `w` through a rectangle of a memref held at `X` leaves `X` with `w` there. -/
theorem store {cs : CoreSpace} (m : Memref sig c.2.kind cs s e) (r : Rect s) (w : r.shape.Idx → Val e)
    (hx : (m.access r).Stores Finset.univ) (hm : Finset.univ = Finset.univ ∨ ∀ a, r.stride a = 1)
    (X : s.Idx → Val e) (k : PUnit → Prog (TpuEff nD τ sig Val Λ c.2) α) :
    owns c m fullShare X ⊢ iprop((owns c m fullShare (r.overlay X w) -∗ wp frame (wpE defs 𝒱 c bd) E (k ⟨⟩) Q)
        -∗ wp frame (wpE defs 𝒱 c bd) E (.op (.store m r w Finset.univ hx hm) k) Q) := by
  unfold owns
  iintro ⟨%f, %hf, H⟩ HK
  subst hf
  iapply (wp_store 𝒱 c bd E (Q := Q) (m := m) (r := r) (w := w) (hx := hx) (hm := hm) (k := k) (Mk := Finset.univ) (f := f) (S := m.view.set)
    (m.view.set_slice_subset r)) $$ H
  iintro H
  iapply HK
  iexists _
  isplitr
  swap
  · iexact H
  · ipureintro
    funext j
    by_cases h : j ∈ r.set
    · obtain ⟨i, rfl⟩ : ∃ i, r.emb i = j := by
        rw [← Rect.map_emb_univ] at h; obtain ⟨i, -, hi⟩ := Finset.mem_map.mp h; exact ⟨i, hi⟩
      rw [Rect.overlay_emb]
      exact congrFun (View.read_write_univ (v := m.access r) f w) i
    · rw [Rect.overlay_of_not_mem _ _ _ h]
      rw [View.read_apply, View.read_apply]
      refine congrArg _ (View.write_of_not_mem (v := m.access r) f w Finset.univ ?_)
      rw [View.setOn_univ, View.set_slice]
      intro h'
      obtain ⟨i, hi, e⟩ := Finset.mem_map.mp h'
      exact h (m.view.emb.injective e ▸ hi)

/-- A program whose first part ends as `R` says continues from there. -/
theorem seq {β : Type} (A : Prog (TpuEff nD τ sig Val Λ c.2) β) (k : β → Prog (TpuEff nD τ sig Val Λ c.2) α)
    {P : sProp (MT nD τ sig Ix Val Name U Lvl)} {R : β → sProp (MT nD τ sig Ix Val Name U Lvl)}
    (h : P ⊢ wp frame (wpE defs 𝒱 c bd) E A R) :
    P ⊢ iprop((∀ a, R a -∗ wp frame (wpE defs 𝒱 c bd) E (k a) Q) -∗ wp frame (wpE defs 𝒱 c bd) E (A >>= k) Q) := by
  rw [wp_bind]
  iintro HP HK
  iapply (wp_wand_r frame (wpE defs 𝒱 c bd) E)
  isplitl [HP]
  · iapply h; iexact HP
  · iexact HK

/-- A program that ends as `R` says ends as anything that follows from it. -/
theorem last (A A' : Prog (TpuEff nD τ sig Val Λ c.2) α) (e : A' = A)
    {P : sProp (MT nD τ sig Ix Val Name U Lvl)} {R : α → sProp (MT nD τ sig Ix Val Name U Lvl)}
    (h : P ⊢ wp frame (wpE defs 𝒱 c bd) E A R) :
    P ⊢ iprop((∀ a, R a -∗ Q a) -∗ wp frame (wpE defs 𝒱 c bd) E A' Q) := by
  subst e
  iintro HP HK
  iapply (wp_wand_r frame (wpE defs 𝒱 c bd) E)
  isplitl [HP]
  · iapply h; iexact HP
  · iexact HK

end Cert.Own
end
-- ==== Proof.FlashRun.lean ====
/- The attention gradients' body, written once over any program's references and run once over any values: what one grid point
   leaves in its three results as a function of the blocks it is handed. The two calls differ in the scale of the scores and in the
   last scaling of the lanes, which is a parameter here. -/
module

public import proofs.«01_k».proof.Proof.OwnRules
public import proofs.«01_k».proof.Proof.Gen.Kernel2Ideal.Frame
public import proofs.«01_k».proof.Proof.Gen.Kernel2Ideal.Points
public import proofs.«01_k».proof.Proof.Gen.Kernel2Ideal.Skeleton

@[expose] public section

set_option maxRecDepth 16384

noncomputable section

namespace Cert.Flash

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [nm : Named F] {nD : Nat} {τ : Topo} {sig : RefSig} {Λ : Labels} (D : Defs nD τ sig (Elt F) Λ)

local notation "𝕄" => MT nD τ sig Unit (Elt F) ℕ (UR sig nD τ) ℕ

/-- `n` rows of an 8192-row array from row `off 0` on. -/
abbrev rect (n : Fin 2 → ℕ) (off : Fin 2 → ℕ) (inb : ∀ a, off a + n a ≤ S8192x128.size a) : Rect S8192x128 := Rect.unit off n inb

/-- What is carried from trip to trip: the running sums for dk and dv, and dq. -/
abbrev St (F : FTy → Type) [FloatOps F] := (FVec F S1024x128 .f32 × FVec F S1024x128 .f32) × Vec F S8192x128 .f32

/-- One trip: the first of its two blocks of rows, then the second. -/
def trip1 (i : grid0.Coords) (q g : Vec F S8192x128 .bf16) (v1 v3 : FVec F S1024x128 .bf16) (k : Fin (k0_t1_loop i).trips) (s : St F) : St F :=
  let rA := rect S1024x128.size (k0_off4 i k) (k0_off4_inb i k)
  let rB := rect S1024x128.size (k0_off5 i k) (k0_off5_inb i k)
  let f := rA.overlay s.2 (k0_pay6 v1 v3 (View.ld q rA) (View.ld g rA) (View.ld s.2 rA))
  ((k0_pay58 v3 (k0_pay7 v1 v3 s.1.1 (View.ld q rA) (View.ld g rA)) (k0_pay9 (View.ld q rB)) (k0_pay10 (View.ld g rB)) (k0_pay11 v1 (View.ld q rB)) k0_pay12,
    k0_pay59 (k0_pay8 v1 s.1.2 (View.ld q rA) (View.ld g rA)) (k0_pay10 (View.ld g rB)) (k0_pay11 v1 (View.ld q rB)) k0_pay12),
   rB.overlay f (k0_pay57 v1 v3 (k0_pay10 (View.ld g rB)) (k0_pay11 v1 (View.ld q rB)) k0_pay12 (View.ld f rB)))

section
variable (c : Dev nD) (i : grid0.Coords) (arg2 : Memref sig .tc .vmem S8192x128 .bf16) (arg3 arg4 : Memref sig .tc .vmem S1024x128 .bf16) (arg5 : Memref sig .tc .vmem S8192x128 .bf16) (arg6 : Memref sig .tc .vmem S1024x128 .f32) (arg7 : Memref sig .tc .vmem S1024x128 .bf16) (harg7 : arg7.IsWhole) (arg8 : Memref sig .tc .vmem S8192x128 .f32)
  (fk : FVec F S1024x128 .f32 → FVec F S1024x128 .f32) (fq : FVec F S8192x128 .f32 → FVec F S8192x128 .f32)
  (b2 : FVec F S1024x128 .bf16 → FVec F S1024x128 .bf16 → BitVec 32 → BitVec 32 → Fin (k0_t2_loop i).trips → FVec F S1024x128 .f32 × FVec F S1024x128 .f32 → Prog (TpuEff nD τ sig (Elt F) Λ .tc) (FVec F S1024x128 .f32 × FVec F S1024x128 .f32))

/-- Whether the point is the first, the last of its head. -/
abbrev first : Prop := Scalar.cmpi .ne (Scalar.extui (Scalar.cmpi .eq (BitVec.ofNat 32 (i 1).val) 0#32) : BitVec 32) 0#32 = 1#1
abbrev last : Prop := Scalar.cmpi .ne (Scalar.extui (Scalar.cmpi .eq (BitVec.ofNat 32 (i 1).val) 7#32) : BitVec 32) 0#32 = 1#1

/-- A trip of the loop over the row blocks after the diagonal: two blocks of rows. -/
def tripProg (v1 v3 : FVec F S1024x128 .bf16) (k : Fin (k0_t1_loop i).trips) (a : FVec F S1024x128 .f32 × FVec F S1024x128 .f32) :
    Prog (TpuEff nD τ sig (Elt F) Λ .tc) (FVec F S1024x128 .f32 × FVec F S1024x128 .f32) := do
  let q0 : Vec F S1024x128 .bf16 ← Prog.lift (.load arg2 (Rect.unit (s := S8192x128) (k0_off4 i k) S1024x128.size (k0_off4_inb i k)).toLoadRect (View.loadsAt_vmem h_S1024x128))
  let g0 : Vec F S1024x128 .bf16 ← Prog.lift (.load arg5 (Rect.unit (s := S8192x128) (k0_off4 i k) S1024x128.size (k0_off4_inb i k)).toLoadRect (View.loadsAt_vmem h_S1024x128))
  let f0 : Vec F S1024x128 .f32 ← Prog.lift (.load arg8 (Rect.unit (s := S8192x128) (k0_off4 i k) S1024x128.size (k0_off4_inb i k)).toLoadRect (View.loadsAt_vmem h_S1024x128))
  let _f : Vec F S1024x128 .f32 ← Prog.lift (.load arg8 (Rect.unit (s := S8192x128) (k0_off4 i k) S1024x128.size (k0_off4_inb i k)).toLoadRect (View.loadsAt_vmem h_S1024x128))
  Prog.lift (.store arg8 (Rect.unit (s := S8192x128) (k0_off4 i k) S1024x128.size (k0_off4_inb i k)) (k0_pay6 v1 v3 q0 g0 f0) Finset.univ (View.stores_vmem_bits_univ h_S1024x128 rfl) (.inl rfl))
  let q1 : Vec F S1024x128 .bf16 ← Prog.lift (.load arg2 (Rect.unit (s := S8192x128) (k0_off5 i k) S1024x128.size (k0_off5_inb i k)).toLoadRect (View.loadsAt_vmem h_S1024x128))
  let g1 : Vec F S1024x128 .bf16 ← Prog.lift (.load arg5 (Rect.unit (s := S8192x128) (k0_off5 i k) S1024x128.size (k0_off5_inb i k)).toLoadRect (View.loadsAt_vmem h_S1024x128))
  let f1 : Vec F S1024x128 .f32 ← Prog.lift (.load arg8 (Rect.unit (s := S8192x128) (k0_off5 i k) S1024x128.size (k0_off5_inb i k)).toLoadRect (View.loadsAt_vmem h_S1024x128))
  let _f : Vec F S1024x128 .f32 ← Prog.lift (.load arg8 (Rect.unit (s := S8192x128) (k0_off5 i k) S1024x128.size (k0_off5_inb i k)).toLoadRect (View.loadsAt_vmem h_S1024x128))
  Prog.lift (.store arg8 (Rect.unit (s := S8192x128) (k0_off5 i k) S1024x128.size (k0_off5_inb i k)) (k0_pay57 v1 v3 (k0_pay10 g1) (k0_pay11 v1 q1) k0_pay12 f1) Finset.univ (View.stores_vmem_bits_univ h_S1024x128 rfl) (.inl rfl))
  pure (k0_pay58 v3 (k0_pay7 v1 v3 a.1 q0 g0) (k0_pay9 q1) (k0_pay10 g1) (k0_pay11 v1 q1) k0_pay12, k0_pay59 (k0_pay8 v1 a.2 q0 g0) (k0_pay10 g1) (k0_pay11 v1 q1) k0_pay12)

/-- The loads of the diagonal block and the lower half of its rows, -/
def lowerProg : Prog (TpuEff nD τ sig (Elt F) Λ .tc) (Σ' (arg1 : BitVec 32) (v1 : FVec F S1024x128 .bf16) (v3 : FVec F S1024x128 .bf16) (v7 : FVec F S1024x128 .f32) (v8 : FVec F S1024x128 .f32) (v11 : BitVec 32) (v30 : FVec F S1024x128 .f32) (v33 : FVec F S1024x512 .bf16) (v34 : FVec F S1024x128 .f32), Vec F S512x128 .f32) := do
  let x : Vec F S1024x128 .bf16 ← Prog.lift (.load arg3 (Rect.unit (s := S1024x128) ![0, 0] S1024x128.size inb_S1024x128_S1024x128_0_0).toLoadRect (View.loadsAt_vmem h_S1024x128))
  let y : Vec F S1024x128 .bf16 ← Prog.lift (.load arg4 (Rect.unit (s := S1024x128) ![0, 0] S1024x128.size inb_S1024x128_S1024x128_0_0).toLoadRect (View.loadsAt_vmem h_S1024x128))
  if first i then do
    let _f : Vec F S8192x128 .f32 ← Prog.lift (.load arg8 (Rect.unit (s := S8192x128) ![0, 0] S8192x128.size inb_S8192x128_S8192x128_0_0).toLoadRect (View.loadsAt_vmem h_S8192x128))
    Prog.lift (.store arg8 (Rect.unit (s := S8192x128) ![0, 0] S8192x128.size inb_S8192x128_S8192x128_0_0) (k0_pay26 (F := F)) Finset.univ (View.stores_vmem_bits_univ h_S8192x128 rfl) (.inl rfl))
    pure ⟨⟩
  else do
    pure ⟨⟩
  let q : Vec F S512x128 .bf16 ← Prog.lift (.load arg2 (Rect.unit (s := S8192x128) (k0_off1 i) S512x128.size (k0_off1_inb i)).toLoadRect (View.loadsAt_vmem h_S512x128))
  let g : Vec F S512x128 .bf16 ← Prog.lift (.load arg5 (Rect.unit (s := S8192x128) (k0_off1 i) S512x128.size (k0_off1_inb i)).toLoadRect (View.loadsAt_vmem h_S512x128))
  let f : Vec F S512x128 .f32 ← Prog.lift (.load arg8 (Rect.unit (s := S8192x128) (k0_off1 i) S512x128.size (k0_off1_inb i)).toLoadRect (View.loadsAt_vmem h_S512x128))
  pure ⟨BitVec.ofNat 32 (i 1).val, k0_pay24 x, k0_pay25 y, k0_pay27, k0_pay28, Scalar.addi (Scalar.muli (BitVec.ofNat 32 (i 1).val) 1024#32) 512#32, k0_pay32 x q g, k0_pay33 x y q g, k0_pay34 x y q g, f⟩

/-- and the upper half. -/
def upperProg (v1 v3 : FVec F S1024x128 .bf16) (v7 v8 v30 : FVec F S1024x128 .f32) (v33 : FVec F S1024x512 .bf16) (v34 : FVec F S1024x128 .f32) (v36 : Vec F S512x128 .f32) :
    Prog (TpuEff nD τ sig (Elt F) Λ .tc) (Σ' (v42 : FVec F S1024x128 .f32) (v43 : FVec F S1024x128 .f32) (v66 : FVec F S512x128 .f32), FVec F S512x128 .f32) := do
  let _f : Vec F S512x128 .f32 ← Prog.lift (.load arg8 (Rect.unit (s := S8192x128) (k0_off1 i) S512x128.size (k0_off1_inb i)).toLoadRect (View.loadsAt_vmem h_S512x128))
  Prog.lift (.store arg8 (Rect.unit (s := S8192x128) (k0_off1 i) S512x128.size (k0_off1_inb i)) (k0_pay35 v1 v33 v36) Finset.univ (View.stores_vmem_bits_univ h_S512x128 rfl) (.inl rfl))
  let q : Vec F S512x128 .bf16 ← Prog.lift (.load arg2 (Rect.unit (s := S8192x128) (k0_off2 i) S512x128.size (k0_off2_inb i)).toLoadRect (View.loadsAt_vmem h_S512x128))
  let g : Vec F S512x128 .bf16 ← Prog.lift (.load arg5 (Rect.unit (s := S8192x128) (k0_off2 i) S512x128.size (k0_off2_inb i)).toLoadRect (View.loadsAt_vmem h_S512x128))
  let f : Vec F S512x128 .f32 ← Prog.lift (.load arg8 (Rect.unit (s := S8192x128) (k0_off2 i) S512x128.size (k0_off2_inb i)).toLoadRect (View.loadsAt_vmem h_S512x128))
  let _f : Vec F S512x128 .f32 ← Prog.lift (.load arg8 (Rect.unit (s := S8192x128) (k0_off2 i) S512x128.size (k0_off2_inb i)).toLoadRect (View.loadsAt_vmem h_S512x128))
  Prog.lift (.store arg8 (Rect.unit (s := S8192x128) (k0_off2 i) S512x128.size (k0_off2_inb i)) (k0_pay44 v1 v3 q g f) Finset.univ (View.stores_vmem_bits_univ h_S512x128 rfl) (.inl rfl))
  pure ⟨k0_pay36 v7 v34, k0_pay37 v8 v30, k0_pay42 v1 q g, k0_pay45 v1 v3 v7 v34 q g⟩

abbrev held (q g : Vec F S8192x128 .bf16) (f : Vec F S8192x128 .f32) : sProp 𝕄 :=
  iprop(owns (c : Thread nD τ) arg2 fullShare q ∗ owns (c : Thread nD τ) arg5 fullShare g ∗ owns (c : Thread nD τ) arg8 fullShare f)

theorem trip1_run (q g : Vec F S8192x128 .bf16) (v1 v3 : FVec F S1024x128 .bf16) (k : Fin (k0_t1_loop i).trips) (s : St F) :
    held c arg2 arg5 arg8 q g s.2 ⊢ wp frame (wpE D Variants.none (c : Thread nD τ) none) Set.univ
      (tripProg i arg2 arg5 arg8 v1 v3 k s.1)
      (fun a => iprop(⌜a = (trip1 i q g v1 v3 k s).1⌝ ∗ held c arg2 arg5 arg8 q g (trip1 i q g v1 v3 k s).2)) := by
  obtain ⟨⟨dk, dv⟩, f⟩ := s
  unfold tripProg
  simp only [Prog.lift, Prog.bind_op, Prog.bind_ret, Prog.pure_eq_ret, Prog.bind_assoc]
  iintro ⟨H2, H5, H8⟩
  iapply (Cert.Own.load Variants.none (c : Thread nD τ) none Set.univ arg2) $$ H2; iintro H2
  iapply (Cert.Own.load Variants.none (c : Thread nD τ) none Set.univ arg5) $$ H5; iintro H5
  iapply (Cert.Own.load Variants.none (c : Thread nD τ) none Set.univ arg8) $$ H8; iintro H8
  iapply (Cert.Own.load Variants.none (c : Thread nD τ) none Set.univ arg8) $$ H8; iintro H8
  iapply (Cert.Own.store Variants.none (c : Thread nD τ) none Set.univ arg8) $$ H8; iintro H8
  iapply (Cert.Own.load Variants.none (c : Thread nD τ) none Set.univ arg2) $$ H2; iintro H2
  iapply (Cert.Own.load Variants.none (c : Thread nD τ) none Set.univ arg5) $$ H5; iintro H5
  iapply (Cert.Own.load Variants.none (c : Thread nD τ) none Set.univ arg8) $$ H8; iintro H8
  iapply (Cert.Own.load Variants.none (c : Thread nD τ) none Set.univ arg8) $$ H8; iintro H8
  iapply (Cert.Own.store Variants.none (c : Thread nD τ) none Set.univ arg8) $$ H8; iintro H8
  iapply (le_wp_ret _ _ _ _ _)
  isplitr
  · ipureintro; rfl
  isplitl [H2]; · iexact H2
  isplitl [H5]; · iexact H5
  iexact H8

theorem trips2 : ∀ i : grid0.Coords, (k0_t2_loop i).trips = 0 := by decide +kernel

/-- The carried values before trip `n`. -/
def iter1 (q g : Vec F S8192x128 .bf16) (v1 v3 : FVec F S1024x128 .bf16) (s : St F) : ℕ → St F
  | 0 => s
  | n + 1 => if h : n < (k0_t1_loop i).trips then trip1 i q g v1 v3 ⟨n, h⟩ (iter1 q g v1 v3 s n) else iter1 q g v1 v3 s n

theorem iter1_succ (q g : Vec F S8192x128 .bf16) (v1 v3 : FVec F S1024x128 .bf16) (s : St F) (k : Fin (k0_t1_loop i).trips) :
    iter1 i q g v1 v3 s (k.val + 1) = trip1 i q g v1 v3 k (iter1 i q g v1 v3 s k.val) := by
  rw [iter1, dif_pos k.isLt]

abbrev whole : Rect S8192x128 := Rect.unit (s := S8192x128) ![0, 0] S8192x128.size inb_S8192x128_S8192x128_0_0
abbrev tile : Rect S1024x128 := Rect.unit (s := S1024x128) ![0, 0] S1024x128.size inb_S1024x128_S1024x128_0_0

/-- dq as the point finds it: zero at the head's first. -/
def dq0 (f : Vec F S8192x128 .f32) : Vec F S8192x128 .f32 := if first i then whole.overlay f k0_pay26 else f
/-- dq after the diagonal block's lower half of rows, -/
def dq1 (q g : Vec F S8192x128 .bf16) (x y : Vec F S1024x128 .bf16) (f : Vec F S8192x128 .f32) : Vec F S8192x128 .f32 :=
  let r := rect S512x128.size (k0_off1 i) (k0_off1_inb i)
  r.overlay f (k0_pay35 (k0_pay24 x) (k0_pay33 x y (View.ld q r) (View.ld g r)) (View.ld f r))
/-- and after its upper half. -/
def dq2 (q g : Vec F S8192x128 .bf16) (x y : Vec F S1024x128 .bf16) (f : Vec F S8192x128 .f32) : Vec F S8192x128 .f32 :=
  let r := rect S512x128.size (k0_off2 i) (k0_off2_inb i)
  r.overlay f (k0_pay44 (k0_pay24 x) (k0_pay25 y) (View.ld q r) (View.ld g r) (View.ld f r))

/-- A block stored whole is the block. -/
theorem overlay_tile {e : EltTy} (X w : Vec F S1024x128 e) : tile.overlay X w = w := by
  funext j
  have h : tile.emb j = j := by funext a; apply Fin.ext; show (![0, 0] : Fin 2 → ℕ) a + 1 * (j a).val = (j a).val; fin_cases a <;> simp
  exact (congrArg _ h.symm).trans (Rect.overlay_emb tile X w j)

/-- The four input blocks and dq. -/
abbrev ins (q g : Vec F S8192x128 .bf16) (x y : Vec F S1024x128 .bf16) (f : Vec F S8192x128 .f32) : sProp 𝕄 :=
  iprop(owns (c : Thread nD τ) arg2 fullShare q ∗ owns (c : Thread nD τ) arg3 fullShare x ∗ owns (c : Thread nD τ) arg4 fullShare y
    ∗ owns (c : Thread nD τ) arg5 fullShare g ∗ owns (c : Thread nD τ) arg8 fullShare f)

/-- What the first part hands on. -/
def mid3 (q g : Vec F S8192x128 .bf16) (x y : Vec F S1024x128 .bf16) (f : Vec F S8192x128 .f32) : (Σ' (arg1 : BitVec 32) (v1 : FVec F S1024x128 .bf16) (v3 : FVec F S1024x128 .bf16) (v7 : FVec F S1024x128 .f32) (v8 : FVec F S1024x128 .f32) (v11 : BitVec 32) (v30 : FVec F S1024x128 .f32) (v33 : FVec F S1024x512 .bf16) (v34 : FVec F S1024x128 .f32), Vec F S512x128 .f32) :=
  let r := rect S512x128.size (k0_off1 i) (k0_off1_inb i)
  let arg1 : BitVec 32 := BitVec.ofNat 32 (i 1).val
  ⟨arg1, k0_pay24 x, k0_pay25 y, k0_pay27, k0_pay28, Scalar.addi (Scalar.muli arg1 1024#32) 512#32, k0_pay32 x (View.ld q r) (View.ld g r),
    k0_pay33 x y (View.ld q r) (View.ld g r), k0_pay34 x y (View.ld q r) (View.ld g r), View.ld (dq0 i f) r⟩

theorem part3_run (q g : Vec F S8192x128 .bf16) (x y : Vec F S1024x128 .bf16) (f : Vec F S8192x128 .f32) :
    ins c arg2 arg3 arg4 arg5 arg8 q g x y f ⊢ wp frame (wpE D Variants.none (c : Thread nD τ) none) Set.univ (lowerProg i arg2 arg3 arg4 arg5 arg8)
      (fun r => iprop(⌜r = mid3 i q g (View.ld x tile) (View.ld y tile) f⌝ ∗ ins c arg2 arg3 arg4 arg5 arg8 q g x y (dq0 i f))) := by
  unfold lowerProg
  simp only [Prog.lift, Prog.bind_op, Prog.bind_ret, Prog.pure_eq_ret, Prog.bind_assoc]
  iintro ⟨H2, H3, H4, H5, H8⟩
  iapply (Cert.Own.load Variants.none (c : Thread nD τ) none Set.univ arg3) $$ H3; iintro H3
  iapply (Cert.Own.load Variants.none (c : Thread nD τ) none Set.univ arg4) $$ H4; iintro H4
  by_cases h : first i
  · have e : dq0 i f = whole.overlay f k0_pay26 := if_pos h
    rw [if_pos h, e]
    simp only [Prog.bind_op, Prog.bind_ret]
    iapply (Cert.Own.load Variants.none (c : Thread nD τ) none Set.univ arg8) $$ H8; iintro H8
    iapply (Cert.Own.store Variants.none (c : Thread nD τ) none Set.univ arg8) $$ H8; iintro H8
    iapply (Cert.Own.load Variants.none (c : Thread nD τ) none Set.univ arg2) $$ H2; iintro H2
    iapply (Cert.Own.load Variants.none (c : Thread nD τ) none Set.univ arg5) $$ H5; iintro H5
    iapply (Cert.Own.load Variants.none (c : Thread nD τ) none Set.univ arg8) $$ H8; iintro H8
    iapply (le_wp_ret _ _ _ _ _)
    isplitr
    · ipureintro; unfold mid3; rw [e]
    isplitl [H2]; · iexact H2
    isplitl [H3]; · iexact H3
    isplitl [H4]; · iexact H4
    isplitl [H5]; · iexact H5
    iexact H8
  · have e : dq0 i f = f := if_neg h
    rw [if_neg h, e]
    simp only [Prog.bind_ret]
    iapply (Cert.Own.load Variants.none (c : Thread nD τ) none Set.univ arg2) $$ H2; iintro H2
    iapply (Cert.Own.load Variants.none (c : Thread nD τ) none Set.univ arg5) $$ H5; iintro H5
    iapply (Cert.Own.load Variants.none (c : Thread nD τ) none Set.univ arg8) $$ H8; iintro H8
    iapply (le_wp_ret _ _ _ _ _)
    isplitr
    · ipureintro; unfold mid3; rw [e]
    isplitl [H2]; · iexact H2
    isplitl [H3]; · iexact H3
    isplitl [H4]; · iexact H4
    isplitl [H5]; · iexact H5
    iexact H8

theorem part4_run (q g : Vec F S8192x128 .bf16) (v7 v8 v30 v34 : FVec F S1024x128 .f32) (x y : Vec F S1024x128 .bf16) (f : Vec F S8192x128 .f32) :
    let rL := rect S512x128.size (k0_off1 i) (k0_off1_inb i)
    let rU := rect S512x128.size (k0_off2 i) (k0_off2_inb i)
    held c arg2 arg5 arg8 q g f ⊢ wp frame (wpE D Variants.none (c : Thread nD τ) none) Set.univ (upperProg i arg2 arg5 arg8 (k0_pay24 x) (k0_pay25 y) v7 v8 v30 (k0_pay33 x y (View.ld q rL) (View.ld g rL)) v34 (View.ld f rL))
      (fun r => iprop(⌜r = ⟨k0_pay36 v7 v34, k0_pay37 v8 v30, k0_pay42 (k0_pay24 x) (View.ld q rU) (View.ld g rU), k0_pay45 (k0_pay24 x) (k0_pay25 y) v7 v34 (View.ld q rU) (View.ld g rU)⟩⌝
        ∗ held c arg2 arg5 arg8 q g (dq2 i q g x y (dq1 i q g x y f)))) := by
  intro rL rU
  unfold upperProg
  simp only [Prog.lift, Prog.bind_op, Prog.bind_ret, Prog.pure_eq_ret, Prog.bind_assoc]
  iintro ⟨H2, H5, H8⟩
  iapply (Cert.Own.load Variants.none (c : Thread nD τ) none Set.univ arg8) $$ H8; iintro H8
  iapply (Cert.Own.store Variants.none (c : Thread nD τ) none Set.univ arg8) $$ H8; iintro H8
  iapply (Cert.Own.load Variants.none (c : Thread nD τ) none Set.univ arg2) $$ H2; iintro H2
  iapply (Cert.Own.load Variants.none (c : Thread nD τ) none Set.univ arg5) $$ H5; iintro H5
  iapply (Cert.Own.load Variants.none (c : Thread nD τ) none Set.univ arg8) $$ H8; iintro H8
  iapply (Cert.Own.load Variants.none (c : Thread nD τ) none Set.univ arg8) $$ H8; iintro H8
  iapply (Cert.Own.store Variants.none (c : Thread nD τ) none Set.univ arg8) $$ H8; iintro H8
  iapply (le_wp_ret _ _ _ _ _)
  isplitr
  · ipureintro; rfl
  isplitl [H2]; · iexact H2
  isplitl [H5]; · iexact H5
  iexact H8

/-- The first row block after the diagonal, where the number of them is odd: the carried values, -/
def oddSt (q g : Vec F S8192x128 .bf16) (v1 v3 : FVec F S1024x128 .bf16) (v42 v43 : FVec F S1024x128 .f32) (v66 v79 : FVec F S512x128 .f32) (f : Vec F S8192x128 .f32) : St F :=
  if h : k0_cond2 i = 1#1 then
    let r := rect S1024x128.size (k0_off3 i) (k0_off3_inb i h)
    ((k0_pay53 v1 v3 v42 v79 (View.ld q r) (View.ld g r), k0_pay54 v1 v43 v66 (View.ld q r) (View.ld g r)),
      r.overlay f (k0_pay52 v1 v3 (View.ld q r) (View.ld g r) (View.ld f r)))
  else ((k0_pay46 v42 v79, k0_pay47 v43 v66), f)

/-- The diagonal block and, where the number of row blocks after it is odd, the first of them: the carried values at the loop. -/
def enter (q g : Vec F S8192x128 .bf16) (x y : Vec F S1024x128 .bf16) (f : Vec F S8192x128 .f32) : St F :=
  let rL := rect S512x128.size (k0_off1 i) (k0_off1_inb i)
  let rU := rect S512x128.size (k0_off2 i) (k0_off2_inb i)
  let v1 := k0_pay24 x
  let v3 := k0_pay25 y
  let v34 := k0_pay34 x y (View.ld q rL) (View.ld g rL)
  let v42 := k0_pay36 k0_pay27 v34
  let v43 := k0_pay37 k0_pay28 (k0_pay32 x (View.ld q rL) (View.ld g rL))
  let v66 := k0_pay42 v1 (View.ld q rU) (View.ld g rU)
  let v79 := k0_pay45 v1 v3 k0_pay27 v34 (View.ld q rU) (View.ld g rU)
  oddSt i q g v1 v3 v42 v43 v66 v79 (dq2 i q g x y (dq1 i q g x y (dq0 i f)))

/-- The carried values after the loop. -/
def leave (q g : Vec F S8192x128 .bf16) (x y : Vec F S1024x128 .bf16) (f : Vec F S8192x128 .f32) : St F :=
  iter1 i q g (k0_pay24 x) (k0_pay25 y) (enter i q g x y f) (k0_t1_loop i).trips

/-- What the point leaves in dq: scaled at the head's last. -/
def dqEnd (s : Vec F S8192x128 .f32) : Vec F S8192x128 .f32 := if last i then whole.overlay s (fq (View.ld s whole)) else s

theorem loop1_run (q g : Vec F S8192x128 .bf16) (v1 v3 : FVec F S1024x128 .bf16) (s : St F) :
    held c arg2 arg5 arg8 q g s.2 ⊢ wp frame (wpE D Variants.none (c : Thread nD τ) none) Set.univ (Scf.Loop.for (k0_t1_loop i) (k0_t1_ok i) s.1 (tripProg i arg2 arg5 arg8 v1 v3))
      (fun a => iprop(⌜a = (iter1 i q g v1 v3 s (k0_t1_loop i).trips).1⌝ ∗ held c arg2 arg5 arg8 q g (iter1 i q g v1 v3 s (k0_t1_loop i).trips).2)) := by
  iintro H
  iapply (Scf.wp_for frame (wpE D Variants.none (c : Thread nD τ) none) Set.univ _ _ _ (k0_t1_ok i) s.1 (tripProg i arg2 arg5 arg8 v1 v3)
    (fun n a => iprop(⌜a = (iter1 i q g v1 v3 s n).1⌝ ∗ held c arg2 arg5 arg8 q g (iter1 i q g v1 v3 s n).2)) ?_)
  · intro k a
    iintro ⟨%ha, H⟩
    subst ha
    rw [iter1_succ]
    iapply (trip1_run D c i arg2 arg5 arg8 q g v1 v3 k (iter1 i q g v1 v3 s k.val))
    iexact H
  · isplitl [H]
    · isplitr
      · ipureintro; rfl
      · iexact H
    · iintro %a Ha; iexact Ha

theorem loop2_run (q g : Vec F S8192x128 .bf16) (v1 v3 : FVec F S1024x128 .bf16) (v94 v100 : BitVec 32) (s : St F) :
    held c arg2 arg5 arg8 q g s.2 ⊢ wp frame (wpE D Variants.none (c : Thread nD τ) none) Set.univ (Scf.Loop.for (k0_t2_loop i) (k0_t2_ok i) s.1 (b2 v1 v3 v94 v100))
      (fun a => iprop(⌜a = s.1⌝ ∗ held c arg2 arg5 arg8 q g s.2)) := by
  iintro H
  iapply (Scf.wp_for frame (wpE D Variants.none (c : Thread nD τ) none) Set.univ _ _ _ (k0_t2_ok i) s.1 (b2 v1 v3 v94 v100)
    (fun n a => iprop(⌜a = s.1⌝ ∗ held c arg2 arg5 arg8 q g s.2)) ?_)
  · intro k a
    exact (Nat.not_lt_zero _ (Nat.lt_of_lt_of_eq k.isLt (trips2 i))).elim
  · isplitl [H]
    · isplitr
      · ipureintro; rfl
      · iexact H
    · iintro %a Ha; iexact Ha

/-- Whether the point is the head's last, as the program computes it. -/
abbrev lastWord : BitVec 1 := Scalar.cmpi .ne (Scalar.extui (Scalar.cmpi .eq (BitVec.ofNat 32 (i 1).val) 7#32) : BitVec 32) 0#32

/-- The loops over the remaining row blocks and the stores of the two column gradients. -/
def restProg (v1 v3 : FVec F S1024x128 .bf16) (v94 v100 : BitVec 32) (w : BitVec 1) (a : FVec F S1024x128 .f32 × FVec F S1024x128 .f32) :
    Prog (TpuEff nD τ sig (Elt F) Λ .tc) (BitVec 1) := do
  let (v101_0, v101_1) ← Scf.Loop.for (k0_t1_loop i) (k0_t1_ok i) (a.1, a.2) (tripProg i arg2 arg5 arg8 v1 v3)
  let (v102_0, v102_1) ← Scf.Loop.for (k0_t2_loop i) (k0_t2_ok i) (v101_0, v101_1) (b2 v1 v3 v94 v100)
  let v110 : Vec F S1024x128 .f32 ← Prog.lift (.load arg6 (Rect.unit (s := S1024x128) ![0, 0] S1024x128.size inb_S1024x128_S1024x128_0_0).toLoadRect (View.loadsAt_vmem h_S1024x128))
  Prog.lift (.store arg6 (Rect.unit (s := S1024x128) ![0, 0] S1024x128.size inb_S1024x128_S1024x128_0_0) (fk v102_0) Finset.univ (View.stores_vmem_bits_univ h_S1024x128 rfl) (.inl rfl))
  let v112 : Vec F S1024x128 .bf16 ← Prog.lift (.load arg7 (Rect.unit (s := S1024x128) ![0, 0] S1024x128.size inb_S1024x128_S1024x128_0_0).toLoadRect (View.loadsAt_vmem h_S1024x128))
  Prog.lift (.store arg7 (Rect.unit (s := S1024x128) ![0, 0] S1024x128.size inb_S1024x128_S1024x128_0_0) (k0_pay66 v102_1) Finset.univ (View.stores_vmem h_S1024x128 (harg7.storeExact_slice rfl _ packedbf16_S1024x128_S1024x128_0_0) (fun _ => rfl)) (.inl rfl))
  pure w

theorem rest_run (q g : Vec F S8192x128 .bf16) (v1 v3 : FVec F S1024x128 .bf16) (v94 v100 : BitVec 32) (w : BitVec 1) (s : St F)
    (d6 : Vec F S1024x128 .f32) (d7 : Vec F S1024x128 .bf16) :
    let e := iter1 i q g v1 v3 s (k0_t1_loop i).trips
    (iprop(held c arg2 arg5 arg8 q g s.2 ∗ owns (c : Thread nD τ) arg6 fullShare (d6) ∗ owns (c : Thread nD τ) arg7 fullShare (d7)) : sProp 𝕄)
      ⊢ wp frame (wpE D Variants.none (c : Thread nD τ) none) Set.univ (restProg i arg2 arg5 arg6 arg7 harg7 arg8 fk b2 v1 v3 v94 v100 w s.1)
        (fun r => iprop(⌜r = w⌝ ∗ held c arg2 arg5 arg8 q g e.2 ∗ owns (c : Thread nD τ) arg6 fullShare (fk e.1.1) ∗ owns (c : Thread nD τ) arg7 fullShare (k0_pay66 e.1.2))) := by
  intro e
  unfold restProg
  iintro ⟨H, H6, H7⟩
  iapply (Cert.Own.seq Variants.none (c : Thread nD τ) none Set.univ _ _ (loop1_run D c i arg2 arg5 arg8 q g v1 v3 s)) $$ H
  iintro %a ⟨%ha, H⟩
  subst ha
  iapply (Cert.Own.seq Variants.none (c : Thread nD τ) none Set.univ _ _ (loop2_run D c i arg2 arg5 arg8 b2 q g v1 v3 v94 v100 e)) $$ H
  iintro %a ⟨%ha, H⟩
  subst ha
  dsimp only
  simp only [Prog.lift, Prog.bind_op, Prog.bind_ret, Prog.pure_eq_ret]
  iapply (Cert.Own.load Variants.none (c : Thread nD τ) none Set.univ arg6) $$ H6; iintro H6
  iapply (Cert.Own.store Variants.none (c : Thread nD τ) none Set.univ arg6) $$ H6; iintro H6
  iapply (Cert.Own.load Variants.none (c : Thread nD τ) none Set.univ arg7) $$ H7; iintro H7
  iapply (Cert.Own.store Variants.none (c : Thread nD τ) none Set.univ arg7) $$ H7; iintro H7
  rw [overlay_tile, overlay_tile]
  iapply (le_wp_ret _ _ _ _ _)
  isplitr
  · ipureintro; rfl
  isplitl [H]; · iexact H
  isplitl [H6]; · iexact H6
  iexact H7

/-- The body up to the last scaling, -/
def bodyProg : Prog (TpuEff nD τ sig (Elt F) Λ .tc) (BitVec 1) := do
  let ⟨arg1, v1, v3, v7, v8, _v11, v30, v33, v34, v36⟩ : Σ' (arg1 : BitVec 32) (v1 : FVec F S1024x128 .bf16) (v3 : FVec F S1024x128 .bf16) (v7 : FVec F S1024x128 .f32) (v8 : FVec F S1024x128 .f32) (v11 : BitVec 32) (v30 : FVec F S1024x128 .f32) (v33 : FVec F S1024x512 .bf16) (v34 : FVec F S1024x128 .f32), Vec F S512x128 .f32 ← lowerProg i arg2 arg3 arg4 arg5 arg8
  let ⟨v42, v43, v66, v79⟩ : Σ' (v42 : FVec F S1024x128 .f32) (v43 : FVec F S1024x128 .f32) (v66 : FVec F S512x128 .f32), FVec F S512x128 .f32 ← upperProg i arg2 arg5 arg8 v1 v3 v7 v8 v30 v33 v34 v36
  let a : FVec F S1024x128 .f32 × FVec F S1024x128 .f32 ← if h : k0_cond2 i = 1#1 then do
      let q : Vec F S1024x128 .bf16 ← Prog.lift (.load arg2 (Rect.unit (s := S8192x128) (k0_off3 i) S1024x128.size (k0_off3_inb i h)).toLoadRect (View.loadsAt_vmem h_S1024x128))
      let g : Vec F S1024x128 .bf16 ← Prog.lift (.load arg5 (Rect.unit (s := S8192x128) (k0_off3 i) S1024x128.size (k0_off3_inb i h)).toLoadRect (View.loadsAt_vmem h_S1024x128))
      let f : Vec F S1024x128 .f32 ← Prog.lift (.load arg8 (Rect.unit (s := S8192x128) (k0_off3 i) S1024x128.size (k0_off3_inb i h)).toLoadRect (View.loadsAt_vmem h_S1024x128))
      let _f : Vec F S1024x128 .f32 ← Prog.lift (.load arg8 (Rect.unit (s := S8192x128) (k0_off3 i) S1024x128.size (k0_off3_inb i h)).toLoadRect (View.loadsAt_vmem h_S1024x128))
      Prog.lift (.store arg8 (Rect.unit (s := S8192x128) (k0_off3 i) S1024x128.size (k0_off3_inb i h)) (k0_pay52 v1 v3 q g f) Finset.univ (View.stores_vmem_bits_univ h_S1024x128 rfl) (.inl rfl))
      pure (k0_pay53 v1 v3 v42 v79 q g, k0_pay54 v1 v43 v66 q g)
    else do
      pure (k0_pay46 v42 v79, k0_pay47 v43 v66)
  restProg i arg2 arg5 arg6 arg7 harg7 arg8 fk b2 v1 v3 (Scalar.addi (Scalar.addi arg1 1#32) (Scalar.andi (Scalar.subi 7#32 arg1) 1#32))
    (Scalar.addi 0#32 (Scalar.muli (Scalar.divsi (Scalar.subi (Scalar.shrsi (Scalar.subi 7#32 arg1) 1#32) 0#32) 1#32) 1#32))
    (Scalar.cmpi .ne (Scalar.extui (Scalar.cmpi .eq arg1 7#32) : BitVec 32) 0#32) a

/-- and the whole. -/
def body : Prog (TpuEff nD τ sig (Elt F) Λ .tc) PUnit := do
  let w : BitVec 1 ← bodyProg i arg2 arg3 arg4 arg5 arg6 arg7 harg7 arg8 fk b2
  if w = 1#1 then do
    let f : Vec F S8192x128 .f32 ← Prog.lift (.load arg8 (Rect.unit (s := S8192x128) ![0, 0] S8192x128.size inb_S8192x128_S8192x128_0_0).toLoadRect (View.loadsAt_vmem h_S8192x128))
    let _f : Vec F S8192x128 .f32 ← Prog.lift (.load arg8 (Rect.unit (s := S8192x128) ![0, 0] S8192x128.size inb_S8192x128_S8192x128_0_0).toLoadRect (View.loadsAt_vmem h_S8192x128))
    Prog.lift (.store arg8 (Rect.unit (s := S8192x128) ![0, 0] S8192x128.size inb_S8192x128_S8192x128_0_0) (fq f) Finset.univ (View.stores_vmem_bits_univ h_S8192x128 rfl) (.inl rfl))
    pure ⟨⟩
  else do
    pure ⟨⟩
  pure ⟨⟩

set_option maxHeartbeats 2000000 in
/-- The body up to the last scaling. -/
theorem part5_run (q g : Vec F S8192x128 .bf16) (x y : Vec F S1024x128 .bf16) (d6 : Vec F S1024x128 .f32) (d7 : Vec F S1024x128 .bf16) (f : Vec F S8192x128 .f32) :
    (iprop(owns (c : Thread nD τ) arg2 fullShare (q) ∗ owns (c : Thread nD τ) arg3 fullShare (x) ∗ owns (c : Thread nD τ) arg4 fullShare (y) ∗ owns (c : Thread nD τ) arg5 fullShare (g) ∗ owns (c : Thread nD τ) arg6 fullShare (d6) ∗ owns (c : Thread nD τ) arg7 fullShare (d7) ∗ owns (c : Thread nD τ) arg8 fullShare (f)) : sProp 𝕄)
      ⊢ wp frame (wpE D Variants.none (c : Thread nD τ) none) Set.univ (bodyProg i arg2 arg3 arg4 arg5 arg6 arg7 harg7 arg8 fk b2)
        (fun r => iprop(⌜r = lastWord i⌝ ∗ owns (c : Thread nD τ) arg2 fullShare (q) ∗ owns (c : Thread nD τ) arg3 fullShare (x) ∗ owns (c : Thread nD τ) arg4 fullShare (y) ∗ owns (c : Thread nD τ) arg5 fullShare (g) ∗ owns (c : Thread nD τ) arg6 fullShare (fk (leave i q g (View.ld x tile) (View.ld y tile) f).1.1) ∗ owns (c : Thread nD τ) arg7 fullShare (k0_pay66 (leave i q g (View.ld x tile) (View.ld y tile) f).1.2) ∗ owns (c : Thread nD τ) arg8 fullShare ((leave i q g (View.ld x tile) (View.ld y tile) f).2))) := by
  unfold bodyProg
  iintro ⟨H2, H3, H4, H5, H6, H7, H8⟩
  iapply (Cert.Own.seq Variants.none (c : Thread nD τ) none Set.univ _ _ (part3_run D c i arg2 arg3 arg4 arg5 arg8 q g x y f)) $$ [H2 H3 H4 H5 H8]
  · isplitl [H2]; · iexact H2
    isplitl [H3]; · iexact H3
    isplitl [H4]; · iexact H4
    isplitl [H5]; · iexact H5
    iexact H8
  iintro %a ⟨%ha, H2, H3, H4, H5, H8⟩
  subst ha
  dsimp only [mid3]
  iapply (Cert.Own.seq Variants.none (c : Thread nD τ) none Set.univ _ _ (part4_run D c i arg2 arg5 arg8 q g _ _ _ _ (View.ld x tile) (View.ld y tile) (dq0 i f))) $$ [H2 H5 H8]
  · isplitl [H2]; · iexact H2
    isplitl [H5]; · iexact H5
    iexact H8
  iintro %a ⟨%ha, H2, H5, H8⟩
  subst ha
  dsimp only
  let v86 : BitVec 32 := Scalar.subi 7#32 (BitVec.ofNat 32 (i 1).val)
  let v94 : BitVec 32 := Scalar.addi (Scalar.addi (BitVec.ofNat 32 (i 1).val) 1#32) (Scalar.andi v86 1#32)
  let v100 : BitVec 32 := Scalar.addi 0#32 (Scalar.muli (Scalar.divsi (Scalar.subi (Scalar.shrsi v86 1#32) 0#32) 1#32) 1#32)
  by_cases h : k0_cond2 i = 1#1
  · have he : enter i q g (View.ld x tile) (View.ld y tile) f = _ := dif_pos h
    rw [dif_pos h]
    simp only [Prog.lift, Prog.bind_op, Prog.bind_ret, Prog.pure_eq_ret]
    iapply (Cert.Own.load Variants.none (c : Thread nD τ) none Set.univ arg2) $$ H2; iintro H2
    iapply (Cert.Own.load Variants.none (c : Thread nD τ) none Set.univ arg5) $$ H5; iintro H5
    iapply (Cert.Own.load Variants.none (c : Thread nD τ) none Set.univ arg8) $$ H8; iintro H8
    iapply (Cert.Own.load Variants.none (c : Thread nD τ) none Set.univ arg8) $$ H8; iintro H8
    iapply (Cert.Own.store Variants.none (c : Thread nD τ) none Set.univ arg8) $$ H8; iintro H8
    iapply (Cert.Own.last Variants.none (c : Thread nD τ) none Set.univ _ _ ?_ (rest_run D c i arg2 arg5 arg6 arg7 harg7 arg8 fk b2 q g (k0_pay24 (View.ld x tile)) (k0_pay25 (View.ld y tile)) v94 v100 (lastWord i) (enter i q g (View.ld x tile) (View.ld y tile) f) d6 d7)) $$ [H2 H5 H6 H7 H8]
    · rw [he]
    · rw [he]
      isplitr [H6 H7]
      · isplitl [H2]; · iexact H2
        isplitl [H5]; · iexact H5
        iexact H8
      isplitl [H6]; · iexact H6
      iexact H7
    iintro %a ⟨%ha, ⟨H2, H5, H8⟩, H6, H7⟩
    isplitr
    · ipureintro; exact ha
    isplitl [H2]; · iexact H2
    isplitl [H3]; · iexact H3
    isplitl [H4]; · iexact H4
    isplitl [H5]; · iexact H5
    isplitl [H6]; · iexact H6
    isplitl [H7]; · iexact H7
    iexact H8
  · have he : enter i q g (View.ld x tile) (View.ld y tile) f = _ := dif_neg h
    rw [dif_neg h]
    iapply (Cert.Own.last Variants.none (c : Thread nD τ) none Set.univ _ _ ?_ (rest_run D c i arg2 arg5 arg6 arg7 harg7 arg8 fk b2 q g (k0_pay24 (View.ld x tile)) (k0_pay25 (View.ld y tile)) v94 v100 (lastWord i) (enter i q g (View.ld x tile) (View.ld y tile) f) d6 d7)) $$ [H2 H5 H6 H7 H8]
    · rw [he]; rfl
    · rw [he]
      isplitr [H6 H7]
      · isplitl [H2]; · iexact H2
        isplitl [H5]; · iexact H5
        iexact H8
      isplitl [H6]; · iexact H6
      iexact H7
    iintro %a ⟨%ha, ⟨H2, H5, H8⟩, H6, H7⟩
    isplitr
    · ipureintro; exact ha
    isplitl [H2]; · iexact H2
    isplitl [H3]; · iexact H3
    isplitl [H4]; · iexact H4
    isplitl [H5]; · iexact H5
    isplitl [H6]; · iexact H6
    isplitl [H7]; · iexact H7
    iexact H8

/-- The body at one point. -/
theorem body_run (q g : Vec F S8192x128 .bf16) (x y : Vec F S1024x128 .bf16) (d6 : Vec F S1024x128 .f32) (d7 : Vec F S1024x128 .bf16) (f : Vec F S8192x128 .f32) :
    (iprop(owns (c : Thread nD τ) arg2 fullShare (q) ∗ owns (c : Thread nD τ) arg3 fullShare (x) ∗ owns (c : Thread nD τ) arg4 fullShare (y) ∗ owns (c : Thread nD τ) arg5 fullShare (g) ∗ owns (c : Thread nD τ) arg6 fullShare (d6) ∗ owns (c : Thread nD τ) arg7 fullShare (d7) ∗ owns (c : Thread nD τ) arg8 fullShare (f)) : sProp 𝕄)
      ⊢ wp frame (wpE D Variants.none (c : Thread nD τ) none) Set.univ (body i arg2 arg3 arg4 arg5 arg6 arg7 harg7 arg8 fk fq b2)
        (fun _ => iprop(owns (c : Thread nD τ) arg2 fullShare (q) ∗ owns (c : Thread nD τ) arg3 fullShare (x) ∗ owns (c : Thread nD τ) arg4 fullShare (y) ∗ owns (c : Thread nD τ) arg5 fullShare (g) ∗ owns (c : Thread nD τ) arg6 fullShare (fk (leave i q g (View.ld x tile) (View.ld y tile) f).1.1) ∗ owns (c : Thread nD τ) arg7 fullShare (k0_pay66 (leave i q g (View.ld x tile) (View.ld y tile) f).1.2) ∗ owns (c : Thread nD τ) arg8 fullShare (dqEnd i fq (leave i q g (View.ld x tile) (View.ld y tile) f).2))) := by
  unfold body
  iintro H
  iapply (Cert.Own.seq Variants.none (c : Thread nD τ) none Set.univ _ _ (part5_run D c i arg2 arg3 arg4 arg5 arg6 arg7 harg7 arg8 fk b2 q g x y d6 d7 f)) $$ H
  iintro %a ⟨%ha, H2, H3, H4, H5, H6, H7, H8⟩
  subst ha
  by_cases h : last i
  · have e (s : Vec F S8192x128 .f32) : dqEnd i fq s = whole.overlay s (fq (View.ld s whole)) := if_pos h
    rw [if_pos h, e]
    simp only [Prog.lift, Prog.bind_op, Prog.bind_ret, Prog.pure_eq_ret]
    iapply (Cert.Own.load Variants.none (c : Thread nD τ) none Set.univ arg8) $$ H8; iintro H8
    iapply (Cert.Own.load Variants.none (c : Thread nD τ) none Set.univ arg8) $$ H8; iintro H8
    iapply (Cert.Own.store Variants.none (c : Thread nD τ) none Set.univ arg8) $$ H8; iintro H8
    iapply (le_wp_ret _ _ _ _ _)
    isplitl [H2]; · iexact H2
    isplitl [H3]; · iexact H3
    isplitl [H4]; · iexact H4
    isplitl [H5]; · iexact H5
    isplitl [H6]; · iexact H6
    isplitl [H7]; · iexact H7
    iexact H8
  · have e (s : Vec F S8192x128 .f32) : dqEnd i fq s = s := if_neg h
    rw [if_neg h, e]
    simp only [Prog.bind_ret, Prog.pure_eq_ret]
    iapply (le_wp_ret _ _ _ _ _)
    isplitl [H2]; · iexact H2
    isplitl [H3]; · iexact H3
    isplitl [H4]; · iexact H4
    isplitl [H5]; · iexact H5
    isplitl [H6]; · iexact H6
    isplitl [H7]; · iexact H7
    iexact H8

end

section grid
variable (fq : FVec F S8192x128 .f32 → FVec F S8192x128 .f32) (q g : Fin grid0.N → Vec F S8192x128 .bf16) (x y : Fin grid0.N → Vec F S1024x128 .bf16)

/-- The carried values a grid point ends with, dq found at `f`. -/
def leaveAt (t : Fin grid0.N) (f : Vec F S8192x128 .f32) : St F := leave (grid0.coords t) (q t) (g t) (View.ld (x t) tile) (View.ld (y t) tile) f

/-- dq as the point at position `n` finds it. -/
def dqIn : ℕ → Vec F S8192x128 .f32
  | 0 => k0_pay26
  | n + 1 => if h : n < grid0.N then dqEnd (grid0.coords ⟨n, h⟩) fq (leaveAt q g x y ⟨n, h⟩ (dqIn n)).2 else k0_pay26

/-- The carried values at the end of point `t`. -/
abbrev carried (t : Fin grid0.N) : St F := leaveAt q g x y t (dqIn fq q g x y t.val)

theorem dqIn_succ (t : Fin grid0.N) : dqIn fq q g x y (t.val + 1) = dqEnd (grid0.coords t) fq (carried fq q g x y t).2 := dif_pos t.isLt

theorem first_of : ∀ t : Fin grid0.N, t.val % 8 = 0 → first (grid0.coords t) := by decide +kernel

/-- Everything stored over is what was stored. -/
theorem overlay_whole (X w : Vec F S8192x128 .f32) : whole.overlay X w = w := by
  funext j
  have h : whole.emb j = j := by funext a; apply Fin.ext; show (![0, 0] : Fin 2 → ℕ) a + 1 * (j a).val = (j a).val; fin_cases a <;> simp
  exact (congrArg _ h.symm).trans (Rect.overlay_emb whole X w j)

/-- At a head's first point it does not matter what dq held. -/
theorem leaveAt_first (t : Fin grid0.N) (h : t.val % 8 = 0) (f f' : Vec F S8192x128 .f32) : leaveAt q g x y t f = leaveAt q g x y t f' := by
  have e (f : Vec F S8192x128 .f32) : dq0 (grid0.coords t) f = k0_pay26 := (if_pos (first_of t h)).trans (overlay_whole f _)
  unfold leaveAt leave enter
  simp only [e]
end grid

section
variable (c : Dev nD) (t : Fin grid0.N) (arg2 : Memref sig .tc .vmem S8192x128 .bf16) (arg3 arg4 : Memref sig .tc .vmem S1024x128 .bf16) (arg5 : Memref sig .tc .vmem S8192x128 .bf16) (arg6 : Memref sig .tc .vmem S1024x128 .f32) (arg7 : Memref sig .tc .vmem S1024x128 .bf16) (harg7 : arg7.IsWhole) (arg8 : Memref sig .tc .vmem S8192x128 .f32)
  (fk : FVec F S1024x128 .f32 → FVec F S1024x128 .f32) (fq : FVec F S8192x128 .f32 → FVec F S8192x128 .f32) (q g : Fin grid0.N → Vec F S8192x128 .bf16) (x y : Fin grid0.N → Vec F S1024x128 .bf16)
  {Δ0 Δ1 Δ2 Δ3 Δ4 Δ5 Δ6 : Type} (b4 : Δ4 → Vec F S1024x128 .f32) (b5 : Δ5 → Vec F S1024x128 .bf16) (b6 : Δ6 → Vec F S8192x128 .f32)

set_option maxHeartbeats 800000 in
/-- A grid point's triple: the staged blocks as it finds them and as it leaves them, whatever else is held (`P`, `R`). -/
theorem point_run (P R : sProp 𝕄) (p : Prog (TpuEff nD τ sig (Elt F) Λ .tc) PUnit)
    (b2 : FVec F S1024x128 .bf16 → FVec F S1024x128 .bf16 → BitVec 32 → BitVec 32 → Fin (k0_t2_loop (grid0.coords t)).trips → FVec F S1024x128 .f32 × FVec F S1024x128 .f32 → Prog (TpuEff nD τ sig (Elt F) Λ .tc) (FVec F S1024x128 .f32 × FVec F S1024x128 .f32))
    (hp : p = body (grid0.coords t) arg2 arg3 arg4 arg5 arg6 arg7 harg7 arg8 fk fq b2)
    (h6 : ∀ d, leaveAt q g x y t (b6 d) = carried fq q g x y t) :
    (iprop(P ∗ R ∗ (∃ _d : Δ0, owns (c : Thread nD τ) arg2 fullShare (q t)) ∗ (∃ _d : Δ1, owns (c : Thread nD τ) arg3 fullShare (x t))
      ∗ (∃ _d : Δ2, owns (c : Thread nD τ) arg4 fullShare (y t)) ∗ (∃ _d : Δ3, owns (c : Thread nD τ) arg5 fullShare (g t))
      ∗ (∃ d, owns (c : Thread nD τ) arg6 fullShare (b4 d)) ∗ (∃ d, owns (c : Thread nD τ) arg7 fullShare (b5 d)) ∗ (∃ d, owns (c : Thread nD τ) arg8 fullShare (b6 d))) : sProp 𝕄)
      ⊢ wp frame (wpE D Variants.none (c : Thread nD τ) none) Set.univ p
        (fun _ => iprop(P ∗ R ∗ owns (c : Thread nD τ) arg2 fullShare (q t) ∗ owns (c : Thread nD τ) arg3 fullShare (x t) ∗ owns (c : Thread nD τ) arg4 fullShare (y t)
          ∗ owns (c : Thread nD τ) arg5 fullShare (g t) ∗ owns (c : Thread nD τ) arg6 fullShare (fk (carried fq q g x y t).1.1)
          ∗ owns (c : Thread nD τ) arg7 fullShare (k0_pay66 (carried fq q g x y t).1.2) ∗ owns (c : Thread nD τ) arg8 fullShare (dqEnd (grid0.coords t) fq (carried fq q g x y t).2))) := by
  iintro ⟨HΦ, Ho, ⟨%d0, H0⟩, ⟨%d1, H1⟩, ⟨%d2, H2⟩, ⟨%d3, H3⟩, ⟨%d4, H4⟩, ⟨%d5, H5⟩, ⟨%d6, H6⟩⟩
  rw [← h6 d6]
  subst hp
  have hb := body_run D c (grid0.coords t) arg2 arg3 arg4 arg5 arg6 arg7 harg7 arg8 fk fq b2 (q t) (g t) (x t) (y t) (b4 d4) (b5 d5) (b6 d6)
  iapply (Cert.Own.last Variants.none (c : Thread nD τ) none Set.univ _ _ rfl hb) $$ [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  iintro %_ ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6
end
end Cert.Flash
end
-- ==== Proof.FlashBlock.lean ====
/- One pair of blocks of the attention's backward body at the extended reals: from finite blocks the body's products are
   finite and are the plain sums. -/
module

public import proofs.«01_k».proof.Proof.FlashRun
public import Idealize.ShloMosaic.Lib.Pipeline.ValueKit
public import Idealize.ShloMosaic.Lib.Pointwise
public import Idealize.ShloMosaic.Lib.Claim

@[expose] public section

set_option maxRecDepth 16384

noncomputable section

namespace Cert.Flash

open Cert.Kernel2Ideal Cert.Kernel2Ideal.Gen
open Idealize.ShloMosaic Idealize.ShloMosaic.TcCoe
open Idealize.SL.Sem

/-- A sum of reals is a real. -/
theorem sum_real {ι : Type} (s : Finset ι) (f : ι → ℝ) : ∑ i ∈ s, (f i : EReal) = ((∑ i ∈ s, f i : ℝ) : EReal) := by
  classical
  refine Finset.induction_on s (by simp) fun a s ha ih => ?_
  rw [Finset.sum_insert ha, Finset.sum_insert ha, ih, EReal.coe_add]

variable (a : ℝ) (Q K V G : ℕ → Fin 128 → ℝ)

/-- What the body's two named constants are: the scores' scale over log 2, and −∞. -/
class Consts (a : outParam ℝ) [nm : Named Ideal] : Prop where
  pos : 0 < a
  c : (Named.named (F := Ideal) κ "c" (φ := .f32) 0x3E38AA3B#32 : EReal) = ((a * (Real.log 2)⁻¹ : ℝ) : EReal)
  mask : (Named.named (F := Ideal) κ "mask" (φ := .f32) 0xF149F2CA#32 : EReal) = ⊥

/-- The score of key row `t` and query row `s`, -/
def score (t s : ℕ) : ℝ := ∑ l, K t l * Q s l
/-- its weight, zero where the key comes after the query, -/
def wt (t s : ℕ) : ℝ := if t ≤ s then Real.exp (a * score Q K t s) else 0
/-- and the weight's product with the output gradient's. -/
def wd (t s : ℕ) : ℝ := wt a Q K t s * ∑ l, V t l * G s l

/-- `n` rows of a real array from row `o` on. -/
def IsRows (n : ℕ) (X : FVec Ideal ⟨2, ![n, 128]⟩ .bf16) (A : ℕ → Fin 128 → ℝ) (o : ℕ) : Prop :=
  ∀ (r : Fin n) (l : Fin 128), X (ix2 r l) = ((A (o + r.val) l : ℝ) : EReal)

variable {a Q K V G} [nm : Named Ideal] [C : Consts a]

theorem IsRows.at {n : ℕ} {X : FVec Ideal ⟨2, ![n, 128]⟩ .bf16} {A : ℕ → Fin 128 → ℝ} {o : ℕ} (h : IsRows n X A o) (r : Fin n) (l : Fin 128) :
    X (ix2 r l) = ((A (o + r.val) l : ℝ) : EReal) := h r l

include C in
/-- The base-2 exponential of the scaled score is the exponential of `a` times it. -/
theorem exp2_score (x : ℝ) : FloatOps.exp2 (F := Ideal) (φ := .f32) ((x : EReal) * (Named.named (F := Ideal) κ "c" (φ := .f32) 0x3E38AA3B#32 : EReal)) = ((Real.exp (a * x) : ℝ) : EReal) := by
  rw [C.c, ← EReal.coe_mul]
  show Ideal.exp2 _ = _
  rw [Ideal.exp2_coe]
  congr 1
  show (2 : ℝ) ^ (x * (a * (Real.log 2)⁻¹)) = _
  rw [Real.rpow_def_of_pos (by norm_num)]
  congr 1
  have : Real.log 2 ≠ 0 := by have : 0 < Real.log 2 := Real.log_pos (by norm_num)
                              exact this.ne'
  field_simp

include C in
/-- A masked score's weight is zero. -/
theorem exp2_mask : FloatOps.exp2 (F := Ideal) (φ := .f32) ((Named.named (F := Ideal) κ "mask" (φ := .f32) 0xF149F2CA#32 : EReal) * (Named.named (F := Ideal) κ "c" (φ := .f32) 0x3E38AA3B#32 : EReal)) = ((0 : ℝ) : EReal) := by
  have : (0 : ℝ) < a * (Real.log 2)⁻¹ := by have : 0 < Real.log 2 := Real.log_pos (by norm_num)
                                            have := C.pos
                                            positivity
  rw [C.c, C.mask, EReal.bot_mul_coe_of_pos this]
  rfl

section full
variable {v1 v3 : FVec Ideal S1024x128 .bf16} {q g : Vec Ideal S1024x128 .bf16} {t0 s0 : ℕ}
  (hk : IsRows 1024 v1 K t0) (hv : IsRows 1024 v3 V t0) (hq : IsRows 1024 q Q s0) (hg : IsRows 1024 g G s0) (hst : t0 + 1024 ≤ s0)
include hk hq hst

theorem pay4_at (r j : Fin 1024) : k0_pay4 v1 q (ix2 r j) = ((wt a Q K (t0 + r.val) (s0 + j.val) : ℝ) : EReal) := by
  pointwise [k0_pay4, k0_pay2]
  simp only [hk.at, hq.at, ← EReal.coe_mul, sum_real]
  rw [wt, if_pos (by omega)]
  exact exp2_score _

include hg in
theorem pay8_at (z : FVec Ideal S1024x128 .f32) (r : Fin 1024) (l : Fin 128) :
    k0_pay8 v1 z q g (ix2 r l) = z (ix2 r l) + ((∑ j : Fin 1024, wt a Q K (t0 + r.val) (s0 + j.val) * G (s0 + j.val) l : ℝ) : EReal) := by
  pointwise [k0_pay8, k0_pay3]
  simp only [pay4_at hk hq hst, hg.at, ← EReal.coe_mul, sum_real]

include hv hg
theorem pay5_at (r j : Fin 1024) : k0_pay5 v1 v3 q g (ix2 r j) = ((wd a Q K V G (t0 + r.val) (s0 + j.val) : ℝ) : EReal) := by
  pointwise [k0_pay5, k0_pay3]
  simp only [pay4_at hk hq hst, hv.at, hg.at, ← EReal.coe_mul, sum_real]
  rfl

theorem pay6_at (f : Vec Ideal S1024x128 .f32) (j : Fin 1024) (l : Fin 128) :
    k0_pay6 v1 v3 q g f (ix2 j l) = f (ix2 j l) + ((∑ r : Fin 1024, wd a Q K V G (t0 + r.val) (s0 + j.val) * K (t0 + r.val) l : ℝ) : EReal) := by
  pointwise [k0_pay6]
  simp only [pay5_at hk hv hq hg hst, hk.at, ← EReal.coe_mul, sum_real]

theorem pay7_at (z : FVec Ideal S1024x128 .f32) (r : Fin 1024) (l : Fin 128) :
    k0_pay7 v1 v3 z q g (ix2 r l) = z (ix2 r l) + ((∑ j : Fin 1024, wd a Q K V G (t0 + r.val) (s0 + j.val) * Q (s0 + j.val) l : ℝ) : EReal) := by
  pointwise [k0_pay7, k0_pay2]
  simp only [pay5_at hk hv hq hg hst, hq.at, ← EReal.coe_mul, sum_real]

end full

section lower
variable {x y : Vec Ideal S1024x128 .bf16} {q g : Vec Ideal S512x128 .bf16} {t0 : ℕ}
  (hk : IsRows 1024 x K t0) (hv : IsRows 1024 y V t0) (hq : IsRows 512 q Q (t0 + 512)) (hg : IsRows 512 g G (t0 + 512))
include hk hq

theorem pay31_at (r : Fin 1024) (j : Fin 512) : k0_pay31 x q (ix2 r j) = ((wt a Q K (t0 + r.val) (t0 + 512 + j.val) : ℝ) : EReal) := by
  pointwise [k0_pay31, k0_pay24, k0_pay29]
  simp only [hk.at, hq.at, ← EReal.coe_mul, sum_real]
  have hc : (IntOp.cmpi .sle (BitVec.ofNat 32 r.val) (IntOp.addi (BitVec.ofNat 32 j.val) 512#32)) = if r.val ≤ j.val + 512 then 1#1 else 0#1 := by
    have := r.isLt; have := j.isLt
    rw [show (512#32 : BitVec 32) = BitVec.ofNat 32 512 from rfl, WordCmp.addi_ofNat, WordCmp.cmpi_sle_ofNat (by omega) (by omega), WordCmp.ofBool_decide_eq_ite]
  rw [hc, wt]
  by_cases h : r.val ≤ j.val + 512
  · rw [if_pos h, if_pos (by omega)]; exact exp2_score _
  · rw [if_neg h, if_neg (by omega)]; exact exp2_mask

include hg in
theorem pay32_at (r : Fin 1024) (l : Fin 128) :
    k0_pay32 x q g (ix2 r l) = ((∑ j : Fin 512, wt a Q K (t0 + r.val) (t0 + 512 + j.val) * G (t0 + 512 + j.val) l : ℝ) : EReal) := by
  pointwise [k0_pay32, k0_pay30]
  simp only [pay31_at hk hq, hg.at, ← EReal.coe_mul, sum_real]

include hv hg
theorem pay33_at (r : Fin 1024) (j : Fin 512) : k0_pay33 x y q g (ix2 r j) = ((wd a Q K V G (t0 + r.val) (t0 + 512 + j.val) : ℝ) : EReal) := by
  pointwise [k0_pay33, k0_pay30, k0_pay25]
  simp only [pay31_at hk hq, hv.at, hg.at, ← EReal.coe_mul, sum_real]
  rfl

theorem pay34_at (r : Fin 1024) (l : Fin 128) :
    k0_pay34 x y q g (ix2 r l) = ((∑ j : Fin 512, wd a Q K V G (t0 + r.val) (t0 + 512 + j.val) * Q (t0 + 512 + j.val) l : ℝ) : EReal) := by
  pointwise [k0_pay34, k0_pay29]
  simp only [pay33_at hk hv hq hg, hq.at, ← EReal.coe_mul, sum_real]

theorem pay35_at (f : Vec Ideal S512x128 .f32) (j : Fin 512) (l : Fin 128) :
    k0_pay35 (k0_pay24 x) (k0_pay33 x y q g) f (ix2 j l) = f (ix2 j l) + ((∑ r : Fin 1024, wd a Q K V G (t0 + r.val) (t0 + 512 + j.val) * K (t0 + r.val) l : ℝ) : EReal) := by
  pointwise [k0_pay35, k0_pay24]
  simp only [pay33_at hk hv hq hg, hk.at, ← EReal.coe_mul, sum_real]

end lower

section upper
variable {v1 v3 : FVec Ideal S1024x128 .bf16} {q g : Vec Ideal S512x128 .bf16} {t0 : ℕ}
  (hk : IsRows 1024 v1 K t0) (hv : IsRows 1024 v3 V t0) (hq : IsRows 512 q Q t0) (hg : IsRows 512 g G t0)
include hk hq

theorem pay41_at (r : Fin 512) (j : Fin 512) : k0_pay41 v1 q (ix2 r j) = ((wt a Q K (t0 + r.val) (t0 + j.val) : ℝ) : EReal) := by
  pointwise [k0_pay41, k0_pay40, k0_pay38]
  simp only [hk.at, hq.at, ← EReal.coe_mul, sum_real]
  have hc : (IntOp.cmpi .sle (BitVec.ofNat 32 r.val) (IntOp.addi (BitVec.ofNat 32 j.val) 0#32)) = if r.val ≤ j.val then 1#1 else 0#1 := by
    have := r.isLt; have := j.isLt
    rw [show (0#32 : BitVec 32) = BitVec.ofNat 32 0 from rfl, WordCmp.addi_ofNat, WordCmp.cmpi_sle_ofNat (by omega) (by omega), WordCmp.ofBool_decide_eq_ite, Nat.add_zero]
  rw [hc, wt]
  by_cases h : r.val ≤ j.val
  · rw [if_pos h, if_pos (by omega)]; exact exp2_score _
  · rw [if_neg h, if_neg (by omega)]; exact exp2_mask

include hg in
theorem pay42_at (r : Fin 512) (l : Fin 128) :
    k0_pay42 v1 q g (ix2 r l) = ((∑ j : Fin 512, wt a Q K (t0 + r.val) (t0 + j.val) * G (t0 + j.val) l : ℝ) : EReal) := by
  pointwise [k0_pay42, k0_pay39]
  simp only [pay41_at hk hq, hg.at, ← EReal.coe_mul, sum_real]

include hv hg
theorem pay43_at (r : Fin 512) (j : Fin 512) : k0_pay43 v1 v3 q g (ix2 r j) = ((wd a Q K V G (t0 + r.val) (t0 + j.val) : ℝ) : EReal) := by
  pointwise [k0_pay43, k0_pay39]
  simp only [pay41_at hk hq, hv.at, hg.at, ← EReal.coe_mul, sum_real]
  rfl

theorem pay45_at (z b : FVec Ideal S1024x128 .f32) (r : Fin 512) (l : Fin 128) :
    k0_pay45 v1 v3 z b q g (ix2 r l) = k0_pay36 z b (ix2 (⟨r.val, by omega⟩ : Fin 1024) l) + ((∑ j : Fin 512, wd a Q K V G (t0 + r.val) (t0 + j.val) * Q (t0 + j.val) l : ℝ) : EReal) := by
  pointwise [k0_pay45, k0_pay38]
  simp only [pay43_at hk hv hq hg, hq.at, ← EReal.coe_mul, sum_real]

theorem pay44_at (f : Vec Ideal S512x128 .f32) (j : Fin 512) (l : Fin 128) :
    k0_pay44 v1 v3 q g f (ix2 j l) = f (ix2 j l) + ((∑ r : Fin 512, wd a Q K V G (t0 + r.val) (t0 + j.val) * K (t0 + r.val) l : ℝ) : EReal) := by
  pointwise [k0_pay44, k0_pay40]
  simp only [pay43_at hk hv hq hg, hk.at, ← EReal.coe_mul, sum_real]

end upper

theorem pay36_at (a : FVec Ideal S1024x128 .f32) (r : Fin 1024) (l : Fin 128) : k0_pay36 k0_pay27 a (ix2 r l) = a (ix2 r l) := by
  pointwise [k0_pay36, k0_pay27]
theorem pay37_at (a : FVec Ideal S1024x128 .f32) (r : Fin 1024) (l : Fin 128) : k0_pay37 k0_pay28 a (ix2 r l) = a (ix2 r l) := by
  pointwise [k0_pay37, k0_pay28]
theorem pay46_at (a : FVec Ideal S1024x128 .f32) (b : FVec Ideal S512x128 .f32) (r : Fin 1024) (l : Fin 128) :
    k0_pay46 a b (ix2 r l) = if h : r.val < 512 then b (ix2 ⟨r.val, h⟩ l) else a (ix2 r l) := by
  pointwise [k0_pay46]
  split
  · rfl
  · congr 2; apply Fin.ext; show 512 + (r.val - 512) = r.val; omega
theorem pay47_at (a : FVec Ideal S1024x128 .f32) (b : FVec Ideal S512x128 .f32) (r : Fin 1024) (l : Fin 128) :
    k0_pay47 a b (ix2 r l) = if h : r.val < 512 then a (ix2 r l) + b (ix2 ⟨r.val, h⟩ l) else a (ix2 r l) := by
  pointwise [k0_pay47]
  split
  · rfl
  · congr 2; apply Fin.ext; show 512 + (r.val - 512) = r.val; omega
theorem pay66_at (a : FVec Ideal S1024x128 .f32) (r : Fin 1024) (l : Fin 128) : k0_pay66 a (ix2 r l) = a (ix2 r l) := by
  pointwise [k0_pay66]
theorem pay26_at (r : Fin 8192) (l : Fin 128) : k0_pay26 (F := Ideal) (ix2 r l) = 0 := by
  pointwise [k0_pay26]
end Cert.Flash
end
-- ==== Proof.FlashSum.lean ====
/- The attention's backward body over all the pairs of blocks of a grid point: what a point leaves in its three results is
   what they held and the plain sums over the rows. -/
module

public import proofs.«01_k».proof.Proof.FlashBlock

@[expose] public section

set_option maxRecDepth 16384

noncomputable section

namespace Cert.Flash

open Cert.Kernel2Ideal Cert.Kernel2Ideal.Gen
open Idealize.ShloMosaic Idealize.ShloMosaic.TcCoe
open Idealize.SL.Sem

variable {a : ℝ} {Q K V G : ℕ → Fin 128 → ℝ} [nm : Named Ideal] [C : Consts a]

section rows
variable {n : Fin 2 → ℕ} {o : ℕ} {off : Fin 2 → ℕ} (ho : off = ![o, 0]) (inb : ∀ a, off a + n a ≤ S8192x128.size a)
include ho

/-- Where a rectangle of whole rows lies in the array. -/
theorem emb_rows (j : (rect n off inb).shape.Idx) (s : Fin 8192) (l : Fin 128) (h0 : s.val = o + (j 0).val) (h1 : l.val = (j 1).val) :
    (rect n off inb).emb j = ix2 s l := by
  subst ho
  funext a
  apply Fin.ext
  match a with
  | 0 => show o + 1 * (j 0).val = s.val; omega
  | 1 => show 0 + 1 * (j 1).val = l.val; omega

include inb in
theorem rows_lt : o + n 0 ≤ 8192 := by
  subst ho; exact inb 0

/-- An array with a rectangle of rows replaced: on the rectangle, -/
theorem overlay_in (f : Vec Ideal S8192x128 .f32) (w : (rect n off inb).shape.Idx → Elt Ideal .f32) (j : (rect n off inb).shape.Idx) (s : Fin 8192) (l : Fin 128)
    (h0 : s.val = o + (j 0).val) (h1 : l.val = (j 1).val) : (rect n off inb).overlay f w (ix2 s l) = w j := by
  rw [← emb_rows ho inb j s l h0 h1]
  exact Rect.overlay_emb (rect n off inb) f w j

/-- and off it. -/
theorem overlay_out (f : Vec Ideal S8192x128 .f32) (w : (rect n off inb).shape.Idx → Elt Ideal .f32) (s : Fin 8192) (l : Fin 128)
    (h : ¬(o ≤ s.val ∧ s.val < o + n 0)) : (rect n off inb).overlay f w (ix2 s l) = f (ix2 s l) := by
  subst ho
  exact Rect.overlay_of_not_mem (rect n ![o, 0] inb) f w (Rect.not_mem_set_of_axis _ _ 0 o (n 0) rfl rfl rfl (by
    show s.val < o ∨ o + n 0 ≤ s.val
    omega))
end rows

/-- The rows of a loaded rectangle. -/
theorem IsRows.ld {X : Vec Ideal S8192x128 .bf16} {A : ℕ → Fin 128 → ℝ} (h : IsRows 8192 X A 0) {n o : ℕ} {off : Fin 2 → ℕ} (ho : off = ![o, 0])
    (inb : ∀ a, off a + (![n, 128] : Fin 2 → ℕ) a ≤ S8192x128.size a) : IsRows n (View.ld X (rect ![n, 128] off inb)) A o := by
  intro r l
  have hn : o + n ≤ 8192 := rows_lt ho inb
  have hr := r.isLt
  show X ((rect ![n, 128] off inb).emb (ix2 r l)) = _
  rw [emb_rows ho inb (ix2 r l) ⟨o + r.val, by omega⟩ l rfl rfl, h.at]
  show ((A (0 + (o + r.val)) l : ℝ) : EReal) = _
  rw [Nat.zero_add]

/-- The three results once the query rows below `hi` are taken: dk and dv from zero, dq from `f`. -/
structure Inv a (Q K V G : ℕ → Fin 128 → ℝ) (t0 hi : ℕ) (f : Vec Ideal S8192x128 .f32) (st : St Ideal) : Prop where
  dk : ∀ (r : Fin 1024) (l : Fin 128), st.1.1 (ix2 r l) = ((∑ s ∈ Finset.range hi, wd a Q K V G (t0 + r.val) s * Q s l : ℝ) : EReal)
  dv : ∀ (r : Fin 1024) (l : Fin 128), st.1.2 (ix2 r l) = ((∑ s ∈ Finset.range hi, wt a Q K (t0 + r.val) s * G s l : ℝ) : EReal)
  dq : ∀ (s : Fin 8192) (l : Fin 128), st.2 (ix2 s l) = f (ix2 s l) + (((if s.val < hi then ∑ r ∈ Finset.range 1024, wd a Q K V G (t0 + r) s.val * K (t0 + r) l else 0) : ℝ) : EReal)

/-- dq with one block of rows taken, -/
def stepDq {F : FTy → Type} [FloatOps F] [nm : Named F] (v1 v3 : FVec F S1024x128 .bf16) (q g : Vec F S8192x128 .bf16) (off : Fin 2 → ℕ) (inb : ∀ a, off a + S1024x128.size a ≤ S8192x128.size a) (f : Vec F S8192x128 .f32) : Vec F S8192x128 .f32 :=
  let r := rect S1024x128.size off inb
  r.overlay f (k0_pay6 v1 v3 (View.ld q r) (View.ld g r) (View.ld f r))

/-- and all three results. -/
def step {F : FTy → Type} [FloatOps F] [nm : Named F] (v1 v3 : FVec F S1024x128 .bf16) (q g : Vec F S8192x128 .bf16) (off : Fin 2 → ℕ) (inb : ∀ a, off a + S1024x128.size a ≤ S8192x128.size a) (st : St F) : St F :=
  let r := rect S1024x128.size off inb
  ((k0_pay7 v1 v3 st.1.1 (View.ld q r) (View.ld g r), k0_pay8 v1 st.1.2 (View.ld q r) (View.ld g r)), stepDq v1 v3 q g off inb st.2)

theorem stepDq_in {v1 v3 : FVec Ideal S1024x128 .bf16} {q g : Vec Ideal S8192x128 .bf16} {off : Fin 2 → ℕ} (inb : ∀ a, off a + S1024x128.size a ≤ S8192x128.size a) (f : Vec Ideal S8192x128 .f32)
    {o : ℕ} (ho : off = ![o, 0]) (j : Fin 1024) (s : Fin 8192) (l : Fin 128) (h0 : s.val = o + j.val) :
    stepDq v1 v3 q g off inb f (ix2 s l) = k0_pay6 v1 v3 (View.ld q (rect S1024x128.size off inb)) (View.ld g (rect S1024x128.size off inb)) (View.ld f (rect S1024x128.size off inb)) (ix2 j l) := by
  unfold stepDq
  exact overlay_in ho inb f _ (ix2 j l) s l h0 rfl

theorem stepDq_out {v1 v3 : FVec Ideal S1024x128 .bf16} {q g : Vec Ideal S8192x128 .bf16} {off : Fin 2 → ℕ} (inb : ∀ a, off a + S1024x128.size a ≤ S8192x128.size a) (f : Vec Ideal S8192x128 .f32)
    {o : ℕ} (ho : off = ![o, 0]) (s : Fin 8192) (l : Fin 128) (h : ¬(o ≤ s.val ∧ s.val < o + 1024)) :
    stepDq v1 v3 q g off inb f (ix2 s l) = f (ix2 s l) := by
  unfold stepDq
  exact overlay_out ho inb f _ s l h

section
variable {x y : Vec Ideal S1024x128 .bf16} {q g : Vec Ideal S8192x128 .bf16} {t0 : ℕ}
  (hk : IsRows 1024 x K t0) (hv : IsRows 1024 y V t0) (hq : IsRows 8192 q Q 0) (hg : IsRows 8192 g G 0)
include hk hv hq hg

theorem Inv.step {hi : ℕ} {f : Vec Ideal S8192x128 .f32} {st : St Ideal} (h : Inv a Q K V G t0 hi f st) (off : Fin 2 → ℕ)
    (inb : ∀ a, off a + S1024x128.size a ≤ S8192x128.size a) (ho : off = ![hi, 0]) (hst : t0 + 1024 ≤ hi) :
    Inv a Q K V G t0 (hi + 1024) f (step x y q g off inb st) := by
  have hq' : IsRows 1024 (View.ld q (rect S1024x128.size off inb)) Q hi := hq.ld ho inb
  have hg' : IsRows 1024 (View.ld g (rect S1024x128.size off inb)) G hi := hg.ld ho inb
  refine ⟨fun r l => ?_, fun r l => ?_, fun s l => ?_⟩
  · refine (pay7_at hk hv hq' hg' hst _ r l).trans ?_
    rw [h.dk, ← EReal.coe_add, Finset.sum_range_add, ← Fin.sum_univ_eq_sum_range (fun j => wd a Q K V G (t0 + r.val) (hi + j) * Q (hi + j) l) 1024]
  · refine (pay8_at hk hq' hg' hst _ r l).trans ?_
    rw [h.dv, ← EReal.coe_add, Finset.sum_range_add, ← Fin.sum_univ_eq_sum_range (fun j => wt a Q K (t0 + r.val) (hi + j) * G (hi + j) l) 1024]
  · simp only [Cert.Flash.step]
    by_cases hs : hi ≤ s.val ∧ s.val < hi + 1024
    · have e : hi + (s.val - hi) = s.val := by omega
      obtain ⟨j, hj⟩ : ∃ j : Fin 1024, j.val = s.val - hi := ⟨⟨s.val - hi, by omega⟩, rfl⟩
      rw [← hj] at e
      refine (stepDq_in inb st.2 ho j s l e.symm).trans ?_
      refine (pay6_at hk hv hq' hg' hst _ j l).trans ?_
      have e' : View.ld st.2 (rect S1024x128.size off inb) (ix2 j l) = st.2 (ix2 s l) :=
        congrArg st.2 (emb_rows ho inb (ix2 j l) s l e.symm rfl)
      rw [e', h.dq, if_neg (by omega), if_pos (by omega), EReal.coe_zero, add_zero]
      simp only [e]
      rw [← Fin.sum_univ_eq_sum_range (fun j => wd a Q K V G (t0 + j) s.val * K (t0 + j) l) 1024]
    · refine (stepDq_out inb st.2 ho s l hs).trans ?_
      rw [h.dq]
      congr 3
      apply propext; constructor <;> intro <;> omega
end

theorem wt_zero {t s : ℕ} (h : s < t) : wt a Q K t s = 0 := if_neg (by omega)
theorem wd_zero {t s : ℕ} (h : s < t) : wd a Q K V G t s = 0 := by rw [wd, wt_zero h, zero_mul]

theorem off1_eq : ∀ i : grid0.Coords, k0_off1 i = ![1024 * (i 1).val + 512, 0] := by decide +kernel
theorem off2_eq : ∀ i : grid0.Coords, k0_off2 i = ![1024 * (i 1).val, 0] := by decide +kernel

section diag
variable {x y : Vec Ideal S1024x128 .bf16} {q g : Vec Ideal S8192x128 .bf16} {i : grid0.Coords}

theorem dq1_in (f : Vec Ideal S8192x128 .f32) (j : Fin 512) (s : Fin 8192) (l : Fin 128) (h0 : s.val = 1024 * (i 1).val + 512 + j.val) :
    dq1 i q g x y f (ix2 s l) = k0_pay35 (k0_pay24 x) (k0_pay33 x y (View.ld q (rect S512x128.size (k0_off1 i) (k0_off1_inb i))) (View.ld g (rect S512x128.size (k0_off1 i) (k0_off1_inb i)))) (View.ld f (rect S512x128.size (k0_off1 i) (k0_off1_inb i))) (ix2 j l) := by
  unfold dq1
  exact overlay_in (off1_eq i) (k0_off1_inb i) f _ (ix2 j l) s l h0 rfl

theorem dq1_out (f : Vec Ideal S8192x128 .f32) (s : Fin 8192) (l : Fin 128) (h : ¬(1024 * (i 1).val + 512 ≤ s.val ∧ s.val < 1024 * (i 1).val + 512 + 512)) :
    dq1 i q g x y f (ix2 s l) = f (ix2 s l) := by
  unfold dq1
  exact overlay_out (off1_eq i) (k0_off1_inb i) f _ s l h

theorem dq2_in (f : Vec Ideal S8192x128 .f32) (j : Fin 512) (s : Fin 8192) (l : Fin 128) (h0 : s.val = 1024 * (i 1).val + j.val) :
    dq2 i q g x y f (ix2 s l) = k0_pay44 (k0_pay24 x) (k0_pay25 y) (View.ld q (rect S512x128.size (k0_off2 i) (k0_off2_inb i))) (View.ld g (rect S512x128.size (k0_off2 i) (k0_off2_inb i))) (View.ld f (rect S512x128.size (k0_off2 i) (k0_off2_inb i))) (ix2 j l) := by
  unfold dq2
  exact overlay_in (off2_eq i) (k0_off2_inb i) f _ (ix2 j l) s l h0 rfl

theorem dq2_out (f : Vec Ideal S8192x128 .f32) (s : Fin 8192) (l : Fin 128) (h : ¬(1024 * (i 1).val ≤ s.val ∧ s.val < 1024 * (i 1).val + 512)) :
    dq2 i q g x y f (ix2 s l) = f (ix2 s l) := by
  unfold dq2
  exact overlay_out (off2_eq i) (k0_off2_inb i) f _ s l h

variable (hk : IsRows 1024 x K (1024 * (i 1).val)) (hv : IsRows 1024 y V (1024 * (i 1).val)) (hq : IsRows 8192 q Q 0) (hg : IsRows 8192 g G 0)
include hk hv hq hg

theorem diag_dq (f : Vec Ideal S8192x128 .f32) (s : Fin 8192) (l : Fin 128) :
    dq2 i q g x y (dq1 i q g x y f) (ix2 s l) = f (ix2 s l) + (((if s.val < 1024 * (i 1).val + 1024 then ∑ r ∈ Finset.range 1024, wd a Q K V G (1024 * (i 1).val + r) s.val * K (1024 * (i 1).val + r) l else 0) : ℝ) : EReal) := by
  have hqL : IsRows 512 (View.ld q (rect S512x128.size (k0_off1 i) (k0_off1_inb i))) Q (1024 * (i 1).val + 512) := hq.ld (off1_eq i) (k0_off1_inb i)
  have hgL : IsRows 512 (View.ld g (rect S512x128.size (k0_off1 i) (k0_off1_inb i))) G (1024 * (i 1).val + 512) := hg.ld (off1_eq i) (k0_off1_inb i)
  have hqU : IsRows 512 (View.ld q (rect S512x128.size (k0_off2 i) (k0_off2_inb i))) Q (1024 * (i 1).val) := hq.ld (off2_eq i) (k0_off2_inb i)
  have hgU : IsRows 512 (View.ld g (rect S512x128.size (k0_off2 i) (k0_off2_inb i))) G (1024 * (i 1).val) := hg.ld (off2_eq i) (k0_off2_inb i)
  have hk' : IsRows 1024 (k0_pay24 x) K (1024 * (i 1).val) := fun r l => (by pointwise [k0_pay24] : k0_pay24 x (ix2 r l) = x (ix2 r l)).trans (hk r l)
  have hv' : IsRows 1024 (k0_pay25 y) V (1024 * (i 1).val) := fun r l => (by pointwise [k0_pay25] : k0_pay25 y (ix2 r l) = y (ix2 r l)).trans (hv r l)
  generalize ht : 1024 * (i 1).val = t0 at *
  by_cases hU : t0 ≤ s.val ∧ s.val < t0 + 512
  · obtain ⟨j, hj⟩ : ∃ j : Fin 512, s.val = t0 + j.val := ⟨⟨s.val - t0, by omega⟩, by simp only; omega⟩
    refine (dq2_in _ j s l (by omega)).trans ?_
    refine (pay44_at hk' hv' hqU hgU _ j l).trans ?_
    have e' : View.ld (dq1 i q g x y f) (rect S512x128.size (k0_off2 i) (k0_off2_inb i)) (ix2 j l) = dq1 i q g x y f (ix2 s l) :=
      congrArg (dq1 i q g x y f) (emb_rows (off2_eq i) (k0_off2_inb i) (ix2 j l) s l (by subst ht; exact hj) rfl)
    rw [e', dq1_out f s l (by omega), if_pos (by omega)]
    simp only [← hj]
    rw [Fin.sum_univ_eq_sum_range (fun r => wd a Q K V G (t0 + r) s.val * K (t0 + r) l) 512, show (1024 : ℕ) = 512 + 512 from rfl, Finset.sum_range_add,
      Finset.sum_eq_zero (s := Finset.range 512) (f := fun r => wd a Q K V G (t0 + (512 + r)) s.val * K (t0 + (512 + r)) l) (fun r _ => by rw [wd_zero (by omega), zero_mul]), add_zero]
  · refine (dq2_out _ s l (by rw [ht]; exact hU)).trans ?_
    by_cases hL : t0 + 512 ≤ s.val ∧ s.val < t0 + 512 + 512
    · obtain ⟨j, hj⟩ : ∃ j : Fin 512, s.val = t0 + 512 + j.val := ⟨⟨s.val - (t0 + 512), by omega⟩, by simp only; omega⟩
      refine (dq1_in _ j s l (by omega)).trans ?_
      refine (pay35_at hk hv hqL hgL _ j l).trans ?_
      have e' : View.ld f (rect S512x128.size (k0_off1 i) (k0_off1_inb i)) (ix2 j l) = f (ix2 s l) :=
        congrArg f (emb_rows (off1_eq i) (k0_off1_inb i) (ix2 j l) s l (by subst ht; exact hj) rfl)
      rw [e', if_pos (by omega)]
      simp only [← hj]
      rw [Fin.sum_univ_eq_sum_range (fun r => wd a Q K V G (t0 + r) s.val * K (t0 + r) l) 1024]
    · rw [dq1_out f s l (by rw [ht]; exact hL)]
      split
      · rw [Finset.sum_eq_zero (s := Finset.range 1024) (f := fun r => wd a Q K V G (t0 + r) s.val * K (t0 + r) l) (fun r _ => by rw [wd_zero (by omega), zero_mul]), EReal.coe_zero, add_zero]
      · rw [EReal.coe_zero, add_zero]

/-- The three results after the diagonal block. -/
theorem Inv.base (f : Vec Ideal S8192x128 .f32) :
    Inv a Q K V G (1024 * (i 1).val) (1024 * (i 1).val + 1024) f
      ((k0_pay46 (k0_pay36 k0_pay27 (k0_pay34 x y (View.ld q (rect S512x128.size (k0_off1 i) (k0_off1_inb i))) (View.ld g (rect S512x128.size (k0_off1 i) (k0_off1_inb i)))))
          (k0_pay45 (k0_pay24 x) (k0_pay25 y) k0_pay27 (k0_pay34 x y (View.ld q (rect S512x128.size (k0_off1 i) (k0_off1_inb i))) (View.ld g (rect S512x128.size (k0_off1 i) (k0_off1_inb i)))) (View.ld q (rect S512x128.size (k0_off2 i) (k0_off2_inb i))) (View.ld g (rect S512x128.size (k0_off2 i) (k0_off2_inb i)))),
        k0_pay47 (k0_pay37 k0_pay28 (k0_pay32 x (View.ld q (rect S512x128.size (k0_off1 i) (k0_off1_inb i))) (View.ld g (rect S512x128.size (k0_off1 i) (k0_off1_inb i)))))
          (k0_pay42 (k0_pay24 x) (View.ld q (rect S512x128.size (k0_off2 i) (k0_off2_inb i))) (View.ld g (rect S512x128.size (k0_off2 i) (k0_off2_inb i))))),
        dq2 i q g x y (dq1 i q g x y f)) := by
  have hqL : IsRows 512 (View.ld q (rect S512x128.size (k0_off1 i) (k0_off1_inb i))) Q (1024 * (i 1).val + 512) := hq.ld (off1_eq i) (k0_off1_inb i)
  have hgL : IsRows 512 (View.ld g (rect S512x128.size (k0_off1 i) (k0_off1_inb i))) G (1024 * (i 1).val + 512) := hg.ld (off1_eq i) (k0_off1_inb i)
  have hqU : IsRows 512 (View.ld q (rect S512x128.size (k0_off2 i) (k0_off2_inb i))) Q (1024 * (i 1).val) := hq.ld (off2_eq i) (k0_off2_inb i)
  have hgU : IsRows 512 (View.ld g (rect S512x128.size (k0_off2 i) (k0_off2_inb i))) G (1024 * (i 1).val) := hg.ld (off2_eq i) (k0_off2_inb i)
  have hk' : IsRows 1024 (k0_pay24 x) K (1024 * (i 1).val) := fun r l => (by pointwise [k0_pay24] : k0_pay24 x (ix2 r l) = x (ix2 r l)).trans (hk r l)
  have hv' : IsRows 1024 (k0_pay25 y) V (1024 * (i 1).val) := fun r l => (by pointwise [k0_pay25] : k0_pay25 y (ix2 r l) = y (ix2 r l)).trans (hv r l)
  -- a row sum over the query rows up to the diagonal block's end
  have key (A : ℕ → ℝ) (t0 : ℕ) (r : Fin 1024) (hA : ∀ s < t0 + r.val, A s = 0) :
      ∑ s ∈ Finset.range (t0 + 1024), A s = (∑ j : Fin 512, A (t0 + j.val)) + ∑ j : Fin 512, A (t0 + 512 + j.val) := by
    rw [Finset.sum_range_add, Finset.sum_eq_zero (s := Finset.range t0) fun s hs => hA s (by have := Finset.mem_range.mp hs; omega), zero_add,
      show (1024 : ℕ) = 512 + 512 from rfl, Finset.sum_range_add, Fin.sum_univ_eq_sum_range (fun j => A (t0 + j)) 512, Fin.sum_univ_eq_sum_range (fun j => A (t0 + 512 + j)) 512]
    simp only [Nat.add_assoc]
  refine ⟨fun r l => ?_, fun r l => ?_, fun s l => diag_dq hk hv hq hg f s l⟩
  · refine (pay46_at _ _ r l).trans ?_
    rw [key (fun s => wd a Q K V G (1024 * (i 1).val + r.val) s * Q s l) _ r fun s hs => by rw [wd_zero hs, zero_mul]]
    split
    · rw [pay45_at hk' hv' hqU hgU, pay36_at, pay34_at hk hv hqL hgL, ← EReal.coe_add, add_comm]
    · rw [pay36_at, pay34_at hk hv hqL hgL, Finset.sum_eq_zero (s := Finset.univ) (f := fun j : Fin 512 => wd a Q K V G (1024 * (i 1).val + r.val) (1024 * (i 1).val + j.val) * Q (1024 * (i 1).val + j.val) l) fun j _ => by
        rw [wd_zero (by have := j.isLt; omega), zero_mul], zero_add]
  · refine (pay47_at _ _ r l).trans ?_
    rw [key (fun s => wt a Q K (1024 * (i 1).val + r.val) s * G s l) _ r fun s hs => by rw [wt_zero hs, zero_mul]]
    split
    · rw [pay42_at hk' hqU hgU, pay37_at, pay32_at hk hqL hgL, ← EReal.coe_add, add_comm]
    · rw [pay37_at, pay32_at hk hqL hgL, Finset.sum_eq_zero (s := Finset.univ) (f := fun j : Fin 512 => wt a Q K (1024 * (i 1).val + r.val) (1024 * (i 1).val + j.val) * G (1024 * (i 1).val + j.val) l) fun j _ => by
        rw [wt_zero (by have := j.isLt; omega), zero_mul], zero_add]
end diag

/-- Whether the number of row blocks after the diagonal one is odd. -/
abbrev odd (i : grid0.Coords) : ℕ := if k0_cond2 i = 1#1 then 1 else 0
theorem trips1 : ∀ i : grid0.Coords, (i 1).val + 1 + odd i + 2 * (k0_t1_loop i).trips = 8 := by decide +kernel
theorem off3_eq : ∀ i : grid0.Coords, k0_off3 i = ![1024 * (i 1).val + 1024, 0] := by decide +kernel
theorem off4_eq : ∀ (i : grid0.Coords) (k : Fin (k0_t1_loop i).trips), k0_off4 i k = ![1024 * (i 1).val + 1024 + 1024 * odd i + 2048 * k.val, 0] := by decide +kernel
theorem off5_eq : ∀ (i : grid0.Coords) (k : Fin (k0_t1_loop i).trips), k0_off5 i k = ![1024 * (i 1).val + 1024 + 1024 * odd i + 2048 * k.val + 1024, 0] := by decide +kernel

section loop
variable {F : FTy → Type} [FloatOps F] [nm : Named F]
theorem pay57_eq (v1 v3 : FVec F S1024x128 .bf16) (q g : Vec F S1024x128 .bf16) (f : Vec F S1024x128 .f32) :
    k0_pay57 v1 v3 (k0_pay10 g) (k0_pay11 v1 q) k0_pay12 f = k0_pay6 v1 v3 q g f := (rfl)
theorem pay58_eq (v1 v3 : FVec F S1024x128 .bf16) (q g : Vec F S1024x128 .bf16) (f : FVec F S1024x128 .f32) :
    k0_pay58 v3 f (k0_pay9 q) (k0_pay10 g) (k0_pay11 v1 q) k0_pay12 = k0_pay7 v1 v3 f q g := (rfl)
theorem pay59_eq (v1 : FVec F S1024x128 .bf16) (q g : Vec F S1024x128 .bf16) (f : FVec F S1024x128 .f32) :
    k0_pay59 f (k0_pay10 g) (k0_pay11 v1 q) k0_pay12 = k0_pay8 v1 f q g := (rfl)
theorem trip1_eq (i : grid0.Coords) (q g : Vec F S8192x128 .bf16) (v1 v3 : FVec F S1024x128 .bf16) (k : Fin (k0_t1_loop i).trips) (s : St F) :
    trip1 i q g v1 v3 k s = step v1 v3 q g (k0_off5 i k) (k0_off5_inb i k) (step v1 v3 q g (k0_off4 i k) (k0_off4_inb i k) s) := by
  unfold trip1 step stepDq
  simp only [pay57_eq, pay58_eq, pay59_eq]
theorem oddSt_pos (i : grid0.Coords) (q g : Vec F S8192x128 .bf16) (v1 v3 : FVec F S1024x128 .bf16) (v42 v43 : FVec F S1024x128 .f32) (v66 v79 : FVec F S512x128 .f32) (f : Vec F S8192x128 .f32)
    (h : k0_cond2 i = 1#1) : oddSt i q g v1 v3 v42 v43 v66 v79 f = step v1 v3 q g (k0_off3 i) (k0_off3_inb i h) ((k0_pay46 v42 v79, k0_pay47 v43 v66), f) := dif_pos h
end loop

section point
variable {x y : Vec Ideal S1024x128 .bf16} {q g : Vec Ideal S8192x128 .bf16} {i : grid0.Coords}
variable (hk : IsRows 1024 x K (1024 * (i 1).val)) (hv : IsRows 1024 y V (1024 * (i 1).val)) (hq : IsRows 8192 q Q 0) (hg : IsRows 8192 g G 0)
include hk hv hq hg

theorem Inv.enter (f : Vec Ideal S8192x128 .f32) : Inv a Q K V G (1024 * (i 1).val) (1024 * (i 1).val + 1024 + 1024 * odd i) (dq0 i f) (enter i q g x y f) := by
  have hk' : IsRows 1024 (k0_pay24 x) K (1024 * (i 1).val) := fun r l => (by pointwise [k0_pay24] : k0_pay24 x (ix2 r l) = x (ix2 r l)).trans (hk r l)
  have hv' : IsRows 1024 (k0_pay25 y) V (1024 * (i 1).val) := fun r l => (by pointwise [k0_pay25] : k0_pay25 y (ix2 r l) = y (ix2 r l)).trans (hv r l)
  have hb := Inv.base hk hv hq hg (dq0 i f)
  unfold Cert.Flash.enter odd
  simp only
  by_cases h : k0_cond2 i = 1#1
  · rw [oddSt_pos _ _ _ _ _ _ _ _ _ _ h, if_pos h]
    exact hb.step hk' hv' hq hg _ _ (off3_eq i) (le_refl _)
  · rw [oddSt, dif_neg h, if_neg h]
    exact hb

/-- A grid point's three results: the sums over all the query rows for dk and dv, and this point's share of dq. -/
theorem Inv.leave (f : Vec Ideal S8192x128 .f32) : Inv a Q K V G (1024 * (i 1).val) 8192 (dq0 i f) (leave i q g x y f) := by
  have hk' : IsRows 1024 (k0_pay24 x) K (1024 * (i 1).val) := fun r l => (by pointwise [k0_pay24] : k0_pay24 x (ix2 r l) = x (ix2 r l)).trans (hk r l)
  have hv' : IsRows 1024 (k0_pay25 y) V (1024 * (i 1).val) := fun r l => (by pointwise [k0_pay25] : k0_pay25 y (ix2 r l) = y (ix2 r l)).trans (hv r l)
  have all (n : ℕ) (hn : n ≤ (k0_t1_loop i).trips) : Inv a Q K V G (1024 * (i 1).val) (1024 * (i 1).val + 1024 + 1024 * odd i + 2048 * n) (dq0 i f)
      (iter1 i q g (k0_pay24 x) (k0_pay25 y) (Cert.Flash.enter i q g x y f) n) := by
    induction n with
    | zero => exact Inv.enter hk hv hq hg f
    | succ n ih =>
      rw [iter1_succ i q g _ _ _ ⟨n, hn⟩, trip1_eq]
      have h1 := (ih (by omega)).step hk' hv' hq hg _ (k0_off4_inb i ⟨n, hn⟩) (off4_eq i ⟨n, hn⟩) (by omega)
      have h2 := h1.step hk' hv' hq hg _ (k0_off5_inb i ⟨n, hn⟩) (off5_eq i ⟨n, hn⟩) (by omega)
      rw [show 1024 * (i 1).val + 1024 + 1024 * odd i + 2048 * (n + 1) = 1024 * (i 1).val + 1024 + 1024 * odd i + 2048 * n + 1024 + 1024 by omega]
      exact h2
  have h := all _ (le_refl _)
  rwa [show 1024 * (i 1).val + 1024 + 1024 * odd i + 2048 * (k0_t1_loop i).trips = 8192 by have := trips1 i; omega] at h
end point

end Cert.Flash
end
-- ==== Proof.FlashValue.lean ====
/- The attention gradients' grid at the extended reals: from finite operands what a point leaves in its three results are the plain sums. -/
module

public import proofs.«01_k».proof.Proof.FlashSum

@[expose] public section

set_option maxRecDepth 16384

noncomputable section

namespace Cert.Flash

open Cert.Kernel2Ideal Cert.Kernel2Ideal.Gen
open Idealize.ShloMosaic Idealize.ShloMosaic.TcCoe
open Idealize.SL.Sem

/-- An operand of the call holds real numbers: `A h s l` at head `h`, row `s`, lane `l`. -/
def Holds (X : FVec Ideal S8192x1024 .bf16) (A : ℕ → ℕ → Fin 128 → ℝ) : Prop :=
  ∀ (s : Fin 8192) (h : Fin 8) (l : Fin 128), X (ix2 s (⟨128 * h.val + l.val, by omega⟩ : Fin 1024)) = ((A h.val s.val l : ℝ) : EReal)

variable {a : ℝ} {Q K V G : ℕ → ℕ → Fin 128 → ℝ}

theorem coords_1 : ∀ t : Fin grid0.N, ((grid0.coords t) 1).val = t.val % 8 := by decide +kernel
theorem first_iff : ∀ t : Fin grid0.N, first (grid0.coords t) ↔ t.val % 8 = 0 := by decide +kernel
theorem last_iff : ∀ t : Fin grid0.N, last (grid0.coords t) ↔ t.val % 8 = 7 := by decide +kernel

theorem ld_tile (X : Vec Ideal S1024x128 .bf16) : View.ld X tile = X := by
  funext j
  exact congrArg X (by funext a; apply Fin.ext; show (![0, 0] : Fin 2 → ℕ) a + 1 * (j a).val = (j a).val; fin_cases a <;> simp)

/-- The four blocks of every point hold the rows of real arrays. -/
structure Blocks (q g : Fin grid0.N → Vec Ideal S8192x128 .bf16) (x y : Fin grid0.N → Vec Ideal S1024x128 .bf16) (Q K V G : ℕ → ℕ → Fin 128 → ℝ) : Prop where
  q (t : Fin grid0.N) : IsRows 8192 (q t) (Q (t.val / 8)) 0
  g (t : Fin grid0.N) : IsRows 8192 (g t) (G (t.val / 8)) 0
  x (t : Fin grid0.N) : IsRows 1024 (x t) (K (t.val / 8)) (1024 * (t.val % 8))
  y (t : Fin grid0.N) : IsRows 1024 (y t) (V (t.val / 8)) (1024 * (t.val % 8))

/-- A head's dq row after `n` of its points. -/
def part (a : ℝ) (Q K V G : ℕ → ℕ → Fin 128 → ℝ) (h n s : ℕ) (l : Fin 128) : ℝ :=
  ∑ t ∈ Finset.range (1024 * n), wd a (Q h) (K h) (V h) (G h) t s * K h t l

section blocks
variable [nm : Named Ideal] [C : Consts a] {fq : FVec Ideal S8192x128 .f32 → FVec Ideal S8192x128 .f32} {q g : Fin grid0.N → Vec Ideal S8192x128 .bf16} {x y : Fin grid0.N → Vec Ideal S1024x128 .bf16}
  (H : Blocks q g x y Q K V G)
include H

/-- What a grid point leaves. -/
theorem point (t : Fin grid0.N) (f : Vec Ideal S8192x128 .f32) :
    Inv a (Q (t.val / 8)) (K (t.val / 8)) (V (t.val / 8)) (G (t.val / 8)) (1024 * (t.val % 8)) 8192 (dq0 (grid0.coords t) f) (leaveAt q g x y t f) := by
  have hx : IsRows 1024 (View.ld (x t) tile) (K (t.val / 8)) (1024 * ((grid0.coords t) 1).val) := by rw [ld_tile, coords_1]; exact H.x t
  have hy : IsRows 1024 (View.ld (y t) tile) (V (t.val / 8)) (1024 * ((grid0.coords t) 1).val) := by rw [ld_tile, coords_1]; exact H.y t
  have h := Inv.leave (i := grid0.coords t) hx hy (H.q t) (H.g t) f
  rw [coords_1] at h
  exact h

omit H in
theorem dq0_first (t : Fin grid0.N) (h : t.val % 8 = 0) (f : Vec Ideal S8192x128 .f32) : dq0 (grid0.coords t) f = k0_pay26 (F := Ideal) :=
  (if_pos (first_of t h)).trans (overlay_whole (F := Ideal) f (k0_pay26 (F := Ideal)))

theorem dq_carried_of (n : ℕ) : ∀ t : Fin grid0.N, t.val = n → ∀ (s : Fin 8192) (l : Fin 128),
    (carried fq q g x y t).2 (ix2 s l) = ((part a Q K V G (t.val / 8) (t.val % 8 + 1) s.val l : ℝ) : EReal) := by
  induction n with
  | zero =>
    intro t ht s l
    rw [(point H t (dqIn fq q g x y t.val)).dq s l, dq0_first t (by rw [ht]), if_pos s.isLt, pay26_at, zero_add, part, ht]
    simp only [Nat.zero_mod, Nat.zero_add, Nat.mul_zero, Nat.mul_one]
  | succ n ih =>
    intro t ht s l
    rw [(point H t (dqIn fq q g x y t.val)).dq s l, if_pos s.isLt]
    by_cases h0 : t.val % 8 = 0
    · rw [dq0_first t h0, pay26_at, zero_add, part, h0]
      simp only [Nat.zero_add, Nat.mul_zero, Nat.mul_one]
    · have hp : n < grid0.N := by have := t.isLt; omega
      have e : dq0 (grid0.coords t) (dqIn fq q g x y t.val) = dqIn fq q g x y t.val := if_neg fun hf => h0 ((first_iff t).mp hf)
      have e' : dqIn fq q g x y t.val = dqEnd (grid0.coords ⟨n, hp⟩) fq (carried fq q g x y ⟨n, hp⟩).2 := by rw [ht]; exact dqIn_succ fq q g x y ⟨n, hp⟩
      have e'' : dqEnd (grid0.coords ⟨n, hp⟩) fq (carried fq q g x y ⟨n, hp⟩).2 = (carried fq q g x y ⟨n, hp⟩).2 :=
        if_neg fun hf => h0 (by have := (last_iff ⟨n, hp⟩).mp hf; simp only at this; omega)
      rw [e, e', e'', ih ⟨n, hp⟩ rfl, ← EReal.coe_add, part, part]
      have h8 : n / 8 = t.val / 8 := by omega
      have h9 : t.val % 8 = n % 8 + 1 := by omega
      simp only [h8, h9]
      rw [show 1024 * (n % 8 + 1 + 1) = 1024 * (n % 8 + 1) + 1024 by ring, Finset.sum_range_add]

theorem dq_carried (t : Fin grid0.N) (s : Fin 8192) (l : Fin 128) :
    (carried fq q g x y t).2 (ix2 s l) = ((part a Q K V G (t.val / 8) (t.val % 8 + 1) s.val l : ℝ) : EReal) := dq_carried_of H t.val t rfl s l
end blocks

/-- The three results. -/
def DK (a : ℝ) (lane : Fin 128 → ℝ) (Q K V G : ℕ → ℕ → Fin 128 → ℝ) : FVec Ideal S8192x1024 .f32 := fun j =>
  ((∑ s ∈ Finset.range 8192, wd a (Q ((j 1).val / 128)) (K ((j 1).val / 128)) (V ((j 1).val / 128)) (G ((j 1).val / 128)) (j 0).val s * Q ((j 1).val / 128) s ⟨(j 1).val % 128, Nat.mod_lt _ (by omega)⟩ : ℝ) : EReal)
    * (lane ⟨(j 1).val % 128, Nat.mod_lt _ (by omega)⟩ : EReal)
def DV (a : ℝ) (Q K G : ℕ → ℕ → Fin 128 → ℝ) : FVec Ideal S8192x1024 .bf16 := fun j =>
  ((∑ s ∈ Finset.range 8192, wt a (Q ((j 1).val / 128)) (K ((j 1).val / 128)) (j 0).val s * G ((j 1).val / 128) s ⟨(j 1).val % 128, Nat.mod_lt _ (by omega)⟩ : ℝ) : EReal)
def DQ (a : ℝ) (lane : Fin 128 → ℝ) (Q K V G : ℕ → ℕ → Fin 128 → ℝ) : FVec Ideal S8192x1024 .f32 := fun j =>
  ((∑ t ∈ Finset.range 8192, wd a (Q ((j 1).val / 128)) (K ((j 1).val / 128)) (V ((j 1).val / 128)) (G ((j 1).val / 128)) t (j 0).val * K ((j 1).val / 128) t ⟨(j 1).val % 128, Nat.mod_lt _ (by omega)⟩ : ℝ) : EReal)
    * (lane ⟨(j 1).val % 128, Nat.mod_lt _ (by omega)⟩ : EReal)

section out
variable [nm : Named Ideal] [C : Consts a] {fk : FVec Ideal S1024x128 .f32 → FVec Ideal S1024x128 .f32} {fq : FVec Ideal S8192x128 .f32 → FVec Ideal S8192x128 .f32} {lane : Fin 128 → ℝ}
  (hk : ∀ z r l, fk z (ix2 r l) = z (ix2 r l) * (lane l : EReal)) (hq : ∀ z r l, fq z (ix2 r l) = z (ix2 r l) * (lane l : EReal))
  {q g : Fin grid0.N → Vec Ideal S8192x128 .bf16} {x y : Fin grid0.N → Vec Ideal S1024x128 .bf16} (H : Blocks q g x y Q K V G)
  (t : Fin grid0.N) (y1 : Fin 128) (i : S8192x1024.Idx) (h1 : (i 1).val = 128 * (t.val / 8) + y1.val)
include H h1

include hk in
/-- The dk block a point leaves, by entry, -/
theorem dk_point (y0 : Fin 1024) (h0 : (i 0).val = 1024 * (t.val % 8) + y0.val) : fk (carried fq q g x y t).1.1 (ix2 y0 y1) = DK a lane Q K V G i := by
  rw [hk, (point H t _).dk]
  have e1 : (i 1).val / 128 = t.val / 8 := by rw [h1]; omega
  have e2 : (⟨(i 1).val % 128, Nat.mod_lt _ (by omega)⟩ : Fin 128) = y1 := Fin.ext (by show (i 1).val % 128 = _; rw [h1]; omega)
  unfold DK
  rw [e2, e1, h0]

/-- the dv block, -/
theorem dv_point (y0 : Fin 1024) (h0 : (i 0).val = 1024 * (t.val % 8) + y0.val) : k0_pay66 (carried fq q g x y t).1.2 (ix2 y0 y1) = DV a Q K G i := by
  rw [pay66_at, (point H t _).dv]
  have e1 : (i 1).val / 128 = t.val / 8 := by rw [h1]; omega
  have e2 : (⟨(i 1).val % 128, Nat.mod_lt _ (by omega)⟩ : Fin 128) = y1 := Fin.ext (by show (i 1).val % 128 = _; rw [h1]; omega)
  unfold DV
  rw [e2, e1, h0]

include hq in
/-- and the dq block at its head's last point. -/
theorem dq_point (h7 : t.val % 8 = 7) (y0 : Fin 8192) (h0 : (i 0).val = y0.val) : dqEnd (grid0.coords t) fq (carried fq q g x y t).2 (ix2 y0 y1) = DQ a lane Q K V G i := by
  have e : dqEnd (grid0.coords t) fq (carried fq q g x y t).2 = fq (View.ld (carried fq q g x y t).2 whole) := (if_pos ((last_iff t).mpr h7)).trans (overlay_whole (F := Ideal) _ _)
  have e' : View.ld (carried fq q g x y t).2 whole = (carried fq q g x y t).2 := by
    funext j
    exact congrArg (carried fq q g x y t).2 (by funext a; apply Fin.ext; show (![0, 0] : Fin 2 → ℕ) a + 1 * (j a).val = (j a).val; fin_cases a <;> simp)
  rw [e, e', hq, dq_carried H, h7]
  have e1 : (i 1).val / 128 = t.val / 8 := by rw [h1]; omega
  have e2 : (⟨(i 1).val % 128, Nat.mod_lt _ (by omega)⟩ : Fin 128) = y1 := Fin.ext (by show (i 1).val % 128 = _; rw [h1]; omega)
  unfold DQ part
  rw [e2, e1, h0]
end out

/-! ### By head and lane -/

theorem range_sum (f : ℕ → ℝ) : ∑ s ∈ Finset.range 8192, f s = ∑ s : Fin 8192, f s.val :=
  (Fin.sum_univ_eq_sum_range f 8192).symm

theorem ix_div (h : Fin 8) (l : Fin 128) : (128 * h.val + l.val) / 128 = h.val := by omega
theorem ix_mod (h : Fin 8) (l : Fin 128) : (128 * h.val + l.val) % 128 = l.val := by omega

theorem dk_at (a : ℝ) (lane : Fin 128 → ℝ) (Q K V G : ℕ → ℕ → Fin 128 → ℝ) (t : Fin 8192) (h : Fin 8) (l : Fin 128) :
    DK a lane Q K V G (ix2 t ⟨128 * h.val + l.val, by omega⟩) =
      ((∑ s : Fin 8192, wd a (Q h) (K h) (V h) (G h) t s * Q h s l : ℝ) : EReal) * (lane l : EReal) := by
  show ((∑ s ∈ Finset.range 8192, wd a (Q ((128 * h.val + l.val) / 128)) (K ((128 * h.val + l.val) / 128))
    (V ((128 * h.val + l.val) / 128)) (G ((128 * h.val + l.val) / 128)) t.val s *
    Q ((128 * h.val + l.val) / 128) s ⟨(128 * h.val + l.val) % 128, Nat.mod_lt _ (by omega)⟩ : ℝ) : EReal)
    * (lane ⟨(128 * h.val + l.val) % 128, Nat.mod_lt _ (by omega)⟩ : EReal) = _
  simp only [ix_div, ix_mod, range_sum]

theorem dv_at (a : ℝ) (Q K G : ℕ → ℕ → Fin 128 → ℝ) (t : Fin 8192) (h : Fin 8) (l : Fin 128) :
    DV a Q K G (ix2 t ⟨128 * h.val + l.val, by omega⟩) =
      ((∑ s : Fin 8192, wt a (Q h) (K h) t s * G h s l : ℝ) : EReal) := by
  show ((∑ s ∈ Finset.range 8192, wt a (Q ((128 * h.val + l.val) / 128)) (K ((128 * h.val + l.val) / 128)) t.val s *
    G ((128 * h.val + l.val) / 128) s ⟨(128 * h.val + l.val) % 128, Nat.mod_lt _ (by omega)⟩ : ℝ) : EReal) = _
  simp only [ix_div, ix_mod, range_sum]

theorem dq_at (a : ℝ) (lane : Fin 128 → ℝ) (Q K V G : ℕ → ℕ → Fin 128 → ℝ) (s : Fin 8192) (h : Fin 8) (l : Fin 128) :
    DQ a lane Q K V G (ix2 s ⟨128 * h.val + l.val, by omega⟩) =
      ((∑ t : Fin 8192, wd a (Q h) (K h) (V h) (G h) t s * K h t l : ℝ) : EReal) * (lane l : EReal) := by
  show ((∑ t ∈ Finset.range 8192, wd a (Q ((128 * h.val + l.val) / 128)) (K ((128 * h.val + l.val) / 128))
    (V ((128 * h.val + l.val) / 128)) (G ((128 * h.val + l.val) / 128)) t s.val *
    K ((128 * h.val + l.val) / 128) t ⟨(128 * h.val + l.val) % 128, Nat.mod_lt _ (by omega)⟩ : ℝ) : EReal)
    * (lane ⟨(128 * h.val + l.val) % 128, Nat.mod_lt _ (by omega)⟩ : EReal) = _
  simp only [ix_div, ix_mod, range_sum]

end Cert.Flash
end
-- ==== Proof.OwnFinite.lean ====
module

public import Idealize.ShloMosaic.Lib.ReduceAll
public import Idealize.ShloMosaic.Lib.Pointwise

/-!
# Reading a finiteness precondition

A host comparison of absolute values with infinity, reduced by `and`, says that every entry is a real number.
-/

@[expose] public section

namespace Cert.Own

open Idealize.ShloMosaic

/-- Every entry of an array is a real number. -/
def AllReal {S : Shape} (X : S.Idx → EReal) : Prop := ∀ i, X i ≠ ⊤ ∧ X i ≠ ⊥

theorem real_of_lt (x : EReal) (h : FloatOps.cmpf (F := Ideal) (φ := .f32) .olt (FloatOps.absf (F := Ideal) (φ := .f32) x) (Ideal.ofBits .f32 0x7F800000#32) = 1#1) :
    x ≠ ⊤ ∧ x ≠ ⊥ := by
  have hb : Ideal.ofBits .f32 0x7F800000#32 = ⊤ := by simp [Ideal.ofBits, Ideal.ieee]
  rw [hb] at h
  constructor
  · rintro rfl
    revert h
    show ¬ BitVec.ofBool (decide (max (⊤ : EReal) (-⊤) < ⊤)) = 1#1
    simp
  · rintro rfl
    revert h
    show ¬ BitVec.ofBool (decide (max (⊥ : EReal) (-⊥) < ⊤)) = 1#1
    simp

theorem andi_one {S : Shape} {x y : IVec S 1} {i : S.Idx} (h : andi x y i = 1#1) : x i = 1#1 ∧ y i = 1#1 :=
  IntOp.andi_eq_one.1 h

theorem allReal_of {S T U : Shape} {axes : List (Fin S.rank)} [Subsingleton T.Idx] (X : FVec Ideal S .f32) (B : FVec Ideal S .f32)
    (hB : ∀ i, B i = Ideal.ofBits .f32 0x7F800000#32) (init : U.Idx → BitVec 1) (h : S.ReducesTo axes T) (hu : 0 < U.numel)
    (j : T.Idx) (e : Host.reduce IntOp.andi (cmpf .olt (Host.absf X) B) init h hu j = 1#1) : AllReal X := by
  intro i
  have h1 := Host.reduce_andi_all _ init h hu j e i
  refine real_of_lt (X i) ?_
  rw [← hB i]
  exact h1

end Cert.Own
-- ==== Proof.SoftHost.lean ====
module

public import proofs.«01_k».proof.Proof.FlashValue
public import proofs.«01_k».proof.Proof.OwnFinite
public import Idealize.ShloMosaic.Lib.Pointwise
public import Idealize.ShloMosaic.Lib.Routing.OpsOne

/-!
# Causal attention: the arrays the host prepares, whatever the scores
-/

@[expose] public section

set_option maxRecDepth 16384

noncomputable section

namespace Cert.Soft

open Idealize.ShloMosaic Idealize.ShloMosaic.TcCoe Idealize.SL.Sem
open Cert.Kernel2Ideal Cert.Kernel2Ideal.Gen Cert.Flash

/-- Which key rows a query row sees. -/
def causal : IVec S8192x8192 1 :=
  cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0)))

/-- Scores with the mask applied. -/
def masked (Z : FVec Ideal S8x8192x8192 .f32) : FVec Ideal S8x8192x8192 .f32 :=
  select (broadcastInDim S8x8192x8192 ![1, 2] bcast_S8192x8192_S8x8192x8192_1_2 causal) Z (broadcastInDim S8x8192x8192 ![] bcast_S_S8x8192x8192 ((constant S_ .f32 0xFF800000#32)))

/-- A row's largest score. -/
def top (S : FVec Ideal S8x8192x8192 .f32) : FVec Ideal S8x8192 .f32 :=
  Host.reduce FloatOps.maximumf S (constant S_ .f32 0xFF800000#32) reducesTo_S8x8192x8192_S8x8192_d2 h_S_

/-- The exponentials above the largest score. -/
def ex (S : FVec Ideal S8x8192x8192 .f32) : FVec Ideal S8x8192x8192 .f32 :=
  Host.exp (subf S (broadcastInDim S8x8192x8192 ![0, 1, 2] bcast_S8x8192x1_S8x8192x8192_0_1_2 (broadcastInDim S8x8192x1 ![0, 1] bcast_S8x8192_S8x8192x1_0_1 (top S))))

/-- Their sum. -/
def den (S : FVec Ideal S8x8192x8192 .f32) : FVec Ideal S8x8192 .f32 :=
  Host.reduceAdd (ex S) (constant S_ .f32 0x00000000#32) reducesTo_S8x8192x8192_S8x8192_d2 h_S_

/-- The attention weights. -/
def prob (S : FVec Ideal S8x8192x8192 .f32) : FVec Ideal S8x8192x8192 .f32 :=
  Host.divf (ex S) (broadcastInDim S8x8192x8192 ![0, 1, 2] bcast_S8x8192x1_S8x8192x8192_0_1_2 (broadcastInDim S8x8192x1 ![0, 1] bcast_S8x8192_S8x8192x1_0_1 (den S)))

/-- The attention rows. -/
def out (S : FVec Ideal S8x8192x8192 .f32) (V : FVec Ideal S8x8192x64 .f32) : FVec Ideal S8x8192x64 .f32 :=
  Host.dotGeneral dot_S8x8192x8192_S8x8192x64_S8x8192x64_2_1_1_2_0_0 none (prob S) V

/-- A row's log-sum, over the scale. -/
def lse (b : BitVec 32) (S : FVec Ideal S8x8192x8192 .f32) : FVec Ideal S8x8192 .f32 :=
  Host.divf (addf (top S) (Host.log (den S))) (broadcastInDim S8x8192 ![] bcast_S_S8x8192 (constant S_ .f32 b))

/-- The row sums of cotangent times output. -/
def del (S : FVec Ideal S8x8192x8192 .f32) (V D : FVec Ideal S8x8192x64 .f32) : FVec Ideal S8x8192 .f32 :=
  Host.reduceAdd (mulf D (out S V)) (constant S_ .f32 0x00000000#32) reducesTo_S8x8192x64_S8x8192_d2 h_S_

/-- The nearest bfloat16, widened again. -/
def hi (x : FVec Ideal S8x8192 .f32) : FVec Ideal S8x8192 .f32 :=
  extf .f32 (truncf .bf16 x bitsLt_bf16_f32) bitsLt_bf16_f32

/-- The second part of a number in three. -/
def mid (x : FVec Ideal S8x8192 .f32) : FVec Ideal S8x8192 .f32 := hi (subf x (hi x))

/-- The third part. -/
def lo (x : FVec Ideal S8x8192 .f32) : FVec Ideal S8x8192 .f32 :=
  hi (subf (subf x (hi x)) (mid x))

/-- One lane per head and row. -/
def col (x : FVec Ideal S8x8192 .f32) : FVec Ideal S8x8192x1 .f32 :=
  broadcastInDim S8x8192x1 ![0, 1] bcast_S8x8192_S8x8192x1_0_1 x

/-- A lane of ones. -/
def one : FVec Ideal S8x8192 .f32 :=
  broadcastInDim S8x8192 ![] bcast_S_S8x8192 (constant S_ .f32 0x3F800000#32)

/-- The features of a head and three further lanes. -/
def rows3 (A : FVec Ideal S8x8192x64 .f32) (c0 c1 c2 : FVec Ideal S8x8192x1 .f32) :
    FVec Ideal S8192x1024 .bf16 :=
  truncf .bf16 (shapeCast S8192x1024 (transpose S8192x8x128 [1, 0, 2] (pad S8x8192x128 ![0, 0, 0] ![0, 0, 61] ![0, 0, 0] (concatenate S8x8192x67 2 [⟨S8x8192x64, A⟩, ⟨S8x8192x1, c0⟩, ⟨S8x8192x1, c1⟩, ⟨S8x8192x1, c2⟩] concatenates_S8x8192x64_S8x8192x1_S8x8192x1_S8x8192x1_S8x8192x67_d2) (sitofp .f32 (constantI S_ 32 0#32)) pads_S8x8192x67_S8x8192x128_000_000_0610 h_S_) transposes_S8x8192x128_S8192x8x128_1_0_2) shapeCasts_S8192x8x128_S8192x1024) bitsLt_bf16_f32

theorem rows3_congr {A A' : FVec Ideal S8x8192x64 .f32} {a a' b b' d d' : FVec Ideal S8x8192x1 .f32}
    (hA : A = A') (ha : a = a') (hb : b = b') (hd : d = d') : rows3 A a b d = rows3 A' a' b' d' := by
  rw [hA, ha, hb, hd]

/-! ### Literals -/

theorem bits_one : Ideal.ofBits .f32 0x3F800000#32 = ((1 : ℝ) : EReal) := by
  simp [Ideal.ofBits, Ideal.ieee, -EReal.coe_mul]; norm_num

theorem bits_bot : Ideal.ofBits .f32 0xFF800000#32 = ⊥ := by
  simp [Ideal.ofBits, Ideal.ieee]

theorem int_zero : (FloatOps.sitofp .f32 (0#32 : BitVec 32) : Ideal .f32) = ((0 : ℝ) : EReal) := by
  show (((0#32 : BitVec 32).toInt : ℝ) : EReal) = _
  simp

/-! ### Entry by entry -/

/-- An array of features holds real numbers: `A h s x` at head `h`, row `s`, lane `x`. -/
def Feats (n : ℕ) (X : FVec Ideal ⟨3, ![8, 8192, n]⟩ .f32) (A : ℕ → ℕ → Fin n → ℝ) : Prop :=
  ∀ (h : Fin 8) (s : Fin 8192) (x : Fin n), X (ix3 h s x) = (A h s x : EReal)

/-- An array by query and key row holds real numbers. -/
def Pairs (X : FVec Ideal S8x8192x8192 .f32) (W : ℕ → ℕ → ℕ → ℝ) : Prop :=
  ∀ (h : Fin 8) (s t : Fin 8192), X (ix3 h s t) = (W h s t : EReal)

/-- Scores: real numbers `R h s t` where the key row is no later than the query row, −∞ elsewhere. -/
def Scores (S : FVec Ideal S8x8192x8192 .f32) (R : ℕ → ℕ → ℕ → ℝ) : Prop :=
  ∀ (h : Fin 8) (s t : Fin 8192), S (ix3 h s t) = if t.val ≤ s.val then (R h s t : EReal) else ⊥

theorem masked_at {Z : FVec Ideal S8x8192x8192 .f32} {R : ℕ → ℕ → ℕ → ℝ} (hZ : Pairs Z R) : Scores (masked Z) R := by
  intro h s t
  pointwise [masked, causal]
  rw [hZ h s t, bits_bot]
  rw [Scalar.select, WordCmp.cmpi_sle_ofNat (by omega) (by omega), WordCmp.ofBool_decide_eq_ite]
  split_ifs <;> simp_all

theorem fold_max_real {ι : Type} (S : Finset ι) (f : ι → EReal) (hf : ∀ i ∈ S, f i ≠ ⊤) (k : ι) (hk : k ∈ S)
    (hb : f k ≠ ⊥) : Finset.fold max ⊥ f S ≠ ⊤ ∧ Finset.fold max ⊥ f S ≠ ⊥ := by
  constructor
  · refine (lt_top_iff_ne_top).mp ((Finset.fold_max_lt ⊤).mpr ⟨bot_lt_top, fun i hi => lt_top_iff_ne_top.mpr (hf i hi)⟩)
  · refine bot_lt_iff_ne_bot.mp ((Finset.lt_fold_max ⊥).mpr (Or.inr ⟨k, hk, bot_lt_iff_ne_bot.mpr hb⟩))

variable (R : ℕ → ℕ → ℕ → ℝ) (V D : ℕ → ℕ → Fin 64 → ℝ)

/-- A row's largest score. -/
def mx (h s : ℕ) : ℝ := EReal.toReal (Finset.fold max ⊥ (fun t : Fin 8192 => if t.val ≤ s then (R h s t : EReal) else ⊥) Finset.univ)
/-- The exponential of a score above it. -/
def ev (h s t : ℕ) : ℝ := if t ≤ s then Real.exp (R h s t - mx R h s) else 0
/-- The sum of a row's exponentials. -/
def zs (h s : ℕ) : ℝ := ∑ t : Fin 8192, ev R h s t
/-- The weight of key row `t` for query row `s`. -/
def pr (h s t : ℕ) : ℝ := ev R h s t / zs R h s
/-- Lane `x` of the attention's row `s`. -/
def os (h s : ℕ) (x : Fin 64) : ℝ := ∑ t : Fin 8192, pr R h s t * V h t x
/-- A row's log-sum over the scale. -/
def ls (a : ℝ) (h s : ℕ) : ℝ := (mx R h s + Real.log (zs R h s)) * (1 / a)
/-- The sum over a row of cotangent times output. -/
def dl (h s : ℕ) : ℝ := ∑ x, D h s x * os R V h s x

theorem ev_nonneg (h s t : ℕ) : 0 ≤ ev R h s t := by
  rw [ev]; split_ifs
  · exact (Real.exp_pos _).le
  · exact le_rfl

theorem zs_pos (h : ℕ) (s : Fin 8192) : 0 < zs R h s := by
  refine Finset.sum_pos' (fun t _ => ev_nonneg R h s t) ⟨s, Finset.mem_univ _, ?_⟩
  rw [ev, if_pos le_rfl]; exact Real.exp_pos _

variable {R V D} {S : FVec Ideal S8x8192x8192 .f32} {v d : FVec Ideal S8x8192x64 .f32} (hS : Scores S R) (hV : Feats 64 v V) (hD : Feats 64 d D)
include hS

theorem top_at (h : Fin 8) (s : Fin 8192) : top S (ix2 h s) = (mx R h s : EReal) := by
  have e : top S (ix2 h s) = Finset.fold max ⊥ (fun t : Fin 8192 => if t.val ≤ s.val then (R h s t : EReal) else ⊥) Finset.univ := by
    pointwise [top]
    rw [bits_bot]
    exact congrArg (fun f => Finset.fold max ⊥ f Finset.univ) (funext fun t => hS h s t)
  have key := fold_max_real Finset.univ (fun t : Fin 8192 => if t.val ≤ s.val then (R h s t : EReal) else ⊥)
    (fun t _ => by split_ifs; exacts [EReal.coe_ne_top _, bot_ne_top]) s (Finset.mem_univ _)
    (by rw [if_pos le_rfl]; exact EReal.coe_ne_bot _)
  rw [e, mx]
  exact (EReal.coe_toReal key.1 key.2).symm

theorem ex_at (h : Fin 8) (s t : Fin 8192) :
    ex S (ix3 h s t) = (ev R h s t : EReal) := by
  have e : ex S (ix3 h s t) = Ideal.exp (S (ix3 h s t) - top S (ix2 h s)) := by
    pointwise [ex]
  rw [e, hS h s, top_at hS, ev]
  split_ifs
  · rw [← EReal.coe_sub, Ideal.exp_coe]
  · rw [EReal.bot_sub]; rfl

theorem den_at (h : Fin 8) (s : Fin 8192) :
    den S (ix2 h s) = (zs R h s : EReal) := by
  have e : den S (ix2 h s) = ∑ x, ex S (ix3 h s x) := by
    pointwise [den]
  rw [e]
  simp only [ex_at hS]
  rw [sum_real, zs]

theorem prob_at (h : Fin 8) (s t : Fin 8192) :
    prob S (ix3 h s t) = (pr R h s t : EReal) := by
  have e : prob S (ix3 h s t) = Ideal.div (ex S (ix3 h s t)) (den S (ix2 h s)) := by
    pointwise [prob]
  rw [e, ex_at hS, den_at hS, Ideal.div_coe (zs_pos R h s).ne', pr]
  rw [← EReal.coe_mul, mul_one_div]

include hV in
theorem out_at (h : Fin 8) (s : Fin 8192)
    (x : Fin 64) : out S v (ix3 h s x) = (os R V h s x : EReal) := by
  have e : out S v (ix3 h s x) = ∑ t, prob S (ix3 h s t) * v (ix3 h t x) := by
    pointwise [out]
  rw [e]
  simp only [prob_at hS, hV h, ← EReal.coe_mul]
  rw [sum_real, os]

omit hS in
theorem lse_entry (b : BitVec 32) (A B : FVec Ideal S8x8192 .f32) (h : Fin 8) (s : Fin 8192) :
    (Host.divf (addf A (Host.log B)) (broadcastInDim S8x8192 ![] bcast_S_S8x8192 (constant S_ .f32 b))
      : FVec Ideal S8x8192 .f32) (ix2 h s) =
      Ideal.div (A (ix2 h s) + Ideal.log (B (ix2 h s))) (Ideal.ofBits .f32 b) := by
  pointwise

theorem lse_at {b : BitVec 32} {a : ℝ} (hb : Ideal.ofBits .f32 b = (a : EReal)) (ha : a ≠ 0) (h : Fin 8) (s : Fin 8192) :
    lse b S (ix2 h s) = (ls R a h s : EReal) := by
  refine (lse_entry b (top S) (den S) h s).trans ?_
  rw [top_at hS, den_at hS, Ideal.log_coe, if_neg (not_le.mpr (zs_pos R h s)), hb,
    ← EReal.coe_add, Ideal.div_coe ha, ← EReal.coe_mul, ls]

include hV hD in
theorem del_at (h : Fin 8)
    (s : Fin 8192) : del S v d (ix2 h s) = (dl R V D h s : EReal) := by
  have e : del S v d (ix2 h s) = ∑ x, d (ix3 h s x) * out S v (ix3 h s x) := by
    pointwise [del]
  rw [e]
  simp only [hD h, out_at hS hV, ← EReal.coe_mul]
  rw [sum_real, dl]

omit hS

/-! ### The rows -/

theorem hi_at (x : FVec Ideal S8x8192 .f32) (h : Fin 8) (s : Fin 8192) : hi x (ix2 h s) = x (ix2 h s) := by
  pointwise [hi]

theorem mid_at (x : FVec Ideal S8x8192 .f32) (h : Fin 8) (s : Fin 8192) (r : ℝ) (hr : x (ix2 h s) = (r : EReal)) :
    mid x (ix2 h s) = ((0 : ℝ) : EReal) := by
  have e : mid x (ix2 h s) = x (ix2 h s) - x (ix2 h s) := by pointwise [mid, hi]
  rw [e, hr, ← EReal.coe_sub, sub_self]

theorem lo_at (x : FVec Ideal S8x8192 .f32) (h : Fin 8) (s : Fin 8192) (r : ℝ) (hr : x (ix2 h s) = (r : EReal)) :
    lo x (ix2 h s) = ((0 : ℝ) : EReal) := by
  have e : lo x (ix2 h s) = x (ix2 h s) - x (ix2 h s) - (x (ix2 h s) - x (ix2 h s)) := by pointwise [lo, mid, hi]
  rw [e, hr, ← EReal.coe_sub, sub_self, ← EReal.coe_sub, sub_self]

theorem neg_at (x : FVec Ideal S8x8192 .f32) (h : Fin 8) (s : Fin 8192) :
    Host.negf x (ix2 h s) = - x (ix2 h s) := by
  pointwise

theorem one_at (h : Fin 8) (s : Fin 8192) : one (ix2 h s) = ((1 : ℝ) : EReal) := by
  pointwise [one]
  exact EReal.coe_one.symm

theorem col_at (x : FVec Ideal S8x8192 .f32) (h : Fin 8) (s : Fin 8192) (i : Fin 1) :
    col x (ix3 h s i) = x (ix2 h s) := by
  pointwise [col]

/-- The features, then lane by lane, then zeros. -/
def tail3 (A : Fin 64 → ℝ) (a b d : ℝ) (l : Fin 128) : ℝ :=
  if hl : l.val < 64 then A ⟨l.val, hl⟩ else if l.val = 64 then a else if l.val = 65 then b else
    if l.val = 66 then d else 0

theorem rows3_at (A : FVec Ideal S8x8192x64 .f32) (a b d : FVec Ideal S8x8192 .f32) (A' : Fin 64 → ℝ) (a' b' d' : ℝ)
    (s : Fin 8192) (h : Fin 8) (l : Fin 128) (hA : ∀ x, A (ix3 h s x) = (A' x : EReal))
    (ha : a (ix2 h s) = (a' : EReal)) (hb : b (ix2 h s) = (b' : EReal)) (hd : d (ix2 h s) = (d' : EReal)) :
    rows3 A (col a) (col b) (col d) (ix2 s ⟨128 * h.val + l.val, by omega⟩) = (tail3 A' a' b' d' l : EReal) := by
  pointwise [rows3]
  rw [int_zero]
  simp only [hA, ha, hb, hd, col_at, tail3]
  split_ifs <;> first | rfl | omega

end Cert.Soft
-- ==== Proof.SoftRef.lean ====
module

public import proofs.«01_k».proof.Proof.SoftHost
public import proofs.«01_k».proof.Proof.Gen.Reference2Ideal

/-!
# Causal attention: the gradients, whatever the scores
-/

@[expose] public section

set_option maxRecDepth 16384

noncomputable section

namespace Cert.Soft

open Idealize.ShloMosaic Idealize.ShloMosaic.TcCoe Idealize.SL.Sem
open Cert.Reference2Ideal Cert.Reference2Ideal.Gen Cert.Flash

/-- A row's largest score. -/
def rtop (S : FVec Ideal S8x8192x8192 .f32) : FVec Ideal S8x8192 .f32 :=
  maximumf (broadcastInDim S8x8192 ![] bcast_S_S8x8192 (constant S_ .f32 0xFF800000#32)) (top S)

/-- The exponentials above it. -/
def rex (S : FVec Ideal S8x8192x8192 .f32) : FVec Ideal S8x8192x8192 .f32 :=
  Host.exp (subf S (broadcastInDim S8x8192x8192 ![0, 1, 2] bcast_S8x8192x1_S8x8192x8192_0_1_2 (broadcastInDim S8x8192x1 ![0, 1] bcast_S8x8192_S8x8192x1_0_1 (rtop S))))

/-- Their sum. -/
def rden (S : FVec Ideal S8x8192x8192 .f32) : FVec Ideal S8x8192 .f32 :=
  Host.reduceAdd (rex S) (constant S_ .f32 0x00000000#32) reducesTo_S8x8192x8192_S8x8192_d2 h_S_

/-- The weights. -/
def rprob (S : FVec Ideal S8x8192x8192 .f32) : FVec Ideal S8x8192x8192 .f32 :=
  Host.divf (rex S) (broadcastInDim S8x8192x8192 ![0, 1, 2] bcast_S8x8192x1_S8x8192x8192_0_1_2 (broadcastInDim S8x8192x1 ![0, 1] bcast_S8x8192_S8x8192x1_0_1 (rden S)))

/-- The gradient of the values, lanes first. -/
def dvt (S : FVec Ideal S8x8192x8192 .f32) (D : FVec Ideal S8x8192x64 .f32) : FVec Ideal S8x64x8192 .f32 :=
  Host.dotGeneral dot_S8x8192x64_S8x8192x8192_S8x64x8192_1_1_2_2_0_0 none D (rprob S)

/-- The gradient of the weights. -/
def dp (V D : FVec Ideal S8x8192x64 .f32) : FVec Ideal S8x8192x8192 .f32 :=
  Host.dotGeneral dot_S8x8192x64_S8x8192x64_S8x8192x8192_2_2_1_1_0_0 none D V

/-- One over the square of the sum. -/
def rsq (S : FVec Ideal S8x8192x8192 .f32) : FVec Ideal S8x8192x1 .f32 :=
  Host.divf (broadcastInDim S8x8192x1 ![] bcast_S_S8x8192x1 (constant S_ .f32 0x3F800000#32)) (mulf (broadcastInDim S8x8192x1 ![0, 1] bcast_S8x8192_S8x8192x1_0_1 (rden S)) (broadcastInDim S8x8192x1 ![0, 1] bcast_S8x8192_S8x8192x1_0_1 (rden S)))

/-- What the sum contributes, row by row. -/
def corr (S : FVec Ideal S8x8192x8192 .f32) (P : FVec Ideal S8x8192x8192 .f32) : FVec Ideal S8x8192 .f32 :=
  Host.reduceAdd (mulf (mulf P (broadcastInDim S8x8192x8192 ![0, 1, 2] bcast_S8x8192x1_S8x8192x8192_0_1_2 (rsq S))) (rex S)) (constant S_ .f32 0x00000000#32) reducesTo_S8x8192x8192_S8x8192_d2 h_S_

/-- The gradient of the weights over the sum. -/
def quo (S : FVec Ideal S8x8192x8192 .f32) (P : FVec Ideal S8x8192x8192 .f32) : FVec Ideal S8x8192x8192 .f32 :=
  Host.divf P (broadcastInDim S8x8192x8192 ![0, 1, 2] bcast_S8x8192x1_S8x8192x8192_0_1_2 (broadcastInDim S8x8192x1 ![0, 1] bcast_S8x8192_S8x8192x1_0_1 (rden S)))

/-- The contribution, negated. -/
def sub1 (S : FVec Ideal S8x8192x8192 .f32) (P : FVec Ideal S8x8192x8192 .f32) : FVec Ideal S8x8192 .f32 :=
  Host.reduceAdd (Host.negf (shapeCast S8x8192x1 (corr S P) shapeCasts_S8x8192_S8x8192x1)) (constant S_ .f32 0x00000000#32) reducesTo_S8x8192x1_S8x8192_d2 h_S_

/-- The gradient of the exponentials. -/
def inner (S : FVec Ideal S8x8192x8192 .f32) (P : FVec Ideal S8x8192x8192 .f32) : FVec Ideal S8x8192x8192 .f32 :=
  addf (quo S P) (broadcastInDim S8x8192x8192 ![0, 1] bcast_S8x8192_S8x8192x8192_0_1 (sub1 S P))

/-- The gradient of the scores. -/
def dsc (S : FVec Ideal S8x8192x8192 .f32) (P : FVec Ideal S8x8192x8192 .f32) : FVec Ideal S8x8192x8192 .f32 :=
  select (broadcastInDim S8x8192x8192 ![1, 2] bcast_S8192x8192_S8x8192x8192_1_2 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))) (mulf (inner S P) (rex S)) (broadcastInDim S8x8192x8192 ![] bcast_S_S8x8192x8192 (constant S_ .f32 0x00000000#32))

/-- The gradient of the scores, scaled. -/
def dss (b : BitVec 32) (S : FVec Ideal S8x8192x8192 .f32) (P : FVec Ideal S8x8192x8192 .f32) : FVec Ideal S8x8192x8192 .f32 :=
  mulf (dsc S P) (broadcastInDim S8x8192x8192 ![] bcast_S_S8x8192x8192 (constant S_ .f32 b))

/-! ### Entry by entry -/

theorem top_entry (A : FVec Ideal S8x8192 .f32) (h : Fin 8) (s : Fin 8192) :
    maximumf (broadcastInDim S8x8192 ![] bcast_S_S8x8192 (constant S_ .f32 0xFF800000#32)) A (ix2 h s) =
      max (Ideal.ofBits .f32 0xFF800000#32) (A (ix2 h s)) := by
  pointwise

variable (R : ℕ → ℕ → ℕ → ℝ) (V D : ℕ → ℕ → Fin 64 → ℝ) (W : ℕ → ℕ → ℕ → ℝ)

/-- The gradient of a weight. -/
def dpv (h s t : ℕ) : ℝ := ∑ x, D h s x * V h t x

/-- What the sum of the exponentials contributes to a row. -/
def cor (h s : ℕ) : ℝ :=
  ∑ t : Fin 8192, W h s t * (1 / (zs R h s * zs R h s)) * ev R h s t

/-- The gradient of a score. -/
def dsv (h s t : ℕ) : ℝ :=
  if t ≤ s then (W h s t / zs R h s + - cor R W h s) * ev R h s t else 0

variable {R V D W} {S P : FVec Ideal S8x8192x8192 .f32} {v d : FVec Ideal S8x8192x64 .f32} (hS : Scores S R) (hV : Feats 64 v V) (hD : Feats 64 d D) (hP : Pairs P W)

include hV hD in
theorem dp_at : Pairs (dp v d) (dpv V D) := by
  intro h s t
  have e : dp v d (ix3 h s t) = ∑ x, d (ix3 h s x) * v (ix3 h t x) := by
    pointwise [dp]
  rw [e]
  simp only [hD h, hV h, ← EReal.coe_mul]
  rw [sum_real, dpv]

include hS

theorem rtop_at (h : Fin 8) (s : Fin 8192) :
    rtop S (ix2 h s) = (mx R h s : EReal) := by
  refine (top_entry (top S) h s).trans ?_
  rw [bits_bot, top_at hS]
  exact max_eq_right bot_le

theorem rex_at (h : Fin 8) (s t : Fin 8192) :
    rex S (ix3 h s t) = (ev R h s t : EReal) := by
  have e : rex S (ix3 h s t) = Ideal.exp (S (ix3 h s t) - rtop S (ix2 h s)) := by
    pointwise [rex]
  rw [e, hS h s, rtop_at hS, ev]
  split_ifs
  · rw [← EReal.coe_sub, Ideal.exp_coe]
  · rw [EReal.bot_sub]; rfl

theorem rden_at (h : Fin 8) (s : Fin 8192) :
    rden S (ix2 h s) = (zs R h s : EReal) := by
  have e : rden S (ix2 h s) = ∑ x, rex S (ix3 h s x) := by
    pointwise [rden]
  rw [e]
  simp only [rex_at hS]
  rw [sum_real, zs]

theorem rprob_at (h : Fin 8) (s t : Fin 8192) :
    rprob S (ix3 h s t) = (pr R h s t : EReal) := by
  have e : rprob S (ix3 h s t) = Ideal.div (rex S (ix3 h s t)) (rden S (ix2 h s)) := by
    pointwise [rprob]
  rw [e, rex_at hS, rden_at hS, Ideal.div_coe (zs_pos R h s).ne', pr]
  rw [← EReal.coe_mul, mul_one_div]

include hD in
theorem dvt_at (h : Fin 8) (x : Fin 64)
    (t : Fin 8192) : dvt S d (ix3 h x t) =
      ((∑ s : Fin 8192, D h s x * pr R h s t : ℝ) : EReal) := by
  have e : dvt S d (ix3 h x t) = ∑ s, d (ix3 h s x) * rprob S (ix3 h s t) := by
    pointwise [dvt]
  rw [e]
  simp only [hD h, rprob_at hS, ← EReal.coe_mul]
  rw [sum_real]

theorem rsq_at (h : Fin 8) (s : Fin 8192) (i : Fin 1) :
    rsq S (ix3 h s i) = ((1 / (zs R h s * zs R h s) : ℝ) : EReal) := by
  have e : rsq S (ix3 h s i) =
      Ideal.div (Ideal.ofBits .f32 0x3F800000#32) (rden S (ix2 h s) * rden S (ix2 h s)) := by
    pointwise [rsq]
  have hz := (zs_pos R h s).ne'
  rw [e, rden_at hS, bits_one, ← EReal.coe_mul, Ideal.div_coe (mul_ne_zero hz hz), ← EReal.coe_mul, one_mul]

include hP in
theorem corr_at (h : Fin 8)
    (s : Fin 8192) : corr S P (ix2 h s) = (cor R W h s : EReal) := by
  have e : corr S P (ix2 h s) =
      ∑ t, P (ix3 h s t) * rsq S (ix3 h s 0) * rex S (ix3 h s t) := by
    pointwise [corr]
  rw [e]
  simp only [hP h, rsq_at hS, rex_at hS, ← EReal.coe_mul]
  rw [sum_real, cor]

include hP in
theorem sub1_at (h : Fin 8)
    (s : Fin 8192) : sub1 S P (ix2 h s) = ((- cor R W h s : ℝ) : EReal) := by
  have e : sub1 S P (ix2 h s) = - corr S P (ix2 h s) := by
    pointwise [sub1]
    exact Fin.sum_univ_one _
  rw [e, corr_at hS hP, ← EReal.coe_neg]

include hP in
theorem quo_at (h : Fin 8)
    (s t : Fin 8192) : quo S P (ix3 h s t) = ((W h s t / zs R h s : ℝ) : EReal) := by
  have e : quo S P (ix3 h s t) = Ideal.div (P (ix3 h s t)) (rden S (ix2 h s)) := by
    pointwise [quo]
  rw [e, hP h, rden_at hS, Ideal.div_coe (zs_pos R h s).ne']
  rw [← EReal.coe_mul, mul_one_div]

include hP in
theorem dsc_at (h : Fin 8)
    (s t : Fin 8192) : dsc S P (ix3 h s t) = (dsv R W h s t : EReal) := by
  have ei : inner S P (ix3 h s t) =
      quo S P (ix3 h s t) + sub1 S P (ix2 h s) := by
    pointwise [inner]
  have e : dsc S P (ix3 h s t) = Scalar.select (IntOp.cmpi .sle (BitVec.ofNat 32 t.val) (BitVec.ofNat 32 s.val))
      (inner S P (ix3 h s t) * rex S (ix3 h s t)) (0 : EReal) := by
    pointwise [dsc]
  rw [e, ei, quo_at hS hP, sub1_at hS hP,
    rex_at hS, ← EReal.coe_add, ← EReal.coe_mul, Scalar.select,
    WordCmp.cmpi_sle_ofNat (by omega) (by omega), WordCmp.ofBool_decide_eq_ite, dsv]
  split_ifs <;> simp_all

include hP in
theorem dss_at {b : BitVec 32} {a : ℝ} (hb : Ideal.ofBits .f32 b = (a : EReal)) : Pairs (dss b S P) (fun h s t => dsv R W h s t * a) := by
  intro h s t
  have e : dss b S P (ix3 h s t) = dsc S P (ix3 h s t) * Ideal.ofBits .f32 b := by
    pointwise [dss]
  rw [e, dsc_at hS hP, hb, ← EReal.coe_mul]

omit hS

/-! ### Sums over a head's lanes -/

theorem sum_split (f : Fin 128 → ℝ) :
    ∑ l, f l = (∑ x : Fin 64, f ⟨x.val, by omega⟩) + ∑ y : Fin 64, f ⟨64 + y.val, by omega⟩ :=
  Fin.sum_univ_add (a := 64) (b := 64) f

theorem sum_front (n : ℕ) (hn : n ≤ 64) (f : Fin 64 → ℝ) (h0 : ∀ y : Fin 64, n ≤ y.val → f y = 0) :
    ∑ y, f y = ∑ k : Fin n, f ⟨k.val, by omega⟩ := by
  have e1 : ∑ y, f y = ∑ i ∈ Finset.range 64, (if hi : i < 64 then f ⟨i, hi⟩ else 0) := by
    rw [← Fin.sum_univ_eq_sum_range (fun i => if hi : i < 64 then f ⟨i, hi⟩ else 0)]
    exact Finset.sum_congr rfl fun y _ => by rw [dif_pos y.isLt]
  have e2 : ∑ k : Fin n, f ⟨k.val, by omega⟩ = ∑ i ∈ Finset.range n, (if hi : i < 64 then f ⟨i, hi⟩ else 0) := by
    rw [← Fin.sum_univ_eq_sum_range (fun i => if hi : i < 64 then f ⟨i, hi⟩ else 0)]
    exact Finset.sum_congr rfl fun y _ => by rw [dif_pos (show y.val < 64 by omega)]
  rw [e1, e2]
  refine (Finset.sum_subset (Finset.range_subset_range.mpr hn) fun i h1 h2 => ?_).symm
  have := Finset.mem_range.mp h1
  rw [dif_pos this]
  exact h0 _ (by simpa using h2)

theorem sum_tail3 (A B : Fin 64 → ℝ) (a b d a' b' d' : ℝ) :
    ∑ l, tail3 A a b d l * tail3 B a' b' d' l = (∑ x, A x * B x) + (a * a' + b * b' + d * d') := by
  rw [sum_split]
  refine congrArg₂ (· + ·) ?_ ?_
  · refine Finset.sum_congr rfl fun x _ => ?_
    rw [tail3, tail3, dif_pos x.isLt, dif_pos x.isLt]
  · rw [sum_front 3 (by omega) _ fun y hy => ?_]
    · rw [Fin.sum_univ_three]
      simp [tail3]
    · simp only [tail3]
      rw [dif_neg (by omega), if_neg (by omega), if_neg (by omega), if_neg (by omega), zero_mul]

/-! ### The weights -/

variable (R V D)

/-- The gradient of a score, by the row sums of cotangent times output. -/
def sg (h s t : ℕ) : ℝ := pr R h s t * (dpv V D h s t - dl R V D h s)

theorem dl_eq (h : ℕ) (s : Fin 8192) : dl R V D h s = ∑ t : Fin 8192, pr R h s t * dpv V D h s t := by
  simp only [dl, os, dpv, Finset.mul_sum]
  rw [Finset.sum_comm]
  refine Finset.sum_congr rfl fun t _ => Finset.sum_congr rfl fun x _ => ?_
  ring

theorem cor_eq (h : ℕ) (s : Fin 8192) : cor R (dpv V D) h s = dl R V D h s / zs R h s := by
  have hz := (zs_pos R h s).ne'
  rw [dl_eq, cor, Finset.sum_div]
  refine Finset.sum_congr rfl fun t _ => ?_
  rw [pr]
  field_simp

theorem dsv_eq (h t : ℕ) (s : Fin 8192) : dsv R (dpv V D) h s t = sg R V D h s t := by
  have hz := (zs_pos R h s).ne'
  rw [dsv, sg, cor_eq, pr]
  split_ifs with hc
  · field_simp
    ring
  · rw [ev, if_neg hc]
    simp

/-- The value rows. -/
def Vr (h t : ℕ) : Fin 128 → ℝ := tail3 (V h t) 1 1 1
/-- The cotangent rows. -/
def Gr (h s : ℕ) : Fin 128 → ℝ := tail3 (D h s) (- dl R V D h s) 0 0

variable {R} {a : ℝ} {Q K : ℕ → ℕ → Fin 128 → ℝ}
  (hs : ∀ h t s, a * score (Q h) (K h) t s = R h s t - mx R h s - Real.log (zs R h s))
include hs

theorem wt_eq (h t : ℕ) (s : Fin 8192) : wt a (Q h) (K h) t s = pr R h s t := by
  rw [wt, hs, pr, ev]
  split_ifs
  · rw [Real.exp_sub, Real.exp_log (zs_pos R h s)]
  · rw [zero_div]

theorem wd_eq (h t : ℕ) (s : Fin 8192) :
    wd a (Q h) (K h) (Vr V h) (Gr R V D h) t s = sg R V D h s t := by
  rw [wd, wt_eq hs]
  unfold Vr Gr
  rw [sum_tail3, sg, dpv]
  have : (∑ x, V h t x * D h s x) = ∑ x, D h s x * V h t x :=
    Finset.sum_congr rfl fun x _ => mul_comm _ _
  rw [this]
  ring

omit hs

/-! ### The rows the kernel reads -/

variable {V D}

theorem neg_real {x : FVec Ideal S8x8192 .f32} {h : Fin 8} {s : Fin 8192} {r : ℝ} (e : x (ix2 h s) = (r : EReal)) :
    Host.negf x (ix2 h s) = ((- r : ℝ) : EReal) := by
  rw [neg_at, e, ← EReal.coe_neg]

include hV in
theorem holds_v : Holds (rows3 v (col one) (col one) (col one)) (Vr V) := by
  intro s h l
  exact rows3_at _ _ _ _ _ _ _ _ s h l (hV h s) (one_at h s) (one_at h s) (one_at h s)

include hS hV hD in
theorem holds_g : Holds (rows3 d (col (hi (Host.negf (del S v d)))) (col (mid (Host.negf (del S v d)))) (col (lo (Host.negf (del S v d))))) (Gr R V D) := by
  intro s h l
  have e := neg_real (del_at hS hV hD h s)
  exact rows3_at _ _ _ _ _ _ _ _ s h l (hD h s) ((hi_at _ h s).trans e) (mid_at _ h s _ e) (lo_at _ h s _ e)

end Cert.Soft
-- ==== Proof.FoxFrame.lean ====
/- The frame of the gated attention's backward call, for any values: what every point of the grid leaves in the staged blocks,
   the body's triple at a generic point, and the launch. -/
module

public import proofs.«01_k».proof.Proof.FlashRun
public import Idealize.ShloMosaic.Lib.Claim

@[expose] public section

set_option maxRecDepth 16384

noncomputable section

namespace Cert.Kernel2Ideal.Fox

open Cert.Kernel2Ideal Cert.Kernel2Ideal.Gen Cert.Flash
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxRecDepth 65536 in
/-- The printed body is the shared one. -/
theorem body_eq (i : grid0.Coords) (arg2 : Memref sig .tc .vmem S8192x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x128 .bf16) (harg7 : arg7.IsWhole) (arg8 : Memref sig .tc .vmem S8192x128 .f32) (harg8 : arg8.IsWhole) :
    cc0_fox_bwd (F := F) i arg2 harg2 arg3 harg3 arg4 harg4 arg5 harg5 arg6 harg6 arg7 harg7 arg8 harg8
      = Cert.Flash.body i arg2 arg3 arg4 arg5 arg6 arg7 harg7 arg8 k0_pay65 k0_pay1 (k0_t2_body i arg2 harg2 arg3 harg3 arg4 harg4 arg5 harg5 arg6 harg6 arg7 harg7 arg8 harg8) := by
  rw [cc0_fox_bwd_eq_skeleton]
  rfl

/-- The carried values at the end of point `t`. -/
abbrev carried (c : Dev nD) (t : Fin cfg0.N) : St F := Cert.Flash.carried k0_pay1 (iblk m c 0) (iblk m c 3) (iblk m c 1) (iblk m c 2) t

/-- The proof data: each block as the body leaves it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay65 (carried m c t).1.1
    | ⟨5, _⟩ => k0_pay66 (carried m c t).1.2
    | ⟨6, _⟩ => dqEnd (grid0.coords t) k0_pay1 (carried m c t).2
  Φ _ := Pipeline.ΦA spec0 c
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = k0_pay65 (carried m c t).1.1 := by dsimp only [dats]
theorem after_5 (c : Dev nD) (t : Fin cfg0.N) : (dats m 0 c).after 5 t = k0_pay66 (carried m c t).1.2 := by dsimp only [dats]
theorem after_6 (c : Dev nD) (t : Fin cfg0.N) : (dats m 0 c).after 6 t = dqEnd (grid0.coords t) k0_pay1 (carried m c t).2 := by dsimp only [dats]

theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
/-- Inside a head dq's buffer holds what the point before left. -/
theorem before_6 (c : Dev nD) (t : Fin cfg0.N) (h : ¬t.val % 8 = 0) (d) : (dats m 0 c).before 6 t d = dqIn k0_pay1 (iblk m c 0) (iblk m c 3) (iblk m c 1) (iblk m c 2) t.val := by
  have hN : t.val < 64 := lt_of_lt_of_eq t.isLt (show cfg0.N = 64 from N_0)
  have hp : t.val - 1 < cfg0.N := Nat.lt_of_le_of_lt (Nat.sub_le _ _) t.isLt
  have e : t.val = (⟨t.val - 1, hp⟩ : Fin cfg0.N).val + 1 := by dsimp only; omega
  have r := dqIn_succ k0_pay1 (iblk m c 0) (iblk m c 3) (iblk m c 1) (iblk m c 2) ⟨t.val - 1, hp⟩
  rw [← e] at r
  rw [Dat.before_out_kept _ 6 rfl t (by omega) (Bool.eq_false_iff.mpr fun h' => by have := (flush0_6 _).mp h'; dsimp only at this; omega)
    (fun _ => rfl) (fun _ _ => rfl), r]
  dsimp only [dats]

/-- The value the point ends with, from whatever its dq buffer holds. -/
theorem carried_of (c : Dev nD) (t : Fin cfg0.N) (d) : leaveAt (iblk m c 0) (iblk m c 3) (iblk m c 1) (iblk m c 2) t ((dats m 0 c).before 6 t d) = carried m c t := by
  by_cases h : t.val % 8 = 0
  · exact leaveAt_first _ _ _ _ t h _ _
  · rw [before_6 m c t h]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  exact point_run defs₀ c t _ _ _ _ _ _ _ _ k0_pay65 k0_pay1 (iblk m c 0) (iblk m c 3) (iblk m c 1) (iblk m c 2) _ _ _ _ _ _ _
    (body_eq _ _ _ _ _ _ _ _ _ _ _ _ _ _ _) (carried_of m c t)

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every array as the proof data says, every counter at zero. -/
theorem launch : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (launch m ρ)

/-- The arguments end as they were, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (launch m ρ))

end Cert.Kernel2Ideal.Fox
end
-- ==== Proof.FoxValue.lean ====
/- The gated attention's backward call at the extended reals: from finite operands its three results are the plain sums. -/
module

public import proofs.«01_k».proof.Proof.FlashValue
public import proofs.«01_k».proof.Proof.FoxFrame

@[expose] public section

set_option maxRecDepth 16384

noncomputable section

namespace Cert.Kernel2Ideal.Fox

open Cert.Kernel2Ideal Cert.Kernel2Ideal.Gen Cert.Flash
open Idealize.ShloMosaic Idealize.ShloMosaic.TcCoe
open Idealize.SL.Sem
open Idealize.ShloMosaic.Pipeline (Dat)

variable (m : (ℓ : Loc nD τ sig) → Buf (Elt Ideal) ℓ)

/-- The scores' scale is an eighth. -/
instance consts : Consts (1 / 8) where
  pos := by norm_num
  c := rfl
  mask := rfl

/-- The scaling of a gradient's lanes: an eighth for the features. -/
def lane (l : Fin 128) : ℝ := if l.val < 64 then 1 / 8 else 1
theorem lane_eq (l : Fin 128) : (Scalar.select (IntOp.cmpi .slt (BitVec.ofNat 32 l.val) 64#32) (Ideal.ofBits .f32 1040187392#32) (1 : EReal)) = (lane l : EReal) := by
  have hc : (IntOp.cmpi .slt (BitVec.ofNat 32 l.val) 64#32) = if l.val < 64 then 1#1 else 0#1 := by
    have := l.isLt
    word_cmp
    exact WordCmp.ofBool_decide_eq_ite _
  rw [hc, lane]
  split
  · show Ideal.ofBits .f32 0x3E000000#32 = _
    simp [Ideal.ofBits, Ideal.ieee, -EReal.coe_mul]; norm_num
  · rfl
theorem pay65_at (a : FVec Ideal S1024x128 .f32) (r : Fin 1024) (l : Fin 128) : k0_pay65 a (ix2 r l) = a (ix2 r l) * (lane l : EReal) := by
  pointwise [k0_pay65]
  rw [lane_eq]
theorem pay1_at (a : FVec Ideal S8192x128 .f32) (r : Fin 8192) (l : Fin 128) : k0_pay1 a (ix2 r l) = a (ix2 r l) * (lane l : EReal) := by
  pointwise [k0_pay1]
  rw [lane_eq]

variable {m} {c : Dev nD} {Q K V G : ℕ → ℕ → Fin 128 → ℝ}

theorem idx : ∀ t : Fin cfg0.N, win0_0.index t = ![0, t.val / 8] ∧ win0_1.index t = ![t.val % 8, t.val / 8] ∧ win0_2.index t = ![t.val % 8, t.val / 8] ∧ win0_3.index t = ![0, t.val / 8]
    ∧ win0_4.index t = ![t.val % 8, t.val / 8] ∧ win0_5.index t = ![t.val % 8, t.val / 8] ∧ win0_6.index t = ![0, t.val / 8] :=
  (by decide +kernel : ∀ t : Fin grid0.N, _)
theorem flush_6 : ∀ t : Fin cfg0.N, (cfg0.win 6).flush t = true → t.val % 8 = 7 := by decide +kernel
section blocks
variable (hQ : Holds (Gen.V m c main_v79) Q) (hK : Holds (Gen.V m c main_v111) K) (hV : Holds (Gen.V m c main_v124) V) (hG : Holds (Gen.V m c main_v143) G)

include hQ in
theorem q_rows (t : Fin cfg0.N) : IsRows 8192 (iblk m c 0 t) (Q (t.val / 8)) 0 := by
  intro r l
  have ht : t.val < 64 := lt_of_lt_of_eq t.isLt N_0
  show (Gen.V m c main_v79 : FVec Ideal S8192x1024 .bf16) (((cfg0.win 0).blk t).view.emb (ix2 r l)) = _
  have e : ((cfg0.win 0).blk t).view.emb (ix2 r l) = (ix2 r (⟨128 * (⟨t.val / 8, by omega⟩ : Fin 8).val + l.val, by simp only; omega⟩ : Fin 1024) : S8192x1024.Idx) := by blk_ext [idx t]
  rw [e, hQ r ⟨t.val / 8, by omega⟩ l]
  show _ = ((Q (t.val / 8) (0 + r.val) l : ℝ) : EReal)
  rw [Nat.zero_add]

include hG in
theorem g_rows (t : Fin cfg0.N) : IsRows 8192 (iblk m c 3 t) (G (t.val / 8)) 0 := by
  intro r l
  have ht : t.val < 64 := lt_of_lt_of_eq t.isLt N_0
  show (Gen.V m c main_v143 : FVec Ideal S8192x1024 .bf16) (((cfg0.win 3).blk t).view.emb (ix2 r l)) = _
  have e : ((cfg0.win 3).blk t).view.emb (ix2 r l) = (ix2 r (⟨128 * (⟨t.val / 8, by omega⟩ : Fin 8).val + l.val, by simp only; omega⟩ : Fin 1024) : S8192x1024.Idx) := by blk_ext [idx t]
  rw [e, hG r ⟨t.val / 8, by omega⟩ l]
  show _ = ((G (t.val / 8) (0 + r.val) l : ℝ) : EReal)
  rw [Nat.zero_add]

include hK in
theorem k_rows (t : Fin cfg0.N) : IsRows 1024 (iblk m c 1 t) (K (t.val / 8)) (1024 * (t.val % 8)) := by
  intro r l
  have ht : t.val < 64 := lt_of_lt_of_eq t.isLt N_0
  show (Gen.V m c main_v111 : FVec Ideal S8192x1024 .bf16) (((cfg0.win 1).blk t).view.emb (ix2 r l)) = _
  have e : ((cfg0.win 1).blk t).view.emb (ix2 r l) = (ix2 (⟨1024 * (t.val % 8) + r.val, by omega⟩ : Fin 8192) (⟨128 * (⟨t.val / 8, by omega⟩ : Fin 8).val + l.val, by simp only; omega⟩ : Fin 1024) : S8192x1024.Idx) := by blk_ext [idx t]
  rw [e, hK _ ⟨t.val / 8, by omega⟩ l]

include hV in
theorem v_rows (t : Fin cfg0.N) : IsRows 1024 (iblk m c 2 t) (V (t.val / 8)) (1024 * (t.val % 8)) := by
  intro r l
  have ht : t.val < 64 := lt_of_lt_of_eq t.isLt N_0
  show (Gen.V m c main_v124 : FVec Ideal S8192x1024 .bf16) (((cfg0.win 2).blk t).view.emb (ix2 r l)) = _
  have e : ((cfg0.win 2).blk t).view.emb (ix2 r l) = (ix2 (⟨1024 * (t.val % 8) + r.val, by omega⟩ : Fin 8192) (⟨128 * (⟨t.val / 8, by omega⟩ : Fin 8).val + l.val, by simp only; omega⟩ : Fin 1024) : S8192x1024.Idx) := by blk_ext [idx t]
  rw [e, hV _ ⟨t.val / 8, by omega⟩ l]

include hQ hK hV hG
theorem blocks : Blocks (iblk m c 0) (iblk m c 3) (iblk m c 1) (iblk m c 2) Q K V G := ⟨q_rows hQ, g_rows hG, k_rows hK, v_rows hV⟩

theorem final_dk : (dats m 0 c).arrAt 4 (cfgs 0).N = DK (1 / 8) lane Q K V G := by
  refine (dats m 0 c).arrAt_eq_of_covers 4 _ (by decide +kernel) fun t _ y => ?_
  have ht : t.val < 64 := lt_of_lt_of_eq t.isLt N_0
  blk_simp
  rw [after_4]
  idx_vars y
  obtain_idx i : S8192x1024 := [1024 * (t.val % 8) + (y0 : ℕ), 128 * (t.val / 8) + (y1 : ℕ)] with hi
  exact (dk_point pay65_at (blocks hQ hK hV hG) t y1 i hi1 y0 hi0).trans (congrArg _ (by blk_ext [idx t]))

theorem final_dv : (dats m 0 c).arrAt 5 (cfgs 0).N = DV (1 / 8) Q K G := by
  refine (dats m 0 c).arrAt_eq_of_covers 5 _ (by decide +kernel) fun t _ y => ?_
  have ht : t.val < 64 := lt_of_lt_of_eq t.isLt N_0
  blk_simp
  rw [after_5]
  idx_vars y
  obtain_idx i : S8192x1024 := [1024 * (t.val % 8) + (y0 : ℕ), 128 * (t.val / 8) + (y1 : ℕ)] with hi
  exact (dv_point (blocks hQ hK hV hG) t y1 i hi1 y0 hi0).trans (congrArg _ (by blk_ext [idx t]))

theorem final_dq : (dats m 0 c).arrAt 6 (cfgs 0).N = DQ (1 / 8) lane Q K V G := by
  refine (dats m 0 c).arrAt_eq_of_covers 6 _ (by decide +kernel) fun t hf y => ?_
  have ht : t.val < 64 := lt_of_lt_of_eq t.isLt N_0
  blk_simp
  rw [after_6]
  idx_vars y
  obtain_idx i : S8192x1024 := [(y0 : ℕ), 128 * (t.val / 8) + (y1 : ℕ)] with hi
  exact (dq_point pay1_at (blocks hQ hK hV hG) t y1 i hi1 (flush_6 t hf) y0 hi0).trans (congrArg _ (by blk_ext [idx t]))
end blocks

end Cert.Kernel2Ideal.Fox
end
-- ==== Proof.FoxHost.lean ====
module

public import proofs.«01_k».proof.Proof.SoftRef
public import proofs.«01_k».proof.Proof.FoxValue
public import Idealize.ShloMosaic.Lib.Pointwise
public import Idealize.ShloMosaic.Lib.Routing.OpsOne

/-!
# Forgetting attention: the arrays the host prepares
-/

@[expose] public section

set_option maxRecDepth 16384

noncomputable section

namespace Cert.Kernel2Ideal.Fox

open Idealize.ShloMosaic Idealize.ShloMosaic.TcCoe Idealize.SL.Sem
open Gen Cert.Flash Cert.Soft

/-- Rows of all heads side by side, as one array per head. -/
def heads (X : FVec Ideal S8192x512 .f32) : FVec Ideal S8x8192x64 .f32 :=
  transpose S8x8192x64 [1, 0, 2] (shapeCast S8192x8x64 X shapeCasts_S8192x512_S8192x8x64) transposes_S8192x8x64_S8x8192x64_1_0_2

/-- The forget sums, a row per head. -/
def fh (X3 : FVec Ideal S8192x8 .f32) : FVec Ideal S8x8192 .f32 :=
  transpose S8x8192 [1, 0] X3 transposes_S8192x8_S8x8192_1_0

/-- The scores before the mask. -/
def raw (X0 : FVec Ideal S8192x512 .f32) (X1 : FVec Ideal S8192x512 .f32) (X3 : FVec Ideal S8192x8 .f32) : FVec Ideal S8x8192x8192 .f32 :=
  subf (addf (mulf (Host.dotGeneral dot_S8x8192x64_S8x8192x64_S8x8192x8192_2_2_1_1_0_0 none (heads X0) (heads X1)) (broadcastInDim S8x8192x8192 ![] bcast_S_S8x8192x8192 (constant S_ .f32 0x3E000000#32))) (broadcastInDim S8x8192x8192 ![0, 1, 2] bcast_S8x8192x1_S8x8192x8192_0_1_2 (broadcastInDim S8x8192x1 ![0, 1] bcast_S8x8192_S8x8192x1_0_1 (fh X3)))) (broadcastInDim S8x8192x8192 ![0, 1, 2] bcast_S8x1x8192_S8x8192x8192_0_1_2 (broadcastInDim S8x1x8192 ![0, 2] bcast_S8x8192_S8x1x8192_0_2 (fh X3)))

/-- The masked scores. -/
def sc (X0 : FVec Ideal S8192x512 .f32) (X1 : FVec Ideal S8192x512 .f32) (X3 : FVec Ideal S8192x8 .f32) : FVec Ideal S8x8192x8192 .f32 :=
  masked (raw X0 X1 X3)

/-- The row sums of the forward pass, over the scale. -/
def ls8 (X0 : FVec Ideal S8192x512 .f32) (X1 : FVec Ideal S8192x512 .f32) (X3 : FVec Ideal S8192x8 .f32) : FVec Ideal S8x8192 .f32 :=
  lse 0x3E000000#32 (sc X0 X1 X3)

/-- The row sums of cotangent times output. -/
def dels (X0 : FVec Ideal S8192x512 .f32) (X1 : FVec Ideal S8192x512 .f32) (X2 : FVec Ideal S8192x512 .f32) (X3 : FVec Ideal S8192x8 .f32) (X4 : FVec Ideal S8192x512 .f32) : FVec Ideal S8x8192 .f32 :=
  del (sc X0 X1 X3) (heads X2) (heads X4)

/-- The forget sums over the scale. -/
def f8 (X3 : FVec Ideal S8192x8 .f32) : FVec Ideal S8x8192 .f32 :=
  transpose S8x8192 [1, 0] (mulf X3 (broadcastInDim S8192x8 ![] bcast_S_S8192x8 (constant S_ .f32 0x41000000#32))) transposes_S8192x8_S8x8192_1_0

/-- The features of a head and nine further lanes, heads side by side again. -/
def rows9 (A : FVec Ideal S8x8192x64 .f32) (c0 c1 c2 c3 c4 c5 c6 c7 c8 : FVec Ideal S8x8192x1 .f32) :
    FVec Ideal S8192x1024 .bf16 :=
  truncf .bf16 (shapeCast S8192x1024 (transpose S8192x8x128 [1, 0, 2] (pad S8x8192x128 ![0, 0, 0] ![0, 0, 55] ![0, 0, 0] (concatenate S8x8192x73 2 [⟨S8x8192x64, A⟩, ⟨S8x8192x1, c0⟩, ⟨S8x8192x1, c1⟩, ⟨S8x8192x1, c2⟩, ⟨S8x8192x1, c3⟩, ⟨S8x8192x1, c4⟩, ⟨S8x8192x1, c5⟩, ⟨S8x8192x1, c6⟩, ⟨S8x8192x1, c7⟩, ⟨S8x8192x1, c8⟩] concatenates_S8x8192x64_S8x8192x1_S8x8192x1_S8x8192x1_S8x8192x1_S8x8192x1_S8x8192x1_S8x8192x1_S8x8192x1_S8x8192x1_S8x8192x73_d2) (sitofp .f32 (constantI S_ 32 0#32)) pads_S8x8192x73_S8x8192x128_000_000_0550 h_S_) transposes_S8x8192x128_S8192x8x128_1_0_2) shapeCasts_S8192x8x128_S8192x1024) bitsLt_bf16_f32

/-- The query rows. -/
def qs (X0 X1 : FVec Ideal S8192x512 .f32) (X3 : FVec Ideal S8192x8 .f32) : FVec Ideal S8192x1024 .bf16 :=
  rows9 (heads X0) (col (hi (f8 X3))) (col (mid (f8 X3))) (col (lo (f8 X3)))
    (col (hi (Host.negf (ls8 X0 X1 X3)))) (col (mid (Host.negf (ls8 X0 X1 X3)))) (col (lo (Host.negf (ls8 X0 X1 X3))))
    (col one) (col one) (col one)

/-- The key rows. -/
def ks (X1 : FVec Ideal S8192x512 .f32) (X3 : FVec Ideal S8192x8 .f32) : FVec Ideal S8192x1024 .bf16 :=
  rows9 (heads X1) (col one) (col one) (col one) (col one) (col one) (col one)
    (col (hi (Host.negf (f8 X3)))) (col (mid (Host.negf (f8 X3)))) (col (lo (Host.negf (f8 X3))))

/-- The value rows. -/
def vs (X2 : FVec Ideal S8192x512 .f32) : FVec Ideal S8192x1024 .bf16 :=
  rows3 (heads X2) (col one) (col one) (col one)

/-- The cotangent rows. -/
def ds (X0 X1 X2 : FVec Ideal S8192x512 .f32) (X3 : FVec Ideal S8192x8 .f32) (X4 : FVec Ideal S8192x512 .f32) :
    FVec Ideal S8192x1024 .bf16 :=
  rows3 (heads X4) (col (hi (Host.negf (dels X0 X1 X2 X3 X4)))) (col (mid (Host.negf (dels X0 X1 X2 X3 X4))))
    (col (lo (Host.negf (dels X0 X1 X2 X3 X4))))

section Entry

variable (m : (ℓ : Loc nD τ sig) → Buf (Elt Ideal) ℓ) (c : Dev nD)

/-- The first argument. -/
abbrev arg0 : FVec Ideal S8192x512 .f32 := m ((c : Thread nD τ).loc main_arg0)
/-- The second argument. -/
abbrev arg1 : FVec Ideal S8192x512 .f32 := m ((c : Thread nD τ).loc main_arg1)
/-- The third argument. -/
abbrev arg2 : FVec Ideal S8192x512 .f32 := m ((c : Thread nD τ).loc main_arg2)
/-- The fourth argument. -/
abbrev arg3 : FVec Ideal S8192x8 .f32 := m ((c : Thread nD τ).loc main_arg3)
/-- The fifth argument. -/
abbrev arg4 : FVec Ideal S8192x512 .f32 := m ((c : Thread nD τ).loc main_arg4)

theorem rows9_congr {A A' : FVec Ideal S8x8192x64 .f32}
    {a a' b b' d d' e e' f f' g g' h h' i i' j j' : FVec Ideal S8x8192x1 .f32}
    (hA : A = A') (ha : a = a') (hb : b = b') (hd : d = d') (he : e = e') (hf : f = f') (hg : g = g')
    (hh : h = h') (hi : i = i') (hj : j = j') :
    rows9 A a b d e f g h i j = rows9 A' a' b' d' e' f' g' h' i' j' := by
  rw [hA, ha, hb, hd, he, hf, hg, hh, hi, hj]

/-- What the value rows hold. -/
theorem at_vs : (Gen.V m c main_v124 : FVec Ideal S8192x1024 .bf16) = vs (arg2 m c) := by
  unfold Gen.V
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, List.flatten_cons, List.flatten_nil, List.cons_append,
    List.nil_append, List.append_nil, StableHlo.TRef.binary, StableHlo.TRef.unary, StableHlo.TRef.ternary,
    StableHlo.TRef.toBuf, StableHlo.TRef.ofBuf, cast_eq]
  after_results_simp
  refine rows3_congr ?_ ?_ ?_ ?_ <;> dsimp only [Matrix.cons_val] <;> after_results_simp <;> rfl

/-- What the key rows hold. -/
theorem at_ks : (Gen.V m c main_v111 : FVec Ideal S8192x1024 .bf16) = ks (arg1 m c) (arg3 m c) := by
  unfold Gen.V
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, List.flatten_cons, List.flatten_nil, List.cons_append,
    List.nil_append, List.append_nil, StableHlo.TRef.binary, StableHlo.TRef.unary, StableHlo.TRef.ternary,
    StableHlo.TRef.toBuf, StableHlo.TRef.ofBuf, cast_eq]
  after_results_simp
  refine rows9_congr ?_ ?_ ?_ ?_ ?_ ?_ ?_ ?_ ?_ ?_ <;> dsimp only [Matrix.cons_val] <;> after_results_simp <;> rfl

/-- What the query rows hold. -/
theorem at_qs : (Gen.V m c main_v79 : FVec Ideal S8192x1024 .bf16) = qs (arg0 m c) (arg1 m c) (arg3 m c) := by
  unfold Gen.V
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, List.flatten_cons, List.flatten_nil, List.cons_append,
    List.nil_append, List.append_nil, StableHlo.TRef.binary, StableHlo.TRef.unary, StableHlo.TRef.ternary,
    StableHlo.TRef.toBuf, StableHlo.TRef.ofBuf, cast_eq]
  after_results_simp
  refine rows9_congr ?_ ?_ ?_ ?_ ?_ ?_ ?_ ?_ ?_ ?_ <;> dsimp only [Matrix.cons_val] <;> after_results_simp <;> rfl

/-- What the cotangent rows hold. -/
theorem at_ds : (Gen.V m c main_v143 : FVec Ideal S8192x1024 .bf16) = ds (arg0 m c) (arg1 m c) (arg2 m c) (arg3 m c) (arg4 m c) := by
  unfold Gen.V
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, List.flatten_cons, List.flatten_nil, List.cons_append,
    List.nil_append, List.append_nil, StableHlo.TRef.binary, StableHlo.TRef.unary, StableHlo.TRef.ternary,
    StableHlo.TRef.toBuf, StableHlo.TRef.ofBuf, cast_eq]
  after_results_simp
  refine rows3_congr ?_ ?_ ?_ ?_ <;> dsimp only [Matrix.cons_val] <;> after_results_simp <;> rfl

end Entry

end Cert.Kernel2Ideal.Fox
-- ==== Proof.FoxPoint.lean ====
module

public import proofs.«01_k».proof.Proof.FoxHost
public import proofs.«01_k».proof.Proof.OwnFinite

/-!
# Forgetting attention: the host's arrays, entry by entry

Where the arguments are real numbers, so is every array the host computes from them but the masked scores.
-/

@[expose] public section

set_option maxRecDepth 16384

noncomputable section

namespace Cert.Kernel2Ideal.Fox

open Idealize.ShloMosaic Idealize.ShloMosaic.TcCoe Idealize.SL.Sem
open Gen Cert.Flash Cert.Soft
open Cert.Own (AllReal)

/-! ### Literals -/

theorem bits_eighth : Ideal.ofBits .f32 0x3E000000#32 = ((1 / 8 : ℝ) : EReal) := by
  simp [Ideal.ofBits, Ideal.ieee, -EReal.coe_mul]; norm_num

theorem bits_eight : Ideal.ofBits .f32 0x41000000#32 = ((8 : ℝ) : EReal) := by
  simp [Ideal.ofBits, Ideal.ieee, -EReal.coe_mul]; norm_num

/-! ### The arguments as real numbers -/

/-- Lane `x` of head `h` in row `s`. -/
def feat (X : FVec Ideal S8192x512 .f32) (h s : ℕ) (x : Fin 64) : ℝ :=
  if hh : h < 8 ∧ s < 8192 then
    EReal.toReal (X (ix2 ⟨s, hh.2⟩ ⟨64 * h + x.val, by omega⟩)) else 0

/-- The forget sum of head `h` in row `s`. -/
def lev (X : FVec Ideal S8192x8 .f32) (h s : ℕ) : ℝ :=
  if hh : h < 8 ∧ s < 8192 then EReal.toReal (X (ix2 ⟨s, hh.2⟩ ⟨h, hh.1⟩)) else 0

theorem feat_eq {X : FVec Ideal S8192x512 .f32} (hX : AllReal X) (h : Fin 8) (s : Fin 8192) (x : Fin 64) :
    X (ix2 s ⟨64 * h.val + x.val, by omega⟩) = (feat X h s x : EReal) := by
  rw [feat, dif_pos ⟨h.2, s.2⟩]
  exact (EReal.coe_toReal (hX _).1 (hX _).2).symm

theorem lev_eq {X : FVec Ideal S8192x8 .f32} (hX : AllReal X) (h : Fin 8) (s : Fin 8192) :
    X (ix2 s h) = (lev X h s : EReal) := by
  rw [lev, dif_pos ⟨h.2, s.2⟩]
  exact (EReal.coe_toReal (hX _).1 (hX _).2).symm

theorem heads_ix (X : FVec Ideal S8192x512 .f32) (h : Fin 8) (s : Fin 8192) (x : Fin 64) :
    heads X (ix3 h s x) = X (ix2 s ⟨64 * h.val + x.val, by omega⟩) := by
  pointwise [heads]
  congr 2
  exact Fin.ext (by simp only []; omega)

theorem heads_at {X : FVec Ideal S8192x512 .f32} (hX : AllReal X) : Feats 64 (heads X) (feat X) := fun h s x =>
  (heads_ix X h s x).trans (feat_eq hX h s x)

section Scores

variable (X0 X1 X2 X4 : FVec Ideal S8192x512 .f32) (X3 : FVec Ideal S8192x8 .f32)

/-- The score of query row `s` and key row `t`. -/
def rs (h s t : ℕ) : ℝ :=
  (∑ x, feat X0 h s x * feat X1 h t x) * (1 / 8) + lev X3 h s - lev X3 h t

theorem raw_at (h0 : AllReal X0) (h1 : AllReal X1) (h3 : AllReal X3)
    : Pairs (raw X0 X1 X3) (rs X0 X1 X3) := by
  intro h s t
  pointwise [raw, fh]
  rw [bits_eighth, lev_eq h3, lev_eq h3]
  simp only [heads_at h0 h, heads_at h1 h, ← EReal.coe_mul]
  rw [sum_real, ← EReal.coe_mul, ← EReal.coe_add, ← EReal.coe_sub, rs]

theorem scores (h0 : AllReal X0) (h1 : AllReal X1) (h3 : AllReal X3) : Scores (sc X0 X1 X3) (rs X0 X1 X3) :=
  masked_at (raw_at X0 X1 X3 h0 h1 h3)

theorem f8_at (h3 : AllReal X3) (h : Fin 8) (s : Fin 8192) :
    f8 X3 (ix2 h s) = ((lev X3 h s * 8 : ℝ) : EReal) := by
  pointwise [f8]
  rw [lev_eq h3, bits_eight, ← EReal.coe_mul]

end Scores

/-! ### The rows -/

/-- The features, then nine lanes, then zeros. -/
def tail9 (A : Fin 64 → ℝ) (a : Fin 9 → ℝ) (l : Fin 128) : ℝ :=
  if hl : l.val < 64 then A ⟨l.val, hl⟩ else if hl' : l.val - 64 < 9 then a ⟨l.val - 64, hl'⟩ else 0

set_option maxHeartbeats 4000000 in
theorem rows9_at (A : FVec Ideal S8x8192x64 .f32) (a b c d e f g p q : FVec Ideal S8x8192 .f32) (A' : Fin 64 → ℝ)
    (v : Fin 9 → ℝ) (s : Fin 8192) (h : Fin 8) (l : Fin 128) (hA : ∀ x, A (ix3 h s x) = (A' x : EReal))
    (h0 : a (ix2 h s) = (v 0 : EReal)) (h1 : b (ix2 h s) = (v 1 : EReal)) (h2 : c (ix2 h s) = (v 2 : EReal))
    (h3 : d (ix2 h s) = (v 3 : EReal)) (h4 : e (ix2 h s) = (v 4 : EReal)) (h5 : f (ix2 h s) = (v 5 : EReal))
    (h6 : g (ix2 h s) = (v 6 : EReal)) (h7 : p (ix2 h s) = (v 7 : EReal)) (h8 : q (ix2 h s) = (v 8 : EReal)) :
    rows9 A (col a) (col b) (col c) (col d) (col e) (col f) (col g) (col p) (col q)
      (ix2 s ⟨128 * h.val + l.val, by omega⟩) = (tail9 A' v l : EReal) := by
  pointwise [rows9]
  rw [int_zero]
  simp only [hA, h0, h1, h2, h3, h4, h5, h6, h7, h8, col_at, tail9]
  split_ifs <;> first | rfl | omega | (congr 2; exact Fin.ext (by simp; omega))

end Cert.Kernel2Ideal.Fox
-- ==== Proof.FoxRef.lean ====
module

public import proofs.«01_k».proof.Proof.FoxPoint
public import proofs.«01_k».proof.Proof.Gen.Reference2Ideal

/-!
# Forgetting attention: the reference's arrays
-/

@[expose] public section

set_option maxRecDepth 16384

noncomputable section

namespace Cert.Reference2Ideal.Fox

open Idealize.ShloMosaic Idealize.ShloMosaic.TcCoe Idealize.SL.Sem
open Cert.Reference2Ideal.Gen
open Cert.Kernel2Ideal.Fox (heads sc)
open Cert.Flash Cert.Soft

/-- The gradient of the weights. -/
def dps (X2 : FVec Ideal S8192x512 .f32) (X4 : FVec Ideal S8192x512 .f32) : FVec Ideal S8x8192x8192 .f32 :=
  dp (heads X2) (heads X4)

/-- Column sums, negated. -/
def colneg (X0 : FVec Ideal S8192x512 .f32) (X1 : FVec Ideal S8192x512 .f32) (X2 : FVec Ideal S8192x512 .f32) (X3 : FVec Ideal S8192x8 .f32) (X4 : FVec Ideal S8192x512 .f32) : FVec Ideal S8x8192 .f32 :=
  Host.reduceAdd (Host.negf (dsc (sc X0 X1 X3) (dps X2 X4))) (constant S_ .f32 0x00000000#32) reducesTo_S8x8192x8192_S8x8192_d1 h_S_

/-- The same, reshaped. -/
def dfk (X0 : FVec Ideal S8192x512 .f32) (X1 : FVec Ideal S8192x512 .f32) (X2 : FVec Ideal S8192x512 .f32) (X3 : FVec Ideal S8192x8 .f32) (X4 : FVec Ideal S8192x512 .f32) : FVec Ideal S8x8192 .f32 :=
  Host.reduceAdd (shapeCast S8x1x8192 (colneg X0 X1 X2 X3 X4) shapeCasts_S8x8192_S8x1x8192) (constant S_ .f32 0x00000000#32) reducesTo_S8x1x8192_S8x8192_d1 h_S_

/-- Row sums. -/
def rowsum (X0 : FVec Ideal S8192x512 .f32) (X1 : FVec Ideal S8192x512 .f32) (X2 : FVec Ideal S8192x512 .f32) (X3 : FVec Ideal S8192x8 .f32) (X4 : FVec Ideal S8192x512 .f32) : FVec Ideal S8x8192 .f32 :=
  Host.reduceAdd (dsc (sc X0 X1 X3) (dps X2 X4)) (constant S_ .f32 0x00000000#32) reducesTo_S8x8192x8192_S8x8192_d2 h_S_

/-- The same, reshaped. -/
def dfq (X0 : FVec Ideal S8192x512 .f32) (X1 : FVec Ideal S8192x512 .f32) (X2 : FVec Ideal S8192x512 .f32) (X3 : FVec Ideal S8192x8 .f32) (X4 : FVec Ideal S8192x512 .f32) : FVec Ideal S8x8192 .f32 :=
  Host.reduceAdd (shapeCast S8x8192x1 (rowsum X0 X1 X2 X3 X4) shapeCasts_S8x8192_S8x8192x1) (constant S_ .f32 0x00000000#32) reducesTo_S8x8192x1_S8x8192_d2 h_S_

/-- The gradient of the keys. -/
def dkh (X0 : FVec Ideal S8192x512 .f32) (X1 : FVec Ideal S8192x512 .f32) (X2 : FVec Ideal S8192x512 .f32) (X3 : FVec Ideal S8192x8 .f32) (X4 : FVec Ideal S8192x512 .f32) : FVec Ideal S8x8192x64 .f32 :=
  Host.dotGeneral dot_S8x8192x8192_S8x8192x64_S8x8192x64_1_1_2_2_0_0 none (dss 0x3E000000#32 (sc X0 X1 X3) (dps X2 X4)) (heads X0)

/-- The gradient of the queries. -/
def dqh (X0 : FVec Ideal S8192x512 .f32) (X1 : FVec Ideal S8192x512 .f32) (X2 : FVec Ideal S8192x512 .f32) (X3 : FVec Ideal S8192x8 .f32) (X4 : FVec Ideal S8192x512 .f32) : FVec Ideal S8x8192x64 .f32 :=
  Host.dotGeneral dot_S8x8192x8192_S8x8192x64_S8x8192x64_2_1_1_2_0_0 none (dss 0x3E000000#32 (sc X0 X1 X3) (dps X2 X4)) (heads X1)

/-- The first result. -/
def rdk (X0 : FVec Ideal S8192x512 .f32) (X1 : FVec Ideal S8192x512 .f32) (X2 : FVec Ideal S8192x512 .f32) (X3 : FVec Ideal S8192x8 .f32) (X4 : FVec Ideal S8192x512 .f32) : FVec Ideal S8192x1024 .f32 :=
  shapeCast S8192x1024 (pad S8192x8x128 ![0, 0, 0] ![0, 0, 57] ![0, 0, 0] (concatenate S8192x8x71 2 [⟨S8192x8x64, (shapeCast S8192x8x64 (shapeCast S8192x512 (transpose S8192x8x64 [1, 0, 2] (dkh X0 X1 X2 X3 X4) transposes_S8x8192x64_S8192x8x64_1_0_2) shapeCasts_S8192x8x64_S8192x512) shapeCasts_S8192x512_S8192x8x64)⟩, ⟨S8192x8x6, (broadcastInDim S8192x8x6 ![] bcast_S_S8192x8x6 (constant S_ .f32 0x00000000#32))⟩, ⟨S8192x8x1, (Host.negf (broadcastInDim S8192x8x1 ![0, 1] bcast_S8192x8_S8192x8x1_0_1 (transpose S8192x8 [1, 0] (dfk X0 X1 X2 X3 X4) transposes_S8x8192_S8192x8_1_0)))⟩] concatenates_S8192x8x64_S8192x8x6_S8192x8x1_S8192x8x71_d2) (sitofp .f32 (constantI S_ 32 0#32)) pads_S8192x8x71_S8192x8x128_000_000_0570 h_S_) shapeCasts_S8192x8x128_S8192x1024

/-- The second result. -/
def rdv (X0 : FVec Ideal S8192x512 .f32) (X1 : FVec Ideal S8192x512 .f32) (X3 : FVec Ideal S8192x8 .f32) (X4 : FVec Ideal S8192x512 .f32) : FVec Ideal S8192x1024 .bf16 :=
  truncf .bf16 (shapeCast S8192x1024 (pad S8192x8x128 ![0, 0, 0] ![0, 0, 64] ![0, 0, 0] (shapeCast S8192x8x64 (shapeCast S8192x512 (transpose S8192x8x64 [1, 0, 2] (transpose S8x8192x64 [0, 2, 1] (dvt (sc X0 X1 X3) (heads X4)) transposes_S8x64x8192_S8x8192x64_0_2_1) transposes_S8x8192x64_S8192x8x64_1_0_2) shapeCasts_S8192x8x64_S8192x512) shapeCasts_S8192x512_S8192x8x64) (sitofp .f32 (constantI S_ 32 0#32)) pads_S8192x8x64_S8192x8x128_000_000_0640 h_S_) shapeCasts_S8192x8x128_S8192x1024) bitsLt_bf16_f32

/-- The third result. -/
def rdq (X0 : FVec Ideal S8192x512 .f32) (X1 : FVec Ideal S8192x512 .f32) (X2 : FVec Ideal S8192x512 .f32) (X3 : FVec Ideal S8192x8 .f32) (X4 : FVec Ideal S8192x512 .f32) : FVec Ideal S8192x1024 .f32 :=
  shapeCast S8192x1024 (pad S8192x8x128 ![0, 0, 0] ![0, 0, 63] ![0, 0, 0] (concatenate S8192x8x65 2 [⟨S8192x8x64, (shapeCast S8192x8x64 (shapeCast S8192x512 (transpose S8192x8x64 [1, 0, 2] (dqh X0 X1 X2 X3 X4) transposes_S8x8192x64_S8192x8x64_1_0_2) shapeCasts_S8192x8x64_S8192x512) shapeCasts_S8192x512_S8192x8x64)⟩, ⟨S8192x8x1, (broadcastInDim S8192x8x1 ![0, 1] bcast_S8192x8_S8192x8x1_0_1 (transpose S8192x8 [1, 0] (dfq X0 X1 X2 X3 X4) transposes_S8x8192_S8192x8_1_0))⟩] concatenates_S8192x8x64_S8192x8x1_S8192x8x65_d2) (sitofp .f32 (constantI S_ 32 0#32)) pads_S8192x8x65_S8192x8x128_000_000_0630 h_S_) shapeCasts_S8192x8x128_S8192x1024

end Cert.Reference2Ideal.Fox
-- ==== Proof.FoxRefPoint.lean ====
module

public import proofs.«01_k».proof.Proof.FoxRef

/-!
# Forgetting attention: the reference's arrays, entry by entry
-/

@[expose] public section

set_option maxRecDepth 16384

noncomputable section

namespace Cert.Reference2Ideal.Fox

open Idealize.ShloMosaic Idealize.ShloMosaic.TcCoe Idealize.SL.Sem
open Cert.Reference2Ideal.Gen
open Cert.Kernel2Ideal.Fox
open Cert.Flash Cert.Soft
open Cert.Own (AllReal)

section Scores

variable (X0 X1 X2 X4 : FVec Ideal S8192x512 .f32) (X3 : FVec Ideal S8192x8 .f32)

theorem grads (h2 : AllReal X2) (h4 : AllReal X4) : Pairs (dps X2 X4) (dpv (feat X2) (feat X4)) :=
  dp_at (heads_at h2) (heads_at h4)

theorem dfk_at (h0 : AllReal X0) (h1 : AllReal X1) (h2 : AllReal X2) (h3 : AllReal X3) (h4 : AllReal X4) (h : Fin 8)
    (t : Fin 8192) : dfk X0 X1 X2 X3 X4 (ix2 h t) = ((∑ s : Fin 8192, - dsv (rs X0 X1 X3) (dpv (feat X2) (feat X4)) h s t : ℝ) : EReal) := by
  have ei : colneg X0 X1 X2 X3 X4 (ix2 h t) = ∑ s, - dsc (sc X0 X1 X3) (dps X2 X4) (ix3 h s t) := by
    pointwise [colneg]
  have e : dfk X0 X1 X2 X3 X4 (ix2 h t) = colneg X0 X1 X2 X3 X4 (ix2 h t) := by
    pointwise [dfk]
    exact Fin.sum_univ_one _
  rw [e, ei]
  simp only [dsc_at (scores X0 X1 X3 h0 h1 h3) (grads X2 X4 h2 h4), ← EReal.coe_neg]
  rw [sum_real]

theorem dfq_at (h0 : AllReal X0) (h1 : AllReal X1) (h2 : AllReal X2) (h3 : AllReal X3) (h4 : AllReal X4) (h : Fin 8)
    (s : Fin 8192) : dfq X0 X1 X2 X3 X4 (ix2 h s) = ((∑ t : Fin 8192, dsv (rs X0 X1 X3) (dpv (feat X2) (feat X4)) h s t : ℝ) : EReal) := by
  have ei : rowsum X0 X1 X2 X3 X4 (ix2 h s) = ∑ t, dsc (sc X0 X1 X3) (dps X2 X4) (ix3 h s t) := by
    pointwise [rowsum]
  have e : dfq X0 X1 X2 X3 X4 (ix2 h s) = rowsum X0 X1 X2 X3 X4 (ix2 h s) := by
    pointwise [dfq]
    exact Fin.sum_univ_one _
  rw [e, ei]
  simp only [dsc_at (scores X0 X1 X3 h0 h1 h3) (grads X2 X4 h2 h4)]
  rw [sum_real]

theorem dkh_at (h0 : AllReal X0) (h1 : AllReal X1) (h2 : AllReal X2) (h3 : AllReal X3) (h4 : AllReal X4) (h : Fin 8)
    (t : Fin 8192) (x : Fin 64) : dkh X0 X1 X2 X3 X4 (ix3 h t x) =
      ((∑ s : Fin 8192, dsv (rs X0 X1 X3) (dpv (feat X2) (feat X4)) h s t * (1 / 8) * feat X0 h s x : ℝ) : EReal) := by
  have e : dkh X0 X1 X2 X3 X4 (ix3 h t x) = ∑ s, dss 0x3E000000#32 (sc X0 X1 X3) (dps X2 X4) (ix3 h s t) * heads X0 (ix3 h s x) := by
    pointwise [dkh]
  rw [e]
  simp only [dss_at (scores X0 X1 X3 h0 h1 h3) (grads X2 X4 h2 h4) bits_eighth h, heads_at h0 h, ← EReal.coe_mul]
  rw [sum_real]

theorem dqh_at (h0 : AllReal X0) (h1 : AllReal X1) (h2 : AllReal X2) (h3 : AllReal X3) (h4 : AllReal X4) (h : Fin 8)
    (s : Fin 8192) (x : Fin 64) : dqh X0 X1 X2 X3 X4 (ix3 h s x) =
      ((∑ t : Fin 8192, dsv (rs X0 X1 X3) (dpv (feat X2) (feat X4)) h s t * (1 / 8) * feat X1 h t x : ℝ) : EReal) := by
  have e : dqh X0 X1 X2 X3 X4 (ix3 h s x) = ∑ t, dss 0x3E000000#32 (sc X0 X1 X3) (dps X2 X4) (ix3 h s t) * heads X1 (ix3 h t x) := by
    pointwise [dqh]
  rw [e]
  simp only [dss_at (scores X0 X1 X3 h0 h1 h3) (grads X2 X4 h2 h4) bits_eighth h, heads_at h1 h, ← EReal.coe_mul]
  rw [sum_real]

end Scores

section Results

variable (X0 X1 X2 X4 : FVec Ideal S8192x512 .f32) (X3 : FVec Ideal S8192x8 .f32)

theorem rdk_feat (h : Fin 8) (t : Fin 8192) (l : Fin 128) (hl : l.val < 64) :
    rdk X0 X1 X2 X3 X4 (ix2 t ⟨128 * h.val + l.val, by omega⟩) = dkh X0 X1 X2 X3 X4 (ix3 h t ⟨l.val, hl⟩) := by
  pointwise [rdk]
  split_ifs <;> first | rfl | omega

theorem rdk_lev (h : Fin 8) (t : Fin 8192) (l : Fin 128) (hl : l.val = 70) :
    rdk X0 X1 X2 X3 X4 (ix2 t ⟨128 * h.val + l.val, by omega⟩) = - dfk X0 X1 X2 X3 X4 (ix2 h t) := by
  pointwise [rdk]
  split_ifs <;> first | rfl | omega

theorem rdv_feat (h : Fin 8) (t : Fin 8192) (l : Fin 128) (hl : l.val < 64) :
    rdv X0 X1 X3 X4 (ix2 t ⟨128 * h.val + l.val, by omega⟩) = dvt (sc X0 X1 X3) (heads X4) (ix3 h ⟨l.val, hl⟩ t) := by
  pointwise [rdv]
  split_ifs <;> first | rfl | omega

theorem rdq_feat (h : Fin 8) (t : Fin 8192) (l : Fin 128) (hl : l.val < 64) :
    rdq X0 X1 X2 X3 X4 (ix2 t ⟨128 * h.val + l.val, by omega⟩) = dqh X0 X1 X2 X3 X4 (ix3 h t ⟨l.val, hl⟩) := by
  pointwise [rdq]
  split_ifs <;> first | rfl | omega

theorem rdq_lev (h : Fin 8) (s : Fin 8192) (l : Fin 128) (hl : l.val = 64) :
    rdq X0 X1 X2 X3 X4 (ix2 s ⟨128 * h.val + l.val, by omega⟩) = dfq X0 X1 X2 X3 X4 (ix2 h s) := by
  pointwise [rdq]
  split_ifs <;> first | rfl | omega

end Results

end Cert.Reference2Ideal.Fox
-- ==== Proof.FoxMatch.lean ====
module

public import proofs.«01_k».proof.Proof.FoxRefPoint

/-!
# Forgetting attention: the two gradients are one

On the lanes that hold gradients the kernel's closed forms and the reference's arrays are the same sums of real numbers.
-/

@[expose] public section

set_option maxRecDepth 16384

noncomputable section

namespace Cert.Kernel2Ideal.Fox

open Idealize.ShloMosaic Idealize.ShloMosaic.TcCoe Idealize.SL.Sem
open Cert.Own (AllReal)
open Cert.Flash Cert.Soft

/-! ### Sums over a head's lanes -/

theorem sum_nine (f : Fin 9 → ℝ) : ∑ k, f k = f 0 + f 1 + f 2 + f 3 + f 4 + f 5 + f 6 + f 7 + f 8 := by
  rw [Fin.sum_univ_castSucc, Fin.sum_univ_eight]
  rfl

theorem sum_tail9 (A B : Fin 64 → ℝ) (a b : Fin 9 → ℝ) :
    ∑ l, tail9 A a l * tail9 B b l = (∑ x, A x * B x) + ∑ k, a k * b k := by
  rw [sum_split]
  refine congrArg₂ (· + ·) ?_ ?_
  · refine Finset.sum_congr rfl fun x _ => ?_
    rw [tail9, tail9, dif_pos x.isLt, dif_pos x.isLt]
  · rw [sum_front 9 (by omega) _ fun y hy => ?_]
    · refine Finset.sum_congr rfl fun k _ => ?_
      simp only [tail9]
      rw [dif_neg (by omega), dif_pos (by omega), dif_neg (by omega), dif_pos (by omega)]
      simp
    · simp only [tail9]
      rw [dif_neg (by omega), dif_neg (by omega), zero_mul]

section Rows

variable (X0 X1 X2 X4 : FVec Ideal S8192x512 .f32) (X3 : FVec Ideal S8192x8 .f32)

/-- The query rows of head `h`. -/
def Qr (h s : ℕ) : Fin 128 → ℝ :=
  tail9 (feat X0 h s) ![lev X3 h s * 8, 0, 0, - ls (rs X0 X1 X3) (1 / 8) h s, 0, 0, 1, 1, 1]
/-- The key rows. -/
def Kr (h t : ℕ) : Fin 128 → ℝ :=
  tail9 (feat X1 h t) ![1, 1, 1, 1, 1, 1, - (lev X3 h t * 8), 0, 0]
theorem f8_neg (h3 : AllReal X3) (h : Fin 8) (s : Fin 8192) :
    Host.negf (f8 X3) (ix2 h s) = ((- (lev X3 h s * 8) : ℝ) : EReal) := by
  exact neg_real (f8_at X3 h3 h s)

theorem holds_q (h0 : AllReal X0) (h1 : AllReal X1) (h3 : AllReal X3) : Holds (qs X0 X1 X3) (Qr X0 X1 X3) := by
  intro s h l
  have e8 := f8_at X3 h3 h s
  have el := neg_real (lse_at (scores X0 X1 X3 h0 h1 h3) bits_eighth (by norm_num) h s)
  exact rows9_at _ _ _ _ _ _ _ _ _ _ _ _ s h l (heads_at h0 h s) ((hi_at _ h s).trans e8) (mid_at _ h s _ e8)
    (lo_at _ h s _ e8) ((hi_at _ h s).trans el) (mid_at _ h s _ el) (lo_at _ h s _ el) (one_at h s) (one_at h s)
    (one_at h s)

theorem holds_k (h1 : AllReal X1) (h3 : AllReal X3) : Holds (ks X1 X3) (Kr X1 X3) := by
  intro s h l
  have e8 := f8_neg X3 h3 h s
  exact rows9_at _ _ _ _ _ _ _ _ _ _ _ _ s h l (heads_at h1 h s) (one_at h s) (one_at h s) (one_at h s) (one_at h s)
    (one_at h s) (one_at h s) ((hi_at _ h s).trans e8) (mid_at _ h s _ e8) (lo_at _ h s _ e8)

/-! ### The weights -/

theorem score_eq (h t s : ℕ) : 1 / 8 * score (Qr X0 X1 X3 h) (Kr X1 X3 h) t s =
    rs X0 X1 X3 h s t - mx (rs X0 X1 X3) h s - Real.log (zs (rs X0 X1 X3) h s) := by
  rw [score]
  unfold Qr Kr
  rw [sum_tail9]
  rw [sum_nine]
  simp only [Matrix.cons_val, rs, ls]
  have : (∑ x, feat X1 h t x * feat X0 h s x) = ∑ x, feat X0 h s x * feat X1 h t x :=
    Finset.sum_congr rfl fun x _ => mul_comm _ _
  rw [this]
  ring

/-! ### The results -/

open Cert.Reference2Ideal.Fox

theorem match_dk (h0 : AllReal X0) (h1 : AllReal X1) (h2 : AllReal X2) (h3 : AllReal X3) (h4 : AllReal X4)
    (t : Fin 8192) (h : Fin 8) (l : Fin 128) (hl : l.val < 64 ∨ l.val = 70) :
    DK (1 / 8) lane (Qr X0 X1 X3) (Kr X1 X3) (Vr (feat X2)) (Gr (rs X0 X1 X3) (feat X2) (feat X4)) (ix2 t ⟨128 * h.val + l.val, by omega⟩) =
      rdk X0 X1 X2 X3 X4 (ix2 t ⟨128 * h.val + l.val, by omega⟩) := by
  rw [dk_at]
  simp only [wd_eq (feat X2) (feat X4) (score_eq X0 X1 X3)]
  rcases hl with hl | hl
  · rw [rdk_feat X0 X1 X2 X4 X3 h t l hl, dkh_at X0 X1 X2 X4 X3 h0 h1 h2 h3 h4, ← EReal.coe_mul]
    refine congrArg _ ?_
    simp only [dsv_eq, Qr, tail9, dif_pos hl, lane, if_pos hl]
    rw [Finset.sum_mul]
    exact Finset.sum_congr rfl fun s _ => by ring
  · rw [rdk_lev X0 X1 X2 X4 X3 h t l hl, dfk_at X0 X1 X2 X4 X3 h0 h1 h2 h3 h4, ← EReal.coe_mul, ← EReal.coe_neg]
    refine congrArg _ ?_
    have hq : ∀ s, Qr X0 X1 X3 h s l = 1 := by
      intro s
      obtain rfl : l = (70 : Fin 128) := Fin.ext hl
      simp [Qr, tail9]
    simp only [dsv_eq, hq, lane, if_neg (show ¬ l.val < 64 by omega), Finset.sum_neg_distrib, neg_neg, mul_one]

theorem match_dv (h0 : AllReal X0) (h1 : AllReal X1) (h3 : AllReal X3) (h4 : AllReal X4)
    (t : Fin 8192) (h : Fin 8) (l : Fin 128) (hl : l.val < 64) :
    DV (1 / 8) (Qr X0 X1 X3) (Kr X1 X3) (Gr (rs X0 X1 X3) (feat X2) (feat X4)) (ix2 t ⟨128 * h.val + l.val, by omega⟩) =
      rdv X0 X1 X3 X4 (ix2 t ⟨128 * h.val + l.val, by omega⟩) := by
  rw [dv_at, rdv_feat X0 X1 X4 X3 h t l hl, dvt_at (scores X0 X1 X3 h0 h1 h3) (heads_at h4)]
  refine congrArg _ ?_
  simp only [wt_eq (score_eq X0 X1 X3), Gr, tail3, dif_pos hl]
  exact Finset.sum_congr rfl fun s _ => mul_comm _ _

theorem match_dq (h0 : AllReal X0) (h1 : AllReal X1) (h2 : AllReal X2) (h3 : AllReal X3) (h4 : AllReal X4)
    (s : Fin 8192) (h : Fin 8) (l : Fin 128) (hl : l.val ≤ 64) :
    DQ (1 / 8) lane (Qr X0 X1 X3) (Kr X1 X3) (Vr (feat X2)) (Gr (rs X0 X1 X3) (feat X2) (feat X4)) (ix2 s ⟨128 * h.val + l.val, by omega⟩) =
      rdq X0 X1 X2 X3 X4 (ix2 s ⟨128 * h.val + l.val, by omega⟩) := by
  rw [dq_at]
  simp only [wd_eq (feat X2) (feat X4) (score_eq X0 X1 X3)]
  rcases Nat.lt_or_eq_of_le hl with hl | hl
  · rw [rdq_feat X0 X1 X2 X4 X3 h s l hl, dqh_at X0 X1 X2 X4 X3 h0 h1 h2 h3 h4, ← EReal.coe_mul]
    refine congrArg _ ?_
    simp only [dsv_eq, Kr, tail9, dif_pos hl, lane, if_pos hl]
    rw [Finset.sum_mul]
    exact Finset.sum_congr rfl fun t _ => by ring
  · rw [rdq_lev X0 X1 X2 X4 X3 h s l hl, dfq_at X0 X1 X2 X4 X3 h0 h1 h2 h3 h4, ← EReal.coe_mul]
    refine congrArg _ ?_
    have hk : ∀ t, Kr X1 X3 h t l = 1 := by
      intro t
      obtain rfl : l = (64 : Fin 128) := Fin.ext hl
      simp [Kr, tail9]
    simp only [dsv_eq, hk, lane, if_neg (show ¬ l.val < 64 by omega), mul_one]

end Rows

end Cert.Kernel2Ideal.Fox
-- ==== Proof.FoxRefEq.lean ====
module

public import proofs.«01_k».proof.Proof.FoxRef
public import proofs.«01_k».proof.Proof.Gen.Reference2Ideal.Run

/-!
# Forgetting attention: what the reference returns
-/

@[expose] public section

set_option maxRecDepth 16384

noncomputable section

namespace Cert.Reference2Ideal.Fox

open Idealize.ShloMosaic Idealize.ShloMosaic.TcCoe Idealize.SL.Sem

variable (m : (ℓ : Loc nD τ sig) → Buf (Elt Ideal) ℓ) (c : Dev nD)

/-- The first argument. -/
abbrev arg0 : FVec Ideal S8192x512 .f32 := m ((c : Thread nD τ).loc main_arg0)
/-- The second argument. -/
abbrev arg1 : FVec Ideal S8192x512 .f32 := m ((c : Thread nD τ).loc main_arg1)
/-- The third argument. -/
abbrev arg2 : FVec Ideal S8192x512 .f32 := m ((c : Thread nD τ).loc main_arg2)
/-- The fourth argument. -/
abbrev arg3 : FVec Ideal S8192x8 .f32 := m ((c : Thread nD τ).loc main_arg3)
/-- The fifth argument. -/
abbrev arg4 : FVec Ideal S8192x512 .f32 := m ((c : Thread nD τ).loc main_arg4)

theorem out_dk : Value.res_main_v98 m c = rdk (arg0 m c) (arg1 m c) (arg2 m c) (arg3 m c) (arg4 m c) := by
  unfold Value.res_main_v98
  rfl

theorem out_dv : Value.res_main_v102 m c = rdv (arg0 m c) (arg1 m c) (arg3 m c) (arg4 m c) := by
  unfold Value.res_main_v102
  rfl

theorem out_dq : Value.res_main_v107 m c = rdq (arg0 m c) (arg1 m c) (arg2 m c) (arg3 m c) (arg4 m c) := by
  unfold Value.res_main_v107
  rfl

end Cert.Reference2Ideal.Fox
-- ==== Proof.FoxClaim.lean ====
module

public import proofs.«01_k».proof.Defs
public import proofs.«01_k».proof.Proof.Gen.Kernel2
public import proofs.«01_k».proof.Proof.Gen.Pre_finite
public import proofs.«01_k».proof.Proof.Gen.On_gradient_lanes
public import proofs.«01_k».proof.Proof.FoxMatch
public import proofs.«01_k».proof.Proof.FoxRefEq
public import Idealize.ShloMosaic.Adequacy
public import Idealize.ShloMosaic.Init

/-!
# Forgetting attention: the claims
-/

@[expose] public section

set_option maxRecDepth 16384

noncomputable section

namespace Cert.Fox

open Idealize.ShloMosaic Idealize.SL.Sem
open Cert.Own (AllReal)

/-! ### Frames -/

/-- Every named constant at the pattern it was printed with. -/
@[reducible] def printed : Named Bits := ⟨fun _ _ {φ} bits => Scalar.ofBits φ bits⟩

/-- What the run says at the printed constants. -/
def Held [Named Bits] : Prop := ∀ (m : (ℓ : Loc Cert.Kernel2Ideal.nD Cert.Kernel2Ideal.τ Cert.Kernel2Ideal.sig) → Buf (Elt Bits) ℓ) (ρ : Dev Cert.Kernel2Ideal.nD → PrngReg), True →
    θ_run (Cert.Kernel2Ideal.defs (F := Bits)) (onTc (τ := Cert.Kernel2Ideal.τ) (Cert.Kernel2Ideal.main (F := Bits))) ⟨m, fun _ => 0, ρ⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

theorem same : Cert.quiescent_Kernel2 = @Held printed := by sl_kernel_rfl

theorem frame_kernel : Cert.quiescent_Kernel2 := same.mpr fun m ρ _ => @Cert.Kernel2Ideal.Fox.frame Bits _ printed m ρ

theorem frame_ideal : Cert.quiescent_Kernel2Ideal := fun m ρ _ => Cert.Kernel2Ideal.Fox.frame m ρ

theorem frame_ideal_pre : Cert.quiescent_Kernel2Ideal_pre_finite := fun m ρ _ => Cert.Kernel2Ideal.Fox.frame m ρ

theorem frame_reference : Cert.quiescent_Reference2Ideal := by
  intro m ρ _
  run_from Cert.Reference2Ideal.Value.run m ρ
  · intro c
    exact ⟨trivial, trivial, trivial, trivial, trivial⟩
  · exact sem_eq_zero_of_no_sems rfl _

theorem frame_reference_pre : Cert.quiescent_Reference2Ideal_pre_finite := fun m ρ _ => frame_reference m ρ trivial

theorem preserves : Cert.preserves_Kernel2_Kernel2Ideal :=
  ⟨IdealRules.named_const.statement _ _ _ _ _ rfl, IdealRules.named_const.statement _ _ _ _ _ rfl⟩

/-! ### The precondition and the mask -/

section Read

open Cert.Kernel2Ideal Cert.Kernel2Ideal.Fox

theorem real_of_pre (X0 X1 X2 X4 : FVec Ideal S8192x512 .f32) (X3 : FVec Ideal S8192x8 .f32)
    (h : Cert.Pre_finite.fn (F := Ideal) X0 X1 X2 X3 X4 = fun _ => 1#1) :
    AllReal X0 ∧ AllReal X1 ∧ AllReal X2 ∧ AllReal X3 ∧ AllReal X4 := by
  have e := congrFun h (Shape.Idx.first (by decide))
  unfold Cert.Pre_finite.fn Cert.Pre_finite.fn_part1 at e
  obtain ⟨e, e4⟩ := Cert.Own.andi_one e
  obtain ⟨e, e3⟩ := Cert.Own.andi_one e
  obtain ⟨e, e2⟩ := Cert.Own.andi_one e
  obtain ⟨e0, e1⟩ := Cert.Own.andi_one e
  haveI : Subsingleton (Cert.Pre_finite.S_).Idx := ⟨fun a b => funext fun k => k.elim0⟩
  exact ⟨Cert.Own.allReal_of _ _ (fun _ => rfl) _ _ _ _ e0, Cert.Own.allReal_of _ _ (fun _ => rfl) _ _ _ _ e1,
    Cert.Own.allReal_of _ _ (fun _ => rfl) _ _ _ _ e2, Cert.Own.allReal_of _ _ (fun _ => rfl) _ _ _ _ e3,
    Cert.Own.allReal_of _ _ (fun _ => rfl) _ _ _ _ e4⟩

variable (X0 X1 X2 X4 : FVec Ideal S8192x512 .f32) (X3 : FVec Ideal S8192x8 .f32) (s : Fin 8192) (h : Fin 8) (l : Fin 128)

theorem mask_dk (e : (Cert.On_gradient_lanes.fn (F := Ideal) X0 X1 X2 X3 X4).1 (ix2 s ⟨128 * h.val + l.val, by omega⟩) = 1#1) :
    l.val < 64 ∨ l.val = 70 := by
  revert e
  pointwise [Cert.On_gradient_lanes.fn]
  revert l
  decide +kernel

theorem mask_dv (e : (Cert.On_gradient_lanes.fn (F := Ideal) X0 X1 X2 X3 X4).2.1 (ix2 s ⟨128 * h.val + l.val, by omega⟩) = 1#1) :
    l.val < 64 := by
  revert e
  pointwise [Cert.On_gradient_lanes.fn]
  revert l
  decide +kernel

theorem mask_dq (e : (Cert.On_gradient_lanes.fn (F := Ideal) X0 X1 X2 X3 X4).2.2 (ix2 s ⟨128 * h.val + l.val, by omega⟩) = 1#1) :
    l.val ≤ 64 := by
  revert e
  pointwise [Cert.On_gradient_lanes.fn]
  revert l
  decide +kernel

end Read

/-- An entry of an 8192 by 1024 array, by row, head and lane. -/
theorem entry (i : (⟨2, ![8192, 1024]⟩ : Shape).Idx) : ∃ (s : Fin 8192) (h : Fin 8) (l : Fin 128),
    i = ix2 s ⟨128 * h.val + l.val, by omega⟩ := by
  have h1 : (i 1).val < 1024 := (i 1).isLt
  refine ⟨⟨(i 0).val, (i 0).isLt⟩, ⟨(i 1).val / 128, by omega⟩, ⟨(i 1).val % 128, by omega⟩, ?_⟩
  funext k
  refine Fin.ext ?_
  match k with
  | 0 => rfl
  | 1 => exact (Nat.div_add_mod _ _).symm

theorem algebraic : Cert.algebraic_Kernel2Ideal_Reference2Ideal_on_gradient_lanes_pre_finite := by
  intro m g m' g' hpre hargs
  refine ⟨fun c => Cert.Reference2Ideal.Fox.rdk (Cert.Kernel2Ideal.Fox.arg0 m c) (Cert.Kernel2Ideal.Fox.arg1 m c) (Cert.Kernel2Ideal.Fox.arg2 m c) (Cert.Kernel2Ideal.Fox.arg3 m c) (Cert.Kernel2Ideal.Fox.arg4 m c),
    fun c => Cert.Reference2Ideal.Fox.rdv (Cert.Kernel2Ideal.Fox.arg0 m c) (Cert.Kernel2Ideal.Fox.arg1 m c) (Cert.Kernel2Ideal.Fox.arg3 m c) (Cert.Kernel2Ideal.Fox.arg4 m c),
    fun c => Cert.Reference2Ideal.Fox.rdq (Cert.Kernel2Ideal.Fox.arg0 m c) (Cert.Kernel2Ideal.Fox.arg1 m c) (Cert.Kernel2Ideal.Fox.arg2 m c) (Cert.Kernel2Ideal.Fox.arg3 m c) (Cert.Kernel2Ideal.Fox.arg4 m c), ?_, ?_⟩
  · refine (θ_run _ _ _).mono ?_ (Cert.Kernel2Ideal.Fox.run_main m g)
    intro r hr c
    obtain ⟨h0, h1, h2, h3, h4⟩ := real_of_pre _ _ _ _ _ (hpre c)
    have hq := Cert.Kernel2Ideal.Fox.holds_q (Cert.Kernel2Ideal.Fox.arg0 m c) (Cert.Kernel2Ideal.Fox.arg1 m c) (Cert.Kernel2Ideal.Fox.arg3 m c) h0 h1 h3
    have hk := Cert.Kernel2Ideal.Fox.holds_k (Cert.Kernel2Ideal.Fox.arg1 m c) (Cert.Kernel2Ideal.Fox.arg3 m c) h1 h3
    have hv : Cert.Flash.Holds (Cert.Kernel2Ideal.Fox.vs (Cert.Kernel2Ideal.Fox.arg2 m c)) _ := Cert.Soft.holds_v (Cert.Kernel2Ideal.Fox.heads_at h2)
    have hg : Cert.Flash.Holds (Cert.Kernel2Ideal.Fox.ds (Cert.Kernel2Ideal.Fox.arg0 m c) (Cert.Kernel2Ideal.Fox.arg1 m c) (Cert.Kernel2Ideal.Fox.arg2 m c) (Cert.Kernel2Ideal.Fox.arg3 m c) (Cert.Kernel2Ideal.Fox.arg4 m c)) _ := Cert.Soft.holds_g (Cert.Kernel2Ideal.Fox.scores _ _ _ h0 h1 h3) (Cert.Kernel2Ideal.Fox.heads_at h2) (Cert.Kernel2Ideal.Fox.heads_at h4)
    rw [← Cert.Kernel2Ideal.Fox.at_qs] at hq
    rw [← Cert.Kernel2Ideal.Fox.at_ks] at hk
    rw [← Cert.Kernel2Ideal.Fox.at_vs] at hv
    rw [← Cert.Kernel2Ideal.Fox.at_ds] at hg
    have edk := Cert.Kernel2Ideal.Fox.final_dk hq hk hv hg
    have edv := Cert.Kernel2Ideal.Fox.final_dv hq hk hv hg
    have edq := Cert.Kernel2Ideal.Fox.final_dq hq hk hv hg
    refine ⟨?_, ?_, ?_, ?_, ?_, ?_, ?_, ?_⟩
    · intro i hi
      obtain ⟨s, h, l, rfl⟩ := entry i
      refine (congrFun (((hr c).1 4).trans edk) _).trans ?_
      exact Cert.Kernel2Ideal.Fox.match_dk _ _ _ _ _ h0 h1 h2 h3 h4 s h l (mask_dk _ _ _ _ _ s h l hi)
    · intro i hi
      obtain ⟨s, h, l, rfl⟩ := entry i
      refine (congrFun (((hr c).1 5).trans edv) _).trans ?_
      exact Cert.Kernel2Ideal.Fox.match_dv _ _ _ _ _ h0 h1 h3 h4 s h l (mask_dv _ _ _ _ _ s h l hi)
    · intro i hi
      obtain ⟨s, h, l, rfl⟩ := entry i
      refine (congrFun (((hr c).1 6).trans edq) _).trans ?_
      exact Cert.Kernel2Ideal.Fox.match_dq _ _ _ _ _ h0 h1 h2 h3 h4 s h l (mask_dq _ _ _ _ _ s h l hi)
    · exact ((hr c).2 Cert.Kernel2Ideal.main_arg0 (Pipeline.mem_restRefs_of Cert.Kernel2Ideal.main_arg0 (by decide) (by decide))).trans (Cert.Kernel2Ideal.Gen.V_main_arg0 m c)
    · exact ((hr c).2 Cert.Kernel2Ideal.main_arg1 (Pipeline.mem_restRefs_of Cert.Kernel2Ideal.main_arg1 (by decide) (by decide))).trans (Cert.Kernel2Ideal.Gen.V_main_arg1 m c)
    · exact ((hr c).2 Cert.Kernel2Ideal.main_arg2 (Pipeline.mem_restRefs_of Cert.Kernel2Ideal.main_arg2 (by decide) (by decide))).trans (Cert.Kernel2Ideal.Gen.V_main_arg2 m c)
    · exact ((hr c).2 Cert.Kernel2Ideal.main_arg3 (Pipeline.mem_restRefs_of Cert.Kernel2Ideal.main_arg3 (by decide) (by decide))).trans (Cert.Kernel2Ideal.Gen.V_main_arg3 m c)
    · exact ((hr c).2 Cert.Kernel2Ideal.main_arg4 (Pipeline.mem_restRefs_of Cert.Kernel2Ideal.main_arg4 (by decide) (by decide))).trans (Cert.Kernel2Ideal.Gen.V_main_arg4 m c)
  · refine (θ_run _ _ _).mono ?_ (Cert.Reference2Ideal.Value.run m' g')
    intro r hr c
    obtain ⟨r0, r1, r2, a0, a1, a2, a3, a4⟩ := hr c
    obtain ⟨g0, g1, g2, g3, g4⟩ := hargs c
    refine ⟨fun i _ => congrFun (r0.trans ?_) i, fun i _ => congrFun (r1.trans ?_) i, fun i _ => congrFun (r2.trans ?_) i, a0, a1, a2, a3, a4⟩
    · rw [Cert.Reference2Ideal.Fox.out_dk]
      exact congr (congr (congr (congr (congrArg _ g0) g1) g2) g3) g4
    · rw [Cert.Reference2Ideal.Fox.out_dv]
      exact congr (congr (congr (congrArg _ g0) g1) g3) g4
    · rw [Cert.Reference2Ideal.Fox.out_dq]
      exact congr (congr (congr (congr (congrArg _ g0) g1) g2) g3) g4

end Cert.Fox
-- ==== Proof.MlaFrame.lean ====
/- The frame of the latent attention's backward call, for any values: what every point of the grid leaves in the staged blocks,
   the body's triple at a generic point, and the launch. -/
module

public import proofs.«01_k».proof.Proof.FlashRun
public import proofs.«01_k».proof.Proof.Gen.Kernel3Ideal.Loops
public import proofs.«01_k».proof.Proof.Gen.Kernel3Ideal.Frame
public import Idealize.ShloMosaic.Lib.Claim

@[expose] public section

set_option maxRecDepth 16384

noncomputable section

namespace Cert.Kernel3Ideal.Mla

open Cert.Kernel3Ideal Cert.Kernel3Ideal.Gen Cert.Flash
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The named constants of this call, under the words of the shared body. -/
@[reducible] def named : Named F :=
  ⟨fun _ name {φ} bits => Named.named κ name (bif bits.toNat == 0x3E38AA3B then BitVec.ofNat φ.bits 0x3E16C740 else bits)⟩

set_option maxRecDepth 65536 in
/-- The printed body is the shared one. -/
theorem body_eq (i : grid0.Coords) (arg2 : Memref sig .tc .vmem S8192x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x128 .bf16) (harg7 : arg7.IsWhole) (arg8 : Memref sig .tc .vmem S8192x128 .f32) (harg8 : arg8.IsWhole) :
    cc0_mla_bwd (F := F) i arg2 harg2 arg3 harg3 arg4 harg4 arg5 harg5 arg6 harg6 arg7 harg7 arg8 harg8
      = Cert.Flash.body (nm := named) i arg2 arg3 arg4 arg5 arg6 arg7 harg7 arg8 k0_pay65 k0_pay1 (k0_t2_body i arg2 harg2 arg3 harg3 arg4 harg4 arg5 harg5 arg6 harg6 arg7 harg7 arg8 harg8) := by
  rw [cc0_mla_bwd_eq_skeleton]
  rfl

/-- The carried values at the end of point `t`. -/
abbrev carried (c : Dev nD) (t : Fin cfg0.N) : St F := Cert.Flash.carried (nm := named) k0_pay1 (iblk m c 0) (iblk m c 3) (iblk m c 1) (iblk m c 2) t

/-- The proof data: each block as the body leaves it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay65 (carried m c t).1.1
    | ⟨5, _⟩ => k0_pay66 (carried m c t).1.2
    | ⟨6, _⟩ => dqEnd (grid0.coords t) k0_pay1 (carried m c t).2
  Φ _ := Pipeline.ΦA spec0 c
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = k0_pay65 (carried m c t).1.1 := by dsimp only [dats]
theorem after_5 (c : Dev nD) (t : Fin cfg0.N) : (dats m 0 c).after 5 t = k0_pay66 (carried m c t).1.2 := by dsimp only [dats]
theorem after_6 (c : Dev nD) (t : Fin cfg0.N) : (dats m 0 c).after 6 t = dqEnd (grid0.coords t) k0_pay1 (carried m c t).2 := by dsimp only [dats]

theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
/-- Inside a head dq's buffer holds what the point before left. -/
theorem before_6 (c : Dev nD) (t : Fin cfg0.N) (h : ¬t.val % 8 = 0) (d) : (dats m 0 c).before 6 t d = dqIn (nm := named) k0_pay1 (iblk m c 0) (iblk m c 3) (iblk m c 1) (iblk m c 2) t.val := by
  have hN : t.val < 64 := lt_of_lt_of_eq t.isLt (show cfg0.N = 64 from N_0)
  have hp : t.val - 1 < cfg0.N := Nat.lt_of_le_of_lt (Nat.sub_le _ _) t.isLt
  have e : t.val = (⟨t.val - 1, hp⟩ : Fin cfg0.N).val + 1 := by dsimp only; omega
  have r := dqIn_succ (nm := named) k0_pay1 (iblk m c 0) (iblk m c 3) (iblk m c 1) (iblk m c 2) ⟨t.val - 1, hp⟩
  rw [← e] at r
  rw [Dat.before_out_kept _ 6 rfl t (by omega) (Bool.eq_false_iff.mpr fun h' => by have := (flush0_6 _).mp h'; dsimp only at this; omega)
    (fun _ => rfl) (fun _ _ => rfl), r]
  dsimp only [dats]

/-- The value the point ends with, from whatever its dq buffer holds. -/
theorem carried_of (c : Dev nD) (t : Fin cfg0.N) (d) : leaveAt (nm := named) (iblk m c 0) (iblk m c 3) (iblk m c 1) (iblk m c 2) t ((dats m 0 c).before 6 t d) = carried m c t := by
  by_cases h : t.val % 8 = 0
  · exact leaveAt_first (nm := named) _ _ _ _ t h _ _
  · rw [before_6 m c t h]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  exact point_run (nm := named) defs₀ c t _ _ _ _ _ _ _ _ k0_pay65 k0_pay1 (iblk m c 0) (iblk m c 3) (iblk m c 1) (iblk m c 2) _ _ _ _ _ _ _
    (body_eq _ _ _ _ _ _ _ _ _ _ _ _ _ _ _) (carried_of m c t)

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every array as the proof data says, every counter at zero. -/
theorem launch : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (launch m ρ)

/-- The arguments end as they were, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (launch m ρ))

end Cert.Kernel3Ideal.Mla
end
-- ==== Proof.MlaValue.lean ====
/- The latent attention's backward call at the extended reals: from finite operands its three results are the plain sums. -/
module

public import proofs.«01_k».proof.Proof.FlashValue
public import proofs.«01_k».proof.Proof.MlaFrame

@[expose] public section

set_option maxRecDepth 16384

noncomputable section

namespace Cert.Kernel3Ideal.Mla

open Cert.Kernel3Ideal Cert.Kernel3Ideal.Gen Cert.Flash
open Idealize.ShloMosaic Idealize.ShloMosaic.TcCoe
open Idealize.SL.Sem
open Idealize.ShloMosaic.Pipeline (Dat)

variable (m : (ℓ : Loc nD τ sig) → Buf (Elt Ideal) ℓ)

/-- The scores' scale: the nearest single precision number to one over the root of 96. -/
def scale : ℝ := 3424635 / 33554432

theorem scale_pos : 0 < scale := by unfold scale; norm_num

theorem bits_scale : Ideal.ofBits .f32 0x3DD105EC#32 = (scale : EReal) := by
  unfold scale
  simp [Ideal.ofBits, Ideal.ieee, -EReal.coe_mul]; norm_num

instance consts : @Consts scale named := @Consts.mk scale named scale_pos rfl rfl

/-- The scaling of a gradient's lanes: the scores' scale for the features. -/
def lane (l : Fin 128) : ℝ := if l.val < 96 then scale else 1
theorem lane_eq (l : Fin 128) : (Scalar.select (IntOp.cmpi .slt (BitVec.ofNat 32 l.val) 96#32) (Ideal.ofBits .f32 0x3DD105EC#32) (1 : EReal)) = (lane l : EReal) := by
  have hc : (IntOp.cmpi .slt (BitVec.ofNat 32 l.val) 96#32) = if l.val < 96 then 1#1 else 0#1 := by
    have := l.isLt
    word_cmp
    exact WordCmp.ofBool_decide_eq_ite _
  rw [hc, lane]
  split
  · exact bits_scale
  · rfl
theorem pay65_at (a : FVec Ideal S1024x128 .f32) (r : Fin 1024) (l : Fin 128) : k0_pay65 a (ix2 r l) = a (ix2 r l) * (lane l : EReal) := by
  pointwise [k0_pay65]
  rw [lane_eq]
theorem pay1_at (a : FVec Ideal S8192x128 .f32) (r : Fin 8192) (l : Fin 128) : k0_pay1 a (ix2 r l) = a (ix2 r l) * (lane l : EReal) := by
  pointwise [k0_pay1]
  rw [lane_eq]

variable {m} {c : Dev nD} {Q K V G : ℕ → ℕ → Fin 128 → ℝ}

theorem idx : ∀ t : Fin cfg0.N, win0_0.index t = ![0, t.val / 8] ∧ win0_1.index t = ![t.val % 8, t.val / 8] ∧ win0_2.index t = ![t.val % 8, t.val / 8] ∧ win0_3.index t = ![0, t.val / 8]
    ∧ win0_4.index t = ![t.val % 8, t.val / 8] ∧ win0_5.index t = ![t.val % 8, t.val / 8] ∧ win0_6.index t = ![0, t.val / 8] :=
  (by decide +kernel : ∀ t : Fin grid0.N, _)
theorem flush_6 : ∀ t : Fin cfg0.N, (cfg0.win 6).flush t = true → t.val % 8 = 7 := by decide +kernel
section blocks
variable (hQ : Holds (Gen.V m c main_v42) Q) (hK : Holds (Gen.V m c main_v53) K) (hV : Holds (Gen.V m c main_v64) V) (hG : Holds (Gen.V m c main_v81) G)

include hQ in
theorem q_rows (t : Fin cfg0.N) : IsRows 8192 (iblk m c 0 t) (Q (t.val / 8)) 0 := by
  intro r l
  have ht : t.val < 64 := lt_of_lt_of_eq t.isLt N_0
  show (Gen.V m c main_v42 : FVec Ideal S8192x1024 .bf16) (((cfg0.win 0).blk t).view.emb (ix2 r l)) = _
  have e : ((cfg0.win 0).blk t).view.emb (ix2 r l) = (ix2 r (⟨128 * (⟨t.val / 8, by omega⟩ : Fin 8).val + l.val, by simp only; omega⟩ : Fin 1024) : S8192x1024.Idx) := by blk_ext [idx t]
  rw [e, hQ r ⟨t.val / 8, by omega⟩ l]
  show _ = ((Q (t.val / 8) (0 + r.val) l : ℝ) : EReal)
  rw [Nat.zero_add]

include hG in
theorem g_rows (t : Fin cfg0.N) : IsRows 8192 (iblk m c 3 t) (G (t.val / 8)) 0 := by
  intro r l
  have ht : t.val < 64 := lt_of_lt_of_eq t.isLt N_0
  show (Gen.V m c main_v81 : FVec Ideal S8192x1024 .bf16) (((cfg0.win 3).blk t).view.emb (ix2 r l)) = _
  have e : ((cfg0.win 3).blk t).view.emb (ix2 r l) = (ix2 r (⟨128 * (⟨t.val / 8, by omega⟩ : Fin 8).val + l.val, by simp only; omega⟩ : Fin 1024) : S8192x1024.Idx) := by blk_ext [idx t]
  rw [e, hG r ⟨t.val / 8, by omega⟩ l]
  show _ = ((G (t.val / 8) (0 + r.val) l : ℝ) : EReal)
  rw [Nat.zero_add]

include hK in
theorem k_rows (t : Fin cfg0.N) : IsRows 1024 (iblk m c 1 t) (K (t.val / 8)) (1024 * (t.val % 8)) := by
  intro r l
  have ht : t.val < 64 := lt_of_lt_of_eq t.isLt N_0
  show (Gen.V m c main_v53 : FVec Ideal S8192x1024 .bf16) (((cfg0.win 1).blk t).view.emb (ix2 r l)) = _
  have e : ((cfg0.win 1).blk t).view.emb (ix2 r l) = (ix2 (⟨1024 * (t.val % 8) + r.val, by omega⟩ : Fin 8192) (⟨128 * (⟨t.val / 8, by omega⟩ : Fin 8).val + l.val, by simp only; omega⟩ : Fin 1024) : S8192x1024.Idx) := by blk_ext [idx t]
  rw [e, hK _ ⟨t.val / 8, by omega⟩ l]

include hV in
theorem v_rows (t : Fin cfg0.N) : IsRows 1024 (iblk m c 2 t) (V (t.val / 8)) (1024 * (t.val % 8)) := by
  intro r l
  have ht : t.val < 64 := lt_of_lt_of_eq t.isLt N_0
  show (Gen.V m c main_v64 : FVec Ideal S8192x1024 .bf16) (((cfg0.win 2).blk t).view.emb (ix2 r l)) = _
  have e : ((cfg0.win 2).blk t).view.emb (ix2 r l) = (ix2 (⟨1024 * (t.val % 8) + r.val, by omega⟩ : Fin 8192) (⟨128 * (⟨t.val / 8, by omega⟩ : Fin 8).val + l.val, by simp only; omega⟩ : Fin 1024) : S8192x1024.Idx) := by blk_ext [idx t]
  rw [e, hV _ ⟨t.val / 8, by omega⟩ l]

include hQ hK hV hG
theorem blocks : Blocks (iblk m c 0) (iblk m c 3) (iblk m c 1) (iblk m c 2) Q K V G := ⟨q_rows hQ, g_rows hG, k_rows hK, v_rows hV⟩

set_option maxHeartbeats 1600000 in
theorem final_dk : (dats m 0 c).arrAt 4 (cfgs 0).N = DK scale lane Q K V G := by
  refine (dats m 0 c).arrAt_eq_of_covers 4 _ (by decide +kernel) fun t _ y => ?_
  have ht : t.val < 64 := lt_of_lt_of_eq t.isLt N_0
  blk_simp
  rw [after_4]
  idx_vars y
  obtain_idx i : S8192x1024 := [1024 * (t.val % 8) + (y0 : ℕ), 128 * (t.val / 8) + (y1 : ℕ)] with hi
  exact (dk_point (nm := named) pay65_at (blocks hQ hK hV hG) t y1 i hi1 y0 hi0).trans (congrArg _ (by blk_ext [idx t]))

set_option maxHeartbeats 1600000 in
theorem final_dv : (dats m 0 c).arrAt 5 (cfgs 0).N = DV scale Q K G := by
  refine (dats m 0 c).arrAt_eq_of_covers 5 _ (by decide +kernel) fun t _ y => ?_
  have ht : t.val < 64 := lt_of_lt_of_eq t.isLt N_0
  blk_simp
  rw [after_5]
  idx_vars y
  obtain_idx i : S8192x1024 := [1024 * (t.val % 8) + (y0 : ℕ), 128 * (t.val / 8) + (y1 : ℕ)] with hi
  exact (dv_point (nm := named) (blocks hQ hK hV hG) t y1 i hi1 y0 hi0).trans (congrArg _ (by blk_ext [idx t]))

theorem final_dq : (dats m 0 c).arrAt 6 (cfgs 0).N = DQ scale lane Q K V G := by
  refine (dats m 0 c).arrAt_eq_of_covers 6 _ (by decide +kernel) fun t hf y => ?_
  have ht : t.val < 64 := lt_of_lt_of_eq t.isLt N_0
  blk_simp
  rw [after_6]
  idx_vars y
  obtain_idx i : S8192x1024 := [(y0 : ℕ), 128 * (t.val / 8) + (y1 : ℕ)] with hi
  exact (dq_point (nm := named) pay1_at (blocks hQ hK hV hG) t y1 i hi1 (flush_6 t hf) y0 hi0).trans (congrArg _ (by blk_ext [idx t]))
end blocks

end Cert.Kernel3Ideal.Mla
end
-- ==== Proof.MlaHost.lean ====
module

public import proofs.«01_k».proof.Proof.SoftRef
public import proofs.«01_k».proof.Proof.MlaValue

/-!
# Latent attention: the arrays the host prepares
-/

@[expose] public section

set_option maxRecDepth 16384

noncomputable section

namespace Cert.Kernel3Ideal.Mla

open Idealize.ShloMosaic Idealize.ShloMosaic.TcCoe Idealize.SL.Sem
open Gen Cert.Flash Cert.Soft
open Cert.Own (AllReal)

/-- The scores before the mask. -/
def raw (X0 X1 : FVec Ideal S8x8192x96 .f32) : FVec Ideal S8x8192x8192 .f32 :=
  mulf (Host.dotGeneral dot_S8x8192x96_S8x8192x96_S8x8192x8192_2_2_1_1_0_0 none X0 X1) (broadcastInDim S8x8192x8192 ![] bcast_S_S8x8192x8192 (constant S_ .f32 0x3DD105EC#32))

/-- The masked scores. -/
def sc (X0 X1 : FVec Ideal S8x8192x96 .f32) : FVec Ideal S8x8192x8192 .f32 := masked (raw X0 X1)

/-- The row sums of the forward pass, over the scale. -/
def lss (X0 X1 : FVec Ideal S8x8192x96 .f32) : FVec Ideal S8x8192 .f32 := lse 0x3DD105EC#32 (sc X0 X1)

/-- The wide features of a head and three further lanes, heads side by side again. -/
def rows3w (A : FVec Ideal S8x8192x96 .f32) (c0 c1 c2 : FVec Ideal S8x8192x1 .f32) :
    FVec Ideal S8192x1024 .bf16 :=
  truncf .bf16 (shapeCast S8192x1024 (transpose S8192x8x128 [1, 0, 2] (pad S8x8192x128 ![0, 0, 0] ![0, 0, 29] ![0, 0, 0] (concatenate S8x8192x99 2 [⟨S8x8192x96, A⟩, ⟨S8x8192x1, c0⟩, ⟨S8x8192x1, c1⟩, ⟨S8x8192x1, c2⟩] concatenates_S8x8192x96_S8x8192x1_S8x8192x1_S8x8192x1_S8x8192x99_d2) (sitofp .f32 (constantI S_ 32 0#32)) pads_S8x8192x99_S8x8192x128_000_000_0290 h_S_) transposes_S8x8192x128_S8192x8x128_1_0_2) shapeCasts_S8192x8x128_S8192x1024) bitsLt_bf16_f32

theorem rows3w_congr {A A' : FVec Ideal S8x8192x96 .f32} {a a' b b' d d' : FVec Ideal S8x8192x1 .f32}
    (hA : A = A') (ha : a = a') (hb : b = b') (hd : d = d') : rows3w A a b d = rows3w A' a' b' d' := by
  rw [hA, ha, hb, hd]

/-- The query rows. -/
def qs (X0 X1 : FVec Ideal S8x8192x96 .f32) : FVec Ideal S8192x1024 .bf16 :=
  rows3w X0 (col (hi (Host.negf (lss X0 X1)))) (col (mid (Host.negf (lss X0 X1)))) (col (lo (Host.negf (lss X0 X1))))

/-- The key rows. -/
def ks (X1 : FVec Ideal S8x8192x96 .f32) : FVec Ideal S8192x1024 .bf16 := rows3w X1 (col one) (col one) (col one)

/-- The value rows. -/
def vs (X2 : FVec Ideal S8x8192x64 .f32) : FVec Ideal S8192x1024 .bf16 := rows3 X2 (col one) (col one) (col one)

/-- The cotangent rows. -/
def ds (X0 X1 : FVec Ideal S8x8192x96 .f32) (X2 X3 : FVec Ideal S8x8192x64 .f32) : FVec Ideal S8192x1024 .bf16 :=
  rows3 X3 (col (hi (Host.negf (del (sc X0 X1) X2 X3)))) (col (mid (Host.negf (del (sc X0 X1) X2 X3))))
    (col (lo (Host.negf (del (sc X0 X1) X2 X3))))

section Entry

variable (m : (ℓ : Loc nD τ sig) → Buf (Elt Ideal) ℓ) (c : Dev nD)

/-- The first argument. -/
abbrev arg0 : FVec Ideal S8x8192x96 .f32 := m ((c : Thread nD τ).loc main_arg0)
/-- The second argument. -/
abbrev arg1 : FVec Ideal S8x8192x96 .f32 := m ((c : Thread nD τ).loc main_arg1)
/-- The third argument. -/
abbrev arg2 : FVec Ideal S8x8192x64 .f32 := m ((c : Thread nD τ).loc main_arg2)
/-- The fourth argument. -/
abbrev arg3 : FVec Ideal S8x8192x64 .f32 := m ((c : Thread nD τ).loc main_arg3)

/-- What the value rows hold. -/
theorem at_vs : (Gen.V m c main_v64 : FVec Ideal S8192x1024 .bf16) = vs (arg2 m c) := by
  unfold Gen.V
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, List.flatten_cons, List.flatten_nil, List.cons_append,
    List.nil_append, List.append_nil, StableHlo.TRef.binary, StableHlo.TRef.unary, StableHlo.TRef.ternary,
    StableHlo.TRef.toBuf, StableHlo.TRef.ofBuf, cast_eq]
  after_results_simp
  refine rows3_congr ?_ ?_ ?_ ?_ <;> dsimp only [Matrix.cons_val] <;> after_results_simp <;> rfl

/-- What the key rows hold. -/
theorem at_ks : (Gen.V m c main_v53 : FVec Ideal S8192x1024 .bf16) = ks (arg1 m c) := by
  unfold Gen.V
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, List.flatten_cons, List.flatten_nil, List.cons_append,
    List.nil_append, List.append_nil, StableHlo.TRef.binary, StableHlo.TRef.unary, StableHlo.TRef.ternary,
    StableHlo.TRef.toBuf, StableHlo.TRef.ofBuf, cast_eq]
  after_results_simp
  refine rows3w_congr ?_ ?_ ?_ ?_ <;> dsimp only [Matrix.cons_val] <;> after_results_simp <;> rfl

/-- What the query rows hold. -/
theorem at_qs : (Gen.V m c main_v42 : FVec Ideal S8192x1024 .bf16) = qs (arg0 m c) (arg1 m c) := by
  unfold Gen.V
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, List.flatten_cons, List.flatten_nil, List.cons_append,
    List.nil_append, List.append_nil, StableHlo.TRef.binary, StableHlo.TRef.unary, StableHlo.TRef.ternary,
    StableHlo.TRef.toBuf, StableHlo.TRef.ofBuf, cast_eq]
  after_results_simp
  refine rows3w_congr ?_ ?_ ?_ ?_ <;> dsimp only [Matrix.cons_val] <;> after_results_simp <;> rfl

/-- What the cotangent rows hold. -/
theorem at_ds : (Gen.V m c main_v81 : FVec Ideal S8192x1024 .bf16) = ds (arg0 m c) (arg1 m c) (arg2 m c) (arg3 m c) := by
  unfold Gen.V
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, List.flatten_cons, List.flatten_nil, List.cons_append,
    List.nil_append, List.append_nil, StableHlo.TRef.binary, StableHlo.TRef.unary, StableHlo.TRef.ternary,
    StableHlo.TRef.toBuf, StableHlo.TRef.ofBuf, cast_eq]
  after_results_simp
  refine rows3_congr ?_ ?_ ?_ ?_ <;> dsimp only [Matrix.cons_val] <;> after_results_simp <;> rfl

end Entry

/-! ### Entry by entry -/

/-- Lane `x` of head `h` in row `s`. -/
def feat {n : ℕ} (X : FVec Ideal ⟨3, ![8, 8192, n]⟩ .f32) (h s : ℕ) (x : Fin n) : ℝ :=
  if hh : h < 8 ∧ s < 8192 then EReal.toReal (X (ix3 ⟨h, hh.1⟩ ⟨s, hh.2⟩ x)) else 0

theorem feat_at {n : ℕ} {X : FVec Ideal ⟨3, ![8, 8192, n]⟩ .f32} (hX : AllReal X) : Feats n X (feat X) := by
  intro h s x
  rw [feat, dif_pos ⟨h.2, s.2⟩]
  exact (EReal.coe_toReal (hX _).1 (hX _).2).symm

section Scores

variable (X0 X1 : FVec Ideal S8x8192x96 .f32) (X2 X3 : FVec Ideal S8x8192x64 .f32)

/-- The score of query row `s` and key row `t`. -/
def rs (h s t : ℕ) : ℝ := (∑ x : Fin 96, feat X0 h s x * feat X1 h t x) * scale

theorem scores (h0 : AllReal X0) (h1 : AllReal X1) : Scores (sc X0 X1) (rs X0 X1) := by
  refine masked_at fun h s t => ?_
  pointwise [raw]
  rw [bits_scale]
  simp only [feat_at h0 h, feat_at h1 h, ← EReal.coe_mul]
  rw [sum_real, ← EReal.coe_mul, rs]

/-- The features, then lane by lane, then zeros. -/
def tail (A : Fin 96 → ℝ) (a b d : ℝ) (l : Fin 128) : ℝ :=
  if hl : l.val < 96 then A ⟨l.val, hl⟩ else if l.val = 96 then a else if l.val = 97 then b else
    if l.val = 98 then d else 0

theorem rows3w_at (A : FVec Ideal S8x8192x96 .f32) (a b d : FVec Ideal S8x8192 .f32) (A' : Fin 96 → ℝ) (a' b' d' : ℝ)
    (s : Fin 8192) (h : Fin 8) (l : Fin 128) (hA : ∀ x : Fin 96, A (ix3 h s x) = (A' x : EReal))
    (ha : a (ix2 h s) = (a' : EReal)) (hb : b (ix2 h s) = (b' : EReal)) (hd : d (ix2 h s) = (d' : EReal)) :
    rows3w A (col a) (col b) (col d) (ix2 s ⟨128 * h.val + l.val, by omega⟩) = (tail A' a' b' d' l : EReal) := by
  pointwise [rows3w]
  rw [int_zero]
  simp only [hA, ha, hb, hd, col_at, tail]
  split_ifs <;> first | rfl | omega

/-- The query rows of head `h`. -/
def Qr (h s : ℕ) : Fin 128 → ℝ := tail (feat X0 h s) (- ls (rs X0 X1) scale h s) 0 0
/-- The key rows. -/
def Kr (h t : ℕ) : Fin 128 → ℝ := tail (feat X1 h t) 1 1 1

theorem holds_q (h0 : AllReal X0) (h1 : AllReal X1) : Holds (qs X0 X1) (Qr X0 X1) := by
  intro s h l
  have e := neg_real (lse_at (scores X0 X1 h0 h1) bits_scale scale_pos.ne' h s)
  exact rows3w_at _ _ _ _ _ _ _ _ s h l (feat_at h0 h s) ((hi_at _ h s).trans e) (mid_at _ h s _ e) (lo_at _ h s _ e)

theorem holds_k (h1 : AllReal X1) : Holds (ks X1) (Kr X1) := by
  intro s h l
  exact rows3w_at _ _ _ _ _ _ _ _ s h l (feat_at h1 h s) (one_at h s) (one_at h s) (one_at h s)

theorem sum_tail (A B : Fin 96 → ℝ) (a b d a' b' d' : ℝ) :
    ∑ l, tail A a b d l * tail B a' b' d' l = (∑ x, A x * B x) + (a * a' + b * b' + d * d') := by
  rw [show ∑ l, tail A a b d l * tail B a' b' d' l = (∑ x : Fin 96, tail A a b d ⟨x.val, by omega⟩ * tail B a' b' d' ⟨x.val, by omega⟩) +
    ∑ y : Fin 32, tail A a b d ⟨96 + y.val, by omega⟩ * tail B a' b' d' ⟨96 + y.val, by omega⟩ from
    Fin.sum_univ_add (a := 96) (b := 32) fun l : Fin 128 => tail A a b d l * tail B a' b' d' l]
  refine congrArg₂ (· + ·) ?_ ?_
  · refine Finset.sum_congr rfl fun x _ => ?_
    rw [tail, tail, dif_pos x.isLt, dif_pos x.isLt]
  · rw [← Finset.sum_subset (Finset.subset_univ {(0 : Fin 32), 1, 2}) fun y _ hy => ?_]
    · rw [Finset.sum_insert (by decide), Finset.sum_insert (by decide), Finset.sum_singleton]
      simp [tail, add_assoc]
    · have : 3 ≤ y.val := by
        by_contra hc
        revert hy
        revert y
        decide
      simp only [tail]
      rw [dif_neg (by omega), if_neg (by omega), if_neg (by omega), if_neg (by omega), zero_mul]

theorem score_eq (h t s : ℕ) : scale * score (Qr X0 X1 h) (Kr X1 h) t s =
    rs X0 X1 h s t - mx (rs X0 X1) h s - Real.log (zs (rs X0 X1) h s) := by
  rw [score]
  unfold Qr Kr
  rw [sum_tail]
  have : (∑ x, feat X1 h t x * feat X0 h s x) = ∑ x, feat X0 h s x * feat X1 h t x :=
    Finset.sum_congr rfl fun x _ => mul_comm _ _
  rw [this, ls, rs]
  have hp := scale_pos.ne'
  field_simp
  ring

end Scores

end Cert.Kernel3Ideal.Mla
-- ==== Proof.MlaRef.lean ====
module

public import proofs.«01_k».proof.Proof.MlaHost
public import proofs.«01_k».proof.Proof.Gen.Reference3Ideal.Run

/-!
# Latent attention: what the reference returns, and that the kernel returns the same
-/

@[expose] public section

set_option maxRecDepth 16384

noncomputable section

namespace Cert.Reference3Ideal.Mla

open Idealize.ShloMosaic Idealize.ShloMosaic.TcCoe Idealize.SL.Sem
open Cert.Flash Cert.Soft Cert.Reference3Ideal.Gen
open Cert.Kernel3Ideal.Mla (raw sc feat feat_at scores rs Qr Kr score_eq scale bits_scale lane tail)
open Cert.Own (AllReal)

/-- The gradient of the weights, scaled. -/
def dss4 (X0 X1 : FVec Ideal S8x8192x96 .f32) (X2 X3 : FVec Ideal S8x8192x64 .f32) : FVec Ideal S8x8192x8192 .f32 := dss 0x3DD105EC#32 (sc X0 X1) (dp X2 X3)

/-- The gradient of the keys. -/
def dkh (X0 X1 : FVec Ideal S8x8192x96 .f32) (X2 X3 : FVec Ideal S8x8192x64 .f32) : FVec Ideal S8x8192x96 .f32 :=
  Host.dotGeneral dot_S8x8192x8192_S8x8192x96_S8x8192x96_1_1_2_2_0_0 none (dss4 X0 X1 X2 X3) X0

/-- The gradient of the queries. -/
def dqh (X0 X1 : FVec Ideal S8x8192x96 .f32) (X2 X3 : FVec Ideal S8x8192x64 .f32) : FVec Ideal S8x8192x96 .f32 :=
  Host.dotGeneral dot_S8x8192x8192_S8x8192x96_S8x8192x96_2_1_1_2_0_0 none (dss4 X0 X1 X2 X3) X1

/-- Gradients of a wide array, each head's lanes side by side. -/
def lanes (D : FVec Ideal S8x8192x96 .f32) : FVec Ideal S8192x1024 .f32 :=
  shapeCast S8192x1024 (transpose S8192x8x128 [1, 0, 2] (pad S8x8192x128 ![0, 0, 0] ![0, 0, 32] ![0, 0, 0] D (sitofp .f32 (constantI S_ 32 0#32)) pads_S8x8192x96_S8x8192x128_000_000_0320 h_S_) transposes_S8x8192x128_S8192x8x128_1_0_2) shapeCasts_S8192x8x128_S8192x1024

/-- The first result. -/
def rdk (X0 X1 : FVec Ideal S8x8192x96 .f32) (X2 X3 : FVec Ideal S8x8192x64 .f32) : FVec Ideal S8192x1024 .f32 := lanes (dkh X0 X1 X2 X3)

/-- The second result. -/
def rdv (X0 X1 : FVec Ideal S8x8192x96 .f32) (X3 : FVec Ideal S8x8192x64 .f32) : FVec Ideal S8192x1024 .bf16 :=
  truncf .bf16 (shapeCast S8192x1024 (transpose S8192x8x128 [1, 0, 2] (pad S8x8192x128 ![0, 0, 0] ![0, 0, 64] ![0, 0, 0] (transpose S8x8192x64 [0, 2, 1] (dvt (sc X0 X1) X3) transposes_S8x64x8192_S8x8192x64_0_2_1) (sitofp .f32 (constantI S_ 32 0#32)) pads_S8x8192x64_S8x8192x128_000_000_0640 h_S_) transposes_S8x8192x128_S8192x8x128_1_0_2) shapeCasts_S8192x8x128_S8192x1024) bitsLt_bf16_f32

/-- The third result. -/
def rdq (X0 X1 : FVec Ideal S8x8192x96 .f32) (X2 X3 : FVec Ideal S8x8192x64 .f32) : FVec Ideal S8192x1024 .f32 := lanes (dqh X0 X1 X2 X3)

section Run

variable (m : (ℓ : Loc nD τ sig) → Buf (Elt Ideal) ℓ) (c : Dev nD)

/-- The first argument. -/
abbrev arg0 : FVec Ideal S8x8192x96 .f32 := m ((c : Thread nD τ).loc main_arg0)
/-- The second argument. -/
abbrev arg1 : FVec Ideal S8x8192x96 .f32 := m ((c : Thread nD τ).loc main_arg1)
/-- The third argument. -/
abbrev arg2 : FVec Ideal S8x8192x64 .f32 := m ((c : Thread nD τ).loc main_arg2)
/-- The fourth argument. -/
abbrev arg3 : FVec Ideal S8x8192x64 .f32 := m ((c : Thread nD τ).loc main_arg3)

theorem out_dk : Value.res_main_v61 m c = rdk (arg0 m c) (arg1 m c) (arg2 m c) (arg3 m c) := by
  unfold Value.res_main_v61
  rfl

theorem out_dv : Value.res_main_v65 m c = rdv (arg0 m c) (arg1 m c) (arg3 m c) := by
  unfold Value.res_main_v65
  rfl

theorem out_dq : Value.res_main_v68 m c = rdq (arg0 m c) (arg1 m c) (arg2 m c) (arg3 m c) := by
  unfold Value.res_main_v68
  rfl

end Run

theorem lanes_at (D : FVec Ideal S8x8192x96 .f32) (h : Fin 8) (t : Fin 8192) (l : Fin 128) (hl : l.val < 96) :
    lanes D (ix2 t ⟨128 * h.val + l.val, by omega⟩) = D (ix3 h t ⟨l.val, hl⟩) := by
  pointwise [lanes]
  split_ifs <;> first | rfl | omega

section Results

variable (X0 X1 : FVec Ideal S8x8192x96 .f32) (X2 X3 : FVec Ideal S8x8192x64 .f32)

theorem rdv_at (h : Fin 8) (t : Fin 8192) (l : Fin 128) (hl : l.val < 64) :
    rdv X0 X1 X3 (ix2 t ⟨128 * h.val + l.val, by omega⟩) = dvt (sc X0 X1) X3 (ix3 h ⟨l.val, hl⟩ t) := by
  pointwise [rdv]
  split_ifs <;> first | rfl | omega

variable (h0 : AllReal X0) (h1 : AllReal X1) (h2 : AllReal X2) (h3 : AllReal X3)

include h0 h1 h2 h3 in
theorem dss4_at : Pairs (dss4 X0 X1 X2 X3) (fun h s t => dsv (rs X0 X1) (dpv (feat X2) (feat X3)) h s t * scale) :=
  dss_at (scores X0 X1 h0 h1) (dp_at (feat_at h2) (feat_at h3)) bits_scale

include h0 h1 h2 h3 in
theorem dkh_at (h : Fin 8) (t : Fin 8192) (x : Fin 96) : dkh X0 X1 X2 X3 (ix3 h t x) =
      ((∑ s : Fin 8192, dsv (rs X0 X1) (dpv (feat X2) (feat X3)) h s t * scale * feat X0 h s x : ℝ) : EReal) := by
  have e : dkh X0 X1 X2 X3 (ix3 h t x) = ∑ s, dss4 X0 X1 X2 X3 (ix3 h s t) * X0 (ix3 h s x) := by
    pointwise [dkh]
  rw [e]
  simp only [dss4_at X0 X1 X2 X3 h0 h1 h2 h3 h, feat_at h0 h, ← EReal.coe_mul]
  rw [sum_real]

include h0 h1 h2 h3 in
theorem dqh_at (h : Fin 8) (s : Fin 8192) (x : Fin 96) : dqh X0 X1 X2 X3 (ix3 h s x) =
      ((∑ t : Fin 8192, dsv (rs X0 X1) (dpv (feat X2) (feat X3)) h s t * scale * feat X1 h t x : ℝ) : EReal) := by
  have e : dqh X0 X1 X2 X3 (ix3 h s x) = ∑ t, dss4 X0 X1 X2 X3 (ix3 h s t) * X1 (ix3 h t x) := by
    pointwise [dqh]
  rw [e]
  simp only [dss4_at X0 X1 X2 X3 h0 h1 h2 h3 h, feat_at h1 h, ← EReal.coe_mul]
  rw [sum_real]

include h0 h1 h2 h3 in
theorem match_dk (t : Fin 8192) (h : Fin 8) (l : Fin 128) (hl : l.val < 96) :
    DK scale lane (Qr X0 X1) (Kr X1) (Vr (feat X2)) (Gr (rs X0 X1) (feat X2) (feat X3)) (ix2 t ⟨128 * h.val + l.val, by omega⟩) =
      rdk X0 X1 X2 X3 (ix2 t ⟨128 * h.val + l.val, by omega⟩) := by
  rw [dk_at]
  simp only [wd_eq (feat X2) (feat X3) (score_eq X0 X1)]
  rw [rdk, lanes_at _ h t l hl, dkh_at X0 X1 X2 X3 h0 h1 h2 h3, ← EReal.coe_mul]
  refine congrArg _ ?_
  simp only [dsv_eq, Qr, tail, dif_pos hl, lane, if_pos hl]
  rw [Finset.sum_mul]
  exact Finset.sum_congr rfl fun s _ => by ring

include h0 h1 h3 in
theorem match_dv (t : Fin 8192) (h : Fin 8) (l : Fin 128) (hl : l.val < 64) :
    DV scale (Qr X0 X1) (Kr X1) (Gr (rs X0 X1) (feat X2) (feat X3)) (ix2 t ⟨128 * h.val + l.val, by omega⟩) =
      rdv X0 X1 X3 (ix2 t ⟨128 * h.val + l.val, by omega⟩) := by
  rw [dv_at, rdv_at X0 X1 X3 h t l hl, dvt_at (scores X0 X1 h0 h1) (feat_at h3)]
  refine congrArg _ ?_
  simp only [wt_eq (score_eq X0 X1), Gr, tail3, dif_pos hl]
  exact Finset.sum_congr rfl fun s _ => mul_comm _ _

include h0 h1 h2 h3 in
theorem match_dq (s : Fin 8192) (h : Fin 8) (l : Fin 128) (hl : l.val < 96) :
    DQ scale lane (Qr X0 X1) (Kr X1) (Vr (feat X2)) (Gr (rs X0 X1) (feat X2) (feat X3)) (ix2 s ⟨128 * h.val + l.val, by omega⟩) =
      rdq X0 X1 X2 X3 (ix2 s ⟨128 * h.val + l.val, by omega⟩) := by
  rw [dq_at]
  simp only [wd_eq (feat X2) (feat X3) (score_eq X0 X1)]
  rw [rdq, lanes_at _ h s l hl, dqh_at X0 X1 X2 X3 h0 h1 h2 h3, ← EReal.coe_mul]
  refine congrArg _ ?_
  simp only [dsv_eq, Kr, tail, dif_pos hl, lane, if_pos hl]
  rw [Finset.sum_mul]
  exact Finset.sum_congr rfl fun t _ => by ring

end Results

end Cert.Reference3Ideal.Mla
-- ==== Proof.MlaClaim.lean ====
module

public import proofs.«01_k».proof.Proof.FoxClaim
public import proofs.«01_k».proof.Proof.Gen.Kernel3
public import proofs.«01_k».proof.Proof.Gen.Pre_finite_mla
public import proofs.«01_k».proof.Proof.Gen.On_feature_lanes
public import proofs.«01_k».proof.Proof.MlaRef

/-!
# Latent attention: the claims
-/

@[expose] public section

set_option maxRecDepth 16384

noncomputable section

namespace Cert.Mla

open Idealize.ShloMosaic Idealize.SL.Sem
open Cert.Own (AllReal)
open Cert.Kernel3Ideal Cert.Kernel3Ideal.Mla

/-! ### Frames -/

/-- What the run says at the printed constants. -/
def Held [Named Bits] : Prop := ∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0)

theorem same : Cert.quiescent_Kernel3 = @Held Cert.Fox.printed := by sl_kernel_rfl

theorem frame_kernel : Cert.quiescent_Kernel3 := same.mpr fun m ρ _ => @Mla.frame Bits _ Cert.Fox.printed m ρ

theorem frame_ideal : Cert.quiescent_Kernel3Ideal := fun m ρ _ => Mla.frame m ρ

theorem frame_ideal_pre : Cert.quiescent_Kernel3Ideal_pre_finite_mla := fun m ρ _ => Mla.frame m ρ

theorem frame_reference : Cert.quiescent_Reference3Ideal := by
  intro m ρ _
  run_from Cert.Reference3Ideal.Value.run m ρ
  · intro c
    exact ⟨trivial, trivial, trivial, trivial⟩
  · exact sem_eq_zero_of_no_sems rfl _

theorem frame_reference_pre : Cert.quiescent_Reference3Ideal_pre_finite_mla := fun m ρ _ => frame_reference m ρ trivial

theorem preserves : Cert.preserves_Kernel3_Kernel3Ideal :=
  ⟨IdealRules.named_const.statement _ _ _ _ _ rfl, IdealRules.named_const.statement _ _ _ _ _ rfl⟩

/-! ### The precondition and the mask -/

variable (X0 X1 : FVec Ideal S8x8192x96 .f32) (X2 X3 : FVec Ideal S8x8192x64 .f32)

theorem real_of_pre (h : Cert.Pre_finite_mla.fn (F := Ideal) X0 X1 X2 X3 = fun _ => 1#1) :
    AllReal X0 ∧ AllReal X1 ∧ AllReal X2 ∧ AllReal X3 := by
  have e := congrFun h (Shape.Idx.first (by decide))
  unfold Cert.Pre_finite_mla.fn at e
  obtain ⟨e, e3⟩ := Cert.Own.andi_one e
  obtain ⟨e, e2⟩ := Cert.Own.andi_one e
  obtain ⟨e0, e1⟩ := Cert.Own.andi_one e
  haveI : Subsingleton (Cert.Pre_finite_mla.S_).Idx := ⟨fun a b => funext fun k => k.elim0⟩
  exact ⟨Cert.Own.allReal_of _ _ (fun _ => rfl) _ _ _ _ e0, Cert.Own.allReal_of _ _ (fun _ => rfl) _ _ _ _ e1,
    Cert.Own.allReal_of _ _ (fun _ => rfl) _ _ _ _ e2, Cert.Own.allReal_of _ _ (fun _ => rfl) _ _ _ _ e3⟩

variable (s : Fin 8192) (h : Fin 8) (l : Fin 128)

theorem mask_dk (e : (Cert.On_feature_lanes.fn (F := Ideal) X0 X1 X2 X3).1 (ix2 s ⟨128 * h.val + l.val, by omega⟩) = 1#1) :
    l.val < 96 := by
  revert e
  pointwise [Cert.On_feature_lanes.fn]
  revert l
  decide +kernel

theorem mask_dv (e : (Cert.On_feature_lanes.fn (F := Ideal) X0 X1 X2 X3).2.1 (ix2 s ⟨128 * h.val + l.val, by omega⟩) = 1#1) :
    l.val < 64 := by
  revert e
  pointwise [Cert.On_feature_lanes.fn]
  revert l
  decide +kernel

theorem mask_dq (e : (Cert.On_feature_lanes.fn (F := Ideal) X0 X1 X2 X3).2.2 (ix2 s ⟨128 * h.val + l.val, by omega⟩) = 1#1) :
    l.val < 96 := by
  revert e
  pointwise [Cert.On_feature_lanes.fn]
  revert l
  decide +kernel

theorem algebraic : Cert.algebraic_Kernel3Ideal_Reference3Ideal_on_feature_lanes_pre_finite_mla := by
  intro m g m' g' hpre hargs
  refine ⟨fun c => Cert.Reference3Ideal.Mla.rdk (arg0 m c) (arg1 m c) (arg2 m c) (arg3 m c), fun c => Cert.Reference3Ideal.Mla.rdv (arg0 m c) (arg1 m c) (arg3 m c), fun c => Cert.Reference3Ideal.Mla.rdq (arg0 m c) (arg1 m c) (arg2 m c) (arg3 m c), ?_, ?_⟩
  · refine (θ_run _ _ _).mono ?_ (run_main m g)
    intro r hr c
    obtain ⟨h0, h1, h2, h3⟩ := real_of_pre _ _ _ _ (hpre c)
    have hq := holds_q (arg0 m c) (arg1 m c) h0 h1
    have hk := holds_k (arg1 m c) h1
    have hv : Cert.Flash.Holds (vs (arg2 m c)) _ := Cert.Soft.holds_v (feat_at h2)
    have hg : Cert.Flash.Holds (ds (arg0 m c) (arg1 m c) (arg2 m c) (arg3 m c)) _ := Cert.Soft.holds_g (scores _ _ h0 h1) (feat_at h2) (feat_at h3)
    rw [← at_qs] at hq
    rw [← at_ks] at hk
    rw [← at_vs] at hv
    rw [← at_ds] at hg
    have edk := final_dk hq hk hv hg
    have edv := final_dv hq hk hv hg
    have edq := final_dq hq hk hv hg
    refine ⟨fun i hi => ?_, fun i hi => ?_, fun i hi => ?_, ?_, ?_, ?_, ?_⟩
    · obtain ⟨s, h, l, rfl⟩ := Cert.Fox.entry i
      refine (congrFun (((hr c).1 4).trans edk) _).trans ?_
      exact Cert.Reference3Ideal.Mla.match_dk _ _ _ _ h0 h1 h2 h3 s h l (mask_dk _ _ _ _ s h l hi)
    · obtain ⟨s, h, l, rfl⟩ := Cert.Fox.entry i
      refine (congrFun (((hr c).1 5).trans edv) _).trans ?_
      exact Cert.Reference3Ideal.Mla.match_dv _ _ _ _ h0 h1 h3 s h l (mask_dv _ _ _ _ s h l hi)
    · obtain ⟨s, h, l, rfl⟩ := Cert.Fox.entry i
      refine (congrFun (((hr c).1 6).trans edq) _).trans ?_
      exact Cert.Reference3Ideal.Mla.match_dq _ _ _ _ h0 h1 h2 h3 s h l (mask_dq _ _ _ _ s h l hi)
    · exact ((hr c).2 main_arg0 (Pipeline.mem_restRefs_of main_arg0 (by decide) (by decide))).trans (Gen.V_main_arg0 m c)
    · exact ((hr c).2 main_arg1 (Pipeline.mem_restRefs_of main_arg1 (by decide) (by decide))).trans (Gen.V_main_arg1 m c)
    · exact ((hr c).2 main_arg2 (Pipeline.mem_restRefs_of main_arg2 (by decide) (by decide))).trans (Gen.V_main_arg2 m c)
    · exact ((hr c).2 main_arg3 (Pipeline.mem_restRefs_of main_arg3 (by decide) (by decide))).trans (Gen.V_main_arg3 m c)
  · refine (θ_run _ _ _).mono ?_ (Cert.Reference3Ideal.Value.run m' g')
    intro r hr c
    obtain ⟨r0, r1, r2, a0, a1, a2, a3⟩ := hr c
    obtain ⟨g0, g1, g2, g3⟩ := hargs c
    refine ⟨fun i _ => congrFun (r0.trans ?_) i, fun i _ => congrFun (r1.trans ?_) i, fun i _ => congrFun (r2.trans ?_) i, a0, a1, a2, a3⟩
    · rw [Cert.Reference3Ideal.Mla.out_dk]
      exact congr (congr (congr (congrArg _ g0) g1) g2) g3
    · rw [Cert.Reference3Ideal.Mla.out_dv]
      exact congr (congr (congrArg _ g0) g1) g3
    · rw [Cert.Reference3Ideal.Mla.out_dq]
      exact congr (congr (congr (congrArg _ g0) g1) g2) g3

end Cert.Mla
-- ==== Proof.Ff2Claim.lean ====
/- The gradient of the squared relu, with the product before it: the kernel's result and the reference's as one function of the arguments. -/
module

public import proofs.«01_k».proof.Defs
public import proofs.«01_k».proof.Proof.Gen.Kernel4.Frame
public import proofs.«01_k».proof.Proof.Gen.Kernel4Ideal.Value
public import proofs.«01_k».proof.Proof.Gen.Reference4Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Ff2

/-- The whole result: the incoming gradient through `w`'s transpose, times the slope of the squared relu. -/
def G (u : FVec Ideal ⟨2, ![8192, 4096]⟩ .f32) (w : FVec Ideal ⟨2, ![4096, 1024]⟩ .f32) (d : FVec Ideal ⟨2, ![8192, 1024]⟩ .f32) :
    FVec Ideal ⟨2, ![8192, 4096]⟩ .bf16 := fun j =>
  (∑ k : Fin 1024, d (ix2 (j 0) k) * w (ix2 (j 1) k)) * (2 * max (u j) 0)

section Kernel

open Cert.Kernel4Ideal Cert.Kernel4Ideal.Gen

variable (m : (ℓ : Loc nD τ sig) → Buf (Elt Ideal) ℓ)

theorem idx : ∀ t : Fin cfg0.N, win0_0.index t = ![t.val / 8, 0] ∧ win0_1.index t = ![t.val % 8, 0] ∧ win0_2.index t = ![t.val / 8, t.val % 8]
    ∧ win0_3.index t = ![t.val / 8, t.val % 8] :=
  (by decide +kernel : ∀ t : Fin grid0.N, _)

theorem two_bits : Ideal.ofBits FTy.bf16 0x4000#16 = 2 := by
  simp [Ideal.ofBits, Ideal.ieee]
  rw [← EReal.coe_mul]; norm_num; rfl

theorem pay1_at (x : FVec Ideal S2048x1024 .bf16) (w : FVec Ideal S512x1024 .bf16) (u : FVec Ideal S2048x512 .bf16) (r : Fin 2048) (l : Fin 512) :
    k0_pay1 (F := Ideal) x w u (ix2 r l) = (∑ k : Fin 1024, x (ix2 r k) * w (ix2 l k)) * (2 * max (u (ix2 r l)) 0) := by
  pointwise [k0_pay1]
  rw [two_bits]

theorem V_d (c : Dev nD) : (V m c main_v0 : FVec Ideal S8192x1024 .bf16) = (m ((c : Thread nD τ).loc main_arg2) : FVec Ideal S8192x1024 .f32) := by
  unfold V
  simp only [hostOps0, StableHlo.TRef.unary, StableHlo.TRef.toBuf, StableHlo.TRef.ofBuf, cast_eq]
  after_results_simp
  rfl

theorem V_w (c : Dev nD) : (V m c main_v1 : FVec Ideal S4096x1024 .bf16) = (m ((c : Thread nD τ).loc main_arg1) : FVec Ideal S4096x1024 .f32) := by
  unfold V
  simp only [hostOps0, StableHlo.TRef.unary, StableHlo.TRef.toBuf, StableHlo.TRef.ofBuf, cast_eq]
  after_results_simp
  rfl

theorem V_u (c : Dev nD) : (V m c main_v2 : FVec Ideal S8192x4096 .bf16) = (m ((c : Thread nD τ).loc main_arg0) : FVec Ideal S8192x4096 .f32) := by
  unfold V
  simp only [hostOps0, StableHlo.TRef.unary, StableHlo.TRef.toBuf, StableHlo.TRef.ofBuf, cast_eq]
  after_results_simp
  rfl

theorem final (c : Dev nD) : (dats m 0 c).arrAt 3 (cfgs 0).N
    = G (m ((c : Thread nD τ).loc main_arg0)) (m ((c : Thread nD τ).loc main_arg1)) (m ((c : Thread nD τ).loc main_arg2)) := by
  refine (dats m 0 c).arrAt_eq_of_covers 3 _ (by decide +kernel) fun t _ y => ?_
  have ht : t.val < 32 := lt_of_lt_of_eq t.isLt N_0
  blk_simp
  rw [after0_3]
  frame_out
  idx_vars y
  rw [pay1_at]
  unfold G
  rw [← V_d m c, ← V_w m c, ← V_u m c]
  blk_point [iblk, idx t]

end Kernel

open Cert.Reference4Ideal Cert.Reference4Ideal.Gen in
theorem ref_eq (u : FVec Ideal Cert.Reference4Ideal.S8192x4096 .f32) (w : FVec Ideal Cert.Reference4Ideal.S4096x1024 .f32) (d : FVec Ideal Cert.Reference4Ideal.S8192x1024 .f32) :
    truncf .bf16 (select (cmpf .ogt u (broadcastInDim S8192x4096 ![] bcast_S_S8192x4096 (constant S_ .f32 0x00000000#32))) (mulf (Host.dotGeneral dot_S8192x1024_S4096x1024_S8192x4096_1_1_0_0_n_n none d w) (mulf (broadcastInDim S8192x4096 ![] bcast_S_S8192x4096 (constant S_ .f32 0x40000000#32)) (maximumf u (broadcastInDim S8192x4096 ![] bcast_S_S8192x4096 (constant S_ .f32 0x00000000#32))))) (broadcastInDim S8192x4096 ![] bcast_S_S8192x4096 (constant S_ .f32 0x00000000#32))) bitsLt_bf16_f32
      = G u w d := by
  unfold G
  funext j
  idx_vars j
  pointwise
  have h2 : Ideal.ofBits FTy.f32 1073741824#32 = 2 := by
    simp [Ideal.ofBits, Ideal.ieee]
    rw [← EReal.coe_mul]; norm_num; rfl
  rw [h2]
  split_ifs with h
  · rfl
  · rw [max_eq_right (not_lt.1 h), mul_zero, mul_zero]

open Cert.Kernel4Ideal in
theorem algebraic : Cert.algebraic_Kernel4Ideal_Reference4Ideal := by
  pair_intro
  · run_from Cert.Kernel4Ideal.Gen.run_main m g
  · run_from Cert.Reference4Ideal.Value.run m' g'
    exact (ref_eq _ _ _).trans (final m c).symm

theorem frame_reference : Cert.quiescent_Reference4Ideal := by
  intro m ρ _
  run_from Cert.Reference4Ideal.Value.run m ρ
  · intro c; exact ⟨trivial, trivial, trivial⟩
  · exact sem_eq_zero_of_no_sems rfl _

end Cert.Ff2

end
-- ==== Proof.GateClaim.lean ====
/- The gradient of the gated merge, with the product before it: the kernel's four results and the reference's as functions of the arguments. -/
module

public import proofs.«01_k».proof.Defs
public import proofs.«01_k».proof.Proof.Gen.Kernel5.Frame
public import proofs.«01_k».proof.Proof.Gen.Kernel5Ideal.Value
public import proofs.«01_k».proof.Proof.Gen.Reference5Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Gate

/-- The gate. -/
def sg (x : EReal) : EReal := Ideal.div 1 (1 + Ideal.exp (-x))

/-- An entry of the incoming gradient through `w`'s transpose. -/
def dm (w : FVec Ideal ⟨2, ![1024, 1024]⟩ .f32) (d : FVec Ideal ⟨2, ![8192, 1024]⟩ .f32) (r : Fin 8192) (l : Fin 1024) : EReal :=
  ∑ k : Fin 1024, d (ix2 r k) * w (ix2 l k)

/-- The gradient of a merged branch. -/
def Gy (g : FVec Ideal ⟨2, ![8192, 1024]⟩ .f32) (w : FVec Ideal ⟨2, ![1024, 1024]⟩ .f32) (d : FVec Ideal ⟨2, ![8192, 1024]⟩ .f32) :
    FVec Ideal ⟨2, ![8192, 1024]⟩ .bf16 := fun j => dm w d (j 0) (j 1) * sg (g j)

/-- The gradient of a branch's gate. -/
def Gg (g y : FVec Ideal ⟨2, ![8192, 1024]⟩ .f32) (w : FVec Ideal ⟨2, ![1024, 1024]⟩ .f32) (d : FVec Ideal ⟨2, ![8192, 1024]⟩ .f32) :
    FVec Ideal ⟨2, ![8192, 1024]⟩ .bf16 := fun j => dm w d (j 0) (j 1) * y j * (sg (g j) * (1 - sg (g j)))

section Kernel

open Cert.Kernel5Ideal Cert.Kernel5Ideal.Gen

variable (m : (ℓ : Loc nD τ sig) → Buf (Elt Ideal) ℓ)

theorem idx : ∀ t : Fin cfg0.N, win0_0.index t = ![t.val / 4, 0] ∧ win0_1.index t = ![t.val % 4, 0] ∧ win0_2.index t = ![t.val / 4, t.val % 4]
    ∧ win0_3.index t = ![t.val / 4, t.val % 4 + 4] ∧ win0_4.index t = ![t.val / 4, t.val % 4] ∧ win0_5.index t = ![t.val / 4, t.val % 4]
    ∧ win0_6.index t = ![t.val / 4, t.val % 4] ∧ win0_7.index t = ![t.val / 4, t.val % 4] ∧ win0_8.index t = ![t.val / 4, t.val % 4]
    ∧ win0_9.index t = ![t.val / 4, t.val % 4] :=
  (by decide +kernel : ∀ t : Fin grid0.N, _)

theorem acc_at (x : FVec Ideal S2048x1024 .bf16) (w : FVec Ideal S256x1024 .bf16) (r : Fin 2048) (l : Fin 256) :
    k0_pay5 (F := Ideal) x w (ix2 r l) = ∑ k : Fin 1024, x (ix2 r k) * w (ix2 l k) := by
  pointwise [k0_pay5]

theorem sg_at (g : FVec Ideal S2048x256 .bf16) (j : S2048x256.Idx) : k0_pay7 (F := Ideal) g j = sg (g j) := by
  unfold sg
  pointwise [k0_pay7]
  rw [zero_sub]

theorem sg_at' (g : FVec Ideal S2048x256 .bf16) (j : S2048x256.Idx) : k0_pay8 (F := Ideal) g j = sg (g j) := by
  unfold sg
  pointwise [k0_pay8]
  rw [zero_sub]

theorem gate_at (a y s : FVec Ideal S2048x256 .f32) (j : S2048x256.Idx) : k0_pay4 (F := Ideal) a y s j = a j * y j * (s j * (1 - s j)) := by
  pointwise [k0_pay4]

theorem y_at (y : FVec Ideal S2048x256 .bf16) : k0_pay6 (F := Ideal) y = y := by
  funext j
  pointwise [k0_pay6]

theorem gate1_at (x : FVec Ideal S2048x1024 .bf16) (w : FVec Ideal S256x1024 .bf16) (g y : FVec Ideal S2048x256 .bf16) (j : S2048x256.Idx) :
    k0_pay11 (F := Ideal) x w g y j = k0_pay5 (F := Ideal) x w j * y j * (sg (g j) * (1 - sg (g j))) := by
  rw [← sg_at]
  pointwise [k0_pay11]

/-- The arguments the region's inputs are made of. -/
abbrev aGa (c : Dev nD) : FVec Ideal S8192x1024 .f32 := m ((c : Thread nD τ).loc main_arg0)
abbrev aGb (c : Dev nD) : FVec Ideal S8192x1024 .f32 := m ((c : Thread nD τ).loc main_arg1)
abbrev aYa (c : Dev nD) : FVec Ideal S8192x1024 .f32 := m ((c : Thread nD τ).loc main_arg5)
abbrev aYb (c : Dev nD) : FVec Ideal S8192x1024 .f32 := m ((c : Thread nD τ).loc main_arg6)
abbrev aW (c : Dev nD) : FVec Ideal S1024x1024 .f32 := m ((c : Thread nD τ).loc main_arg7)
abbrev aD (c : Dev nD) : FVec Ideal S8192x1024 .f32 := m ((c : Thread nD τ).loc main_arg8)

theorem V_d (c : Dev nD) : (V m c main_v2 : FVec Ideal S8192x1024 .bf16) = aD m c := by
  unfold V
  simp only [hostOps0, StableHlo.TRef.unary, StableHlo.TRef.toBuf, StableHlo.TRef.ofBuf, cast_eq]
  after_results_simp
  rfl

theorem V_w (c : Dev nD) : (V m c main_v3 : FVec Ideal S1024x1024 .bf16) = aW m c := by
  unfold V
  simp only [hostOps0, StableHlo.TRef.unary, StableHlo.TRef.toBuf, StableHlo.TRef.ofBuf, cast_eq]
  after_results_simp
  rfl

theorem V_ya (c : Dev nD) : (V m c main_v4 : FVec Ideal S8192x1024 .bf16) = aYa m c := by
  unfold V
  simp only [hostOps0, StableHlo.TRef.unary, StableHlo.TRef.toBuf, StableHlo.TRef.ofBuf, cast_eq]
  after_results_simp
  rfl

theorem V_yb (c : Dev nD) : (V m c main_v5 : FVec Ideal S8192x1024 .bf16) = aYb m c := by
  unfold V
  simp only [hostOps0, StableHlo.TRef.unary, StableHlo.TRef.toBuf, StableHlo.TRef.ofBuf, cast_eq]
  after_results_simp
  rfl

theorem V_z (c : Dev nD) : (V m c main_v1 : FVec Ideal S8192x3584 .bf16)
    = concatenate S8192x3584 1 [⟨S8192x1024, aGa m c⟩, ⟨S8192x1024, aGb m c⟩, ⟨S8192x512, (m ((c : Thread nD τ).loc main_arg2) : FVec Ideal S8192x512 .f32)⟩,
      ⟨S8192x512, (m ((c : Thread nD τ).loc main_arg3) : FVec Ideal S8192x512 .f32)⟩, ⟨S8192x512, (m ((c : Thread nD τ).loc main_arg4) : FVec Ideal S8192x512 .f32)⟩]
      concatenates_S8192x1024_S8192x1024_S8192x512_S8192x512_S8192x512_S8192x3584_d1 := by
  unfold V
  simp only [hostOps0, StableHlo.TRef.unary, StableHlo.TRef.toBuf, StableHlo.TRef.ofBuf, cast_eq]
  after_results_simp
  rfl

/-- The first two parts of the packed array are the gates. -/
theorem z_a (c : Dev nD) (R : Fin 8192) (l : Fin 1024) : (V m c main_v1 : FVec Ideal S8192x3584 .bf16) (ix2 R ⟨l.val, by omega⟩) = aGa m c (ix2 R l) := by
  rw [V_z]
  pointwise

theorem z_b (c : Dev nD) (R : Fin 8192) (l : Fin 1024) : (V m c main_v1 : FVec Ideal S8192x3584 .bf16) (ix2 R ⟨1024 + l.val, by omega⟩) = aGb m c (ix2 R l) := by
  rw [V_z]
  pointwise

/-- The blocks at a point. -/
theorem ga_at (c : Dev nD) (t : Fin cfg0.N) (r : Fin 2048) (l : Fin 256) (R : Fin 8192) (L : Fin 1024) (hR : R.val = t.val / 4 * 2048 + r.val)
    (hL : L.val = t.val % 4 * 256 + l.val) : (iblk m c 2 t : FVec Ideal S2048x256 .bf16) (ix2 r l) = aGa m c (ix2 R L) := by
  have ht : t.val < 16 := lt_of_lt_of_eq t.isLt N_0
  rw [← z_a]
  blk_point [iblk, idx t]

theorem gb_at (c : Dev nD) (t : Fin cfg0.N) (r : Fin 2048) (l : Fin 256) (R : Fin 8192) (L : Fin 1024) (hR : R.val = t.val / 4 * 2048 + r.val)
    (hL : L.val = t.val % 4 * 256 + l.val) : (iblk m c 3 t : FVec Ideal S2048x256 .bf16) (ix2 r l) = aGb m c (ix2 R L) := by
  have ht : t.val < 16 := lt_of_lt_of_eq t.isLt N_0
  rw [← z_b]
  blk_point [iblk, idx t]

theorem ya_at (c : Dev nD) (t : Fin cfg0.N) (r : Fin 2048) (l : Fin 256) (R : Fin 8192) (L : Fin 1024) (hR : R.val = t.val / 4 * 2048 + r.val)
    (hL : L.val = t.val % 4 * 256 + l.val) : (iblk m c 4 t : FVec Ideal S2048x256 .bf16) (ix2 r l) = aYa m c (ix2 R L) := by
  have ht : t.val < 16 := lt_of_lt_of_eq t.isLt N_0
  rw [← V_ya]
  blk_point [iblk, idx t]

theorem yb_at (c : Dev nD) (t : Fin cfg0.N) (r : Fin 2048) (l : Fin 256) (R : Fin 8192) (L : Fin 1024) (hR : R.val = t.val / 4 * 2048 + r.val)
    (hL : L.val = t.val % 4 * 256 + l.val) : (iblk m c 5 t : FVec Ideal S2048x256 .bf16) (ix2 r l) = aYb m c (ix2 R L) := by
  have ht : t.val < 16 := lt_of_lt_of_eq t.isLt N_0
  rw [← V_yb]
  blk_point [iblk, idx t]

theorem dm_at (c : Dev nD) (t : Fin cfg0.N) (r : Fin 2048) (l : Fin 256) (R : Fin 8192) (L : Fin 1024) (hR : R.val = t.val / 4 * 2048 + r.val)
    (hL : L.val = t.val % 4 * 256 + l.val) :
    k0_pay5 (F := Ideal) (iblk m c 0 t : FVec Ideal S2048x1024 .bf16) (iblk m c 1 t : FVec Ideal S256x1024 .bf16) (ix2 r l)
      = dm (aW m c) (aD m c) R L := by
  have ht : t.val < 16 := lt_of_lt_of_eq t.isLt N_0
  rw [acc_at]
  unfold dm
  rw [← V_d, ← V_w]
  blk_point [iblk, idx t]

theorem final_ya (c : Dev nD) : (dats m 0 c).arrAt 6 (cfgs 0).N = Gy (aGa m c) (aW m c) (aD m c) := by
  refine (dats m 0 c).arrAt_eq_of_covers 6 _ (by decide +kernel) fun t _ y => ?_
  have ht : t.val < 16 := lt_of_lt_of_eq t.isLt N_0
  blk_simp
  rw [after0_6]
  frame_out
  idx_vars y
  obtain_idx i : S8192x1024 := [t.val / 4 * 2048 + (y0 : ℕ), t.val % 4 * 256 + (y1 : ℕ)] with hi
  refine Eq.trans (b := Gy (aGa m c) (aW m c) (aD m c) i) ?_ (congrArg _ ?_)
  · refine (congrArg₂ (· * ·) (dm_at m c t y0 y1 (i 0) (i 1) hi0 hi1) ((sg_at _ _).trans (congrArg sg ((ga_at m c t y0 y1 (i 0) (i 1) hi0 hi1).trans
      (congrArg _ (eq_ix2 i).symm)))) :)
  · blk_ext [idx t]

theorem final_yb (c : Dev nD) : (dats m 0 c).arrAt 7 (cfgs 0).N = Gy (aGb m c) (aW m c) (aD m c) := by
  refine (dats m 0 c).arrAt_eq_of_covers 7 _ (by decide +kernel) fun t _ y => ?_
  have ht : t.val < 16 := lt_of_lt_of_eq t.isLt N_0
  blk_simp
  rw [after0_7]
  frame_out
  idx_vars y
  obtain_idx i : S8192x1024 := [t.val / 4 * 2048 + (y0 : ℕ), t.val % 4 * 256 + (y1 : ℕ)] with hi
  refine Eq.trans (b := Gy (aGb m c) (aW m c) (aD m c) i) ?_ (congrArg _ ?_)
  · refine (congrArg₂ (· * ·) (dm_at m c t y0 y1 (i 0) (i 1) hi0 hi1) ((sg_at' _ _).trans (congrArg sg ((gb_at m c t y0 y1 (i 0) (i 1) hi0 hi1).trans
      (congrArg _ (eq_ix2 i).symm)))) :)
  · blk_ext [idx t]

theorem final_ga (c : Dev nD) : (dats m 0 c).arrAt 8 (cfgs 0).N = Gg (aGa m c) (aYa m c) (aW m c) (aD m c) := by
  refine (dats m 0 c).arrAt_eq_of_covers 8 _ (by decide +kernel) fun t _ y => ?_
  have ht : t.val < 16 := lt_of_lt_of_eq t.isLt N_0
  blk_simp
  rw [after0_8]
  frame_out
  idx_vars y
  obtain_idx i : S8192x1024 := [t.val / 4 * 2048 + (y0 : ℕ), t.val % 4 * 256 + (y1 : ℕ)] with hi
  refine Eq.trans (b := Gg (aGa m c) (aYa m c) (aW m c) (aD m c) i) ?_ (congrArg _ ?_)
  · refine (gate1_at _ _ _ _ _).trans ?_
    rw [ga_at m c t y0 y1 (i 0) (i 1) hi0 hi1, ya_at m c t y0 y1 (i 0) (i 1) hi0 hi1, dm_at m c t y0 y1 (i 0) (i 1) hi0 hi1, ← eq_ix2 i]
    rfl
  · blk_ext [idx t]

theorem final_gb (c : Dev nD) : (dats m 0 c).arrAt 9 (cfgs 0).N = Gg (aGb m c) (aYb m c) (aW m c) (aD m c) := by
  refine (dats m 0 c).arrAt_eq_of_covers 9 _ (by decide +kernel) fun t _ y => ?_
  have ht : t.val < 16 := lt_of_lt_of_eq t.isLt N_0
  blk_simp
  rw [after0_9]
  frame_out
  idx_vars y
  obtain_idx i : S8192x1024 := [t.val / 4 * 2048 + (y0 : ℕ), t.val % 4 * 256 + (y1 : ℕ)] with hi
  refine Eq.trans (b := Gg (aGb m c) (aYb m c) (aW m c) (aD m c) i) ?_ (congrArg _ ?_)
  · refine (gate_at _ _ _ _).trans ?_
    rw [sg_at', y_at, gb_at m c t y0 y1 (i 0) (i 1) hi0 hi1, yb_at m c t y0 y1 (i 0) (i 1) hi0 hi1, dm_at m c t y0 y1 (i 0) (i 1) hi0 hi1, ← eq_ix2 i]
    rfl
  · blk_ext [idx t]

end Kernel

theorem algebraic : Cert.algebraic_Kernel5Ideal_Reference5Ideal := by
  pair_intro
  · run_from Cert.Kernel5Ideal.Gen.run_main m g
  · run_from Cert.Reference5Ideal.Value.run m' g'
    · rw [final_ya m c]; funext j; idx_vars j; pointwise [Gy, dm, sg]; exact mul_comm _ _
    · rw [final_yb m c]; funext j; idx_vars j; pointwise [Gy, dm, sg]; exact mul_comm _ _
    · rw [final_ga m c]; funext j; idx_vars j; pointwise [Gg, dm, sg]
    · rw [final_gb m c]; funext j; idx_vars j; pointwise [Gg, dm, sg]

theorem frame_reference : Cert.quiescent_Reference5Ideal := by
  intro m ρ _
  run_from Cert.Reference5Ideal.Value.run m ρ
  · intro c; exact ⟨trivial, trivial, trivial, trivial, trivial, trivial, trivial, trivial, trivial⟩
  · exact sem_eq_zero_of_no_sems rfl _

end Cert.Gate

end
-- ==== Proof.RopeBack.lean ====
module

public import proofs.«01_k».proof.Defs
public import proofs.«01_k».proof.Proof.Gen.Kernel6.Frame
public import proofs.«01_k».proof.Proof.Gen.Kernel6Ideal.Value
public import proofs.«01_k».proof.Proof.Gen.Reference6Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Rope

/-- The angle of rotary channel `i` at position `q`. -/
def turn (q : BitVec 32) (i : Nat) : EReal :=
  FloatOps.sitofp (F := Ideal) .f32 q *
    Ideal.pow (Ideal.ofBits .f32 1176256512#32)
      (Ideal.div (-FloatOps.sitofp (F := Ideal) .f32 (BitVec.ofNat 32 i)) (Ideal.ofBits .f32 1098907648#32))

/-- The factor of the own lane. -/
def tc (q : BitVec 32) (l : Nat) : EReal :=
  if l < 64 then 1 else if l < 80 then Ideal.cos (turn q (l - 64))
  else if l < 96 then Ideal.cos (turn q (l - 80)) else 0

/-- The factor of the lane sixteen to the right. -/
def ta (q : BitVec 32) (l : Nat) : EReal :=
  if l < 64 then 0 else if l < 80 then -Ideal.sin (turn q (l - 64)) else 0

/-- The factor of the lane sixteen to the left. -/
def tb (q : BitVec 32) (l : Nat) : EReal :=
  if l < 80 then 0 else if l < 96 then Ideal.sin (turn q (l - 80)) else 0

/-- One lane of the rotary gradient as the kernel forms it: three products with the tables. -/
def three (x : Fin 128 → EReal) (c a b : Fin 128 → EReal) (l : Fin 128) : EReal :=
  x l * c l + x ⟨(l.val + 16) % 128, by omega⟩ * (0 - a l) + x ⟨(l.val + 112) % 128, by omega⟩ * (0 - b l)

/-- One lane of the rotary gradient. -/
def back (q : BitVec 32) (x : Nat → EReal) (l : Nat) : EReal :=
  if l < 64 then x l
  else if l < 80 then x (l + 16) * Ideal.sin (turn q (l - 64)) + x l * Ideal.cos (turn q (l - 64))
  else if l < 96 then x l * Ideal.cos (turn q (l - 80)) + -x (l - 16) * Ideal.sin (turn q (l - 80))
  else 0

/-- The three products are the rotary gradient: outside the rotary lanes both neighbours have the factor zero. -/
theorem three_eq (q : BitVec 32) (x : Nat → EReal) (l : Fin 128) :
    three (fun l => x l.val) (fun l => tc q l.val) (fun l => ta q l.val) (fun l => tb q l.val) l = back q x l.val := by
  unfold three tc ta tb back
  have h0 : (0 : EReal) - 0 = 0 := by simp
  by_cases h1 : l.val < 64
  · have : l.val < 80 := by omega
    simp [h1, this]
  · by_cases h2 : l.val < 80
    · have e : (l.val + 16) % 128 = l.val + 16 := by omega
      simp [h1, h2, e]
      rw [add_comm]
    · by_cases h3 : l.val < 96
      · have e : (l.val + 112) % 128 = l.val - 16 := by omega
        simp [h1, h2, h3, e]
      · simp [h1, h2, h3]

section Kernel

open Cert.Kernel6Ideal Cert.Kernel6Ideal.Gen

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] :=
  (by decide +kernel : ∀ t : Fin grid0.N, _)

/-- The block's columns by head and lane. -/
def col (h : Fin 8) (l : Fin 128) : Fin 1024 := ⟨128 * h.val + l.val, by omega⟩

/-- Row `r` of a block of tables. -/
abbrev row (x : FVec Ideal S1024x128 .f32) (r : Fin 1024) : Fin 128 → EReal := fun l => x (ix2 r l)

theorem cat_at (p0 p1 p2 p3 p4 p5 p6 p7 : FVec Ideal S1024x128 .f32) (r : Fin 1024) (h : Fin 8) (l : Fin 128) :
    concatenate S1024x1024 1 [⟨S1024x128, p0⟩, ⟨S1024x128, p1⟩, ⟨S1024x128, p2⟩, ⟨S1024x128, p3⟩, ⟨S1024x128, p4⟩, ⟨S1024x128, p5⟩,
        ⟨S1024x128, p6⟩, ⟨S1024x128, p7⟩]
      concatenates_S1024x128_S1024x128_S1024x128_S1024x128_S1024x128_S1024x128_S1024x128_S1024x128_S1024x1024_d1 (ix2 r (col h l))
      = (![p0, p1, p2, p3, p4, p5, p6, p7] : Fin 8 → FVec Ideal S1024x128 .f32) h (ix2 r l) :=
  concatenate_ofFn_apply (s₁ := S1024x128) (t := S1024x1024) 1 (![p0, p1, p2, p3, p4, p5, p6, p7] : Fin 8 → FVec Ideal S1024x128 .f32)
    concatenates_S1024x128_S1024x128_S1024x128_S1024x128_S1024x128_S1024x128_S1024x128_S1024x128_S1024x1024_d1 rfl 128 rfl
    (ix2 r (col h l)) h (by show (128 * h.val + l.val) / 128 = h.val; omega) (ix2 r l)
    (by show l.val = (128 * h.val + l.val) % 128; omega)
    (fun b hb => by
      fin_cases b
      · rfl
      · exact absurd rfl hb)

theorem last_at (v3 v5 v7 v14 v15 v26 v37 v48 v59 v70 v81 v83 v84 : FVec Ideal S1024x128 .f32) (r : Fin 1024) (h : Fin 8) (l : Fin 128)
    (h83 : ∀ r l, v83 (ix2 r l) = 0 - v5 (ix2 r l)) (h84 : ∀ r l, v84 (ix2 r l) = 0) :
    k0_pay1 (F := Ideal) v3 v5 v7 v14 v15 v26 v37 v48 v59 v70 v81 v83 v84 (ix2 r (col h l))
      = (![v26 (ix2 r l), v37 (ix2 r l), v48 (ix2 r l), v59 (ix2 r l), v70 (ix2 r l), v81 (ix2 r l),
          three (row v14 r) (row v3 r) (row v5 r) (row v7 r) l, three (row v15 r) (row v3 r) (row v5 r) (row v7 r) l] : Fin 8 → EReal) h := by
  have e1 : (l.val + 128 - 112) % 128 = (l.val + 16) % 128 := by omega
  have e2 : (l.val + 128 - 16) % 128 = (l.val + 112) % 128 := by omega
  refine (cat_at _ _ _ _ _ _ _ _ r h l).trans ?_
  fin_cases h
  iterate 6 rfl
  · show addf (F := Ideal) _ _ (ix2 r l) = three _ _ _ _ l
    unfold three row
    pointwise
    simp only [h83, h84, e1, e2]
  · show addf (F := Ideal) _ _ (ix2 r l) = three _ _ _ _ l
    unfold three row
    pointwise
    simp only [e1, e2]

theorem pay12_at (x0 : FVec Ideal S1024x1024 .f32) (x1 x2 x3 : FVec Ideal S1024x128 .f32) (r : Fin 1024) (l : Fin 128) :
    k0_pay12 (F := Ideal) x0 x1 x2 x3 (ix2 r l) = three (fun l => x0 (ix2 r (col 0 l))) (row x1 r) (row x2 r) (row x3 r) l := by
  unfold col three row
  have e1 : (l.val + 128 - 112) % 128 = (l.val + 16) % 128 := by omega
  have e2 : (l.val + 128 - 16) % 128 = (l.val + 112) % 128 := by omega
  pointwise [k0_pay12, k0_pay4, k0_pay5, k0_pay3, k0_pay2]
  simp only [e1, e2]

theorem pay13_at (x0 : FVec Ideal S1024x1024 .f32) (x1 x2 x3 : FVec Ideal S1024x128 .f32) (r : Fin 1024) (l : Fin 128) :
    k0_pay13 (F := Ideal) x0 x1 x2 x3 (ix2 r l) = three (fun l => x0 (ix2 r (col 1 l))) (row x1 r) (row x2 r) (row x3 r) l := by
  unfold col three row
  have e1 : (l.val + 128 - 112) % 128 = (l.val + 16) % 128 := by omega
  have e2 : (l.val + 128 - 16) % 128 = (l.val + 112) % 128 := by omega
  pointwise [k0_pay13, k0_pay4, k0_pay5, k0_pay3, k0_pay2]
  simp only [e1, e2]

theorem pay16_at (v3 v7 v10 v39 v40 : FVec Ideal S1024x128 .f32) (v5 : FVec Ideal S1024x128 .f32) (r : Fin 1024) (l : Fin 128)
    (h39 : v39 (ix2 r l) = 0 - v5 (ix2 r l)) (h40 : v40 (ix2 r l) = 0) :
    k0_pay16 (F := Ideal) v3 v7 v10 v39 v40 (ix2 r l) = three (row v10 r) (row v3 r) (row v5 r) (row v7 r) l := by
  unfold three row
  have e1 : (l.val + 128 - 112) % 128 = (l.val + 16) % 128 := by omega
  have e2 : (l.val + 128 - 16) % 128 = (l.val + 112) % 128 := by omega
  pointwise [k0_pay16]
  simp only [e1, e2, h39, h40]

theorem pay17_at (v3 v5 v7 x : FVec Ideal S1024x128 .f32) (r : Fin 1024) (l : Fin 128) :
    k0_pay17 (F := Ideal) v3 v5 v7 x (ix2 r l) = three (row x r) (row v3 r) (row v5 r) (row v7 r) l := by
  unfold three row
  have e1 : (l.val + 128 - 112) % 128 = (l.val + 16) % 128 := by omega
  have e2 : (l.val + 128 - 16) % 128 = (l.val + 112) % 128 := by omega
  pointwise [k0_pay17]
  simp only [e1, e2]

/-- The block's result at head `h`, lane `l`. -/
theorem out_at (x0 : FVec Ideal S1024x1024 .f32) (x1 x2 x3 : FVec Ideal S1024x128 .f32) (r : Fin 1024) (h : Fin 8) (l : Fin 128) :
    k0_pay1 (k0_pay22 x0 x1 x2 x3) (k0_pay23 x0 x1 x2 x3) (k0_pay24 x0 x1 x2 x3) (k0_pay10 x0) (k0_pay11 x0) (k0_pay12 x0 x1 x2 x3) (k0_pay13 x0 x1 x2 x3)
      (k0_pay16 (k0_pay22 x0 x1 x2 x3) (k0_pay24 x0 x1 x2 x3) (k0_pay6 x0) (k0_pay14 x2) (k0_pay15 (F := Ideal)))
      (k0_pay17 (k0_pay22 x0 x1 x2 x3) (k0_pay23 x0 x1 x2 x3) (k0_pay24 x0 x1 x2 x3) (k0_pay7 x0)) (k0_pay18 (k0_pay22 x0 x1 x2 x3) (k0_pay23 x0 x1 x2 x3) (k0_pay24 x0 x1 x2 x3) (k0_pay8 x0))
      (k0_pay19 (k0_pay22 x0 x1 x2 x3) (k0_pay23 x0 x1 x2 x3) (k0_pay24 x0 x1 x2 x3) (k0_pay9 x0)) (k0_pay20 (k0_pay23 x0 x1 x2 x3)) (k0_pay21 (F := Ideal)) (ix2 r (col h l))
      = three (fun l => x0 (ix2 r (col h l))) (row x1 r) (row x2 r) (row x3 r) l := by
  have r3 : row (k0_pay22 x0 x1 x2 x3) r = row x1 r := by funext l; unfold row; pointwise [k0_pay22, k0_pay3]
  have r4 : row (k0_pay23 x0 x1 x2 x3) r = row x2 r := by funext l; unfold row; pointwise [k0_pay23, k0_pay4]
  have r5 : row (k0_pay24 x0 x1 x2 x3) r = row x3 r := by funext l; unfold row; pointwise [k0_pay24, k0_pay5]
  have r6 : row (k0_pay6 x0) r = fun l => x0 (ix2 r (col 2 l)) := by funext l; unfold row col; pointwise [k0_pay6, k0_pay2]
  have r7 : row (k0_pay7 x0) r = fun l => x0 (ix2 r (col 3 l)) := by funext l; unfold row col; pointwise [k0_pay7, k0_pay2]
  have r8 : row (k0_pay8 x0) r = fun l => x0 (ix2 r (col 4 l)) := by funext l; unfold row col; pointwise [k0_pay8, k0_pay2]
  have r9 : row (k0_pay9 x0) r = fun l => x0 (ix2 r (col 5 l)) := by funext l; unfold row col; pointwise [k0_pay9, k0_pay2]
  have r10 : row (k0_pay10 x0) r = fun l => x0 (ix2 r (col 6 l)) := by funext l; unfold row col; pointwise [k0_pay10, k0_pay2]
  have r11 : row (k0_pay11 x0) r = fun l => x0 (ix2 r (col 7 l)) := by funext l; unfold row col; pointwise [k0_pay11, k0_pay2]
  rw [last_at _ _ _ _ _ _ _ _ _ _ _ _ _ _ _ _ (fun r l => by pointwise [k0_pay20]) (fun r l => by pointwise [k0_pay21]),
    pay12_at, pay13_at, pay16_at _ _ _ _ _ (k0_pay23 x0 x1 x2 x3) r l (by pointwise [k0_pay14, k0_pay23, k0_pay4]) (by pointwise [k0_pay15]), pay17_at,
    show k0_pay18 (k0_pay22 x0 x1 x2 x3) (k0_pay23 x0 x1 x2 x3) (k0_pay24 x0 x1 x2 x3) (k0_pay8 x0) (ix2 r l) = _ from pay17_at _ _ _ _ r l,
    show k0_pay19 (k0_pay22 x0 x1 x2 x3) (k0_pay23 x0 x1 x2 x3) (k0_pay24 x0 x1 x2 x3) (k0_pay9 x0) (ix2 r l) = _ from pay17_at _ _ _ _ r l, r3, r4, r5, r6, r7, r8, r9, r10, r11]
  fin_cases h <;> rfl

/-- The positions. -/
abbrev posn (c : Dev nD) : IVec S8192 32 := m ((c : Thread nD τ).loc main_arg1)

theorem V_c (c : Dev nD) (R : Fin 8192) (l : Fin 128) :
    (V m c main_v16 : FVec Ideal S8192x128 .f32) (ix2 R l) = tc (posn m c (ix1 R)) l.val := by
  unfold V
  simp only [hostOps0, hostOps0_1, hostOps0_2, List.flatten_cons, List.flatten_nil, List.cons_append, List.nil_append, List.append_nil,
    StableHlo.TRef.binary, StableHlo.TRef.unary, StableHlo.TRef.toBuf, StableHlo.TRef.ofBuf, cast_eq]
  after_results_simp
  pointwise
  after_results_simp
  pointwise
  unfold tc turn
  have e : l.val - 64 - 16 = l.val - 80 := by omega
  simp only [e]
  split_ifs <;> first | omega | rfl

theorem V_a (c : Dev nD) (R : Fin 8192) (l : Fin 128) :
    (V m c main_v20 : FVec Ideal S8192x128 .f32) (ix2 R l) = ta (posn m c (ix1 R)) l.val := by
  unfold V
  simp only [hostOps0, hostOps0_1, hostOps0_2, List.flatten_cons, List.flatten_nil, List.cons_append, List.nil_append, List.append_nil,
    StableHlo.TRef.binary, StableHlo.TRef.unary, StableHlo.TRef.toBuf, StableHlo.TRef.ofBuf, cast_eq]
  after_results_simp
  pointwise
  after_results_simp
  pointwise
  unfold ta turn
  split_ifs <;> first | omega | rfl

theorem V_b (c : Dev nD) (R : Fin 8192) (l : Fin 128) :
    (V m c main_v22 : FVec Ideal S8192x128 .f32) (ix2 R l) = tb (posn m c (ix1 R)) l.val := by
  unfold V
  simp only [hostOps0, hostOps0_1, hostOps0_2, List.flatten_cons, List.flatten_nil, List.cons_append, List.nil_append, List.append_nil,
    StableHlo.TRef.binary, StableHlo.TRef.unary, StableHlo.TRef.toBuf, StableHlo.TRef.ofBuf, cast_eq]
  after_results_simp
  pointwise
  after_results_simp
  pointwise
  unfold tb turn
  split_ifs <;> first | omega | rfl

/-- Head `h` of row `R` of the gradient, by lane; nothing beyond lane 95. -/
def lane (d : FVec Ideal ⟨2, ![8192, 768]⟩ .f32) (R : Fin 8192) (h : Fin 8) (l : Nat) : EReal :=
  if hl : l < 96 then d (ix2 R ⟨h.val * 96 + l, by omega⟩) else 0

theorem V_x (c : Dev nD) (R : Fin 8192) (h : Fin 8) (l : Fin 128) :
    (V m c main_v25 : FVec Ideal S8192x1024 .f32) (ix2 R (col h l)) = lane (m ((c : Thread nD τ).loc main_arg2)) R h l.val := by
  unfold col lane
  unfold V
  simp only [hostOps0, hostOps0_1, hostOps0_2, List.flatten_cons, List.flatten_nil, List.cons_append, List.nil_append, List.append_nil,
    StableHlo.TRef.binary, StableHlo.TRef.unary, StableHlo.TRef.toBuf, StableHlo.TRef.ofBuf, cast_eq]
  after_results_simp
  pointwise
  split_ifs with h1
  · rfl
  · simp [FloatOps.sitofp]

/-- The whole result: each head's row turned back. -/
def G (p : IVec ⟨1, ![8192]⟩ 32) (d : FVec Ideal ⟨2, ![8192, 768]⟩ .f32) : FVec Ideal ⟨2, ![8192, 1024]⟩ .bf16 := fun j =>
  back (p (ix1 (j 0))) (lane d (j 0) ⟨(j 1).val / 128, by have := (j 1).isLt; simp at this; omega⟩) ((j 1).val % 128)

theorem G_at (p : IVec ⟨1, ![8192]⟩ 32) (d : FVec Ideal ⟨2, ![8192, 768]⟩ .f32) (R : Fin 8192) (h : Fin 8) (l : Fin 128) :
    G p d (ix2 R (col h l)) = back (p (ix1 R)) (lane d R h) l.val := by
  have e1 : (128 * h.val + l.val) / 128 = h.val := by omega
  have e2 : (128 * h.val + l.val) % 128 = l.val := by omega
  show back (p (ix1 R)) (lane d R ⟨(128 * h.val + l.val) / 128, _⟩) ((128 * h.val + l.val) % 128) = _
  rw [e2]
  congr 2
  exact Fin.ext e1

/-- Every column is a head's lane. -/
theorem col_cases (k : Fin 1024) : ∃ h l, k = col h l :=
  ⟨⟨k.val / 128, by omega⟩, ⟨k.val % 128, by omega⟩, Fin.ext (by show k.val = 128 * (k.val / 128) + k.val % 128; omega)⟩

theorem final (c : Dev nD) : (dats m 0 c).arrAt 4 (cfgs 0).N
    = G (m ((c : Thread nD τ).loc main_arg1)) (m ((c : Thread nD τ).loc main_arg2)) := by
  refine (dats m 0 c).arrAt_eq_of_covers 4 _ (by decide +kernel) fun t _ y => ?_
  have ht : t.val < 8 := lt_of_lt_of_eq t.isLt N_0
  blk_simp
  rw [after0_4]
  frame_out
  idx_vars y
  obtain ⟨h, l, rfl⟩ := col_cases y1
  have hx : ∀ l : Fin 128, (iblk m c 0 t : FVec Ideal S1024x1024 .f32) (ix2 y0 (col h l))
      = lane (m ((c : Thread nD τ).loc main_arg2)) ⟨t.val * 1024 + y0.val, by omega⟩ h l.val := by
    intro l; rw [← V_x]; blk_point [iblk, idx t]
  have hc : ∀ l : Fin 128, (iblk m c 1 t : FVec Ideal S1024x128 .f32) (ix2 y0 l) = tc (posn m c (ix1 ⟨t.val * 1024 + y0.val, by omega⟩)) l.val := by
    intro l; rw [← V_c]; blk_point [iblk, idx t]
  have ha : ∀ l : Fin 128, (iblk m c 2 t : FVec Ideal S1024x128 .f32) (ix2 y0 l) = ta (posn m c (ix1 ⟨t.val * 1024 + y0.val, by omega⟩)) l.val := by
    intro l; rw [← V_a]; blk_point [iblk, idx t]
  have hb : ∀ l : Fin 128, (iblk m c 3 t : FVec Ideal S1024x128 .f32) (ix2 y0 l) = tb (posn m c (ix1 ⟨t.val * 1024 + y0.val, by omega⟩)) l.val := by
    intro l; rw [← V_b]; blk_point [iblk, idx t]
  refine Eq.trans (b := G (m ((c : Thread nD τ).loc main_arg1)) (m ((c : Thread nD τ).loc main_arg2)) (ix2 ⟨t.val * 1024 + y0.val, by omega⟩ (col h l))) ?_ (congrArg _ ?_)
  · rw [G_at, ← three_eq]
    rw [out_at]
    unfold row
    simp only [hx, hc, ha, hb]
  · unfold col; blk_ext [idx t]

end Kernel

theorem zero_word : FloatOps.sitofp (F := Ideal) FTy.f32 0#32 = 0 := by simp [FloatOps.sitofp]

open Cert.Reference6Ideal in
theorem ref_at (m : (ℓ : Loc nD τ sig) → Buf (Elt Ideal) ℓ) (c : Dev nD) (R : Fin 8192) (h : Fin 8) (l : Fin 128) :
    (Cert.Reference6Ideal.Value.res_main_v64 m c : FVec Ideal S8192x1024 .bf16) (ix2 R (col h l))
      = back ((m ((c.tc : Thread nD τ).loc main_arg1) : IVec S8192 32) (ix1 R)) (lane (m ((c.tc : Thread nD τ).loc main_arg2)) R h) l.val := by
  unfold back lane col turn
  pointwise [Cert.Reference6Ideal.Value.res_main_v64]
  by_cases h1 : l.val < 64
  · have a1 : l.val < 96 := by omega
    have a2 : ¬(64 ≤ l.val ∧ l.val - 64 < 32) := by omega
    simp only [h1, a1, a2, dite_true, dite_false, if_true, zero_add]
  by_cases h2 : l.val < 80
  · have e1 : 64 + (16 + (l.val - 64)) = l.val + 16 := by omega
    have e2 : 64 + (l.val - 64) = l.val := by omega
    have a1 : l.val < 96 := by omega
    have a2 : 64 ≤ l.val ∧ l.val - 64 < 32 := by omega
    have a3 : ¬(16 ≤ l.val - 64 ∧ l.val - 64 - 16 < 16) := by omega
    have a4 : l.val - 64 < 16 := by omega
    have a5 : l.val + 16 < 96 := by omega
    simp only [h1, h2, a1, a2, a3, a4, a5, dite_true, dite_false, if_true, if_false, and_self, zero_add, add_zero, e1, e2]
  by_cases h3 : l.val < 96
  · have e1 : 64 + (16 + (l.val - 64 - 16)) = l.val := by omega
    have e2 : 64 + (l.val - 64 - 16) = l.val - 16 := by omega
    have e3 : l.val - 64 - 16 = l.val - 80 := by omega
    have a2 : 64 ≤ l.val ∧ l.val - 64 < 32 := by omega
    have a3 : 16 ≤ l.val - 64 ∧ l.val - 64 - 16 < 16 := by omega
    have a4 : ¬ l.val - 64 < 16 := by omega
    have a5 : l.val - 16 < 96 := by omega
    simp only [h1, h2, h3, a2, a3, a4, a5, dite_true, dite_false, if_true, if_false, and_self, add_zero, e1, e2]
    simp only [e3]
  · simp only [h1, h2, h3, dite_false, if_false]
    exact zero_word

open Cert.Kernel6Ideal in
theorem algebraic : Cert.algebraic_Kernel6Ideal_Reference6Ideal := by
  pair_intro
  · run_from Cert.Kernel6Ideal.Gen.run_main m g
    · exact Cert.Kernel6Ideal.Gen.V_main_arg0 m c
    · exact Cert.Kernel6Ideal.Gen.V_main_arg1 m c
    · exact Cert.Kernel6Ideal.Gen.V_main_arg2 m c
  · run_from Cert.Reference6Ideal.Value.run m' g'
    rw [final m c]
    funext j
    idx_vars j
    obtain ⟨h, l, rfl⟩ := col_cases j1
    refine (ref_at m' c j0 h l).trans ?_
    rw [G_at, (hagree c).2.1, (hagree c).2.2]

theorem frame_reference : Cert.quiescent_Reference6Ideal := by
  intro m ρ _
  run_from Cert.Reference6Ideal.Value.run m ρ
  · intro c; exact ⟨trivial, trivial, trivial⟩
  · exact sem_eq_zero_of_no_sems rfl _

end Cert.Rope

end
-- ==== Proof.Compact.lean ====
module

public import proofs.«01_k».proof.Proof.RopeBack
public import proofs.«01_k».proof.Defs
public import proofs.«01_k».proof.Proof.Gen.Kernel7.Frame
public import proofs.«01_k».proof.Proof.Gen.Kernel7Ideal.Value
public import proofs.«01_k».proof.Proof.Gen.Reference7Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Compact

section Kernel

open Cert.Kernel7Ideal Cert.Kernel7Ideal.Gen

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- The lane a compact column comes from. -/
def spot (q : Fin 512) : Fin 1024 := ⟨q.val / 64 * 128 + q.val % 64, by omega⟩

theorem spot_word : ∀ q : Fin 512, IntOp.addi (IntOp.muli (IntOp.shrsi ArithUnit.vector (BitVec.ofNat 32 q.val) 6#32) 128#32) (IntOp.andi (BitVec.ofNat 32 q.val) 63#32)
    = BitVec.ofNat 32 (spot q).val := by
  decide +kernel

theorem pay6_at (q : Fin 512) (k : Fin 1024) : k0_pay6 (F := Ideal) (ix2 q k) = if k = spot q then (1 : EReal) else 0 := by
  pointwise [k0_pay6]
  rw [spot_word q]
  have hk := k.isLt
  have hs := (spot q).isLt
  simp only [Fin.ext_iff]
  word_cmp

/-- Choosing by the lane number. -/
theorem choose (l : Fin 128) (n : ℕ) (hn : n < 128) (a b : EReal) :
    Scalar.select (IntOp.cmpi CmpIPredicate.eq (BitVec.ofNat 32 l.val) (BitVec.ofNat 32 n)) a b = if l.val = n then a else b := by
  have hl := l.isLt
  word_cmp

/-- A sum over the lanes of which one is kept. -/
theorem pick (f : Fin 128 → EReal) (n : ℕ) (hn : n < 128) :
    ∑ x : Fin 128, Scalar.select (IntOp.cmpi CmpIPredicate.eq (BitVec.ofNat 32 x.val) (BitVec.ofNat 32 n)) (f x) 0 = f ⟨n, hn⟩ := by
  rw [Finset.sum_eq_single ⟨n, hn⟩]
  · rw [choose _ n hn, if_pos rfl]
  · intro b _ hb
    rw [choose b n hn, if_neg fun h => hb (Fin.ext h)]
  · exact fun h => absurd (Finset.mem_univ _) h

theorem df_at (x0 x1 : FVec Ideal S512x1024 .f32) (x2 : FVec Ideal S512x1024 .bf16) (r : Fin 512) (l : Fin 128) :
    k0_pay1 (k0_pay33 (F := Ideal) x0 x1 x2) (k0_pay30 (k0_pay12 x0) (k0_pay19 x1) (k0_pay20 x1) (k0_pay33 (F := Ideal) x0 x1 x2) (k0_pay28 (k0_pay9 x0) (k0_pay10 x0) (k0_pay17 x1) (k0_pay18 x1) (k0_pay33 (F := Ideal) x0 x1 x2) (k0_pay25 (k0_pay7 x0) (k0_pay14 x1) (k0_pay15 x1) (k0_pay33 (F := Ideal) x0 x1 x2) (k0_pay22 (F := Ideal)) (k0_pay23 x0) k0_pay24) (k0_pay26 (k0_pay8 x0) (k0_pay16 x1) (k0_pay33 (F := Ideal) x0 x1 x2)) k0_pay27) (k0_pay29 (k0_pay11 x0) (k0_pay33 (F := Ideal) x0 x1 x2))) (k0_pay31 (k0_pay13 x0) (k0_pay33 (F := Ideal) x0 x1 x2)) (k0_pay32 (k0_pay21 x1) (k0_pay33 (F := Ideal) x0 x1 x2)) (ix2 r l)
      = if h : l.val < 8 then x0 (ix2 r ⟨128 * l.val + 64, by omega⟩) - x1 (ix2 r ⟨128 * l.val + 70, by omega⟩) else (0 : EReal) := by
  pointwise [k0_pay1, k0_pay30, k0_pay28, k0_pay25, k0_pay22, k0_pay23, k0_pay24, k0_pay26, k0_pay27, k0_pay29, k0_pay31, k0_pay32, k0_pay33, k0_pay7, k0_pay8, k0_pay9, k0_pay10, k0_pay11, k0_pay12, k0_pay13, k0_pay14, k0_pay15, k0_pay16, k0_pay17, k0_pay18, k0_pay19, k0_pay20, k0_pay21]
  simp only [pick _ 64 (by decide), pick _ 70 (by decide), choose l 0 (by decide), choose l 1 (by decide), choose l 2 (by decide),
    choose l 3 (by decide), choose l 4 (by decide), choose l 5 (by decide), choose l 6 (by decide), choose l 7 (by decide)]
  obtain ⟨n, hn⟩ := l
  dsimp only
  by_cases h : n < 8
  · interval_cases n <;> simp
  · simp only [h, show n ≠ 0 by omega, show n ≠ 1 by omega, show n ≠ 2 by omega, show n ≠ 3 by omega, show n ≠ 4 by omega,
      show n ≠ 5 by omega, show n ≠ 6 by omega, show n ≠ 7 by omega, if_false, dite_false]

/-- A row times the matrix that gathers the compact columns. -/
theorem gather (f : Fin 1024 → EReal) (q : Fin 512) : ∑ k : Fin 1024, f k * k0_pay6 (F := Ideal) (ix2 q k) = f (spot q) := by
  simp only [pay6_at, mul_ite, mul_one, mul_zero, Finset.sum_ite_eq', Finset.mem_univ, if_true]

theorem pay2_at (x0 : FVec Ideal S512x1024 .f32) (w : FVec Ideal S512x1024 .bf16) (r q : Fin 512) :
    k0_pay2 x0 w (ix2 r q) = ∑ k : Fin 1024, x0 (ix2 r k) * w (ix2 q k) := by
  pointwise [k0_pay2]

theorem pay3_at (x0 : FVec Ideal S512x1024 .f32) (w : FVec Ideal S512x1024 .bf16) (r q : Fin 512) :
    k0_pay3 x0 w (ix2 r q) = ∑ k : Fin 1024, x0 (ix2 r k) * w (ix2 q k) := by
  pointwise [k0_pay3]

theorem pay4_at (x0 : FVec Ideal S512x1024 .bf16) (w : FVec Ideal S512x1024 .bf16) (r q : Fin 512) :
    k0_pay4 (k0_pay5 x0) w (ix2 r q) = ∑ k : Fin 1024, x0 (ix2 r k) * w (ix2 q k) := by
  pointwise [k0_pay4, k0_pay5]

theorem V_v (c : Dev nD) (j : S8192x1024.Idx) : (V m c main_v0 : FVec Ideal S8192x1024 .bf16) j
    = (m ((c : Thread nD τ).loc main_arg6) : FVec Ideal S8192x1024 .f32) j := by
  unfold V
  simp only [hostOps0, List.flatten_cons, List.flatten_nil, List.cons_append, List.nil_append, List.append_nil, StableHlo.TRef.binary, StableHlo.TRef.unary, StableHlo.TRef.toBuf, StableHlo.TRef.ofBuf, cast_eq]
  after_results_simp
  rfl

/-- Eight heads of 64 columns, out of eight heads of 128 lanes. -/
def G (x : FVec Ideal S8192x1024 .f32) : FVec Ideal S8192x512 .bf16 := fun i => x (ix2 (i 0) (spot (i 1)))

/-- The difference of the two columns that carry the decay, a lane for each head. -/
def D (x y : FVec Ideal S8192x1024 .f32) : FVec Ideal S8192x128 .f32 := fun i =>
  if h : (i 1).val < 8 then x (ix2 (i 0) ⟨128 * (i 1).val + 64, by omega⟩) - y (ix2 (i 0) ⟨128 * (i 1).val + 70, by omega⟩) else (0 : EReal)

theorem final_1 (c : Dev nD) : (dats m 0 c).arrAt 3 (cfgs 0).N = G (m ((c : Thread nD τ).loc main_arg4)) := by
  refine (dats m 0 c).arrAt_eq_of_covers 3 _ (by decide +kernel) fun t _ y => ?_
  have ht : t.val < 16 := lt_of_lt_of_eq t.isLt N_0
  blk_simp
  rw [after0_3]
  frame_out
  idx_vars y
  have hx : ∀ k : Fin 1024, (iblk m c 0 t : FVec Ideal S512x1024 .f32) (ix2 y0 k)
      = (m ((c : Thread nD τ).loc main_arg4) : FVec Ideal S8192x1024 .f32) (ix2 ⟨t.val * 512 + y0.val, by omega⟩ k) := by
    intro k; rw [← V_main_arg4 m c]; blk_point [iblk, idx t]
  refine Eq.trans (b := G (m ((c : Thread nD τ).loc main_arg4)) (ix2 ⟨t.val * 512 + y0.val, by omega⟩ y1)) ?_ (congrArg _ ?_)
  · refine (pay2_at _ _ y0 y1).trans ((Finset.sum_congr rfl fun k _ => ?_).trans (gather (fun k => (m ((c : Thread nD τ).loc main_arg4) : FVec Ideal S8192x1024 .f32) (ix2 ⟨t.val * 512 + y0.val, by omega⟩ k)) y1))
    rw [hx k]
    rfl
  · blk_ext [idx t]

theorem final_2 (c : Dev nD) : (dats m 0 c).arrAt 4 (cfgs 0).N = G (m ((c : Thread nD τ).loc main_arg5)) := by
  refine (dats m 0 c).arrAt_eq_of_covers 4 _ (by decide +kernel) fun t _ y => ?_
  have ht : t.val < 16 := lt_of_lt_of_eq t.isLt N_0
  blk_simp
  rw [after0_4]
  frame_out
  idx_vars y
  have hx : ∀ k : Fin 1024, (iblk m c 1 t : FVec Ideal S512x1024 .f32) (ix2 y0 k)
      = (m ((c : Thread nD τ).loc main_arg5) : FVec Ideal S8192x1024 .f32) (ix2 ⟨t.val * 512 + y0.val, by omega⟩ k) := by
    intro k; rw [← V_main_arg5 m c]; blk_point [iblk, idx t]
  refine Eq.trans (b := G (m ((c : Thread nD τ).loc main_arg5)) (ix2 ⟨t.val * 512 + y0.val, by omega⟩ y1)) ?_ (congrArg _ ?_)
  · refine (pay3_at _ _ y0 y1).trans ((Finset.sum_congr rfl fun k _ => ?_).trans (gather (fun k => (m ((c : Thread nD τ).loc main_arg5) : FVec Ideal S8192x1024 .f32) (ix2 ⟨t.val * 512 + y0.val, by omega⟩ k)) y1))
    rw [hx k]
    rfl
  · blk_ext [idx t]

theorem final_3 (c : Dev nD) : (dats m 0 c).arrAt 5 (cfgs 0).N = G (m ((c : Thread nD τ).loc main_arg6)) := by
  refine (dats m 0 c).arrAt_eq_of_covers 5 _ (by decide +kernel) fun t _ y => ?_
  have ht : t.val < 16 := lt_of_lt_of_eq t.isLt N_0
  blk_simp
  rw [after0_5]
  frame_out
  idx_vars y
  have hx : ∀ k : Fin 1024, (iblk m c 2 t : FVec Ideal S512x1024 .bf16) (ix2 y0 k)
      = (m ((c : Thread nD τ).loc main_arg6) : FVec Ideal S8192x1024 .f32) (ix2 ⟨t.val * 512 + y0.val, by omega⟩ k) := by
    intro k; rw [← V_v m c]; blk_point [iblk, idx t]
  refine Eq.trans (b := G (m ((c : Thread nD τ).loc main_arg6)) (ix2 ⟨t.val * 512 + y0.val, by omega⟩ y1)) ?_ (congrArg _ ?_)
  · refine (pay4_at _ _ y0 y1).trans ((Finset.sum_congr rfl fun k _ => ?_).trans (gather (fun k => (m ((c : Thread nD τ).loc main_arg6) : FVec Ideal S8192x1024 .f32) (ix2 ⟨t.val * 512 + y0.val, by omega⟩ k)) y1))
    rw [hx k]
    rfl
  · blk_ext [idx t]

theorem final_4 (c : Dev nD) : (dats m 0 c).arrAt 6 (cfgs 0).N = D (m ((c : Thread nD τ).loc main_arg4)) (m ((c : Thread nD τ).loc main_arg5)) := by
  refine (dats m 0 c).arrAt_eq_of_covers 6 _ (by decide +kernel) fun t _ y => ?_
  have ht : t.val < 16 := lt_of_lt_of_eq t.isLt N_0
  blk_simp
  rw [after0_6]
  frame_out
  idx_vars y
  have hx : ∀ k : Fin 1024, (iblk m c 0 t : FVec Ideal S512x1024 .f32) (ix2 y0 k)
      = (m ((c : Thread nD τ).loc main_arg4) : FVec Ideal S8192x1024 .f32) (ix2 ⟨t.val * 512 + y0.val, by omega⟩ k) := by
    intro k; rw [← V_main_arg4 m c]; blk_point [iblk, idx t]
  have hy : ∀ k : Fin 1024, (iblk m c 1 t : FVec Ideal S512x1024 .f32) (ix2 y0 k)
      = (m ((c : Thread nD τ).loc main_arg5) : FVec Ideal S8192x1024 .f32) (ix2 ⟨t.val * 512 + y0.val, by omega⟩ k) := by
    intro k; rw [← V_main_arg5 m c]; blk_point [iblk, idx t]
  refine Eq.trans (b := D (m ((c : Thread nD τ).loc main_arg4)) (m ((c : Thread nD τ).loc main_arg5)) (ix2 ⟨t.val * 512 + y0.val, by omega⟩ y1)) ?_ (congrArg _ ?_)
  · refine (df_at _ _ _ y0 y1).trans ?_
    simp only [hx, hy]
    rfl
  · blk_ext [idx t]

end Kernel

open Cert.Reference7Ideal in
/-- What the reference takes of a gradient laid out with 128 lanes a head. -/
theorem ref_at (x : FVec Ideal S8192x1024 .f32) (R : Fin 8192) (q : Fin 512) :
    (truncf .bf16 (shapeCast _ (extractStridedSlice S8192x8x64 ![0, 0, 0] (shapeCast _ x Gen.shapeCasts_S8192x1024_S8192x8x128) Gen.slices_S8192x8x128_S8192x8x64_0_0_0) Gen.shapeCasts_S8192x8x64_S8192x512) Gen.bitsLt_bf16_f32 : FVec Ideal S8192x512 .bf16) (ix2 R q)
      = x (ix2 R (spot q)) := by
  unfold spot
  pointwise

open Cert.Reference7Ideal in
/-- The gradient of the decay as the reference adds it up. -/
theorem ref_decay (x y : FVec Ideal S8192x1024 .f32) :
    (pad S8192x128 ![0, 0] ![0, 120] ![0, 0] (addf (Host.reduceAdd (Host.negf (extractStridedSlice S8192x8x1 ![0, 0, 70] (shapeCast S8192x8x128 y Gen.shapeCasts_S8192x1024_S8192x8x128) Gen.slices_S8192x8x128_S8192x8x1_0_0_70)) (constant S_ .f32 0#32) Gen.reducesTo_S8192x8x1_S8192x8_d2 Gen.h_S_)
        (Host.reduceAdd (extractStridedSlice S8192x8x1 ![0, 0, 64] (shapeCast S8192x8x128 x Gen.shapeCasts_S8192x1024_S8192x8x128) Gen.slices_S8192x8x128_S8192x8x1_0_0_64) (constant S_ .f32 0#32) Gen.reducesTo_S8192x8x1_S8192x8_d2 Gen.h_S_))
      (sitofp .f32 (constantI S_ 32 0#32)) Gen.pads_S8192x8_S8192x128_000_01200 Gen.h_S_ : FVec Ideal S8192x128 .f32)
      = D x y := by
  funext j
  idx_vars j
  unfold D
  pointwise
  by_cases h : j1.val < 8
  · have e : ∀ a : EReal, ∑ _x : Fin 1, a = a := fun a => Fin.sum_univ_one _
    simp only [h, dite_true, mul_comm j1.val 128]
    exact (congrArg₂ (· + ·) (e _) (e _)).trans ((add_comm _ _).trans (sub_eq_add_neg _ _).symm)
  · simp only [h, dite_false]
    exact Cert.Rope.zero_word

open Cert.Kernel7Ideal in
theorem algebraic : Cert.algebraic_Kernel7Ideal_Reference7Ideal := by
  pair_intro
  · run_from Cert.Kernel7Ideal.Value.run_blocks m g
  · run_from Cert.Reference7Ideal.Value.run m' g'
    · rw [final_1 m c]; funext j; idx_vars j; exact ref_at _ j0 j1
    · rw [final_2 m c]; funext j; idx_vars j; exact ref_at _ j0 j1
    · rw [final_3 m c]; funext j; idx_vars j; exact ref_at _ j0 j1
    · rw [final_4 m c]; exact ref_decay _ _

theorem frame_reference : Cert.quiescent_Reference7Ideal := by
  intro m ρ _
  run_from Cert.Reference7Ideal.Value.run m ρ
  · intro c; exact ⟨trivial, trivial, trivial, trivial, trivial, trivial, trivial⟩
  · exact sem_eq_zero_of_no_sems rfl _

end Cert.Compact

end
-- ==== Proof.SharedBack.lean ====
module

public import proofs.«01_k».proof.Defs
public import proofs.«01_k».proof.Proof.RopeBack
public import proofs.«01_k».proof.Proof.Gen.On_shared_lanes
public import proofs.«01_k».proof.Proof.Gen.Kernel8.Frame
public import proofs.«01_k».proof.Proof.Gen.Kernel8Ideal.Value
public import proofs.«01_k».proof.Proof.Gen.Reference8Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Shared

open Cert.Rope

/-- Head `h` of row `R` of the values' gradient, by lane; nothing beyond lane 63. -/
def vlane (e : FVec Ideal ⟨2, ![8192, 512]⟩ .f32) (R : Fin 8192) (h : Fin 8) (l : Nat) : EReal :=
  if hl : l < 64 then e (ix2 R ⟨h.val * 64 + l, by omega⟩) else 0

/-- The columns of the first result by block and lane. -/
def wide (b : Fin 16) (l : Fin 128) : Fin 2048 := ⟨128 * b.val + l.val, by omega⟩

/-- The first result at block `b`, lane `l`: the keys' heads, then the values' heads. -/
def both (d : FVec Ideal ⟨2, ![8192, 768]⟩ .f32) (e : FVec Ideal ⟨2, ![8192, 512]⟩ .f32) (R : Fin 8192) (b : Fin 16) (l : Nat) : EReal :=
  if hb : b.val < 8 then lane d R ⟨b.val, hb⟩ l else vlane e R ⟨b.val - 8, by omega⟩ l

def G1 (d : FVec Ideal ⟨2, ![8192, 768]⟩ .f32) (e : FVec Ideal ⟨2, ![8192, 512]⟩ .f32) : FVec Ideal ⟨2, ![8192, 2048]⟩ .bf16 := fun j =>
  both d e (j 0) ⟨(j 1).val / 128, by have := (j 1).isLt; simp at this; omega⟩ ((j 1).val % 128)

theorem G1_at (d : FVec Ideal ⟨2, ![8192, 768]⟩ .f32) (e : FVec Ideal ⟨2, ![8192, 512]⟩ .f32) (R : Fin 8192) (b : Fin 16) (l : Fin 128) :
    G1 d e (ix2 R (wide b l)) = both d e R b l.val := by
  have e1 : (128 * b.val + l.val) / 128 = b.val := by omega
  have e2 : (128 * b.val + l.val) % 128 = l.val := by omega
  show both d e R ⟨(128 * b.val + l.val) / 128, _⟩ ((128 * b.val + l.val) % 128) = _
  rw [e2]
  congr 1
  exact Fin.ext e1

theorem wide_cases (k : Fin 2048) : ∃ b l, k = wide b l :=
  ⟨⟨k.val / 128, by omega⟩, ⟨k.val % 128, by omega⟩, Fin.ext (by show k.val = 128 * (k.val / 128) + k.val % 128; omega)⟩

/-- The second result: the heads' sum, turned back. -/
def G2 (p : IVec ⟨1, ![8192]⟩ 32) (d : FVec Ideal ⟨2, ![8192, 768]⟩ .f32) : FVec Ideal ⟨2, ![8192, 128]⟩ .bf16 := fun j =>
  back (p (ix1 (j 0))) (fun n => ∑ h : Fin 8, lane d (j 0) h n) (j 1).val

section Kernel

open Cert.Kernel8Ideal Cert.Kernel8Ideal.Gen

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

theorem pay2_at (x : FVec Ideal S1024x1024 .f32) (y : FVec Ideal S1024x1024 .bf16) (r : Fin 1024) (b : Fin 16) (l : Fin 128) :
    k0_pay2 (F := Ideal) x y (ix2 r (wide b l))
      = if hb : b.val < 8 then x (ix2 r (col ⟨b.val, hb⟩ l)) else y (ix2 r (col ⟨b.val - 8, by omega⟩ l)) := by
  unfold wide col
  pointwise [k0_pay2, k0_pay1]
  by_cases hb : b.val < 8
  · have a : 128 * b.val + l.val < 1024 := by omega
    simp only [hb, a, dite_true]
  · have a : ¬128 * b.val + l.val < 1024 := by omega
    have a' : 128 * b.val + l.val - 1024 = 128 * (b.val - 8) + l.val := by omega
    simp only [hb, a, a', dite_false]

theorem pay3_at (x : FVec Ideal S1024x1024 .f32) (x1 x2 x3 : FVec Ideal S1024x128 .f32) (r : Fin 1024) (l : Fin 128) :
    k0_pay3 (F := Ideal) x x1 x2 x3 (ix2 r l)
      = three (fun l => ∑ h : Fin 8, x (ix2 r (col h l))) (fun l => x1 (ix2 r l)) (fun l => x2 (ix2 r l)) (fun l => x3 (ix2 r l)) l := by
  unfold three col
  have e1 : (l.val + 128 - 112) % 128 = (l.val + 16) % 128 := by omega
  have e2 : (l.val + 128 - 16) % 128 = (l.val + 112) % 128 := by omega
  pointwise [k0_pay3, k0_pay1]
  simp only [Fin.sum_univ_eight, e1, e2, Fin.val_zero, mul_zero, zero_add]
  rfl

/-- The positions. -/
abbrev posn (c : Dev nD) : IVec S8192 32 := m ((c : Thread nD τ).loc main_arg3)

theorem V_c (c : Dev nD) (R : Fin 8192) (l : Fin 128) :
    (V m c main_v16 : FVec Ideal S8192x128 .f32) (ix2 R l) = tc (posn m c (ix1 R)) l.val := by
  unfold V
  simp only [hostOps0, hostOps0_1, hostOps0_2, hostOps0_3, hostOps0_4, List.flatten_cons, List.flatten_nil, List.cons_append, List.nil_append, List.append_nil,
    StableHlo.TRef.binary, StableHlo.TRef.unary, StableHlo.TRef.toBuf, StableHlo.TRef.ofBuf, cast_eq]
  after_results_simp
  pointwise
  after_results_simp
  pointwise
  unfold tc turn
  have e : l.val - 64 - 16 = l.val - 80 := by omega
  simp only [e]
  split_ifs <;> first | omega | rfl

theorem V_a (c : Dev nD) (R : Fin 8192) (l : Fin 128) :
    (V m c main_v20 : FVec Ideal S8192x128 .f32) (ix2 R l) = ta (posn m c (ix1 R)) l.val := by
  unfold V
  simp only [hostOps0, hostOps0_1, hostOps0_2, hostOps0_3, hostOps0_4, List.flatten_cons, List.flatten_nil, List.cons_append, List.nil_append, List.append_nil,
    StableHlo.TRef.binary, StableHlo.TRef.unary, StableHlo.TRef.toBuf, StableHlo.TRef.ofBuf, cast_eq]
  after_results_simp
  pointwise
  after_results_simp
  pointwise
  unfold ta turn
  split_ifs <;> first | omega | rfl

theorem V_b (c : Dev nD) (R : Fin 8192) (l : Fin 128) :
    (V m c main_v22 : FVec Ideal S8192x128 .f32) (ix2 R l) = tb (posn m c (ix1 R)) l.val := by
  unfold V
  simp only [hostOps0, hostOps0_1, hostOps0_2, hostOps0_3, hostOps0_4, List.flatten_cons, List.flatten_nil, List.cons_append, List.nil_append, List.append_nil,
    StableHlo.TRef.binary, StableHlo.TRef.unary, StableHlo.TRef.toBuf, StableHlo.TRef.ofBuf, cast_eq]
  after_results_simp
  pointwise
  after_results_simp
  pointwise
  unfold tb turn
  split_ifs <;> first | omega | rfl

theorem V_x (c : Dev nD) (R : Fin 8192) (h : Fin 8) (l : Fin 128) :
    (V m c main_v25 : FVec Ideal S8192x1024 .f32) (ix2 R (col h l)) = lane (m ((c : Thread nD τ).loc main_arg4)) R h l.val := by
  unfold col lane
  unfold V
  simp only [hostOps0, hostOps0_1, hostOps0_2, hostOps0_3, hostOps0_4, List.flatten_cons, List.flatten_nil, List.cons_append, List.nil_append, List.append_nil,
    StableHlo.TRef.binary, StableHlo.TRef.unary, StableHlo.TRef.toBuf, StableHlo.TRef.ofBuf, cast_eq]
  after_results_simp
  pointwise
  split_ifs with h1
  · rfl
  · exact zero_word

theorem V_y (c : Dev nD) (R : Fin 8192) (h : Fin 8) (l : Fin 128) :
    (V m c main_v29 : FVec Ideal S8192x1024 .bf16) (ix2 R (col h l)) = vlane (m ((c : Thread nD τ).loc main_arg5)) R h l.val := by
  unfold col vlane
  unfold V
  simp only [hostOps0, hostOps0_1, hostOps0_2, hostOps0_3, hostOps0_4, List.flatten_cons, List.flatten_nil, List.cons_append, List.nil_append, List.append_nil,
    StableHlo.TRef.binary, StableHlo.TRef.unary, StableHlo.TRef.toBuf, StableHlo.TRef.ofBuf, cast_eq]
  after_results_simp
  pointwise
  have e1 : (128 * h.val + l.val) / 128 = h.val := by omega
  have e2 : (128 * h.val + l.val) % 128 = l.val := by omega
  simp only [e1, e2]
  by_cases h1 : l.val < 64
  · simp only [h1, h.isLt, and_self, dite_true]
  · simp only [h1, and_false, dite_false]
    exact zero_word

theorem final_1 (c : Dev nD) : (dats m 0 c).arrAt 5 (cfgs 0).N
    = G1 (m ((c : Thread nD τ).loc main_arg4)) (m ((c : Thread nD τ).loc main_arg5)) := by
  refine (dats m 0 c).arrAt_eq_of_covers 5 _ (by decide +kernel) fun t _ y => ?_
  have ht : t.val < 8 := lt_of_lt_of_eq t.isLt N_0
  blk_simp
  rw [after0_5]
  frame_out
  idx_vars y
  obtain ⟨b, l, rfl⟩ := wide_cases y1
  have hx : ∀ h, (iblk m c 0 t : FVec Ideal S1024x1024 .f32) (ix2 y0 (col h l))
      = lane (m ((c : Thread nD τ).loc main_arg4)) ⟨t.val * 1024 + y0.val, by omega⟩ h l.val := by
    intro h; rw [← V_x]; blk_point [iblk, idx t]
  have hy : ∀ h, (iblk m c 1 t : FVec Ideal S1024x1024 .bf16) (ix2 y0 (col h l))
      = vlane (m ((c : Thread nD τ).loc main_arg5)) ⟨t.val * 1024 + y0.val, by omega⟩ h l.val := by
    intro h; rw [← V_y]; blk_point [iblk, idx t]
  refine Eq.trans (b := G1 (m ((c : Thread nD τ).loc main_arg4)) (m ((c : Thread nD τ).loc main_arg5)) (ix2 ⟨t.val * 1024 + y0.val, by omega⟩ (wide b l))) ?_ (congrArg _ ?_)
  · rw [G1_at, pay2_at]
    unfold both
    simp only [hx, hy]
  · unfold wide; blk_ext [idx t]

theorem final_2 (c : Dev nD) : (dats m 0 c).arrAt 6 (cfgs 0).N
    = G2 (m ((c : Thread nD τ).loc main_arg3)) (m ((c : Thread nD τ).loc main_arg4)) := by
  refine (dats m 0 c).arrAt_eq_of_covers 6 _ (by decide +kernel) fun t _ y => ?_
  have ht : t.val < 8 := lt_of_lt_of_eq t.isLt N_0
  blk_simp
  rw [after0_6]
  frame_out
  idx_vars y
  have hx : ∀ (h : Fin 8) (l : Fin 128), (iblk m c 0 t : FVec Ideal S1024x1024 .f32) (ix2 y0 (col h l))
      = lane (m ((c : Thread nD τ).loc main_arg4)) ⟨t.val * 1024 + y0.val, by omega⟩ h l.val := by
    intro h l; rw [← V_x]; blk_point [iblk, idx t]
  have hc : ∀ l : Fin 128, (iblk m c 2 t : FVec Ideal S1024x128 .f32) (ix2 y0 l) = tc (posn m c (ix1 ⟨t.val * 1024 + y0.val, by omega⟩)) l.val := by
    intro l; rw [← V_c]; blk_point [iblk, idx t]
  have ha : ∀ l : Fin 128, (iblk m c 3 t : FVec Ideal S1024x128 .f32) (ix2 y0 l) = ta (posn m c (ix1 ⟨t.val * 1024 + y0.val, by omega⟩)) l.val := by
    intro l; rw [← V_a]; blk_point [iblk, idx t]
  have hb : ∀ l : Fin 128, (iblk m c 4 t : FVec Ideal S1024x128 .f32) (ix2 y0 l) = tb (posn m c (ix1 ⟨t.val * 1024 + y0.val, by omega⟩)) l.val := by
    intro l; rw [← V_b]; blk_point [iblk, idx t]
  refine Eq.trans (b := G2 (m ((c : Thread nD τ).loc main_arg3)) (m ((c : Thread nD τ).loc main_arg4)) (ix2 ⟨t.val * 1024 + y0.val, by omega⟩ y1)) ?_ (congrArg _ ?_)
  · show _ = back (posn m c (ix1 ⟨t.val * 1024 + y0.val, by omega⟩)) (fun n => ∑ h : Fin 8, lane (m ((c : Thread nD τ).loc main_arg4)) ⟨t.val * 1024 + y0.val, by omega⟩ h n) y1.val
    rw [← three_eq, pay3_at]
    simp only [hx, hc, ha, hb]
  · blk_ext [idx t]

end Kernel

open Cert.Reference8Ideal in
theorem ref_at (m : (ℓ : Loc nD τ sig) → Buf (Elt Ideal) ℓ) (c : Dev nD) (R : Fin 8192) (l : Fin 128) (hl : 64 ≤ l.val) :
    (Cert.Reference8Ideal.Value.res_main_v64 m c : FVec Ideal S8192x128 .bf16) (ix2 R l)
      = G2 (m ((c.tc : Thread nD τ).loc main_arg3)) (m ((c.tc : Thread nD τ).loc main_arg4)) (ix2 R l) := by
  show _ = back ((m ((c.tc : Thread nD τ).loc main_arg3) : IVec S8192 32) (ix1 R)) (fun n => ∑ h : Fin 8, lane (m ((c.tc : Thread nD τ).loc main_arg4)) R h n) l.val
  unfold back lane
  pointwise [Cert.Reference8Ideal.Value.res_main_v64]
  have h1 : ¬ l.val < 64 := by omega
  by_cases h2 : l.val < 80
  · have e1 : 64 + (16 + (l.val - 64)) = l.val + 16 := by omega
    have e2 : 64 + (l.val - 64) = l.val := by omega
    have a1 : l.val < 96 := by omega
    have a2 : 64 ≤ l.val ∧ l.val - 64 < 32 := by omega
    have a3 : ¬(16 ≤ l.val - 64 ∧ l.val - 64 - 16 < 16) := by omega
    have a4 : l.val - 64 < 16 := by omega
    have a5 : l.val + 16 < 96 := by omega
    simp only [h1, h2, a1, a2, a3, a4, a5, dite_true, dite_false, if_true, if_false, and_self, zero_add, e1, e2]
    exact (Fin.sum_univ_one _).trans rfl
  by_cases h3 : l.val < 96
  · have e1 : 64 + (16 + (l.val - 64 - 16)) = l.val := by omega
    have e2 : 64 + (l.val - 64 - 16) = l.val - 16 := by omega
    have e3 : l.val - 64 - 16 = l.val - 80 := by omega
    have a2 : 64 ≤ l.val ∧ l.val - 64 < 32 := by omega
    have a3 : 16 ≤ l.val - 64 ∧ l.val - 64 - 16 < 16 := by omega
    have a4 : ¬ l.val - 64 < 16 := by omega
    have a5 : l.val - 16 < 96 := by omega
    simp only [h1, h2, h3, a2, a3, a4, a5, dite_true, dite_false, if_true, if_false, and_self, add_zero, e1, e2]
    simp only [e3]
    exact (Fin.sum_univ_one _).trans rfl
  · have a2 : ¬(64 ≤ l.val ∧ l.val - 64 < 32) := by omega
    simp only [h1, h2, h3, a2, dite_false, if_false]
    exact zero_word

variable (X0 X1 : FVec Ideal ⟨2, ![8192, 512]⟩ .f32) (X2 : FVec Ideal ⟨2, ![8192, 32]⟩ .f32) (X3 : IVec ⟨1, ![8192]⟩ 32)
  (X4 : FVec Ideal ⟨2, ![8192, 768]⟩ .f32) (X5 : FVec Ideal ⟨2, ![8192, 512]⟩ .f32)

theorem mask_1 (R : Fin 8192) (b : Fin 16) (l : Fin 128) (e : (Cert.On_shared_lanes.fn (F := Ideal) X0 X1 X2 X3 X4 X5).1 (ix2 R (wide b l)) = 1#1) :
    l.val < 64 := by
  revert e
  unfold wide
  pointwise [Cert.On_shared_lanes.fn]
  revert l
  decide +kernel

theorem mask_2 (R : Fin 8192) (l : Fin 128) (e : (Cert.On_shared_lanes.fn (F := Ideal) X0 X1 X2 X3 X4 X5).2 (ix2 R l) = 1#1) :
    64 ≤ l.val := by
  revert e
  pointwise [Cert.On_shared_lanes.fn]
  revert l
  decide +kernel

theorem algebraic : Cert.algebraic_Kernel8Ideal_Reference8Ideal_on_shared_lanes := by
  intro m g m' g' hpre hargs
  refine ⟨fun c => G1 (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)),
    fun c => G2 (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)), ?_, ?_⟩
  · refine (θ_run _ _ _).mono ?_ (Cert.Kernel8Ideal.Value.run_blocks m g)
    intro r hr c
    obtain ⟨r0, r1, a⟩ := hr c
    exact ⟨fun i _ => congrFun (r0.trans (final_1 m c)) i, fun i _ => congrFun (r1.trans (final_2 m c)) i, a⟩
  · refine (θ_run _ _ _).mono ?_ (Cert.Reference8Ideal.Value.run m' g')
    intro r hr c
    obtain ⟨r0, r1, a⟩ := hr c
    obtain ⟨g0, g1, g2, g3, g4, g5⟩ := hargs c
    refine ⟨fun i hi => ?_, fun i hi => ?_, a⟩
    · idx_vars i
      obtain ⟨b, l, rfl⟩ := wide_cases i1
      have hl := mask_1 _ _ _ _ _ _ _ _ _ hi
      refine (congrFun r0 _).trans ?_
      rw [G1_at, ← g4, ← g5]
      unfold both lane vlane wide
      pointwise
      have f0 : l.val < 96 := by omega
      by_cases hb : b.val < 8
      · have f1 : 128 * b.val + l.val < 1024 := by omega
        have f2 : (128 * b.val + l.val) / 128 = b.val := by omega
        simp only [hb, hl, f0, f1, f2, and_self, dite_true]
      · have f1 : ¬128 * b.val + l.val < 1024 := by omega
        have f2 : (128 * b.val + l.val - 1024) / 128 = b.val - 8 := by omega
        have f3 : (128 * b.val + l.val - 1024) % 128 = l.val := by omega
        have f4 : b.val - 8 < 8 := by omega
        simp only [hb, hl, f1, f2, f3, f4, and_self, dite_true, dite_false]
    · idx_vars i
      have hl := mask_2 _ _ _ _ _ _ _ _ hi
      refine (congrFun r1 _).trans ?_
      rw [ref_at m' c i0 i1 hl, g3, g4]

theorem frame_reference : Cert.quiescent_Reference8Ideal := by
  intro m ρ _
  run_from Cert.Reference8Ideal.Value.run m ρ
  · intro c; exact ⟨trivial, trivial, trivial, trivial, trivial, trivial⟩
  · exact sem_eq_zero_of_no_sems rfl _

end Cert.Shared

end
-- ==== Proof.OwnReal.lean ====
module

public import proofs.«01_k».proof.Proof.OwnFinite
public import Idealize.ShloMosaic.Lib.Pointwise

/-!
# Extended reals that are real

Products, sums and differences of real entries are real, which is what the finiteness preconditions are used for.
-/

@[expose] public section

namespace Cert.Own

open Idealize.ShloMosaic

/-- An extended real that is a real number. -/
def IsReal (x : EReal) : Prop := ∃ r : ℝ, x = r

theorem AllReal.at {S : Shape} {X : S.Idx → EReal} (h : AllReal X) (i : S.Idx) : IsReal (X i) :=
  ⟨(X i).toReal, (EReal.coe_toReal (h i).1 (h i).2).symm⟩

theorem IsReal.mul {x y : EReal} (hx : IsReal x) (hy : IsReal y) : IsReal (x * y) := by
  obtain ⟨r, rfl⟩ := hx
  obtain ⟨s, rfl⟩ := hy
  exact ⟨r * s, (EReal.coe_mul r s).symm⟩

theorem IsReal.add {x y : EReal} (hx : IsReal x) (hy : IsReal y) : IsReal (x + y) := by
  obtain ⟨r, rfl⟩ := hx
  obtain ⟨s, rfl⟩ := hy
  exact ⟨r + s, (EReal.coe_add r s).symm⟩

theorem IsReal.sub {x y : EReal} (hx : IsReal x) (hy : IsReal y) : IsReal (x - y) := by
  obtain ⟨r, rfl⟩ := hx
  obtain ⟨s, rfl⟩ := hy
  exact ⟨r - s, (EReal.coe_sub r s).symm⟩

theorem IsReal.zero : IsReal 0 := ⟨0, rfl⟩

theorem IsReal.sum {n : ℕ} {f : Fin n → EReal} (h : ∀ k, IsReal (f k)) : IsReal (∑ k, f k) :=
  Finset.sum_induction f IsReal (fun _ _ => IsReal.add) IsReal.zero fun k _ => h k

theorem IsReal.sub_self {x : EReal} (hx : IsReal x) : x - x = 0 := by
  obtain ⟨r, rfl⟩ := hx
  rw [← EReal.coe_sub, _root_.sub_self]; rfl

/-- The sum of an array of reals, read in the reals. -/
theorem sum_coe {n : ℕ} (f : Fin n → ℝ) : ∑ k, (f k : EReal) = ((∑ k, f k : ℝ) : EReal) :=
  (map_sum (⟨⟨Real.toEReal, EReal.coe_zero⟩, EReal.coe_add⟩ : ℝ →+ EReal) f Finset.univ).symm

end Cert.Own
-- ==== Proof.Delta.lean ====
/- The gradient of an attention's output projection, with minus the row sums of gradient times output beside each head. -/
module

public import proofs.«01_k».proof.Defs
public import proofs.«01_k».proof.Proof.OwnReal
public import proofs.«01_k».proof.Proof.RopeBack
public import proofs.«01_k».proof.Proof.Compact
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Pre_finite_o
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Own (AllReal IsReal)

namespace Cert.Delta

/-- A head's lane as the kernel writes it: minus the row sum in three parts on lanes 64 to 66, the product elsewhere. -/
def lanes (v o : Fin 128 → EReal) (l : Fin 128) : EReal :=
  if l.val = 66 then (0 - ∑ x, v x * o x) - (0 - ∑ x, v x * o x) - ((0 - ∑ x, v x * o x) - (0 - ∑ x, v x * o x))
  else if l.val = 65 then (0 - ∑ x, v x * o x) - (0 - ∑ x, v x * o x)
  else if l.val = 64 then 0 - ∑ x, v x * o x
  else v l

/-- Entry `(R, n)` of the gradient through the projection. -/
def back (w : FVec Ideal ⟨2, ![512, 1024]⟩ .f32) (d : FVec Ideal ⟨2, ![8192, 1024]⟩ .f32) (R : Fin 8192) (n : Fin 512) : EReal :=
  ∑ k : Fin 1024, d (ix2 R k) * w (ix2 n k)

/-- Lane `l` of head `h` of the result. -/
def entry (o : FVec Ideal ⟨2, ![8192, 512]⟩ .f32) (w : FVec Ideal ⟨2, ![512, 1024]⟩ .f32) (d : FVec Ideal ⟨2, ![8192, 1024]⟩ .f32) (R : Fin 8192) (h : Fin 8) (l : ℕ) : EReal :=
  if hl : l < 64 then back w d R ⟨h.val * 64 + l, by omega⟩
  else if l = 64 then -∑ x : Fin 64, back w d R ⟨h.val * 64 + x.val, by omega⟩ * o (ix2 R ⟨h.val * 64 + x.val, by omega⟩)
  else 0

/-- The whole result: by head its gradient, minus its row sum with the output, then zeros. -/
def G (o : FVec Ideal ⟨2, ![8192, 512]⟩ .f32) (w : FVec Ideal ⟨2, ![512, 1024]⟩ .f32) (d : FVec Ideal ⟨2, ![8192, 1024]⟩ .f32) :
    FVec Ideal ⟨2, ![8192, 1024]⟩ .bf16 := fun j =>
  entry o w d (j 0) ⟨(j 1).val / 128, by have := (j 1).isLt; simp at this; omega⟩ ((j 1).val % 128)

theorem G_at (o : FVec Ideal ⟨2, ![8192, 512]⟩ .f32) (w : FVec Ideal ⟨2, ![512, 1024]⟩ .f32) (d : FVec Ideal ⟨2, ![8192, 1024]⟩ .f32) (R : Fin 8192) (h : Fin 8) (l : Fin 128) :
    G o w d (ix2 R (Cert.Rope.col h l)) = entry o w d R h l.val := by
  have e1 : (128 * h.val + l.val) / 128 = h.val := by omega
  have e2 : (128 * h.val + l.val) % 128 = l.val := by omega
  show entry o w d R ⟨(128 * h.val + l.val) / 128, _⟩ ((128 * h.val + l.val) % 128) = _
  rw [e2]
  congr 1
  exact Fin.ext e1

/-- Lane `l` of head `h` of the weight's padded rows. -/
def wlane (w : FVec Ideal ⟨2, ![512, 1024]⟩ .f32) (h : Fin 8) (l : ℕ) (k : Fin 1024) : EReal :=
  if hl : l < 64 then w (ix2 ⟨h.val * 64 + l, by omega⟩ k) else 0

/-- Lane `l` of head `h` of the padded output. -/
def olane (o : FVec Ideal ⟨2, ![8192, 512]⟩ .f32) (R : Fin 8192) (h : Fin 8) (l : ℕ) : EReal :=
  if hl : l < 64 then o (ix2 R ⟨h.val * 64 + l, by omega⟩) else 0

theorem real_back {w : FVec Ideal ⟨2, ![512, 1024]⟩ .f32} {d : FVec Ideal ⟨2, ![8192, 1024]⟩ .f32} (hw : AllReal w) (hd : AllReal d) (R : Fin 8192) (n : Fin 512) :
    IsReal (back w d R n) :=
  IsReal.sum fun k => (hd.at _).mul (hw.at _)

/-- A sum over 128 lanes of which the upper half is zero. -/
theorem half (f : Fin 128 → EReal) (g : Fin 64 → EReal) (hf : ∀ l : Fin 128, f l = if hl : l.val < 64 then g ⟨l.val, hl⟩ else 0) : ∑ l, f l = ∑ l, g l := by
  rw [show ∑ l, f l = ∑ l : Fin (64 + 64), f l from rfl, Fin.sum_univ_add]
  have e : ∀ i : Fin 64, f (Fin.natAdd 64 i) = 0 := fun i => by rw [hf, dif_neg (by show ¬64 + i.val < 64; omega)]
  rw [Finset.sum_congr rfl fun i _ => e i, Finset.sum_const_zero, add_zero]
  exact Finset.sum_congr rfl fun i _ => by rw [hf, dif_pos (show (Fin.castAdd 64 i).val < 64 from i.isLt)]; rfl

/-- On real data the kernel's three lanes hold minus the row sum and two zeros. -/
theorem lanes_entry {o : FVec Ideal ⟨2, ![8192, 512]⟩ .f32} {w : FVec Ideal ⟨2, ![512, 1024]⟩ .f32} {d : FVec Ideal ⟨2, ![8192, 1024]⟩ .f32}
    (ho : AllReal o) (hw : AllReal w) (hd : AllReal d) (R : Fin 8192) (h : Fin 8) (v u : Fin 128 → EReal)
    (hv : ∀ l : Fin 128, v l = if hl : l.val < 64 then back w d R ⟨h.val * 64 + l.val, by omega⟩ else 0)
    (hu : ∀ l : Fin 128, u l = if hl : l.val < 64 then o (ix2 R ⟨h.val * 64 + l.val, by omega⟩) else 0) (l : Fin 128) :
    lanes v u l = entry o w d R h l.val := by
  have es : ∑ x, v x * u x = ∑ x : Fin 64, back w d R ⟨h.val * 64 + x.val, by omega⟩ * o (ix2 R ⟨h.val * 64 + x.val, by omega⟩) := by
    refine half _ _ fun l => ?_
    rw [hv, hu]
    by_cases hl : l.val < 64
    · simp only [hl, dite_true]
    · simp only [hl, dite_false, mul_zero]
  have hr : IsReal (0 - ∑ x : Fin 64, back w d R ⟨h.val * 64 + x.val, by omega⟩ * o (ix2 R ⟨h.val * 64 + x.val, by omega⟩)) :=
    IsReal.zero.sub (IsReal.sum fun x => (real_back hw hd R _).mul (ho.at _))
  unfold lanes entry
  rw [es, hr.sub_self, hv]
  by_cases h66 : l.val = 66
  · rw [if_pos h66, dif_neg (show ¬l.val < 64 from fun h => by omega), if_neg (show ¬l.val = 64 from fun h => by omega)]
    exact IsReal.zero.sub_self
  by_cases h65 : l.val = 65
  · rw [if_neg h66, if_pos h65, dif_neg (show ¬l.val < 64 from fun h => by omega), if_neg (show ¬l.val = 64 from fun h => by omega)]
  by_cases h64 : l.val = 64
  · rw [if_neg h66, if_neg h65, if_pos h64, dif_neg (show ¬l.val < 64 from fun h => by omega), if_pos h64, zero_sub]
  · rw [if_neg h66, if_neg h65, if_neg h64, if_neg h64]

section Kernel

open Cert.Kernel9Ideal Cert.Kernel9Ideal.Gen

variable (m : (ℓ : Loc nD τ sig) → Buf (Elt Ideal) ℓ)

theorem idx : ∀ t : Fin cfg0.N, win0_0.index t = ![t.val / 2, 0] ∧ win0_1.index t = ![t.val % 2, 0] ∧ win0_2.index t = ![t.val / 2, t.val % 2]
    ∧ win0_3.index t = ![t.val / 2, t.val % 2] :=
  (by decide +kernel : ∀ t : Fin grid0.N, _)

/-- Column `l` of head block `b` of a tile. -/
def tcol (b : Fin 4) (l : Fin 128) : Fin 512 := ⟨128 * b.val + l.val, by omega⟩

theorem tcol_cases (n : Fin 512) : ∃ b l, n = tcol b l :=
  ⟨⟨n.val / 128, by omega⟩, ⟨n.val % 128, by omega⟩, Fin.ext (by show n.val = 128 * (n.val / 128) + n.val % 128; omega)⟩

theorem cat_at (p0 p1 p2 p3 : FVec Ideal S2048x128 .f32) (r : Fin 2048) (h : Fin 4) (l : Fin 128) :
    concatenate S2048x512 1 [⟨S2048x128, p0⟩, ⟨S2048x128, p1⟩, ⟨S2048x128, p2⟩, ⟨S2048x128, p3⟩]
      concatenates_S2048x128_S2048x128_S2048x128_S2048x128_S2048x512_d1 (ix2 r (tcol h l))
      = (![p0, p1, p2, p3] : Fin 4 → FVec Ideal S2048x128 .f32) h (ix2 r l) :=
  concatenate_ofFn_apply (s₁ := S2048x128) (t := S2048x512) 1 (![p0, p1, p2, p3] : Fin 4 → FVec Ideal S2048x128 .f32)
    concatenates_S2048x128_S2048x128_S2048x128_S2048x128_S2048x512_d1 rfl 128 rfl
    (ix2 r (tcol h l)) h (by show (128 * h.val + l.val) / 128 = h.val; omega) (ix2 r l)
    (by show l.val = (128 * h.val + l.val) % 128; omega)
    (fun b hb => by
      fin_cases b
      · rfl
      · exact absurd rfl hb)

theorem pay2_at (x0 : FVec Ideal S2048x1024 .bf16) (x1 : FVec Ideal S512x1024 .bf16) (r : Fin 2048) (n : Fin 512) :
    (k0_pay2 x0 x1 : FVec Ideal S2048x512 .f32) (ix2 r n) = ∑ k : Fin 1024, x0 (ix2 r k) * x1 (ix2 n k) := by
  pointwise [k0_pay2]

/-- The kernel's lane numbers. -/
abbrev lanesOf : IVec S2048x128 32 := iota .tc S2048x128 32 [1] iota_S2048x128_d1_w32

theorem b0_at (x0 : FVec Ideal S2048x1024 .bf16) (x1 : FVec Ideal S512x1024 .bf16) (x2 : FVec Ideal S2048x512 .bf16) (r : Fin 2048) (l : Fin 128) :
    (k0_pay9 x0 x1 x2 : FVec Ideal S2048x128 .f32) (ix2 r l)
      = lanes (fun x => (k0_pay2 x0 x1 : FVec Ideal S2048x512 .f32) (ix2 r (tcol 0 x))) (fun x => x2 (ix2 r (tcol 0 x))) l := by
  pointwise [k0_pay9, k0_pay3]
  simp only [Cert.Compact.choose l 64 (by decide), Cert.Compact.choose l 65 (by decide), Cert.Compact.choose l 66 (by decide)]
  have e : ∀ x : Fin 128, tcol 0 x = ⟨x.val, by omega⟩ := fun x => Fin.ext (by show 128 * 0 + x.val = x.val; omega)
  unfold lanes
  simp only [e]

theorem b1_at (v : FVec Ideal S2048x128 .f32) (o : FVec Ideal S2048x128 .f32) (r : Fin 2048) (l : Fin 128) :
    (k0_pay11 lanesOf v o : FVec Ideal S2048x128 .f32) (ix2 r l) = lanes (fun x => v (ix2 r x)) (fun x => o (ix2 r x)) l := by
  pointwise [k0_pay11, lanesOf]
  simp only [Cert.Compact.choose l 64 (by decide), Cert.Compact.choose l 65 (by decide), Cert.Compact.choose l 66 (by decide)]
  rfl

/-- The last two blocks of a tile, as the end of the body joins them to the first two. -/
theorem cat_all (v11 : FVec Ideal S2048x128 .f32) (v15 : FVec Ideal S2048x128 .bf16) (v44 v73 : FVec Ideal S2048x128 .f32)
    (v : FVec Ideal S2048x128 .f32) (o : FVec Ideal S2048x128 .bf16) (r : Fin 2048) (b : Fin 4) (l : Fin 128) :
    (k0_pay1 lanesOf v11 v15 v44 v73 (k0_pay16 v o) (k0_pay17 lanesOf v o) (k0_pay18 lanesOf) (k0_pay19 v o) : FVec Ideal S2048x512 .bf16) (ix2 r (tcol b l))
      = (![v44 (ix2 r l), v73 (ix2 r l), lanes (fun x => v (ix2 r x)) (fun x => o (ix2 r x)) l, lanes (fun x => v11 (ix2 r x)) (fun x => v15 (ix2 r x)) l] : Fin 4 → EReal) b := by
  refine (cat_at v44 v73 _ _ r b l).trans ?_
  fin_cases b
  · rfl
  · rfl
  · show (select _ _ _ : FVec Ideal S2048x128 .f32) (ix2 r l) = lanes (fun x => v (ix2 r x)) (fun x => o (ix2 r x)) l
    pointwise [k0_pay16, k0_pay12, k0_pay13, k0_pay14, k0_pay15, k0_pay17, k0_pay18, k0_pay19, lanesOf]
    simp only [Cert.Compact.choose l 64 (by decide), Cert.Compact.choose l 65 (by decide), Cert.Compact.choose l 66 (by decide)]
    rfl
  · show (select _ _ _ : FVec Ideal S2048x128 .f32) (ix2 r l) = lanes (fun x => v11 (ix2 r x)) (fun x => v15 (ix2 r x)) l
    pointwise [lanesOf]
    simp only [Cert.Compact.choose l 64 (by decide), Cert.Compact.choose l 65 (by decide), Cert.Compact.choose l 66 (by decide)]
    rfl

theorem pay21_eq (x0 : FVec Ideal S2048x1024 .bf16) (x1 : FVec Ideal S512x1024 .bf16) (x2 : FVec Ideal S2048x512 .bf16) :
    k0_pay21 (F := Ideal) x0 x1 x2 = k0_pay5 x0 x1 := by
  unfold k0_pay21
  frame_out

theorem pay22_eq (x0 : FVec Ideal S2048x1024 .bf16) (x1 : FVec Ideal S512x1024 .bf16) (x2 : FVec Ideal S2048x512 .bf16) :
    k0_pay22 (F := Ideal) x0 x1 x2 = k0_pay7 x2 := by
  unfold k0_pay22
  frame_out

theorem out_at (x0 : FVec Ideal S2048x1024 .bf16) (x1 : FVec Ideal S512x1024 .bf16) (x2 : FVec Ideal S2048x512 .bf16) (r : Fin 2048) (b : Fin 4) (l : Fin 128) :
    (k0_pay1 (k0_pay20 (F := Ideal) x0 x1 x2) (k0_pay6 x0 x1) (k0_pay8 x2) (k0_pay9 x0 x1 x2) (k0_pay11 (k0_pay20 (F := Ideal) x0 x1 x2) (k0_pay4 x0 x1) (k0_pay10 x2))
      (k0_pay16 (k0_pay21 (F := Ideal) x0 x1 x2) (k0_pay22 (F := Ideal) x0 x1 x2)) (k0_pay17 (k0_pay20 (F := Ideal) x0 x1 x2) (k0_pay21 (F := Ideal) x0 x1 x2) (k0_pay22 (F := Ideal) x0 x1 x2))
      (k0_pay18 (k0_pay20 (F := Ideal) x0 x1 x2)) (k0_pay19 (k0_pay21 (F := Ideal) x0 x1 x2) (k0_pay22 (F := Ideal) x0 x1 x2))
      : FVec Ideal S2048x512 .bf16) (ix2 r (tcol b l))
      = lanes (fun x => (k0_pay2 x0 x1 : FVec Ideal S2048x512 .f32) (ix2 r (tcol b x))) (fun x => x2 (ix2 r (tcol b x))) l := by
  rw [pay21_eq, pay22_eq, show k0_pay20 (F := Ideal) x0 x1 x2 = lanesOf from rfl]
  have e1 : ∀ l, (k0_pay4 x0 x1 : FVec Ideal S2048x128 .f32) (ix2 r l) = (k0_pay2 x0 x1 : FVec Ideal S2048x512 .f32) (ix2 r (tcol 1 l)) := fun l => by
    pointwise [k0_pay4, tcol]
  have e2 : ∀ l, (k0_pay5 x0 x1 : FVec Ideal S2048x128 .f32) (ix2 r l) = (k0_pay2 x0 x1 : FVec Ideal S2048x512 .f32) (ix2 r (tcol 2 l)) := fun l => by
    pointwise [k0_pay5, tcol]
  have e3 : ∀ l, (k0_pay6 x0 x1 : FVec Ideal S2048x128 .f32) (ix2 r l) = (k0_pay2 x0 x1 : FVec Ideal S2048x512 .f32) (ix2 r (tcol 3 l)) := fun l => by
    pointwise [k0_pay6, tcol]
  have f1 : ∀ l, (k0_pay10 x2 : FVec Ideal S2048x128 .f32) (ix2 r l) = x2 (ix2 r (tcol 1 l)) := fun l => by pointwise [k0_pay10, k0_pay3, tcol]
  have f2 : ∀ l, (k0_pay7 x2 : FVec Ideal S2048x128 .bf16) (ix2 r l) = x2 (ix2 r (tcol 2 l)) := fun l => by pointwise [k0_pay7, k0_pay3, tcol]
  have f3 : ∀ l, (k0_pay8 x2 : FVec Ideal S2048x128 .bf16) (ix2 r l) = x2 (ix2 r (tcol 3 l)) := fun l => by pointwise [k0_pay8, k0_pay3, tcol]
  rw [cat_all, b0_at, b1_at]
  simp only [e1, e2, e3, f1, f2, f3]
  generalize (k0_pay2 x0 x1 : FVec Ideal S2048x512 .f32) = P
  fin_cases b <;> rfl

theorem V_d (c : Dev nD) : (V m c main_v0 : FVec Ideal S8192x1024 .bf16) = (m ((c : Thread nD τ).loc main_arg2) : FVec Ideal S8192x1024 .f32) := by
  unfold V
  simp only [hostOps0, hostOps0_1, hostOps0_2, hostOps0_3, hostOps0_4, List.flatten_cons, List.flatten_nil, List.cons_append, List.nil_append, List.append_nil,
    StableHlo.TRef.binary, StableHlo.TRef.unary, StableHlo.TRef.toBuf, StableHlo.TRef.ofBuf, cast_eq]
  after_results_simp
  rfl

theorem V_w (c : Dev nD) (h : Fin 8) (l : Fin 128) (k : Fin 1024) : (V m c main_v6 : FVec Ideal S1024x1024 .bf16) (ix2 (Cert.Rope.col h l) k)
    = wlane (m ((c : Thread nD τ).loc main_arg1)) h l.val k := by
  unfold Cert.Rope.col wlane
  unfold V
  simp only [hostOps0, hostOps0_1, hostOps0_2, hostOps0_3, hostOps0_4, List.flatten_cons, List.flatten_nil, List.cons_append, List.nil_append, List.append_nil,
    StableHlo.TRef.binary, StableHlo.TRef.unary, StableHlo.TRef.toBuf, StableHlo.TRef.ofBuf, cast_eq]
  after_results_simp
  pointwise
  have e1 : (128 * h.val + l.val) / 128 = h.val := by omega
  have e2 : (128 * h.val + l.val) % 128 = l.val := by omega
  simp only [e1, e2]
  by_cases h1 : l.val < 64
  · simp only [h1, h.isLt, and_self, dite_true]
  · simp only [h1, and_false, dite_false]
    exact Cert.Rope.zero_word

theorem V_o (c : Dev nD) (R : Fin 8192) (h : Fin 8) (l : Fin 128) : (V m c main_v10 : FVec Ideal S8192x1024 .bf16) (ix2 R (Cert.Rope.col h l))
    = olane (m ((c : Thread nD τ).loc main_arg0)) R h l.val := by
  unfold Cert.Rope.col olane
  unfold V
  simp only [hostOps0, hostOps0_1, hostOps0_2, hostOps0_3, hostOps0_4, List.flatten_cons, List.flatten_nil, List.cons_append, List.nil_append, List.append_nil,
    StableHlo.TRef.binary, StableHlo.TRef.unary, StableHlo.TRef.toBuf, StableHlo.TRef.ofBuf, cast_eq]
  after_results_simp
  pointwise
  have e1 : (128 * h.val + l.val) / 128 = h.val := by omega
  have e2 : (128 * h.val + l.val) % 128 = l.val := by omega
  simp only [e1, e2]
  by_cases h1 : l.val < 64
  · simp only [h1, h.isLt, and_self, dite_true]
  · simp only [h1, and_false, dite_false]
    exact Cert.Rope.zero_word

theorem final (c : Dev nD) (ho : AllReal (m ((c : Thread nD τ).loc main_arg0) : FVec Ideal S8192x512 .f32)) (hw : AllReal (m ((c : Thread nD τ).loc main_arg1) : FVec Ideal S512x1024 .f32))
    (hd : AllReal (m ((c : Thread nD τ).loc main_arg2) : FVec Ideal S8192x1024 .f32)) : (dats m 0 c).arrAt 3 (cfgs 0).N
    = G (m ((c : Thread nD τ).loc main_arg0)) (m ((c : Thread nD τ).loc main_arg1)) (m ((c : Thread nD τ).loc main_arg2)) := by
  refine (dats m 0 c).arrAt_eq_of_covers 3 _ (by decide +kernel) fun t _ y => ?_
  have ht : t.val < 8 := lt_of_lt_of_eq t.isLt N_0
  blk_simp
  rw [after0_3]
  frame_out
  idx_vars y
  obtain ⟨b, l, rfl⟩ := tcol_cases y1
  have hx : ∀ k, (iblk m c 0 t : FVec Ideal S2048x1024 .bf16) (ix2 y0 k)
      = (m ((c : Thread nD τ).loc main_arg2) : FVec Ideal S8192x1024 .f32) (ix2 ⟨t.val / 2 * 2048 + y0.val, by omega⟩ k) := by
    intro k; rw [← V_d m c]; blk_point [iblk, idx t]
  have hy : ∀ (l : Fin 128) (k : Fin 1024), (iblk m c 1 t : FVec Ideal S512x1024 .bf16) (ix2 (tcol b l) k)
      = wlane (m ((c : Thread nD τ).loc main_arg1)) ⟨t.val % 2 * 4 + b.val, by omega⟩ l.val k := by
    intro l k; rw [← V_w]; unfold tcol Cert.Rope.col; blk_point [iblk, idx t]
  have hz : ∀ l : Fin 128, (iblk m c 2 t : FVec Ideal S2048x512 .bf16) (ix2 y0 (tcol b l))
      = olane (m ((c : Thread nD τ).loc main_arg0)) ⟨t.val / 2 * 2048 + y0.val, by omega⟩ ⟨t.val % 2 * 4 + b.val, by omega⟩ l.val := by
    intro l; rw [← V_o]; unfold tcol Cert.Rope.col; blk_point [iblk, idx t]
  refine Eq.trans (b := G (m ((c : Thread nD τ).loc main_arg0)) (m ((c : Thread nD τ).loc main_arg1)) (m ((c : Thread nD τ).loc main_arg2))
    (ix2 ⟨t.val / 2 * 2048 + y0.val, by omega⟩ (Cert.Rope.col ⟨t.val % 2 * 4 + b.val, by omega⟩ l))) ?_ (congrArg _ ?_)
  · rw [G_at]
    refine (out_at (iblk m c 0 t) (iblk m c 1 t) (iblk m c 2 t) y0 b l).trans (lanes_entry ho hw hd _ _ _ _ (fun l => ?_) hz l)
    rw [pay2_at]
    simp only [hx, hy]
    unfold wlane
    by_cases hl : l.val < 64
    · simp only [hl, dite_true]
      rfl
    · simp only [hl, dite_false]
      exact Finset.sum_eq_zero fun k _ => mul_zero _
  · unfold Cert.Rope.col tcol; blk_ext [idx t]

end Kernel

open Cert.Reference9Ideal Cert.Reference9Ideal.Gen in
theorem dot_at (w : FVec Ideal S512x1024 .f32) (d : FVec Ideal S8192x1024 .f32) (R : Fin 8192) (n : Fin 512) :
    (Host.dotGeneral dot_S8192x1024_S512x1024_S8192x512_1_1_0_0_n_n none d w : FVec Ideal S8192x512 .f32) (ix2 R n) = back w d R n := by
  unfold back
  pointwise

open Cert.Reference9Ideal Cert.Reference9Ideal.Gen in
theorem ref_at (o P : FVec Ideal S8192x512 .f32) (R : Fin 8192) (h : Fin 8) (l : Fin 128) :
    (truncf .bf16 (shapeCast S8192x1024 (pad S8192x8x128 ![0, 0, 0] ![0, 0, 63] ![0, 0, 0] (concatenate S8192x8x65 2 [⟨S8192x8x64, (shapeCast S8192x8x64 P shapeCasts_S8192x512_S8192x8x64)⟩,
      ⟨S8192x8x1, (Host.negf (broadcastInDim S8192x8x1 ![0, 1] bcast_S8192x8_S8192x8x1_0_1 (Host.reduceAdd (mulf (shapeCast S8192x8x64 P shapeCasts_S8192x512_S8192x8x64)
        (shapeCast S8192x8x64 o shapeCasts_S8192x512_S8192x8x64)) (constant S_ .f32 0x00000000#32) reducesTo_S8192x8x64_S8192x8_d2 h_S_)))⟩] concatenates_S8192x8x64_S8192x8x1_S8192x8x65_d2)
      (sitofp .f32 (constantI S_ 32 0#32)) pads_S8192x8x65_S8192x8x128_000_000_0630 h_S_) shapeCasts_S8192x8x128_S8192x1024) bitsLt_bf16_f32 : FVec Ideal S8192x1024 .bf16) (ix2 R (Cert.Rope.col h l))
      = if hl : l.val < 64 then P (ix2 R ⟨h.val * 64 + l.val, by omega⟩)
        else if l.val = 64 then -∑ x : Fin 64, P (ix2 R ⟨h.val * 64 + x.val, by omega⟩) * o (ix2 R ⟨h.val * 64 + x.val, by omega⟩) else 0 := by
  unfold Cert.Rope.col
  pointwise
  have e1 : (128 * h.val + l.val) / 128 = h.val := by omega
  have e2 : (128 * h.val + l.val) % 128 = l.val := by omega
  by_cases h1 : l.val < 64
  · have a : l.val < 65 := by omega
    simp only [h1, a, dite_true]
  by_cases h2 : l.val = 64
  · have a : l.val < 65 := by omega
    rw [dif_pos a, dif_neg h1, dif_neg h1, if_pos h2]
  · have a : ¬l.val < 65 := by omega
    rw [dif_neg a, dif_neg h1, if_neg h2]
    exact Cert.Rope.zero_word

section Claim

open Cert.Pre_finite_o

variable (X0 : FVec Ideal S8192x512 .f32) (X1 : FVec Ideal S512x1024 .f32) (X2 : FVec Ideal S8192x1024 .f32)

theorem real_of_pre (h : Cert.Pre_finite_o.fn (F := Ideal) X0 X1 X2 = fun _ => 1#1) : AllReal X0 ∧ AllReal X1 ∧ AllReal X2 := by
  have e := congrFun h (Shape.Idx.first (by decide))
  unfold Cert.Pre_finite_o.fn at e
  obtain ⟨e, e2⟩ := Cert.Own.andi_one e
  obtain ⟨e0, e1⟩ := Cert.Own.andi_one e
  haveI : Subsingleton (Cert.Pre_finite_o.S_).Idx := ⟨fun a b => funext fun k => k.elim0⟩
  exact ⟨Cert.Own.allReal_of _ _ (fun _ => rfl) _ _ _ _ e0, Cert.Own.allReal_of _ _ (fun _ => rfl) _ _ _ _ e1,
    Cert.Own.allReal_of _ _ (fun _ => rfl) _ _ _ _ e2⟩

end Claim

open Cert.Kernel9Ideal in
theorem algebraic : Cert.algebraic_Kernel9Ideal_Reference9Ideal_pre_finite_o := by
  pair_intro
  · run_from Cert.Kernel9Ideal.Gen.run_main m g
    · exact Cert.Kernel9Ideal.Gen.V_main_arg0 m c
    · exact Cert.Kernel9Ideal.Gen.V_main_arg1 m c
    · exact Cert.Kernel9Ideal.Gen.V_main_arg2 m c
  · run_from Cert.Reference9Ideal.Value.run m' g'
    obtain ⟨h0, h1, h2⟩ := real_of_pre _ _ _ (hpre c)
    rw [final m c h0 h1 h2, (hagree c).2.2]
    funext j
    idx_vars j
    obtain ⟨h, l, rfl⟩ := Cert.Rope.col_cases j1
    refine (ref_at _ _ j0 h l).trans ?_
    rw [G_at]
    unfold entry
    simp only [dot_at]

theorem frame_reference : Cert.quiescent_Reference9Ideal := by
  intro m ρ _
  run_from Cert.Reference9Ideal.Value.run m ρ
  · intro c; exact ⟨trivial, trivial, trivial⟩
  · exact sem_eq_zero_of_no_sems rfl _

theorem frame_reference_pre : Cert.quiescent_Reference9Ideal_pre_finite_o := fun m ρ _ => frame_reference m ρ trivial

end Cert.Delta

end
-- ==== Proof.RmsReal.lean ====
module

public import proofs.«01_k».proof.Proof.OwnReal
public import Idealize.ShloMosaic.Lib.Pointwise

/-!
# The gradient of the root mean square norm, on a row of reals

The closed form the kernels use and the chain rule through the mean give the same row.
-/

@[expose] public section

noncomputable section

namespace Cert.Rms

open Idealize.ShloMosaic Cert.Own

/-- The constants, as the bits the programs carry. -/
abbrev eps : EReal := Ideal.ofBits FTy.f32 0x358637BD#32
abbrev mhalf : EReal := Ideal.ofBits FTy.f32 0xBF000000#32

theorem eps_real : ∃ e : ℝ, 0 < e ∧ eps = e := by
  refine ⟨_, ?_, by simp [eps, Ideal.ofBits, Ideal.ieee]; rw [← EReal.coe_mul]⟩
  positivity

theorem mhalf_real : mhalf = ((-(1 / 2) : ℝ) : EReal) := by
  simp [mhalf, Ideal.ofBits, Ideal.ieee]
  rw [← EReal.coe_mul]; norm_num

theorem w1024 : Ideal.ofBits FTy.f32 0x44800000#32 = ((1024 : ℝ) : EReal) := by
  simp [Ideal.ofBits, Ideal.ieee]
  rw [← EReal.coe_mul]; norm_num

theorem w256 : Ideal.ofBits FTy.f32 0x43800000#32 = ((256 : ℝ) : EReal) := by
  simp [Ideal.ofBits, Ideal.ieee]
  rw [← EReal.coe_mul]; norm_num

theorem w128 : Ideal.ofBits FTy.f32 0x43000000#32 = ((128 : ℝ) : EReal) := by
  simp [Ideal.ofBits, Ideal.ieee]
  rw [← EReal.coe_mul]; norm_num

variable {n : ℕ}

/-- The mean square of a row, with the small constant. -/
def ms (D : EReal) (x : Fin n → EReal) : EReal := Ideal.div (∑ k, x k * x k) D + eps

/-- The reciprocal root mean square. -/
def rs (D : EReal) (x : Fin n → EReal) : EReal := Ideal.rsqrt (ms D x)

/-- The row's gradient as the kernels write it. -/
def back (D : EReal) (x g : Fin n → EReal) (l : Fin n) : EReal :=
  rs D x * g l - x l * (rs D x * rs D x * rs D x) * Ideal.div (∑ k, x k * g k) D

/-- The gradient that comes through the mean, before it meets the row. -/
def chain (D : EReal) (x g : Fin n → EReal) : EReal :=
  Ideal.div ((∑ k, x k * g k) * (mhalf * Ideal.div (rs D x) (ms D x))) D

theorem ms_real {d : ℝ} (hd : 0 < d) {x : Fin n → EReal} (hx : ∀ k, IsReal (x k)) : ∃ s : ℝ, 0 < s ∧ ms (d : EReal) x = s := by
  choose u hu using hx
  obtain ⟨e, he, hE⟩ := eps_real
  refine ⟨(∑ k, u k * u k) * (1 / d) + e, ?_, ?_⟩
  · have : 0 ≤ ∑ k, u k * u k := Finset.sum_nonneg fun k _ => mul_self_nonneg _
    positivity
  · unfold ms
    simp only [hu, ← EReal.coe_mul]
    rw [sum_coe, hE, Ideal.div_coe hd.ne', ← EReal.coe_mul, ← EReal.coe_add]

theorem rs_eq {s : ℝ} (hs : 0 < s) : Ideal.rsqrt (s : EReal) = (((Real.sqrt s)⁻¹ : ℝ) : EReal) := by
  rw [Ideal.rsqrt_coe, if_neg hs.not_gt, if_neg hs.ne']

theorem rs_real {d : ℝ} (hd : 0 < d) {x : Fin n → EReal} (hx : ∀ k, IsReal (x k)) : IsReal (rs (d : EReal) x) := by
  obtain ⟨s, hs, e⟩ := ms_real hd hx
  exact ⟨_, by unfold rs; rw [e, rs_eq hs]⟩

theorem div_real {d : ℝ} (hd : 0 < d) {x : EReal} (hx : IsReal x) : IsReal (Ideal.div x (d : EReal)) := by
  rw [Ideal.div_coe hd.ne']
  exact hx.mul ⟨_, rfl⟩

theorem back_real {d : ℝ} (hd : 0 < d) {x g : Fin n → EReal} (hx : ∀ k, IsReal (x k)) (hg : ∀ k, IsReal (g k)) (l : Fin n) : IsReal (back (d : EReal) x g l) :=
  ((rs_real hd hx).mul (hg l)).sub (((hx l).mul (((rs_real hd hx).mul (rs_real hd hx)).mul (rs_real hd hx))).mul
    (div_real hd (IsReal.sum fun k => (hx k).mul (hg k))))

theorem chain_real {d : ℝ} (hd : 0 < d) {x g : Fin n → EReal} (hx : ∀ k, IsReal (x k)) (hg : ∀ k, IsReal (g k)) : IsReal (chain (d : EReal) x g) := by
  obtain ⟨s, hs, e⟩ := ms_real hd hx
  refine div_real hd ((IsReal.sum fun k => (hx k).mul (hg k)).mul (IsReal.mul ⟨_, mhalf_real⟩ ?_))
  rw [e]
  exact div_real hs (rs_real hd hx)

/-- The closed form is the sum of what comes through the product and, twice, what comes through the mean. -/
theorem back_eq {d : ℝ} (hd : 0 < d) {x g : Fin n → EReal} (hx : ∀ k, IsReal (x k)) (hg : ∀ k, IsReal (g k)) (l : Fin n) :
    back (d : EReal) x g l = g l * rs (d : EReal) x + (x l * chain (d : EReal) x g + chain (d : EReal) x g * x l) := by
  obtain ⟨s, hs, e⟩ := ms_real hd hx
  unfold back chain rs
  rw [e, rs_eq hs, mhalf_real]
  choose u hu using hx
  choose w hw using hg
  simp only [hu, hw, ← EReal.coe_mul]
  rw [sum_coe, Ideal.div_coe hd.ne', Ideal.div_coe hd.ne', Ideal.div_coe hs.ne']
  simp only [← EReal.coe_mul, ← EReal.coe_add, ← EReal.coe_sub]
  congr 1
  have hr : (Real.sqrt s)⁻¹ * (Real.sqrt s)⁻¹ = 1 / s := by
    rw [← mul_inv, Real.mul_self_sqrt hs.le, one_div]
  rw [show (Real.sqrt s)⁻¹ * (Real.sqrt s)⁻¹ * (Real.sqrt s)⁻¹ = (1 / s) * (Real.sqrt s)⁻¹ by rw [hr]]
  ring

end Cert.Rms

end
-- ==== Proof.RmsRef.lean ====
module

public import proofs.«01_k».proof.Proof.RmsReal
public import Idealize.ShloMosaic.Lib.StableHlo
public import Idealize.ShloMosaic.Lib.Pointwise
public import Idealize.ShloMosaic.Lib.ValueLayout

/-!
# The chain rule of the norm, as the references spell it on arrays of 8192 rows

Each array expression of the references read at one entry.
-/

@[expose] public section

noncomputable section

namespace Cert.Rms

open Idealize.ShloMosaic Cert.Own

abbrev S0 : Shape := ⟨0, ![]⟩
abbrev Sr : Shape := ⟨1, ![8192]⟩
abbrev Sc : Shape := ⟨2, ![8192, 1]⟩
abbrev Sx (n : ℕ) : Shape := ⟨2, ![8192, n]⟩
abbrev Sg (n : ℕ) : Shape := ⟨2, ![1, n]⟩
abbrev Sn (n : ℕ) : Shape := ⟨1, ![n]⟩

variable {n : ℕ} (w : BitVec 32)
  (h0 : 0 < S0.numel) (r1 : (Sx n).ReducesTo [1] Sr) (r2 : Sc.ReducesTo [1] Sr) (r3 : (Sx n).ReducesTo [0] (Sn n))
  (b1 : Sr.BroadcastsInDim Sc (![0] : Fin 1 → Fin Sc.rank)) (b2 : S0.BroadcastsInDim Sc (![] : Fin 0 → Fin Sc.rank))
  (b3 : Sc.BroadcastsInDim (Sx n) (![0, 1] : Fin 2 → Fin (Sx n).rank)) (b4 : (Sg n).BroadcastsInDim (Sx n) (![0, 1] : Fin 2 → Fin (Sx n).rank))
  (b5 : Sr.BroadcastsInDim (Sx n) (![0] : Fin 1 → Fin (Sx n).rank)) (sc : Sr.ShapeCasts Sc) (sg : (Sn n).ShapeCasts (Sg n))
  (x y : FVec Ideal (Sx n) .f32) (g : FVec Ideal (Sg n) .f32)

/-- Row `R` of an array. -/
abbrev row (x : FVec Ideal (Sx n) .f32) (R : Fin 8192) : Fin n → EReal := fun k => x (ix2 R k)

/-- The mean squares of the rows. -/
def hms : FVec Ideal Sc .f32 :=
  addf (Host.divf (broadcastInDim Sc ![0] b1 (Host.reduceAdd (mulf x x) (constant S0 .f32 0x00000000#32) r1 h0)) (broadcastInDim Sc ![] b2 (constant S0 .f32 w)))
    (broadcastInDim Sc ![] b2 (constant S0 .f32 0x358637BD#32))

/-- What comes through the means, a number a row. -/
def hchain (m : FVec Ideal Sc .f32) : FVec Ideal Sr .f32 :=
  Host.reduceAdd (Host.divf (mulf (shapeCast Sc (Host.reduceAdd (mulf x y) (constant S0 .f32 0x00000000#32) r1 h0) sc)
      (mulf (broadcastInDim Sc ![] b2 (constant S0 .f32 0xBF000000#32)) (Host.divf (Host.rsqrt m) m))) (broadcastInDim Sc ![] b2 (constant S0 .f32 w)))
    (constant S0 .f32 0x00000000#32) r2 h0

theorem hms_at (R : Fin 8192) : hms w h0 r1 b1 b2 x (ix2 R 0) = ms (Ideal.ofBits FTy.f32 w) (row x R) := by
  unfold ms row
  pointwise [hms]

theorem hchain_at (R : Fin 8192) : hchain w h0 r1 r2 b2 sc x y (hms w h0 r1 b1 b2 x) (ix1 R) = chain (Ideal.ofBits FTy.f32 w) (row x R) (row y R) := by
  unfold chain rs
  rw [← hms_at w h0 r1 b1 b2 x R]
  generalize hms w h0 r1 b1 b2 x = M
  pointwise [hchain]
  exact Fin.sum_univ_one _

/-- A row's gradient as the references add it up. -/
def hback (m : FVec Ideal Sc .f32) (t : FVec Ideal Sr .f32) : FVec Ideal (Sx n) .f32 :=
  addf (addf (mulf y (broadcastInDim (Sx n) ![0, 1] b3 (Host.rsqrt m))) (mulf x (broadcastInDim (Sx n) ![0] b5 t))) (mulf (broadcastInDim (Sx n) ![0] b5 t) x)

/-- The same added to an array that comes first. -/
def hbackAdd (z : FVec Ideal (Sx n) .f32) (m : FVec Ideal Sc .f32) (t : FVec Ideal Sr .f32) : FVec Ideal (Sx n) .f32 :=
  addf (addf (addf z (mulf y (broadcastInDim (Sx n) ![0, 1] b3 (Host.rsqrt m)))) (mulf x (broadcastInDim (Sx n) ![0] b5 t))) (mulf (broadcastInDim (Sx n) ![0] b5 t) x)

theorem hback_at {d : ℝ} (hd : 0 < d) (hw : Ideal.ofBits FTy.f32 w = (d : EReal)) (R : Fin 8192) (hx : ∀ k, IsReal (x (ix2 R k))) (hy : ∀ k, IsReal (y (ix2 R k))) (l : Fin n) :
    hback b3 b5 x y (hms w h0 r1 b1 b2 x) (hchain w h0 r1 r2 b2 sc x y (hms w h0 r1 b1 b2 x)) (ix2 R l) = back (d : EReal) (row x R) (row y R) l := by
  have ht := hchain_at w h0 r1 r2 b1 b2 sc x y R
  have hm := hms_at w h0 r1 b1 b2 x R
  rw [back_eq hd hx hy, ← hw, ← ht]
  unfold rs
  rw [← hm]
  generalize hchain w h0 r1 r2 b2 sc x y (hms w h0 r1 b1 b2 x) = T
  generalize hms w h0 r1 b1 b2 x = M
  pointwise [hback]
  exact add_assoc _ _ _

theorem hbackAdd_at {d : ℝ} (hd : 0 < d) (hw : Ideal.ofBits FTy.f32 w = (d : EReal)) (R : Fin 8192) (hx : ∀ k, IsReal (x (ix2 R k))) (hy : ∀ k, IsReal (y (ix2 R k)))
    (z : FVec Ideal (Sx n) .f32) (l : Fin n) :
    hbackAdd b3 b5 x y z (hms w h0 r1 b1 b2 x) (hchain w h0 r1 r2 b2 sc x y (hms w h0 r1 b1 b2 x)) (ix2 R l) = z (ix2 R l) + back (d : EReal) (row x R) (row y R) l := by
  have ht := hchain_at w h0 r1 r2 b1 b2 sc x y R
  have hm := hms_at w h0 r1 b1 b2 x R
  rw [back_eq hd hx hy, ← hw, ← ht]
  unfold rs
  rw [← hm]
  generalize hchain w h0 r1 r2 b2 sc x y (hms w h0 r1 b1 b2 x) = T
  generalize hms w h0 r1 b1 b2 x = M
  pointwise [hbackAdd]
  simp only [add_assoc]

/-- The gradient of the norm's weights as the references write it. -/
def hcols (m : FVec Ideal Sc .f32) : FVec Ideal (Sg n) .f32 :=
  shapeCast (Sg n) (Host.reduceAdd (mulf (mulf x (broadcastInDim (Sx n) ![0, 1] b3 (Host.rsqrt m))) y) (constant S0 .f32 0x00000000#32) r3 h0) sg

/-- The weights' gradient: column sums of the incoming gradient times the normalised rows. -/
def cols (D : EReal) (x y : FVec Ideal (Sx n) .f32) (l : Fin n) : EReal := ∑ R : Fin 8192, y (ix2 R l) * (x (ix2 R l) * rs D (row x R))

theorem hcols_at (i : Fin 1) (l : Fin n) :
    hcols h0 r3 b3 sg x y (hms w h0 r1 b1 b2 x) (ix2 i l) = cols (Ideal.ofBits FTy.f32 w) x y l := by
  unfold cols rs
  simp only [← hms_at w h0 r1 b1 b2 x]
  generalize hms w h0 r1 b1 b2 x = M
  unfold hcols
  refine (ValueIdx.shapeCast_a_1a_apply _ _ i l).trans ?_
  change Host.reduceAdd _ _ _ _ (ix1 l) = _
  pointwise
  exact Finset.sum_congr rfl fun R _ => mul_comm _ _

end Cert.Rms

end
-- ==== Proof.NormIn.lean ====
/- The gradient of the norm before the mixers: its rows added to the residual's gradient, and the weights' column sums. -/
module

public import proofs.«01_k».proof.Defs
public import proofs.«01_k».proof.Proof.RmsRef
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Pre_finite_nib
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Own (AllReal IsReal)

namespace Cert.NormIn

open Cert.Rms

/-- The first result: the residual's gradient plus the rows' gradient. -/
def G1 (x : FVec Ideal (Sx 1024) .f32) (g : FVec Ideal (Sg 1024) .f32) (z y : FVec Ideal (Sx 1024) .f32) : FVec Ideal (Sx 1024) .f32 := fun j =>
  z j + back ((1024 : ℝ) : EReal) (row x (j 0)) (fun k => y (ix2 (j 0) k) * g (ix2 0 k)) (j 1)

/-- The second: the column sums. -/
def G2 (x y : FVec Ideal (Sx 1024) .f32) : FVec Ideal (Sg 1024) .f32 := fun j => cols ((1024 : ℝ) : EReal) x y (j 1)

section Kernel

open Cert.Kernel10Ideal Cert.Kernel10Ideal.Gen

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![0, 0] :=
  (by decide +kernel : ∀ t : Fin grid0.N, _)

theorem last : ∀ t : Fin cfg0.N, (win0 5).flush t = true → t.val = 15 :=
  (by decide +kernel : ∀ t : Fin grid0.N, _)

theorem pay5_at (j : S1x1024.Idx) : k0_pay5 (F := Ideal) j = 0 := by pointwise [k0_pay5]

theorem pay2_at (x : FVec Ideal S512x1024 .f32) (r : Fin 512) (i : Fin 1) :
    (k0_pay2 x : FVec Ideal S512x1 .f32) (ix2 r i) = rs ((1024 : ℝ) : EReal) (fun k => x (ix2 r k)) := by
  unfold rs ms
  rw [← w1024]
  pointwise [k0_pay2]

/-- A block's share of the column sums. -/
def colsOf (x y : FVec Ideal S512x1024 .f32) (l : Fin 1024) : EReal :=
  ∑ k : Fin 512, y (ix2 k l) * (x (ix2 k l) * rs ((1024 : ℝ) : EReal) (fun i => x (ix2 k i)))

/-- One row's term of the column sums. -/
def colTerm (x y : FVec Ideal (Sx 1024) .f32) (l : Fin 1024) (R : Fin 8192) : EReal :=
  y (ix2 R l) * (x (ix2 R l) * rs ((1024 : ℝ) : EReal) (row x R))

/-- A block's rows of the first result. -/
def rowsOf (z y x : FVec Ideal S512x1024 .f32) (g : FVec Ideal S1x1024 .f32) (r : Fin 512) (l : Fin 1024) : EReal :=
  z (ix2 r l) + back ((1024 : ℝ) : EReal) (fun k => x (ix2 r k)) (fun k => y (ix2 r k) * g (ix2 0 k)) l

theorem pay1_at (x y : FVec Ideal S512x1024 .f32) (a : FVec Ideal S1x1024 .f32) (j : S1x1024.Idx) :
    k0_pay1 (F := Ideal) (k0_pay3 y x) a j
      = a j + colsOf x y (j 1) := by
  unfold colsOf
  simp only [← pay2_at x _ 0]
  pointwise [k0_pay1, k0_pay3]

theorem pay4_at (z y x : FVec Ideal S512x1024 .f32) (g : FVec Ideal S1x1024 .f32) (r : Fin 512) (l : Fin 1024) :
    k0_pay4 (F := Ideal) z y x g (ix2 r l)
      = rowsOf z y x g r l := by
  unfold rowsOf back
  simp only [← pay2_at x _ 0]
  rw [← w1024]
  pointwise [k0_pay4]

/-- What the weights' row holds after a point: the sums of the blocks so far. -/
theorem carry (c : Dev nD) (t : Fin cfg0.N) (j : S1x1024.Idx) :
    (outsAt0 m c t.val t.isLt).2 j
      = ∑ p ∈ Finset.Iic t, colsOf (iblk m c 2 p) (iblk m c 1 p) (j 1) := by
  rw [Pipeline.eq_sum_fin_of_reset_step_apply_single (fun n h => (outsAt0 m c n h).2) 16 (fun _ => 0)
    (fun p j => colsOf (iblk m c 2 p) (iblk m c 1 p) (j 1))
    (fun t h j => by rw [outsAt0_A m c t h]; frame_out; rw [pay1_at, pay5_at])
    (fun t h j => by rw [outsAt0_B m c t h]; frame_out; rw [pay1_at])
    (le_of_eq N_0) t j, zero_add]

theorem x_at (c : Dev nD) (t : Fin cfg0.N) (r : Fin 512) (k : Fin 1024) : (iblk m c 2 t : FVec Ideal S512x1024 .f32) (ix2 r k)
    = (m ((c : Thread nD τ).loc main_arg0) : FVec Ideal S8192x1024 .f32) (ix2 ⟨t.val * 512 + r.val, by have := lt_of_lt_of_eq t.isLt N_0; omega⟩ k) := by
  have ht : t.val < 16 := lt_of_lt_of_eq t.isLt N_0
  rw [← V_main_arg0 m c]; blk_point [iblk, idx t]

theorem y_at (c : Dev nD) (t : Fin cfg0.N) (r : Fin 512) (k : Fin 1024) : (iblk m c 1 t : FVec Ideal S512x1024 .f32) (ix2 r k)
    = (m ((c : Thread nD τ).loc main_arg3) : FVec Ideal S8192x1024 .f32) (ix2 ⟨t.val * 512 + r.val, by have := lt_of_lt_of_eq t.isLt N_0; omega⟩ k) := by
  have ht : t.val < 16 := lt_of_lt_of_eq t.isLt N_0
  rw [← V_main_arg3 m c]; blk_point [iblk, idx t]

theorem z_at (c : Dev nD) (t : Fin cfg0.N) (r : Fin 512) (k : Fin 1024) : (iblk m c 0 t : FVec Ideal S512x1024 .f32) (ix2 r k)
    = (m ((c : Thread nD τ).loc main_arg2) : FVec Ideal S8192x1024 .f32) (ix2 ⟨t.val * 512 + r.val, by have := lt_of_lt_of_eq t.isLt N_0; omega⟩ k) := by
  have ht : t.val < 16 := lt_of_lt_of_eq t.isLt N_0
  rw [← V_main_arg2 m c]; blk_point [iblk, idx t]

theorem g_at (c : Dev nD) (t : Fin cfg0.N) (k : Fin 1024) : (iblk m c 3 t : FVec Ideal S1x1024 .f32) (ix2 0 k)
    = (m ((c : Thread nD τ).loc main_arg1) : FVec Ideal S1x1024 .f32) (ix2 0 k) := by
  rw [← V_main_arg1 m c]; blk_point [iblk, idx t]

theorem after_at (c : Dev nD) (t : Fin cfg0.N) (r : Fin 512) (l : Fin 1024) :
    (outsAt0 m c t.val t.isLt).1 (ix2 r l)
      = rowsOf (iblk m c 0 t) (iblk m c 1 t) (iblk m c 2 t) (iblk m c 3 t) r l := by
  by_cases h : t.val % 16 = 0
  · rw [outsAt0_A m c t h]; frame_out; rw [pay4_at]
  · rw [outsAt0_B m c t h]; frame_out; rw [pay4_at]

theorem final_4 (c : Dev nD) : (dats m 0 c).arrAt 4 (cfgs 0).N
    = G1 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  have ht : t.val < 16 := lt_of_lt_of_eq t.isLt N_0
  blk_simp
  rw [after0_4]
  idx_vars y
  rw [after_at]
  refine Eq.trans (b := G1 (m ((c : Thread nD τ).loc main_arg0)) (m ((c : Thread nD τ).loc main_arg1)) (m ((c : Thread nD τ).loc main_arg2)) (m ((c : Thread nD τ).loc main_arg3))
    (ix2 ⟨t.val * 512 + y0.val, by omega⟩ y1)) ?_ (congrArg _ ?_)
  · unfold rowsOf
    simp only [x_at, y_at, z_at, g_at]
    rfl
  · blk_ext [idx t]

theorem final_5 (c : Dev nD) : (dats m 0 c).arrAt 5 (cfgs 0).N
    = G2 (m ((c : Thread nD τ).loc main_arg0)) (m ((c : Thread nD τ).loc main_arg3)) := by
  refine (dats m 0 c).arrAt_eq_of_covers 5 _ (by decide +kernel) fun t hf y => ?_
  have ht := last t hf
  blk_simp
  rw [after0_5]
  idx_vars y
  rw [carry]
  refine Eq.trans (b := G2 (m ((c : Thread nD τ).loc main_arg0)) (m ((c : Thread nD τ).loc main_arg3)) (ix2 y0 y1)) ?_ (congrArg _ ?_)
  · change ∑ p ∈ Finset.Iic t, colsOf (iblk m c 2 p) (iblk m c 1 p) y1 = _
    unfold colsOf
    simp only [x_at, y_at]
    rw [show Finset.Iic t = Finset.univ from Finset.eq_univ_of_forall fun p => Finset.mem_Iic.2 (Fin.le_def.2 (by have := lt_of_lt_of_eq p.isLt N_0; omega))]
    exact (Fin.sum_univ_tiles 16 512 rfl (colTerm (m ((c : Thread nD τ).loc main_arg0)) (m ((c : Thread nD τ).loc main_arg3)) y1)).symm
  · blk_ext [idx t]

end Kernel

section Claim

open Cert.Pre_finite_nib

variable (X0 : FVec Ideal S8192x1024 .f32) (X1 : FVec Ideal S1x1024 .f32) (X2 X3 : FVec Ideal S8192x1024 .f32)

theorem real_of_pre (h : Cert.Pre_finite_nib.fn (F := Ideal) X0 X1 X2 X3 = fun _ => 1#1) : AllReal X0 ∧ AllReal X1 ∧ AllReal X3 := by
  have e := congrFun h (Shape.Idx.first (by decide))
  unfold Cert.Pre_finite_nib.fn at e
  obtain ⟨e, e2⟩ := Cert.Own.andi_one e
  obtain ⟨e0, e1⟩ := Cert.Own.andi_one e
  haveI : Subsingleton (Cert.Pre_finite_nib.S_).Idx := ⟨fun a b => funext fun k => k.elim0⟩
  exact ⟨Cert.Own.allReal_of _ _ (fun _ => rfl) _ _ _ _ e0, Cert.Own.allReal_of _ _ (fun _ => rfl) _ _ _ _ e1,
    Cert.Own.allReal_of _ _ (fun _ => rfl) _ _ _ _ e2⟩

/-- The reference's first result is `G1` when the factors are numbers. -/
theorem ref_1 (h0 : AllReal X0) (h1 : AllReal X1) (h3 : AllReal X3) (hp r1 r2 b1 b2 b3 b4 b5 sc) :
    hbackAdd (n := 1024) b3 b5 X0 (mulf X3 (broadcastInDim (Sx 1024) ![0, 1] b4 X1)) X2 (hms 0x44800000#32 hp r1 b1 b2 X0)
      (hchain 0x44800000#32 hp r1 r2 b2 sc X0 (mulf X3 (broadcastInDim (Sx 1024) ![0, 1] b4 X1)) (hms 0x44800000#32 hp r1 b1 b2 X0))
      = G1 X0 X1 X2 X3 := by
  have e : ∀ (R : Fin 8192) (k : Fin 1024), (mulf X3 (broadcastInDim (Sx 1024) ![0, 1] b4 X1) : FVec Ideal (Sx 1024) .f32) (ix2 R k) = X3 (ix2 R k) * X1 (ix2 0 k) := by
    intro R k; pointwise
  funext j
  idx_vars j
  rw [hbackAdd_at 0x44800000#32 hp r1 r2 b1 b2 b3 b5 sc X0 _ (by norm_num) w1024 j0 (fun k => h0.at _) (fun k => by rw [e]; exact (h3.at _).mul (h1.at _))]
  rw [show row (mulf X3 (broadcastInDim (Sx 1024) ![0, 1] b4 X1)) j0 = fun k => X3 (ix2 j0 k) * X1 (ix2 0 k) from funext (e j0)]
  rfl

/-- The reference's second result is `G2`. -/
theorem ref_2 (hp r1 r3 b1 b2 b3 sg) : hcols (n := 1024) hp r3 b3 sg X0 X3 (hms 0x44800000#32 hp r1 b1 b2 X0) = G2 X0 X3 := by
  funext j
  idx_vars j
  rw [hcols_at, w1024]
  rfl

end Claim

section Reference

open Cert.Reference10Ideal Cert.Reference10Ideal.Gen

/-- The reference's first result. -/
def R1 (X0 : FVec Ideal S8192x1024 .f32) (X1 : FVec Ideal S1x1024 .f32) (X2 X3 : FVec Ideal S8192x1024 .f32) : FVec Ideal S8192x1024 .f32 :=
  hbackAdd (n := 1024) bcast_S8192x1_S8192x1024_0_1 bcast_S8192_S8192x1024_0 X0
    (mulf X3 (broadcastInDim S8192x1024 ![0, 1] bcast_S1x1024_S8192x1024_0_1 X1)) X2
    (hms 0x44800000#32 h_S_ reducesTo_S8192x1024_S8192_d1 bcast_S8192_S8192x1_0 bcast_S_S8192x1 X0)
    (hchain 0x44800000#32 h_S_ reducesTo_S8192x1024_S8192_d1 reducesTo_S8192x1_S8192_d1 bcast_S_S8192x1 shapeCasts_S8192_S8192x1 X0
      (mulf X3 (broadcastInDim S8192x1024 ![0, 1] bcast_S1x1024_S8192x1024_0_1 X1))
      (hms 0x44800000#32 h_S_ reducesTo_S8192x1024_S8192_d1 bcast_S8192_S8192x1_0 bcast_S_S8192x1 X0))

/-- The reference's second result. -/
def R2 (X0 X3 : FVec Ideal S8192x1024 .f32) : FVec Ideal S1x1024 .f32 :=
  hcols (n := 1024) h_S_ reducesTo_S8192x1024_S1024_d0 bcast_S8192x1_S8192x1024_0_1 shapeCasts_S1024_S1x1024 X0 X3
    (hms 0x44800000#32 h_S_ reducesTo_S8192x1024_S8192_d1 bcast_S8192_S8192x1_0 bcast_S_S8192x1 X0)

theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v34) = R1 (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_v17) = R2 (m ((c.tc : Thread nD τ).loc main_arg0)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  unfold R1 R2 hbackAdd hcols hchain hms
  exact Cert.Reference10Ideal.Value.run m ρ

end Reference

open Cert.Kernel10Ideal in
theorem algebraic : Cert.algebraic_Kernel10Ideal_Reference10Ideal_pre_finite_nib := by
  pair_intro
  · run_from Cert.Kernel10Ideal.Value.run_blocks m g
  · run_from ref_run m' g'
    · obtain ⟨h0, h1, h3⟩ := real_of_pre _ _ _ _ (hpre c)
      rw [final_4 m c]
      exact ref_1 _ _ _ _ h0 h1 h3 _ _ _ _ _ _ _ _ _
    · rw [final_5 m c]
      exact ref_2 _ _ _ _ _ _ _ _ _

theorem frame_reference : Cert.quiescent_Reference10Ideal := by
  intro m ρ _
  run_from Cert.Reference10Ideal.Value.run m ρ
  · intro c; exact ⟨trivial, trivial, trivial, trivial⟩
  · exact sem_eq_zero_of_no_sems rfl _

theorem frame_reference_pre : Cert.quiescent_Reference10Ideal_pre_finite_nib := fun m ρ _ => frame_reference m ρ trivial

end Cert.NormIn

end
-- ==== Proof.NormLow.lean ====
/- The gradients of the two norms of the latents: the rows' gradients, and the weights' column sums. -/
module

public import proofs.«01_k».proof.Defs
public import proofs.«01_k».proof.Proof.RmsRef
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Pre_finite_mnb
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Own (AllReal IsReal)

namespace Cert.NormLow

open Cert.Rms

/-- The rows' gradient of one norm over `n` lanes. -/
def GX {n : ℕ} (d : ℝ) (x : FVec Ideal (Sx n) .f32) (g : FVec Ideal (Sg n) .f32) (y : FVec Ideal (Sx n) .f32) : FVec Ideal (Sx n) .bf16 := fun j =>
  back (d : EReal) (row x (j 0)) (fun k => y (ix2 (j 0) k) * g (ix2 0 k)) (j 1)

/-- Its weights' gradient: the column sums. -/
def GW {n : ℕ} (d : ℝ) (x y : FVec Ideal (Sx n) .f32) : FVec Ideal (Sg n) .f32 := fun j => cols (d : EReal) x y (j 1)

abbrev Sb (n : ℕ) : Shape := ⟨2, ![1024, n]⟩

/-- A block's share of the column sums. -/
def colsOf {n : ℕ} (d : ℝ) (x y : FVec Ideal (Sb n) .f32) (l : Fin n) : EReal :=
  ∑ k : Fin 1024, y (ix2 k l) * (x (ix2 k l) * rs (d : EReal) (fun i => x (ix2 k i)))

/-- One row's term of the column sums. -/
def colTerm {n : ℕ} (d : ℝ) (x y : FVec Ideal (Sx n) .f32) (l : Fin n) (R : Fin 8192) : EReal :=
  y (ix2 R l) * (x (ix2 R l) * rs (d : EReal) (row x R))

/-- A block's rows. -/
def rowsOf {n : ℕ} (d : ℝ) (y x : FVec Ideal (Sb n) .f32) (g : FVec Ideal (Sg n) .f32) (r : Fin 1024) (l : Fin n) : EReal :=
  back (d : EReal) (fun k => x (ix2 r k)) (fun k => y (ix2 r k) * g (ix2 0 k)) l

section Kernel

open Cert.Kernel11Ideal Cert.Kernel11Ideal.Gen

variable (m : (ℓ : Loc nD τ sig) → Buf (Elt Ideal) ℓ)

theorem idx : ∀ t : Fin cfg0.N, win0_0.index t = ![t.val, 0] ∧ win0_1.index t = ![t.val, 2] ∧ win0_2.index t = ![t.val, 0]
    ∧ win0_3.index t = ![t.val, 0] ∧ win0_4.index t = ![0, 0] ∧ win0_5.index t = ![0, 0] ∧ win0_6.index t = ![t.val, 0]
    ∧ win0_7.index t = ![t.val, 0] ∧ win0_8.index t = ![0, 0] ∧ win0_9.index t = ![0, 0] :=
  (by decide +kernel : ∀ t : Fin grid0.N, _)

theorem last8 : ∀ t : Fin cfg0.N, (win0 8).flush t = true → t.val = 7 :=
  (by decide +kernel : ∀ t : Fin grid0.N, _)

theorem last9 : ∀ t : Fin cfg0.N, (win0 9).flush t = true → t.val = 7 :=
  (by decide +kernel : ∀ t : Fin grid0.N, _)

theorem pay12_at (j : S1x256.Idx) : k0_pay12 (F := Ideal) j = 0 := by pointwise [k0_pay12]

theorem pay13_at (j : S1x128.Idx) : k0_pay13 (F := Ideal) j = 0 := by pointwise [k0_pay13]

theorem pay4_at (x : FVec Ideal S1024x256 .f32) (r : Fin 1024) (i : Fin 1) :
    (k0_pay4 x : FVec Ideal S1024x1 .f32) (ix2 r i) = rs ((256 : ℝ) : EReal) (fun k => x (ix2 r k)) := by
  unfold rs ms
  rw [← w256]
  pointwise [k0_pay4, k0_pay2]

theorem pay8_at (x : FVec Ideal S1024x128 .f32) (r : Fin 1024) (i : Fin 1) :
    (k0_pay8 (k0_pay7 x) : FVec Ideal S1024x1 .f32) (ix2 r i) = rs ((128 : ℝ) : EReal) (fun k => x (ix2 r k)) := by
  unfold rs ms
  rw [← w128]
  pointwise [k0_pay8, k0_pay7, k0_pay3]

theorem pay14_at (x y : FVec Ideal S1024x256 .f32) (a : FVec Ideal S1x256 .f32) (j : S1x256.Idx) :
    k0_pay14 (F := Ideal) (k0_pay6 x y) a j = a j + colsOf 256 x y (j 1) := by
  unfold colsOf
  simp only [← pay4_at x _ 0]
  pointwise [k0_pay14, k0_pay6, k0_pay2]

theorem pay1_at (x y : FVec Ideal S1024x128 .f32) (a : FVec Ideal S1x128 .f32) (j : S1x128.Idx) :
    k0_pay1 (F := Ideal) (k0_pay9 (k0_pay3 x) y (k0_pay7 x)) (k0_pay15 a) j = a j + colsOf 128 x y (j 1) := by
  unfold colsOf
  simp only [← pay8_at x _ 0]
  pointwise [k0_pay1, k0_pay9, k0_pay15, k0_pay3]

theorem pay10_at (y x : FVec Ideal S1024x256 .f32) (g : FVec Ideal S1x256 .f32) (r : Fin 1024) (l : Fin 256) :
    k0_pay10 (F := Ideal) (k0_pay5 x y g) (ix2 r l) = rowsOf 256 y x g r l := by
  unfold rowsOf back
  simp only [← pay4_at x _ 0]
  rw [← w256]
  pointwise [k0_pay10, k0_pay5, k0_pay2]

theorem pay11_at (y x : FVec Ideal S1024x128 .f32) (g : FVec Ideal S1x128 .f32) (r : Fin 1024) (l : Fin 128) :
    k0_pay11 (F := Ideal) (k0_pay3 x) y g (k0_pay7 x) (ix2 r l) = rowsOf 128 y x g r l := by
  unfold rowsOf back
  simp only [← pay8_at x _ 0]
  rw [← w128]
  pointwise [k0_pay11, k0_pay3]

/-- What the first weights' row holds after a point: the sums of the blocks so far. -/
theorem carry8 (c : Dev nD) (t : Fin cfg0.N) (j : S1x256.Idx) :
    (outsAt0 m c t.val t.isLt).2.2.1 j
      = ∑ p ∈ Finset.Iic t, colsOf (n := 256) 256 (X0_0 m c p) (iblk m c 2 p) (j 1) := by
  rw [Pipeline.eq_sum_fin_of_reset_step_apply_single (fun n h => (outsAt0 m c n h).2.2.1) 8 (fun _ => 0)
    (fun p j => colsOf (n := 256) 256 (X0_0 m c p) (iblk m c 2 p) (j 1))
    (fun t h j => by rw [outsAt0_A m c t h]; frame_out; rw [pay14_at, pay12_at])
    (fun t h j => by rw [outsAt0_B m c t h]; frame_out; rw [pay14_at])
    (le_of_eq N_0) t j, zero_add]

/-- The same of the second. -/
theorem carry9 (c : Dev nD) (t : Fin cfg0.N) (j : S1x128.Idx) :
    (outsAt0 m c t.val t.isLt).2.2.2 j
      = ∑ p ∈ Finset.Iic t, colsOf (n := 128) 128 (iblk m c 1 p) (iblk m c 3 p) (j 1) := by
  rw [Pipeline.eq_sum_fin_of_reset_step_apply_single (fun n h => (outsAt0 m c n h).2.2.2) 8 (fun _ => 0)
    (fun p j => colsOf (n := 128) 128 (iblk m c 1 p) (iblk m c 3 p) (j 1))
    (fun t h j => by rw [outsAt0_A m c t h]; frame_out; rw [pay1_at, pay13_at])
    (fun t h j => by rw [outsAt0_B m c t h]; frame_out; rw [pay1_at])
    (le_of_eq N_0) t j, zero_add]

abbrev arg0 (c : Dev nD) : FVec Ideal S8192x256 .f32 := m ((c : Thread nD τ).loc main_arg0)
abbrev arg1 (c : Dev nD) : FVec Ideal S8192x128 .f32 := m ((c : Thread nD τ).loc main_arg1)

/-- The packed array as the region finds it. -/
theorem V_z (c : Dev nD) : (V m c main_v2 : FVec Ideal S8192x640 .f32)
    = concatenate S8192x640 1 [⟨S8192x256, (arg0 m c)⟩, ⟨S8192x128, (arg1 m c)⟩, ⟨S8192x128, (V m c main_v0 : FVec Ideal S8192x128 .f32)⟩,
      ⟨S8192x128, (V m c main_v1 : FVec Ideal S8192x128 .f32)⟩] concatenates_S8192x256_S8192x128_S8192x128_S8192x128_S8192x640_d1 := by
  unfold V
  simp only [hostOps0, hostOps0_1, hostOps0_2, hostOps0_3, hostOps0_4, List.flatten_cons, List.flatten_nil, List.cons_append, List.nil_append, List.append_nil,
    StableHlo.TRef.binary, StableHlo.TRef.unary, StableHlo.TRef.toBuf, StableHlo.TRef.ofBuf, cast_eq]
  after_results_simp
  try rfl

theorem V_0 (c : Dev nD) (R : Fin 8192) (l : Fin 256) : (V m c main_v2 : FVec Ideal S8192x640 .f32) (ix2 R ⟨l.val, by omega⟩) = arg0 m c (ix2 R l) := by
  rw [V_z]
  pointwise

theorem V_1 (c : Dev nD) (R : Fin 8192) (l : Fin 128) : (V m c main_v2 : FVec Ideal S8192x640 .f32) (ix2 R ⟨256 + l.val, by omega⟩) = arg1 m c (ix2 R l) := by
  rw [V_z]
  pointwise

theorem x_at (c : Dev nD) (t : Fin cfg0.N) (r : Fin 1024) (k : Fin 256) : (X0_0 m c t : FVec Ideal S1024x256 .f32) (ix2 r k)
    = arg0 m c (ix2 ⟨t.val * 1024 + r.val, by have := lt_of_lt_of_eq t.isLt N_0; omega⟩ k) := by
  have ht : t.val < 8 := lt_of_lt_of_eq t.isLt N_0
  unfold X0_0 Pipeline.Window.fill
  rw [dif_pos (moved0_0 t _)]
  refine Eq.trans ?_ (V_0 m c _ k)
  show (V m c main_v2 : FVec Ideal S8192x640 .f32) (((cfg0.win 0).blk t).view.emb _) = _
  refine congrArg _ ?_
  blk_ext [idx t]

theorem u_at (c : Dev nD) (t : Fin cfg0.N) (r : Fin 1024) (k : Fin 128) : (iblk m c 1 t : FVec Ideal S1024x128 .f32) (ix2 r k)
    = arg1 m c (ix2 ⟨t.val * 1024 + r.val, by have := lt_of_lt_of_eq t.isLt N_0; omega⟩ k) := by
  have ht : t.val < 8 := lt_of_lt_of_eq t.isLt N_0
  refine Eq.trans ?_ (V_1 m c _ k)
  show (V m c main_v2 : FVec Ideal S8192x640 .f32) (((cfg0.win 1).blk t).view.emb (ix2 r k)) = _
  refine congrArg _ ?_
  blk_ext [idx t]

theorem y_at (c : Dev nD) (t : Fin cfg0.N) (r : Fin 1024) (k : Fin 256) : (iblk m c 2 t : FVec Ideal S1024x256 .f32) (ix2 r k)
    = (m ((c : Thread nD τ).loc main_arg6) : FVec Ideal S8192x256 .f32) (ix2 ⟨t.val * 1024 + r.val, by have := lt_of_lt_of_eq t.isLt N_0; omega⟩ k) := by
  have ht : t.val < 8 := lt_of_lt_of_eq t.isLt N_0
  rw [← V_main_arg6 m c]; blk_point [iblk, idx t]

theorem v_at (c : Dev nD) (t : Fin cfg0.N) (r : Fin 1024) (k : Fin 128) : (iblk m c 3 t : FVec Ideal S1024x128 .f32) (ix2 r k)
    = (m ((c : Thread nD τ).loc main_arg7) : FVec Ideal S8192x128 .f32) (ix2 ⟨t.val * 1024 + r.val, by have := lt_of_lt_of_eq t.isLt N_0; omega⟩ k) := by
  have ht : t.val < 8 := lt_of_lt_of_eq t.isLt N_0
  rw [← V_main_arg7 m c]; blk_point [iblk, idx t]

theorem g_at (c : Dev nD) (t : Fin cfg0.N) (k : Fin 256) : (iblk m c 4 t : FVec Ideal S1x256 .f32) (ix2 0 k)
    = (m ((c : Thread nD τ).loc main_arg4) : FVec Ideal S1x256 .f32) (ix2 0 k) := by
  rw [← V_main_arg4 m c]; blk_point [iblk, idx t]

theorem h_at (c : Dev nD) (t : Fin cfg0.N) (k : Fin 128) : (iblk m c 5 t : FVec Ideal S1x128 .f32) (ix2 0 k)
    = (m ((c : Thread nD τ).loc main_arg5) : FVec Ideal S1x128 .f32) (ix2 0 k) := by
  rw [← V_main_arg5 m c]; blk_point [iblk, idx t]

theorem after6_at (c : Dev nD) (t : Fin cfg0.N) (r : Fin 1024) (l : Fin 256) :
    (outsAt0 m c t.val t.isLt).1 (ix2 r l) = rowsOf (n := 256) 256 (iblk m c 2 t) (X0_0 m c t) (iblk m c 4 t) r l := by
  by_cases h : t.val % 8 = 0
  · rw [outsAt0_A m c t h]; frame_out; rw [pay10_at]
  · rw [outsAt0_B m c t h]; frame_out; rw [pay10_at]

theorem after7_at (c : Dev nD) (t : Fin cfg0.N) (r : Fin 1024) (l : Fin 128) :
    (outsAt0 m c t.val t.isLt).2.1 (ix2 r l) = rowsOf (n := 128) 128 (iblk m c 3 t) (iblk m c 1 t) (iblk m c 5 t) r l := by
  by_cases h : t.val % 8 = 0
  · rw [outsAt0_A m c t h]; frame_out; rw [pay11_at]
  · rw [outsAt0_B m c t h]; frame_out; rw [pay11_at]

theorem final_6 (c : Dev nD) : (dats m 0 c).arrAt 6 (cfgs 0).N
    = GX (n := 256) 256 (m ((c : Thread nD τ).loc main_arg0)) (m ((c : Thread nD τ).loc main_arg4)) (m ((c : Thread nD τ).loc main_arg6)) := by
  refine (dats m 0 c).arrAt_eq_of_covers 6 _ (by decide +kernel) fun t _ y => ?_
  have ht : t.val < 8 := lt_of_lt_of_eq t.isLt N_0
  blk_simp
  rw [after0_6]
  idx_vars y
  rw [after6_at]
  refine Eq.trans (b := GX (n := 256) 256 (m ((c : Thread nD τ).loc main_arg0)) (m ((c : Thread nD τ).loc main_arg4)) (m ((c : Thread nD τ).loc main_arg6))
    (ix2 ⟨t.val * 1024 + y0.val, by omega⟩ y1)) ?_ (congrArg _ ?_)
  · unfold rowsOf
    simp only [x_at, y_at, g_at]
    rfl
  · blk_ext [idx t]

theorem final_7 (c : Dev nD) : (dats m 0 c).arrAt 7 (cfgs 0).N
    = GX (n := 128) 128 (m ((c : Thread nD τ).loc main_arg1)) (m ((c : Thread nD τ).loc main_arg5)) (m ((c : Thread nD τ).loc main_arg7)) := by
  refine (dats m 0 c).arrAt_eq_of_covers 7 _ (by decide +kernel) fun t _ y => ?_
  have ht : t.val < 8 := lt_of_lt_of_eq t.isLt N_0
  blk_simp
  rw [after0_7]
  idx_vars y
  rw [after7_at]
  refine Eq.trans (b := GX (n := 128) 128 (m ((c : Thread nD τ).loc main_arg1)) (m ((c : Thread nD τ).loc main_arg5)) (m ((c : Thread nD τ).loc main_arg7))
    (ix2 ⟨t.val * 1024 + y0.val, by omega⟩ y1)) ?_ (congrArg _ ?_)
  · unfold rowsOf
    simp only [u_at, v_at, h_at]
    rfl
  · blk_ext [idx t]

theorem final_8 (c : Dev nD) : (dats m 0 c).arrAt 8 (cfgs 0).N
    = GW (n := 256) 256 (m ((c : Thread nD τ).loc main_arg0)) (m ((c : Thread nD τ).loc main_arg6)) := by
  refine (dats m 0 c).arrAt_eq_of_covers 8 _ (by decide +kernel) fun t hf y => ?_
  have ht := last8 t hf
  blk_simp
  rw [after0_8]
  idx_vars y
  rw [carry8]
  refine Eq.trans (b := GW (n := 256) 256 (m ((c : Thread nD τ).loc main_arg0)) (m ((c : Thread nD τ).loc main_arg6)) (ix2 y0 y1)) ?_ (congrArg _ ?_)
  · change ∑ p ∈ Finset.Iic t, colsOf (n := 256) 256 (X0_0 m c p) (iblk m c 2 p) y1 = _
    unfold colsOf
    simp only [x_at, y_at]
    rw [show Finset.Iic t = Finset.univ from Finset.eq_univ_of_forall fun p => Finset.mem_Iic.2 (Fin.le_def.2 (by have := lt_of_lt_of_eq p.isLt N_0; omega))]
    exact (Fin.sum_univ_tiles 8 1024 rfl (colTerm (n := 256) 256 (m ((c : Thread nD τ).loc main_arg0)) (m ((c : Thread nD τ).loc main_arg6)) y1)).symm
  · blk_ext [idx t]

theorem final_9 (c : Dev nD) : (dats m 0 c).arrAt 9 (cfgs 0).N
    = GW (n := 128) 128 (m ((c : Thread nD τ).loc main_arg1)) (m ((c : Thread nD τ).loc main_arg7)) := by
  refine (dats m 0 c).arrAt_eq_of_covers 9 _ (by decide +kernel) fun t hf y => ?_
  have ht := last9 t hf
  blk_simp
  rw [after0_9]
  idx_vars y
  rw [carry9]
  refine Eq.trans (b := GW (n := 128) 128 (m ((c : Thread nD τ).loc main_arg1)) (m ((c : Thread nD τ).loc main_arg7)) (ix2 y0 y1)) ?_ (congrArg _ ?_)
  · change ∑ p ∈ Finset.Iic t, colsOf (n := 128) 128 (iblk m c 1 p) (iblk m c 3 p) y1 = _
    unfold colsOf
    simp only [u_at, v_at]
    rw [show Finset.Iic t = Finset.univ from Finset.eq_univ_of_forall fun p => Finset.mem_Iic.2 (Fin.le_def.2 (by have := lt_of_lt_of_eq p.isLt N_0; omega))]
    exact (Fin.sum_univ_tiles 8 1024 rfl (colTerm (n := 128) 128 (m ((c : Thread nD τ).loc main_arg1)) (m ((c : Thread nD τ).loc main_arg7)) y1)).symm
  · blk_ext [idx t]

end Kernel

section Claim

open Cert.Pre_finite_mnb

variable (X0 : FVec Ideal S8192x256 .f32) (X1 : FVec Ideal S8192x128 .f32) (X2 : FVec Ideal S8192x32 .f32) (X3 : FVec Ideal S8192x8 .f32)
  (X4 : FVec Ideal S1x256 .f32) (X5 : FVec Ideal S1x128 .f32) (X6 : FVec Ideal S8192x256 .f32) (X7 : FVec Ideal S8192x128 .f32)

theorem real_of_pre (h : Cert.Pre_finite_mnb.fn (F := Ideal) X0 X1 X2 X3 X4 X5 X6 X7 = fun _ => 1#1) :
    AllReal X0 ∧ AllReal X1 ∧ AllReal X4 ∧ AllReal X5 ∧ AllReal X6 ∧ AllReal X7 := by
  have e := congrFun h (Shape.Idx.first (by decide))
  unfold Cert.Pre_finite_mnb.fn Cert.Pre_finite_mnb.fn_part1 at e
  obtain ⟨e, e7⟩ := Cert.Own.andi_one e
  obtain ⟨e, e6⟩ := Cert.Own.andi_one e
  obtain ⟨e, e5⟩ := Cert.Own.andi_one e
  obtain ⟨e, e4⟩ := Cert.Own.andi_one e
  obtain ⟨e0, e1⟩ := Cert.Own.andi_one e
  haveI : Subsingleton (Cert.Pre_finite_mnb.S_).Idx := ⟨fun a b => funext fun k => k.elim0⟩
  exact ⟨Cert.Own.allReal_of _ _ (fun _ => rfl) _ _ _ _ e0, Cert.Own.allReal_of _ _ (fun _ => rfl) _ _ _ _ e1,
    Cert.Own.allReal_of _ _ (fun _ => rfl) _ _ _ _ e4, Cert.Own.allReal_of _ _ (fun _ => rfl) _ _ _ _ e5,
    Cert.Own.allReal_of _ _ (fun _ => rfl) _ _ _ _ e6, Cert.Own.allReal_of _ _ (fun _ => rfl) _ _ _ _ e7⟩

theorem at_two {a b : ℕ} (j : (⟨2, ![a, b]⟩ : Shape).Idx) : ∃ (R : Fin a) (l : Fin b), j = ix2 R l :=
  ⟨j 0, j 1, funext fun i => by fin_cases i <;> rfl⟩

/-- The rows' gradient of the reference is `GX` when the factors are numbers. -/
theorem ref_x {n : ℕ} (w : BitVec 32) {d : ℝ} (hd : 0 < d) (hw : Ideal.ofBits FTy.f32 w = (d : EReal)) (x : FVec Ideal (Sx n) .f32) (g : FVec Ideal (Sg n) .f32) (y : FVec Ideal (Sx n) .f32)
    (hx : AllReal x) (hg : AllReal g) (hy : AllReal y) (hp r1 r2 b1 b2 b3 b5 sc lt) (p : FVec Ideal (Sx n) .f32) (e : ∀ R k, p (ix2 R k) = y (ix2 R k) * g (ix2 0 k)) :
    truncf .bf16 (hback b3 b5 x p (hms w hp r1 b1 b2 x) (hchain w hp r1 r2 b2 sc x p (hms w hp r1 b1 b2 x))) lt = GX d x g y := by
  funext j
  obtain ⟨R, l, rfl⟩ := at_two j
  refine (hback_at w hp r1 r2 b1 b2 b3 b5 sc x p hd hw R (fun k => hx.at _) (fun k => by rw [e]; exact (hy.at _).mul (hg.at _)) l).trans ?_
  rw [show row p R = fun k => y (ix2 R k) * g (ix2 0 k) from funext (e R)]
  rfl

/-- The weights' gradient of the reference is `GW`. -/
theorem ref_w {n : ℕ} (w : BitVec 32) {d : ℝ} (hw : Ideal.ofBits FTy.f32 w = (d : EReal)) (x y : FVec Ideal (Sx n) .f32) (hp r1 r3 b1 b2 b3 sg) :
    hcols hp r3 b3 sg x y (hms w hp r1 b1 b2 x) = GW d x y := by
  funext j
  obtain ⟨i, l, rfl⟩ := at_two j
  rw [hcols_at, hw]
  rfl

end Claim

section Reference

open Cert.Reference11Ideal Cert.Reference11Ideal.Gen

/-- The reference's gradient of the norm over 256 lanes. -/
def RX256 (x : FVec Ideal S8192x256 .f32) (g : FVec Ideal S1x256 .f32) (y : FVec Ideal S8192x256 .f32) : FVec Ideal S8192x256 .bf16 :=
  truncf .bf16 (hback (n := 256) bcast_S8192x1_S8192x256_0_1 bcast_S8192_S8192x256_0 x
    (mulf y (broadcastInDim S8192x256 ![0, 1] bcast_S1x256_S8192x256_0_1 g))
    (hms 0x43800000#32 h_S_ reducesTo_S8192x256_S8192_d1 bcast_S8192_S8192x1_0 bcast_S_S8192x1 x)
    (hchain 0x43800000#32 h_S_ reducesTo_S8192x256_S8192_d1 reducesTo_S8192x1_S8192_d1 bcast_S_S8192x1 shapeCasts_S8192_S8192x1 x
      (mulf y (broadcastInDim S8192x256 ![0, 1] bcast_S1x256_S8192x256_0_1 g))
      (hms 0x43800000#32 h_S_ reducesTo_S8192x256_S8192_d1 bcast_S8192_S8192x1_0 bcast_S_S8192x1 x))) bitsLt_bf16_f32

/-- Its weights' gradient. -/
def RW256 (x y : FVec Ideal S8192x256 .f32) : FVec Ideal S1x256 .f32 :=
  hcols (n := 256) h_S_ reducesTo_S8192x256_S256_d0 bcast_S8192x1_S8192x256_0_1 shapeCasts_S256_S1x256 x y
    (hms 0x43800000#32 h_S_ reducesTo_S8192x256_S8192_d1 bcast_S8192_S8192x1_0 bcast_S_S8192x1 x)

/-- The reference's gradient of the norm over 128 lanes. -/
def RX128 (x : FVec Ideal S8192x128 .f32) (g : FVec Ideal S1x128 .f32) (y : FVec Ideal S8192x128 .f32) : FVec Ideal S8192x128 .bf16 :=
  truncf .bf16 (hback (n := 128) bcast_S8192x1_S8192x128_0_1 bcast_S8192_S8192x128_0 x
    (mulf y (broadcastInDim S8192x128 ![0, 1] bcast_S1x128_S8192x128_0_1 g))
    (hms 0x43000000#32 h_S_ reducesTo_S8192x128_S8192_d1 bcast_S8192_S8192x1_0 bcast_S_S8192x1 x)
    (hchain 0x43000000#32 h_S_ reducesTo_S8192x128_S8192_d1 reducesTo_S8192x1_S8192_d1 bcast_S_S8192x1 shapeCasts_S8192_S8192x1 x
      (mulf y (broadcastInDim S8192x128 ![0, 1] bcast_S1x128_S8192x128_0_1 g))
      (hms 0x43000000#32 h_S_ reducesTo_S8192x128_S8192_d1 bcast_S8192_S8192x1_0 bcast_S_S8192x1 x))) bitsLt_bf16_f32

/-- Its weights' gradient. -/
def RW128 (x y : FVec Ideal S8192x128 .f32) : FVec Ideal S1x128 .f32 :=
  hcols (n := 128) h_S_ reducesTo_S8192x128_S128_d0 bcast_S8192x1_S8192x128_0_1 shapeCasts_S128_S1x128 x y
    (hms 0x43000000#32 h_S_ reducesTo_S8192x128_S8192_d1 bcast_S8192_S8192x1_0 bcast_S_S8192x1 x)

theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v68) = RX256 (m ((c.tc : Thread nD τ).loc main_arg0)) (m ((c.tc : Thread nD τ).loc main_arg4)) (m ((c.tc : Thread nD τ).loc main_arg6))
      ∧ r.2.mem ((c.tc : Thread nD τ).loc main_v69) = RX128 (m ((c.tc : Thread nD τ).loc main_arg1)) (m ((c.tc : Thread nD τ).loc main_arg5)) (m ((c.tc : Thread nD τ).loc main_arg7))
      ∧ r.2.mem ((c.tc : Thread nD τ).loc main_v17) = RW256 (m ((c.tc : Thread nD τ).loc main_arg0)) (m ((c.tc : Thread nD τ).loc main_arg6))
      ∧ r.2.mem ((c.tc : Thread nD τ).loc main_v51) = RW128 (m ((c.tc : Thread nD τ).loc main_arg1)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  unfold RX256 RX128 RW256 RW128 hback hcols hchain hms
  exact Cert.Reference11Ideal.Value.run m ρ

end Reference

open Cert.Kernel11Ideal in
theorem algebraic : Cert.algebraic_Kernel11Ideal_Reference11Ideal_pre_finite_mnb := by
  pair_intro
  · run_from Cert.Kernel11Ideal.Value.run_blocks m g
  · run_from ref_run m' g'
    · obtain ⟨h0, h1, h4, h5, h6, h7⟩ := real_of_pre _ _ _ _ _ _ _ _ (hpre c)
      rw [final_6 m c]
      exact ref_x _ (by norm_num) w256 _ _ _ h0 h4 h6 _ _ _ _ _ _ _ _ _ _ (fun R k => by pointwise)
    · obtain ⟨h0, h1, h4, h5, h6, h7⟩ := real_of_pre _ _ _ _ _ _ _ _ (hpre c)
      rw [final_7 m c]
      exact ref_x _ (by norm_num) w128 _ _ _ h1 h5 h7 _ _ _ _ _ _ _ _ _ _ (fun R k => by pointwise)
    · rw [final_8 m c]
      exact ref_w _ w256 _ _ _ _ _ _ _ _ _
    · rw [final_9 m c]
      exact ref_w _ w128 _ _ _ _ _ _ _ _ _

theorem frame_reference : Cert.quiescent_Reference11Ideal := by
  intro m ρ _
  run_from Cert.Reference11Ideal.Value.run m ρ
  · intro c; exact ⟨trivial, trivial, trivial, trivial, trivial, trivial, trivial, trivial⟩
  · exact sem_eq_zero_of_no_sems rfl _

theorem frame_reference_pre : Cert.quiescent_Reference11Ideal_pre_finite_mnb := fun m ρ _ => frame_reference m ρ trivial

end Cert.NormLow

end
-- ==== Proof.NormMix.lean ====
/- The gradient of the two norms around a mixer's residual: the rows' two gradients, and both weights' column sums. -/
module

public import proofs.«01_k».proof.Defs
public import proofs.«01_k».proof.Proof.NormIn
public import proofs.«01_k».proof.Proof.NormLow
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Pre_finite_rmb
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Own (AllReal IsReal)

namespace Cert.NormMix

open Cert.Rms
open Cert.NormIn (G1 G2)
open Cert.NormLow (GX GW ref_x ref_w)

abbrev SX : Shape := ⟨2, ![8192, 1024]⟩
abbrev SG : Shape := ⟨2, ![1, 1024]⟩
abbrev SB : Shape := ⟨2, ![512, 1024]⟩

/-- The residual the second norm reads: `x` plus the first norm's rows. -/
def HX (h0 : 0 < S0.numel) (r1 : SX.ReducesTo [1] Sr) (b1 : Sr.BroadcastsInDim Sc (![0] : Fin 1 → Fin Sc.rank)) (b2 : S0.BroadcastsInDim Sc (![] : Fin 0 → Fin Sc.rank))
    (b3 : Sc.BroadcastsInDim SX (![0, 1] : Fin 2 → Fin SX.rank)) (b4 : SG.BroadcastsInDim SX (![0, 1] : Fin 2 → Fin SX.rank))
    (x u : FVec Ideal SX .f32) (g : FVec Ideal SG .f32) : FVec Ideal SX .f32 :=
  addf x (mulf (mulf u (broadcastInDim SX ![0, 1] b3 (Host.rsqrt (hms (n := 1024) 0x44800000#32 h0 r1 b1 b2 u)))) (broadcastInDim SX ![0, 1] b4 g))

theorem IsReal.ends {v : EReal} (h : Cert.Own.IsReal v) : v ≠ ⊤ ∧ v ≠ ⊥ := by
  obtain ⟨r, rfl⟩ := h
  exact ⟨EReal.coe_ne_top r, EReal.coe_ne_bot r⟩

theorem HX_real (h0 r1 b1 b2 b3 b4) {x u : FVec Ideal SX .f32} {g : FVec Ideal SG .f32} (hx : AllReal x) (hu : AllReal u) (hg : AllReal g) :
    AllReal (HX h0 r1 b1 b2 b3 b4 x u g) := by
  intro j
  idx_vars j
  have e : HX h0 r1 b1 b2 b3 b4 x u g (ix2 j0 j1) = x (ix2 j0 j1) + u (ix2 j0 j1) * rs ((1024 : ℝ) : EReal) (row u j0) * g (ix2 0 j1) := by
    unfold rs
    rw [← w1024, ← hms_at 0x44800000#32 h0 r1 b1 b2 u j0]
    generalize hm : hms (n := 1024) 0x44800000#32 h0 r1 b1 b2 u = M
    unfold HX
    rw [hm]
    pointwise
  rw [e]
  exact IsReal.ends ((hx.at (ix2 j0 j1)).add (((hu.at (ix2 j0 j1)).mul (rs_real (d := 1024) (by norm_num) fun k => hu.at (ix2 j0 k))).mul (hg.at (ix2 0 j1))))

theorem G1_real {x z y : FVec Ideal SX .f32} {g : FVec Ideal SG .f32} (hx : AllReal x) (hz : AllReal z) (hy : AllReal y) (hg : AllReal g) : AllReal (G1 x g z y) := by
  intro j
  idx_vars j
  exact IsReal.ends ((hz.at (ix2 j0 j1)).add (back_real (d := 1024) (by norm_num) (fun k => hx.at (ix2 j0 k)) (fun k => (hy.at (ix2 j0 k)).mul (hg.at (ix2 0 k))) j1))

section Kernel

open Cert.Kernel13Ideal Cert.Kernel13Ideal.Gen

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![t.val, 0]
    ∧ win0_7.index t = ![t.val, 0] ∧ win0_8.index t = ![0, 0] ∧ win0_9.index t = ![0, 0] :=
  (by decide +kernel : ∀ t : Fin grid0.N, _)

theorem last8 : ∀ t : Fin cfg0.N, (win0 8).flush t = true → t.val = 15 :=
  (by decide +kernel : ∀ t : Fin grid0.N, _)

theorem last9 : ∀ t : Fin cfg0.N, (win0 9).flush t = true → t.val = 15 :=
  (by decide +kernel : ∀ t : Fin grid0.N, _)

theorem pay8_at (j : S1x1024.Idx) : k0_pay8 (F := Ideal) j = 0 := by pointwise [k0_pay8]

theorem pay9_at (j : S1x1024.Idx) : k0_pay9 (F := Ideal) j = 0 := by pointwise [k0_pay9]

theorem pay2_at (x : FVec Ideal S512x1024 .f32) (r : Fin 512) (i : Fin 1) :
    (k0_pay2 x : FVec Ideal S512x1 .f32) (ix2 r i) = rs ((1024 : ℝ) : EReal) (fun k => x (ix2 r k)) := by
  unfold rs ms
  rw [← w1024]
  pointwise [k0_pay2, k0_pay1]

theorem pay6_at (x : FVec Ideal S512x1024 .f32) (r : Fin 512) (i : Fin 1) :
    (k0_pay6 (k0_pay5 x) : FVec Ideal S512x1 .f32) (ix2 r i) = rs ((1024 : ℝ) : EReal) (fun k => x (ix2 r k)) := by
  unfold rs ms
  rw [← w1024]
  pointwise [k0_pay6, k0_pay5]

/-- A block's share of the column sums. -/
def colsOf (x y : FVec Ideal SB .f32) (l : Fin 1024) : EReal :=
  ∑ k : Fin 512, y (ix2 k l) * (x (ix2 k l) * rs ((1024 : ℝ) : EReal) (fun i => x (ix2 k i)))

theorem pay11_at (x y : FVec Ideal S512x1024 .f32) (a : FVec Ideal S1x1024 .f32) (j : S1x1024.Idx) :
    k0_pay11 (F := Ideal) (k0_pay3 y x) a j = a j + colsOf x y (j 1) := by
  unfold colsOf
  simp only [← pay2_at x _ 0]
  pointwise [k0_pay11, k0_pay3, k0_pay1]

theorem pay10_at (x y : FVec Ideal S512x1024 .f32) (a : FVec Ideal S1x1024 .f32) (j : S1x1024.Idx) :
    k0_pay10 (F := Ideal) x y (k0_pay5 x) a j = a j + colsOf x y (j 1) := by
  unfold colsOf
  simp only [← pay6_at x _ 0]
  pointwise [k0_pay10]

theorem pay4_at (z y x : FVec Ideal S512x1024 .f32) (g : FVec Ideal S1x1024 .f32) (r : Fin 512) (l : Fin 1024) :
    k0_pay4 (F := Ideal) z y x g (ix2 r l)
      = z (ix2 r l) + back ((1024 : ℝ) : EReal) (fun k => x (ix2 r k)) (fun k => y (ix2 r k) * g (ix2 0 k)) l := by
  unfold back
  simp only [← pay2_at x _ 0]
  rw [← w1024]
  pointwise [k0_pay4, k0_pay1]

theorem pay7_at (x y : FVec Ideal S512x1024 .f32) (g : FVec Ideal S1x1024 .f32) (r : Fin 512) (l : Fin 1024) :
    k0_pay7 (F := Ideal) x g y (k0_pay5 x) (ix2 r l)
      = back ((1024 : ℝ) : EReal) (fun k => x (ix2 r k)) (fun k => y (ix2 r k) * g (ix2 0 k)) l := by
  unfold back
  simp only [← pay6_at x _ 0]
  rw [← w1024]
  pointwise [k0_pay7]

/-- The residual's gradient on a block. -/
def dxOf (c : Dev nD) (p : Fin cfg0.N) : FVec Ideal SB .f32 := k0_pay4 (F := Ideal) (iblk m c 0 p) (iblk m c 1 p) (iblk m c 2 p) (iblk m c 5 p)

/-- What the first weights' row holds after a point: the sums of the blocks so far. -/
theorem carry8 (c : Dev nD) (t : Fin cfg0.N) (j : S1x1024.Idx) :
    (outsAt0 m c t.val t.isLt).2.2.1 j = ∑ p ∈ Finset.Iic t, colsOf (iblk m c 3 p) (dxOf m c p) (j 1) := by
  rw [Pipeline.eq_sum_fin_of_reset_step_apply_single (fun n h => (outsAt0 m c n h).2.2.1) 16 (fun _ => 0)
    (fun p j => colsOf (iblk m c 3 p) (dxOf m c p) (j 1))
    (fun t h j => by rw [outsAt0_A m c t h]; frame_out; rw [pay10_at, pay8_at]; rfl)
    (fun t h j => by rw [outsAt0_B m c t h]; frame_out; rw [pay10_at]; rfl)
    (le_of_eq N_0) t j, zero_add]

/-- The same of the second. -/
theorem carry9 (c : Dev nD) (t : Fin cfg0.N) (j : S1x1024.Idx) :
    (outsAt0 m c t.val t.isLt).2.2.2 j = ∑ p ∈ Finset.Iic t, colsOf (iblk m c 2 p) (iblk m c 1 p) (j 1) := by
  rw [Pipeline.eq_sum_fin_of_reset_step_apply_single (fun n h => (outsAt0 m c n h).2.2.2) 16 (fun _ => 0)
    (fun p j => colsOf (iblk m c 2 p) (iblk m c 1 p) (j 1))
    (fun t h j => by rw [outsAt0_A m c t h]; frame_out; rw [pay11_at, pay9_at])
    (fun t h j => by rw [outsAt0_B m c t h]; frame_out; rw [pay11_at])
    (le_of_eq N_0) t j, zero_add]

abbrev arg0 (c : Dev nD) : FVec Ideal S8192x1024 .f32 := m ((c : Thread nD τ).loc main_arg0)
abbrev arg1 (c : Dev nD) : FVec Ideal S8192x1024 .f32 := m ((c : Thread nD τ).loc main_arg1)
abbrev arg2 (c : Dev nD) : FVec Ideal S1x1024 .f32 := m ((c : Thread nD τ).loc main_arg2)
abbrev arg3 (c : Dev nD) : FVec Ideal S1x1024 .f32 := m ((c : Thread nD τ).loc main_arg3)
abbrev arg4 (c : Dev nD) : FVec Ideal S8192x1024 .f32 := m ((c : Thread nD τ).loc main_arg4)
abbrev arg5 (c : Dev nD) : FVec Ideal S8192x1024 .f32 := m ((c : Thread nD τ).loc main_arg5)

/-- The residual as the region finds it. -/
abbrev hx (x u : FVec Ideal S8192x1024 .f32) (g : FVec Ideal S1x1024 .f32) : FVec Ideal S8192x1024 .f32 :=
  HX h_S_ reducesTo_S8192x1024_S8192_d1 bcast_S8192_S8192x1_0 bcast_S_S8192x1 bcast_S8192x1_S8192x1024_0_1 bcast_S1x1024_S8192x1024_0_1 x u g

theorem V_x (c : Dev nD) : (V m c main_v12 : FVec Ideal S8192x1024 .f32) = hx (arg0 m c) (arg1 m c) (arg2 m c) := by
  unfold V hx HX hms
  simp only [hostOps0, List.flatten_cons, List.flatten_nil, List.cons_append, List.nil_append, List.append_nil]
  after_results_simp
  try rfl

theorem x_at (c : Dev nD) (t : Fin cfg0.N) (r : Fin 512) (k : Fin 1024) : (iblk m c 2 t : FVec Ideal S512x1024 .f32) (ix2 r k)
    = hx (arg0 m c) (arg1 m c) (arg2 m c) (ix2 ⟨t.val * 512 + r.val, by have := lt_of_lt_of_eq t.isLt N_0; omega⟩ k) := by
  have ht : t.val < 16 := lt_of_lt_of_eq t.isLt N_0
  rw [← V_x m c]; blk_point [iblk, idx t]

theorem y_at (c : Dev nD) (t : Fin cfg0.N) (r : Fin 512) (k : Fin 1024) : (iblk m c 1 t : FVec Ideal S512x1024 .f32) (ix2 r k)
    = arg5 m c (ix2 ⟨t.val * 512 + r.val, by have := lt_of_lt_of_eq t.isLt N_0; omega⟩ k) := by
  have ht : t.val < 16 := lt_of_lt_of_eq t.isLt N_0
  unfold arg5; rw [← V_main_arg5 m c]; blk_point [iblk, idx t]

theorem z_at (c : Dev nD) (t : Fin cfg0.N) (r : Fin 512) (k : Fin 1024) : (iblk m c 0 t : FVec Ideal S512x1024 .f32) (ix2 r k)
    = arg4 m c (ix2 ⟨t.val * 512 + r.val, by have := lt_of_lt_of_eq t.isLt N_0; omega⟩ k) := by
  have ht : t.val < 16 := lt_of_lt_of_eq t.isLt N_0
  unfold arg4; rw [← V_main_arg4 m c]; blk_point [iblk, idx t]

theorem u_at (c : Dev nD) (t : Fin cfg0.N) (r : Fin 512) (k : Fin 1024) : (iblk m c 3 t : FVec Ideal S512x1024 .f32) (ix2 r k)
    = arg1 m c (ix2 ⟨t.val * 512 + r.val, by have := lt_of_lt_of_eq t.isLt N_0; omega⟩ k) := by
  have ht : t.val < 16 := lt_of_lt_of_eq t.isLt N_0
  unfold arg1; rw [← V_main_arg1 m c]; blk_point [iblk, idx t]

theorem g_at (c : Dev nD) (t : Fin cfg0.N) (k : Fin 1024) : (iblk m c 5 t : FVec Ideal S1x1024 .f32) (ix2 0 k) = arg3 m c (ix2 0 k) := by
  unfold arg3; rw [← V_main_arg3 m c]; blk_point [iblk, idx t]

theorem h_at (c : Dev nD) (t : Fin cfg0.N) (k : Fin 1024) : (iblk m c 4 t : FVec Ideal S1x1024 .f32) (ix2 0 k) = arg2 m c (ix2 0 k) := by
  unfold arg2; rw [← V_main_arg2 m c]; blk_point [iblk, idx t]

/-- The residual's gradient. -/
abbrev dx (c : Dev nD) : FVec Ideal S8192x1024 .f32 := G1 (hx (arg0 m c) (arg1 m c) (arg2 m c)) (arg3 m c) (arg4 m c) (arg5 m c)

theorem dx_at (c : Dev nD) (t : Fin cfg0.N) (r : Fin 512) (l : Fin 1024) :
    dxOf m c t (ix2 r l) = dx m c (ix2 ⟨t.val * 512 + r.val, by have := lt_of_lt_of_eq t.isLt N_0; omega⟩ l) := by
  refine (pay4_at (iblk m c 0 t) (iblk m c 1 t) (iblk m c 2 t) (iblk m c 5 t) r l).trans ?_
  simp only [x_at, y_at, z_at, g_at]
  rfl

theorem after6_at (c : Dev nD) (t : Fin cfg0.N) (r : Fin 512) (l : Fin 1024) : (outsAt0 m c t.val t.isLt).1 (ix2 r l) = dxOf m c t (ix2 r l) := by
  by_cases h : t.val % 16 = 0
  · rw [outsAt0_A m c t h]; frame_out; rfl
  · rw [outsAt0_B m c t h]; frame_out; rfl

theorem after7_at (c : Dev nD) (t : Fin cfg0.N) (r : Fin 512) (l : Fin 1024) :
    (outsAt0 m c t.val t.isLt).2.1 (ix2 r l)
      = back ((1024 : ℝ) : EReal) (fun k => (iblk m c 3 t : FVec Ideal S512x1024 .f32) (ix2 r k))
          (fun k => dxOf m c t (ix2 r k) * (iblk m c 4 t : FVec Ideal S1x1024 .f32) (ix2 0 k)) l := by
  by_cases h : t.val % 16 = 0
  · rw [outsAt0_A m c t h]; frame_out; rw [pay7_at]; rfl
  · rw [outsAt0_B m c t h]; frame_out; rw [pay7_at]; rfl

theorem final_6 (c : Dev nD) : (dats m 0 c).arrAt 6 (cfgs 0).N = dx m c := by
  refine (dats m 0 c).arrAt_eq_of_covers 6 _ (by decide +kernel) fun t _ y => ?_
  have ht : t.val < 16 := lt_of_lt_of_eq t.isLt N_0
  blk_simp
  rw [after0_6]
  idx_vars y
  rw [after6_at, dx_at]
  refine congrArg (dx m c) ?_
  blk_ext [idx t]

theorem final_7 (c : Dev nD) : (dats m 0 c).arrAt 7 (cfgs 0).N = GX (n := 1024) 1024 (arg1 m c) (arg2 m c) (dx m c) := by
  refine (dats m 0 c).arrAt_eq_of_covers 7 _ (by decide +kernel) fun t _ y => ?_
  have ht : t.val < 16 := lt_of_lt_of_eq t.isLt N_0
  blk_simp
  rw [after0_7]
  idx_vars y
  rw [after7_at]
  refine Eq.trans (b := GX (n := 1024) 1024 (arg1 m c) (arg2 m c) (dx m c) (ix2 ⟨t.val * 512 + y0.val, by omega⟩ y1)) ?_ (congrArg _ ?_)
  · simp only [dx_at, u_at, h_at]
    rfl
  · blk_ext [idx t]

/-- One row's term of the column sums. -/
def colTerm (x y : FVec Ideal SX .f32) (l : Fin 1024) (R : Fin 8192) : EReal :=
  y (ix2 R l) * (x (ix2 R l) * rs ((1024 : ℝ) : EReal) (row x R))

theorem final_8 (c : Dev nD) : (dats m 0 c).arrAt 8 (cfgs 0).N = GW (n := 1024) 1024 (arg1 m c) (dx m c) := by
  refine (dats m 0 c).arrAt_eq_of_covers 8 _ (by decide +kernel) fun t hf y => ?_
  have ht := last8 t hf
  blk_simp
  rw [after0_8]
  idx_vars y
  rw [carry8]
  refine Eq.trans (b := GW (n := 1024) 1024 (arg1 m c) (dx m c) (ix2 y0 y1)) ?_ (congrArg _ ?_)
  · change ∑ p ∈ Finset.Iic t, colsOf (iblk m c 3 p) (dxOf m c p) y1 = _
    unfold colsOf
    simp only [u_at, dx_at]
    rw [show Finset.Iic t = Finset.univ from Finset.eq_univ_of_forall fun p => Finset.mem_Iic.2 (Fin.le_def.2 (by have := lt_of_lt_of_eq p.isLt N_0; omega))]
    exact (Fin.sum_univ_tiles 16 512 rfl (colTerm (arg1 m c) (dx m c) y1)).symm
  · blk_ext [idx t]

theorem final_9 (c : Dev nD) : (dats m 0 c).arrAt 9 (cfgs 0).N = GW (n := 1024) 1024 (hx (arg0 m c) (arg1 m c) (arg2 m c)) (arg5 m c) := by
  refine (dats m 0 c).arrAt_eq_of_covers 9 _ (by decide +kernel) fun t hf y => ?_
  have ht := last9 t hf
  blk_simp
  rw [after0_9]
  idx_vars y
  rw [carry9]
  refine Eq.trans (b := GW (n := 1024) 1024 (hx (arg0 m c) (arg1 m c) (arg2 m c)) (arg5 m c) (ix2 y0 y1)) ?_ (congrArg _ ?_)
  · change ∑ p ∈ Finset.Iic t, colsOf (iblk m c 2 p) (iblk m c 1 p) y1 = _
    unfold colsOf
    simp only [x_at, y_at]
    rw [show Finset.Iic t = Finset.univ from Finset.eq_univ_of_forall fun p => Finset.mem_Iic.2 (Fin.le_def.2 (by have := lt_of_lt_of_eq p.isLt N_0; omega))]
    exact (Fin.sum_univ_tiles 16 512 rfl (colTerm (hx (arg0 m c) (arg1 m c) (arg2 m c)) (arg5 m c) y1)).symm
  · blk_ext [idx t]

end Kernel

section Claim

open Cert.Pre_finite_rmb

variable (X0 X1 : FVec Ideal S8192x1024 .f32) (X2 X3 : FVec Ideal S1x1024 .f32) (X4 X5 : FVec Ideal S8192x1024 .f32)

theorem real_of_pre (h : Cert.Pre_finite_rmb.fn (F := Ideal) X0 X1 X2 X3 X4 X5 = fun _ => 1#1) :
    AllReal X0 ∧ AllReal X1 ∧ AllReal X2 ∧ AllReal X3 ∧ AllReal X4 ∧ AllReal X5 := by
  have e := congrFun h (Shape.Idx.first (by decide))
  unfold Cert.Pre_finite_rmb.fn Cert.Pre_finite_rmb.fn_part1 at e
  obtain ⟨e, e5⟩ := Cert.Own.andi_one e
  obtain ⟨e, e4⟩ := Cert.Own.andi_one e
  obtain ⟨e, e3⟩ := Cert.Own.andi_one e
  obtain ⟨e, e2⟩ := Cert.Own.andi_one e
  obtain ⟨e0, e1⟩ := Cert.Own.andi_one e
  haveI : Subsingleton (Cert.Pre_finite_rmb.S_).Idx := ⟨fun a b => funext fun k => k.elim0⟩
  exact ⟨Cert.Own.allReal_of _ _ (fun _ => rfl) _ _ _ _ e0, Cert.Own.allReal_of _ _ (fun _ => rfl) _ _ _ _ e1,
    Cert.Own.allReal_of _ _ (fun _ => rfl) _ _ _ _ e2, Cert.Own.allReal_of _ _ (fun _ => rfl) _ _ _ _ e3,
    Cert.Own.allReal_of _ _ (fun _ => rfl) _ _ _ _ e4, Cert.Own.allReal_of _ _ (fun _ => rfl) _ _ _ _ e5⟩

end Claim

section Reference

open Cert.Reference13Ideal Cert.Reference13Ideal.Gen

/-- The rows' mean squares in the reference. -/
abbrev rms (x : FVec Ideal S8192x1024 .f32) : FVec Ideal S8192x1 .f32 :=
  hms (n := 1024) 0x44800000#32 h_S_ reducesTo_S8192x1024_S8192_d1 bcast_S8192_S8192x1_0 bcast_S_S8192x1 x

/-- The reference's residual. -/
abbrev RH (x u : FVec Ideal S8192x1024 .f32) (g : FVec Ideal S1x1024 .f32) : FVec Ideal S8192x1024 .f32 :=
  HX h_S_ reducesTo_S8192x1024_S8192_d1 bcast_S8192_S8192x1_0 bcast_S_S8192x1 bcast_S8192x1_S8192x1024_0_1 bcast_S1x1024_S8192x1024_0_1 x u g

/-- A row of weights times the rows. -/
abbrev RP (y : FVec Ideal S8192x1024 .f32) (g : FVec Ideal S1x1024 .f32) : FVec Ideal S8192x1024 .f32 :=
  mulf y (broadcastInDim S8192x1024 ![0, 1] bcast_S1x1024_S8192x1024_0_1 g)

/-- The chain through the rows' mean squares. -/
abbrev RC (x p : FVec Ideal S8192x1024 .f32) : FVec Ideal S8192 .f32 :=
  hchain (n := 1024) 0x44800000#32 h_S_ reducesTo_S8192x1024_S8192_d1 reducesTo_S8192x1_S8192_d1 bcast_S_S8192x1 shapeCasts_S8192_S8192x1 x p (rms x)

/-- The reference's gradient at the residual. -/
def RD (x u : FVec Ideal S8192x1024 .f32) (gu gx : FVec Ideal S1x1024 .f32) (z y : FVec Ideal S8192x1024 .f32) : FVec Ideal S8192x1024 .f32 :=
  hbackAdd (n := 1024) bcast_S8192x1_S8192x1024_0_1 bcast_S8192_S8192x1024_0 (RH x u gu) (RP y gx) z (rms (RH x u gu)) (RC (RH x u gu) (RP y gx))

/-- A norm's gradient at its rows, from the rows' gradient `y`. -/
def RX (u : FVec Ideal S8192x1024 .f32) (g : FVec Ideal S1x1024 .f32) (y : FVec Ideal S8192x1024 .f32) : FVec Ideal S8192x1024 .bf16 :=
  truncf .bf16 (hback (n := 1024) bcast_S8192x1_S8192x1024_0_1 bcast_S8192_S8192x1024_0 u (RP y g) (rms u) (RC u (RP y g))) bitsLt_bf16_f32

/-- A norm's gradient at its weights. -/
def RW (u y : FVec Ideal S8192x1024 .f32) : FVec Ideal S1x1024 .f32 :=
  hcols (n := 1024) h_S_ reducesTo_S8192x1024_S1024_d0 bcast_S8192x1_S8192x1024_0_1 shapeCasts_S1024_S1x1024 u y (rms u)

theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v50) = RD (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v71) = RX (m ((c.tc : Thread nD τ).loc main_arg1)) (m ((c.tc : Thread nD τ).loc main_arg2)) (shapeCast S8192x1024 (RD (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) shapeCasts_S8192x1024_S8192x1024)
      ∧ r.2.mem ((c.tc : Thread nD τ).loc main_v54) = RW (m ((c.tc : Thread nD τ).loc main_arg1)) (shapeCast S8192x1024 (RD (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) shapeCasts_S8192x1024_S8192x1024)
      ∧ r.2.mem ((c.tc : Thread nD τ).loc main_v33) = RW (RH (m ((c.tc : Thread nD τ).loc main_arg0)) (m ((c.tc : Thread nD τ).loc main_arg1)) (m ((c.tc : Thread nD τ).loc main_arg2))) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  have h := Cert.Reference13Ideal.Value.run (F := Ideal) m ρ
  unfold Cert.Reference13Ideal.Value.res_main_v50 Cert.Reference13Ideal.Value.res_main_v71 Cert.Reference13Ideal.Value.res_main_v54 at h
  unfold RX RW RD RC RP RH rms HX hback hbackAdd hcols hchain hms
  exact h

end Reference

open Cert.Reference13Ideal Cert.Reference13Ideal.Gen in
theorem rd (x u : FVec Ideal S8192x1024 .f32) (gu gx : FVec Ideal S1x1024 .f32) (z y : FVec Ideal S8192x1024 .f32)
    (hx : AllReal x) (hu : AllReal u) (hgu : AllReal gu) (hgx : AllReal gx) (hy : AllReal y) :
    RD x u gu gx z y = G1 (RH x u gu) gx z y := by
  exact Cert.NormIn.ref_1 _ _ _ _ (HX_real _ _ _ _ _ _ hx hu hgu) hgx hy _ _ _ _ _ _ _ _ _

open Cert.Kernel13Ideal in
theorem algebraic : Cert.algebraic_Kernel13Ideal_Reference13Ideal_pre_finite_rmb := by
  pair_intro
  · run_from Cert.Kernel13Ideal.Value.run_blocks m g
  · run_from ref_run m' g'
    · obtain ⟨h0, h1, h2, h3, h4, h5⟩ := real_of_pre _ _ _ _ _ _ (hpre c)
      rw [final_6 m c]
      exact rd _ _ _ _ _ _ h0 h1 h2 h3 h5
    · obtain ⟨h0, h1, h2, h3, h4, h5⟩ := real_of_pre _ _ _ _ _ _ (hpre c)
      rw [final_7 m c, rd _ _ _ _ _ _ h0 h1 h2 h3 h5, shapeCast_self]
      exact ref_x _ (by norm_num) w1024 _ _ _ h1 h2 (G1_real (HX_real _ _ _ _ _ _ h0 h1 h2) h4 h5 h3) _ _ _ _ _ _ _ _ _ _ (fun R k => by pointwise)
    · obtain ⟨h0, h1, h2, h3, h4, h5⟩ := real_of_pre _ _ _ _ _ _ (hpre c)
      rw [final_8 m c, rd _ _ _ _ _ _ h0 h1 h2 h3 h5, shapeCast_self]
      exact ref_w _ w1024 _ _ _ _ _ _ _ _ _
    · rw [final_9 m c]
      exact ref_w _ w1024 _ _ _ _ _ _ _ _ _

theorem frame_reference : Cert.quiescent_Reference13Ideal := by
  intro m ρ _
  run_from Cert.Reference13Ideal.Value.run m ρ
  · intro c; exact ⟨trivial, trivial, trivial, trivial, trivial, trivial⟩
  · exact sem_eq_zero_of_no_sems rfl _

theorem frame_reference_pre : Cert.quiescent_Reference13Ideal_pre_finite_rmb := fun m ρ _ => frame_reference m ρ trivial

end Cert.NormMix

end
-- ==== Proof.NormLoss.lean ====
/- The step's loss with its gradient through the last norm: the loss is one number, the gradients are of the norm's rows and of its weights. -/
module

public import proofs.«01_k».proof.Defs
public import proofs.«01_k».proof.Proof.NormMix
public import proofs.«01_k».proof.Proof.Gen.Kernel12.Frame
public import proofs.«01_k».proof.Proof.Gen.Kernel12Ideal.Frame
public import proofs.«01_k».proof.Proof.Gen.Reference12Ideal.Run
public import proofs.«01_k».proof.Proof.Gen.Pre_finite_loss
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Own (AllReal IsReal)

namespace Cert.NormLoss

open Cert.Rms
open Cert.NormLow (GX GW ref_x ref_w)
open Cert.NormMix (SX SG SB HX IsReal.ends colsOf colTerm)

/-- The output's distance from its target: `x` plus the normed rows of `u`, less `t`. -/
def ER (x u : FVec Ideal SX .f32) (g : FVec Ideal SG .f32) (t : FVec Ideal SX .f32) : FVec Ideal SX .f32 := fun j =>
  x (ix2 (j 0) (j 1)) + u (ix2 (j 0) (j 1)) * rs ((1024 : ℝ) : EReal) (row u (j 0)) * g (ix2 0 (j 1)) - t (ix2 (j 0) (j 1))

/-- The loss's gradient at the output. -/
def DY (x u : FVec Ideal SX .f32) (g : FVec Ideal SG .f32) (t : FVec Ideal SX .f32) : FVec Ideal SX .f32 := fun j =>
  Ideal.div (ER x u g t (ix2 (j 0) (j 1))) ((1024 : ℝ) : EReal)

/-- The columns' sums of squares. -/
def SQ (e : FVec Ideal SX .f32) : FVec Ideal SG .f32 := fun j => ∑ R : Fin 8192, e (ix2 R (j 1)) * e (ix2 R (j 1))

theorem ER_real {x u t : FVec Ideal SX .f32} {g : FVec Ideal SG .f32} (hx : AllReal x) (hu : AllReal u) (hg : AllReal g) (ht : AllReal t) : AllReal (ER x u g t) := by
  intro j
  idx_vars j
  exact IsReal.ends (((hx.at (ix2 j0 j1)).add (((hu.at (ix2 j0 j1)).mul (rs_real (d := 1024) (by norm_num) fun k => hu.at (ix2 j0 k))).mul (hg.at (ix2 0 j1)))).sub (ht.at (ix2 j0 j1)))

theorem DY_real {x u t : FVec Ideal SX .f32} {g : FVec Ideal SG .f32} (h : AllReal (ER x u g t)) : AllReal (DY x u g t) := by
  intro j
  idx_vars j
  exact IsReal.ends (div_real (d := 1024) (by norm_num) (h.at (ix2 j0 j1)))

theorem w_half : Ideal.ofBits FTy.f32 0x3F000000#32 = ((1 / 2 : ℝ) : EReal) := by
  simp [Ideal.ofBits, Ideal.ieee]
  rw [← EReal.coe_mul]; norm_num

theorem w_one : Ideal.ofBits FTy.f32 0x3F800000#32 = ((1 : ℝ) : EReal) := by
  simp [Ideal.ofBits, Ideal.ieee, -EReal.coe_mul]; norm_num

theorem w_two : Ideal.ofBits FTy.f32 0x40000000#32 = ((2 : ℝ) : EReal) := by
  simp [Ideal.ofBits, Ideal.ieee, -EReal.coe_mul]; norm_num

section Kernel

open Cert.Kernel12Ideal Cert.Kernel12Ideal.Gen

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![t.val, 0] ∧ win0_6.index t = ![0, 0]
    ∧ win0_7.index t = ![0, 0] :=
  (by decide +kernel : ∀ t : Fin grid0.N, _)

theorem last6 : ∀ t : Fin cfg0.N, (win0 6).flush t = true → t.val = 15 :=
  (by decide +kernel : ∀ t : Fin grid0.N, _)

theorem last7 : ∀ t : Fin cfg0.N, (win0 7).flush t = true → t.val = 15 :=
  (by decide +kernel : ∀ t : Fin grid0.N, _)

theorem pay2_at (j : S1x1024.Idx) : k0_pay2 (F := Ideal) j = 0 := by pointwise [k0_pay2]

theorem pay3_at (j : S1x1024.Idx) : k0_pay3 (F := Ideal) j = 0 := by pointwise [k0_pay3]

theorem pay8_at (u : FVec Ideal S512x1024 .f32) (r : Fin 512) (i : Fin 1) :
    (k0_pay8 u : FVec Ideal S512x1 .f32) (ix2 r i) = rs ((1024 : ℝ) : EReal) (fun k => u (ix2 r k)) := by
  unfold rs ms
  rw [← w1024]
  pointwise [k0_pay8]

theorem pay6_at (x u t : FVec Ideal S512x1024 .f32) (g : FVec Ideal S1x1024 .f32) (r : Fin 512) (l : Fin 1024) :
    k0_pay6 (F := Ideal) x u t g (ix2 r l)
      = x (ix2 r l) + u (ix2 r l) * rs ((1024 : ℝ) : EReal) (fun k => u (ix2 r k)) * g (ix2 0 l) - t (ix2 r l) := by
  unfold rs ms
  rw [← w1024]
  pointwise [k0_pay6]

theorem pay7_at (x u t : FVec Ideal S512x1024 .f32) (g : FVec Ideal S1x1024 .f32) (r : Fin 512) (l : Fin 1024) :
    k0_pay7 (F := Ideal) x u t g (ix2 r l) = Ideal.div (k0_pay6 (F := Ideal) x u t g (ix2 r l)) ((1024 : ℝ) : EReal) := by
  rw [← w1024]
  unfold k0_pay7
  generalize k0_pay6 (F := Ideal) x u t g = e
  pointwise

theorem pay1_at (x u t : FVec Ideal S512x1024 .f32) (g : FVec Ideal S1x1024 .f32) (r : Fin 512) (l : Fin 1024) :
    k0_pay1 (F := Ideal) (k0_pay10 x u t g) (k0_pay11 u) (k0_pay12 x u t g) (ix2 r l)
      = back ((1024 : ℝ) : EReal) (fun k => u (ix2 r k)) (fun k => k0_pay7 (F := Ideal) x u t g (ix2 r k) * g (ix2 0 k)) l := by
  unfold back
  simp only [← pay8_at u _ 0]
  rw [← w1024]
  unfold k0_pay1 k0_pay10 k0_pay11 k0_pay12 k0_pay9
  generalize k0_pay7 (F := Ideal) x u t g = y
  generalize k0_pay8 (F := Ideal) u = s
  pointwise

/-- A block's share of the columns' sums of squares. -/
def sqOf (e : FVec Ideal SB .f32) (l : Fin 1024) : EReal := ∑ k : Fin 512, e (ix2 k l) * e (ix2 k l)

theorem pay4_at (e : FVec Ideal S512x1024 .f32) (a : FVec Ideal S1x1024 .f32) (j : S1x1024.Idx) :
    k0_pay4 (F := Ideal) e a j = a j + sqOf e (j 1) := by
  unfold sqOf
  pointwise [k0_pay4]

theorem pay5_at (u y : FVec Ideal S512x1024 .f32) (a : FVec Ideal S1x1024 .f32) (j : S1x1024.Idx) :
    k0_pay5 (F := Ideal) u y (k0_pay8 u) a j = a j + colsOf u y (j 1) := by
  unfold colsOf
  simp only [← pay8_at u _ 0]
  generalize k0_pay8 (F := Ideal) u = s
  pointwise [k0_pay5]

/-- The distance on a block, and the loss's gradient there. -/
def erOf (c : Dev nD) (p : Fin cfg0.N) : FVec Ideal SB .f32 := k0_pay6 (F := Ideal) (iblk m c 0 p) (iblk m c 1 p) (iblk m c 2 p) (iblk m c 3 p)
def dyOf (c : Dev nD) (p : Fin cfg0.N) : FVec Ideal SB .f32 := k0_pay7 (F := Ideal) (iblk m c 0 p) (iblk m c 1 p) (iblk m c 2 p) (iblk m c 3 p)

/-- What the loss's row holds after a point: the sums of the blocks so far. -/
theorem carry6 (c : Dev nD) (t : Fin cfg0.N) (j : S1x1024.Idx) :
    (outsAt0 m c t.val t.isLt).2.2.1 j = ∑ p ∈ Finset.Iic t, sqOf (erOf m c p) (j 1) := by
  rw [Pipeline.eq_sum_fin_of_reset_step_apply_single (fun n h => (outsAt0 m c n h).2.2.1) 16 (fun _ => 0)
    (fun p j => sqOf (erOf m c p) (j 1))
    (fun t h j => by rw [outsAt0_A m c t h]; frame_out; rw [pay4_at, pay2_at]; rfl)
    (fun t h j => by rw [outsAt0_B m c t h]; frame_out; rw [pay4_at]; rfl)
    (le_of_eq N_0) t j, zero_add]

/-- The same of the weights' row. -/
theorem carry7 (c : Dev nD) (t : Fin cfg0.N) (j : S1x1024.Idx) :
    (outsAt0 m c t.val t.isLt).2.2.2 j = ∑ p ∈ Finset.Iic t, colsOf (iblk m c 1 p) (dyOf m c p) (j 1) := by
  rw [Pipeline.eq_sum_fin_of_reset_step_apply_single (fun n h => (outsAt0 m c n h).2.2.2) 16 (fun _ => 0)
    (fun p j => colsOf (iblk m c 1 p) (dyOf m c p) (j 1))
    (fun t h j => by rw [outsAt0_A m c t h]; frame_out; rw [pay5_at, pay3_at]; rfl)
    (fun t h j => by rw [outsAt0_B m c t h]; frame_out; rw [pay5_at]; rfl)
    (le_of_eq N_0) t j, zero_add]

abbrev arg0 (c : Dev nD) : FVec Ideal S8192x1024 .f32 := m ((c : Thread nD τ).loc main_arg0)
abbrev arg1 (c : Dev nD) : FVec Ideal S8192x1024 .f32 := m ((c : Thread nD τ).loc main_arg1)
abbrev arg2 (c : Dev nD) : FVec Ideal S1x1024 .f32 := m ((c : Thread nD τ).loc main_arg2)
abbrev arg3 (c : Dev nD) : FVec Ideal S8192x1024 .f32 := m ((c : Thread nD τ).loc main_arg3)

theorem x_at (c : Dev nD) (t : Fin cfg0.N) (r : Fin 512) (k : Fin 1024) : (iblk m c 0 t : FVec Ideal S512x1024 .f32) (ix2 r k)
    = arg0 m c (ix2 ⟨t.val * 512 + r.val, by have := lt_of_lt_of_eq t.isLt N_0; omega⟩ k) := by
  have ht : t.val < 16 := lt_of_lt_of_eq t.isLt N_0
  unfold arg0; rw [← V_main_arg0 m c]; blk_point [iblk, idx t]

theorem u_at (c : Dev nD) (t : Fin cfg0.N) (r : Fin 512) (k : Fin 1024) : (iblk m c 1 t : FVec Ideal S512x1024 .f32) (ix2 r k)
    = arg1 m c (ix2 ⟨t.val * 512 + r.val, by have := lt_of_lt_of_eq t.isLt N_0; omega⟩ k) := by
  have ht : t.val < 16 := lt_of_lt_of_eq t.isLt N_0
  unfold arg1; rw [← V_main_arg1 m c]; blk_point [iblk, idx t]

theorem t_at (c : Dev nD) (t : Fin cfg0.N) (r : Fin 512) (k : Fin 1024) : (iblk m c 2 t : FVec Ideal S512x1024 .f32) (ix2 r k)
    = arg3 m c (ix2 ⟨t.val * 512 + r.val, by have := lt_of_lt_of_eq t.isLt N_0; omega⟩ k) := by
  have ht : t.val < 16 := lt_of_lt_of_eq t.isLt N_0
  unfold arg3; rw [← V_main_arg3 m c]; blk_point [iblk, idx t]

theorem g_at (c : Dev nD) (t : Fin cfg0.N) (k : Fin 1024) : (iblk m c 3 t : FVec Ideal S1x1024 .f32) (ix2 0 k) = arg2 m c (ix2 0 k) := by
  unfold arg2; rw [← V_main_arg2 m c]; blk_point [iblk, idx t]

/-- The distance and its gradient over all rows. -/
abbrev er (c : Dev nD) : FVec Ideal S8192x1024 .f32 := ER (arg0 m c) (arg1 m c) (arg2 m c) (arg3 m c)
abbrev dy (c : Dev nD) : FVec Ideal S8192x1024 .f32 := DY (arg0 m c) (arg1 m c) (arg2 m c) (arg3 m c)

theorem er_at (c : Dev nD) (t : Fin cfg0.N) (r : Fin 512) (l : Fin 1024) :
    erOf m c t (ix2 r l) = er m c (ix2 ⟨t.val * 512 + r.val, by have := lt_of_lt_of_eq t.isLt N_0; omega⟩ l) := by
  refine (pay6_at (iblk m c 0 t) (iblk m c 1 t) (iblk m c 2 t) (iblk m c 3 t) r l).trans ?_
  simp only [x_at, u_at, t_at, g_at]
  rfl

theorem dy_at (c : Dev nD) (t : Fin cfg0.N) (r : Fin 512) (l : Fin 1024) :
    dyOf m c t (ix2 r l) = dy m c (ix2 ⟨t.val * 512 + r.val, by have := lt_of_lt_of_eq t.isLt N_0; omega⟩ l) :=
  (pay7_at (iblk m c 0 t) (iblk m c 1 t) (iblk m c 2 t) (iblk m c 3 t) r l).trans
    (congrArg (fun v => Ideal.div v ((1024 : ℝ) : EReal)) (er_at m c t r l))

theorem after4_at (c : Dev nD) (t : Fin cfg0.N) (r : Fin 512) (l : Fin 1024) : (outsAt0 m c t.val t.isLt).1 (ix2 r l) = dyOf m c t (ix2 r l) := by
  by_cases h : t.val % 16 = 0
  · rw [outsAt0_A m c t h]; frame_out; rfl
  · rw [outsAt0_B m c t h]; frame_out; rfl

theorem after5_at (c : Dev nD) (t : Fin cfg0.N) (r : Fin 512) (l : Fin 1024) :
    (outsAt0 m c t.val t.isLt).2.1 (ix2 r l)
      = back ((1024 : ℝ) : EReal) (fun k => (iblk m c 1 t : FVec Ideal S512x1024 .f32) (ix2 r k))
          (fun k => dyOf m c t (ix2 r k) * (iblk m c 3 t : FVec Ideal S1x1024 .f32) (ix2 0 k)) l := by
  by_cases h : t.val % 16 = 0
  · rw [outsAt0_A m c t h]; frame_out; rw [pay1_at]; rfl
  · rw [outsAt0_B m c t h]; frame_out; rw [pay1_at]; rfl

theorem final_4 (c : Dev nD) : (dats m 0 c).arrAt 4 (cfgs 0).N = dy m c := by
  refine (dats m 0 c).arrAt_eq_of_covers 4 _ (by decide +kernel) fun t _ y => ?_
  have ht : t.val < 16 := lt_of_lt_of_eq t.isLt N_0
  blk_simp
  rw [after0_4]
  idx_vars y
  rw [after4_at, dy_at]
  refine congrArg (dy m c) ?_
  blk_ext [idx t]

theorem final_5 (c : Dev nD) : (dats m 0 c).arrAt 5 (cfgs 0).N = GX (n := 1024) 1024 (arg1 m c) (arg2 m c) (dy m c) := by
  refine (dats m 0 c).arrAt_eq_of_covers 5 _ (by decide +kernel) fun t _ y => ?_
  have ht : t.val < 16 := lt_of_lt_of_eq t.isLt N_0
  blk_simp
  rw [after0_5]
  idx_vars y
  rw [after5_at]
  refine Eq.trans (b := GX (n := 1024) 1024 (arg1 m c) (arg2 m c) (dy m c) (ix2 ⟨t.val * 512 + y0.val, by omega⟩ y1)) ?_ (congrArg _ ?_)
  · simp only [dy_at, u_at, g_at]
    rfl
  · blk_ext [idx t]

theorem all_upto {t : Fin cfg0.N} (ht : t.val = 15) : Finset.Iic t = Finset.univ :=
  Finset.eq_univ_of_forall fun p => Finset.mem_Iic.2 (Fin.le_def.2 (by have := lt_of_lt_of_eq p.isLt N_0; omega))

theorem final_6 (c : Dev nD) : (dats m 0 c).arrAt 6 (cfgs 0).N = SQ (er m c) := by
  refine (dats m 0 c).arrAt_eq_of_covers 6 _ (by decide +kernel) fun t hf y => ?_
  have ht := last6 t hf
  blk_simp
  rw [after0_6]
  idx_vars y
  rw [carry6, all_upto ht]
  refine Eq.trans (b := SQ (er m c) (ix2 y0 y1)) ?_ (congrArg _ ?_)
  · change ∑ p, sqOf (erOf m c p) y1 = _
    unfold sqOf
    simp only [er_at]
    exact (Fin.sum_univ_tiles 16 512 rfl (fun R : Fin 8192 => er m c (ix2 R y1) * er m c (ix2 R y1))).symm
  · blk_ext [idx t]

theorem final_7 (c : Dev nD) : (dats m 0 c).arrAt 7 (cfgs 0).N = GW (n := 1024) 1024 (arg1 m c) (dy m c) := by
  refine (dats m 0 c).arrAt_eq_of_covers 7 _ (by decide +kernel) fun t hf y => ?_
  have ht := last7 t hf
  blk_simp
  rw [after0_7]
  idx_vars y
  rw [carry7, all_upto ht]
  refine Eq.trans (b := GW (n := 1024) 1024 (arg1 m c) (dy m c) (ix2 y0 y1)) ?_ (congrArg _ ?_)
  · change ∑ p, colsOf (iblk m c 1 p) (dyOf m c p) y1 = _
    unfold colsOf
    simp only [u_at, dy_at]
    exact (Fin.sum_univ_tiles 16 512 rfl (colTerm (arg1 m c) (dy m c) y1)).symm
  · blk_ext [idx t]

/-- The lines after the kernel: the row's sum, halved, over the width. -/
def total (q : FVec Ideal S1x1024 .f32) : FVec Ideal S_ .f32 :=
  Host.divf (mulf (constant S_ .f32 0x3F000000#32) (Host.reduceAdd q (constant S_ .f32 0x00000000#32) reducesTo_S1x1024_S_d0_1 h_S_)) (constant S_ .f32 0x44800000#32)

theorem tail (c : Dev nD) : Pipeline.afterTail₀ cfgs (dats m) 0 (V0 m) [hostOps1] c main_v3 = total (SQ (er m c)) := by
  unfold Pipeline.afterTail₀ total
  simp only [hostOps1, List.flatten_cons, List.flatten_nil, List.cons_append, List.nil_append, List.append_nil]
  after_results_simp
  rw [← final_6 m c]
  have e := Pipeline.withArrays_arr (cfgs 0).spec (by decide) c (V0 m c) (fun w => (dats m 0 c).arrAt w (cfgs 0).N) 6
  rw [← e]

end Kernel

section Claim

open Cert.Pre_finite_loss

variable (X0 X1 : FVec Ideal S8192x1024 .f32) (X2 : FVec Ideal S1x1024 .f32) (X3 : FVec Ideal S8192x1024 .f32)

theorem real_of_pre (h : Cert.Pre_finite_loss.fn (F := Ideal) X0 X1 X2 X3 = fun _ => 1#1) : AllReal X0 ∧ AllReal X1 ∧ AllReal X2 ∧ AllReal X3 := by
  have e := congrFun h (Shape.Idx.first (by decide))
  unfold Cert.Pre_finite_loss.fn Cert.Pre_finite_loss.fn_part1 at e
  obtain ⟨e, e3⟩ := Cert.Own.andi_one e
  obtain ⟨e, e2⟩ := Cert.Own.andi_one e
  obtain ⟨e0, e1⟩ := Cert.Own.andi_one e
  haveI : Subsingleton (Cert.Pre_finite_loss.S_).Idx := ⟨fun a b => funext fun k => k.elim0⟩
  exact ⟨Cert.Own.allReal_of _ _ (fun _ => rfl) _ _ _ _ e0, Cert.Own.allReal_of _ _ (fun _ => rfl) _ _ _ _ e1,
    Cert.Own.allReal_of _ _ (fun _ => rfl) _ _ _ _ e2, Cert.Own.allReal_of _ _ (fun _ => rfl) _ _ _ _ e3⟩

end Claim

section Reference

open Cert.Reference12Ideal Cert.Reference12Ideal.Gen

/-- The rows' mean squares in the reference. -/
abbrev rms (x : FVec Ideal S8192x1024 .f32) : FVec Ideal S8192x1 .f32 :=
  hms (n := 1024) 0x44800000#32 h_S_ reducesTo_S8192x1024_S8192_d1 bcast_S8192_S8192x1_0 bcast_S_S8192x1 x

/-- The reference's distance from the target. -/
def RE (x u : FVec Ideal S8192x1024 .f32) (g : FVec Ideal S1x1024 .f32) (t : FVec Ideal S8192x1024 .f32) : FVec Ideal S8192x1024 .f32 :=
  subf (HX h_S_ reducesTo_S8192x1024_S8192_d1 bcast_S8192_S8192x1_0 bcast_S_S8192x1 bcast_S8192x1_S8192x1024_0_1 bcast_S1x1024_S8192x1024_0_1 x u g) t

/-- Its gradient at the output. -/
def RG (e : FVec Ideal S8192x1024 .f32) : FVec Ideal S8192x1024 .f32 :=
  mulf (broadcastInDim S8192x1024 ![0] bcast_S8192_S8192x1024_0 (Host.divf (broadcastInDim S8192 ![] bcast_S_S8192 (mulf (constant S_ .f32 0x3F000000#32) (constant S_ .f32 0x3F800000#32))) (broadcastInDim S8192 ![] bcast_S_S8192 (constant S_ .f32 0x44800000#32))))
    (mulf (broadcastInDim S8192x1024 ![] bcast_S_S8192x1024 (constant S_ .f32 0x40000000#32)) e)

/-- Its loss. -/
def RL (e : FVec Ideal S8192x1024 .f32) : FVec Ideal S_ .f32 :=
  mulf (constant S_ .f32 0x3F000000#32) (Host.reduceAdd (Host.divf (Host.reduceAdd (mulf e e) (constant S_ .f32 0x00000000#32) reducesTo_S8192x1024_S8192_d1 h_S_)
    (broadcastInDim S8192 ![] bcast_S_S8192 (constant S_ .f32 0x44800000#32))) (constant S_ .f32 0x00000000#32) reducesTo_S8192_S_d0 h_S_)

/-- A row of weights times the rows. -/
abbrev RP (y : FVec Ideal S8192x1024 .f32) (g : FVec Ideal S1x1024 .f32) : FVec Ideal S8192x1024 .f32 :=
  mulf y (broadcastInDim S8192x1024 ![0, 1] bcast_S1x1024_S8192x1024_0_1 g)

/-- The norm's gradient at its rows. -/
def RX (u : FVec Ideal S8192x1024 .f32) (g : FVec Ideal S1x1024 .f32) (y : FVec Ideal S8192x1024 .f32) : FVec Ideal S8192x1024 .bf16 :=
  truncf .bf16 (hback (n := 1024) bcast_S8192x1_S8192x1024_0_1 bcast_S8192_S8192x1024_0 u (RP y g) (rms u)
    (hchain (n := 1024) 0x44800000#32 h_S_ reducesTo_S8192x1024_S8192_d1 reducesTo_S8192x1_S8192_d1 bcast_S_S8192x1 shapeCasts_S8192_S8192x1 u (RP y g) (rms u))) bitsLt_bf16_f32

/-- The norm's gradient at its weights. -/
def RW (u y : FVec Ideal S8192x1024 .f32) : FVec Ideal S1x1024 .f32 :=
  hcols (n := 1024) h_S_ reducesTo_S8192x1024_S1024_d0 bcast_S8192x1_S8192x1024_0_1 shapeCasts_S1024_S1x1024 u y (rms u)

theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v24) = RL (RE (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_v30) = RG (RE (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_v50) = RX (m ((c.tc : Thread nD τ).loc main_arg1)) (m ((c.tc : Thread nD τ).loc main_arg2)) (RG (RE (m ((c.tc : Thread nD τ).loc main_arg0)) (m ((c.tc : Thread nD τ).loc main_arg1)) (m ((c.tc : Thread nD τ).loc main_arg2)) (m ((c.tc : Thread nD τ).loc main_arg3))))
      ∧ r.2.mem ((c.tc : Thread nD τ).loc main_v33) = RW (m ((c.tc : Thread nD τ).loc main_arg1)) (RG (RE (m ((c.tc : Thread nD τ).loc main_arg0)) (m ((c.tc : Thread nD τ).loc main_arg1)) (m ((c.tc : Thread nD τ).loc main_arg2)) (m ((c.tc : Thread nD τ).loc main_arg3))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  have h := Cert.Reference12Ideal.Value.run (F := Ideal) m ρ
  unfold Cert.Reference12Ideal.Value.res_main_v50 at h
  unfold RX RW RL RG RE RP rms HX hback hcols hchain hms
  exact h

theorem re (x u : FVec Ideal S8192x1024 .f32) (g : FVec Ideal S1x1024 .f32) (t : FVec Ideal S8192x1024 .f32) : RE x u g t = ER x u g t := by
  funext j
  idx_vars j
  change RE x u g t (ix2 j0 j1) = x (ix2 j0 j1) + u (ix2 j0 j1) * rs ((1024 : ℝ) : EReal) (row u j0) * g (ix2 0 j1) - t (ix2 j0 j1)
  unfold rs
  rw [← w1024, ← hms_at 0x44800000#32 h_S_ reducesTo_S8192x1024_S8192_d1 bcast_S8192_S8192x1_0 bcast_S_S8192x1 u j0]
  generalize hm : hms (n := 1024) 0x44800000#32 h_S_ reducesTo_S8192x1024_S8192_d1 bcast_S8192_S8192x1_0 bcast_S_S8192x1 u = M
  unfold RE HX
  rw [hm]
  pointwise

theorem rg (x u : FVec Ideal S8192x1024 .f32) (g : FVec Ideal S1x1024 .f32) (t : FVec Ideal S8192x1024 .f32) : RG (RE x u g t) = DY x u g t := by
  rw [re]
  funext j
  idx_vars j
  have e : RG (ER x u g t) (ix2 j0 j1) = Ideal.div (((1 / 2 : ℝ) : EReal) * ((1 : ℝ) : EReal)) ((1024 : ℝ) : EReal) * (((2 : ℝ) : EReal) * ER x u g t (ix2 j0 j1)) := by
    rw [← w_half, ← w_one, ← w_two, ← w1024]
    generalize ER x u g t = E
    pointwise [RG]
  rw [e, Ideal.div_coe (by norm_num), ← mul_assoc, ← EReal.coe_mul, ← EReal.coe_mul, ← EReal.coe_mul, mul_comm]
  refine Eq.trans ?_ (Ideal.div_coe (y := 1024) (by norm_num) _).symm
  norm_num

/-- The rows' means summed are the columns' sums over the width. -/
theorem rl {E : FVec Ideal S8192x1024 .f32} (h : AllReal E) : RL E = total (SQ E) := by
  funext j
  have hr : ∀ R l, ∃ v : ℝ, E (ix2 R l) = (v : EReal) := fun R l => h.at (ix2 R l)
  choose v hv using hr
  have e1 : RL E j = ((1 / 2 : ℝ) : EReal) * ∑ R : Fin 8192, Ideal.div (∑ l : Fin 1024, E (ix2 R l) * E (ix2 R l)) ((1024 : ℝ) : EReal) := by
    rw [← w_half, ← w1024]
    pointwise [RL]
  have e2 : total (SQ E) j = Ideal.div (((1 / 2 : ℝ) : EReal) * ∑ l : Fin 1024, ∑ R : Fin 8192, E (ix2 R l) * E (ix2 R l)) ((1024 : ℝ) : EReal) := by
    rw [← w_half, ← w1024]
    pointwise [total, SQ]
    rw [Fin.sum_univ_one]
  rw [e1, e2]
  simp only [hv, Ideal.div_coe (y := 1024) (by norm_num), ← EReal.coe_mul, Cert.Own.sum_coe]
  rw [Finset.sum_comm (γ := Fin 1024)]
  simp only [← Finset.sum_mul]
  rw [mul_assoc]

end Reference

open Cert.Kernel12Ideal Cert.Kernel12Ideal.Gen in
theorem algebraic : Cert.algebraic_Kernel12Ideal_Reference12Ideal_pre_finite_loss := by
  pair_intro
  · run_from Cert.Kernel12Ideal.Gen.run_main m g
  · run_from ref_run m' g'
    · obtain ⟨h0, h1, h2, h3⟩ := real_of_pre _ _ _ _ (hpre c)
      rw [tail m c, re]
      exact rl (ER_real h0 h1 h2 h3)
    · rw [final_4 m c]
      exact rg _ _ _ _
    · obtain ⟨h0, h1, h2, h3⟩ := real_of_pre _ _ _ _ (hpre c)
      rw [final_5 m c, rg]
      exact ref_x _ (by norm_num) w1024 _ _ _ h1 h2 (DY_real (ER_real h0 h1 h2 h3)) _ _ _ _ _ _ _ _ _ _ (fun R k => by pointwise)
    · rw [final_7 m c, rg]
      exact ref_w _ w1024 _ _ _ _ _ _ _ _ _

theorem frame_reference : Cert.quiescent_Reference12Ideal := by
  intro m ρ _
  run_from Cert.Reference12Ideal.Value.run m ρ
  · intro c; exact ⟨trivial, trivial, trivial, trivial⟩
  · exact sem_eq_zero_of_no_sems rfl _

theorem frame_reference_pre : Cert.quiescent_Reference12Ideal_pre_finite_loss := fun m ρ _ => frame_reference m ρ trivial

end Cert.NormLoss

end
-- ==== Proof.FwdStep.lean ====
/- The attention's forward body at the extended reals, one pair of blocks: from finite blocks the running maximum is finite and the
   running sums are the plain sums of the weights above it. -/
module

public import proofs.«01_k».proof.Proof.MlaHost
public import proofs.«01_k».proof.Proof.Gen.Kernel14Ideal.Skeleton

@[expose] public section

set_option maxRecDepth 16384

noncomputable section

namespace Cert.Fwd

open Cert.Kernel14Ideal Cert.Kernel14Ideal.Gen
open Idealize.ShloMosaic Idealize.ShloMosaic.TcCoe
open Idealize.SL.Sem
open Cert.Flash (IsRows sum_real)
open Cert.Kernel3Ideal.Mla (scale bits_scale scale_pos)
open Cert.Soft (fold_max_real bits_bot)

theorem c_eq : (Named.named (F := Ideal) κ "c" (φ := .f32) 0x3E16C740#32 : EReal) = ((scale * (Real.log 2)⁻¹ : ℝ) : EReal) := rfl
theorem mask_eq : (Named.named (F := Ideal) κ "mask" (φ := .f32) 0xF149F2CA#32 : EReal) = ⊥ := rfl

/-- The base-2 exponential of a scaled number. -/
def e2 (x : EReal) : EReal := FloatOps.exp2 (F := Ideal) (φ := .f32) (x * (Named.named (F := Ideal) κ "c" (φ := .f32) 0x3E16C740#32 : EReal))

theorem e2_coe (x : ℝ) : e2 (x : EReal) = ((Real.exp (scale * x) : ℝ) : EReal) :=
  Cert.Flash.exp2_score (nm := Cert.Kernel3Ideal.Mla.named) (C := Cert.Kernel3Ideal.Mla.consts) x

theorem e2_bot : e2 ⊥ = ((0 : ℝ) : EReal) :=
  Cert.Flash.exp2_mask (nm := Cert.Kernel3Ideal.Mla.named) (C := Cert.Kernel3Ideal.Mla.consts)

/-! ### One row -/

variable {s : ℕ} {x : ℕ → ℝ} {v : ℕ → Fin 128 → ℝ}

/-- The weight of key row `t` above `M`, for query row `s`. -/
def wgt (s : ℕ) (x : ℕ → ℝ) (M : ℝ) (t : ℕ) : ℝ := if t ≤ s then Real.exp (scale * (x t - M)) else 0

theorem wgt_shift (M M' : ℝ) (t : ℕ) : Real.exp (scale * (M - M')) * wgt s x M t = wgt s x M' t := by
  rw [wgt, wgt]
  split_ifs
  · rw [← Real.exp_add]; congr 1; ring
  · exact mul_zero _

theorem e2_wgt (M : ℝ) (t : ℕ) : e2 ((if t ≤ s then (x t : EReal) else ⊥) - (M : EReal)) = ((wgt s x M t : ℝ) : EReal) := by
  rw [wgt]
  split_ifs
  · rw [← EReal.coe_sub, e2_coe]
  · rw [EReal.bot_sub, e2_bot]

/-- A row after `p` key rows: nothing yet, or a finite number above which the weights are summed. -/
def Row (s : ℕ) (x : ℕ → ℝ) (v : ℕ → Fin 128 → ℝ) (p : ℕ) (m : EReal) (acc : Fin 128 → EReal) : Prop :=
  (p = 0 ∧ m = ⊥ ∧ ∀ l, acc l = 0) ∨ ∃ M : ℝ, m = (M : EReal) ∧ ∀ l, acc l = ((∑ t ∈ Finset.range p, wgt s x M t * v t l : ℝ) : EReal)

/-- A row's largest number so far, -/
def newMax (m : EReal) (z : Fin 1024 → EReal) : EReal := max m (Finset.fold max ⊥ z Finset.univ)
/-- and its sums with one more block. -/
def newSum (m : EReal) (z : Fin 1024 → EReal) (a : EReal) (b : Fin 1024 → EReal) : EReal :=
  e2 (m - newMax m z) * a + ∑ k, e2 (z k - newMax m z) * b k

theorem Row.step {p : ℕ} {m : EReal} {acc : Fin 128 → EReal} (h : Row s x v p m acc) (hp : p ≤ s) {z : Fin 1024 → EReal}
    (hz : ∀ k : Fin 1024, z k = if p + k.val ≤ s then (x (p + k.val) : EReal) else ⊥) {b : Fin 1024 → Fin 128 → EReal}
    (hb : ∀ k l, b k l = ((v (p + k.val) l : ℝ) : EReal)) :
    Row s x v (p + 1024) (newMax m z) (fun l => newSum m z (acc l) fun k => b k l) := by
  have key := fold_max_real Finset.univ z (fun k _ => by rw [hz k]; split_ifs; exacts [EReal.coe_ne_top _, bot_ne_top]) 0 (Finset.mem_univ _)
    (by rw [hz 0, if_pos (by simpa using hp)]; exact EReal.coe_ne_bot _)
  have hm : m ≠ ⊤ := by
    rcases h with ⟨-, h, -⟩ | ⟨M, h, -⟩ <;> rw [h]
    exacts [bot_ne_top, EReal.coe_ne_top _]
  have t1 : newMax m z ≠ ⊤ := by
    unfold newMax
    rcases max_choice m (Finset.fold max ⊥ z Finset.univ) with e | e <;> rw [e]
    exacts [hm, key.1]
  have t2 : newMax m z ≠ ⊥ := fun e => key.2 (le_bot_iff.mp ((le_max_right _ _).trans e.le))
  obtain ⟨M', hM'⟩ : ∃ M' : ℝ, newMax m z = (M' : EReal) := ⟨_, (EReal.coe_toReal t1 t2).symm⟩
  refine Or.inr ⟨M', hM', fun l => ?_⟩
  have e : ∑ k, e2 (z k - (M' : EReal)) * b k l = ((∑ k : Fin 1024, wgt s x M' (p + k.val) * v (p + k.val) l : ℝ) : EReal) := by
    rw [← sum_real]
    refine Finset.sum_congr rfl fun k _ => ?_
    rw [hz k, e2_wgt, hb, ← EReal.coe_mul]
  unfold newSum
  dsimp only
  rw [hM', e, Finset.sum_range_add, ← Fin.sum_univ_eq_sum_range (fun k => wgt s x M' (p + k) * v (p + k) l) 1024, EReal.coe_add]
  congr 1
  rcases h with ⟨h0, -, h⟩ | ⟨M, h, ha⟩
  · rw [h l, mul_zero, h0]; rfl
  · rw [h, ha l, ← EReal.coe_sub, e2_coe, ← EReal.coe_mul, Finset.mul_sum]
    congr 1
    refine Finset.sum_congr rfl fun t _ => ?_
    rw [← mul_assoc, wgt_shift]

/-! ### One pair of blocks -/

/-- What a row block carries: each row's largest score and its sums. -/
abbrev St : Type := FVec Ideal S1024x1 .f32 × FVec Ideal S1024x128 .f32

/-- The score of a query row and a key row. -/
def sc (Q K : ℕ → Fin 128 → ℝ) (s t : ℕ) : ℝ := ∑ l, Q s l * K t l

/-- The rows of a block after `p` key rows. -/
def Inv (Q K V : ℕ → Fin 128 → ℝ) (s0 p : ℕ) (st : St) : Prop :=
  ∀ r : Fin 1024, Row (s0 + r.val) (sc Q K (s0 + r.val)) V p (st.1 (ix2 r 0)) (fun l => st.2 (ix2 r l))

variable {Q K V : ℕ → Fin 128 → ℝ} {v1 : FVec Ideal S1024x128 .bf16} {kb vb : Vec Ideal S1024x128 .bf16} {s0 p : ℕ}

theorem pay2_at (hq : IsRows 1024 v1 Q s0) (hk : IsRows 1024 kb K p) (r k : Fin 1024) :
    k0_pay2 v1 kb (ix2 r k) = ((sc Q K (s0 + r.val) (p + k.val) : ℝ) : EReal) := by
  pointwise [k0_pay2]
  simp only [hq.at, hk.at, ← EReal.coe_mul, sum_real]
  rfl

theorem pay3_at (m : FVec Ideal S1024x1 .f32) (r : Fin 1024) :
    k0_pay3 v1 m kb (ix2 r 0) = newMax (m (ix2 r 0)) fun k => k0_pay2 v1 kb (ix2 r k) := by
  pointwise [k0_pay3]
  rw [bits_bot]
  rfl

theorem pay4_at (m : FVec Ideal S1024x1 .f32) (acc : FVec Ideal S1024x128 .f32) (r : Fin 1024) (l : Fin 128) :
    k0_pay4 v1 m acc kb vb (ix2 r l) = newSum (m (ix2 r 0)) (fun k => k0_pay2 v1 kb (ix2 r k)) (acc (ix2 r l)) fun k => vb (ix2 k l) := by
  rw [newSum, ← pay3_at]
  pointwise [k0_pay4]
  rfl

/-- What a block before the diagonal one makes of the carried rows. -/
def step (v1 : FVec Ideal S1024x128 .bf16) (kb vb : Vec Ideal S1024x128 .bf16) (st : St) : St := (k0_pay3 v1 st.1 kb, k0_pay4 v1 st.1 st.2 kb vb)

theorem Inv.step {st : St} (h : Inv Q K V s0 p st) (hq : IsRows 1024 v1 Q s0) (hk : IsRows 1024 kb K p) (hv : IsRows 1024 vb V p)
    (hp : p + 1024 ≤ s0) : Inv Q K V s0 (p + 1024) (step v1 kb vb st) := by
  intro r
  have := (h r).step (by omega) (z := fun k => k0_pay2 v1 kb (ix2 r k)) (fun k => by rw [if_pos (by omega)]; exact pay2_at hq hk r k) (fun k l => hv.at k l)
  unfold Cert.Fwd.step
  dsimp only
  rw [pay3_at]
  simp only [pay4_at]
  exact this

/-! ### The diagonal pair -/

variable {v0 : Vec Ideal S1024x128 .bf16}

theorem pay25_at (hq : IsRows 1024 v0 Q s0) (hk : IsRows 1024 kb K s0) (r k : Fin 1024) :
    k0_pay25 v0 kb (ix2 r k) = if s0 + k.val ≤ s0 + r.val then ((sc Q K (s0 + r.val) (s0 + k.val) : ℝ) : EReal) else ⊥ := by
  pointwise [k0_pay25, k0_pay12]
  simp only [hq.at, hk.at, ← EReal.coe_mul, sum_real]
  have hc : (IntOp.cmpi .sle (BitVec.ofNat 32 k.val) (BitVec.ofNat 32 r.val)) = if k.val ≤ r.val then 1#1 else 0#1 := by
    have := r.isLt; have := k.isLt
    rw [WordCmp.cmpi_sle_ofNat (by omega) (by omega), WordCmp.ofBool_decide_eq_ite]
  rw [hc]
  by_cases h : k.val ≤ r.val
  · rw [if_pos h, if_pos (by omega)]; rfl
  · rw [if_neg h, if_neg (by omega)]; exact mask_eq

theorem pay26_at (m : FVec Ideal S1024x1 .f32) (r : Fin 1024) :
    k0_pay26 v0 m kb (ix2 r 0) = newMax (m (ix2 r 0)) fun k => k0_pay25 v0 kb (ix2 r k) := by
  pointwise [k0_pay26]
  rw [bits_bot]
  rfl

theorem pay29_at (m : FVec Ideal S1024x1 .f32) (acc : FVec Ideal S1024x128 .f32) (r : Fin 1024) (l : Fin 128) :
    k0_pay29 m acc (k0_pay26 v0 m kb) (k0_pay27 v0 m kb) k0_pay28 vb (ix2 r l) =
      newSum (m (ix2 r 0)) (fun k => k0_pay25 v0 kb (ix2 r k)) (acc (ix2 r l)) fun k => vb (ix2 k l) := by
  rw [newSum, ← pay26_at]
  pointwise [k0_pay29, k0_pay27, k0_pay28]
  rfl

/-- What the diagonal block makes of the carried rows. -/
def last (v0 kb vb : Vec Ideal S1024x128 .bf16) (st : St) : St :=
  (k0_pay26 v0 st.1 kb, k0_pay29 st.1 st.2 (k0_pay26 v0 st.1 kb) (k0_pay27 v0 st.1 kb) k0_pay28 vb)

theorem Inv.last {st : St} (h : Inv Q K V s0 s0 st) (hq : IsRows 1024 v0 Q s0) (hk : IsRows 1024 kb K s0) (hv : IsRows 1024 vb V s0) :
    Inv Q K V s0 (s0 + 1024) (last v0 kb vb st) := by
  intro r
  have := (h r).step (by omega) (z := fun k => k0_pay25 v0 kb (ix2 r k)) (fun k => pay25_at hq hk r k) (fun k l => hv.at k l)
  unfold Cert.Fwd.last
  dsimp only
  rw [pay26_at]
  simp only [pay29_at]
  exact this

theorem init : Inv Q K V s0 0 (k0_pay13, k0_pay14) := by
  intro r
  refine Or.inl ⟨rfl, ?_, fun l => ?_⟩
  · pointwise [k0_pay13]
    exact mask_eq
  · pointwise [k0_pay14]

end Cert.Fwd
end
-- ==== Proof.FwdRun.lean ====
/- The attention's forward body over all the pairs of blocks of a grid point: what a point leaves in its two results. -/
module

public import proofs.«01_k».proof.Proof.FwdStep
public import proofs.«01_k».proof.Proof.Gen.Kernel14Ideal.Frame

@[expose] public section

set_option maxRecDepth 16384

noncomputable section

namespace Cert.Fwd

open Cert.Kernel14Ideal Cert.Kernel14Ideal.Gen
open Idealize.ShloMosaic Idealize.ShloMosaic.TcCoe
open Idealize.SL.Sem
open Cert.Flash (IsRows rect)

/-! ### The loops' trips -/

theorem trips1 : ∀ i : grid0.Coords, (k0_t1_loop i).trips = (i 1).val / 2 := by decide +kernel
theorem trips2 : ∀ i : grid0.Coords, (k0_t2_loop i).trips = 0 := by decide +kernel
theorem trips3 : ∀ i : grid0.Coords, 2 * ((i 1).val / 2) + (k0_t3_loop i).trips = (i 1).val := by decide +kernel
theorem trips4 : ∀ i : grid0.Coords, (k0_t4_loop i).trips = 0 := by decide +kernel
theorem off1_eq : ∀ (i : grid0.Coords) (k : Fin (k0_t1_loop i).trips), k0_off1 i k 0#32 = ![2048 * k.val, 0] := by decide +kernel
theorem off1'_eq : ∀ (i : grid0.Coords) (k : Fin (k0_t1_loop i).trips), k0_off1 i k 1#32 = ![2048 * k.val + 1024, 0] := by decide +kernel
theorem off3_eq : ∀ (i : grid0.Coords) (k : Fin (k0_t3_loop i).trips), k0_off3 i k = ![2048 * ((i 1).val / 2) + 1024 * k.val, 0] := by decide +kernel
theorem off5_eq : ∀ i : grid0.Coords, k0_off5 i = ![1024 * (i 1).val, 0] := by decide +kernel

theorem pay12_rows {v0 : Vec Ideal S1024x128 .bf16} {Q : ℕ → Fin 128 → ℝ} {s0 : ℕ} (hq : IsRows 1024 v0 Q s0) : IsRows 1024 (k0_pay12 v0) Q s0 := by
  intro r l
  pointwise [k0_pay12]
  exact hq r l

section trips
variable (c : Dev nD) (i : grid0.Coords) (arg2 : Memref sig .tc .vmem S1024x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1024x128 .bf16) (harg5 : arg5.IsWhole) (arg6 : Memref sig .tc .vmem S1024x128 .bf16) (harg6 : arg6.IsWhole)
  (v0 : Vec Ideal S1024x128 .bf16) (X3 : BufTy.Contents (Elt Ideal) arg3.view.ty) (X4 : BufTy.Contents (Elt Ideal) arg4.view.ty)

/-- Two blocks at a time. -/
theorem trip1 (k : Fin (k0_t1_loop i).trips) (st : St) :
    tripR_k0_t1 .none c none i arg2 harg2 arg3 harg3 arg4 harg4 arg5 harg5 arg6 harg6 v0 X3 X4 k st =
      step (k0_pay12 v0) (View.ld (arg3.view.read (Elt Ideal) X3) (rect S1024x128.size (k0_off1 i k 1#32) (k0_off1_inb i k 1))) (View.ld (arg4.view.read (Elt Ideal) X4) (rect S1024x128.size (k0_off1 i k 1#32) (k0_off1_inb i k 1)))
        (step (k0_pay12 v0) (View.ld (arg3.view.read (Elt Ideal) X3) (rect S1024x128.size (k0_off1 i k 0#32) (k0_off1_inb i k 0))) (View.ld (arg4.view.read (Elt Ideal) X4) (rect S1024x128.size (k0_off1 i k 0#32) (k0_off1_inb i k 0))) st) := by
  unfold tripR_k0_t1 trip_k0_t1
  rfl

/-- One block. -/
theorem trip3 (k : Fin (k0_t3_loop i).trips) (st : St) :
    tripR_k0_t3 .none c none i arg2 harg2 arg3 harg3 arg4 harg4 arg5 harg5 arg6 harg6 v0 X3 X4 k st =
      step (k0_pay12 v0) (View.ld (arg3.view.read (Elt Ideal) X3) (rect S1024x128.size (k0_off3 i k) (k0_off3_inb i k))) (View.ld (arg4.view.read (Elt Ideal) X4) (rect S1024x128.size (k0_off3 i k) (k0_off3_inb i k))) st := by
  unfold tripR_k0_t3 trip_k0_t3
  rfl

variable {Q K V : ℕ → Fin 128 → ℝ} (hq : IsRows 1024 v0 Q (1024 * (i 1).val)) (hk : IsRows 8192 (arg3.view.read (Elt Ideal) X3) K 0) (hv : IsRows 8192 (arg4.view.read (Elt Ideal) X4) V 0)
include hq hk hv

theorem loop1 (n : ℕ) (hn : n ≤ (k0_t1_loop i).trips) : Inv Q K V (1024 * (i 1).val) (2048 * n)
    (st_k0_t1 .none c none i arg2 harg2 arg3 harg3 arg4 harg4 arg5 harg5 arg6 harg6 v0 X3 X4 (k0_pay13, k0_pay14) n) := by
  induction n with
  | zero => exact init
  | succ n ih =>
    have ht := trips1 i
    rw [st_k0_t1_succ _ _ _ _ _ _ _ _ _ _ _ _ _ _ _ _ _ _ ⟨n, hn⟩, trip1]
    refine ((ih (by omega)).step (pay12_rows hq) (hk.ld (off1_eq i ⟨n, hn⟩) _) (hv.ld (off1_eq i ⟨n, hn⟩) _) (by omega)).step
      (pay12_rows hq) (hk.ld (off1'_eq i ⟨n, hn⟩) _) (hv.ld (off1'_eq i ⟨n, hn⟩) _) (by omega)

theorem loop3 {st : St} (h : Inv Q K V (1024 * (i 1).val) (2048 * ((i 1).val / 2)) st) (n : ℕ) (hn : n ≤ (k0_t3_loop i).trips) :
    Inv Q K V (1024 * (i 1).val) (2048 * ((i 1).val / 2) + 1024 * n)
      (st_k0_t3 .none c none i arg2 harg2 arg3 harg3 arg4 harg4 arg5 harg5 arg6 harg6 v0 X3 X4 st n) := by
  induction n with
  | zero => exact h
  | succ n ih =>
    have ht := trips3 i
    rw [st_k0_t3_succ _ _ _ _ _ _ _ _ _ _ _ _ _ _ _ _ _ _ ⟨n, hn⟩, trip3]
    exact (ih (by omega)).step (pay12_rows hq) (hk.ld (off3_eq i ⟨n, hn⟩) _) (hv.ld (off3_eq i ⟨n, hn⟩) _) (by omega)

end trips

/-! ### A grid point -/

section point
variable (m : (ℓ : Loc nD τ sig) → Buf (Elt Ideal) ℓ) (c : Dev nD) (t : Fin cfg0.N)

/-- The rows after the blocks taken two at a time, -/
def st1 : St := st_k0_t1 Variants.none c none (grid0.coords t) (ms0_0 t) (hs0_0 t) (ms0_1 t) (hs0_1 t) (ms0_2 t) (hs0_2 t) (ms0_3 t) (hs0_3 t) (ms0_4 t) (hs0_4 t)
  (iblk m c 0 t) ((hs0_1 t).unread (iblk m c 1 t)) ((hs0_2 t).unread (iblk m c 2 t)) (k0_pay13, k0_pay14) (k0_t1_loop (grid0.coords t)).trips
/-- after the remaining pairs, of which there are none, -/
def st2 : St := st_k0_t2 Variants.none c none (grid0.coords t) (ms0_0 t) (hs0_0 t) (ms0_1 t) (hs0_1 t) (ms0_2 t) (hs0_2 t) (ms0_3 t) (hs0_3 t) (ms0_4 t) (hs0_4 t)
  (iblk m c 0 t) (Scalar.addi 0#32 (Scalar.muli (Scalar.divsi (Scalar.subi (Scalar.shrsi (BitVec.ofNat 32 (grid0.coords t 1).val) 1#32) 0#32) 1#32) 1#32))
  ((hs0_1 t).unread (iblk m c 1 t)) ((hs0_2 t).unread (iblk m c 2 t)) ((st1 m c t).1, (st1 m c t).2) (k0_t2_loop (grid0.coords t)).trips
/-- after the single block, -/
def st3 : St := st_k0_t3 Variants.none c none (grid0.coords t) (ms0_0 t) (hs0_0 t) (ms0_1 t) (hs0_1 t) (ms0_2 t) (hs0_2 t) (ms0_3 t) (hs0_3 t) (ms0_4 t) (hs0_4 t)
  (iblk m c 0 t) ((hs0_1 t).unread (iblk m c 1 t)) ((hs0_2 t).unread (iblk m c 2 t)) ((st2 m c t).1, (st2 m c t).2) (k0_t3_loop (grid0.coords t)).trips
/-- and after the remaining ones, of which there are none. -/
def st4 : St := st_k0_t4 Variants.none c none (grid0.coords t) (ms0_0 t) (hs0_0 t) (ms0_1 t) (hs0_1 t) (ms0_2 t) (hs0_2 t) (ms0_3 t) (hs0_3 t) (ms0_4 t) (hs0_4 t)
  (iblk m c 0 t) ((hs0_1 t).unread (iblk m c 1 t)) ((hs0_2 t).unread (iblk m c 2 t)) ((st3 m c t).1, (st3 m c t).2) (k0_t4_loop (grid0.coords t)).trips

/-- The diagonal block of an operand. -/
def dia (X : Vec Ideal S8192x128 .bf16) : Vec Ideal S1024x128 .bf16 := View.ld X (rect S1024x128.size (k0_off5 (grid0.coords t)) (k0_off5_inb (grid0.coords t)))

/-- The rows when all blocks are taken. -/
def fin : St := last (iblk m c 0 t) (dia t (iblk m c 1 t)) (dia t (iblk m c 2 t)) (st4 m c t)

variable {Q K V : ℕ → Fin 128 → ℝ}

theorem fin_inv (hq : IsRows 1024 (iblk m c 0 t : Vec Ideal S1024x128 .bf16) Q (1024 * (grid0.coords t 1).val)) (hk : IsRows 8192 (iblk m c 1 t : Vec Ideal S8192x128 .bf16) K 0) (hv : IsRows 8192 (iblk m c 2 t : Vec Ideal S8192x128 .bf16) V 0) :
    Inv Q K V (1024 * (grid0.coords t 1).val) (1024 * (grid0.coords t 1).val + 1024) (fin m c t) := by
  have hk' : IsRows 8192 ((ms0_1 t).view.read (Elt Ideal) ((hs0_1 t).unread (iblk m c 1 t))) K 0 := by rw [Memref.IsWhole.read_unread]; exact hk
  have hv' : IsRows 8192 ((ms0_2 t).view.read (Elt Ideal) ((hs0_2 t).unread (iblk m c 2 t))) V 0 := by rw [Memref.IsWhole.read_unread]; exact hv
  have h1 : Inv Q K V (1024 * (grid0.coords t 1).val) (2048 * ((grid0.coords t 1).val / 2)) (st1 m c t) := by
    have := loop1 c (grid0.coords t) (ms0_0 t) (hs0_0 t) (ms0_1 t) (hs0_1 t) (ms0_2 t) (hs0_2 t) (ms0_3 t) (hs0_3 t) (ms0_4 t) (hs0_4 t)
      (iblk m c 0 t) _ _ hq hk' hv' _ le_rfl
    rw [trips1] at this
    unfold st1
    rw [trips1]
    exact this
  have h2 : Inv Q K V (1024 * (grid0.coords t 1).val) (2048 * ((grid0.coords t 1).val / 2)) (st2 m c t) := by
    unfold st2
    rw [trips2]
    exact h1
  have h3 : Inv Q K V (1024 * (grid0.coords t 1).val) (1024 * (grid0.coords t 1).val) (st3 m c t) := by
    have := loop3 c (grid0.coords t) (ms0_0 t) (hs0_0 t) (ms0_1 t) (hs0_1 t) (ms0_2 t) (hs0_2 t) (ms0_3 t) (hs0_3 t) (ms0_4 t) (hs0_4 t)
      (iblk m c 0 t) _ _ hq hk' hv' h2 _ le_rfl
    rw [show 2048 * ((grid0.coords t 1).val / 2) + 1024 * (k0_t3_loop (grid0.coords t)).trips = 1024 * (grid0.coords t 1).val by have := trips3 (grid0.coords t); omega] at this
    exact this
  have h4 : Inv Q K V (1024 * (grid0.coords t 1).val) (1024 * (grid0.coords t 1).val) (st4 m c t) := by
    unfold st4
    rw [trips4]
    exact h3
  exact h4.last hq (hk.ld (off5_eq _) _) (hv.ld (off5_eq _) _)

theorem out_o : (outsAt0 m c t).1 = k0_pay31 (st4 m c t).1 (st4 m c t).2 (k0_pay26 (iblk m c 0 t) (st4 m c t).1 (dia t (iblk m c 1 t)))
    (k0_pay27 (iblk m c 0 t) (st4 m c t).1 (dia t (iblk m c 1 t))) k0_pay28 (dia t (iblk m c 2 t)) := by
  unfold outsAt0
  dsimp only
  frame_out
  rfl

theorem out_b : (outsAt0 m c t).2 = k0_pay1 (iota .tc S1024x128 32 [1] iota_S1024x128_d1_w32)
    (k0_pay35 (st4 m c t).1 (st4 m c t).2 (k0_pay26 (iblk m c 0 t) (st4 m c t).1 (dia t (iblk m c 1 t))) (k0_pay27 (iblk m c 0 t) (st4 m c t).1 (dia t (iblk m c 1 t))) k0_pay28 (dia t (iblk m c 2 t)))
    (k0_pay36 (st4 m c t).1 (st4 m c t).2 (k0_pay26 (iblk m c 0 t) (st4 m c t).1 (dia t (iblk m c 1 t))) (k0_pay27 (iblk m c 0 t) (st4 m c t).1 (dia t (iblk m c 1 t))) k0_pay28 (dia t (iblk m c 2 t)))
    (k0_pay37 (k0_pay12 (iblk m c 0 t)) (st4 m c t).1 (st4 m c t).2 (k0_pay26 (iblk m c 0 t) (st4 m c t).1 (dia t (iblk m c 1 t))) (k0_pay27 (iblk m c 0 t) (st4 m c t).1 (dia t (iblk m c 1 t))) k0_pay28 (dia t (iblk m c 2 t)))
    k0_pay38 := by
  unfold outsAt0
  dsimp only
  frame_out
  rfl

end point

end Cert.Fwd
end
-- ==== Proof.FwdValue.lean ====
/- The attention's forward call at the extended reals: from finite operands its two results are the plain softmax rows and the
   query rows with their log-sums. -/
module

public import proofs.«01_k».proof.Proof.FwdRun

@[expose] public section

set_option maxRecDepth 16384

noncomputable section

namespace Cert.Fwd

open Cert.Kernel14Ideal Cert.Kernel14Ideal.Gen
open Idealize.ShloMosaic Idealize.ShloMosaic.TcCoe
open Idealize.SL.Sem
open Cert.Flash (IsRows rect Holds)
open Cert.Kernel3Ideal.Mla (scale bits_scale scale_pos)
open Idealize.ShloMosaic.Pipeline (Dat)

/-! ### One row, at the end -/

section row
variable {s : ℕ} {x : ℕ → ℝ} {v : ℕ → Fin 128 → ℝ}

/-- The sum of a row's weights, -/
def den (s : ℕ) (x : ℕ → ℝ) : ℝ := ∑ t ∈ Finset.range 8192, wgt s x 0 t
/-- the row itself, -/
def out (s : ℕ) (x : ℕ → ℝ) (v : ℕ → Fin 128 → ℝ) (l : Fin 128) : ℝ := (∑ t ∈ Finset.range 8192, wgt s x 0 t * v t l) / den s x
/-- and its log-sum over the scale. -/
def big (s : ℕ) (x : ℕ → ℝ) : ℝ := Real.log (den s x) / scale

theorem wgt_nonneg (M : ℝ) (t : ℕ) : 0 ≤ wgt s x M t := by
  rw [wgt]; split_ifs
  exacts [(Real.exp_pos _).le, le_rfl]

theorem den_pos (hs : s < 8192) : 0 < den s x := by
  refine Finset.sum_pos' (fun t _ => wgt_nonneg 0 t) ⟨s, Finset.mem_range.mpr hs, ?_⟩
  rw [wgt, if_pos le_rfl]; exact Real.exp_pos _

/-- Key rows after the query row add nothing. -/
theorem sum_all {p : ℕ} (hs : s < p) (hp : p ≤ 8192) (M : ℝ) (g : ℕ → ℝ) :
    ∑ t ∈ Finset.range p, wgt s x M t * g t = Real.exp (-(scale * M)) * ∑ t ∈ Finset.range 8192, wgt s x 0 t * g t := by
  rw [Finset.sum_subset (Finset.range_subset_range.mpr hp) fun t _ ht => by
    rw [wgt, if_neg (by have := Finset.mem_range.not.mp ht; omega), zero_mul], Finset.mul_sum]
  refine Finset.sum_congr rfl fun t _ => ?_
  rw [← mul_assoc, ← wgt_shift (s := s) (x := x) 0 M t]
  congr 3
  ring

theorem sum_one {p : ℕ} (hs : s < p) (hp : p ≤ 8192) (M : ℝ) (h1 : ∀ t, v t 64 = 1) :
    ∑ t ∈ Finset.range p, wgt s x M t * v t 64 = Real.exp (-(scale * M)) * den s x := by
  rw [sum_all hs hp M fun t => v t 64, den]
  simp only [h1, mul_one]

theorem Row.out {p : ℕ} {m : EReal} {acc : Fin 128 → EReal} (h : Row s x v p m acc) (hs : s < p) (hp : p ≤ 8192) (h1 : ∀ t, v t 64 = 1) (l : Fin 128) :
    Ideal.div (acc l) (acc 64) = ((Cert.Fwd.out s x v l : ℝ) : EReal) := by
  rcases h with ⟨h0, -, -⟩ | ⟨M, -, ha⟩
  · omega
  · have hd := den_pos (s := s) (x := x) (by omega)
    rw [ha, ha, sum_one hs hp M h1, sum_all hs hp M fun t => v t l, Ideal.div_coe (by positivity), ← EReal.coe_mul, Cert.Fwd.out]
    congr 1
    have := Real.exp_pos (-(scale * M))
    field_simp

theorem Row.big {p : ℕ} {m : EReal} {acc : Fin 128 → EReal} (h : Row s x v p m acc) (hs : s < p) (hp : p ≤ 8192) (h1 : ∀ t, v t 64 = 1) :
    m + Ideal.div (Ideal.log (acc 64)) ((scale : ℝ) : EReal) = ((Cert.Fwd.big s x : ℝ) : EReal) := by
  rcases h with ⟨h0, -, -⟩ | ⟨M, hm, ha⟩
  · omega
  · have hd := den_pos (s := s) (x := x) (by omega)
    have he := Real.exp_pos (-(scale * M))
    have hc := scale_pos.ne'
    rw [hm, ha, sum_one hs hp M h1, Ideal.log_coe, if_neg (not_le.mpr (by positivity)), Ideal.div_coe hc, ← EReal.coe_mul, ← EReal.coe_add, Cert.Fwd.big,
      Real.log_mul he.ne' hd.ne', Real.log_exp]
    congr 1
    field_simp
    ring
end row

/-! ### One point -/

section payloads

theorem pick {α : Type} (l : Fin 128) (k : ℕ) (hk : k < 128) (a b : α) : Scalar.select (IntOp.cmpi .eq (BitVec.ofNat 32 l.val) (BitVec.ofNat 32 k)) a b = if l.val = k then a else b := by
  rw [Scalar.select, WordCmp.cmpi_eq_ofNat (by omega) (by omega), WordCmp.ofBool_decide_eq_ite]
  split_ifs <;> simp_all

variable (a : FVec Ideal S1024x1 .f32) (b : FVec Ideal S1024x128 .f32) (n : FVec Ideal S1024x1 .f32) (d e : FVec Ideal S1024x1024 .f32) (v : Vec Ideal S1024x128 .bf16)

theorem pay30_at (r : Fin 1024) : k0_pay30 a b n d e v (ix2 r 0) = k0_pay29 a b n d e v (ix2 r 64) := by
  pointwise [k0_pay30]
  refine (Finset.sum_eq_single (64 : Fin 128) (fun x _ hx => ?_) fun h => absurd (Finset.mem_univ _) h).trans ?_
  · refine (pick x 64 (by omega) _ _).trans (if_neg fun h => hx (Fin.ext h))
  · exact (pick 64 64 (by omega) _ _).trans (if_pos rfl)

theorem pay31_at (r : Fin 1024) (l : Fin 128) : k0_pay31 a b n d e v (ix2 r l) = Ideal.div (k0_pay29 a b n d e v (ix2 r l)) (k0_pay29 a b n d e v (ix2 r 64)) := by
  rw [← pay30_at]
  pointwise [k0_pay31]

theorem pay32_at (r : Fin 1024) {x : ℝ} (h : (n (ix2 r 0) : EReal) + Ideal.div (Ideal.log (k0_pay29 a b n d e v (ix2 r 64))) ((scale : ℝ) : EReal) = (x : EReal)) :
    k0_pay32 a b n d e v (ix2 r 0) = ((-x : ℝ) : EReal) := by
  have : k0_pay32 a b n d e v (ix2 r 0) = 0 - (n (ix2 r 0) + Ideal.div (Ideal.log (k0_pay30 a b n d e v (ix2 r 0))) (Ideal.ofBits .f32 0x3DD105EC#32)) := by
    pointwise [k0_pay32]
  rw [this, pay30_at, bits_scale, h, zero_sub, EReal.coe_neg]

theorem pay33_at (r : Fin 1024) : k0_pay33 a b n d e v (ix2 r 0) = k0_pay32 a b n d e v (ix2 r 0) := by
  pointwise [k0_pay33]

theorem pay35_at (r : Fin 1024) {x : ℝ} (h : k0_pay32 a b n d e v (ix2 r 0) = (x : EReal)) : k0_pay35 a b n d e v (ix2 r 0) = ((0 : ℝ) : EReal) := by
  have : k0_pay35 a b n d e v (ix2 r 0) = k0_pay32 a b n d e v (ix2 r 0) - k0_pay33 a b n d e v (ix2 r 0) := by pointwise [k0_pay35, k0_pay34]
  rw [this, pay33_at, h, ← EReal.coe_sub, sub_self]

theorem pay36_at (r : Fin 1024) {x : ℝ} (h : k0_pay32 a b n d e v (ix2 r 0) = (x : EReal)) : k0_pay36 a b n d e v (ix2 r 0) = ((0 : ℝ) : EReal) := by
  have : k0_pay36 a b n d e v (ix2 r 0) = k0_pay32 a b n d e v (ix2 r 0) - k0_pay33 a b n d e v (ix2 r 0) - k0_pay35 a b n d e v (ix2 r 0) := by pointwise [k0_pay36, k0_pay34]
  rw [this, pay33_at, pay35_at a b n d e v r h, h, ← EReal.coe_sub, ← EReal.coe_sub, sub_self, sub_self]

/-- A query row with its log-sum: the features, the number, zeros. -/
def put (q : Fin 128 → ℝ) (x : ℝ) (l : Fin 128) : ℝ := if l.val = 98 then 0 else if l.val = 97 then 0 else if l.val = 96 then x else q l

theorem pay1_at {q : FVec Ideal S1024x128 .bf16} {Q : ℕ → Fin 128 → ℝ} {s0 : ℕ} (hq : IsRows 1024 q Q s0) (r : Fin 1024) (l : Fin 128) {x : ℝ} (h : k0_pay32 a b n d e v (ix2 r 0) = (x : EReal)) :
    k0_pay1 (iota .tc S1024x128 32 [1] iota_S1024x128_d1_w32) (k0_pay35 a b n d e v) (k0_pay36 a b n d e v) (k0_pay37 q a b n d e v) k0_pay38 (ix2 r l) = ((put (Q (s0 + r.val)) x l : ℝ) : EReal) := by
  have e33 := (pay33_at a b n d e v r).trans h
  have e35 := pay35_at a b n d e v r h
  have e36 := pay36_at a b n d e v r h
  pointwise [k0_pay1, k0_pay37, k0_pay38]
  rw [e33, e35, e36, hq r l]
  refine (pick l 98 (by omega) _ _).trans ?_
  rw [show Scalar.select _ _ _ = _ from pick l 97 (by omega) _ _, show Scalar.select _ _ _ = _ from pick l 96 (by omega) _ _, put]
  split_ifs <;> rfl

end payloads

section point
variable {m : (ℓ : Loc nD τ sig) → Buf (Elt Ideal) ℓ} {c : Dev nD} {Q K V : ℕ → ℕ → Fin 128 → ℝ}

theorem idx : ∀ t : Fin cfg0.N, win0_0.index t = ![t.val % 8, t.val / 8] ∧ win0_1.index t = ![0, t.val / 8] ∧ win0_2.index t = ![0, t.val / 8] ∧ win0_3.index t = ![t.val % 8, t.val / 8]
    ∧ win0_4.index t = ![t.val % 8, t.val / 8] :=
  (by decide +kernel : ∀ t : Fin grid0.N, _)
theorem coords_1 : ∀ t : Fin grid0.N, ((grid0.coords t) 1).val = t.val % 8 := by decide +kernel

section rows
variable (hQ : Holds (Gen.V m c main_v3) Q) (hK : Holds (Gen.V m c main_v14) K) (hV : Holds (Gen.V m c main_v25) V)

include hQ in
theorem q_rows (t : Fin cfg0.N) : IsRows 1024 (iblk m c 0 t) (Q (t.val / 8)) (1024 * ((grid0.coords t) 1).val) := by
  rw [coords_1 t]
  intro r l
  have ht : t.val < 64 := lt_of_lt_of_eq t.isLt N_0
  show (Gen.V m c main_v3 : FVec Ideal S8192x1024 .bf16) (((cfg0.win 0).blk t).view.emb (ix2 r l)) = _
  have e : ((cfg0.win 0).blk t).view.emb (ix2 r l) = (ix2 (⟨1024 * (t.val % 8) + r.val, by omega⟩ : Fin 8192) (⟨128 * (⟨t.val / 8, by omega⟩ : Fin 8).val + l.val, by simp only; omega⟩ : Fin 1024) : S8192x1024.Idx) := by blk_ext [idx t]
  rw [e, hQ _ ⟨t.val / 8, by omega⟩ l]

include hK in
theorem k_rows (t : Fin cfg0.N) : IsRows 8192 (iblk m c 1 t) (K (t.val / 8)) 0 := by
  intro r l
  have ht : t.val < 64 := lt_of_lt_of_eq t.isLt N_0
  show (Gen.V m c main_v14 : FVec Ideal S8192x1024 .bf16) (((cfg0.win 1).blk t).view.emb (ix2 r l)) = _
  have e : ((cfg0.win 1).blk t).view.emb (ix2 r l) = (ix2 r (⟨128 * (⟨t.val / 8, by omega⟩ : Fin 8).val + l.val, by simp only; omega⟩ : Fin 1024) : S8192x1024.Idx) := by blk_ext [idx t]
  rw [e, hK r ⟨t.val / 8, by omega⟩ l]
  show _ = ((K (t.val / 8) (0 + r.val) l : ℝ) : EReal)
  rw [Nat.zero_add]

include hV in
theorem v_rows (t : Fin cfg0.N) : IsRows 8192 (iblk m c 2 t) (V (t.val / 8)) 0 := by
  intro r l
  have ht : t.val < 64 := lt_of_lt_of_eq t.isLt N_0
  show (Gen.V m c main_v25 : FVec Ideal S8192x1024 .bf16) (((cfg0.win 2).blk t).view.emb (ix2 r l)) = _
  have e : ((cfg0.win 2).blk t).view.emb (ix2 r l) = (ix2 r (⟨128 * (⟨t.val / 8, by omega⟩ : Fin 8).val + l.val, by simp only; omega⟩ : Fin 1024) : S8192x1024.Idx) := by blk_ext [idx t]
  rw [e, hV r ⟨t.val / 8, by omega⟩ l]
  show _ = ((V (t.val / 8) (0 + r.val) l : ℝ) : EReal)
  rw [Nat.zero_add]
end rows

/-- The first result, -/
def OA (Q K V : ℕ → ℕ → Fin 128 → ℝ) : FVec Ideal S8192x1024 .bf16 := fun j =>
  ((out (j 0).val (sc (Q ((j 1).val / 128)) (K ((j 1).val / 128)) (j 0).val) (V ((j 1).val / 128)) ⟨(j 1).val % 128, Nat.mod_lt _ (by omega)⟩ : ℝ) : EReal)
/-- and the second. -/
def BA (Q K : ℕ → ℕ → Fin 128 → ℝ) : FVec Ideal S8192x1024 .bf16 := fun j =>
  ((put (Q ((j 1).val / 128) (j 0).val) (-(big (j 0).val (sc (Q ((j 1).val / 128)) (K ((j 1).val / 128)) (j 0).val))) ⟨(j 1).val % 128, Nat.mod_lt _ (by omega)⟩ : ℝ) : EReal)

variable (hQ : Holds (Gen.V m c main_v3) Q) (hK : Holds (Gen.V m c main_v14) K) (hV : Holds (Gen.V m c main_v25) V) (h1 : ∀ h t, V h t 64 = 1)
include hQ hK hV h1

theorem point_o (t : Fin cfg0.N) (y0 : Fin 1024) (y1 : Fin 128) (i : S8192x1024.Idx) (hi0 : (i 0).val = 1024 * (t.val % 8) + y0.val) (hi1 : (i 1).val = 128 * (t.val / 8) + y1.val) :
    (outsAt0 m c t).1 (ix2 y0 y1) = OA Q K V i := by
  have h := fin_inv m c t (q_rows hQ t) (k_rows hK t) (v_rows hV t) y0
  have ht : t.val % 8 < 8 := Nat.mod_lt _ (by omega)
  have hy := y0.isLt
  rw [out_o, pay31_at]
  rw [coords_1 t] at h
  refine (h.out (by omega) (by omega) (h1 _) y1).trans ?_
  have e1 : (i 1).val / 128 = t.val / 8 := by rw [hi1]; omega
  have e2 : (⟨(i 1).val % 128, Nat.mod_lt _ (by omega)⟩ : Fin 128) = y1 := Fin.ext (by show (i 1).val % 128 = _; rw [hi1]; omega)
  unfold OA
  rw [e2, e1, hi0]

theorem point_b (t : Fin cfg0.N) (y0 : Fin 1024) (y1 : Fin 128) (i : S8192x1024.Idx) (hi0 : (i 0).val = 1024 * (t.val % 8) + y0.val) (hi1 : (i 1).val = 128 * (t.val / 8) + y1.val) :
    (outsAt0 m c t).2 (ix2 y0 y1) = BA Q K i := by
  have h := fin_inv m c t (q_rows hQ t) (k_rows hK t) (v_rows hV t) y0
  have ht : t.val % 8 < 8 := Nat.mod_lt _ (by omega)
  have hy := y0.isLt
  have hq := pay12_rows (q_rows hQ t)
  rw [coords_1 t] at h hq
  rw [out_b]
  refine (pay1_at _ _ _ _ _ _ hq y0 y1 (pay32_at _ _ _ _ _ _ y0 (h.big (by omega) (by omega) (h1 _)))).trans ?_
  have e1 : (i 1).val / 128 = t.val / 8 := by rw [hi1]; omega
  have e2 : (⟨(i 1).val % 128, Nat.mod_lt _ (by omega)⟩ : Fin 128) = y1 := Fin.ext (by show (i 1).val % 128 = _; rw [hi1]; omega)
  unfold BA
  rw [e2, e1, hi0]

set_option maxHeartbeats 1600000 in
theorem final_o : (dats m 0 c).arrAt 3 (cfgs 0).N = OA Q K V := by
  refine (dats m 0 c).arrAt_eq_of_covers 3 _ (by decide +kernel) fun t _ y => ?_
  have ht : t.val < 64 := lt_of_lt_of_eq t.isLt N_0
  blk_simp
  rw [after0_3]
  idx_vars y
  obtain_idx i : S8192x1024 := [1024 * (t.val % 8) + (y0 : ℕ), 128 * (t.val / 8) + (y1 : ℕ)] with hi
  exact (point_o hQ hK hV h1 t y0 y1 i hi0 hi1).trans (congrArg _ (by blk_ext [idx t]))

set_option maxHeartbeats 1600000 in
theorem final_b : (dats m 0 c).arrAt 4 (cfgs 0).N = BA Q K := by
  refine (dats m 0 c).arrAt_eq_of_covers 4 _ (by decide +kernel) fun t _ y => ?_
  have ht : t.val < 64 := lt_of_lt_of_eq t.isLt N_0
  blk_simp
  rw [after0_4]
  idx_vars y
  obtain_idx i : S8192x1024 := [1024 * (t.val % 8) + (y0 : ℕ), 128 * (t.val / 8) + (y1 : ℕ)] with hi
  exact (point_b hQ hK hV h1 t y0 y1 i hi0 hi1).trans (congrArg _ (by blk_ext [idx t]))

end point

end Cert.Fwd
end
-- ==== Proof.FwdClaim.lean ====
/- Latent attention's forward call: the arrays the host prepares, what the reference returns, and the claims. -/
module

public import proofs.«01_k».proof.Proof.FwdValue
public import proofs.«01_k».proof.Proof.MlaClaim
public import proofs.«01_k».proof.Proof.Gen.Kernel14
public import proofs.«01_k».proof.Proof.Gen.Kernel14.Frame
public import proofs.«01_k».proof.Proof.Gen.Reference14Ideal
public import proofs.«01_k».proof.Proof.Gen.Reference14Ideal.Run
public import proofs.«01_k».proof.Proof.Gen.Pre_finite_qkv
public import proofs.«01_k».proof.Proof.Gen.On_output_lanes

@[expose] public section

set_option maxRecDepth 16384

noncomputable section

namespace Cert.Fwd

open Idealize.ShloMosaic Idealize.ShloMosaic.TcCoe Idealize.SL.Sem
open Cert.Own (AllReal)
open Cert.Flash (Holds ix_div ix_mod)
open Cert.Soft (Feats Scores ev zs mx pr os ls zs_pos lse_at out_at top_at Vr tail3)
open Cert.Kernel3Ideal.Mla (ks vs lss feat feat_at scores rs Kr tail sum_tail holds_k scale bits_scale scale_pos)

abbrev S8x8192x96 : Shape := ⟨3, ![8, 8192, 96]⟩
abbrev S8x8192x64 : Shape := ⟨3, ![8, 8192, 64]⟩
abbrev S8192x1024 : Shape := ⟨2, ![8192, 1024]⟩
abbrev S8x8192 : Shape := ⟨2, ![8, 8192]⟩

variable (X0 X1 : FVec Ideal S8x8192x96 .f32) (X2 : FVec Ideal S8x8192x64 .f32)

/-! ### The host's arrays -/

/-- The query rows. -/
def qf : FVec Ideal S8192x1024 .bf16 := truncf .bf16 (Cert.Reference3Ideal.Mla.lanes X0) Cert.Kernel3Ideal.Gen.bitsLt_bf16_f32

/-- The query rows of head `h`. -/
def Qf (h s : ℕ) : Fin 128 → ℝ := tail (feat X0 h s) 0 0 0

theorem holds_qf (h0 : AllReal X0) : Holds (qf X0) (Qf X0) := by
  intro s h l
  pointwise [qf, Cert.Reference3Ideal.Mla.lanes]
  rw [Cert.Soft.int_zero]
  simp only [Qf, tail, feat_at h0 h]
  split_ifs <;> first | rfl | omega

section Entry
open Cert.Kernel14Ideal

variable (m : (ℓ : Loc nD τ sig) → Buf (Elt Ideal) ℓ) (c : Dev nD)

/-- The first argument. -/
abbrev arg0 : FVec Ideal S8x8192x96 .f32 := m ((c : Thread nD τ).loc main_arg0)
/-- The second argument. -/
abbrev arg1 : FVec Ideal S8x8192x96 .f32 := m ((c : Thread nD τ).loc main_arg1)
/-- The third argument. -/
abbrev arg2 : FVec Ideal S8x8192x64 .f32 := m ((c : Thread nD τ).loc main_arg2)

theorem at_q : (Gen.V m c main_v3 : FVec Ideal S8192x1024 .bf16) = qf (arg0 m c) := by
  unfold Gen.V
  simp only [Gen.hostOps0, Gen.hostOps0_1, Gen.hostOps0_2, Gen.hostOps0_3, Gen.hostOps0_4, Gen.hostOps0_5, Gen.hostOps0_6, List.flatten_cons, List.flatten_nil, List.cons_append,
    List.nil_append, List.append_nil, StableHlo.TRef.binary, StableHlo.TRef.unary, StableHlo.TRef.ternary, StableHlo.TRef.toBuf, StableHlo.TRef.ofBuf, cast_eq]
  after_results_simp
  rfl

theorem at_k : (Gen.V m c main_v14 : FVec Ideal S8192x1024 .bf16) = ks (arg1 m c) := by
  unfold Gen.V
  simp only [Gen.hostOps0, Gen.hostOps0_1, Gen.hostOps0_2, Gen.hostOps0_3, Gen.hostOps0_4, Gen.hostOps0_5, Gen.hostOps0_6, List.flatten_cons, List.flatten_nil, List.cons_append,
    List.nil_append, List.append_nil, StableHlo.TRef.binary, StableHlo.TRef.unary, StableHlo.TRef.ternary, StableHlo.TRef.toBuf, StableHlo.TRef.ofBuf, cast_eq]
  after_results_simp
  refine Cert.Kernel3Ideal.Mla.rows3w_congr ?_ ?_ ?_ ?_ <;> dsimp only [Matrix.cons_val] <;> after_results_simp <;> rfl

theorem at_v : (Gen.V m c main_v25 : FVec Ideal S8192x1024 .bf16) = vs (arg2 m c) := by
  unfold Gen.V
  simp only [Gen.hostOps0, Gen.hostOps0_1, Gen.hostOps0_2, Gen.hostOps0_3, Gen.hostOps0_4, Gen.hostOps0_5, Gen.hostOps0_6, List.flatten_cons, List.flatten_nil, List.cons_append,
    List.nil_append, List.append_nil, StableHlo.TRef.binary, StableHlo.TRef.unary, StableHlo.TRef.ternary, StableHlo.TRef.toBuf, StableHlo.TRef.ofBuf, cast_eq]
  after_results_simp
  refine Cert.Soft.rows3_congr ?_ ?_ ?_ ?_ <;> dsimp only [Matrix.cons_val] <;> after_results_simp <;> rfl

end Entry

/-! ### The rows agree -/

theorem sc_eq (h s t : ℕ) : scale * sc (Qf X0 h) (Kr X1 h) s t = rs X0 X1 h s t := by
  rw [sc]
  unfold Qf Kr
  rw [sum_tail, rs]
  ring

/-- A row's weights. -/
abbrev xw (h s : ℕ) : ℕ → ℝ := sc (Qf X0 h) (Kr X1 h) s

theorem ev_eq (h s t : ℕ) : ev (rs X0 X1) h s t = Real.exp (-mx (rs X0 X1) h s) * wgt s (xw X0 X1 h s) 0 t := by
  rw [ev, wgt, sub_zero, xw, sc_eq]
  split_ifs
  · rw [← Real.exp_add]; congr 1; ring
  · rw [mul_zero]

theorem zs_eq (h s : ℕ) : zs (rs X0 X1) h s = Real.exp (-mx (rs X0 X1) h s) * den s (xw X0 X1 h s) := by
  rw [zs, den, ← Fin.sum_univ_eq_sum_range (fun t => wgt s (xw X0 X1 h s) 0 t), Finset.mul_sum]
  exact Finset.sum_congr rfl fun t _ => ev_eq X0 X1 h s t

theorem os_eq (h : ℕ) (s : Fin 8192) (l : Fin 128) (hl : l.val < 64) :
    os (rs X0 X1) (feat X2) h s ⟨l.val, hl⟩ = out s (xw X0 X1 h s) (Vr (feat X2) h) l := by
  have hz := zs_pos (rs X0 X1) h s
  rw [zs_eq] at hz
  rw [os, out, ← Fin.sum_univ_eq_sum_range (fun t => wgt s (xw X0 X1 h s) 0 t * Vr (feat X2) h t l), Finset.sum_div]
  refine Finset.sum_congr rfl fun t _ => ?_
  rw [pr, zs_eq, ev_eq, Vr, tail3, dif_pos hl, mul_div_mul_left _ _ (Real.exp_pos _).ne']
  ring

theorem ls_eq (h : ℕ) (s : Fin 8192) : ls (rs X0 X1) scale h s = big s (xw X0 X1 h s) := by
  have hd := den_pos (x := xw X0 X1 h s) s.isLt
  rw [ls, zs_eq, Real.log_mul (Real.exp_pos _).ne' hd.ne', Real.log_exp, big]
  ring

/-! ### The reference -/

section Reference
open Cert.Reference14Ideal Cert.Reference14Ideal.Gen

/-- The first result. -/
def ro : FVec Ideal S8192x1024 .bf16 :=
  truncf .bf16 (shapeCast S8192x1024 (transpose S8192x8x128 [1, 0, 2] (pad S8x8192x128 ![0, 0, 0] ![0, 0, 64] ![0, 0, 0] (Cert.Soft.out (Cert.Kernel3Ideal.Mla.sc X0 X1) X2) (sitofp .f32 (constantI S_ 32 0#32)) pads_S8x8192x64_S8x8192x128_000_000_0640 h_S_) transposes_S8x8192x128_S8192x8x128_1_0_2) shapeCasts_S8192x8x128_S8192x1024) bitsLt_bf16_f32

/-- The queries with one lane more. -/
def wide (Y : FVec Ideal S8x8192 .f32) : FVec Ideal S8192x1024 .bf16 :=
  truncf .bf16 (shapeCast S8192x1024 (transpose S8192x8x128 [1, 0, 2] (pad S8x8192x128 ![0, 0, 0] ![0, 0, 31] ![0, 0, 0] (concatenate S8x8192x97 2 [⟨S8x8192x96, X0⟩, ⟨S8x8192x1, Host.negf (broadcastInDim S8x8192x1 ![0, 1] bcast_S8x8192_S8x8192x1_0_1 Y)⟩] concatenates_S8x8192x96_S8x8192x1_S8x8192x97_d2) (sitofp .f32 (constantI S_ 32 0#32)) pads_S8x8192x97_S8x8192x128_000_000_0310 h_S_) transposes_S8x8192x128_S8192x8x128_1_0_2) shapeCasts_S8192x8x128_S8192x1024) bitsLt_bf16_f32

/-- The second result. -/
def rb : FVec Ideal S8192x1024 .bf16 := wide X0 (lss X0 X1)

variable (m : (ℓ : Loc nD τ sig) → Buf (Elt Ideal) ℓ) (c : Dev nD)

/-- The first argument. -/
abbrev ref0 : FVec Ideal S8x8192x96 .f32 := m ((c : Thread nD τ).loc main_arg0)
/-- The second argument. -/
abbrev ref1 : FVec Ideal S8x8192x96 .f32 := m ((c : Thread nD τ).loc main_arg1)
/-- The third argument. -/
abbrev ref2 : FVec Ideal S8x8192x64 .f32 := m ((c : Thread nD τ).loc main_arg2)

theorem out_ref : Value.res_main_v27 m c = ro (ref0 m c) (ref1 m c) (ref2 m c) := by
  unfold Value.res_main_v27
  rfl

set_option maxHeartbeats 2000000 in
theorem ref_run (ρ : Dev nD → PrngReg) : θ_run defs (onTc (τ := τ) (main (F := Ideal))) ⟨m, fun _ => 0, ρ⟩ fun r => ∀ c : Dev nD,
      r.2.mem ((c.tc : Thread nD τ).loc main_v27) = ro (ref0 m c) (ref1 m c) (ref2 m c)
      ∧ r.2.mem ((c.tc : Thread nD τ).loc main_v34) = rb (ref0 m c) (ref1 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run _ _ _).mono ?_ (Value.run m ρ)
  intro r hr c
  obtain ⟨r0, r1, a0, a1, a2⟩ := hr c
  exact ⟨r0.trans (out_ref m c), r1, a0, a1, a2⟩
end Reference

variable (s : Fin 8192) (h : Fin 8) (l : Fin 128)

theorem ro_at (hl : l.val < 64) : ro X0 X1 X2 (ix2 s ⟨128 * h.val + l.val, by omega⟩) = Cert.Soft.out (Cert.Kernel3Ideal.Mla.sc X0 X1) X2 (ix3 h s ⟨l.val, hl⟩) := by
  pointwise [ro]
  split_ifs <;> first | rfl | omega

theorem wide_at (Y : FVec Ideal S8x8192 .f32) (h0 : AllReal X0) {x : ℝ} (hx : Y (ix2 h s) = (x : EReal)) :
    wide X0 Y (ix2 s ⟨128 * h.val + l.val, by omega⟩) = ((put (Qf X0 h s) (-x) l : ℝ) : EReal) := by
  pointwise [wide]
  rw [Cert.Soft.int_zero]
  simp only [hx, ← EReal.coe_neg, put, Qf, tail, feat_at h0 h]
  split_ifs <;> first | rfl | omega

theorem match_o (h0 : AllReal X0) (h1 : AllReal X1) (h2 : AllReal X2) (hl : l.val < 64) :
    OA (Qf X0) (Kr X1) (Vr (feat X2)) (ix2 s ⟨128 * h.val + l.val, by omega⟩) = ro X0 X1 X2 (ix2 s ⟨128 * h.val + l.val, by omega⟩) := by
  rw [ro_at X0 X1 X2 s h l hl, out_at (scores X0 X1 h0 h1) (feat_at h2), os_eq X0 X1 X2 h s l hl]
  show ((_ : ℝ) : EReal) = _
  simp only [ix2_0, ix2_1, ix_div, ix_mod]

theorem match_b (h0 : AllReal X0) (h1 : AllReal X1) :
    BA (Qf X0) (Kr X1) (ix2 s ⟨128 * h.val + l.val, by omega⟩) = rb X0 X1 (ix2 s ⟨128 * h.val + l.val, by omega⟩) := by
  rw [rb, wide_at X0 s h l (lss X0 X1) h0 ((lse_at (scores X0 X1 h0 h1) bits_scale scale_pos.ne' h s).trans (congrArg _ (ls_eq X0 X1 h s)))]
  show ((_ : ℝ) : EReal) = _
  simp only [ix2_0, ix2_1, ix_div, ix_mod]

/-! ### The claims -/

theorem real_of_pre (e : Cert.Pre_finite_qkv.fn (F := Ideal) X0 X1 X2 = fun _ => 1#1) : AllReal X0 ∧ AllReal X1 ∧ AllReal X2 := by
  have e := congrFun e (Shape.Idx.first (by decide))
  unfold Cert.Pre_finite_qkv.fn at e
  obtain ⟨e, e2⟩ := Cert.Own.andi_one e
  obtain ⟨e0, e1⟩ := Cert.Own.andi_one e
  haveI : Subsingleton (Cert.Pre_finite_qkv.S_).Idx := ⟨fun a b => funext fun k => k.elim0⟩
  exact ⟨Cert.Own.allReal_of _ _ (fun _ => rfl) _ _ _ _ e0, Cert.Own.allReal_of _ _ (fun _ => rfl) _ _ _ _ e1, Cert.Own.allReal_of _ _ (fun _ => rfl) _ _ _ _ e2⟩

theorem mask_o (e : (Cert.On_output_lanes.fn (F := Ideal) X0 X1 X2).1 (ix2 s ⟨128 * h.val + l.val, by omega⟩) = 1#1) : l.val < 64 := by
  revert e
  pointwise [Cert.On_output_lanes.fn]
  revert l
  decide +kernel

theorem frame_reference : Cert.quiescent_Reference14Ideal := by
  intro m ρ _
  run_from ref_run m ρ
  · intro c
    exact ⟨trivial, trivial, trivial⟩
  · exact sem_eq_zero_of_no_sems rfl _

theorem frame_reference_pre : Cert.quiescent_Reference14Ideal_pre_finite_qkv := fun m ρ _ => frame_reference m ρ trivial

theorem preserves : Cert.preserves_Kernel14_Kernel14Ideal :=
  ⟨IdealRules.named_const.statement _ _ _ _ _ rfl, IdealRules.named_const.statement _ _ _ _ _ rfl⟩

theorem algebraic : Cert.algebraic_Kernel14Ideal_Reference14Ideal_on_output_lanes_pre_finite_qkv := by
  intro m g m' g' hpre hargs
  refine ⟨fun c => ro (arg0 m c) (arg1 m c) (arg2 m c), fun c => rb (arg0 m c) (arg1 m c), ?_, ?_⟩
  · refine (θ_run _ _ _).mono ?_ (Cert.Kernel14Ideal.Gen.run_main m g)
    intro r hr c
    obtain ⟨h0, h1, h2⟩ := real_of_pre _ _ _ (hpre c)
    have hq := holds_qf (arg0 m c) h0
    have hk := holds_k (arg1 m c) h1
    have hv : Holds (vs (arg2 m c)) _ := Cert.Soft.holds_v (feat_at h2)
    rw [← at_q] at hq
    rw [← at_k] at hk
    rw [← at_v] at hv
    have hl : ∀ h t, Vr (feat (arg2 m c)) h t 64 = 1 := fun h t => by simp [Vr, tail3]
    have eo := final_o hq hk hv hl
    have eb := final_b hq hk hv hl
    refine ⟨fun i hi => ?_, fun i _ => ?_, ?_, ?_, ?_⟩
    · obtain ⟨s, h, l, rfl⟩ := Cert.Fox.entry i
      exact (congrFun (((hr c).1 3).trans eo) _).trans (match_o _ _ _ s h l h0 h1 h2 (mask_o _ _ _ s h l hi))
    · obtain ⟨s, h, l, rfl⟩ := Cert.Fox.entry i
      exact (congrFun (((hr c).1 4).trans eb) _).trans (match_b _ _ s h l h0 h1)
    · exact ((hr c).2 Cert.Kernel14Ideal.main_arg0 (Pipeline.mem_restRefs_of Cert.Kernel14Ideal.main_arg0 (by decide) (by decide))).trans (Cert.Kernel14Ideal.Gen.V_main_arg0 m c)
    · exact ((hr c).2 Cert.Kernel14Ideal.main_arg1 (Pipeline.mem_restRefs_of Cert.Kernel14Ideal.main_arg1 (by decide) (by decide))).trans (Cert.Kernel14Ideal.Gen.V_main_arg1 m c)
    · exact ((hr c).2 Cert.Kernel14Ideal.main_arg2 (Pipeline.mem_restRefs_of Cert.Kernel14Ideal.main_arg2 (by decide) (by decide))).trans (Cert.Kernel14Ideal.Gen.V_main_arg2 m c)
  · refine (θ_run _ _ _).mono ?_ (ref_run m' g')
    intro r hr c
    obtain ⟨r0, r1, a0, a1, a2⟩ := hr c
    obtain ⟨g0, g1, g2⟩ := hargs c
    refine ⟨fun i _ => congrFun (r0.trans ?_) i, fun i _ => congrFun (r1.trans ?_) i, a0, a1, a2⟩
    · exact congr (congr (congrArg _ g0) g1) g2
    · exact congr (congrArg _ g0) g1

end Cert.Fwd
end
-- ==== Proof.NormFwd.lean ====
/- The forward call of the norm before the mixers: the kernel's result and the reference's as one function of the arguments. -/
module

public import proofs.«01_k».proof.Defs
public import proofs.«01_k».proof.Proof.RmsRef
public import proofs.«01_k».proof.Proof.Gen.Kernel15.Frame
public import proofs.«01_k».proof.Proof.Gen.Kernel15Ideal.Value
public import proofs.«01_k».proof.Proof.Gen.Reference15Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.NormFwd

open Cert.Rms

/-- The normed rows over `n` lanes, weighted. -/
def GN {n : ℕ} (d : ℝ) (x : FVec Ideal (Sx n) .f32) (g : FVec Ideal (Sg n) .f32) : FVec Ideal (Sx n) .bf16 := fun j =>
  x (ix2 (j 0) (j 1)) * rs (d : EReal) (row x (j 0)) * g (ix2 0 (j 1))

/-- The same as a reference writes it, the weights laid out over the rows. -/
def RN {n : ℕ} (w : BitVec 32) (h0 : 0 < S0.numel) (r1 : (Sx n).ReducesTo [1] Sr) (b1 : Sr.BroadcastsInDim Sc (![0] : Fin 1 → Fin Sc.rank))
    (b2 : S0.BroadcastsInDim Sc (![] : Fin 0 → Fin Sc.rank)) (b3 : Sc.BroadcastsInDim (Sx n) (![0, 1] : Fin 2 → Fin (Sx n).rank))
    (x p : FVec Ideal (Sx n) .f32) : FVec Ideal (Sx n) .f32 :=
  mulf (mulf x (broadcastInDim (Sx n) ![0, 1] b3 (Host.rsqrt (hms w h0 r1 b1 b2 x)))) p

theorem RN_at {n : ℕ} {w : BitVec 32} {d : ℝ} (hw : Ideal.ofBits FTy.f32 w = (d : EReal)) (h0 r1 b1 b2 b3) (x p : FVec Ideal (Sx n) .f32) (g : FVec Ideal (Sg n) .f32)
    (e : ∀ R k, p (ix2 R k) = g (ix2 0 k)) (R : Fin 8192) (l : Fin n) : RN w h0 r1 b1 b2 b3 x p (ix2 R l) = x (ix2 R l) * rs (d : EReal) (row x R) * g (ix2 0 l) := by
  unfold rs
  rw [← hw, ← hms_at w h0 r1 b1 b2 x R, ← e R l]
  unfold RN
  generalize hms w h0 r1 b1 b2 x = M
  pointwise

theorem RN_eq {n : ℕ} {w : BitVec 32} {d : ℝ} (hw : Ideal.ofBits FTy.f32 w = (d : EReal)) (h0 r1 b1 b2 b3 lt) (x p : FVec Ideal (Sx n) .f32) (g : FVec Ideal (Sg n) .f32)
    (e : ∀ R k, p (ix2 R k) = g (ix2 0 k)) : truncf .bf16 (RN w h0 r1 b1 b2 b3 x p) lt = GN d x g := by
  funext j
  have i : j = ix2 (j 0) (j 1) := funext fun i => by fin_cases i <;> rfl
  rw [i]
  exact RN_at hw h0 r1 b1 b2 b3 x p g e (j 0) (j 1)

section Kernel

open Cert.Kernel15Ideal Cert.Kernel15Ideal.Gen

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, _)

theorem pay1_at (x : FVec Ideal S1024x1024 .f32) (g : FVec Ideal S1x1024 .f32) (r : Fin 1024) (l : Fin 1024) :
    k0_pay1 (F := Ideal) x g (ix2 r l) = x (ix2 r l) * rs ((1024 : ℝ) : EReal) (fun k => x (ix2 r k)) * g (ix2 0 l) := by
  unfold rs ms
  rw [← w1024]
  pointwise [k0_pay1]

theorem x_at (c : Dev nD) (t : Fin cfg0.N) (r : Fin 1024) (k : Fin 1024) : (iblk m c 0 t : FVec Ideal S1024x1024 .f32) (ix2 r k)
    = (m ((c : Thread nD τ).loc main_arg0) : FVec Ideal S8192x1024 .f32) (ix2 ⟨t.val * 1024 + r.val, by have := lt_of_lt_of_eq t.isLt N_0; omega⟩ k) := by
  have ht : t.val < 8 := lt_of_lt_of_eq t.isLt N_0
  rw [← V_main_arg0 m c]; blk_point [iblk, idx t]

theorem g_at (c : Dev nD) (t : Fin cfg0.N) (k : Fin 1024) : (iblk m c 1 t : FVec Ideal S1x1024 .f32) (ix2 0 k)
    = (m ((c : Thread nD τ).loc main_arg1) : FVec Ideal S1x1024 .f32) (ix2 0 k) := by
  rw [← V_main_arg1 m c]; blk_point [iblk, idx t]

theorem final (c : Dev nD) : (dats m 0 c).arrAt 2 (cfgs 0).N
    = GN (n := 1024) 1024 (m ((c : Thread nD τ).loc main_arg0)) (m ((c : Thread nD τ).loc main_arg1)) := by
  refine (dats m 0 c).arrAt_eq_of_covers 2 _ (by decide +kernel) fun t _ y => ?_
  have ht : t.val < 8 := lt_of_lt_of_eq t.isLt N_0
  blk_simp
  rw [after0_2]
  frame_out
  idx_vars y
  rw [pay1_at]
  refine Eq.trans (b := GN (n := 1024) 1024 (m ((c : Thread nD τ).loc main_arg0)) (m ((c : Thread nD τ).loc main_arg1))
    (ix2 ⟨t.val * 1024 + y0.val, by omega⟩ y1)) ?_ (congrArg _ ?_)
  · simp only [x_at, g_at]
    rfl
  · blk_ext [idx t]

end Kernel

open Cert.Reference15Ideal Cert.Reference15Ideal.Gen in
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v12) = GN (n := 1024) 1024 (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  have h := Cert.Reference15Ideal.Value.run (F := Ideal) m ρ
  refine (θ_run defs _ _).mono (fun r h c => ⟨(h c).1.trans ?_, (h c).2⟩) h
  exact RN_eq w1024 h_S_ reducesTo_S8192x1024_S8192_d1 bcast_S8192_S8192x1_0 bcast_S_S8192x1 bcast_S8192x1_S8192x1024_0_1 bitsLt_bf16_f32
    (m ((c.tc : Thread nD τ).loc main_arg0)) (broadcastInDim S8192x1024 ![0, 1] bcast_S1x1024_S8192x1024_0_1 (m ((c.tc : Thread nD τ).loc main_arg1))) (m ((c.tc : Thread nD τ).loc main_arg1)) fun R k => by pointwise

theorem algebraic : Cert.algebraic_Kernel15Ideal_Reference15Ideal := by
  pair_intro
  · run_from Cert.Kernel15Ideal.Value.run_blocks m g
  · run_from ref_run m' g'
    exact (final m c).symm

theorem frame_reference : Cert.quiescent_Reference15Ideal := by
  intro m ρ _
  run_from ref_run m ρ
  · intro c; exact ⟨trivial, trivial⟩
  · exact sem_eq_zero_of_no_sems rfl _

end Cert.NormFwd

end
-- ==== Proof.LowFwd.lean ====
/- The forward call of the two norms of the latents: the kernel's results and the reference's as functions of the arguments. -/
module

public import proofs.«01_k».proof.Defs
public import proofs.«01_k».proof.Proof.NormFwd
public import proofs.«01_k».proof.Proof.Gen.Kernel16.Frame
public import proofs.«01_k».proof.Proof.Gen.Kernel16Ideal.Value
public import proofs.«01_k».proof.Proof.Gen.Reference16Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.LowFwd

open Cert.Rms Cert.NormFwd

section Kernel

open Cert.Kernel16Ideal Cert.Kernel16Ideal.Gen

variable (m : (ℓ : Loc nD τ sig) → Buf (Elt Ideal) ℓ)

theorem idx : ∀ t : Fin cfg0.N, win0_0.index t = ![t.val, 0] ∧ win0_1.index t = ![t.val, 2] ∧ win0_2.index t = ![0, 0]
    ∧ win0_3.index t = ![0, 0] ∧ win0_4.index t = ![t.val, 0] ∧ win0_5.index t = ![t.val, 0] :=
  (by decide +kernel : ∀ t : Fin grid0.N, _)

theorem pay1_at (x : FVec Ideal S1024x256 .f32) (g : FVec Ideal S1x256 .f32) (r : Fin 1024) (l : Fin 256) :
    k0_pay1 (F := Ideal) x g (ix2 r l) = x (ix2 r l) * rs ((256 : ℝ) : EReal) (fun k => x (ix2 r k)) * g (ix2 0 l) := by
  unfold rs ms
  rw [← w256]
  pointwise [k0_pay1]

theorem pay2_at (x : FVec Ideal S1024x128 .f32) (g : FVec Ideal S1x128 .f32) (r : Fin 1024) (l : Fin 128) :
    k0_pay2 (F := Ideal) x g (ix2 r l) = x (ix2 r l) * rs ((128 : ℝ) : EReal) (fun k => x (ix2 r k)) * g (ix2 0 l) := by
  unfold rs ms
  rw [← w128]
  pointwise [k0_pay2]

abbrev arg0 (c : Dev nD) : FVec Ideal S8192x256 .f32 := m ((c : Thread nD τ).loc main_arg0)
abbrev arg1 (c : Dev nD) : FVec Ideal S8192x128 .f32 := m ((c : Thread nD τ).loc main_arg1)

/-- The packed array as the region finds it. -/
theorem V_z (c : Dev nD) : (V m c main_v2 : FVec Ideal S8192x640 .f32)
    = concatenate S8192x640 1 [⟨S8192x256, (arg0 m c)⟩, ⟨S8192x128, (arg1 m c)⟩, ⟨S8192x128, (V m c main_v0 : FVec Ideal S8192x128 .f32)⟩,
      ⟨S8192x128, (V m c main_v1 : FVec Ideal S8192x128 .f32)⟩] concatenates_S8192x256_S8192x128_S8192x128_S8192x128_S8192x640_d1 := by
  unfold V
  simp only [hostOps0, hostOps0_1, hostOps0_2, hostOps0_3, hostOps0_4, List.flatten_cons, List.flatten_nil, List.cons_append, List.nil_append, List.append_nil,
    StableHlo.TRef.binary, StableHlo.TRef.unary, StableHlo.TRef.toBuf, StableHlo.TRef.ofBuf, cast_eq]
  after_results_simp
  try rfl

theorem V_0 (c : Dev nD) (R : Fin 8192) (l : Fin 256) : (V m c main_v2 : FVec Ideal S8192x640 .f32) (ix2 R ⟨l.val, by omega⟩) = arg0 m c (ix2 R l) := by
  rw [V_z]
  pointwise

theorem V_1 (c : Dev nD) (R : Fin 8192) (l : Fin 128) : (V m c main_v2 : FVec Ideal S8192x640 .f32) (ix2 R ⟨256 + l.val, by omega⟩) = arg1 m c (ix2 R l) := by
  rw [V_z]
  pointwise

theorem x_at (c : Dev nD) (t : Fin cfg0.N) (r : Fin 1024) (k : Fin 256) : (X0_0 m c t : FVec Ideal S1024x256 .f32) (ix2 r k)
    = arg0 m c (ix2 ⟨t.val * 1024 + r.val, by have := lt_of_lt_of_eq t.isLt N_0; omega⟩ k) := by
  have ht : t.val < 8 := lt_of_lt_of_eq t.isLt N_0
  unfold X0_0 Pipeline.Window.fill
  rw [dif_pos (moved0_0 t _)]
  refine Eq.trans ?_ (V_0 m c _ k)
  show (V m c main_v2 : FVec Ideal S8192x640 .f32) (((cfg0.win 0).blk t).view.emb _) = _
  refine congrArg _ ?_
  blk_ext [idx t]

theorem u_at (c : Dev nD) (t : Fin cfg0.N) (r : Fin 1024) (k : Fin 128) : (iblk m c 1 t : FVec Ideal S1024x128 .f32) (ix2 r k)
    = arg1 m c (ix2 ⟨t.val * 1024 + r.val, by have := lt_of_lt_of_eq t.isLt N_0; omega⟩ k) := by
  have ht : t.val < 8 := lt_of_lt_of_eq t.isLt N_0
  refine Eq.trans ?_ (V_1 m c _ k)
  show (V m c main_v2 : FVec Ideal S8192x640 .f32) (((cfg0.win 1).blk t).view.emb (ix2 r k)) = _
  refine congrArg _ ?_
  blk_ext [idx t]

theorem g_at (c : Dev nD) (t : Fin cfg0.N) (k : Fin 256) : (iblk m c 2 t : FVec Ideal S1x256 .f32) (ix2 0 k)
    = (m ((c : Thread nD τ).loc main_arg4) : FVec Ideal S1x256 .f32) (ix2 0 k) := by
  rw [← V_main_arg4 m c]; blk_point [iblk, idx t]

theorem h_at (c : Dev nD) (t : Fin cfg0.N) (k : Fin 128) : (iblk m c 3 t : FVec Ideal S1x128 .f32) (ix2 0 k)
    = (m ((c : Thread nD τ).loc main_arg5) : FVec Ideal S1x128 .f32) (ix2 0 k) := by
  rw [← V_main_arg5 m c]; blk_point [iblk, idx t]

theorem final_4 (c : Dev nD) : (dats m 0 c).arrAt 4 (cfgs 0).N
    = GN (n := 256) 256 (m ((c : Thread nD τ).loc main_arg0)) (m ((c : Thread nD τ).loc main_arg4)) := by
  refine (dats m 0 c).arrAt_eq_of_covers 4 _ (by decide +kernel) fun t _ y => ?_
  have ht : t.val < 8 := lt_of_lt_of_eq t.isLt N_0
  blk_simp
  rw [after0_4]
  unfold outsAt0
  frame_out
  idx_vars y
  rw [pay1_at]
  refine Eq.trans (b := GN (n := 256) 256 (m ((c : Thread nD τ).loc main_arg0)) (m ((c : Thread nD τ).loc main_arg4))
    (ix2 ⟨t.val * 1024 + y0.val, by omega⟩ y1)) ?_ (congrArg _ ?_)
  · simp only [x_at, g_at]
    rfl
  · blk_ext [idx t]

theorem final_5 (c : Dev nD) : (dats m 0 c).arrAt 5 (cfgs 0).N
    = GN (n := 128) 128 (m ((c : Thread nD τ).loc main_arg1)) (m ((c : Thread nD τ).loc main_arg5)) := by
  refine (dats m 0 c).arrAt_eq_of_covers 5 _ (by decide +kernel) fun t _ y => ?_
  have ht : t.val < 8 := lt_of_lt_of_eq t.isLt N_0
  blk_simp
  rw [after0_5]
  unfold outsAt0
  frame_out
  idx_vars y
  rw [pay2_at]
  refine Eq.trans (b := GN (n := 128) 128 (m ((c : Thread nD τ).loc main_arg1)) (m ((c : Thread nD τ).loc main_arg5))
    (ix2 ⟨t.val * 1024 + y0.val, by omega⟩ y1)) ?_ (congrArg _ ?_)
  · simp only [u_at, h_at]
    rfl
  · blk_ext [idx t]

end Kernel

open Cert.Reference16Ideal Cert.Reference16Ideal.Gen in
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v12) = GN (n := 256) 256 (m ((c.tc : Thread nD τ).loc main_arg0)) (m ((c.tc : Thread nD τ).loc main_arg4))
      ∧ r.2.mem ((c.tc : Thread nD τ).loc main_v25) = GN (n := 128) 128 (m ((c.tc : Thread nD τ).loc main_arg1)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  have h := Cert.Reference16Ideal.Value.run (F := Ideal) m ρ
  refine (θ_run defs _ _).mono (fun r h c => ⟨(h c).1.trans ?_, (h c).2.1.trans ?_, (h c).2.2⟩) h
  · exact RN_eq w256 h_S_ reducesTo_S8192x256_S8192_d1 bcast_S8192_S8192x1_0 bcast_S_S8192x1 bcast_S8192x1_S8192x256_0_1 bitsLt_bf16_f32
      (m ((c.tc : Thread nD τ).loc main_arg0)) (broadcastInDim S8192x256 ![0, 1] bcast_S1x256_S8192x256_0_1 (m ((c.tc : Thread nD τ).loc main_arg4))) (m ((c.tc : Thread nD τ).loc main_arg4)) fun R k => by pointwise
  · exact RN_eq w128 h_S_ reducesTo_S8192x128_S8192_d1 bcast_S8192_S8192x1_0 bcast_S_S8192x1 bcast_S8192x1_S8192x128_0_1 bitsLt_bf16_f32
      (m ((c.tc : Thread nD τ).loc main_arg1)) (broadcastInDim S8192x128 ![0, 1] bcast_S1x128_S8192x128_0_1 (m ((c.tc : Thread nD τ).loc main_arg5))) (m ((c.tc : Thread nD τ).loc main_arg5)) fun R k => by pointwise

theorem algebraic : Cert.algebraic_Kernel16Ideal_Reference16Ideal := by
  pair_intro
  · run_from Cert.Kernel16Ideal.Value.run_blocks m g
  · run_from ref_run m' g'
    · exact (final_4 m c).symm
    · exact (final_5 m c).symm

theorem frame_reference : Cert.quiescent_Reference16Ideal := by
  intro m ρ _
  run_from ref_run m ρ
  · intro c; exact ⟨trivial, trivial, trivial, trivial, trivial, trivial⟩
  · exact sem_eq_zero_of_no_sems rfl _

end Cert.LowFwd

end
-- ==== Proof.Ff1Claim.lean ====
/- The first feed-forward product with the squared relu: the kernel's two results and the reference's as functions of the arguments. -/
module

public import proofs.«01_k».proof.Defs
public import proofs.«01_k».proof.Proof.Gen.Kernel17.Frame
public import proofs.«01_k».proof.Proof.Gen.Kernel17Ideal.Value
public import proofs.«01_k».proof.Proof.Gen.Reference17Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Ff1

/-- An entry of the product. -/
def prod (h : FVec Ideal ⟨2, ![8192, 1024]⟩ .f32) (w : FVec Ideal ⟨2, ![1024, 4096]⟩ .f32) (r : Fin 8192) (l : Fin 4096) : EReal :=
  ∑ k : Fin 1024, h (ix2 r k) * w (ix2 k l)

/-- The product. -/
def Gu (h : FVec Ideal ⟨2, ![8192, 1024]⟩ .f32) (w : FVec Ideal ⟨2, ![1024, 4096]⟩ .f32) : FVec Ideal ⟨2, ![8192, 4096]⟩ .bf16 := fun j => prod h w (j 0) (j 1)

/-- Its squared relu. -/
def Ga (h : FVec Ideal ⟨2, ![8192, 1024]⟩ .f32) (w : FVec Ideal ⟨2, ![1024, 4096]⟩ .f32) : FVec Ideal ⟨2, ![8192, 4096]⟩ .bf16 := fun j =>
  max (prod h w (j 0) (j 1)) 0 * max (prod h w (j 0) (j 1)) 0

section Kernel

open Cert.Kernel17Ideal Cert.Kernel17Ideal.Gen

variable (m : (ℓ : Loc nD τ sig) → Buf (Elt Ideal) ℓ)

theorem idx : ∀ t : Fin cfg0.N, win0_0.index t = ![t.val / 4, 0] ∧ win0_1.index t = ![0, t.val % 4] ∧ win0_2.index t = ![t.val / 4, t.val % 4]
    ∧ win0_3.index t = ![t.val / 4, t.val % 4] :=
  (by decide +kernel : ∀ t : Fin grid0.N, _)

theorem acc_at (x : FVec Ideal S2048x1024 .bf16) (w : FVec Ideal S1024x1024 .bf16) (r : Fin 2048) (l : Fin 1024) :
    k0_pay1 (F := Ideal) x w (ix2 r l) = ∑ k : Fin 1024, x (ix2 r k) * w (ix2 k l) := by
  pointwise [k0_pay1]

theorem u_at (x : FVec Ideal S2048x1024 .bf16) (w : FVec Ideal S1024x1024 .bf16) (j : S2048x1024.Idx) :
    k0_pay2 (F := Ideal) x w j = k0_pay1 (F := Ideal) x w j := by
  unfold k0_pay2
  generalize k0_pay1 (F := Ideal) x w = y
  pointwise

theorem a_at (x : FVec Ideal S2048x1024 .bf16) (w : FVec Ideal S1024x1024 .bf16) (j : S2048x1024.Idx) :
    k0_pay3 (F := Ideal) x w j = max (k0_pay1 (F := Ideal) x w j) 0 * max (k0_pay1 (F := Ideal) x w j) 0 := by
  unfold k0_pay3
  generalize k0_pay1 (F := Ideal) x w = y
  pointwise

abbrev aH (c : Dev nD) : FVec Ideal S8192x1024 .f32 := m ((c : Thread nD τ).loc main_arg0)
abbrev aW (c : Dev nD) : FVec Ideal S1024x4096 .f32 := m ((c : Thread nD τ).loc main_arg1)

theorem V_h (c : Dev nD) : (V m c main_v0 : FVec Ideal S8192x1024 .bf16) = aH m c := by
  unfold V
  simp only [hostOps0, StableHlo.TRef.unary, StableHlo.TRef.toBuf, StableHlo.TRef.ofBuf, cast_eq]
  after_results_simp
  rfl

theorem V_w (c : Dev nD) : (V m c main_v1 : FVec Ideal S1024x4096 .bf16) = aW m c := by
  unfold V
  simp only [hostOps0, StableHlo.TRef.unary, StableHlo.TRef.toBuf, StableHlo.TRef.ofBuf, cast_eq]
  after_results_simp
  rfl

theorem prod_at (c : Dev nD) (t : Fin cfg0.N) (r : Fin 2048) (l : Fin 1024) (R : Fin 8192) (L : Fin 4096) (hR : R.val = t.val / 4 * 2048 + r.val)
    (hL : L.val = t.val % 4 * 1024 + l.val) :
    k0_pay1 (F := Ideal) (iblk m c 0 t : FVec Ideal S2048x1024 .bf16) (iblk m c 1 t : FVec Ideal S1024x1024 .bf16) (ix2 r l) = prod (aH m c) (aW m c) R L := by
  have ht : t.val < 16 := lt_of_lt_of_eq t.isLt N_0
  rw [acc_at]
  unfold prod
  rw [← V_h, ← V_w]
  blk_point [iblk, idx t]

theorem final_u (c : Dev nD) : (dats m 0 c).arrAt 2 (cfgs 0).N = Gu (aH m c) (aW m c) := by
  refine (dats m 0 c).arrAt_eq_of_covers 2 _ (by decide +kernel) fun t _ y => ?_
  have ht : t.val < 16 := lt_of_lt_of_eq t.isLt N_0
  blk_simp
  rw [after0_2]
  frame_out
  idx_vars y
  obtain_idx i : S8192x4096 := [t.val / 4 * 2048 + (y0 : ℕ), t.val % 4 * 1024 + (y1 : ℕ)] with hi
  refine Eq.trans (b := Gu (aH m c) (aW m c) i) ?_ (congrArg _ ?_)
  · exact (u_at _ _ _).trans (prod_at m c t y0 y1 (i 0) (i 1) hi0 hi1)
  · blk_ext [idx t]

theorem final_a (c : Dev nD) : (dats m 0 c).arrAt 3 (cfgs 0).N = Ga (aH m c) (aW m c) := by
  refine (dats m 0 c).arrAt_eq_of_covers 3 _ (by decide +kernel) fun t _ y => ?_
  have ht : t.val < 16 := lt_of_lt_of_eq t.isLt N_0
  blk_simp
  rw [after0_3]
  frame_out
  idx_vars y
  obtain_idx i : S8192x4096 := [t.val / 4 * 2048 + (y0 : ℕ), t.val % 4 * 1024 + (y1 : ℕ)] with hi
  refine Eq.trans (b := Ga (aH m c) (aW m c) i) ?_ (congrArg _ ?_)
  · refine (a_at _ _ _).trans ?_
    rw [prod_at m c t y0 y1 (i 0) (i 1) hi0 hi1]
    rfl
  · blk_ext [idx t]

end Kernel

theorem algebraic : Cert.algebraic_Kernel17Ideal_Reference17Ideal := by
  pair_intro
  · run_from Cert.Kernel17Ideal.Gen.run_main m g
  · run_from Cert.Reference17Ideal.Value.run m' g'
    · rw [final_u m c]; funext j; idx_vars j; pointwise [Gu, prod]
    · rw [final_a m c]; funext j; idx_vars j; pointwise [Ga, prod]

theorem frame_reference : Cert.quiescent_Reference17Ideal := by
  intro m ρ _
  run_from Cert.Reference17Ideal.Value.run m ρ
  · intro c; exact ⟨trivial, trivial⟩
  · exact sem_eq_zero_of_no_sems rfl _

end Cert.Ff1

end
-- ==== Proof.ProjOut.lean ====
/- The output product of the mixers with the residual sum and the two norms: the kernel's three results and the reference's as functions of the arguments. -/
module

public import proofs.«01_k».proof.Defs
public import proofs.«01_k».proof.Proof.NormFwd
public import proofs.«01_k».proof.Proof.Gen.Kernel18.Frame
public import proofs.«01_k».proof.Proof.Gen.Kernel18Ideal.Value
public import proofs.«01_k».proof.Proof.Gen.Reference18Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ProjOut

open Cert.Rms Cert.NormFwd

abbrev SW : Shape := ⟨2, ![1024, 1024]⟩

/-- The product. -/
def GP (a : FVec Ideal (Sx 1024) .f32) (w : FVec Ideal SW .f32) : FVec Ideal (Sx 1024) .f32 := fun j => ∑ k : Fin 1024, a (ix2 (j 0) k) * w (ix2 k (j 1))

/-- The residual sum: `x` plus the normed product. -/
def GX (x p : FVec Ideal (Sx 1024) .f32) (g : FVec Ideal (Sg 1024) .f32) : FVec Ideal (Sx 1024) .f32 := fun j =>
  x (ix2 (j 0) (j 1)) + p (ix2 (j 0) (j 1)) * rs ((1024 : ℝ) : EReal) (row p (j 0)) * g (ix2 0 (j 1))

section Kernel

open Cert.Kernel18Ideal Cert.Kernel18Ideal.Gen

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![t.val, 0] ∧ win0_6.index t = ![t.val, 0] ∧ win0_7.index t = ![t.val, 0] :=
  (by decide +kernel : ∀ t : Fin grid0.N, _)

theorem acc_at (a w : FVec Ideal S1024x1024 .bf16) (r l : Fin 1024) :
    k0_pay2 (F := Ideal) a w (ix2 r l) = ∑ k : Fin 1024, a (ix2 r k) * w (ix2 k l) := by
  pointwise [k0_pay2]

theorem pay3_at (a w : FVec Ideal S1024x1024 .bf16) (x : FVec Ideal S1024x1024 .f32) (g : FVec Ideal S1x1024 .f32) (r l : Fin 1024) :
    k0_pay3 (F := Ideal) a w x g (ix2 r l)
      = x (ix2 r l) + k0_pay2 (F := Ideal) a w (ix2 r l) * rs ((1024 : ℝ) : EReal) (fun k => k0_pay2 (F := Ideal) a w (ix2 r k)) * g (ix2 0 l) := by
  unfold rs ms k0_pay3
  rw [← w1024]
  generalize k0_pay2 (F := Ideal) a w = p
  pointwise

theorem pay4_at (a w : FVec Ideal S1024x1024 .bf16) (x : FVec Ideal S1024x1024 .f32) (g h : FVec Ideal S1x1024 .f32) (r l : Fin 1024) :
    k0_pay1 (F := Ideal) (k0_pay4 a w x g h) (ix2 r l)
      = k0_pay3 (F := Ideal) a w x g (ix2 r l) * rs ((1024 : ℝ) : EReal) (fun k => k0_pay3 (F := Ideal) a w x g (ix2 r k)) * h (ix2 0 l) := by
  unfold rs ms k0_pay4 k0_pay1
  rw [← w1024]
  generalize k0_pay3 (F := Ideal) a w x g = p
  pointwise

abbrev aX (c : Dev nD) : FVec Ideal S8192x1024 .f32 := m ((c : Thread nD τ).loc main_arg0)
abbrev aA (c : Dev nD) : FVec Ideal S8192x1024 .f32 := m ((c : Thread nD τ).loc main_arg1)
abbrev aW (c : Dev nD) : FVec Ideal S1024x1024 .f32 := m ((c : Thread nD τ).loc main_arg2)
abbrev aG (c : Dev nD) : FVec Ideal S1x1024 .f32 := m ((c : Thread nD τ).loc main_arg3)
abbrev aH (c : Dev nD) : FVec Ideal S1x1024 .f32 := m ((c : Thread nD τ).loc main_arg4)

theorem V_a (c : Dev nD) : (V m c main_v0 : FVec Ideal S8192x1024 .bf16) = aA m c := by
  unfold V
  simp only [hostOps0, StableHlo.TRef.unary, StableHlo.TRef.toBuf, StableHlo.TRef.ofBuf, cast_eq]
  after_results_simp
  rfl

theorem V_w (c : Dev nD) : (V m c main_v1 : FVec Ideal S1024x1024 .bf16) = aW m c := by
  unfold V
  simp only [hostOps0, StableHlo.TRef.unary, StableHlo.TRef.toBuf, StableHlo.TRef.ofBuf, cast_eq]
  after_results_simp
  rfl

theorem p_at (c : Dev nD) (t : Fin cfg0.N) (r l : Fin 1024) :
    k0_pay2 (F := Ideal) (iblk m c 0 t : FVec Ideal S1024x1024 .bf16) (iblk m c 1 t : FVec Ideal S1024x1024 .bf16) (ix2 r l)
      = GP (aA m c) (aW m c) (ix2 ⟨t.val * 1024 + r.val, by have := lt_of_lt_of_eq t.isLt N_0; omega⟩ l) := by
  have ht : t.val < 8 := lt_of_lt_of_eq t.isLt N_0
  rw [acc_at]
  change _ = ∑ k : Fin 1024, aA m c (ix2 ⟨t.val * 1024 + r.val, _⟩ k) * aW m c (ix2 k l)
  rw [← V_a, ← V_w]
  blk_point [iblk, idx t]

theorem x_at (c : Dev nD) (t : Fin cfg0.N) (r k : Fin 1024) : (iblk m c 2 t : FVec Ideal S1024x1024 .f32) (ix2 r k)
    = aX m c (ix2 ⟨t.val * 1024 + r.val, by have := lt_of_lt_of_eq t.isLt N_0; omega⟩ k) := by
  have ht : t.val < 8 := lt_of_lt_of_eq t.isLt N_0
  change _ = (m ((c : Thread nD τ).loc main_arg0) : FVec Ideal S8192x1024 .f32) _
  rw [← V_main_arg0 m c]; blk_point [iblk, idx t]

theorem g_at (c : Dev nD) (t : Fin cfg0.N) (k : Fin 1024) : (iblk m c 3 t : FVec Ideal S1x1024 .f32) (ix2 0 k) = aG m c (ix2 0 k) := by
  change _ = (m ((c : Thread nD τ).loc main_arg3) : FVec Ideal S1x1024 .f32) _
  rw [← V_main_arg3 m c]; blk_point [iblk, idx t]

theorem h_at (c : Dev nD) (t : Fin cfg0.N) (k : Fin 1024) : (iblk m c 4 t : FVec Ideal S1x1024 .f32) (ix2 0 k) = aH m c (ix2 0 k) := by
  change _ = (m ((c : Thread nD τ).loc main_arg4) : FVec Ideal S1x1024 .f32) _
  rw [← V_main_arg4 m c]; blk_point [iblk, idx t]

theorem s_at (c : Dev nD) (t : Fin cfg0.N) (r l : Fin 1024) :
    k0_pay3 (F := Ideal) (iblk m c 0 t : FVec Ideal S1024x1024 .bf16) (iblk m c 1 t : FVec Ideal S1024x1024 .bf16) (iblk m c 2 t : FVec Ideal S1024x1024 .f32)
        (iblk m c 3 t : FVec Ideal S1x1024 .f32) (ix2 r l)
      = GX (aX m c) (GP (aA m c) (aW m c)) (aG m c) (ix2 ⟨t.val * 1024 + r.val, by have := lt_of_lt_of_eq t.isLt N_0; omega⟩ l) := by
  rw [pay3_at]
  simp only [p_at, x_at, g_at]
  rfl

theorem final_5 (c : Dev nD) : (dats m 0 c).arrAt 5 (cfgs 0).N = GP (aA m c) (aW m c) := by
  refine (dats m 0 c).arrAt_eq_of_covers 5 _ (by decide +kernel) fun t _ y => ?_
  have ht : t.val < 8 := lt_of_lt_of_eq t.isLt N_0
  blk_simp
  rw [after0_5]
  frame_out
  idx_vars y
  refine (p_at m c t y0 y1).trans (congrArg _ ?_)
  blk_ext [idx t]

theorem final_6 (c : Dev nD) : (dats m 0 c).arrAt 6 (cfgs 0).N = GX (aX m c) (GP (aA m c) (aW m c)) (aG m c) := by
  refine (dats m 0 c).arrAt_eq_of_covers 6 _ (by decide +kernel) fun t _ y => ?_
  have ht : t.val < 8 := lt_of_lt_of_eq t.isLt N_0
  blk_simp
  rw [after0_6]
  frame_out
  idx_vars y
  refine (s_at m c t y0 y1).trans (congrArg _ ?_)
  blk_ext [idx t]

theorem final_7 (c : Dev nD) : (dats m 0 c).arrAt 7 (cfgs 0).N = GN (n := 1024) 1024 (GX (aX m c) (GP (aA m c) (aW m c)) (aG m c)) (aH m c) := by
  refine (dats m 0 c).arrAt_eq_of_covers 7 _ (by decide +kernel) fun t _ y => ?_
  have ht : t.val < 8 := lt_of_lt_of_eq t.isLt N_0
  blk_simp
  rw [after0_7]
  frame_out
  idx_vars y
  rw [pay4_at]
  refine Eq.trans (b := GN (n := 1024) 1024 (GX (aX m c) (GP (aA m c) (aW m c)) (aG m c)) (aH m c) (ix2 ⟨t.val * 1024 + y0.val, by omega⟩ y1)) ?_ (congrArg _ ?_)
  · simp only [s_at, h_at]
    rfl
  · blk_ext [idx t]

end Kernel

section Reference

open Cert.Reference18Ideal Cert.Reference18Ideal.Gen

/-- The reference's residual sum. -/
def RX (x p : FVec Ideal S8192x1024 .f32) (g : FVec Ideal S1x1024 .f32) : FVec Ideal S8192x1024 .f32 :=
  addf x (RN (n := 1024) 0x44800000#32 h_S_ reducesTo_S8192x1024_S8192_d1 bcast_S8192_S8192x1_0 bcast_S_S8192x1 bcast_S8192x1_S8192x1024_0_1 p
    (broadcastInDim S8192x1024 ![0, 1] bcast_S1x1024_S8192x1024_0_1 g))

/-- Its normed rows. -/
def RH (x : FVec Ideal S8192x1024 .f32) (g : FVec Ideal S1x1024 .f32) : FVec Ideal S8192x1024 .bf16 :=
  truncf .bf16 (RN (n := 1024) 0x44800000#32 h_S_ reducesTo_S8192x1024_S8192_d1 bcast_S8192_S8192x1_0 bcast_S_S8192x1 bcast_S8192x1_S8192x1024_0_1 x
    (broadcastInDim S8192x1024 ![0, 1] bcast_S1x1024_S8192x1024_0_1 g)) bitsLt_bf16_f32

abbrev RP (a : FVec Ideal S8192x1024 .f32) (w : FVec Ideal S1024x1024 .f32) : FVec Ideal S8192x1024 .f32 :=
  Host.dotGeneral dot_S8192x1024_S1024x1024_S8192x1024_1_0_0_1_n_n none a w

theorem rp (a : FVec Ideal S8192x1024 .f32) (w : FVec Ideal S1024x1024 .f32) : RP a w = GP a w := by
  funext j
  idx_vars j
  pointwise [GP]

theorem rx (x p : FVec Ideal S8192x1024 .f32) (g : FVec Ideal S1x1024 .f32) : RX x p g = GX x p g := by
  funext j
  have i : j = ix2 (j 0) (j 1) := funext fun i => by fin_cases i <;> rfl
  rw [i]
  exact congrArg (x (ix2 (j 0) (j 1)) + ·) (RN_at w1024 h_S_ reducesTo_S8192x1024_S8192_d1 bcast_S8192_S8192x1_0 bcast_S_S8192x1 bcast_S8192x1_S8192x1024_0_1 p _ g
    (fun R k => by pointwise) (j 0) (j 1))

theorem rh (x : FVec Ideal S8192x1024 .f32) (g : FVec Ideal S1x1024 .f32) : RH x g = GN (n := 1024) 1024 x g :=
  RN_eq w1024 h_S_ reducesTo_S8192x1024_S8192_d1 bcast_S8192_S8192x1_0 bcast_S_S8192x1 bcast_S8192x1_S8192x1024_0_1 bitsLt_bf16_f32 x _ g fun R k => by pointwise

theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v0) = RP (m ((c.tc : Thread nD τ).loc main_arg1)) (m ((c.tc : Thread nD τ).loc main_arg2))
      ∧ r.2.mem ((c.tc : Thread nD τ).loc main_v13)
        = RX (m ((c.tc : Thread nD τ).loc main_arg0)) (RP (m ((c.tc : Thread nD τ).loc main_arg1)) (m ((c.tc : Thread nD τ).loc main_arg2))) (m ((c.tc : Thread nD τ).loc main_arg3))
      ∧ r.2.mem ((c.tc : Thread nD τ).loc main_v26)
        = RH (RX (m ((c.tc : Thread nD τ).loc main_arg0)) (RP (m ((c.tc : Thread nD τ).loc main_arg1)) (m ((c.tc : Thread nD τ).loc main_arg2))) (m ((c.tc : Thread nD τ).loc main_arg3)))
          (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  have h := Cert.Reference18Ideal.Value.run (F := Ideal) m ρ
  unfold RH RX RP RN hms
  exact h

end Reference

theorem algebraic : Cert.algebraic_Kernel18Ideal_Reference18Ideal := by
  pair_intro
  · run_from Cert.Kernel18Ideal.Value.run_blocks m g
  · run_from ref_run m' g'
    · exact (rp _ _).trans (final_5 m c).symm
    · rw [rp, rx]; exact (final_6 m c).symm
    · rw [rp, rx, rh]; exact (final_7 m c).symm

theorem frame_reference : Cert.quiescent_Reference18Ideal := by
  intro m ρ _
  run_from ref_run m ρ
  · intro c; exact ⟨trivial, trivial, trivial, trivial, trivial⟩
  · exact sem_eq_zero_of_no_sems rfl _

end Cert.ProjOut

end
-- ==== Proof.RopeFwd.lean ====
/- The rotary embedding of q: the kernel's result and the reference's as functions of the arguments. -/
module

public import proofs.«01_k».proof.Defs
public import proofs.«01_k».proof.Proof.RopeBack
public import proofs.«01_k».proof.Proof.Gen.Kernel19.Frame
public import proofs.«01_k».proof.Proof.Gen.Kernel19Ideal.Value
public import proofs.«01_k».proof.Proof.Gen.Reference19Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Rope (turn tc ta tb col lane col_cases)

namespace Cert.RopeFwd

/-- One lane of the turned row as the kernel forms it: three products with the tables. -/
def three (x : Fin 128 → EReal) (c a b : Fin 128 → EReal) (l : Fin 128) : EReal :=
  x l * c l + x ⟨(l.val + 16) % 128, by omega⟩ * a l + x ⟨(l.val + 112) % 128, by omega⟩ * b l

/-- One lane of the turned row. -/
def fwd (q : BitVec 32) (x : Nat → EReal) (l : Nat) : EReal :=
  if l < 64 then x l
  else if l < 80 then x l * Ideal.cos (turn q (l - 64)) - x (l + 16) * Ideal.sin (turn q (l - 64))
  else if l < 96 then x l * Ideal.cos (turn q (l - 80)) + x (l - 16) * Ideal.sin (turn q (l - 80))
  else 0

/-- The three products are the turned row: outside the rotary lanes both neighbours have the factor zero. -/
theorem three_eq (q : BitVec 32) (x : Nat → EReal) (l : Fin 128) :
    three (fun l => x l.val) (fun l => tc q l.val) (fun l => ta q l.val) (fun l => tb q l.val) l = fwd q x l.val := by
  unfold three tc ta tb fwd
  by_cases h1 : l.val < 64
  · have : l.val < 80 := by omega
    simp [h1, this]
  · by_cases h2 : l.val < 80
    · have e : (l.val + 16) % 128 = l.val + 16 := by omega
      simp [h1, h2, e]
      rw [sub_eq_add_neg]
    · by_cases h3 : l.val < 96
      · have e : (l.val + 112) % 128 = l.val - 16 := by omega
        simp [h1, h2, h3, e]
      · simp [h1, h2, h3]

section Kernel

open Cert.Kernel19Ideal Cert.Kernel19Ideal.Gen

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] :=
  (by decide +kernel : ∀ t : Fin grid0.N, _)

/-- Row `r` of a block of tables. -/
abbrev row (x : FVec Ideal S1024x128 .f32) (r : Fin 1024) : Fin 128 → EReal := fun l => x (ix2 r l)

theorem turn_at (x c a b : FVec Ideal S1024x128 .f32) (r : Fin 1024) (l : Fin 128) :
    addf (F := Ideal) (addf (mulf x c) (mulf (dynamicRotate 1 112#32 none x rotates_S1024x128_d1) a)) (mulf (dynamicRotate 1 16#32 none x rotates_S1024x128_d1) b) (ix2 r l)
      = three (row x r) (row c r) (row a r) (row b r) l := by
  unfold three row
  have e1 : (l.val + 128 - 112) % 128 = (l.val + 16) % 128 := by omega
  have e2 : (l.val + 128 - 16) % 128 = (l.val + 112) % 128 := by omega
  pointwise
  simp only [e1, e2]

theorem last_at (v3 v5 v7 v12 v13 v14 v15 v22 v29 v36 v40 v42 : FVec Ideal S1024x128 .f32) (r : Fin 1024) (h : Fin 8) (l : Fin 128) :
    k0_pay1 (F := Ideal) v3 v5 v7 v12 v13 v14 v15 v22 v29 v36 v40 v42 (ix2 r (col h l))
      = (![v22 (ix2 r l), v29 (ix2 r l), v36 (ix2 r l), v40 (ix2 r l) + v42 (ix2 r l),
          three (row v12 r) (row v3 r) (row v5 r) (row v7 r) l, three (row v13 r) (row v3 r) (row v5 r) (row v7 r) l,
          three (row v14 r) (row v3 r) (row v5 r) (row v7 r) l, three (row v15 r) (row v3 r) (row v5 r) (row v7 r) l] : Fin 8 → EReal) h := by
  refine (Cert.Rope.cat_at _ _ _ _ _ _ _ _ r h l).trans ?_
  fin_cases h
  iterate 4 rfl
  all_goals exact turn_at _ _ _ _ r l

theorem pay11_at (x0 : FVec Ideal S1024x1024 .f32) (x1 x2 x3 : FVec Ideal S1024x128 .f32) (r : Fin 1024) (l : Fin 128) :
    k0_pay11 (F := Ideal) x0 x1 x2 x3 (ix2 r l) = three (fun l => x0 (ix2 r (col 0 l))) (row x1 r) (row x2 r) (row x3 r) l := by
  unfold Cert.Rope.col three row
  have e1 : (l.val + 128 - 112) % 128 = (l.val + 16) % 128 := by omega
  have e2 : (l.val + 128 - 16) % 128 = (l.val + 112) % 128 := by omega
  pointwise [k0_pay11, k0_pay4, k0_pay5, k0_pay3, k0_pay2]
  simp only [e1, e2]

theorem pay12_at (x0 : FVec Ideal S1024x1024 .f32) (x1 x2 x3 : FVec Ideal S1024x128 .f32) (r : Fin 1024) (l : Fin 128) :
    k0_pay12 (F := Ideal) x0 x1 x2 x3 (ix2 r l) = three (fun l => x0 (ix2 r (col 1 l))) (row x1 r) (row x2 r) (row x3 r) l := by
  unfold Cert.Rope.col three row
  have e1 : (l.val + 128 - 112) % 128 = (l.val + 16) % 128 := by omega
  have e2 : (l.val + 128 - 16) % 128 = (l.val + 112) % 128 := by omega
  pointwise [k0_pay12, k0_pay4, k0_pay5, k0_pay3, k0_pay2]
  simp only [e1, e2]

theorem pay13_at (x0 : FVec Ideal S1024x1024 .f32) (x1 x2 x3 : FVec Ideal S1024x128 .f32) (r : Fin 1024) (l : Fin 128) :
    k0_pay13 (F := Ideal) x0 x1 x2 x3 (ix2 r l) = three (fun l => x0 (ix2 r (col 2 l))) (row x1 r) (row x2 r) (row x3 r) l := by
  unfold Cert.Rope.col three row
  have e1 : (l.val + 128 - 112) % 128 = (l.val + 16) % 128 := by omega
  have e2 : (l.val + 128 - 16) % 128 = (l.val + 112) % 128 := by omega
  pointwise [k0_pay13, k0_pay4, k0_pay5, k0_pay3, k0_pay2]
  simp only [e1, e2]

theorem pay14_at (x0 : FVec Ideal S1024x1024 .f32) (x1 x2 x3 : FVec Ideal S1024x128 .f32) (r : Fin 1024) (l : Fin 128) :
    (k0_pay14 (F := Ideal) x0 x1 x2 (ix2 r l) : EReal) + k0_pay15 (F := Ideal) x0 x3 (ix2 r l) = three (fun l => x0 (ix2 r (col 3 l))) (row x1 r) (row x2 r) (row x3 r) l := by
  have r6 : row (k0_pay6 x0) r = fun l => x0 (ix2 r (col 3 l)) := by funext l; unfold row Cert.Rope.col; pointwise [k0_pay6, k0_pay2]
  have r3 : row (k0_pay3 x1) r = row x1 r := by funext l; unfold row; pointwise [k0_pay3]
  have r4 : row (k0_pay4 x2) r = row x2 r := by funext l; unfold row; pointwise [k0_pay4]
  have r5 : row (k0_pay5 x3) r = row x3 r := by funext l; unfold row; pointwise [k0_pay5]
  rw [← r6, ← r3, ← r4, ← r5]
  exact turn_at (k0_pay6 x0) (k0_pay3 x1) (k0_pay4 x2) (k0_pay5 x3) r l

/-- The block's result at head `h`, lane `l`. -/
theorem out_at (x0 : FVec Ideal S1024x1024 .f32) (x1 x2 x3 : FVec Ideal S1024x128 .f32) (r : Fin 1024) (h : Fin 8) (l : Fin 128) :
    k0_pay1 (k0_pay3 x1) (k0_pay4 x2) (k0_pay5 x3) (k0_pay7 x0) (k0_pay8 x0) (k0_pay9 x0) (k0_pay10 x0) (k0_pay11 (F := Ideal) x0 x1 x2 x3) (k0_pay12 x0 x1 x2 x3)
      (k0_pay13 x0 x1 x2 x3) (k0_pay14 x0 x1 x2) (k0_pay15 x0 x3) (ix2 r (col h l))
      = three (fun l => x0 (ix2 r (col h l))) (row x1 r) (row x2 r) (row x3 r) l := by
  have r3 : row (k0_pay3 x1) r = row x1 r := by funext l; unfold row; pointwise [k0_pay3]
  have r4 : row (k0_pay4 x2) r = row x2 r := by funext l; unfold row; pointwise [k0_pay4]
  have r5 : row (k0_pay5 x3) r = row x3 r := by funext l; unfold row; pointwise [k0_pay5]
  have r7 : row (k0_pay7 x0) r = fun l => x0 (ix2 r (col 4 l)) := by funext l; unfold row Cert.Rope.col; pointwise [k0_pay7, k0_pay2]
  have r8 : row (k0_pay8 x0) r = fun l => x0 (ix2 r (col 5 l)) := by funext l; unfold row Cert.Rope.col; pointwise [k0_pay8, k0_pay2]
  have r9 : row (k0_pay9 x0) r = fun l => x0 (ix2 r (col 6 l)) := by funext l; unfold row Cert.Rope.col; pointwise [k0_pay9, k0_pay2]
  have r10 : row (k0_pay10 x0) r = fun l => x0 (ix2 r (col 7 l)) := by funext l; unfold row Cert.Rope.col; pointwise [k0_pay10, k0_pay2]
  rw [last_at, pay11_at, pay12_at, pay13_at, pay14_at x0 x1 x2 x3, r3, r4, r5, r7, r8, r9, r10]
  fin_cases h <;> rfl

/-- The positions. -/
abbrev posn (c : Dev nD) : IVec S8192 32 := m ((c : Thread nD τ).loc main_arg1)

theorem V_c (c : Dev nD) (R : Fin 8192) (l : Fin 128) :
    (V m c main_v16 : FVec Ideal S8192x128 .f32) (ix2 R l) = tc (posn m c (ix1 R)) l.val := by
  unfold V
  simp only [hostOps0, hostOps0_1, hostOps0_2, List.flatten_cons, List.flatten_nil, List.cons_append, List.nil_append, List.append_nil,
    StableHlo.TRef.binary, StableHlo.TRef.unary, StableHlo.TRef.toBuf, StableHlo.TRef.ofBuf, cast_eq]
  after_results_simp
  pointwise
  after_results_simp
  pointwise
  unfold tc turn
  have e : l.val - 64 - 16 = l.val - 80 := by omega
  simp only [e]
  split_ifs <;> first | omega | rfl

theorem V_a (c : Dev nD) (R : Fin 8192) (l : Fin 128) :
    (V m c main_v20 : FVec Ideal S8192x128 .f32) (ix2 R l) = ta (posn m c (ix1 R)) l.val := by
  unfold V
  simp only [hostOps0, hostOps0_1, hostOps0_2, List.flatten_cons, List.flatten_nil, List.cons_append, List.nil_append, List.append_nil,
    StableHlo.TRef.binary, StableHlo.TRef.unary, StableHlo.TRef.toBuf, StableHlo.TRef.ofBuf, cast_eq]
  after_results_simp
  pointwise
  after_results_simp
  pointwise
  unfold ta turn
  split_ifs <;> first | omega | rfl

theorem V_b (c : Dev nD) (R : Fin 8192) (l : Fin 128) :
    (V m c main_v22 : FVec Ideal S8192x128 .f32) (ix2 R l) = tb (posn m c (ix1 R)) l.val := by
  unfold V
  simp only [hostOps0, hostOps0_1, hostOps0_2, List.flatten_cons, List.flatten_nil, List.cons_append, List.nil_append, List.append_nil,
    StableHlo.TRef.binary, StableHlo.TRef.unary, StableHlo.TRef.toBuf, StableHlo.TRef.ofBuf, cast_eq]
  after_results_simp
  pointwise
  after_results_simp
  pointwise
  unfold tb turn
  split_ifs <;> first | omega | rfl

theorem V_x (c : Dev nD) (R : Fin 8192) (h : Fin 8) (l : Fin 128) :
    (V m c main_v25 : FVec Ideal S8192x1024 .f32) (ix2 R (col h l)) = lane (m ((c : Thread nD τ).loc main_arg0)) R h l.val := by
  unfold col lane
  unfold V
  simp only [hostOps0, hostOps0_1, hostOps0_2, List.flatten_cons, List.flatten_nil, List.cons_append, List.nil_append, List.append_nil,
    StableHlo.TRef.binary, StableHlo.TRef.unary, StableHlo.TRef.toBuf, StableHlo.TRef.ofBuf, cast_eq]
  after_results_simp
  pointwise
  split_ifs with h1
  · rfl
  · simp [FloatOps.sitofp]

/-- The whole result: each head's row turned. -/
def G (p : IVec ⟨1, ![8192]⟩ 32) (d : FVec Ideal ⟨2, ![8192, 768]⟩ .f32) : FVec Ideal ⟨2, ![8192, 1024]⟩ .bf16 := fun j =>
  fwd (p (ix1 (j 0))) (lane d (j 0) ⟨(j 1).val / 128, by have := (j 1).isLt; simp at this; omega⟩) ((j 1).val % 128)

theorem G_at (p : IVec ⟨1, ![8192]⟩ 32) (d : FVec Ideal ⟨2, ![8192, 768]⟩ .f32) (R : Fin 8192) (h : Fin 8) (l : Fin 128) :
    G p d (ix2 R (col h l)) = fwd (p (ix1 R)) (lane d R h) l.val := by
  have e1 : (128 * h.val + l.val) / 128 = h.val := by omega
  have e2 : (128 * h.val + l.val) % 128 = l.val := by omega
  show fwd (p (ix1 R)) (lane d R ⟨(128 * h.val + l.val) / 128, _⟩) ((128 * h.val + l.val) % 128) = _
  rw [e2]
  congr 2
  exact Fin.ext e1

theorem final (c : Dev nD) : (dats m 0 c).arrAt 4 (cfgs 0).N
    = G (m ((c : Thread nD τ).loc main_arg1)) (m ((c : Thread nD τ).loc main_arg0)) := by
  refine (dats m 0 c).arrAt_eq_of_covers 4 _ (by decide +kernel) fun t _ y => ?_
  have ht : t.val < 8 := lt_of_lt_of_eq t.isLt N_0
  blk_simp
  rw [after0_4]
  frame_out
  idx_vars y
  obtain ⟨h, l, rfl⟩ := col_cases y1
  have hx : ∀ l : Fin 128, (iblk m c 0 t : FVec Ideal S1024x1024 .f32) (ix2 y0 (col h l))
      = lane (m ((c : Thread nD τ).loc main_arg0)) ⟨t.val * 1024 + y0.val, by omega⟩ h l.val := by
    intro l; rw [← V_x]; blk_point [iblk, idx t]
  have hc : ∀ l : Fin 128, (iblk m c 1 t : FVec Ideal S1024x128 .f32) (ix2 y0 l) = tc (posn m c (ix1 ⟨t.val * 1024 + y0.val, by omega⟩)) l.val := by
    intro l; rw [← V_c]; blk_point [iblk, idx t]
  have ha : ∀ l : Fin 128, (iblk m c 2 t : FVec Ideal S1024x128 .f32) (ix2 y0 l) = ta (posn m c (ix1 ⟨t.val * 1024 + y0.val, by omega⟩)) l.val := by
    intro l; rw [← V_a]; blk_point [iblk, idx t]
  have hb : ∀ l : Fin 128, (iblk m c 3 t : FVec Ideal S1024x128 .f32) (ix2 y0 l) = tb (posn m c (ix1 ⟨t.val * 1024 + y0.val, by omega⟩)) l.val := by
    intro l; rw [← V_b]; blk_point [iblk, idx t]
  refine Eq.trans (b := G (m ((c : Thread nD τ).loc main_arg1)) (m ((c : Thread nD τ).loc main_arg0)) (ix2 ⟨t.val * 1024 + y0.val, by omega⟩ (col h l))) ?_ (congrArg _ ?_)
  · rw [G_at, ← three_eq]
    rw [out_at]
    unfold row
    simp only [hx, hc, ha, hb]
  · unfold Cert.Rope.col; blk_ext [idx t]

end Kernel

open Cert.Reference19Ideal in
theorem ref_at (m : (ℓ : Loc nD τ sig) → Buf (Elt Ideal) ℓ) (c : Dev nD) (R : Fin 8192) (h : Fin 8) (l : Fin 128) :
    (Cert.Reference19Ideal.Value.res_main_v35 m c : FVec Ideal S8192x1024 .bf16) (ix2 R (col h l))
      = fwd ((m ((c.tc : Thread nD τ).loc main_arg1) : IVec S8192 32) (ix1 R)) (lane (m ((c.tc : Thread nD τ).loc main_arg0)) R h) l.val := by
  unfold fwd lane Cert.Rope.col turn
  pointwise [Cert.Reference19Ideal.Value.res_main_v35]
  by_cases h1 : l.val < 64
  · have a1 : l.val < 96 := by omega
    simp only [h1, a1, dite_true, if_true]
  by_cases h2 : l.val < 80
  · have a1 : l.val < 96 := by omega
    have a4 : l.val - 64 < 16 := by omega
    have a5 : l.val + 16 < 96 := by omega
    have e1 : 64 + (16 + (l.val - 64)) = l.val + 16 := by omega
    have e2 : 64 + (l.val - 64) = l.val := by omega
    simp only [h1, h2, a1, a4, a5, dite_true, dite_false, if_true, if_false, e1, e2]
  by_cases h3 : l.val < 96
  · have a4 : ¬ l.val - 64 < 16 := by omega
    have a5 : l.val - 16 < 96 := by omega
    have e1 : 64 + (16 + (l.val - 64 - 16)) = l.val := by omega
    have e2 : 64 + (l.val - 64 - 16) = l.val - 16 := by omega
    have e3 : l.val - 64 - 16 = l.val - 80 := by omega
    simp only [h1, h2, h3, a4, a5, dite_true, dite_false, if_true, if_false, e1, e2]
    simp only [e3]
  · simp only [h1, h2, h3, dite_false, if_false]
    exact Cert.Rope.zero_word

open Cert.Kernel19Ideal in
theorem algebraic : Cert.algebraic_Kernel19Ideal_Reference19Ideal := by
  pair_intro
  · run_from Cert.Kernel19Ideal.Gen.run_main m g
    · exact Cert.Kernel19Ideal.Gen.V_main_arg0 m c
    · exact Cert.Kernel19Ideal.Gen.V_main_arg1 m c
  · run_from Cert.Reference19Ideal.Value.run m' g'
    rw [final m c]
    funext j
    idx_vars j
    obtain ⟨h, l, rfl⟩ := col_cases j1
    refine (ref_at m' c j0 h l).trans ?_
    rw [G_at, (hagree c).1, (hagree c).2]

theorem frame_reference : Cert.quiescent_Reference19Ideal := by
  intro m ρ _
  run_from Cert.Reference19Ideal.Value.run m ρ
  · intro c; exact ⟨trivial, trivial⟩
  · exact sem_eq_zero_of_no_sems rfl _

end Cert.RopeFwd

end
-- ==== Proof.GateFwd.lean ====
/- The forgetting attention's output projection with the gated merge: the kernel's two results and the reference's as functions of the arguments. -/
module

public import proofs.«01_k».proof.Defs
public import proofs.«01_k».proof.Proof.GateClaim
public import proofs.«01_k».proof.Proof.Delta
public import proofs.«01_k».proof.Proof.Gen.Kernel20.Frame
public import proofs.«01_k».proof.Proof.Gen.Kernel20Ideal.Value
public import proofs.«01_k».proof.Proof.Gen.Reference20Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Gate (sg)
open Cert.Delta (wlane olane)
open Cert.Rope (col)

namespace Cert.GateFwd

/-- An entry of the projection. -/
def prod (o : FVec Ideal ⟨2, ![8192, 512]⟩ .f32) (w : FVec Ideal ⟨2, ![512, 1024]⟩ .f32) (r : Fin 8192) (l : Fin 1024) : EReal :=
  ∑ k : Fin 512, o (ix2 r k) * w (ix2 k l)

/-- The branch. -/
def Gy (o : FVec Ideal ⟨2, ![8192, 512]⟩ .f32) (w : FVec Ideal ⟨2, ![512, 1024]⟩ .f32) : FVec Ideal ⟨2, ![8192, 1024]⟩ .bf16 := fun j => prod o w (j 0) (j 1)

/-- The gated merge of the two branches. -/
def Gm (ga gb y : FVec Ideal ⟨2, ![8192, 1024]⟩ .f32) (o : FVec Ideal ⟨2, ![8192, 512]⟩ .f32) (w : FVec Ideal ⟨2, ![512, 1024]⟩ .f32) :
    FVec Ideal ⟨2, ![8192, 1024]⟩ .bf16 := fun j => sg (ga j) * y j + sg (gb j) * prod o w (j 0) (j 1)

/-- A sum over eight heads of 128 lanes, by head and lane. -/
theorem sum_lanes (f : Fin 1024 → EReal) : ∑ k, f k = ∑ h : Fin 8, ∑ l : Fin 128, f (col h l) := by
  rw [← Fintype.sum_prod_type', ← (finProdFinEquiv : Fin 8 × Fin 128 ≃ Fin (8 * 128)).sum_comp (fun k : Fin (8 * 128) => f k)]
  refine Finset.sum_congr rfl fun p _ => congrArg f (Fin.ext ?_)
  show p.2.val + 128 * p.1.val = 128 * p.1.val + p.2.val
  omega

/-- A sum over eight heads of 64 features, by head and feature. -/
theorem sum_feats (f : Fin 512 → EReal) : ∑ k, f k = ∑ h : Fin 8, ∑ l : Fin 64, f ⟨h.val * 64 + l.val, by omega⟩ := by
  rw [← Fintype.sum_prod_type', ← (finProdFinEquiv : Fin 8 × Fin 64 ≃ Fin (8 * 64)).sum_comp (fun k : Fin (8 * 64) => f k)]
  refine Finset.sum_congr rfl fun p _ => congrArg f (Fin.ext ?_)
  show p.2.val + 64 * p.1.val = p.1.val * 64 + p.2.val
  omega

/-- The padded product is the product: every empty lane is zero on both sides. -/
theorem padded (o : FVec Ideal ⟨2, ![8192, 512]⟩ .f32) (w : FVec Ideal ⟨2, ![512, 1024]⟩ .f32) (R : Fin 8192) (L : Fin 1024) (u v : Fin 1024 → EReal)
    (hu : ∀ h l, u (col h l) = olane o R h l.val) (hv : ∀ h l, v (col h l) = wlane w h l.val L) : ∑ k, u k * v k = prod o w R L := by
  unfold prod
  rw [sum_lanes, sum_feats]
  refine Finset.sum_congr rfl fun h _ => Cert.Delta.half _ _ fun l => ?_
  rw [hu, hv]
  unfold olane wlane
  by_cases hl : l.val < 64
  · simp only [hl, dite_true]
  · simp only [hl, dite_false, mul_zero]

section Kernel

open Cert.Kernel20Ideal Cert.Kernel20Ideal.Gen

variable (m : (ℓ : Loc nD τ sig) → Buf (Elt Ideal) ℓ)

theorem idx : ∀ t : Fin cfg0.N, win0_0.index t = ![t.val / 4, 0] ∧ win0_1.index t = ![0, t.val % 4] ∧ win0_2.index t = ![t.val / 4, t.val % 4]
    ∧ win0_3.index t = ![t.val / 4, t.val % 4 + 4] ∧ win0_4.index t = ![t.val / 4, t.val % 4] ∧ win0_5.index t = ![t.val / 4, t.val % 4]
    ∧ win0_6.index t = ![t.val / 4, t.val % 4] :=
  (by decide +kernel : ∀ t : Fin grid0.N, _)

theorem acc_at (x : FVec Ideal S2048x1024 .bf16) (w : FVec Ideal S1024x256 .bf16) (r : Fin 2048) (l : Fin 256) :
    k0_pay1 (F := Ideal) x w (ix2 r l) = ∑ k : Fin 1024, x (ix2 r k) * w (ix2 k l) := by
  pointwise [k0_pay1]

theorem y_at (x : FVec Ideal S2048x1024 .bf16) (w : FVec Ideal S1024x256 .bf16) (j : S2048x256.Idx) :
    k0_pay2 (F := Ideal) x w j = k0_pay1 (F := Ideal) x w j := by
  unfold k0_pay2
  generalize k0_pay1 (F := Ideal) x w = y
  pointwise

theorem m_at (x : FVec Ideal S2048x1024 .bf16) (w : FVec Ideal S1024x256 .bf16) (a b y : FVec Ideal S2048x256 .bf16) (j : S2048x256.Idx) :
    k0_pay3 (F := Ideal) x w a b y j = sg (a j) * y j + sg (b j) * k0_pay1 (F := Ideal) x w j := by
  unfold k0_pay3 sg
  generalize k0_pay1 (F := Ideal) x w = p
  pointwise
  simp only [zero_sub]

/-- The arguments the region's inputs are made of. -/
abbrev aGa (c : Dev nD) : FVec Ideal S8192x1024 .f32 := m ((c : Thread nD τ).loc main_arg0)
abbrev aGb (c : Dev nD) : FVec Ideal S8192x1024 .f32 := m ((c : Thread nD τ).loc main_arg1)
abbrev aY (c : Dev nD) : FVec Ideal S8192x1024 .f32 := m ((c : Thread nD τ).loc main_arg5)
abbrev aO (c : Dev nD) : FVec Ideal S8192x512 .f32 := m ((c : Thread nD τ).loc main_arg6)
abbrev aW (c : Dev nD) : FVec Ideal S512x1024 .f32 := m ((c : Thread nD τ).loc main_arg7)

theorem V_y (c : Dev nD) : (V m c main_v12 : FVec Ideal S8192x1024 .bf16) = aY m c := by
  unfold V
  simp only [hostOps0, hostOps0_1, hostOps0_2, hostOps0_3, hostOps0_4, List.flatten_cons, List.flatten_nil, List.cons_append, List.nil_append, List.append_nil,
    StableHlo.TRef.binary, StableHlo.TRef.unary, StableHlo.TRef.toBuf, StableHlo.TRef.ofBuf, cast_eq]
  after_results_simp
  rfl

theorem V_z (c : Dev nD) : (V m c main_v1 : FVec Ideal S8192x3584 .bf16)
    = concatenate S8192x3584 1 [⟨S8192x1024, aGa m c⟩, ⟨S8192x1024, aGb m c⟩, ⟨S8192x512, (m ((c : Thread nD τ).loc main_arg2) : FVec Ideal S8192x512 .f32)⟩,
      ⟨S8192x512, (m ((c : Thread nD τ).loc main_arg3) : FVec Ideal S8192x512 .f32)⟩, ⟨S8192x512, (m ((c : Thread nD τ).loc main_arg4) : FVec Ideal S8192x512 .f32)⟩]
      concatenates_S8192x1024_S8192x1024_S8192x512_S8192x512_S8192x512_S8192x3584_d1 := by
  unfold V
  simp only [hostOps0, hostOps0_1, hostOps0_2, hostOps0_3, hostOps0_4, List.flatten_cons, List.flatten_nil, List.cons_append, List.nil_append, List.append_nil,
    StableHlo.TRef.binary, StableHlo.TRef.unary, StableHlo.TRef.toBuf, StableHlo.TRef.ofBuf, cast_eq]
  after_results_simp
  rfl

theorem z_a (c : Dev nD) (R : Fin 8192) (l : Fin 1024) : (V m c main_v1 : FVec Ideal S8192x3584 .bf16) (ix2 R ⟨l.val, by omega⟩) = aGa m c (ix2 R l) := by
  rw [V_z]
  pointwise

theorem z_b (c : Dev nD) (R : Fin 8192) (l : Fin 1024) : (V m c main_v1 : FVec Ideal S8192x3584 .bf16) (ix2 R ⟨1024 + l.val, by omega⟩) = aGb m c (ix2 R l) := by
  rw [V_z]
  pointwise

theorem V_o (c : Dev nD) (R : Fin 8192) (h : Fin 8) (l : Fin 128) : (V m c main_v5 : FVec Ideal S8192x1024 .bf16) (ix2 R (col h l)) = olane (aO m c) R h l.val := by
  unfold Cert.Rope.col olane
  unfold V
  simp only [hostOps0, hostOps0_1, hostOps0_2, hostOps0_3, hostOps0_4, List.flatten_cons, List.flatten_nil, List.cons_append, List.nil_append, List.append_nil,
    StableHlo.TRef.binary, StableHlo.TRef.unary, StableHlo.TRef.toBuf, StableHlo.TRef.ofBuf, cast_eq]
  after_results_simp
  pointwise
  have e1 : (128 * h.val + l.val) / 128 = h.val := by omega
  have e2 : (128 * h.val + l.val) % 128 = l.val := by omega
  simp only [e1, e2]
  by_cases h1 : l.val < 64
  · simp only [h1, h.isLt, and_self, dite_true]
  · simp only [h1, and_false, dite_false]
    exact Cert.Rope.zero_word

theorem V_w (c : Dev nD) (h : Fin 8) (l : Fin 128) (k : Fin 1024) : (V m c main_v11 : FVec Ideal S1024x1024 .bf16) (ix2 (col h l) k) = wlane (aW m c) h l.val k := by
  unfold Cert.Rope.col wlane
  unfold V
  simp only [hostOps0, hostOps0_1, hostOps0_2, hostOps0_3, hostOps0_4, List.flatten_cons, List.flatten_nil, List.cons_append, List.nil_append, List.append_nil,
    StableHlo.TRef.binary, StableHlo.TRef.unary, StableHlo.TRef.toBuf, StableHlo.TRef.ofBuf, cast_eq]
  after_results_simp
  pointwise
  have e1 : (128 * h.val + l.val) / 128 = h.val := by omega
  have e2 : (128 * h.val + l.val) % 128 = l.val := by omega
  simp only [e1, e2]
  by_cases h1 : l.val < 64
  · simp only [h1, h.isLt, and_self, dite_true]
  · simp only [h1, and_false, dite_false]
    exact Cert.Rope.zero_word

/-- The blocks at a point. -/
theorem ga_at (c : Dev nD) (t : Fin cfg0.N) (r : Fin 2048) (l : Fin 256) (R : Fin 8192) (L : Fin 1024) (hR : R.val = t.val / 4 * 2048 + r.val)
    (hL : L.val = t.val % 4 * 256 + l.val) : (iblk m c 2 t : FVec Ideal S2048x256 .bf16) (ix2 r l) = aGa m c (ix2 R L) := by
  have ht : t.val < 16 := lt_of_lt_of_eq t.isLt N_0
  rw [← z_a]
  blk_point [iblk, idx t]

theorem gb_at (c : Dev nD) (t : Fin cfg0.N) (r : Fin 2048) (l : Fin 256) (R : Fin 8192) (L : Fin 1024) (hR : R.val = t.val / 4 * 2048 + r.val)
    (hL : L.val = t.val % 4 * 256 + l.val) : (iblk m c 3 t : FVec Ideal S2048x256 .bf16) (ix2 r l) = aGb m c (ix2 R L) := by
  have ht : t.val < 16 := lt_of_lt_of_eq t.isLt N_0
  rw [← z_b]
  blk_point [iblk, idx t]

theorem ya_at (c : Dev nD) (t : Fin cfg0.N) (r : Fin 2048) (l : Fin 256) (R : Fin 8192) (L : Fin 1024) (hR : R.val = t.val / 4 * 2048 + r.val)
    (hL : L.val = t.val % 4 * 256 + l.val) : (iblk m c 4 t : FVec Ideal S2048x256 .bf16) (ix2 r l) = aY m c (ix2 R L) := by
  have ht : t.val < 16 := lt_of_lt_of_eq t.isLt N_0
  rw [← V_y]
  blk_point [iblk, idx t]

theorem prod_at (c : Dev nD) (t : Fin cfg0.N) (r : Fin 2048) (l : Fin 256) (R : Fin 8192) (L : Fin 1024) (hR : R.val = t.val / 4 * 2048 + r.val)
    (hL : L.val = t.val % 4 * 256 + l.val) :
    k0_pay1 (F := Ideal) (iblk m c 0 t : FVec Ideal S2048x1024 .bf16) (iblk m c 1 t : FVec Ideal S1024x256 .bf16) (ix2 r l) = prod (aO m c) (aW m c) R L := by
  have ht : t.val < 16 := lt_of_lt_of_eq t.isLt N_0
  rw [acc_at]
  refine padded _ _ R L (fun k => (iblk m c 0 t : FVec Ideal S2048x1024 .bf16) (ix2 r k)) (fun k => (iblk m c 1 t : FVec Ideal S1024x256 .bf16) (ix2 k l)) (fun h x => ?_) (fun h x => ?_)
  · rw [← V_o]; unfold Cert.Rope.col; blk_point [iblk, idx t]
  · rw [← V_w]; unfold Cert.Rope.col; blk_point [iblk, idx t]

theorem final_y (c : Dev nD) : (dats m 0 c).arrAt 5 (cfgs 0).N = Gy (aO m c) (aW m c) := by
  refine (dats m 0 c).arrAt_eq_of_covers 5 _ (by decide +kernel) fun t _ y => ?_
  have ht : t.val < 16 := lt_of_lt_of_eq t.isLt N_0
  blk_simp
  rw [after0_5]
  frame_out
  idx_vars y
  obtain_idx i : S8192x1024 := [t.val / 4 * 2048 + (y0 : ℕ), t.val % 4 * 256 + (y1 : ℕ)] with hi
  refine Eq.trans (b := Gy (aO m c) (aW m c) i) ?_ (congrArg _ ?_)
  · exact (y_at _ _ _).trans (prod_at m c t y0 y1 (i 0) (i 1) hi0 hi1)
  · blk_ext [idx t]

theorem final_m (c : Dev nD) : (dats m 0 c).arrAt 6 (cfgs 0).N = Gm (aGa m c) (aGb m c) (aY m c) (aO m c) (aW m c) := by
  refine (dats m 0 c).arrAt_eq_of_covers 6 _ (by decide +kernel) fun t _ y => ?_
  have ht : t.val < 16 := lt_of_lt_of_eq t.isLt N_0
  blk_simp
  rw [after0_6]
  frame_out
  idx_vars y
  obtain_idx i : S8192x1024 := [t.val / 4 * 2048 + (y0 : ℕ), t.val % 4 * 256 + (y1 : ℕ)] with hi
  refine Eq.trans (b := Gm (aGa m c) (aGb m c) (aY m c) (aO m c) (aW m c) i) ?_ (congrArg _ ?_)
  · refine (m_at _ _ _ _ _ _).trans ?_
    rw [ga_at m c t y0 y1 (i 0) (i 1) hi0 hi1, gb_at m c t y0 y1 (i 0) (i 1) hi0 hi1, ya_at m c t y0 y1 (i 0) (i 1) hi0 hi1, prod_at m c t y0 y1 (i 0) (i 1) hi0 hi1, ← eq_ix2 i]
    rfl
  · blk_ext [idx t]

end Kernel

theorem algebraic : Cert.algebraic_Kernel20Ideal_Reference20Ideal := by
  pair_intro
  · run_from Cert.Kernel20Ideal.Gen.run_main m g
    · exact Cert.Kernel20Ideal.Gen.V_main_arg0 m c
    · exact Cert.Kernel20Ideal.Gen.V_main_arg1 m c
    · exact Cert.Kernel20Ideal.Gen.V_main_arg2 m c
    · exact Cert.Kernel20Ideal.Gen.V_main_arg3 m c
    · exact Cert.Kernel20Ideal.Gen.V_main_arg4 m c
    · exact Cert.Kernel20Ideal.Gen.V_main_arg5 m c
    · exact Cert.Kernel20Ideal.Gen.V_main_arg6 m c
    · exact Cert.Kernel20Ideal.Gen.V_main_arg7 m c
  · run_from Cert.Reference20Ideal.Value.run m' g'
    · rw [final_y m c]; funext j; idx_vars j; pointwise [Gy, prod]
    · rw [final_m m c]; funext j; idx_vars j; pointwise [Gm, prod, sg]

theorem frame_reference : Cert.quiescent_Reference20Ideal := by
  intro m ρ _
  run_from Cert.Reference20Ideal.Value.run m ρ
  · intro c; exact ⟨trivial, trivial, trivial, trivial, trivial, trivial, trivial, trivial⟩
  · exact sem_eq_zero_of_no_sems rfl _

end Cert.GateFwd

end
-- ==== Proof.SharedFwd.lean ====
/- The shared keys and values of the latent attention: the kernel's two results and the reference's as functions of the arguments. -/
module

public import proofs.«01_k».proof.Defs
public import proofs.«01_k».proof.Proof.RopeFwd
public import proofs.«01_k».proof.Proof.Gen.Kernel21.Frame
public import proofs.«01_k».proof.Proof.Gen.Kernel21Ideal.Value
public import proofs.«01_k».proof.Proof.Gen.Reference21Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Rope (turn tc ta tb col col_cases)
open Cert.RopeFwd (three fwd three_eq)

namespace Cert.SharedFwd

/-- Lane `l` of a head whose 64 columns are padded with zeros. -/
def wide (x : FVec Ideal ⟨2, ![8192, 512]⟩ .f32) (R : Fin 8192) (h : Fin 8) (l : ℕ) : EReal :=
  if hl : l < 64 then x (ix2 R ⟨h.val * 64 + l, by omega⟩) else 0

/-- Lane `l` of the row that carries the shared rotary part. -/
def tail (k : FVec Ideal ⟨2, ![8192, 32]⟩ .f32) (R : Fin 8192) (l : ℕ) : EReal :=
  if hl : 64 ≤ l ∧ l < 96 then k (ix2 R ⟨l - 64, by omega⟩) else 0

/-- Lane `l` of a head of keys: the head's own columns, the turned shared part, three ones. -/
def key (p : IVec ⟨1, ![8192]⟩ 32) (x : FVec Ideal ⟨2, ![8192, 512]⟩ .f32) (k : FVec Ideal ⟨2, ![8192, 32]⟩ .f32) (R : Fin 8192) (h : Fin 8) (l : ℕ) : EReal :=
  if l < 64 then wide x R h l else if 96 ≤ l ∧ l < 99 then 1 else fwd (p (ix1 R)) (tail k R) l

/-- Lane `l` of a head of values: the head's own columns and three ones. -/
def val (x : FVec Ideal ⟨2, ![8192, 512]⟩ .f32) (R : Fin 8192) (h : Fin 8) (l : ℕ) : EReal :=
  if 64 ≤ l ∧ l < 67 then 1 else wide x R h l

/-- All keys. -/
def Gk (p : IVec ⟨1, ![8192]⟩ 32) (x : FVec Ideal ⟨2, ![8192, 512]⟩ .f32) (k : FVec Ideal ⟨2, ![8192, 32]⟩ .f32) : FVec Ideal ⟨2, ![8192, 1024]⟩ .bf16 := fun j =>
  key p x k (j 0) ⟨(j 1).val / 128, by have := (j 1).isLt; simp at this; omega⟩ ((j 1).val % 128)

/-- All values. -/
def Gv (x : FVec Ideal ⟨2, ![8192, 512]⟩ .f32) : FVec Ideal ⟨2, ![8192, 1024]⟩ .bf16 := fun j =>
  val x (j 0) ⟨(j 1).val / 128, by have := (j 1).isLt; simp at this; omega⟩ ((j 1).val % 128)

theorem Gk_at (p : IVec ⟨1, ![8192]⟩ 32) (x : FVec Ideal ⟨2, ![8192, 512]⟩ .f32) (k : FVec Ideal ⟨2, ![8192, 32]⟩ .f32) (R : Fin 8192) (h : Fin 8) (l : Fin 128) :
    Gk p x k (ix2 R (col h l)) = key p x k R h l.val := by
  have e1 : (128 * h.val + l.val) / 128 = h.val := by omega
  have e2 : (128 * h.val + l.val) % 128 = l.val := by omega
  show key p x k R ⟨(128 * h.val + l.val) / 128, _⟩ ((128 * h.val + l.val) % 128) = _
  rw [e2]
  congr 1
  exact Fin.ext e1

theorem Gv_at (x : FVec Ideal ⟨2, ![8192, 512]⟩ .f32) (R : Fin 8192) (h : Fin 8) (l : Fin 128) :
    Gv x (ix2 R (col h l)) = val x R h l.val := by
  have e1 : (128 * h.val + l.val) / 128 = h.val := by omega
  have e2 : (128 * h.val + l.val) % 128 = l.val := by omega
  show val x R ⟨(128 * h.val + l.val) / 128, _⟩ ((128 * h.val + l.val) % 128) = _
  rw [e2]
  congr 1
  exact Fin.ext e1

/-- Choosing by the lane's place below 64. -/
theorem below (l : Fin 128) (a b : EReal) : Scalar.select (IntOp.cmpi .slt (BitVec.ofNat 32 l.val) 64#32) a b = if l.val < 64 then a else b := by
  have hl := l.isLt
  word_cmp

/-- Choosing by the lane's place between two bounds: the keys' ones. -/
theorem within_k (l : Fin 128) (a b : EReal) :
    Scalar.select (IntOp.andi (IntOp.cmpi .sge (BitVec.ofNat 32 l.val) 96#32) (IntOp.cmpi .slt (BitVec.ofNat 32 l.val) 99#32)) a b = if 96 ≤ l.val ∧ l.val < 99 then a else b := by
  have hl := l.isLt
  word_cmp

/-- The same for the values' ones. -/
theorem within_v (l : Fin 128) (a b : EReal) :
    Scalar.select (IntOp.andi (IntOp.cmpi .sge (BitVec.ofNat 32 l.val) 64#32) (IntOp.cmpi .slt (BitVec.ofNat 32 l.val) 67#32)) a b = if 64 ≤ l.val ∧ l.val < 67 then a else b := by
  have hl := l.isLt
  word_cmp

section Kernel

open Cert.Kernel21Ideal Cert.Kernel21Ideal.Gen

variable (m : (ℓ : Loc nD τ sig) → Buf (Elt Ideal) ℓ)

theorem idx : ∀ t : Fin cfg0.N, win0_0.index t = ![t.val, 0] ∧ win0_1.index t = ![t.val, 1] ∧ win0_2.index t = ![t.val, 3]
    ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- Row `r` of a block of tables. -/
abbrev row (x : FVec Ideal S1024x128 .f32) (r : Fin 1024) : Fin 128 → EReal := fun l => x (ix2 r l)

theorem tail_at (x c a b : FVec Ideal S1024x128 .f32) (r : Fin 1024) (l : Fin 128) :
    k0_pay5 (F := Ideal) x c a b (ix2 r l) = if 96 ≤ l.val ∧ l.val < 99 then (1 : EReal) else three (row x r) (row c r) (row a r) (row b r) l := by
  unfold three row
  have e1 : (l.val + 128 - 112) % 128 = (l.val + 16) % 128 := by omega
  have e2 : (l.val + 128 - 16) % 128 = (l.val + 112) % 128 := by omega
  pointwise [k0_pay5]
  rw [within_k]
  simp only [e1, e2]

theorem key_block (t : FVec Ideal S1024x128 .f32) (x : FVec Ideal S1024x128 .bf16) (r : Fin 1024) (l : Fin 128) :
    k0_pay15 (F := Ideal) (iota .tc S1024x128 32 [1] iota_S1024x128_d1_w32) t x (ix2 r l) = if l.val < 64 then (x (ix2 r l) : EReal) else t (ix2 r l) := by
  pointwise [k0_pay15]
  exact below l _ _

/-- A block of values: the ones laid over it. -/
def ones (x : FVec Ideal S1024x128 .bf16) : FVec Ideal S1024x128 .f32 :=
  select (k0_pay6) (broadcast S1024x128 (Scalar.ofBits .f32 0x3F800000#32)) (extf .f32 x bitsLt_bf16_f32)

theorem ones_at (x : FVec Ideal S1024x128 .bf16) (r : Fin 1024) (l : Fin 128) :
    ones x (ix2 r l) = if 64 ≤ l.val ∧ l.val < 67 then (1 : EReal) else x (ix2 r l) := by
  pointwise [ones, k0_pay6]
  exact within_v l _ _

theorem kb0 (x0 : FVec Ideal S1024x1024 .bf16) (r : Fin 1024) (l : Fin 128) : (k0_pay7 (F := Ideal) x0 (ix2 r l) : EReal) = x0 (ix2 r (col 0 l)) := by
  unfold Cert.Rope.col; pointwise [k0_pay7, k0_pay3]

theorem kb1 (x0 : FVec Ideal S1024x1024 .bf16) (r : Fin 1024) (l : Fin 128) : (k0_pay8 (F := Ideal) x0 (ix2 r l) : EReal) = x0 (ix2 r (col 1 l)) := by
  unfold Cert.Rope.col; pointwise [k0_pay8, k0_pay3]

theorem kb2 (x0 : FVec Ideal S1024x1024 .bf16) (r : Fin 1024) (l : Fin 128) : (k0_pay9 (F := Ideal) x0 (ix2 r l) : EReal) = x0 (ix2 r (col 2 l)) := by
  unfold Cert.Rope.col; pointwise [k0_pay9, k0_pay3]

theorem kb3 (x0 : FVec Ideal S1024x1024 .bf16) (r : Fin 1024) (l : Fin 128) : (k0_pay10 (F := Ideal) x0 (ix2 r l) : EReal) = x0 (ix2 r (col 3 l)) := by
  unfold Cert.Rope.col; pointwise [k0_pay10, k0_pay3]

theorem kb4 (x0 : FVec Ideal S1024x1024 .bf16) (r : Fin 1024) (l : Fin 128) : (k0_pay11 (F := Ideal) x0 (ix2 r l) : EReal) = x0 (ix2 r (col 4 l)) := by
  unfold Cert.Rope.col; pointwise [k0_pay11, k0_pay3]

theorem kb5 (x0 : FVec Ideal S1024x1024 .bf16) (r : Fin 1024) (l : Fin 128) : (k0_pay12 (F := Ideal) x0 (ix2 r l) : EReal) = x0 (ix2 r (col 5 l)) := by
  unfold Cert.Rope.col; pointwise [k0_pay12, k0_pay3]

theorem kb6 (x0 : FVec Ideal S1024x1024 .bf16) (r : Fin 1024) (l : Fin 128) : (k0_pay13 (F := Ideal) x0 (ix2 r l) : EReal) = x0 (ix2 r (col 6 l)) := by
  unfold Cert.Rope.col; pointwise [k0_pay13, k0_pay3]

theorem kb7 (x0 : FVec Ideal S1024x1024 .bf16) (r : Fin 1024) (l : Fin 128) : (k0_pay14 (F := Ideal) x0 (ix2 r l) : EReal) = x0 (ix2 r (col 7 l)) := by
  unfold Cert.Rope.col; pointwise [k0_pay14, k0_pay3]

theorem lanes_eq (x0 x1 : FVec Ideal S1024x1024 .bf16) (x2 x3 x4 x5 : FVec Ideal S1024x128 .f32) :
    k0_pay31 (F := Ideal) x0 x1 x2 x3 x4 x5 = iota .tc S1024x128 32 [1] iota_S1024x128_d1_w32 := rfl

theorem tail_eq (x0 x1 : FVec Ideal S1024x1024 .bf16) (x2 x3 x4 x5 : FVec Ideal S1024x128 .f32) :
    k0_pay33 (F := Ideal) x0 x1 x2 x3 x4 x5 = k0_pay5 x2 x3 x4 x5 := by
  unfold k0_pay33
  frame_out

theorem mask_eq (x0 x1 : FVec Ideal S1024x1024 .bf16) (x2 x3 x4 x5 : FVec Ideal S1024x128 .f32) :
    k0_pay34 (F := Ideal) x0 x1 x2 x3 x4 x5 = k0_pay6 := rfl

theorem all_eq (x0 x1 : FVec Ideal S1024x1024 .bf16) (x2 x3 x4 x5 : FVec Ideal S1024x128 .f32) :
    k0_pay32 (F := Ideal) x0 x1 x2 x3 x4 x5 = x1 := by
  unfold k0_pay32
  frame_out
  funext j
  pointwise [k0_pay4]

theorem out_k (x0 x1 : FVec Ideal S1024x1024 .bf16) (x2 x3 x4 x5 : FVec Ideal S1024x128 .f32) (r : Fin 1024) (h : Fin 8) (l : Fin 128) :
    k0_pay1 (F := Ideal) (k0_pay15 (k0_pay31 (F := Ideal) x0 x1 x2 x3 x4 x5) (k0_pay33 (F := Ideal) x0 x1 x2 x3 x4 x5) (k0_pay7 x0)) (k0_pay16 (k0_pay31 (F := Ideal) x0 x1 x2 x3 x4 x5) (k0_pay33 (F := Ideal) x0 x1 x2 x3 x4 x5) (k0_pay8 x0)) (k0_pay17 (k0_pay31 (F := Ideal) x0 x1 x2 x3 x4 x5) (k0_pay33 (F := Ideal) x0 x1 x2 x3 x4 x5) (k0_pay9 x0)) (k0_pay18 (k0_pay31 (F := Ideal) x0 x1 x2 x3 x4 x5) (k0_pay33 (F := Ideal) x0 x1 x2 x3 x4 x5) (k0_pay10 x0)) (k0_pay19 (k0_pay31 (F := Ideal) x0 x1 x2 x3 x4 x5) (k0_pay33 (F := Ideal) x0 x1 x2 x3 x4 x5) (k0_pay11 x0)) (k0_pay20 (k0_pay31 (F := Ideal) x0 x1 x2 x3 x4 x5) (k0_pay33 (F := Ideal) x0 x1 x2 x3 x4 x5) (k0_pay12 x0)) (k0_pay21 (k0_pay31 (F := Ideal) x0 x1 x2 x3 x4 x5) (k0_pay33 (F := Ideal) x0 x1 x2 x3 x4 x5) (k0_pay13 x0)) (k0_pay22 (k0_pay31 (F := Ideal) x0 x1 x2 x3 x4 x5) (k0_pay33 (F := Ideal) x0 x1 x2 x3 x4 x5) (k0_pay14 x0)) (ix2 r (col h l))
      = if l.val < 64 then (x0 (ix2 r (col h l)) : EReal) else if 96 ≤ l.val ∧ l.val < 99 then (1 : EReal) else three (row x2 r) (row x3 r) (row x4 r) (row x5 r) l := by
  rw [lanes_eq, tail_eq]
  refine (Cert.Rope.cat_at _ _ _ _ _ _ _ _ r h l).trans ?_
  rw [← tail_at x2 x3 x4 x5 r l]
  generalize k0_pay5 (F := Ideal) x2 x3 x4 x5 = y
  fin_cases h
  · exact (key_block y (k0_pay7 x0) r l).trans (by rw [kb0]; rfl)
  · exact (key_block y (k0_pay8 x0) r l).trans (by rw [kb1]; rfl)
  · exact (key_block y (k0_pay9 x0) r l).trans (by rw [kb2]; rfl)
  · exact (key_block y (k0_pay10 x0) r l).trans (by rw [kb3]; rfl)
  · exact (key_block y (k0_pay11 x0) r l).trans (by rw [kb4]; rfl)
  · exact (key_block y (k0_pay12 x0) r l).trans (by rw [kb5]; rfl)
  · exact (key_block y (k0_pay13 x0) r l).trans (by rw [kb6]; rfl)
  · exact (key_block y (k0_pay14 x0) r l).trans (by rw [kb7]; rfl)

theorem vb0 (x1 : FVec Ideal S1024x1024 .bf16) (r : Fin 1024) (l : Fin 128) :
    (extractStridedSlice S1024x128 ![0, 0] x1 slices_S1024x1024_o0_0_S1024x128 (ix2 r l) : EReal) = x1 (ix2 r (col 0 l)) := by
  unfold Cert.Rope.col; pointwise

theorem vb1 (x1 : FVec Ideal S1024x1024 .bf16) (r : Fin 1024) (l : Fin 128) :
    (extractStridedSlice S1024x128 ![0, 128] x1 slices_S1024x1024_o0_128_S1024x128 (ix2 r l) : EReal) = x1 (ix2 r (col 1 l)) := by
  unfold Cert.Rope.col; pointwise

theorem vb2 (x1 : FVec Ideal S1024x1024 .bf16) (r : Fin 1024) (l : Fin 128) :
    (extractStridedSlice S1024x128 ![0, 256] x1 slices_S1024x1024_o0_256_S1024x128 (ix2 r l) : EReal) = x1 (ix2 r (col 2 l)) := by
  unfold Cert.Rope.col; pointwise

theorem vb3 (x1 : FVec Ideal S1024x1024 .bf16) (r : Fin 1024) (l : Fin 128) :
    (extractStridedSlice S1024x128 ![0, 384] x1 slices_S1024x1024_o0_384_S1024x128 (ix2 r l) : EReal) = x1 (ix2 r (col 3 l)) := by
  unfold Cert.Rope.col; pointwise

theorem vb4 (x1 : FVec Ideal S1024x1024 .bf16) (r : Fin 1024) (l : Fin 128) :
    (extractStridedSlice S1024x128 ![0, 512] x1 slices_S1024x1024_o0_512_S1024x128 (ix2 r l) : EReal) = x1 (ix2 r (col 4 l)) := by
  unfold Cert.Rope.col; pointwise

theorem vb5 (x1 : FVec Ideal S1024x1024 .bf16) (r : Fin 1024) (l : Fin 128) :
    (extractStridedSlice S1024x128 ![0, 640] x1 slices_S1024x1024_o0_640_S1024x128 (ix2 r l) : EReal) = x1 (ix2 r (col 5 l)) := by
  unfold Cert.Rope.col; pointwise

theorem vb6 (x1 : FVec Ideal S1024x1024 .bf16) (r : Fin 1024) (l : Fin 128) :
    (extractStridedSlice S1024x128 ![0, 768] x1 slices_S1024x1024_o0_768_S1024x128 (ix2 r l) : EReal) = x1 (ix2 r (col 6 l)) := by
  unfold Cert.Rope.col; pointwise

theorem vb7 (x1 : FVec Ideal S1024x1024 .bf16) (r : Fin 1024) (l : Fin 128) :
    (extractStridedSlice S1024x128 ![0, 896] x1 slices_S1024x1024_o0_896_S1024x128 (ix2 r l) : EReal) = x1 (ix2 r (col 7 l)) := by
  unfold Cert.Rope.col; pointwise

theorem out_v (x0 x1 : FVec Ideal S1024x1024 .bf16) (x2 x3 x4 x5 : FVec Ideal S1024x128 .f32) (r : Fin 1024) (h : Fin 8) (l : Fin 128) :
    k0_pay2 (F := Ideal) (k0_pay34 (F := Ideal) x0 x1 x2 x3 x4 x5) (k0_pay23 (k0_pay32 (F := Ideal) x0 x1 x2 x3 x4 x5)) (k0_pay24 (k0_pay32 (F := Ideal) x0 x1 x2 x3 x4 x5)) (k0_pay25 (k0_pay32 (F := Ideal) x0 x1 x2 x3 x4 x5)) (k0_pay26 (k0_pay32 (F := Ideal) x0 x1 x2 x3 x4 x5)) (k0_pay27 (k0_pay32 (F := Ideal) x0 x1 x2 x3 x4 x5)) (k0_pay28 (k0_pay32 (F := Ideal) x0 x1 x2 x3 x4 x5) (k0_pay34 (F := Ideal) x0 x1 x2 x3 x4 x5)) (k0_pay29 (k0_pay32 (F := Ideal) x0 x1 x2 x3 x4 x5) (k0_pay34 (F := Ideal) x0 x1 x2 x3 x4 x5)) (k0_pay30 (k0_pay32 (F := Ideal) x0 x1 x2 x3 x4 x5) (k0_pay34 (F := Ideal) x0 x1 x2 x3 x4 x5)) (ix2 r (col h l))
      = if 64 ≤ l.val ∧ l.val < 67 then (1 : EReal) else x1 (ix2 r (col h l)) := by
  rw [all_eq, mask_eq]
  refine (Cert.Rope.cat_at _ _ _ _ _ _ _ _ r h l).trans ?_
  fin_cases h
  · exact (ones_at (extractStridedSlice S1024x128 ![0, 0] x1 slices_S1024x1024_o0_0_S1024x128) r l).trans (by rw [vb0])
  · exact (ones_at (extractStridedSlice S1024x128 ![0, 128] x1 slices_S1024x1024_o0_128_S1024x128) r l).trans (by rw [vb1])
  · exact (ones_at (extractStridedSlice S1024x128 ![0, 256] x1 slices_S1024x1024_o0_256_S1024x128) r l).trans (by rw [vb2])
  · exact (ones_at (extractStridedSlice S1024x128 ![0, 384] x1 slices_S1024x1024_o0_384_S1024x128) r l).trans (by rw [vb3])
  · exact (ones_at (extractStridedSlice S1024x128 ![0, 512] x1 slices_S1024x1024_o0_512_S1024x128) r l).trans (by rw [vb4])
  · exact (ones_at (extractStridedSlice S1024x128 ![0, 640] x1 slices_S1024x1024_o0_640_S1024x128) r l).trans (by rw [vb5])
  · exact (ones_at (extractStridedSlice S1024x128 ![0, 768] x1 slices_S1024x1024_o0_768_S1024x128) r l).trans (by rw [vb6])
  · exact (ones_at (extractStridedSlice S1024x128 ![0, 896] x1 slices_S1024x1024_o0_896_S1024x128) r l).trans (by rw [vb7])

/-- The positions. -/
abbrev posn (c : Dev nD) : IVec S8192 32 := m ((c : Thread nD τ).loc main_arg6)

theorem V_c (c : Dev nD) (R : Fin 8192) (l : Fin 128) :
    (V m c main_v16 : FVec Ideal S8192x128 .f32) (ix2 R l) = tc (posn m c (ix1 R)) l.val := by
  unfold V
  simp only [hostOps0, hostOps0_1, hostOps0_2, hostOps0_3, hostOps0_4, hostOps0_5, hostOps0_6, hostOps0_7, hostOps0_8, List.flatten_cons, List.flatten_nil, List.cons_append, List.nil_append, List.append_nil,
    StableHlo.TRef.binary, StableHlo.TRef.unary, StableHlo.TRef.toBuf, StableHlo.TRef.ofBuf, cast_eq]
  after_results_simp
  pointwise
  after_results_simp
  pointwise
  unfold tc turn
  have e : l.val - 64 - 16 = l.val - 80 := by omega
  simp only [e]
  split_ifs <;> first | omega | rfl

theorem V_a (c : Dev nD) (R : Fin 8192) (l : Fin 128) :
    (V m c main_v20 : FVec Ideal S8192x128 .f32) (ix2 R l) = ta (posn m c (ix1 R)) l.val := by
  unfold V
  simp only [hostOps0, hostOps0_1, hostOps0_2, hostOps0_3, hostOps0_4, hostOps0_5, hostOps0_6, hostOps0_7, hostOps0_8, List.flatten_cons, List.flatten_nil, List.cons_append, List.nil_append, List.append_nil,
    StableHlo.TRef.binary, StableHlo.TRef.unary, StableHlo.TRef.toBuf, StableHlo.TRef.ofBuf, cast_eq]
  after_results_simp
  pointwise
  after_results_simp
  pointwise
  unfold ta turn
  split_ifs <;> first | omega | rfl

theorem V_b (c : Dev nD) (R : Fin 8192) (l : Fin 128) :
    (V m c main_v22 : FVec Ideal S8192x128 .f32) (ix2 R l) = tb (posn m c (ix1 R)) l.val := by
  unfold V
  simp only [hostOps0, hostOps0_1, hostOps0_2, hostOps0_3, hostOps0_4, hostOps0_5, hostOps0_6, hostOps0_7, hostOps0_8, List.flatten_cons, List.flatten_nil, List.cons_append, List.nil_append, List.append_nil,
    StableHlo.TRef.binary, StableHlo.TRef.unary, StableHlo.TRef.toBuf, StableHlo.TRef.ofBuf, cast_eq]
  after_results_simp
  pointwise
  after_results_simp
  pointwise
  unfold tb turn
  split_ifs <;> first | omega | rfl

theorem V_z (c : Dev nD) (R : Fin 8192) (l : Fin 128) :
    (V m c main_v25 : FVec Ideal S8192x640 .f32) (ix2 R ⟨384 + l.val, by omega⟩) = tail (m ((c : Thread nD τ).loc main_arg4)) R l.val := by
  unfold tail
  unfold V
  simp only [hostOps0, hostOps0_1, hostOps0_2, hostOps0_3, hostOps0_4, hostOps0_5, hostOps0_6, hostOps0_7, hostOps0_8, List.flatten_cons, List.flatten_nil, List.cons_append, List.nil_append, List.append_nil,
    StableHlo.TRef.binary, StableHlo.TRef.unary, StableHlo.TRef.toBuf, StableHlo.TRef.ofBuf, cast_eq]
  after_results_simp
  pointwise
  after_results_simp
  pointwise
  have a1 : ¬ 384 + l.val < 256 := by omega
  have a2 : ¬ 384 + l.val - 256 < 128 := by omega
  have a3 : 384 + l.val - 256 - 128 = l.val := by omega
  have a4 : l.val < 128 := l.isLt
  simp only [a1, a2, a3, a4, dite_true, dite_false]
  by_cases h1 : 64 ≤ l.val ∧ l.val < 96
  · have a5 : 64 ≤ l.val ∧ l.val - 64 < 32 := by omega
    simp only [h1, a5, and_self, dite_true]
  · have a5 : ¬ (64 ≤ l.val ∧ l.val - 64 < 32) := by omega
    simp only [h1, a5, dite_false]
    exact Cert.Rope.zero_word

theorem V_k (c : Dev nD) (R : Fin 8192) (h : Fin 8) (l : Fin 128) :
    (V m c main_v33 : FVec Ideal S8192x2048 .bf16) (ix2 R ⟨(col h l).val, by have := (col h l).isLt; omega⟩) = wide (m ((c : Thread nD τ).loc main_arg0)) R h l.val := by
  unfold col wide
  unfold V
  simp only [hostOps0, hostOps0_1, hostOps0_2, hostOps0_3, hostOps0_4, hostOps0_5, hostOps0_6, hostOps0_7, hostOps0_8, List.flatten_cons, List.flatten_nil, List.cons_append, List.nil_append, List.append_nil,
    StableHlo.TRef.binary, StableHlo.TRef.unary, StableHlo.TRef.toBuf, StableHlo.TRef.ofBuf, cast_eq]
  after_results_simp
  pointwise
  after_results_simp
  pointwise
  have a1 : 128 * h.val + l.val < 1024 := by omega
  simp only [a1, dite_true]
  by_cases h1 : l.val < 64
  · simp only [h1, dite_true]
  · simp only [h1, dite_false]
    exact Cert.Rope.zero_word

theorem V_v (c : Dev nD) (R : Fin 8192) (h : Fin 8) (l : Fin 128) :
    (V m c main_v33 : FVec Ideal S8192x2048 .bf16) (ix2 R ⟨1024 + (col h l).val, by have := (col h l).isLt; omega⟩) = wide (m ((c : Thread nD τ).loc main_arg1)) R h l.val := by
  unfold col wide
  unfold V
  simp only [hostOps0, hostOps0_1, hostOps0_2, hostOps0_3, hostOps0_4, hostOps0_5, hostOps0_6, hostOps0_7, hostOps0_8, List.flatten_cons, List.flatten_nil, List.cons_append, List.nil_append, List.append_nil,
    StableHlo.TRef.binary, StableHlo.TRef.unary, StableHlo.TRef.toBuf, StableHlo.TRef.ofBuf, cast_eq]
  after_results_simp
  pointwise
  after_results_simp
  pointwise
  by_cases h1 : l.val < 64
  · simp only [h1, dite_true]
  · simp only [h1, dite_false]
    exact Cert.Rope.zero_word

theorem final_k (c : Dev nD) : (dats m 0 c).arrAt 6 (cfgs 0).N
    = Gk (m ((c : Thread nD τ).loc main_arg6)) (m ((c : Thread nD τ).loc main_arg0)) (m ((c : Thread nD τ).loc main_arg4)) := by
  refine (dats m 0 c).arrAt_eq_of_covers 6 _ (by decide +kernel) fun t _ y => ?_
  have ht : t.val < 8 := lt_of_lt_of_eq t.isLt N_0
  blk_simp
  rw [after0_6]
  frame_out
  idx_vars y
  obtain ⟨h, l, rfl⟩ := col_cases y1
  have hx : (iblk m c 0 t : FVec Ideal S1024x1024 .bf16) (ix2 y0 (col h l))
      = wide (m ((c : Thread nD τ).loc main_arg0)) ⟨t.val * 1024 + y0.val, by omega⟩ h l.val := by
    rw [← V_k]; unfold Cert.Rope.col; blk_point [iblk, idx t]
  have hz : ∀ l : Fin 128, (iblk m c 2 t : FVec Ideal S1024x128 .f32) (ix2 y0 l) = tail (m ((c : Thread nD τ).loc main_arg4)) ⟨t.val * 1024 + y0.val, by omega⟩ l.val := by
    intro l; rw [← V_z]; blk_point [iblk, idx t]
  have hc : ∀ l : Fin 128, (iblk m c 3 t : FVec Ideal S1024x128 .f32) (ix2 y0 l) = tc (posn m c (ix1 ⟨t.val * 1024 + y0.val, by omega⟩)) l.val := by
    intro l; rw [← V_c]; blk_point [iblk, idx t]
  have ha : ∀ l : Fin 128, (iblk m c 4 t : FVec Ideal S1024x128 .f32) (ix2 y0 l) = ta (posn m c (ix1 ⟨t.val * 1024 + y0.val, by omega⟩)) l.val := by
    intro l; rw [← V_a]; blk_point [iblk, idx t]
  have hb : ∀ l : Fin 128, (iblk m c 5 t : FVec Ideal S1024x128 .f32) (ix2 y0 l) = tb (posn m c (ix1 ⟨t.val * 1024 + y0.val, by omega⟩)) l.val := by
    intro l; rw [← V_b]; blk_point [iblk, idx t]
  refine Eq.trans (b := Gk (m ((c : Thread nD τ).loc main_arg6)) (m ((c : Thread nD τ).loc main_arg0)) (m ((c : Thread nD τ).loc main_arg4)) (ix2 ⟨t.val * 1024 + y0.val, by omega⟩ (col h l))) ?_ (congrArg _ ?_)
  · rw [Gk_at]
    unfold key
    rw [← three_eq]
    refine (out_k (iblk m c 0 t) (iblk m c 1 t) (iblk m c 2 t) (iblk m c 3 t) (iblk m c 4 t) (iblk m c 5 t) y0 h l).trans ?_
    unfold row
    simp only [hx, hz, hc, ha, hb]
  · unfold Cert.Rope.col; blk_ext [idx t]

theorem final_v (c : Dev nD) : (dats m 0 c).arrAt 7 (cfgs 0).N = Gv (m ((c : Thread nD τ).loc main_arg1)) := by
  refine (dats m 0 c).arrAt_eq_of_covers 7 _ (by decide +kernel) fun t _ y => ?_
  have ht : t.val < 8 := lt_of_lt_of_eq t.isLt N_0
  blk_simp
  rw [after0_7]
  frame_out
  idx_vars y
  obtain ⟨h, l, rfl⟩ := col_cases y1
  have hx : (iblk m c 1 t : FVec Ideal S1024x1024 .bf16) (ix2 y0 (col h l))
      = wide (m ((c : Thread nD τ).loc main_arg1)) ⟨t.val * 1024 + y0.val, by omega⟩ h l.val := by
    rw [← V_v]; unfold Cert.Rope.col; blk_point [iblk, idx t]
  refine Eq.trans (b := Gv (m ((c : Thread nD τ).loc main_arg1)) (ix2 ⟨t.val * 1024 + y0.val, by omega⟩ (col h l))) ?_ (congrArg _ ?_)
  · rw [Gv_at]
    unfold val
    refine (out_v (iblk m c 0 t) (iblk m c 1 t) (iblk m c 2 t) (iblk m c 3 t) (iblk m c 4 t) (iblk m c 5 t) y0 h l).trans ?_
    rw [hx]
  · unfold Cert.Rope.col; blk_ext [idx t]

end Kernel

set_option maxHeartbeats 1000000 in
theorem algebraic : Cert.algebraic_Kernel21Ideal_Reference21Ideal := by
  pair_intro
  · run_from Cert.Kernel21Ideal.Gen.run_main m g
    · exact Cert.Kernel21Ideal.Gen.V_main_arg0 m c
    · exact Cert.Kernel21Ideal.Gen.V_main_arg1 m c
    · exact Cert.Kernel21Ideal.Gen.V_main_arg2 m c
    · exact Cert.Kernel21Ideal.Gen.V_main_arg3 m c
    · exact Cert.Kernel21Ideal.Gen.V_main_arg4 m c
    · exact Cert.Kernel21Ideal.Gen.V_main_arg5 m c
    · exact Cert.Kernel21Ideal.Gen.V_main_arg6 m c
  · run_from Cert.Reference21Ideal.Value.run m' g'
    · rw [final_k m c, ← (hagree c).1, ← (hagree c).2.2.2.2.1, ← (hagree c).2.2.2.2.2.2]
      funext j
      idx_vars j
      obtain ⟨h, l, rfl⟩ := col_cases j1
      rw [Gk_at]
      unfold key fwd wide tail turn Cert.Rope.col
      pointwise
      by_cases h1 : l.val < 64
      · simp only [h1, dite_true, if_true]
      by_cases h2 : l.val < 80
      · have a1 : l.val - 64 < 32 := by omega
        have a2 : l.val - 64 < 16 := by omega
        have a3 : ¬ (96 ≤ l.val ∧ l.val < 99) := by omega
        have a4 : 64 ≤ l.val ∧ l.val < 96 := by omega
        have a5 : 48 ≤ l.val ∧ l.val + 16 < 96 := by omega
        have e1 : 16 + (l.val - 64) = l.val + 16 - 64 := by omega
        simp only [h1, h2, a1, a2, a3, a4, a5, and_self, dite_true, dite_false, if_true, if_false, e1]
      by_cases h3 : l.val < 96
      · have a1 : l.val - 64 < 32 := by omega
        have a2 : ¬ l.val - 64 < 16 := by omega
        have a3 : ¬ (96 ≤ l.val ∧ l.val < 99) := by omega
        have a4 : 64 ≤ l.val ∧ l.val < 96 := by omega
        have a5 : 64 ≤ l.val - 16 ∧ l.val - 16 < 96 := by omega
        have e1 : l.val - 64 - 16 = l.val - 80 := by omega
        have e2 : l.val - 16 - 64 = l.val - 80 := by omega
        have e3 : 16 + (l.val - 80) = l.val - 64 := by omega
        simp only [h1, h2, h3, a1, a2, a3, a4, a5, and_self, dite_true, dite_false, if_true, if_false, e1, e2, e3]
      have a1 : ¬ l.val - 64 < 32 := by omega
      by_cases h4 : l.val < 99
      · have a2 : l.val - 64 - 32 < 3 := by omega
        have a3 : 96 ≤ l.val ∧ l.val < 99 := by omega
        simp only [h1, a1, a2, a3, and_self, dite_true, dite_false, if_true, if_false]
      · have a2 : ¬ l.val - 64 - 32 < 3 := by omega
        have a3 : ¬ (96 ≤ l.val ∧ l.val < 99) := by omega
        simp only [h1, h2, h3, a1, a2, a3, dite_false, if_false]
    · rw [final_v m c, ← (hagree c).2.1]
      funext j
      idx_vars j
      obtain ⟨h, l, rfl⟩ := col_cases j1
      rw [Gv_at]
      unfold val wide Cert.Rope.col
      pointwise
      by_cases h1 : l.val < 64
      · have a1 : ¬ (64 ≤ l.val ∧ l.val < 67) := by omega
        simp only [h1, a1, dite_true, if_false]
      by_cases h2 : l.val < 67
      · have a1 : l.val - 64 < 3 := by omega
        have a2 : 64 ≤ l.val ∧ l.val < 67 := by omega
        simp only [h1, a1, a2, and_self, dite_true, dite_false, if_true]
      · have a1 : ¬ l.val - 64 < 3 := by omega
        have a2 : ¬ (64 ≤ l.val ∧ l.val < 67) := by omega
        simp only [h1, a1, a2, dite_false, if_false]

theorem frame_reference : Cert.quiescent_Reference21Ideal := by
  intro m ρ _
  run_from Cert.Reference21Ideal.Value.run m ρ
  · intro c; exact ⟨trivial, trivial, trivial, trivial, trivial, trivial, trivial⟩
  · exact sem_eq_zero_of_no_sems rfl _

end Cert.SharedFwd

end
-- ==== Proof.LanesFwd.lean ====
/- The heads of the decaying attention before it: the kernel's three results and the reference's as functions of the arguments. -/
module

public import proofs.«01_k».proof.Defs
public import proofs.«01_k».proof.Proof.OwnReal
public import proofs.«01_k».proof.Proof.Compact
public import proofs.«01_k».proof.Proof.SharedFwd
public import proofs.«01_k».proof.Proof.Gen.Kernel22.Frame
public import proofs.«01_k».proof.Proof.Gen.Kernel22Ideal.Value
public import proofs.«01_k».proof.Proof.Gen.Reference22Ideal.Run
public import proofs.«01_k».proof.Proof.Gen.Pre_finite_f
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Rope (col col_cases)
open Cert.SharedFwd (wide val Gv Gv_at)
open Cert.Own

namespace Cert.LanesFwd

theorem eight : Ideal.ofBits .f32 0x41000000#32 = ((8 : ℝ) : EReal) := by
  simp [Ideal.ofBits, Ideal.ieee, -EReal.coe_mul]; norm_num

/-- The forget sum of a head, on the scale of the scores. -/
def lev (g : FVec Ideal ⟨2, ![8192, 8]⟩ .f32) (R : Fin 8192) (h : Fin 8) : EReal :=
  g (ix2 R h) * Ideal.ofBits .f32 0x41000000#32

/-- Lane `l` of a head of queries: the head's own columns, the forget sum, three ones. -/
def qry (x : FVec Ideal ⟨2, ![8192, 512]⟩ .f32) (g : FVec Ideal ⟨2, ![8192, 8]⟩ .f32) (R : Fin 8192) (h : Fin 8) (l : ℕ) : EReal :=
  if l = 64 then lev g R h else if 70 ≤ l ∧ l < 73 then 1 else wide x R h l

/-- Lane `l` of a head of keys: the head's own columns, six ones, the forget sum with its sign changed. -/
def key (x : FVec Ideal ⟨2, ![8192, 512]⟩ .f32) (g : FVec Ideal ⟨2, ![8192, 8]⟩ .f32) (R : Fin 8192) (h : Fin 8) (l : ℕ) : EReal :=
  if l = 70 then -lev g R h else if 64 ≤ l ∧ l < 70 then 1 else wide x R h l

/-- All heads of a function of row, head and lane. -/
def G (f : Fin 8192 → Fin 8 → ℕ → EReal) : FVec Ideal ⟨2, ![8192, 1024]⟩ .bf16 := fun j =>
  f (j 0) ⟨(j 1).val / 128, by have := (j 1).isLt; simp at this; omega⟩ ((j 1).val % 128)

theorem G_at (f : Fin 8192 → Fin 8 → ℕ → EReal) (R : Fin 8192) (h : Fin 8) (l : Fin 128) : G f (ix2 R (col h l)) = f R h l.val := by
  have e1 : (128 * h.val + l.val) / 128 = h.val := by omega
  have e2 : (128 * h.val + l.val) % 128 = l.val := by omega
  show f R ⟨(128 * h.val + l.val) / 128, _⟩ ((128 * h.val + l.val) % 128) = _
  rw [e2]
  congr 1
  exact Fin.ext e1

/-- Choosing by the lane's place between two bounds: the queries' ones. -/
theorem within_q (l : Fin 128) (a b : EReal) :
    Scalar.select (IntOp.andi (IntOp.cmpi .sge (BitVec.ofNat 32 l.val) 70#32) (IntOp.cmpi .slt (BitVec.ofNat 32 l.val) 73#32)) a b = if 70 ≤ l.val ∧ l.val < 73 then a else b := by
  have hl := l.isLt
  word_cmp

/-- The same for the keys' ones. -/
theorem within_k (l : Fin 128) (a b : EReal) :
    Scalar.select (IntOp.andi (IntOp.cmpi .sge (BitVec.ofNat 32 l.val) 64#32) (IntOp.cmpi .slt (BitVec.ofNat 32 l.val) 70#32)) a b = if 64 ≤ l.val ∧ l.val < 70 then a else b := by
  have hl := l.isLt
  word_cmp

section Kernel

open Cert.Kernel22Ideal Cert.Kernel22Ideal.Gen

variable (m : (ℓ : Loc nD τ sig) → Buf (Elt Ideal) ℓ)

theorem idx : ∀ t : Fin cfg0.N, win0_0.index t = ![t.val, 4] ∧ win0_1.index t = ![t.val, 5] ∧ win0_2.index t = ![t.val, 6]
    ∧ win0_3.index t = ![t.val, 0] ∧ win0_4.index t = ![t.val, 0] ∧ win0_5.index t = ![t.val, 0] ∧ win0_6.index t = ![t.val, 0] :=
  (by decide +kernel : ∀ t : Fin grid0.N, _)

/-- The lane numbers of a block. -/
abbrev J : IVec S1024x128 32 := iota .tc S1024x128 32 [1] iota_S1024x128_d1_w32

/-- The forget sums of head `n` in a block, on the scale of the scores. -/
def lift (n : ℕ) (fc : FVec Ideal S1024x128 .f32) : FVec Ideal S1024x1 .f32 :=
  mulf (shapeCast S1024x1 (multiReduction .add [1] S1024 (select (cmpi .eq J (broadcast S1024x128 (BitVec.ofNat 32 n))) fc (broadcast S1024x128 (Scalar.ofBits .f32 0x00000000#32)))
    0x00000000#32 reduces_S1024x128_S1024 (.inl rfl) rfl) shapeCasts_S1024_S1024x1) (broadcast S1024x1 (Scalar.ofBits .f32 0x41000000#32))

theorem lift_at (n : ℕ) (hn : n < 128) (fc : FVec Ideal S1024x128 .f32) (r : Fin 1024) (z : Fin 1) :
    lift n fc (ix2 r z) = fc (ix2 r ⟨n, hn⟩) * Ideal.ofBits .f32 0x41000000#32 := by
  pointwise [lift]
  rw [Cert.Compact.pick (fun x => fc (ix2 r x)) n hn]

/-- A column written over three lanes in three parts: its rounded value, the rounded rest, the rounded rest of that. -/
def put (n0 n1 n2 : ℕ) (f : FVec Ideal S1024x1 .f32) (b : FVec Ideal S1024x128 .f32) : FVec Ideal S1024x128 .f32 :=
  have p0 : FVec Ideal S1024x1 .f32 := extf .f32 (truncf .bf16 f bitsLt_bf16_f32) bitsLt_bf16_f32
  have d1 : FVec Ideal S1024x1 .f32 := subf f p0
  have p1 : FVec Ideal S1024x1 .f32 := extf .f32 (truncf .bf16 d1 bitsLt_bf16_f32) bitsLt_bf16_f32
  have p2 : FVec Ideal S1024x1 .f32 := extf .f32 (truncf .bf16 (subf d1 p1) bitsLt_bf16_f32) bitsLt_bf16_f32
  select (cmpi .eq J (broadcast S1024x128 (BitVec.ofNat 32 n2))) (broadcastTo S1024x128 (shapeCast S1024x1 p2 shapeCasts_S1024x1_S1024x1) broadcasts_S1024x1_S1024x128)
    (select (cmpi .eq J (broadcast S1024x128 (BitVec.ofNat 32 n1))) (broadcastTo S1024x128 (shapeCast S1024x1 p1 shapeCasts_S1024x1_S1024x1) broadcasts_S1024x1_S1024x128)
      (select (cmpi .eq J (broadcast S1024x128 (BitVec.ofNat 32 n0))) (broadcastTo S1024x128 (shapeCast S1024x1 p0 shapeCasts_S1024x1_S1024x1) broadcasts_S1024x1_S1024x128) b))

/-- A real column leaves nothing for the second and the third part. -/
theorem put_at (n0 n1 n2 : ℕ) (h0 : n0 < 128) (h1 : n1 < 128) (h2 : n2 < 128) (f : FVec Ideal S1024x1 .f32) (b : FVec Ideal S1024x128 .f32)
    (r : Fin 1024) (l : Fin 128) (hf : IsReal (f (ix2 r 0))) :
    put n0 n1 n2 f b (ix2 r l) = if l.val = n2 then 0 else if l.val = n1 then 0 else if l.val = n0 then f (ix2 r 0) else b (ix2 r l) := by
  have e : (f (ix2 r 0) : EReal) - f (ix2 r 0) = 0 := hf.sub_self
  have z : (0 : EReal) - 0 = 0 := by simp
  pointwise [put]
  rw [Cert.Compact.choose l n0 h0, Cert.Compact.choose l n1 h1, Cert.Compact.choose l n2 h2]
  have w : ∀ y : Fin 1, y = 0 := fun y => Subsingleton.elim _ _
  simp only [w, e, z]

/-- One head of queries in a block. -/
def Q (n : ℕ) (fc y : FVec Ideal S1024x128 .f32) : FVec Ideal S1024x128 .f32 :=
  put 64 65 66 (lift n fc) (select k0_pay7 (broadcast S1024x128 (Scalar.ofBits .f32 0x3F800000#32)) y)

/-- One head of keys in a block. -/
def K (n : ℕ) (fc y : FVec Ideal S1024x128 .f32) : FVec Ideal S1024x128 .f32 :=
  put 70 71 72 (subf (broadcast S1024x1 (Scalar.ofBits .f32 0x00000000#32)) (lift n fc)) (select k0_pay8 (broadcast S1024x128 (Scalar.ofBits .f32 0x3F800000#32)) y)

/-- One head of values in a block. -/
def W (y : FVec Ideal S1024x128 .f32) : FVec Ideal S1024x128 .f32 :=
  select (k0_pay10 J k0_pay9) (broadcast S1024x128 (Scalar.ofBits .f32 0x3F800000#32)) y

theorem Q_at (n : ℕ) (hn : n < 128) (fc y : FVec Ideal S1024x128 .f32) (r : Fin 1024) (l : Fin 128) (hf : IsReal (fc (ix2 r ⟨n, hn⟩))) :
    Q n fc y (ix2 r l) = if l.val = 66 then 0 else if l.val = 65 then 0 else if l.val = 64 then fc (ix2 r ⟨n, hn⟩) * Ideal.ofBits .f32 0x41000000#32
      else if 70 ≤ l.val ∧ l.val < 73 then (1 : EReal) else y (ix2 r l) := by
  unfold Q
  rw [put_at 64 65 66 (by decide) (by decide) (by decide) _ _ r l (by rw [lift_at n hn]; exact hf.mul ⟨8, eight⟩), lift_at n hn]
  congr 3
  pointwise [k0_pay7]
  exact within_q l _ _

theorem K_at (n : ℕ) (hn : n < 128) (fc y : FVec Ideal S1024x128 .f32) (r : Fin 1024) (l : Fin 128) (hf : IsReal (fc (ix2 r ⟨n, hn⟩))) :
    K n fc y (ix2 r l) = if l.val = 72 then 0 else if l.val = 71 then 0 else if l.val = 70 then -(fc (ix2 r ⟨n, hn⟩) * Ideal.ofBits .f32 0x41000000#32)
      else if 64 ≤ l.val ∧ l.val < 70 then (1 : EReal) else y (ix2 r l) := by
  have e : (subf (broadcast S1024x1 (Scalar.ofBits .f32 0x00000000#32)) (lift n fc) : FVec Ideal S1024x1 .f32) (ix2 r 0)
      = -(fc (ix2 r ⟨n, hn⟩) * Ideal.ofBits .f32 0x41000000#32) := by
    rw [← lift_at n hn fc r 0]
    pointwise
    simp
  unfold K
  rw [put_at 70 71 72 (by decide) (by decide) (by decide) _ _ r l
    (by rw [e, ← zero_sub]; exact IsReal.zero.sub (hf.mul ⟨8, eight⟩)), e]
  congr 3
  pointwise [k0_pay8]
  exact within_k l _ _

theorem W_at (y : FVec Ideal S1024x128 .f32) (r : Fin 1024) (l : Fin 128) : W y (ix2 r l) = if 64 ≤ l.val ∧ l.val < 67 then (1 : EReal) else y (ix2 r l) := by
  pointwise [W, k0_pay10, k0_pay9]
  exact Cert.SharedFwd.within_v l _ _

open Cert.Compact (spot) in
theorem spread_at (q : Fin 512) (k : Fin 1024) : k0_pay3 (F := Ideal) (ix2 q k) = if k = spot q then (1 : EReal) else 0 := by
  pointwise [k0_pay3]
  rw [Cert.Compact.spot_word q]
  have hk := k.isLt
  have hs := (spot q).isLt
  simp only [Fin.ext_iff]
  word_cmp

open Cert.Compact (spot) in
/-- A row times the matrix that spreads the heads over 128 lanes each. -/
theorem spread (f : Fin 512 → EReal) (h : Fin 8) (l : Fin 128) :
    ∑ q : Fin 512, f q * k0_pay3 (F := Ideal) (ix2 q (col h l)) = if hl : l.val < 64 then f ⟨h.val * 64 + l.val, by omega⟩ else 0 := by
  simp only [spread_at, mul_ite, mul_one, mul_zero]
  split_ifs with hl
  · rw [Finset.sum_eq_single ⟨h.val * 64 + l.val, by omega⟩]
    · rw [if_pos]
      refine Fin.ext ?_
      show 128 * h.val + l.val = (h.val * 64 + l.val) / 64 * 128 + (h.val * 64 + l.val) % 64
      omega
    · intro b _ hb
      rw [if_neg]
      intro e
      apply hb
      have e' : 128 * h.val + l.val = b.val / 64 * 128 + b.val % 64 := congrArg Fin.val e
      refine Fin.ext ?_
      show b.val = h.val * 64 + l.val
      omega
    · exact fun h => absurd (Finset.mem_univ _) h
  · refine Finset.sum_eq_zero fun b _ => if_neg fun e => ?_
    have e' : 128 * h.val + l.val = b.val / 64 * 128 + b.val % 64 := congrArg Fin.val e
    omega

theorem wide_q (x : FVec Ideal S1024x512 .bf16) (r : Fin 1024) (h : Fin 8) (l : Fin 128) :
    k0_pay4 (F := Ideal) x (ix2 r (col h l)) = if hl : l.val < 64 then (x (ix2 r ⟨h.val * 64 + l.val, by omega⟩) : EReal) else 0 := by
  rw [← spread (fun q => x (ix2 r q)) h l]
  generalize col h l = k
  pointwise [k0_pay4]

theorem wide_k (x : FVec Ideal S1024x512 .bf16) (r : Fin 1024) (h : Fin 8) (l : Fin 128) :
    k0_pay5 (F := Ideal) x (ix2 r (col h l)) = if hl : l.val < 64 then (x (ix2 r ⟨h.val * 64 + l.val, by omega⟩) : EReal) else 0 := by
  rw [← spread (fun q => x (ix2 r q)) h l]
  generalize col h l = k
  pointwise [k0_pay5]

theorem wide_v (x : FVec Ideal S1024x512 .bf16) (r : Fin 1024) (h : Fin 8) (l : Fin 128) :
    k0_pay6 (F := Ideal) x (ix2 r (col h l)) = if hl : l.val < 64 then (x (ix2 r ⟨h.val * 64 + l.val, by omega⟩) : EReal) else 0 := by
  rw [← spread (fun q => x (ix2 r q)) h l]
  generalize col h l = k
  pointwise [k0_pay6]

theorem s0 (a : FVec Ideal S1024x1024 .f32) (r : Fin 1024) (l : Fin 128) : extractStridedSlice S1024x128 ![0, 0] a slices_S1024x1024_o0_0_S1024x128 (ix2 r l) = a (ix2 r (col 0 l)) := by
  unfold Cert.Rope.col; pointwise

theorem s1 (a : FVec Ideal S1024x1024 .f32) (r : Fin 1024) (l : Fin 128) : extractStridedSlice S1024x128 ![0, 128] a slices_S1024x1024_o0_128_S1024x128 (ix2 r l) = a (ix2 r (col 1 l)) := by
  unfold Cert.Rope.col; pointwise

theorem s2 (a : FVec Ideal S1024x1024 .f32) (r : Fin 1024) (l : Fin 128) : extractStridedSlice S1024x128 ![0, 256] a slices_S1024x1024_o0_256_S1024x128 (ix2 r l) = a (ix2 r (col 2 l)) := by
  unfold Cert.Rope.col; pointwise

theorem s3 (a : FVec Ideal S1024x1024 .f32) (r : Fin 1024) (l : Fin 128) : extractStridedSlice S1024x128 ![0, 384] a slices_S1024x1024_o0_384_S1024x128 (ix2 r l) = a (ix2 r (col 3 l)) := by
  unfold Cert.Rope.col; pointwise

theorem s4 (a : FVec Ideal S1024x1024 .f32) (r : Fin 1024) (l : Fin 128) : extractStridedSlice S1024x128 ![0, 512] a slices_S1024x1024_o0_512_S1024x128 (ix2 r l) = a (ix2 r (col 4 l)) := by
  unfold Cert.Rope.col; pointwise

theorem s5 (a : FVec Ideal S1024x1024 .f32) (r : Fin 1024) (l : Fin 128) : extractStridedSlice S1024x128 ![0, 640] a slices_S1024x1024_o0_640_S1024x128 (ix2 r l) = a (ix2 r (col 5 l)) := by
  unfold Cert.Rope.col; pointwise

theorem s6 (a : FVec Ideal S1024x1024 .f32) (r : Fin 1024) (l : Fin 128) : extractStridedSlice S1024x128 ![0, 768] a slices_S1024x1024_o0_768_S1024x128 (ix2 r l) = a (ix2 r (col 6 l)) := by
  unfold Cert.Rope.col; pointwise

theorem s7 (a : FVec Ideal S1024x1024 .f32) (r : Fin 1024) (l : Fin 128) : extractStridedSlice S1024x128 ![0, 896] a slices_S1024x1024_o0_896_S1024x128 (ix2 r l) = a (ix2 r (col 7 l)) := by
  unfold Cert.Rope.col; pointwise

theorem e109 (x0 x1 x2 : FVec Ideal S1024x512 .bf16) (x3 : FVec Ideal S1024x128 .f32) : k0_pay109 (F := Ideal) x0 x1 x2 x3 = J := rfl

theorem e110 (x0 x1 x2 : FVec Ideal S1024x512 .bf16) (x3 : FVec Ideal S1024x128 .f32) : k0_pay110 (F := Ideal) x0 x1 x2 x3 = k0_pay2 x3 := by
  unfold k0_pay110
  frame_out

theorem e111 (x0 x1 x2 : FVec Ideal S1024x512 .bf16) (x3 : FVec Ideal S1024x128 .f32) : k0_pay111 (F := Ideal) x0 x1 x2 x3 = k0_pay4 x0 := by
  unfold k0_pay111
  frame_out

theorem e112 (x0 x1 x2 : FVec Ideal S1024x512 .bf16) (x3 : FVec Ideal S1024x128 .f32) : k0_pay112 (F := Ideal) x0 x1 x2 x3 = k0_pay5 x1 := by
  unfold k0_pay112
  frame_out

theorem e113 (x0 x1 x2 : FVec Ideal S1024x512 .bf16) (x3 : FVec Ideal S1024x128 .f32) : k0_pay113 (F := Ideal) x0 x1 x2 x3 = k0_pay6 x2 := by
  unfold k0_pay113
  frame_out

theorem e114 (x0 x1 x2 : FVec Ideal S1024x512 .bf16) (x3 : FVec Ideal S1024x128 .f32) : k0_pay114 (F := Ideal) x0 x1 x2 x3 = k0_pay7 := rfl

theorem e115 (x0 x1 x2 : FVec Ideal S1024x512 .bf16) (x3 : FVec Ideal S1024x128 .f32) : k0_pay115 (F := Ideal) x0 x1 x2 x3 = k0_pay8 := rfl

theorem e116 (x0 x1 x2 : FVec Ideal S1024x512 .bf16) (x3 : FVec Ideal S1024x128 .f32) : k0_pay116 (F := Ideal) x0 x1 x2 x3 = k0_pay10 J k0_pay9 := rfl

theorem e117 (x0 x1 x2 : FVec Ideal S1024x512 .bf16) (x3 : FVec Ideal S1024x128 .f32) : k0_pay117 (F := Ideal) x0 x1 x2 x3 = k0_pay44 (k0_pay2 x3) J := by
  unfold k0_pay117
  rw [e109, e110]

theorem e118 (x0 x1 x2 : FVec Ideal S1024x512 .bf16) (x3 : FVec Ideal S1024x128 .f32) : k0_pay118 (F := Ideal) x0 x1 x2 x3 = k0_pay78 (k0_pay2 x3) J := by
  unfold k0_pay118
  rw [e109, e110]

theorem out_q (x0 x1 x2 : FVec Ideal S1024x512 .bf16) (x3 : FVec Ideal S1024x128 .f32) (r : Fin 1024) (h : Fin 8) (l : Fin 128)
    (hf : ∀ h : Fin 8, IsReal (k0_pay2 (F := Ideal) x3 (ix2 r ⟨h.val, by omega⟩))) :
    k0_pay107 (F := Ideal) (k0_pay41 (k0_pay109 (F := Ideal) x0 x1 x2 x3) (k0_pay37 (k0_pay110 (F := Ideal) x0 x1 x2 x3) (k0_pay109 (F := Ideal) x0 x1 x2 x3)) (k0_pay38 (k0_pay110 (F := Ideal) x0 x1 x2 x3) (k0_pay109 (F := Ideal) x0 x1 x2 x3)) (k0_pay39 (k0_pay110 (F := Ideal) x0 x1 x2 x3) (k0_pay111 (F := Ideal) x0 x1 x2 x3) (k0_pay109 (F := Ideal) x0 x1 x2 x3) (k0_pay114 (F := Ideal) x0 x1 x2 x3)) (k0_pay40 (k0_pay109 (F := Ideal) x0 x1 x2 x3))) (k0_pay47 (k0_pay109 (F := Ideal) x0 x1 x2 x3) (k0_pay117 (F := Ideal) x0 x1 x2 x3) (k0_pay45 (k0_pay114 (F := Ideal) x0 x1 x2 x3) (k0_pay11 (k0_pay111 (F := Ideal) x0 x1 x2 x3))) (k0_pay46 (k0_pay110 (F := Ideal) x0 x1 x2 x3) (k0_pay109 (F := Ideal) x0 x1 x2 x3))) (k0_pay51 (k0_pay110 (F := Ideal) x0 x1 x2 x3) (k0_pay109 (F := Ideal) x0 x1 x2 x3) (k0_pay114 (F := Ideal) x0 x1 x2 x3) (k0_pay12 (k0_pay111 (F := Ideal) x0 x1 x2 x3))) (k0_pay63 (k0_pay110 (F := Ideal) x0 x1 x2 x3) (k0_pay109 (F := Ideal) x0 x1 x2 x3) (k0_pay114 (F := Ideal) x0 x1 x2 x3) (k0_pay13 (k0_pay111 (F := Ideal) x0 x1 x2 x3))) (k0_pay75 (k0_pay109 (F := Ideal) x0 x1 x2 x3) (k0_pay68 (k0_pay114 (F := Ideal) x0 x1 x2 x3) (k0_pay14 (k0_pay111 (F := Ideal) x0 x1 x2 x3))) (k0_pay71 (k0_pay110 (F := Ideal) x0 x1 x2 x3) (k0_pay109 (F := Ideal) x0 x1 x2 x3)) (k0_pay72 (k0_pay110 (F := Ideal) x0 x1 x2 x3) (k0_pay109 (F := Ideal) x0 x1 x2 x3)) (k0_pay73 (k0_pay109 (F := Ideal) x0 x1 x2 x3)) (k0_pay74 (k0_pay110 (F := Ideal) x0 x1 x2 x3) (k0_pay109 (F := Ideal) x0 x1 x2 x3))) (k0_pay79 (k0_pay109 (F := Ideal) x0 x1 x2 x3) (k0_pay114 (F := Ideal) x0 x1 x2 x3) (k0_pay15 (k0_pay111 (F := Ideal) x0 x1 x2 x3)) (k0_pay118 (F := Ideal) x0 x1 x2 x3)) (k0_pay90 (k0_pay110 (F := Ideal) x0 x1 x2 x3) (k0_pay109 (F := Ideal) x0 x1 x2 x3) (k0_pay114 (F := Ideal) x0 x1 x2 x3) (k0_pay16 (k0_pay111 (F := Ideal) x0 x1 x2 x3))) (k0_pay103 (k0_pay110 (F := Ideal) x0 x1 x2 x3) (k0_pay109 (F := Ideal) x0 x1 x2 x3) (k0_pay114 (F := Ideal) x0 x1 x2 x3) (k0_pay17 (k0_pay111 (F := Ideal) x0 x1 x2 x3))) (k0_pay104 (k0_pay109 (F := Ideal) x0 x1 x2 x3)) (k0_pay105 (k0_pay110 (F := Ideal) x0 x1 x2 x3) (k0_pay109 (F := Ideal) x0 x1 x2 x3)) (ix2 r (col h l))
      = if l.val = 66 then 0 else if l.val = 65 then 0 else if l.val = 64 then k0_pay2 (F := Ideal) x3 (ix2 r ⟨h.val, by omega⟩) * Ideal.ofBits .f32 0x41000000#32
      else if 70 ≤ l.val ∧ l.val < 73 then (1 : EReal) else k0_pay4 (F := Ideal) x0 (ix2 r (col h l)) := by
  rw [e109, e110, e111, e114, e117, e118]
  generalize k0_pay2 (F := Ideal) x3 = fc at hf ⊢
  generalize k0_pay4 (F := Ideal) x0 = a
  refine (Cert.Rope.cat_at _ _ _ _ _ _ _ _ r h l).trans ?_
  fin_cases h
  · exact (Q_at 0 (by decide) fc (extractStridedSlice S1024x128 ![0, 0] a slices_S1024x1024_o0_0_S1024x128) r l (hf 0)).trans (by rw [s0])
  · exact (Q_at 1 (by decide) fc (extractStridedSlice S1024x128 ![0, 128] a slices_S1024x1024_o0_128_S1024x128) r l (hf 1)).trans (by rw [s1])
  · exact (Q_at 2 (by decide) fc (extractStridedSlice S1024x128 ![0, 256] a slices_S1024x1024_o0_256_S1024x128) r l (hf 2)).trans (by rw [s2])
  · exact (Q_at 3 (by decide) fc (extractStridedSlice S1024x128 ![0, 384] a slices_S1024x1024_o0_384_S1024x128) r l (hf 3)).trans (by rw [s3])
  · exact (Q_at 4 (by decide) fc (extractStridedSlice S1024x128 ![0, 512] a slices_S1024x1024_o0_512_S1024x128) r l (hf 4)).trans (by rw [s4])
  · exact (Q_at 5 (by decide) fc (extractStridedSlice S1024x128 ![0, 640] a slices_S1024x1024_o0_640_S1024x128) r l (hf 5)).trans (by rw [s5])
  · exact (Q_at 6 (by decide) fc (extractStridedSlice S1024x128 ![0, 768] a slices_S1024x1024_o0_768_S1024x128) r l (hf 6)).trans (by rw [s6])
  · exact (Q_at 7 (by decide) fc (extractStridedSlice S1024x128 ![0, 896] a slices_S1024x1024_o0_896_S1024x128) r l (hf 7)).trans (by rw [s7])

theorem out_k (x0 x1 x2 : FVec Ideal S1024x512 .bf16) (x3 : FVec Ideal S1024x128 .f32) (r : Fin 1024) (h : Fin 8) (l : Fin 128)
    (hf : ∀ h : Fin 8, IsReal (k0_pay2 (F := Ideal) x3 (ix2 r ⟨h.val, by omega⟩))) :
    k0_pay108 (F := Ideal) (k0_pay109 (F := Ideal) x0 x1 x2 x3) (k0_pay115 (F := Ideal) x0 x1 x2 x3) (k0_pay25 (k0_pay112 (F := Ideal) x0 x1 x2 x3)) (k0_pay42 (k0_pay109 (F := Ideal) x0 x1 x2 x3) (k0_pay115 (F := Ideal) x0 x1 x2 x3) (k0_pay18 (k0_pay112 (F := Ideal) x0 x1 x2 x3)) (k0_pay34 (k0_pay110 (F := Ideal) x0 x1 x2 x3) (k0_pay109 (F := Ideal) x0 x1 x2 x3))) (k0_pay48 (k0_pay109 (F := Ideal) x0 x1 x2 x3) (k0_pay115 (F := Ideal) x0 x1 x2 x3) (k0_pay19 (k0_pay112 (F := Ideal) x0 x1 x2 x3)) (k0_pay117 (F := Ideal) x0 x1 x2 x3)) (k0_pay60 (k0_pay109 (F := Ideal) x0 x1 x2 x3) (k0_pay52 (k0_pay115 (F := Ideal) x0 x1 x2 x3) (k0_pay20 (k0_pay112 (F := Ideal) x0 x1 x2 x3))) (k0_pay56 (k0_pay110 (F := Ideal) x0 x1 x2 x3) (k0_pay109 (F := Ideal) x0 x1 x2 x3)) (k0_pay57 (k0_pay110 (F := Ideal) x0 x1 x2 x3) (k0_pay109 (F := Ideal) x0 x1 x2 x3)) (k0_pay58 (k0_pay109 (F := Ideal) x0 x1 x2 x3)) (k0_pay59 (k0_pay110 (F := Ideal) x0 x1 x2 x3) (k0_pay109 (F := Ideal) x0 x1 x2 x3))) (k0_pay65 (k0_pay109 (F := Ideal) x0 x1 x2 x3) (k0_pay62 (k0_pay110 (F := Ideal) x0 x1 x2 x3) (k0_pay109 (F := Ideal) x0 x1 x2 x3)) (k0_pay64 (k0_pay115 (F := Ideal) x0 x1 x2 x3) (k0_pay21 (k0_pay112 (F := Ideal) x0 x1 x2 x3)))) (k0_pay76 (k0_pay109 (F := Ideal) x0 x1 x2 x3) (k0_pay115 (F := Ideal) x0 x1 x2 x3) (k0_pay22 (k0_pay112 (F := Ideal) x0 x1 x2 x3)) (k0_pay67 (k0_pay110 (F := Ideal) x0 x1 x2 x3) (k0_pay109 (F := Ideal) x0 x1 x2 x3))) (k0_pay87 (k0_pay84 (k0_pay109 (F := Ideal) x0 x1 x2 x3) (k0_pay115 (F := Ideal) x0 x1 x2 x3) (k0_pay23 (k0_pay112 (F := Ideal) x0 x1 x2 x3)) (k0_pay118 (F := Ideal) x0 x1 x2 x3)) (k0_pay85 (k0_pay109 (F := Ideal) x0 x1 x2 x3)) (k0_pay86 (k0_pay118 (F := Ideal) x0 x1 x2 x3))) (k0_pay97 (k0_pay109 (F := Ideal) x0 x1 x2 x3) (k0_pay91 (k0_pay115 (F := Ideal) x0 x1 x2 x3) (k0_pay24 (k0_pay112 (F := Ideal) x0 x1 x2 x3))) (k0_pay93 (k0_pay110 (F := Ideal) x0 x1 x2 x3) (k0_pay109 (F := Ideal) x0 x1 x2 x3)) (k0_pay95 (k0_pay110 (F := Ideal) x0 x1 x2 x3) (k0_pay109 (F := Ideal) x0 x1 x2 x3)) (k0_pay96 (k0_pay110 (F := Ideal) x0 x1 x2 x3) (k0_pay109 (F := Ideal) x0 x1 x2 x3)) 70#32) (k0_pay99 (k0_pay110 (F := Ideal) x0 x1 x2 x3) (k0_pay109 (F := Ideal) x0 x1 x2 x3)) (ix2 r (col h l))
      = if l.val = 72 then 0 else if l.val = 71 then 0 else if l.val = 70 then -(k0_pay2 (F := Ideal) x3 (ix2 r ⟨h.val, by omega⟩) * Ideal.ofBits .f32 0x41000000#32)
      else if 64 ≤ l.val ∧ l.val < 70 then (1 : EReal) else k0_pay5 (F := Ideal) x1 (ix2 r (col h l)) := by
  rw [e109, e110, e112, e115, e117, e118]
  generalize k0_pay2 (F := Ideal) x3 = fc at hf ⊢
  generalize k0_pay5 (F := Ideal) x1 = a
  refine (Cert.Rope.cat_at _ _ _ _ _ _ _ _ r h l).trans ?_
  fin_cases h
  · exact (K_at 0 (by decide) fc (extractStridedSlice S1024x128 ![0, 0] a slices_S1024x1024_o0_0_S1024x128) r l (hf 0)).trans (by rw [s0])
  · exact (K_at 1 (by decide) fc (extractStridedSlice S1024x128 ![0, 128] a slices_S1024x1024_o0_128_S1024x128) r l (hf 1)).trans (by rw [s1])
  · exact (K_at 2 (by decide) fc (extractStridedSlice S1024x128 ![0, 256] a slices_S1024x1024_o0_256_S1024x128) r l (hf 2)).trans (by rw [s2])
  · exact (K_at 3 (by decide) fc (extractStridedSlice S1024x128 ![0, 384] a slices_S1024x1024_o0_384_S1024x128) r l (hf 3)).trans (by rw [s3])
  · exact (K_at 4 (by decide) fc (extractStridedSlice S1024x128 ![0, 512] a slices_S1024x1024_o0_512_S1024x128) r l (hf 4)).trans (by rw [s4])
  · exact (K_at 5 (by decide) fc (extractStridedSlice S1024x128 ![0, 640] a slices_S1024x1024_o0_640_S1024x128) r l (hf 5)).trans (by rw [s5])
  · exact (K_at 6 (by decide) fc (extractStridedSlice S1024x128 ![0, 768] a slices_S1024x1024_o0_768_S1024x128) r l (hf 6)).trans (by rw [s6])
  · exact (K_at 7 (by decide) fc (extractStridedSlice S1024x128 ![0, 896] a slices_S1024x1024_o0_896_S1024x128) r l (hf 7)).trans (by rw [s7])

theorem out_v (x0 x1 x2 : FVec Ideal S1024x512 .bf16) (x3 : FVec Ideal S1024x128 .f32) (r : Fin 1024) (h : Fin 8) (l : Fin 128) :
    k0_pay1 (F := Ideal) (k0_pay106 (k0_pay116 (F := Ideal) x0 x1 x2 x3) (k0_pay33 (k0_pay113 (F := Ideal) x0 x1 x2 x3)) (k0_pay43 (k0_pay116 (F := Ideal) x0 x1 x2 x3) (k0_pay26 (k0_pay113 (F := Ideal) x0 x1 x2 x3))) (k0_pay49 (k0_pay116 (F := Ideal) x0 x1 x2 x3) (k0_pay27 (k0_pay113 (F := Ideal) x0 x1 x2 x3))) (k0_pay61 (k0_pay116 (F := Ideal) x0 x1 x2 x3) (k0_pay28 (k0_pay113 (F := Ideal) x0 x1 x2 x3))) (k0_pay66 (k0_pay116 (F := Ideal) x0 x1 x2 x3) (k0_pay29 (k0_pay113 (F := Ideal) x0 x1 x2 x3))) (k0_pay77 (k0_pay116 (F := Ideal) x0 x1 x2 x3) (k0_pay30 (k0_pay113 (F := Ideal) x0 x1 x2 x3))) (k0_pay88 (k0_pay116 (F := Ideal) x0 x1 x2 x3) (k0_pay31 (k0_pay113 (F := Ideal) x0 x1 x2 x3))) (k0_pay98 (k0_pay116 (F := Ideal) x0 x1 x2 x3) (k0_pay32 (k0_pay113 (F := Ideal) x0 x1 x2 x3)))) (ix2 r (col h l))
      = if 64 ≤ l.val ∧ l.val < 67 then (1 : EReal) else k0_pay6 (F := Ideal) x2 (ix2 r (col h l)) := by
  rw [e113, e116]
  generalize k0_pay6 (F := Ideal) x2 = a
  refine (Cert.Rope.cat_at _ _ _ _ _ _ _ _ r h l).trans ?_
  fin_cases h
  · exact (W_at (extractStridedSlice S1024x128 ![0, 0] a slices_S1024x1024_o0_0_S1024x128) r l).trans (by rw [s0])
  · exact (W_at (extractStridedSlice S1024x128 ![0, 128] a slices_S1024x1024_o0_128_S1024x128) r l).trans (by rw [s1])
  · exact (W_at (extractStridedSlice S1024x128 ![0, 256] a slices_S1024x1024_o0_256_S1024x128) r l).trans (by rw [s2])
  · exact (W_at (extractStridedSlice S1024x128 ![0, 384] a slices_S1024x1024_o0_384_S1024x128) r l).trans (by rw [s3])
  · exact (W_at (extractStridedSlice S1024x128 ![0, 512] a slices_S1024x1024_o0_512_S1024x128) r l).trans (by rw [s4])
  · exact (W_at (extractStridedSlice S1024x128 ![0, 640] a slices_S1024x1024_o0_640_S1024x128) r l).trans (by rw [s5])
  · exact (W_at (extractStridedSlice S1024x128 ![0, 768] a slices_S1024x1024_o0_768_S1024x128) r l).trans (by rw [s6])
  · exact (W_at (extractStridedSlice S1024x128 ![0, 896] a slices_S1024x1024_o0_896_S1024x128) r l).trans (by rw [s7])

theorem V_q (c : Dev nD) (R : Fin 8192) (q : Fin 512) :
    (V m c main_v1 : FVec Ideal S8192x3584 .bf16) (ix2 R ⟨2048 + q.val, by omega⟩) = m ((c : Thread nD τ).loc main_arg2) (ix2 R q) := by
  unfold V
  simp only [hostOps0, hostOps0_1, List.flatten_cons, List.flatten_nil, List.cons_append, List.nil_append, List.append_nil,
    StableHlo.TRef.binary, StableHlo.TRef.unary, StableHlo.TRef.toBuf, StableHlo.TRef.ofBuf, cast_eq]
  after_results_simp
  pointwise
  rw [dif_neg (by omega), dif_neg (by omega), dif_pos (by omega)]
  have e : 2048 + q.val - 1024 - 1024 = q.val := by omega
  simp only [e]

theorem V_k (c : Dev nD) (R : Fin 8192) (q : Fin 512) :
    (V m c main_v1 : FVec Ideal S8192x3584 .bf16) (ix2 R ⟨2560 + q.val, by omega⟩) = m ((c : Thread nD τ).loc main_arg3) (ix2 R q) := by
  unfold V
  simp only [hostOps0, hostOps0_1, List.flatten_cons, List.flatten_nil, List.cons_append, List.nil_append, List.append_nil,
    StableHlo.TRef.binary, StableHlo.TRef.unary, StableHlo.TRef.toBuf, StableHlo.TRef.ofBuf, cast_eq]
  after_results_simp
  pointwise
  rw [dif_neg (by omega), dif_neg (by omega), dif_neg (by omega), dif_pos (by omega)]
  have e : 2560 + q.val - 1024 - 1024 - 512 = q.val := by omega
  simp only [e]

theorem V_v (c : Dev nD) (R : Fin 8192) (q : Fin 512) :
    (V m c main_v1 : FVec Ideal S8192x3584 .bf16) (ix2 R ⟨3072 + q.val, by omega⟩) = m ((c : Thread nD τ).loc main_arg4) (ix2 R q) := by
  unfold V
  simp only [hostOps0, hostOps0_1, List.flatten_cons, List.flatten_nil, List.cons_append, List.nil_append, List.append_nil,
    StableHlo.TRef.binary, StableHlo.TRef.unary, StableHlo.TRef.toBuf, StableHlo.TRef.ofBuf, cast_eq]
  after_results_simp
  pointwise
  rw [dif_neg (by omega), dif_neg (by omega), dif_neg (by omega), dif_neg (by omega)]
  have e : 3072 + q.val - 1024 - 1024 - 512 - 512 = q.val := by omega
  simp only [e]

theorem V_f (c : Dev nD) (R : Fin 8192) (h : Fin 8) :
    (V m c main_v2 : FVec Ideal S8192x128 .f32) (ix2 R ⟨h.val, by omega⟩) = m ((c : Thread nD τ).loc main_arg5) (ix2 R h) := by
  unfold V
  simp only [hostOps0, hostOps0_1, List.flatten_cons, List.flatten_nil, List.cons_append, List.nil_append, List.append_nil,
    StableHlo.TRef.binary, StableHlo.TRef.unary, StableHlo.TRef.toBuf, StableHlo.TRef.ofBuf, cast_eq]
  after_results_simp
  pointwise

theorem final_q (c : Dev nD) (hr : AllReal (S := S8192x8) (m ((c : Thread nD τ).loc main_arg5))) : (dats m 0 c).arrAt 4 (cfgs 0).N = G (qry (m ((c : Thread nD τ).loc main_arg2)) (m ((c : Thread nD τ).loc main_arg5))) := by
  refine (dats m 0 c).arrAt_eq_of_covers 4 _ (by decide +kernel) fun t _ y => ?_
  have ht : t.val < 8 := lt_of_lt_of_eq t.isLt N_0
  blk_simp
  rw [after0_4]
  frame_out
  idx_vars y
  obtain ⟨h, l, rfl⟩ := col_cases y1
  have hx : ∀ q : Fin 512, (iblk m c 0 t : FVec Ideal S1024x512 .bf16) (ix2 y0 q) = m ((c : Thread nD τ).loc main_arg2) (ix2 ⟨t.val * 1024 + y0.val, by omega⟩ q) := by
    intro q; rw [← V_q m c]; blk_point [iblk, idx t]
  have hf : ∀ h : Fin 8, k0_pay2 (F := Ideal) (iblk m c 3 t) (ix2 y0 ⟨h.val, by omega⟩) = m ((c : Thread nD τ).loc main_arg5) (ix2 ⟨t.val * 1024 + y0.val, by omega⟩ h) := by
    intro h
    refine Eq.trans (b := (iblk m c 3 t : FVec Ideal S1024x128 .f32) (ix2 y0 ⟨h.val, by omega⟩)) (by pointwise [k0_pay2]) ?_
    rw [← V_f m c]; blk_point [iblk, idx t]
  refine Eq.trans (b := G (qry (m ((c : Thread nD τ).loc main_arg2)) (m ((c : Thread nD τ).loc main_arg5))) (ix2 ⟨t.val * 1024 + y0.val, by omega⟩ (col h l))) ?_ (congrArg _ ?_)
  · rw [G_at]
    unfold qry wide lev
    refine (out_q (iblk m c 0 t) (iblk m c 1 t) (iblk m c 2 t) (iblk m c 3 t) y0 h l fun h => by rw [hf h]; exact hr.at _).trans ?_
    rw [wide_q, hf h]
    simp only [hx]
    by_cases h1 : l.val = 66
    · simp [h1]
    by_cases h2 : l.val = 65
    · simp [h2]
    simp only [h1, h2, if_false]
  · unfold Cert.Rope.col; blk_ext [idx t]

theorem final_k (c : Dev nD) (hr : AllReal (S := S8192x8) (m ((c : Thread nD τ).loc main_arg5))) : (dats m 0 c).arrAt 5 (cfgs 0).N = G (key (m ((c : Thread nD τ).loc main_arg3)) (m ((c : Thread nD τ).loc main_arg5))) := by
  refine (dats m 0 c).arrAt_eq_of_covers 5 _ (by decide +kernel) fun t _ y => ?_
  have ht : t.val < 8 := lt_of_lt_of_eq t.isLt N_0
  blk_simp
  rw [after0_5]
  frame_out
  idx_vars y
  obtain ⟨h, l, rfl⟩ := col_cases y1
  have hx : ∀ q : Fin 512, (iblk m c 1 t : FVec Ideal S1024x512 .bf16) (ix2 y0 q) = m ((c : Thread nD τ).loc main_arg3) (ix2 ⟨t.val * 1024 + y0.val, by omega⟩ q) := by
    intro q; rw [← V_k m c]; blk_point [iblk, idx t]
  have hf : ∀ h : Fin 8, k0_pay2 (F := Ideal) (iblk m c 3 t) (ix2 y0 ⟨h.val, by omega⟩) = m ((c : Thread nD τ).loc main_arg5) (ix2 ⟨t.val * 1024 + y0.val, by omega⟩ h) := by
    intro h
    refine Eq.trans (b := (iblk m c 3 t : FVec Ideal S1024x128 .f32) (ix2 y0 ⟨h.val, by omega⟩)) (by pointwise [k0_pay2]) ?_
    rw [← V_f m c]; blk_point [iblk, idx t]
  refine Eq.trans (b := G (key (m ((c : Thread nD τ).loc main_arg3)) (m ((c : Thread nD τ).loc main_arg5))) (ix2 ⟨t.val * 1024 + y0.val, by omega⟩ (col h l))) ?_ (congrArg _ ?_)
  · rw [G_at]
    unfold key wide lev
    refine (out_k (iblk m c 0 t) (iblk m c 1 t) (iblk m c 2 t) (iblk m c 3 t) y0 h l fun h => by rw [hf h]; exact hr.at _).trans ?_
    rw [wide_k, hf h]
    simp only [hx]
    by_cases h1 : l.val = 72
    · simp [h1]
    by_cases h2 : l.val = 71
    · simp [h2]
    simp only [h1, h2, if_false]
  · unfold Cert.Rope.col; blk_ext [idx t]

theorem final_v (c : Dev nD) : (dats m 0 c).arrAt 6 (cfgs 0).N = G (val (m ((c : Thread nD τ).loc main_arg4))) := by
  refine (dats m 0 c).arrAt_eq_of_covers 6 _ (by decide +kernel) fun t _ y => ?_
  have ht : t.val < 8 := lt_of_lt_of_eq t.isLt N_0
  blk_simp
  rw [after0_6]
  frame_out
  idx_vars y
  obtain ⟨h, l, rfl⟩ := col_cases y1
  have hx : ∀ q : Fin 512, (iblk m c 2 t : FVec Ideal S1024x512 .bf16) (ix2 y0 q) = m ((c : Thread nD τ).loc main_arg4) (ix2 ⟨t.val * 1024 + y0.val, by omega⟩ q) := by
    intro q; rw [← V_v m c]; blk_point [iblk, idx t]
  refine Eq.trans (b := G (val (m ((c : Thread nD τ).loc main_arg4))) (ix2 ⟨t.val * 1024 + y0.val, by omega⟩ (col h l))) ?_ (congrArg _ ?_)
  · rw [G_at]
    unfold val wide
    refine (out_v (iblk m c 0 t) (iblk m c 1 t) (iblk m c 2 t) (iblk m c 3 t) y0 h l).trans ?_
    rw [wide_v]
    simp only [hx]
  · unfold Cert.Rope.col; blk_ext [idx t]

end Kernel

section Claim

variable (X0 X1 : FVec Ideal ⟨2, ![8192, 1024]⟩ .f32) (X2 X3 X4 : FVec Ideal ⟨2, ![8192, 512]⟩ .f32) (X5 : FVec Ideal ⟨2, ![8192, 8]⟩ .f32)

/-- The precondition says that the forget sums are reals. -/
theorem real_of_pre (h : Cert.Pre_finite_f.fn (F := Ideal) X0 X1 X2 X3 X4 X5 = fun _ => 1#1) : AllReal X5 := by
  have e := congrFun h (Shape.Idx.first (by decide))
  unfold Cert.Pre_finite_f.fn at e
  haveI : Subsingleton (Cert.Pre_finite_f.S_).Idx := ⟨fun a b => funext fun k => k.elim0⟩
  exact Cert.Own.allReal_of _ _ (fun _ => rfl) _ _ _ _ e

end Claim

set_option maxHeartbeats 1000000 in
theorem algebraic : Cert.algebraic_Kernel22Ideal_Reference22Ideal_pre_finite_f := by
  pair_intro
  · run_from Cert.Kernel22Ideal.Gen.run_main m g
    · exact Cert.Kernel22Ideal.Gen.V_main_arg0 m c
    · exact Cert.Kernel22Ideal.Gen.V_main_arg1 m c
    · exact Cert.Kernel22Ideal.Gen.V_main_arg2 m c
    · exact Cert.Kernel22Ideal.Gen.V_main_arg3 m c
    · exact Cert.Kernel22Ideal.Gen.V_main_arg4 m c
    · exact Cert.Kernel22Ideal.Gen.V_main_arg5 m c
  · run_from Cert.Reference22Ideal.Value.run m' g'
    · rw [final_q m c (real_of_pre _ _ _ _ _ _ (hpre c)), ← (hagree c).2.2.1, ← (hagree c).2.2.2.2.2]
      funext j
      idx_vars j
      obtain ⟨h, l, rfl⟩ := col_cases j1
      rw [G_at]
      unfold qry wide lev Cert.Rope.col
      pointwise
      by_cases h1 : l.val < 64
      · have a1 : ¬ l.val = 64 := by omega
        have a2 : ¬ (70 ≤ l.val ∧ l.val < 73) := by omega
        simp only [h1, a1, a2, dite_true, if_false]
      by_cases h2 : l.val = 64
      · have a1 : l.val - 64 < 1 := by omega
        simp only [h1, h2, a1, dite_true, dite_false, if_true]
        rfl
      have a1 : ¬ l.val - 64 < 1 := by omega
      by_cases h3 : l.val < 70
      · have a2 : l.val - 64 - 1 < 5 := by omega
        have a3 : ¬ (70 ≤ l.val ∧ l.val < 73) := by omega
        simp only [h1, h2, a1, a2, a3, dite_true, dite_false, if_false]
      have a2 : ¬ l.val - 64 - 1 < 5 := by omega
      by_cases h4 : l.val < 73
      · have a3 : l.val - 64 - 1 - 5 < 3 := by omega
        have a4 : 70 ≤ l.val ∧ l.val < 73 := by omega
        simp only [h1, h2, a1, a2, a3, a4, and_self, dite_true, dite_false, if_true, if_false]
      · have a3 : ¬ l.val - 64 - 1 - 5 < 3 := by omega
        have a4 : ¬ (70 ≤ l.val ∧ l.val < 73) := by omega
        simp only [h1, h2, a1, a2, a3, a4, dite_false, if_false]
    · rw [final_k m c (real_of_pre _ _ _ _ _ _ (hpre c)), ← (hagree c).2.2.2.1, ← (hagree c).2.2.2.2.2]
      funext j
      idx_vars j
      obtain ⟨h, l, rfl⟩ := col_cases j1
      rw [G_at]
      unfold key wide lev Cert.Rope.col
      pointwise
      by_cases h1 : l.val < 64
      · have a1 : ¬ l.val = 70 := by omega
        have a2 : ¬ (64 ≤ l.val ∧ l.val < 70) := by omega
        simp only [h1, a1, a2, dite_true, if_false]
      by_cases h2 : l.val < 70
      · have a1 : l.val - 64 < 6 := by omega
        have a2 : 64 ≤ l.val ∧ l.val < 70 := by omega
        have a3 : ¬ l.val = 70 := by omega
        simp only [h1, a1, a2, a3, and_self, dite_true, dite_false, if_true, if_false]
      have a1 : ¬ l.val - 64 < 6 := by omega
      by_cases h3 : l.val = 70
      · have a2 : l.val - 64 - 6 < 1 := by omega
        simp only [h1, h3, a1, a2, dite_true, dite_false, if_true]
        rfl
      · have a2 : ¬ l.val - 64 - 6 < 1 := by omega
        have a3 : ¬ (64 ≤ l.val ∧ l.val < 70) := by omega
        simp only [h1, h3, a1, a2, a3, dite_false, if_false]
    · rw [final_v m c, ← (hagree c).2.2.2.2.1]
      funext j
      idx_vars j
      obtain ⟨h, l, rfl⟩ := col_cases j1
      rw [G_at]
      unfold val wide Cert.Rope.col
      pointwise
      by_cases h1 : l.val < 64
      · have a1 : ¬ (64 ≤ l.val ∧ l.val < 67) := by omega
        simp only [h1, a1, dite_true, if_false]
      by_cases h2 : l.val < 67
      · have a1 : l.val - 64 < 3 := by omega
        have a2 : 64 ≤ l.val ∧ l.val < 67 := by omega
        simp only [h1, a1, a2, and_self, dite_true, dite_false, if_true]
      · have a1 : ¬ l.val - 64 < 3 := by omega
        have a2 : ¬ (64 ≤ l.val ∧ l.val < 67) := by omega
        simp only [h1, a1, a2, dite_false, if_false]

theorem frame_reference : Cert.quiescent_Reference22Ideal := by
  intro m ρ _
  run_from Cert.Reference22Ideal.Value.run m ρ
  · intro c; exact ⟨trivial, trivial, trivial, trivial, trivial, trivial⟩
  · exact sem_eq_zero_of_no_sems rfl _

theorem frame_reference_pre : Cert.quiescent_Reference22Ideal_pre_finite_f := fun m ρ _ => frame_reference m ρ trivial

end Cert.LanesFwd

end
-- ==== Proof.lean ====
module

public import proofs.«01_k».proof.Proof.Gen.Kernel14
public import proofs.«01_k».proof.Proof.Gen.Kernel14.Skeleton
public import proofs.«01_k».proof.Proof.Gen.Kernel14.Loops
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Loops
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Reference14Ideal.Run
public import proofs.«01_k».proof.Proof.Gen.Pre_finite_qkv
public import proofs.«01_k».proof.Proof.Gen.On_output_lanes
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Reference12Ideal.Run
public import proofs.«01_k».proof.Proof.Gen.Pre_finite_loss
public import proofs.«01_k».proof.Proof.Gen.Pre_finite_f
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Pre_finite_mnb
public import proofs.«01_k».proof.Proof.Gen.Pre_finite_rmb
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Pre_finite_o
public import proofs.«01_k».proof.Proof.Gen.Pre_finite_nib
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.On_shared_lanes
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3.Skeleton
public import proofs.«01_k».proof.Proof.Gen.Kernel3.Loops
public import proofs.«01_k».proof.Proof.Gen.Kernel3.Launch
public import proofs.«01_k».proof.Proof.Gen.Kernel3.Points
public import proofs.«01_k».proof.Proof.Gen.Kernel3.Frame
public import proofs.«01_k».proof.Proof.Gen.Reference3Ideal
public import proofs.«01_k».proof.Proof.Gen.Kernel3Ideal.Loops
public import proofs.«01_k».proof.Proof.Gen.Kernel3Ideal
public import proofs.«01_k».proof.Proof.Gen.Kernel3
public import proofs.«01_k».proof.Proof.Gen.Pre_finite_mla
public import proofs.«01_k».proof.Proof.Gen.On_feature_lanes
public import proofs.«01_k».proof.Proof.Gen.Reference3Ideal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.FcbValue
public import proofs.«01_k».proof.Proof.FcbRef
public import proofs.«01_k».proof.Proof.Gen.Kernel2
public import proofs.«01_k».proof.Proof.Gen.Kernel2.Skeleton
public import proofs.«01_k».proof.Proof.Gen.Kernel2.Loops
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Loops
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.FoxClaim
public import proofs.«01_k».proof.Proof.MlaClaim
public import proofs.«01_k».proof.Proof.Ff2Claim
public import proofs.«01_k».proof.Proof.GateClaim
public import proofs.«01_k».proof.Proof.RopeBack
public import proofs.«01_k».proof.Proof.Compact
public import proofs.«01_k».proof.Proof.SharedBack
public import proofs.«01_k».proof.Proof.Delta
public import proofs.«01_k».proof.Proof.NormIn
public import proofs.«01_k».proof.Proof.NormLow
public import proofs.«01_k».proof.Proof.NormMix
public import proofs.«01_k».proof.Proof.NormLoss
public import proofs.«01_k».proof.Proof.FwdClaim
public import proofs.«01_k».proof.Proof.NormFwd
public import proofs.«01_k».proof.Proof.LowFwd
public import proofs.«01_k».proof.Proof.Ff1Claim
public import proofs.«01_k».proof.Proof.ProjOut
public import proofs.«01_k».proof.Proof.RopeFwd
public import proofs.«01_k».proof.Proof.GateFwd
public import proofs.«01_k».proof.Proof.SharedFwd
public import proofs.«01_k».proof.Proof.LanesFwd
public import proofs.«01_k».proof.Proof.Gen.Pre_finite
public import proofs.«01_k».proof.Proof.Gen.On_gradient_lanes
public import Idealize.ShloMosaic.Adequacy
public import Idealize.ShloMosaic.Init

@[expose] public section

noncomputable section

namespace Cert.Proof

open Idealize.ShloMosaic Idealize.SL.Sem

theorem algebraic : Cert.algebraic_KernelIdeal_ReferenceIdeal := by
  pair_intro
  · run_from Cert.KernelIdeal.Gen.run_main m g
    · exact Cert.KernelIdeal.Gen.V_main_arg0 m c
    · exact Cert.KernelIdeal.Gen.V_main_arg1 m c
    · exact Cert.KernelIdeal.Gen.V_main_arg2 m c
    · exact Cert.KernelIdeal.Gen.V_main_arg3 m c
    · exact Cert.KernelIdeal.Gen.V_main_arg4 m c
  · run_from Cert.ReferenceIdeal.Value.run m' g'
    exact (Cert.ReferenceIdeal.Fcb.ref_eq _ _).trans (Cert.KernelIdeal.Fcb.final m c).symm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Pre_finite.Gen.facts, Cert.Pre_finite_mla.Gen.facts, Cert.Pre_finite_o.Gen.facts, Cert.Pre_finite_nib.Gen.facts, Cert.Pre_finite_mnb.Gen.facts, Cert.Pre_finite_loss.Gen.facts, Cert.Pre_finite_rmb.Gen.facts, Cert.Pre_finite_qkv.Gen.facts, Cert.Pre_finite_f.Gen.facts,
  Cert.On_gradient_lanes.Gen.facts, Cert.On_feature_lanes.Gen.facts, Cert.On_shared_lanes.Gen.facts, Cert.On_output_lanes.Gen.facts, by
  refine ⟨?_, ?_, ?_, Cert.Fox.frame_kernel, Cert.Fox.frame_ideal, Cert.Fox.frame_ideal_pre, Cert.Fox.frame_reference, Cert.Fox.frame_reference_pre,
    Cert.Mla.frame_kernel, Cert.Mla.frame_ideal, Cert.Mla.frame_ideal_pre, Cert.Mla.frame_reference, Cert.Mla.frame_reference_pre,
    fun m ρ _ => Cert.Kernel4.Gen.frame m ρ, fun m ρ _ => Cert.Kernel4Ideal.Gen.frame m ρ, Cert.Ff2.frame_reference,
    fun m ρ _ => Cert.Kernel5.Gen.frame m ρ, fun m ρ _ => Cert.Kernel5Ideal.Gen.frame m ρ, Cert.Gate.frame_reference,
    fun m ρ _ => Cert.Kernel6.Gen.frame m ρ, fun m ρ _ => Cert.Kernel6Ideal.Gen.frame m ρ, Cert.Rope.frame_reference,
    fun m ρ _ => Cert.Kernel7.Gen.frame m ρ, fun m ρ _ => Cert.Kernel7Ideal.Gen.frame m ρ, Cert.Compact.frame_reference,
    fun m ρ _ => Cert.Kernel8.Gen.frame m ρ, fun m ρ _ => Cert.Kernel8Ideal.Gen.frame m ρ, Cert.Shared.frame_reference,
    fun m ρ _ => Cert.Kernel9.Gen.frame m ρ, fun m ρ _ => Cert.Kernel9Ideal.Gen.frame m ρ, fun m ρ _ => Cert.Kernel9Ideal.Gen.frame m ρ, Cert.Delta.frame_reference, Cert.Delta.frame_reference_pre,
    fun m ρ _ => Cert.Kernel10.Gen.frame m ρ, fun m ρ _ => Cert.Kernel10Ideal.Gen.frame m ρ, fun m ρ _ => Cert.Kernel10Ideal.Gen.frame m ρ, Cert.NormIn.frame_reference, Cert.NormIn.frame_reference_pre,
    fun m ρ _ => Cert.Kernel11.Gen.frame m ρ, fun m ρ _ => Cert.Kernel11Ideal.Gen.frame m ρ, fun m ρ _ => Cert.Kernel11Ideal.Gen.frame m ρ, Cert.NormLow.frame_reference, Cert.NormLow.frame_reference_pre,
    fun m ρ _ => Cert.Kernel12.Gen.frame m ρ, fun m ρ _ => Cert.Kernel12Ideal.Gen.frame m ρ, fun m ρ _ => Cert.Kernel12Ideal.Gen.frame m ρ, Cert.NormLoss.frame_reference, Cert.NormLoss.frame_reference_pre,
    fun m ρ _ => Cert.Kernel13.Gen.frame m ρ, fun m ρ _ => Cert.Kernel13Ideal.Gen.frame m ρ, fun m ρ _ => Cert.Kernel13Ideal.Gen.frame m ρ, Cert.NormMix.frame_reference, Cert.NormMix.frame_reference_pre,
    fun m ρ _ => Cert.Kernel14.Gen.frame m ρ, fun m ρ _ => Cert.Kernel14Ideal.Gen.frame m ρ, fun m ρ _ => Cert.Kernel14Ideal.Gen.frame m ρ, Cert.Fwd.frame_reference, Cert.Fwd.frame_reference_pre,
    fun m ρ _ => Cert.Kernel15.Gen.frame m ρ, fun m ρ _ => Cert.Kernel15Ideal.Gen.frame m ρ, Cert.NormFwd.frame_reference,
    fun m ρ _ => Cert.Kernel16.Gen.frame m ρ, fun m ρ _ => Cert.Kernel16Ideal.Gen.frame m ρ, Cert.LowFwd.frame_reference,
    fun m ρ _ => Cert.Kernel17.Gen.frame m ρ, fun m ρ _ => Cert.Kernel17Ideal.Gen.frame m ρ, Cert.Ff1.frame_reference,
    fun m ρ _ => Cert.Kernel18.Gen.frame m ρ, fun m ρ _ => Cert.Kernel18Ideal.Gen.frame m ρ, Cert.ProjOut.frame_reference,
    fun m ρ _ => Cert.Kernel19.Gen.frame m ρ, fun m ρ _ => Cert.Kernel19Ideal.Gen.frame m ρ, Cert.RopeFwd.frame_reference,
    fun m ρ _ => Cert.Kernel20.Gen.frame m ρ, fun m ρ _ => Cert.Kernel20Ideal.Gen.frame m ρ, Cert.GateFwd.frame_reference,
    fun m ρ _ => Cert.Kernel21.Gen.frame m ρ, fun m ρ _ => Cert.Kernel21Ideal.Gen.frame m ρ, Cert.SharedFwd.frame_reference,
    fun m ρ _ => Cert.Kernel22.Gen.frame m ρ, fun m ρ _ => Cert.Kernel22Ideal.Gen.frame m ρ, fun m ρ _ => Cert.Kernel22Ideal.Gen.frame m ρ, Cert.LanesFwd.frame_reference, Cert.LanesFwd.frame_reference_pre,
    trivial, algebraic, Cert.Fox.preserves, Cert.Fox.algebraic, Cert.Mla.preserves, Cert.Mla.algebraic,
    trivial, Cert.Ff2.algebraic, trivial, Cert.Gate.algebraic, trivial, Cert.Rope.algebraic, trivial, Cert.Compact.algebraic, trivial, Cert.Shared.algebraic,
    trivial, Cert.Delta.algebraic, trivial, Cert.NormIn.algebraic, trivial, Cert.NormLow.algebraic, trivial, Cert.NormLoss.algebraic, trivial, Cert.NormMix.algebraic, Cert.Fwd.preserves, Cert.Fwd.algebraic,
    trivial, Cert.NormFwd.algebraic,
    trivial, Cert.LowFwd.algebraic,
    trivial, Cert.Ff1.algebraic,
    trivial, Cert.ProjOut.algebraic,
    trivial, Cert.RopeFwd.algebraic,
    trivial, Cert.GateFwd.algebraic,
    trivial, Cert.SharedFwd.algebraic,
    trivial, Cert.LanesFwd.algebraic⟩
  · exact fun m ρ _ => Cert.Kernel.Gen.frame m ρ
  · exact fun m ρ _ => Cert.KernelIdeal.Gen.frame m ρ
  · intro m ρ _
    run_from Cert.ReferenceIdeal.Value.run m ρ
    · intro c
      exact ⟨trivial, trivial, trivial, trivial, trivial⟩
    · exact sem_eq_zero_of_no_sems rfl _⟩

end Cert.Proof

end
